-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_finite [hPre_dact_finite : Cert.Pre_dact_finite.Facts] (m : (ℓ : Loc Cert.DactIdeal.nD Cert.DactIdeal.τ Cert.DactIdeal.sig) → Buf (Elt Ideal) ℓ) : Prop :=
  ∀ c : Dev Cert.DactIdeal.nD,
    (Cert.Pre_dact_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3)) (m ((c.tc : Thread Cert.DactIdeal.nD Cert.DactIdeal.τ).loc Cert.DactIdeal.main_arg4)) (m ((c.tc : Thread Cert.DactIdeal.nD Cert.DactIdeal.τ).loc Cert.DactIdeal.main_arg5))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_finite [hPre_dact_finite : Cert.Pre_dact_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3)) (m ((c.tc : Thread Cert.DactRefIdeal.nD Cert.DactRefIdeal.τ).loc Cert.DactRefIdeal.main_arg4)) (m ((c.tc : Thread Cert.DactRefIdeal.nD Cert.DactRefIdeal.τ).loc Cert.DactRefIdeal.main_arg5))) = (fun _ => 1#1)

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_attend_finite [hPre_attend_finite : Cert.Pre_attend_finite.Facts] (m : (ℓ : Loc Cert.AttendIdeal.nD Cert.AttendIdeal.τ Cert.AttendIdeal.sig) → Buf (Elt Ideal) ℓ) : Prop :=
  ∀ c : Dev Cert.AttendIdeal.nD,
    (Cert.Pre_attend_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_attend_finite [hPre_attend_finite : Cert.Pre_attend_finite.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_attend_finite.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_ONorm (m : (ℓ : Loc Cert.ONorm.nD Cert.ONorm.τ Cert.ONorm.sig) → Buf (Elt Bits) ℓ) : Prop :=
  True

def Pre_ONormIdeal (m : (ℓ : Loc Cert.ONormIdeal.nD Cert.ONormIdeal.τ Cert.ONormIdeal.sig) → Buf (Elt Ideal) ℓ) : Prop :=
  True

def Pre_ONormRefIdeal (m : (ℓ : Loc Cert.ONormRefIdeal.nD Cert.ONormRefIdeal.τ Cert.ONormRefIdeal.sig) → Buf (Elt Ideal) ℓ) : Prop :=
  True

def Pre_HNorm (m : (ℓ : Loc Cert.HNorm.nD Cert.HNorm.τ Cert.HNorm.sig) → Buf (Elt Bits) ℓ) : Prop :=
  True

def Pre_HNormIdeal (m : (ℓ : Loc Cert.HNormIdeal.nD Cert.HNormIdeal.τ Cert.HNormIdeal.sig) → Buf (Elt Ideal) ℓ) : Prop :=
  True

def Pre_HNormRefIdeal (m : (ℓ : Loc Cert.HNormRefIdeal.nD Cert.HNormRefIdeal.τ Cert.HNormRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesRefIdeal (m : (ℓ : Loc Cert.TablesRefIdeal.nD Cert.TablesRefIdeal.τ Cert.TablesRefIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_QGrad (m : (ℓ : Loc Cert.QGrad.nD Cert.QGrad.τ Cert.QGrad.sig) → Buf (Elt Bits) ℓ) : Prop :=
  True

def Pre_QGradIdeal (m : (ℓ : Loc Cert.QGradIdeal.nD Cert.QGradIdeal.τ Cert.QGradIdeal.sig) → Buf (Elt Ideal) ℓ) : Prop :=
  True

def Pre_QGradRefIdeal (m : (ℓ : Loc Cert.QGradRefIdeal.nD Cert.QGradRefIdeal.τ Cert.QGradRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3)
      ∧ r.2.mem ((c.tc : Thread Cert.Dact.nD Cert.Dact.τ).loc Cert.Dact.main_arg4) = m ((c.tc : Thread Cert.Dact.nD Cert.Dact.τ).loc Cert.Dact.main_arg4)
      ∧ r.2.mem ((c.tc : Thread Cert.Dact.nD Cert.Dact.τ).loc Cert.Dact.main_arg5) = m ((c.tc : Thread Cert.Dact.nD Cert.Dact.τ).loc Cert.Dact.main_arg5))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
      ∧ r.2.mem ((c.tc : Thread Cert.DactIdeal.nD Cert.DactIdeal.τ).loc Cert.DactIdeal.main_arg5) = m ((c.tc : Thread Cert.DactIdeal.nD Cert.DactIdeal.τ).loc Cert.DactIdeal.main_arg5))
      ∧ r.2.sem = fun _ => 0)

def quiescent_DactIdeal_pre_dact_finite [hDactIdeal : Cert.DactIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
      ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
      ∧ r.2.mem ((c.tc : Thread Cert.DactIdeal.nD Cert.DactIdeal.τ).loc Cert.DactIdeal.main_arg5) = m ((c.tc : Thread Cert.DactIdeal.nD Cert.DactIdeal.τ).loc Cert.DactIdeal.main_arg5))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3)
      ∧ r.2.mem ((c.tc : Thread Cert.DactRefIdeal.nD Cert.DactRefIdeal.τ).loc Cert.DactRefIdeal.main_arg4) = m ((c.tc : Thread Cert.DactRefIdeal.nD Cert.DactRefIdeal.τ).loc Cert.DactRefIdeal.main_arg4)
      ∧ r.2.mem ((c.tc : Thread Cert.DactRefIdeal.nD Cert.DactRefIdeal.τ).loc Cert.DactRefIdeal.main_arg5) = m ((c.tc : Thread Cert.DactRefIdeal.nD Cert.DactRefIdeal.τ).loc Cert.DactRefIdeal.main_arg5))
      ∧ r.2.sem = fun _ => 0)

def quiescent_DactRefIdeal_pre_dact_finite [hDactRefIdeal : Cert.DactRefIdeal.Facts] [hPre_dact_finite : Cert.Pre_dact_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3)
      ∧ r.2.mem ((c.tc : Thread Cert.DactRefIdeal.nD Cert.DactRefIdeal.τ).loc Cert.DactRefIdeal.main_arg4) = m ((c.tc : Thread Cert.DactRefIdeal.nD Cert.DactRefIdeal.τ).loc Cert.DactRefIdeal.main_arg4)
      ∧ r.2.mem ((c.tc : Thread Cert.DactRefIdeal.nD Cert.DactRefIdeal.τ).loc Cert.DactRefIdeal.main_arg5) = m ((c.tc : Thread Cert.DactRefIdeal.nD Cert.DactRefIdeal.τ).loc Cert.DactRefIdeal.main_arg5))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2)
      ∧ r.2.mem ((c.tc : Thread Cert.Dup.nD Cert.Dup.τ).loc Cert.Dup.main_arg3) = m ((c.tc : Thread Cert.Dup.nD Cert.Dup.τ).loc Cert.Dup.main_arg3)
      ∧ r.2.mem ((c.tc : Thread Cert.Dup.nD Cert.Dup.τ).loc Cert.Dup.main_arg4) = m ((c.tc : Thread Cert.Dup.nD Cert.Dup.τ).loc Cert.Dup.main_arg4))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
      ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
      ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2)
      ∧ r.2.mem ((c.tc : Thread Cert.DupRefIdeal.nD Cert.DupRefIdeal.τ).loc Cert.DupRefIdeal.main_arg3) = m ((c.tc : Thread Cert.DupRefIdeal.nD Cert.DupRefIdeal.τ).loc Cert.DupRefIdeal.main_arg3)
      ∧ r.2.mem ((c.tc : Thread Cert.DupRefIdeal.nD Cert.DupRefIdeal.τ).loc Cert.DupRefIdeal.main_arg4) = m ((c.tc : Thread Cert.DupRefIdeal.nD Cert.DupRefIdeal.τ).loc Cert.DupRefIdeal.main_arg4))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1)
      ∧ r.2.mem ((c.tc : Thread Cert.Dout.nD Cert.Dout.τ).loc Cert.Dout.main_arg2) = m ((c.tc : Thread Cert.Dout.nD Cert.Dout.τ).loc Cert.Dout.main_arg2)
      ∧ r.2.mem ((c.tc : Thread Cert.Dout.nD Cert.Dout.τ).loc Cert.Dout.main_arg3) = m ((c.tc : Thread Cert.Dout.nD Cert.Dout.τ).loc Cert.Dout.main_arg3)
      ∧ r.2.mem ((c.tc : Thread Cert.Dout.nD Cert.Dout.τ).loc Cert.Dout.main_arg4) = m ((c.tc : Thread Cert.Dout.nD Cert.Dout.τ).loc Cert.Dout.main_arg4)
      ∧ r.2.mem ((c.tc : Thread Cert.Dout.nD Cert.Dout.τ).loc Cert.Dout.main_arg5) = m ((c.tc : Thread Cert.Dout.nD Cert.Dout.τ).loc Cert.Dout.main_arg5)
      ∧ r.2.mem ((c.tc : Thread Cert.Dout.nD Cert.Dout.τ).loc Cert.Dout.main_arg6) = m ((c.tc : Thread Cert.Dout.nD Cert.Dout.τ).loc Cert.Dout.main_arg6))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1)
      ∧ r.2.mem ((c.tc : Thread Cert.DoutIdeal.nD Cert.DoutIdeal.τ).loc Cert.DoutIdeal.main_arg2) = m ((c.tc : Thread Cert.DoutIdeal.nD Cert.DoutIdeal.τ).loc Cert.DoutIdeal.main_arg2)
      ∧ r.2.mem ((c.tc : Thread Cert.DoutIdeal.nD Cert.DoutIdeal.τ).loc Cert.DoutIdeal.main_arg3) = m ((c.tc : Thread Cert.DoutIdeal.nD Cert.DoutIdeal.τ).loc Cert.DoutIdeal.main_arg3)
      ∧ r.2.mem ((c.tc : Thread Cert.DoutIdeal.nD Cert.DoutIdeal.τ).loc Cert.DoutIdeal.main_arg4) = m ((c.tc : Thread Cert.DoutIdeal.nD Cert.DoutIdeal.τ).loc Cert.DoutIdeal.main_arg4)
      ∧ r.2.mem ((c.tc : Thread Cert.DoutIdeal.nD Cert.DoutIdeal.τ).loc Cert.DoutIdeal.main_arg5) = m ((c.tc : Thread Cert.DoutIdeal.nD Cert.DoutIdeal.τ).loc Cert.DoutIdeal.main_arg5)
      ∧ r.2.mem ((c.tc : Thread Cert.DoutIdeal.nD Cert.DoutIdeal.τ).loc Cert.DoutIdeal.main_arg6) = m ((c.tc : Thread Cert.DoutIdeal.nD Cert.DoutIdeal.τ).loc Cert.DoutIdeal.main_arg6))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1)
      ∧ r.2.mem ((c.tc : Thread Cert.DoutRefIdeal.nD Cert.DoutRefIdeal.τ).loc Cert.DoutRefIdeal.main_arg2) = m ((c.tc : Thread Cert.DoutRefIdeal.nD Cert.DoutRefIdeal.τ).loc Cert.DoutRefIdeal.main_arg2)
      ∧ r.2.mem ((c.tc : Thread Cert.DoutRefIdeal.nD Cert.DoutRefIdeal.τ).loc Cert.DoutRefIdeal.main_arg3) = m ((c.tc : Thread Cert.DoutRefIdeal.nD Cert.DoutRefIdeal.τ).loc Cert.DoutRefIdeal.main_arg3)
      ∧ r.2.mem ((c.tc : Thread Cert.DoutRefIdeal.nD Cert.DoutRefIdeal.τ).loc Cert.DoutRefIdeal.main_arg4) = m ((c.tc : Thread Cert.DoutRefIdeal.nD Cert.DoutRefIdeal.τ).loc Cert.DoutRefIdeal.main_arg4)
      ∧ r.2.mem ((c.tc : Thread Cert.DoutRefIdeal.nD Cert.DoutRefIdeal.τ).loc Cert.DoutRefIdeal.main_arg5) = m ((c.tc : Thread Cert.DoutRefIdeal.nD Cert.DoutRefIdeal.τ).loc Cert.DoutRefIdeal.main_arg5)
      ∧ r.2.mem ((c.tc : Thread Cert.DoutRefIdeal.nD Cert.DoutRefIdeal.τ).loc Cert.DoutRefIdeal.main_arg6) = m ((c.tc : Thread Cert.DoutRefIdeal.nD Cert.DoutRefIdeal.τ).loc Cert.DoutRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_attend_finite [hAttendIdeal : Cert.AttendIdeal.Facts] [hPre_attend_finite : Cert.Pre_attend_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_attend_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_AttendRefIdeal_pre_attend_finite [hAttendRefIdeal : Cert.AttendRefIdeal.Facts] [hPre_attend_finite : Cert.Pre_attend_finite.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_attend_finite m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2)
      ∧ r.2.mem ((c.tc : Thread Cert.UpAct.nD Cert.UpAct.τ).loc Cert.UpAct.main_arg3) = m ((c.tc : Thread Cert.UpAct.nD Cert.UpAct.τ).loc Cert.UpAct.main_arg3))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
      ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2)
      ∧ r.2.mem ((c.tc : Thread Cert.UpActRefIdeal.nD Cert.UpActRefIdeal.τ).loc Cert.UpActRefIdeal.main_arg3) = m ((c.tc : Thread Cert.UpActRefIdeal.nD Cert.UpActRefIdeal.τ).loc Cert.UpActRefIdeal.main_arg3))
      ∧ r.2.sem = fun _ => 0)

def quiescent_ONorm [hONorm : Cert.ONorm.Facts] : Prop :=
  ∀ (m : (ℓ : Loc Cert.ONorm.nD Cert.ONorm.τ Cert.ONorm.sig) → Buf (Elt Bits) ℓ) (g : Dev Cert.ONorm.nD → PrngReg), Pre_ONorm m →
    θ_run (Cert.ONorm.defs (F := Bits)) (onTc (τ := Cert.ONorm.τ) (Cert.ONorm.main (F := Bits))) ⟨m, fun _ => 0, g⟩ (fun r => (∀ c : Dev Cert.ONorm.nD,
      r.2.mem ((c.tc : Thread Cert.ONorm.nD Cert.ONorm.τ).loc Cert.ONorm.main_arg0) = m ((c.tc : Thread Cert.ONorm.nD Cert.ONorm.τ).loc Cert.ONorm.main_arg0)
      ∧ r.2.mem ((c.tc : Thread Cert.ONorm.nD Cert.ONorm.τ).loc Cert.ONorm.main_arg1) = m ((c.tc : Thread Cert.ONorm.nD Cert.ONorm.τ).loc Cert.ONorm.main_arg1)
      ∧ r.2.mem ((c.tc : Thread Cert.ONorm.nD Cert.ONorm.τ).loc Cert.ONorm.main_arg2) = m ((c.tc : Thread Cert.ONorm.nD Cert.ONorm.τ).loc Cert.ONorm.main_arg2)
      ∧ r.2.mem ((c.tc : Thread Cert.ONorm.nD Cert.ONorm.τ).loc Cert.ONorm.main_arg3) = m ((c.tc : Thread Cert.ONorm.nD Cert.ONorm.τ).loc Cert.ONorm.main_arg3))
      ∧ r.2.sem = fun _ => 0)

def quiescent_ONormIdeal [hONormIdeal : Cert.ONormIdeal.Facts] : Prop :=
  ∀ (m : (ℓ : Loc Cert.ONormIdeal.nD Cert.ONormIdeal.τ Cert.ONormIdeal.sig) → Buf (Elt Ideal) ℓ) (g : Dev Cert.ONormIdeal.nD → PrngReg), Pre_ONormIdeal m →
    θ_run (Cert.ONormIdeal.defs (F := Ideal)) (onTc (τ := Cert.ONormIdeal.τ) (Cert.ONormIdeal.main (F := Ideal))) ⟨m, fun _ => 0, g⟩ (fun r => (∀ c : Dev Cert.ONormIdeal.nD,
      r.2.mem ((c.tc : Thread Cert.ONormIdeal.nD Cert.ONormIdeal.τ).loc Cert.ONormIdeal.main_arg0) = m ((c.tc : Thread Cert.ONormIdeal.nD Cert.ONormIdeal.τ).loc Cert.ONormIdeal.main_arg0)
      ∧ r.2.mem ((c.tc : Thread Cert.ONormIdeal.nD Cert.ONormIdeal.τ).loc Cert.ONormIdeal.main_arg1) = m ((c.tc : Thread Cert.ONormIdeal.nD Cert.ONormIdeal.τ).loc Cert.ONormIdeal.main_arg1)
      ∧ r.2.mem ((c.tc : Thread Cert.ONormIdeal.nD Cert.ONormIdeal.τ).loc Cert.ONormIdeal.main_arg2) = m ((c.tc : Thread Cert.ONormIdeal.nD Cert.ONormIdeal.τ).loc Cert.ONormIdeal.main_arg2)
      ∧ r.2.mem ((c.tc : Thread Cert.ONormIdeal.nD Cert.ONormIdeal.τ).loc Cert.ONormIdeal.main_arg3) = m ((c.tc : Thread Cert.ONormIdeal.nD Cert.ONormIdeal.τ).loc Cert.ONormIdeal.main_arg3))
      ∧ r.2.sem = fun _ => 0)

def quiescent_ONormRefIdeal [hONormRefIdeal : Cert.ONormRefIdeal.Facts] : Prop :=
  ∀ (m : (ℓ : Loc Cert.ONormRefIdeal.nD Cert.ONormRefIdeal.τ Cert.ONormRefIdeal.sig) → Buf (Elt Ideal) ℓ) (g : Dev Cert.ONormRefIdeal.nD → PrngReg), Pre_ONormRefIdeal m →
    θ_run (Cert.ONormRefIdeal.defs (F := Ideal)) (onTc (τ := Cert.ONormRefIdeal.τ) (Cert.ONormRefIdeal.main (F := Ideal))) ⟨m, fun _ => 0, g⟩ (fun r => (∀ c : Dev Cert.ONormRefIdeal.nD,
      r.2.mem ((c.tc : Thread Cert.ONormRefIdeal.nD Cert.ONormRefIdeal.τ).loc Cert.ONormRefIdeal.main_arg0) = m ((c.tc : Thread Cert.ONormRefIdeal.nD Cert.ONormRefIdeal.τ).loc Cert.ONormRefIdeal.main_arg0)
      ∧ r.2.mem ((c.tc : Thread Cert.ONormRefIdeal.nD Cert.ONormRefIdeal.τ).loc Cert.ONormRefIdeal.main_arg1) = m ((c.tc : Thread Cert.ONormRefIdeal.nD Cert.ONormRefIdeal.τ).loc Cert.ONormRefIdeal.main_arg1)
      ∧ r.2.mem ((c.tc : Thread Cert.ONormRefIdeal.nD Cert.ONormRefIdeal.τ).loc Cert.ONormRefIdeal.main_arg2) = m ((c.tc : Thread Cert.ONormRefIdeal.nD Cert.ONormRefIdeal.τ).loc Cert.ONormRefIdeal.main_arg2)
      ∧ r.2.mem ((c.tc : Thread Cert.ONormRefIdeal.nD Cert.ONormRefIdeal.τ).loc Cert.ONormRefIdeal.main_arg3) = m ((c.tc : Thread Cert.ONormRefIdeal.nD Cert.ONormRefIdeal.τ).loc Cert.ONormRefIdeal.main_arg3))
      ∧ r.2.sem = fun _ => 0)

def quiescent_HNorm [hHNorm : Cert.HNorm.Facts] : Prop :=
  ∀ (m : (ℓ : Loc Cert.HNorm.nD Cert.HNorm.τ Cert.HNorm.sig) → Buf (Elt Bits) ℓ) (g : Dev Cert.HNorm.nD → PrngReg), Pre_HNorm m →
    θ_run (Cert.HNorm.defs (F := Bits)) (onTc (τ := Cert.HNorm.τ) (Cert.HNorm.main (F := Bits))) ⟨m, fun _ => 0, g⟩ (fun r => (∀ c : Dev Cert.HNorm.nD,
      r.2.mem ((c.tc : Thread Cert.HNorm.nD Cert.HNorm.τ).loc Cert.HNorm.main_arg0) = m ((c.tc : Thread Cert.HNorm.nD Cert.HNorm.τ).loc Cert.HNorm.main_arg0)
      ∧ r.2.mem ((c.tc : Thread Cert.HNorm.nD Cert.HNorm.τ).loc Cert.HNorm.main_arg1) = m ((c.tc : Thread Cert.HNorm.nD Cert.HNorm.τ).loc Cert.HNorm.main_arg1))
      ∧ r.2.sem = fun _ => 0)

def quiescent_HNormIdeal [hHNormIdeal : Cert.HNormIdeal.Facts] : Prop :=
  ∀ (m : (ℓ : Loc Cert.HNormIdeal.nD Cert.HNormIdeal.τ Cert.HNormIdeal.sig) → Buf (Elt Ideal) ℓ) (g : Dev Cert.HNormIdeal.nD → PrngReg), Pre_HNormIdeal m →
    θ_run (Cert.HNormIdeal.defs (F := Ideal)) (onTc (τ := Cert.HNormIdeal.τ) (Cert.HNormIdeal.main (F := Ideal))) ⟨m, fun _ => 0, g⟩ (fun r => (∀ c : Dev Cert.HNormIdeal.nD,
      r.2.mem ((c.tc : Thread Cert.HNormIdeal.nD Cert.HNormIdeal.τ).loc Cert.HNormIdeal.main_arg0) = m ((c.tc : Thread Cert.HNormIdeal.nD Cert.HNormIdeal.τ).loc Cert.HNormIdeal.main_arg0)
      ∧ r.2.mem ((c.tc : Thread Cert.HNormIdeal.nD Cert.HNormIdeal.τ).loc Cert.HNormIdeal.main_arg1) = m ((c.tc : Thread Cert.HNormIdeal.nD Cert.HNormIdeal.τ).loc Cert.HNormIdeal.main_arg1))
      ∧ r.2.sem = fun _ => 0)

def quiescent_HNormRefIdeal [hHNormRefIdeal : Cert.HNormRefIdeal.Facts] : Prop :=
  ∀ (m : (ℓ : Loc Cert.HNormRefIdeal.nD Cert.HNormRefIdeal.τ Cert.HNormRefIdeal.sig) → Buf (Elt Ideal) ℓ) (g : Dev Cert.HNormRefIdeal.nD → PrngReg), Pre_HNormRefIdeal m →
    θ_run (Cert.HNormRefIdeal.defs (F := Ideal)) (onTc (τ := Cert.HNormRefIdeal.τ) (Cert.HNormRefIdeal.main (F := Ideal))) ⟨m, fun _ => 0, g⟩ (fun r => (∀ c : Dev Cert.HNormRefIdeal.nD,
      r.2.mem ((c.tc : Thread Cert.HNormRefIdeal.nD Cert.HNormRefIdeal.τ).loc Cert.HNormRefIdeal.main_arg0) = m ((c.tc : Thread Cert.HNormRefIdeal.nD Cert.HNormRefIdeal.τ).loc Cert.HNormRefIdeal.main_arg0)
      ∧ r.2.mem ((c.tc : Thread Cert.HNormRefIdeal.nD Cert.HNormRefIdeal.τ).loc Cert.HNormRefIdeal.main_arg1) = m ((c.tc : Thread Cert.HNormRefIdeal.nD Cert.HNormRefIdeal.τ).loc Cert.HNormRefIdeal.main_arg1))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10)
      ∧ r.2.mem ((c.tc : Thread Cert.Pre.nD Cert.Pre.τ).loc Cert.Pre.main_arg11) = m ((c.tc : Thread Cert.Pre.nD Cert.Pre.τ).loc Cert.Pre.main_arg11))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
      ∧ r.2.mem ((c.tc : Thread Cert.PreIdeal.nD Cert.PreIdeal.τ).loc Cert.PreIdeal.main_arg11) = m ((c.tc : Thread Cert.PreIdeal.nD Cert.PreIdeal.τ).loc Cert.PreIdeal.main_arg11))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ r.2.sem = fun _ => 0)

def quiescent_TablesRefIdeal [hTablesRefIdeal : Cert.TablesRefIdeal.Facts] : Prop :=
  ∀ (m : (ℓ : Loc Cert.TablesRefIdeal.nD Cert.TablesRefIdeal.τ Cert.TablesRefIdeal.sig) → Buf (Elt Ideal) ℓ) (g : Dev Cert.TablesRefIdeal.nD → PrngReg), Pre_TablesRefIdeal m →
    θ_run (Cert.TablesRefIdeal.defs (F := Ideal)) (onTc (τ := Cert.TablesRefIdeal.τ) (Cert.TablesRefIdeal.main (F := Ideal))) ⟨m, fun _ => 0, g⟩ (fun r => (∀ c : Dev Cert.TablesRefIdeal.nD,
      r.2.mem ((c.tc : Thread Cert.TablesRefIdeal.nD Cert.TablesRefIdeal.τ).loc Cert.TablesRefIdeal.main_arg0) = m ((c.tc : Thread Cert.TablesRefIdeal.nD Cert.TablesRefIdeal.τ).loc Cert.TablesRefIdeal.main_arg0))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1)
      ∧ r.2.mem ((c.tc : Thread Cert.RowsRefIdeal.nD Cert.RowsRefIdeal.τ).loc Cert.RowsRefIdeal.main_arg2) = m ((c.tc : Thread Cert.RowsRefIdeal.nD Cert.RowsRefIdeal.τ).loc Cert.RowsRefIdeal.main_arg2))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1)
      ∧ r.2.mem ((c.tc : Thread Cert.WGrad.nD Cert.WGrad.τ).loc Cert.WGrad.main_arg2) = m ((c.tc : Thread Cert.WGrad.nD Cert.WGrad.τ).loc Cert.WGrad.main_arg2))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1)
      ∧ r.2.mem ((c.tc : Thread Cert.WGradIdeal.nD Cert.WGradIdeal.τ).loc Cert.WGradIdeal.main_arg2) = m ((c.tc : Thread Cert.WGradIdeal.nD Cert.WGradIdeal.τ).loc Cert.WGradIdeal.main_arg2))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1)
      ∧ r.2.mem ((c.tc : Thread Cert.WGradRefIdeal.nD Cert.WGradRefIdeal.τ).loc Cert.WGradRefIdeal.main_arg2) = m ((c.tc : Thread Cert.WGradRefIdeal.nD Cert.WGradRefIdeal.τ).loc Cert.WGradRefIdeal.main_arg2))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1)
      ∧ r.2.mem ((c.tc : Thread Cert.Gdown.nD Cert.Gdown.τ).loc Cert.Gdown.main_arg2) = m ((c.tc : Thread Cert.Gdown.nD Cert.Gdown.τ).loc Cert.Gdown.main_arg2))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
      ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1)
      ∧ r.2.mem ((c.tc : Thread Cert.GdownRefIdeal.nD Cert.GdownRefIdeal.τ).loc Cert.GdownRefIdeal.main_arg2) = m ((c.tc : Thread Cert.GdownRefIdeal.nD Cert.GdownRefIdeal.τ).loc Cert.GdownRefIdeal.main_arg2))
      ∧ r.2.sem = fun _ => 0)

def quiescent_QGrad [hQGrad : Cert.QGrad.Facts] : Prop :=
  ∀ (m : (ℓ : Loc Cert.QGrad.nD Cert.QGrad.τ Cert.QGrad.sig) → Buf (Elt Bits) ℓ) (g : Dev Cert.QGrad.nD → PrngReg), Pre_QGrad m →
    θ_run (Cert.QGrad.defs (F := Bits)) (onTc (τ := Cert.QGrad.τ) (Cert.QGrad.main (F := Bits))) ⟨m, fun _ => 0, g⟩ (fun r => (∀ c : Dev Cert.QGrad.nD,
      r.2.mem ((c.tc : Thread Cert.QGrad.nD Cert.QGrad.τ).loc Cert.QGrad.main_arg0) = m ((c.tc : Thread Cert.QGrad.nD Cert.QGrad.τ).loc Cert.QGrad.main_arg0)
      ∧ r.2.mem ((c.tc : Thread Cert.QGrad.nD Cert.QGrad.τ).loc Cert.QGrad.main_arg1) = m ((c.tc : Thread Cert.QGrad.nD Cert.QGrad.τ).loc Cert.QGrad.main_arg1)
      ∧ r.2.mem ((c.tc : Thread Cert.QGrad.nD Cert.QGrad.τ).loc Cert.QGrad.main_arg2) = m ((c.tc : Thread Cert.QGrad.nD Cert.QGrad.τ).loc Cert.QGrad.main_arg2)
      ∧ r.2.mem ((c.tc : Thread Cert.QGrad.nD Cert.QGrad.τ).loc Cert.QGrad.main_arg3) = m ((c.tc : Thread Cert.QGrad.nD Cert.QGrad.τ).loc Cert.QGrad.main_arg3)
      ∧ r.2.mem ((c.tc : Thread Cert.QGrad.nD Cert.QGrad.τ).loc Cert.QGrad.main_arg4) = m ((c.tc : Thread Cert.QGrad.nD Cert.QGrad.τ).loc Cert.QGrad.main_arg4)
      ∧ r.2.mem ((c.tc : Thread Cert.QGrad.nD Cert.QGrad.τ).loc Cert.QGrad.main_arg5) = m ((c.tc : Thread Cert.QGrad.nD Cert.QGrad.τ).loc Cert.QGrad.main_arg5)
      ∧ r.2.mem ((c.tc : Thread Cert.QGrad.nD Cert.QGrad.τ).loc Cert.QGrad.main_arg6) = m ((c.tc : Thread Cert.QGrad.nD Cert.QGrad.τ).loc Cert.QGrad.main_arg6)
      ∧ r.2.mem ((c.tc : Thread Cert.QGrad.nD Cert.QGrad.τ).loc Cert.QGrad.main_arg7) = m ((c.tc : Thread Cert.QGrad.nD Cert.QGrad.τ).loc Cert.QGrad.main_arg7)
      ∧ r.2.mem ((c.tc : Thread Cert.QGrad.nD Cert.QGrad.τ).loc Cert.QGrad.main_arg8) = m ((c.tc : Thread Cert.QGrad.nD Cert.QGrad.τ).loc Cert.QGrad.main_arg8))
      ∧ r.2.sem = fun _ => 0)

def quiescent_QGradIdeal [hQGradIdeal : Cert.QGradIdeal.Facts] : Prop :=
  ∀ (m : (ℓ : Loc Cert.QGradIdeal.nD Cert.QGradIdeal.τ Cert.QGradIdeal.sig) → Buf (Elt Ideal) ℓ) (g : Dev Cert.QGradIdeal.nD → PrngReg), Pre_QGradIdeal m →
    θ_run (Cert.QGradIdeal.defs (F := Ideal)) (onTc (τ := Cert.QGradIdeal.τ) (Cert.QGradIdeal.main (F := Ideal))) ⟨m, fun _ => 0, g⟩ (fun r => (∀ c : Dev Cert.QGradIdeal.nD,
      r.2.mem ((c.tc : Thread Cert.QGradIdeal.nD Cert.QGradIdeal.τ).loc Cert.QGradIdeal.main_arg0) = m ((c.tc : Thread Cert.QGradIdeal.nD Cert.QGradIdeal.τ).loc Cert.QGradIdeal.main_arg0)
      ∧ r.2.mem ((c.tc : Thread Cert.QGradIdeal.nD Cert.QGradIdeal.τ).loc Cert.QGradIdeal.main_arg1) = m ((c.tc : Thread Cert.QGradIdeal.nD Cert.QGradIdeal.τ).loc Cert.QGradIdeal.main_arg1)
      ∧ r.2.mem ((c.tc : Thread Cert.QGradIdeal.nD Cert.QGradIdeal.τ).loc Cert.QGradIdeal.main_arg2) = m ((c.tc : Thread Cert.QGradIdeal.nD Cert.QGradIdeal.τ).loc Cert.QGradIdeal.main_arg2)
      ∧ r.2.mem ((c.tc : Thread Cert.QGradIdeal.nD Cert.QGradIdeal.τ).loc Cert.QGradIdeal.main_arg3) = m ((c.tc : Thread Cert.QGradIdeal.nD Cert.QGradIdeal.τ).loc Cert.QGradIdeal.main_arg3)
      ∧ r.2.mem ((c.tc : Thread Cert.QGradIdeal.nD Cert.QGradIdeal.τ).loc Cert.QGradIdeal.main_arg4) = m ((c.tc : Thread Cert.QGradIdeal.nD Cert.QGradIdeal.τ).loc Cert.QGradIdeal.main_arg4)
      ∧ r.2.mem ((c.tc : Thread Cert.QGradIdeal.nD Cert.QGradIdeal.τ).loc Cert.QGradIdeal.main_arg5) = m ((c.tc : Thread Cert.QGradIdeal.nD Cert.QGradIdeal.τ).loc Cert.QGradIdeal.main_arg5)
      ∧ r.2.mem ((c.tc : Thread Cert.QGradIdeal.nD Cert.QGradIdeal.τ).loc Cert.QGradIdeal.main_arg6) = m ((c.tc : Thread Cert.QGradIdeal.nD Cert.QGradIdeal.τ).loc Cert.QGradIdeal.main_arg6)
      ∧ r.2.mem ((c.tc : Thread Cert.QGradIdeal.nD Cert.QGradIdeal.τ).loc Cert.QGradIdeal.main_arg7) = m ((c.tc : Thread Cert.QGradIdeal.nD Cert.QGradIdeal.τ).loc Cert.QGradIdeal.main_arg7)
      ∧ r.2.mem ((c.tc : Thread Cert.QGradIdeal.nD Cert.QGradIdeal.τ).loc Cert.QGradIdeal.main_arg8) = m ((c.tc : Thread Cert.QGradIdeal.nD Cert.QGradIdeal.τ).loc Cert.QGradIdeal.main_arg8))
      ∧ r.2.sem = fun _ => 0)

def quiescent_QGradRefIdeal [hQGradRefIdeal : Cert.QGradRefIdeal.Facts] : Prop :=
  ∀ (m : (ℓ : Loc Cert.QGradRefIdeal.nD Cert.QGradRefIdeal.τ Cert.QGradRefIdeal.sig) → Buf (Elt Ideal) ℓ) (g : Dev Cert.QGradRefIdeal.nD → PrngReg), Pre_QGradRefIdeal m →
    θ_run (Cert.QGradRefIdeal.defs (F := Ideal)) (onTc (τ := Cert.QGradRefIdeal.τ) (Cert.QGradRefIdeal.main (F := Ideal))) ⟨m, fun _ => 0, g⟩ (fun r => (∀ c : Dev Cert.QGradRefIdeal.nD,
      r.2.mem ((c.tc : Thread Cert.QGradRefIdeal.nD Cert.QGradRefIdeal.τ).loc Cert.QGradRefIdeal.main_arg0) = m ((c.tc : Thread Cert.QGradRefIdeal.nD Cert.QGradRefIdeal.τ).loc Cert.QGradRefIdeal.main_arg0)
      ∧ r.2.mem ((c.tc : Thread Cert.QGradRefIdeal.nD Cert.QGradRefIdeal.τ).loc Cert.QGradRefIdeal.main_arg1) = m ((c.tc : Thread Cert.QGradRefIdeal.nD Cert.QGradRefIdeal.τ).loc Cert.QGradRefIdeal.main_arg1)
      ∧ r.2.mem ((c.tc : Thread Cert.QGradRefIdeal.nD Cert.QGradRefIdeal.τ).loc Cert.QGradRefIdeal.main_arg2) = m ((c.tc : Thread Cert.QGradRefIdeal.nD Cert.QGradRefIdeal.τ).loc Cert.QGradRefIdeal.main_arg2)
      ∧ r.2.mem ((c.tc : Thread Cert.QGradRefIdeal.nD Cert.QGradRefIdeal.τ).loc Cert.QGradRefIdeal.main_arg3) = m ((c.tc : Thread Cert.QGradRefIdeal.nD Cert.QGradRefIdeal.τ).loc Cert.QGradRefIdeal.main_arg3)
      ∧ r.2.mem ((c.tc : Thread Cert.QGradRefIdeal.nD Cert.QGradRefIdeal.τ).loc Cert.QGradRefIdeal.main_arg4) = m ((c.tc : Thread Cert.QGradRefIdeal.nD Cert.QGradRefIdeal.τ).loc Cert.QGradRefIdeal.main_arg4)
      ∧ r.2.mem ((c.tc : Thread Cert.QGradRefIdeal.nD Cert.QGradRefIdeal.τ).loc Cert.QGradRefIdeal.main_arg5) = m ((c.tc : Thread Cert.QGradRefIdeal.nD Cert.QGradRefIdeal.τ).loc Cert.QGradRefIdeal.main_arg5)
      ∧ r.2.mem ((c.tc : Thread Cert.QGradRefIdeal.nD Cert.QGradRefIdeal.τ).loc Cert.QGradRefIdeal.main_arg6) = m ((c.tc : Thread Cert.QGradRefIdeal.nD Cert.QGradRefIdeal.τ).loc Cert.QGradRefIdeal.main_arg6)
      ∧ r.2.mem ((c.tc : Thread Cert.QGradRefIdeal.nD Cert.QGradRefIdeal.τ).loc Cert.QGradRefIdeal.main_arg7) = m ((c.tc : Thread Cert.QGradRefIdeal.nD Cert.QGradRefIdeal.τ).loc Cert.QGradRefIdeal.main_arg7)
      ∧ r.2.mem ((c.tc : Thread Cert.QGradRefIdeal.nD Cert.QGradRefIdeal.τ).loc Cert.QGradRefIdeal.main_arg8) = m ((c.tc : Thread Cert.QGradRefIdeal.nD Cert.QGradRefIdeal.τ).loc Cert.QGradRefIdeal.main_arg8))
      ∧ r.2.sem = fun _ => 0)

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)) →
    ∃ (v0 : (c : Dev Cert.MixerIdeal.nD) → Buf (Elt Ideal) ((c.tc : Thread Cert.MixerIdeal.nD Cert.MixerIdeal.τ).loc Cert.MixerIdeal.main_v9_0)) (v1 : (c : Dev Cert.MixerIdeal.nD) → Buf (Elt Ideal) ((c.tc : Thread Cert.MixerIdeal.nD Cert.MixerIdeal.τ).loc Cert.MixerIdeal.main_v9_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v9_0) = v0 c
          ∧ r.2.mem ((c.tc : Thread Cert.MixerIdeal.nD Cert.MixerIdeal.τ).loc Cert.MixerIdeal.main_v9_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v69) = v0 c
          ∧ r.2.mem ((c.tc : Thread Cert.MixerRefIdeal.nD Cert.MixerRefIdeal.τ).loc Cert.MixerRefIdeal.main_v61) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4))

def preserves_Attn_AttnIdeal : Prop :=
  IdealRules.named_const.Statement Cert.AttnIdeal.κ "mask" .f32 0xF149F2CA#32 ⊥
  ∧ IdealRules.named_const.Statement Cert.AttnIdeal.κ "ln2" .f32 0x3F317218#32 ((Real.log 2 : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v138_0)) (v1 : (c : Dev Cert.AttnIdeal.nD) → Buf (Elt Ideal) ((c.tc : Thread Cert.AttnIdeal.nD Cert.AttnIdeal.τ).loc Cert.AttnIdeal.main_v138_1)) (v2 : (c : Dev Cert.AttnIdeal.nD) → Buf (Elt Ideal) ((c.tc : Thread Cert.AttnIdeal.nD Cert.AttnIdeal.τ).loc Cert.AttnIdeal.main_v138_2)) (v3 : (c : Dev Cert.AttnIdeal.nD) → Buf (Elt Ideal) ((c.tc : Thread Cert.AttnIdeal.nD Cert.AttnIdeal.τ).loc Cert.AttnIdeal.main_v138_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v138_0) = v0 c
          ∧ r.2.mem ((c.tc : Thread Cert.AttnIdeal.nD Cert.AttnIdeal.τ).loc Cert.AttnIdeal.main_v138_1) = v1 c
          ∧ r.2.mem ((c.tc : Thread Cert.AttnIdeal.nD Cert.AttnIdeal.τ).loc Cert.AttnIdeal.main_v138_2) = v2 c
          ∧ r.2.mem ((c.tc : Thread Cert.AttnIdeal.nD Cert.AttnIdeal.τ).loc Cert.AttnIdeal.main_v138_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v126) = v0 c
          ∧ r.2.mem ((c.tc : Thread Cert.AttnRefIdeal.nD Cert.AttnRefIdeal.τ).loc Cert.AttnRefIdeal.main_v128) = v1 c
          ∧ r.2.mem ((c.tc : Thread Cert.AttnRefIdeal.nD Cert.AttnRefIdeal.τ).loc Cert.AttnRefIdeal.main_v125) = v2 c
          ∧ r.2.mem ((c.tc : Thread Cert.AttnRefIdeal.nD Cert.AttnRefIdeal.τ).loc Cert.AttnRefIdeal.main_v130) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Dact_DactIdeal : Prop :=
  True

def algebraic_DactIdeal_DactRefIdeal_pre_dact_finite [hDactIdeal : Cert.DactIdeal.Facts] [hDactRefIdeal : Cert.DactRefIdeal.Facts] [hPre_dact_finite : Cert.Pre_dact_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)
      ∧ m' ((c.tc : Thread Cert.DactRefIdeal.nD Cert.DactRefIdeal.τ).loc Cert.DactRefIdeal.main_arg4) = m ((c.tc : Thread Cert.DactIdeal.nD Cert.DactIdeal.τ).loc Cert.DactIdeal.main_arg4)
      ∧ m' ((c.tc : Thread Cert.DactRefIdeal.nD Cert.DactRefIdeal.τ).loc Cert.DactRefIdeal.main_arg5) = m ((c.tc : Thread Cert.DactIdeal.nD Cert.DactIdeal.τ).loc Cert.DactIdeal.main_arg5)) →
    ∃ (v0 : (c : Dev Cert.DactIdeal.nD) → Buf (Elt Ideal) ((c.tc : Thread Cert.DactIdeal.nD Cert.DactIdeal.τ).loc Cert.DactIdeal.main_v16_0)) (v1 : (c : Dev Cert.DactIdeal.nD) → Buf (Elt Ideal) ((c.tc : Thread Cert.DactIdeal.nD Cert.DactIdeal.τ).loc Cert.DactIdeal.main_v16_1)) (v2 : (c : Dev Cert.DactIdeal.nD) → Buf (Elt Ideal) ((c.tc : Thread Cert.DactIdeal.nD Cert.DactIdeal.τ).loc Cert.DactIdeal.main_v16_2)) (v3 : (c : Dev Cert.DactIdeal.nD) → Buf (Elt Ideal) ((c.tc : Thread Cert.DactIdeal.nD Cert.DactIdeal.τ).loc Cert.DactIdeal.main_v16_3)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v16_0) = v0 c
          ∧ r.2.mem ((c.tc : Thread Cert.DactIdeal.nD Cert.DactIdeal.τ).loc Cert.DactIdeal.main_v16_1) = v1 c
          ∧ r.2.mem ((c.tc : Thread Cert.DactIdeal.nD Cert.DactIdeal.τ).loc Cert.DactIdeal.main_v16_2) = v2 c
          ∧ r.2.mem ((c.tc : Thread Cert.DactIdeal.nD Cert.DactIdeal.τ).loc Cert.DactIdeal.main_v16_3) = v3 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3)
          ∧ r.2.mem ((c.tc : Thread Cert.DactIdeal.nD Cert.DactIdeal.τ).loc Cert.DactIdeal.main_arg4) = m ((c.tc : Thread Cert.DactIdeal.nD Cert.DactIdeal.τ).loc Cert.DactIdeal.main_arg4)
          ∧ r.2.mem ((c.tc : Thread Cert.DactIdeal.nD Cert.DactIdeal.τ).loc Cert.DactIdeal.main_arg5) = m ((c.tc : Thread Cert.DactIdeal.nD Cert.DactIdeal.τ).loc Cert.DactIdeal.main_arg5))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v76) = v0 c
          ∧ r.2.mem ((c.tc : Thread Cert.DactRefIdeal.nD Cert.DactRefIdeal.τ).loc Cert.DactRefIdeal.main_v80) = v1 c
          ∧ r.2.mem ((c.tc : Thread Cert.DactRefIdeal.nD Cert.DactRefIdeal.τ).loc Cert.DactRefIdeal.main_v82) = v2 c
          ∧ r.2.mem ((c.tc : Thread Cert.DactRefIdeal.nD Cert.DactRefIdeal.τ).loc Cert.DactRefIdeal.main_v83) = v3 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3)
          ∧ r.2.mem ((c.tc : Thread Cert.DactRefIdeal.nD Cert.DactRefIdeal.τ).loc Cert.DactRefIdeal.main_arg4) = m' ((c.tc : Thread Cert.DactRefIdeal.nD Cert.DactRefIdeal.τ).loc Cert.DactRefIdeal.main_arg4)
          ∧ r.2.mem ((c.tc : Thread Cert.DactRefIdeal.nD Cert.DactRefIdeal.τ).loc Cert.DactRefIdeal.main_arg5) = m' ((c.tc : Thread Cert.DactRefIdeal.nD Cert.DactRefIdeal.τ).loc Cert.DactRefIdeal.main_arg5))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)) →
    ∃ (v0 : (c : Dev Cert.DinIdeal.nD) → Buf (Elt Ideal) ((c.tc : Thread Cert.DinIdeal.nD Cert.DinIdeal.τ).loc Cert.DinIdeal.main_v5_0)) (v1 : (c : Dev Cert.DinIdeal.nD) → Buf (Elt Ideal) ((c.tc : Thread Cert.DinIdeal.nD Cert.DinIdeal.τ).loc Cert.DinIdeal.main_v5_1)) (v2 : (c : Dev Cert.DinIdeal.nD) → Buf (Elt Ideal) ((c.tc : Thread Cert.DinIdeal.nD Cert.DinIdeal.τ).loc Cert.DinIdeal.main_v5_2)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v5_0) = v0 c
          ∧ r.2.mem ((c.tc : Thread Cert.DinIdeal.nD Cert.DinIdeal.τ).loc Cert.DinIdeal.main_v5_1) = v1 c
          ∧ r.2.mem ((c.tc : Thread Cert.DinIdeal.nD Cert.DinIdeal.τ).loc Cert.DinIdeal.main_v5_2) = v2 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v38) = v0 c
          ∧ r.2.mem ((c.tc : Thread Cert.DinRefIdeal.nD Cert.DinRefIdeal.τ).loc Cert.DinRefIdeal.main_v39) = v1 c
          ∧ r.2.mem ((c.tc : Thread Cert.DinRefIdeal.nD Cert.DinRefIdeal.τ).loc Cert.DinRefIdeal.main_v40) = v2 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)
      ∧ m' ((c.tc : Thread Cert.DupRefIdeal.nD Cert.DupRefIdeal.τ).loc Cert.DupRefIdeal.main_arg3) = m ((c.tc : Thread Cert.DupIdeal.nD Cert.DupIdeal.τ).loc Cert.DupIdeal.main_arg3)
      ∧ m' ((c.tc : Thread Cert.DupRefIdeal.nD Cert.DupRefIdeal.τ).loc Cert.DupRefIdeal.main_arg4) = m ((c.tc : Thread Cert.DupIdeal.nD Cert.DupIdeal.τ).loc Cert.DupIdeal.main_arg4)) →
    ∃ (v0 : (c : Dev Cert.DupIdeal.nD) → Buf (Elt Ideal) ((c.tc : Thread Cert.DupIdeal.nD Cert.DupIdeal.τ).loc Cert.DupIdeal.main_v11_0)) (v1 : (c : Dev Cert.DupIdeal.nD) → Buf (Elt Ideal) ((c.tc : Thread Cert.DupIdeal.nD Cert.DupIdeal.τ).loc Cert.DupIdeal.main_v11_1)) (v2 : (c : Dev Cert.DupIdeal.nD) → Buf (Elt Ideal) ((c.tc : Thread Cert.DupIdeal.nD Cert.DupIdeal.τ).loc Cert.DupIdeal.main_v11_2)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v11_0) = v0 c
          ∧ r.2.mem ((c.tc : Thread Cert.DupIdeal.nD Cert.DupIdeal.τ).loc Cert.DupIdeal.main_v11_1) = v1 c
          ∧ r.2.mem ((c.tc : Thread Cert.DupIdeal.nD Cert.DupIdeal.τ).loc Cert.DupIdeal.main_v11_2) = v2 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2)
          ∧ r.2.mem ((c.tc : Thread Cert.DupIdeal.nD Cert.DupIdeal.τ).loc Cert.DupIdeal.main_arg3) = m ((c.tc : Thread Cert.DupIdeal.nD Cert.DupIdeal.τ).loc Cert.DupIdeal.main_arg3)
          ∧ r.2.mem ((c.tc : Thread Cert.DupIdeal.nD Cert.DupIdeal.τ).loc Cert.DupIdeal.main_arg4) = m ((c.tc : Thread Cert.DupIdeal.nD Cert.DupIdeal.τ).loc Cert.DupIdeal.main_arg4))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v38) = v0 c
          ∧ r.2.mem ((c.tc : Thread Cert.DupRefIdeal.nD Cert.DupRefIdeal.τ).loc Cert.DupRefIdeal.main_v39) = v1 c
          ∧ r.2.mem ((c.tc : Thread Cert.DupRefIdeal.nD Cert.DupRefIdeal.τ).loc Cert.DupRefIdeal.main_v40) = v2 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2)
          ∧ r.2.mem ((c.tc : Thread Cert.DupRefIdeal.nD Cert.DupRefIdeal.τ).loc Cert.DupRefIdeal.main_arg3) = m' ((c.tc : Thread Cert.DupRefIdeal.nD Cert.DupRefIdeal.τ).loc Cert.DupRefIdeal.main_arg3)
          ∧ r.2.mem ((c.tc : Thread Cert.DupRefIdeal.nD Cert.DupRefIdeal.τ).loc Cert.DupRefIdeal.main_arg4) = m' ((c.tc : Thread Cert.DupRefIdeal.nD Cert.DupRefIdeal.τ).loc Cert.DupRefIdeal.main_arg4))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)
      ∧ m' ((c.tc : Thread Cert.DoutRefIdeal.nD Cert.DoutRefIdeal.τ).loc Cert.DoutRefIdeal.main_arg2) = m ((c.tc : Thread Cert.DoutIdeal.nD Cert.DoutIdeal.τ).loc Cert.DoutIdeal.main_arg2)
      ∧ m' ((c.tc : Thread Cert.DoutRefIdeal.nD Cert.DoutRefIdeal.τ).loc Cert.DoutRefIdeal.main_arg3) = m ((c.tc : Thread Cert.DoutIdeal.nD Cert.DoutIdeal.τ).loc Cert.DoutIdeal.main_arg3)
      ∧ m' ((c.tc : Thread Cert.DoutRefIdeal.nD Cert.DoutRefIdeal.τ).loc Cert.DoutRefIdeal.main_arg4) = m ((c.tc : Thread Cert.DoutIdeal.nD Cert.DoutIdeal.τ).loc Cert.DoutIdeal.main_arg4)
      ∧ m' ((c.tc : Thread Cert.DoutRefIdeal.nD Cert.DoutRefIdeal.τ).loc Cert.DoutRefIdeal.main_arg5) = m ((c.tc : Thread Cert.DoutIdeal.nD Cert.DoutIdeal.τ).loc Cert.DoutIdeal.main_arg5)
      ∧ m' ((c.tc : Thread Cert.DoutRefIdeal.nD Cert.DoutRefIdeal.τ).loc Cert.DoutRefIdeal.main_arg6) = m ((c.tc : Thread Cert.DoutIdeal.nD Cert.DoutIdeal.τ).loc Cert.DoutIdeal.main_arg6)) →
    ∃ (v0 : (c : Dev Cert.DoutIdeal.nD) → Buf (Elt Ideal) ((c.tc : Thread Cert.DoutIdeal.nD Cert.DoutIdeal.τ).loc Cert.DoutIdeal.main_v16_0)) (v1 : (c : Dev Cert.DoutIdeal.nD) → Buf (Elt Ideal) ((c.tc : Thread Cert.DoutIdeal.nD Cert.DoutIdeal.τ).loc Cert.DoutIdeal.main_v16_1)) (v2 : (c : Dev Cert.DoutIdeal.nD) → Buf (Elt Ideal) ((c.tc : Thread Cert.DoutIdeal.nD Cert.DoutIdeal.τ).loc Cert.DoutIdeal.main_v16_2)) (v3 : (c : Dev Cert.DoutIdeal.nD) → Buf (Elt Ideal) ((c.tc : Thread Cert.DoutIdeal.nD Cert.DoutIdeal.τ).loc Cert.DoutIdeal.main_v16_3)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v16_0) = v0 c
          ∧ r.2.mem ((c.tc : Thread Cert.DoutIdeal.nD Cert.DoutIdeal.τ).loc Cert.DoutIdeal.main_v16_1) = v1 c
          ∧ r.2.mem ((c.tc : Thread Cert.DoutIdeal.nD Cert.DoutIdeal.τ).loc Cert.DoutIdeal.main_v16_2) = v2 c
          ∧ r.2.mem ((c.tc : Thread Cert.DoutIdeal.nD Cert.DoutIdeal.τ).loc Cert.DoutIdeal.main_v16_3) = v3 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1)
          ∧ r.2.mem ((c.tc : Thread Cert.DoutIdeal.nD Cert.DoutIdeal.τ).loc Cert.DoutIdeal.main_arg2) = m ((c.tc : Thread Cert.DoutIdeal.nD Cert.DoutIdeal.τ).loc Cert.DoutIdeal.main_arg2)
          ∧ r.2.mem ((c.tc : Thread Cert.DoutIdeal.nD Cert.DoutIdeal.τ).loc Cert.DoutIdeal.main_arg3) = m ((c.tc : Thread Cert.DoutIdeal.nD Cert.DoutIdeal.τ).loc Cert.DoutIdeal.main_arg3)
          ∧ r.2.mem ((c.tc : Thread Cert.DoutIdeal.nD Cert.DoutIdeal.τ).loc Cert.DoutIdeal.main_arg4) = m ((c.tc : Thread Cert.DoutIdeal.nD Cert.DoutIdeal.τ).loc Cert.DoutIdeal.main_arg4)
          ∧ r.2.mem ((c.tc : Thread Cert.DoutIdeal.nD Cert.DoutIdeal.τ).loc Cert.DoutIdeal.main_arg5) = m ((c.tc : Thread Cert.DoutIdeal.nD Cert.DoutIdeal.τ).loc Cert.DoutIdeal.main_arg5)
          ∧ r.2.mem ((c.tc : Thread Cert.DoutIdeal.nD Cert.DoutIdeal.τ).loc Cert.DoutIdeal.main_arg6) = m ((c.tc : Thread Cert.DoutIdeal.nD Cert.DoutIdeal.τ).loc Cert.DoutIdeal.main_arg6))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v40) = v0 c
          ∧ r.2.mem ((c.tc : Thread Cert.DoutRefIdeal.nD Cert.DoutRefIdeal.τ).loc Cert.DoutRefIdeal.main_v43) = v1 c
          ∧ r.2.mem ((c.tc : Thread Cert.DoutRefIdeal.nD Cert.DoutRefIdeal.τ).loc Cert.DoutRefIdeal.main_v44) = v2 c
          ∧ r.2.mem ((c.tc : Thread Cert.DoutRefIdeal.nD Cert.DoutRefIdeal.τ).loc Cert.DoutRefIdeal.main_v45) = v3 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1)
          ∧ r.2.mem ((c.tc : Thread Cert.DoutRefIdeal.nD Cert.DoutRefIdeal.τ).loc Cert.DoutRefIdeal.main_arg2) = m' ((c.tc : Thread Cert.DoutRefIdeal.nD Cert.DoutRefIdeal.τ).loc Cert.DoutRefIdeal.main_arg2)
          ∧ r.2.mem ((c.tc : Thread Cert.DoutRefIdeal.nD Cert.DoutRefIdeal.τ).loc Cert.DoutRefIdeal.main_arg3) = m' ((c.tc : Thread Cert.DoutRefIdeal.nD Cert.DoutRefIdeal.τ).loc Cert.DoutRefIdeal.main_arg3)
          ∧ r.2.mem ((c.tc : Thread Cert.DoutRefIdeal.nD Cert.DoutRefIdeal.τ).loc Cert.DoutRefIdeal.main_arg4) = m' ((c.tc : Thread Cert.DoutRefIdeal.nD Cert.DoutRefIdeal.τ).loc Cert.DoutRefIdeal.main_arg4)
          ∧ r.2.mem ((c.tc : Thread Cert.DoutRefIdeal.nD Cert.DoutRefIdeal.τ).loc Cert.DoutRefIdeal.main_arg5) = m' ((c.tc : Thread Cert.DoutRefIdeal.nD Cert.DoutRefIdeal.τ).loc Cert.DoutRefIdeal.main_arg5)
          ∧ r.2.mem ((c.tc : Thread Cert.DoutRefIdeal.nD Cert.DoutRefIdeal.τ).loc Cert.DoutRefIdeal.main_arg6) = m' ((c.tc : Thread Cert.DoutRefIdeal.nD Cert.DoutRefIdeal.τ).loc Cert.DoutRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v52) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Attend_AttendIdeal : Prop :=
  IdealRules.named_const.Statement Cert.AttendIdeal.κ "mask" .f32 0xF149F2CA#32 ⊥
  ∧ IdealRules.named_const.Statement Cert.AttendIdeal.κ "log2e" .f32 0x3FB8AA3B#32 (((Real.log 2)⁻¹ : ℝ) : EReal)

def algebraic_AttendIdeal_AttendRefIdeal_pre_attend_finite [hAttendIdeal : Cert.AttendIdeal.Facts] [hAttendRefIdeal : Cert.AttendRefIdeal.Facts] [hPre_attend_finite : Cert.Pre_attend_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_attend_finite m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v47_0)) (v1 : (c : Dev Cert.AttendIdeal.nD) → Buf (Elt Ideal) ((c.tc : Thread Cert.AttendIdeal.nD Cert.AttendIdeal.τ).loc Cert.AttendIdeal.main_v47_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v47_0) = v0 c
          ∧ r.2.mem ((c.tc : Thread Cert.AttendIdeal.nD Cert.AttendIdeal.τ).loc Cert.AttendIdeal.main_v47_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v116) = v0 c
          ∧ r.2.mem ((c.tc : Thread Cert.AttendRefIdeal.nD Cert.AttendRefIdeal.τ).loc Cert.AttendRefIdeal.main_v120) = v1 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v2_0)) (v1 : (c : Dev Cert.MixInIdeal.nD) → Buf (Elt Ideal) ((c.tc : Thread Cert.MixInIdeal.nD Cert.MixInIdeal.τ).loc Cert.MixInIdeal.main_v2_1)) (v2 : (c : Dev Cert.MixInIdeal.nD) → Buf (Elt Ideal) ((c.tc : Thread Cert.MixInIdeal.nD Cert.MixInIdeal.τ).loc Cert.MixInIdeal.main_v2_2)) (v3 : (c : Dev Cert.MixInIdeal.nD) → Buf (Elt Ideal) ((c.tc : Thread Cert.MixInIdeal.nD Cert.MixInIdeal.τ).loc Cert.MixInIdeal.main_v2_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2_0) = v0 c
          ∧ r.2.mem ((c.tc : Thread Cert.MixInIdeal.nD Cert.MixInIdeal.τ).loc Cert.MixInIdeal.main_v2_1) = v1 c
          ∧ r.2.mem ((c.tc : Thread Cert.MixInIdeal.nD Cert.MixInIdeal.τ).loc Cert.MixInIdeal.main_v2_2) = v2 c
          ∧ r.2.mem ((c.tc : Thread Cert.MixInIdeal.nD Cert.MixInIdeal.τ).loc Cert.MixInIdeal.main_v2_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v28) = v0 c
          ∧ r.2.mem ((c.tc : Thread Cert.MixInRefIdeal.nD Cert.MixInRefIdeal.τ).loc Cert.MixInRefIdeal.main_v29) = v1 c
          ∧ r.2.mem ((c.tc : Thread Cert.MixInRefIdeal.nD Cert.MixInRefIdeal.τ).loc Cert.MixInRefIdeal.main_v30) = v2 c
          ∧ r.2.mem ((c.tc : Thread Cert.MixInRefIdeal.nD Cert.MixInRefIdeal.τ).loc Cert.MixInRefIdeal.main_v31) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)
      ∧ m' ((c.tc : Thread Cert.UpActRefIdeal.nD Cert.UpActRefIdeal.τ).loc Cert.UpActRefIdeal.main_arg3) = m ((c.tc : Thread Cert.UpActIdeal.nD Cert.UpActIdeal.τ).loc Cert.UpActIdeal.main_arg3)) →
    ∃ (v0 : (c : Dev Cert.UpActIdeal.nD) → Buf (Elt Ideal) ((c.tc : Thread Cert.UpActIdeal.nD Cert.UpActIdeal.τ).loc Cert.UpActIdeal.main_v7_0)) (v1 : (c : Dev Cert.UpActIdeal.nD) → Buf (Elt Ideal) ((c.tc : Thread Cert.UpActIdeal.nD Cert.UpActIdeal.τ).loc Cert.UpActIdeal.main_v7_1)) (v2 : (c : Dev Cert.UpActIdeal.nD) → Buf (Elt Ideal) ((c.tc : Thread Cert.UpActIdeal.nD Cert.UpActIdeal.τ).loc Cert.UpActIdeal.main_v7_2)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v7_0) = v0 c
          ∧ r.2.mem ((c.tc : Thread Cert.UpActIdeal.nD Cert.UpActIdeal.τ).loc Cert.UpActIdeal.main_v7_1) = v1 c
          ∧ r.2.mem ((c.tc : Thread Cert.UpActIdeal.nD Cert.UpActIdeal.τ).loc Cert.UpActIdeal.main_v7_2) = v2 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
          ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v32) = v0 c
          ∧ r.2.mem ((c.tc : Thread Cert.UpActRefIdeal.nD Cert.UpActRefIdeal.τ).loc Cert.UpActRefIdeal.main_v35) = v1 c
          ∧ r.2.mem ((c.tc : Thread Cert.UpActRefIdeal.nD Cert.UpActRefIdeal.τ).loc Cert.UpActRefIdeal.main_v38) = v2 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2)
          ∧ r.2.mem ((c.tc : Thread Cert.UpActRefIdeal.nD Cert.UpActRefIdeal.τ).loc Cert.UpActRefIdeal.main_arg3) = m' ((c.tc : Thread Cert.UpActRefIdeal.nD Cert.UpActRefIdeal.τ).loc Cert.UpActRefIdeal.main_arg3))

def preserves_ONorm_ONormIdeal : Prop :=
  True

def algebraic_ONormIdeal_ONormRefIdeal [hONormIdeal : Cert.ONormIdeal.Facts] [hONormRefIdeal : Cert.ONormRefIdeal.Facts] : Prop :=
  ∀ (m : (ℓ : Loc Cert.ONormIdeal.nD Cert.ONormIdeal.τ Cert.ONormIdeal.sig) → Buf (Elt Ideal) ℓ) (g : Dev Cert.ONormIdeal.nD → PrngReg)
    (m' : (ℓ : Loc Cert.ONormRefIdeal.nD Cert.ONormRefIdeal.τ Cert.ONormRefIdeal.sig) → Buf (Elt Ideal) ℓ) (g' : Dev Cert.ONormRefIdeal.nD → PrngReg), Pre_ONormIdeal m →
    (∀ c : Dev Cert.ONormIdeal.nD,
      m' ((c.tc : Thread Cert.ONormRefIdeal.nD Cert.ONormRefIdeal.τ).loc Cert.ONormRefIdeal.main_arg0) = m ((c.tc : Thread Cert.ONormIdeal.nD Cert.ONormIdeal.τ).loc Cert.ONormIdeal.main_arg0)
      ∧ m' ((c.tc : Thread Cert.ONormRefIdeal.nD Cert.ONormRefIdeal.τ).loc Cert.ONormRefIdeal.main_arg1) = m ((c.tc : Thread Cert.ONormIdeal.nD Cert.ONormIdeal.τ).loc Cert.ONormIdeal.main_arg1)
      ∧ m' ((c.tc : Thread Cert.ONormRefIdeal.nD Cert.ONormRefIdeal.τ).loc Cert.ONormRefIdeal.main_arg2) = m ((c.tc : Thread Cert.ONormIdeal.nD Cert.ONormIdeal.τ).loc Cert.ONormIdeal.main_arg2)
      ∧ m' ((c.tc : Thread Cert.ONormRefIdeal.nD Cert.ONormRefIdeal.τ).loc Cert.ONormRefIdeal.main_arg3) = m ((c.tc : Thread Cert.ONormIdeal.nD Cert.ONormIdeal.τ).loc Cert.ONormIdeal.main_arg3)) →
    ∃ (v0 : (c : Dev Cert.ONormIdeal.nD) → Buf (Elt Ideal) ((c.tc : Thread Cert.ONormIdeal.nD Cert.ONormIdeal.τ).loc Cert.ONormIdeal.main_v3_0)) (v1 : (c : Dev Cert.ONormIdeal.nD) → Buf (Elt Ideal) ((c.tc : Thread Cert.ONormIdeal.nD Cert.ONormIdeal.τ).loc Cert.ONormIdeal.main_v3_1)),
      θ_run (Cert.ONormIdeal.defs (F := Ideal)) (onTc (τ := Cert.ONormIdeal.τ) (Cert.ONormIdeal.main (F := Ideal))) ⟨m, fun _ => 0, g⟩ (fun r => ∀ c : Dev Cert.ONormIdeal.nD,
          r.2.mem ((c.tc : Thread Cert.ONormIdeal.nD Cert.ONormIdeal.τ).loc Cert.ONormIdeal.main_v3_0) = v0 c
          ∧ r.2.mem ((c.tc : Thread Cert.ONormIdeal.nD Cert.ONormIdeal.τ).loc Cert.ONormIdeal.main_v3_1) = v1 c
          ∧ r.2.mem ((c.tc : Thread Cert.ONormIdeal.nD Cert.ONormIdeal.τ).loc Cert.ONormIdeal.main_arg0) = m ((c.tc : Thread Cert.ONormIdeal.nD Cert.ONormIdeal.τ).loc Cert.ONormIdeal.main_arg0)
          ∧ r.2.mem ((c.tc : Thread Cert.ONormIdeal.nD Cert.ONormIdeal.τ).loc Cert.ONormIdeal.main_arg1) = m ((c.tc : Thread Cert.ONormIdeal.nD Cert.ONormIdeal.τ).loc Cert.ONormIdeal.main_arg1)
          ∧ r.2.mem ((c.tc : Thread Cert.ONormIdeal.nD Cert.ONormIdeal.τ).loc Cert.ONormIdeal.main_arg2) = m ((c.tc : Thread Cert.ONormIdeal.nD Cert.ONormIdeal.τ).loc Cert.ONormIdeal.main_arg2)
          ∧ r.2.mem ((c.tc : Thread Cert.ONormIdeal.nD Cert.ONormIdeal.τ).loc Cert.ONormIdeal.main_arg3) = m ((c.tc : Thread Cert.ONormIdeal.nD Cert.ONormIdeal.τ).loc Cert.ONormIdeal.main_arg3))
      ∧ θ_run (Cert.ONormRefIdeal.defs (F := Ideal)) (onTc (τ := Cert.ONormRefIdeal.τ) (Cert.ONormRefIdeal.main (F := Ideal))) ⟨m', fun _ => 0, g'⟩ (fun r => ∀ c : Dev Cert.ONormRefIdeal.nD,
          r.2.mem ((c.tc : Thread Cert.ONormRefIdeal.nD Cert.ONormRefIdeal.τ).loc Cert.ONormRefIdeal.main_v1) = v0 c
          ∧ r.2.mem ((c.tc : Thread Cert.ONormRefIdeal.nD Cert.ONormRefIdeal.τ).loc Cert.ONormRefIdeal.main_v15) = v1 c
          ∧ r.2.mem ((c.tc : Thread Cert.ONormRefIdeal.nD Cert.ONormRefIdeal.τ).loc Cert.ONormRefIdeal.main_arg0) = m' ((c.tc : Thread Cert.ONormRefIdeal.nD Cert.ONormRefIdeal.τ).loc Cert.ONormRefIdeal.main_arg0)
          ∧ r.2.mem ((c.tc : Thread Cert.ONormRefIdeal.nD Cert.ONormRefIdeal.τ).loc Cert.ONormRefIdeal.main_arg1) = m' ((c.tc : Thread Cert.ONormRefIdeal.nD Cert.ONormRefIdeal.τ).loc Cert.ONormRefIdeal.main_arg1)
          ∧ r.2.mem ((c.tc : Thread Cert.ONormRefIdeal.nD Cert.ONormRefIdeal.τ).loc Cert.ONormRefIdeal.main_arg2) = m' ((c.tc : Thread Cert.ONormRefIdeal.nD Cert.ONormRefIdeal.τ).loc Cert.ONormRefIdeal.main_arg2)
          ∧ r.2.mem ((c.tc : Thread Cert.ONormRefIdeal.nD Cert.ONormRefIdeal.τ).loc Cert.ONormRefIdeal.main_arg3) = m' ((c.tc : Thread Cert.ONormRefIdeal.nD Cert.ONormRefIdeal.τ).loc Cert.ONormRefIdeal.main_arg3))

def preserves_HNorm_HNormIdeal : Prop :=
  True

def algebraic_HNormIdeal_HNormRefIdeal [hHNormIdeal : Cert.HNormIdeal.Facts] [hHNormRefIdeal : Cert.HNormRefIdeal.Facts] : Prop :=
  ∀ (m : (ℓ : Loc Cert.HNormIdeal.nD Cert.HNormIdeal.τ Cert.HNormIdeal.sig) → Buf (Elt Ideal) ℓ) (g : Dev Cert.HNormIdeal.nD → PrngReg)
    (m' : (ℓ : Loc Cert.HNormRefIdeal.nD Cert.HNormRefIdeal.τ Cert.HNormRefIdeal.sig) → Buf (Elt Ideal) ℓ) (g' : Dev Cert.HNormRefIdeal.nD → PrngReg), Pre_HNormIdeal m →
    (∀ c : Dev Cert.HNormIdeal.nD,
      m' ((c.tc : Thread Cert.HNormRefIdeal.nD Cert.HNormRefIdeal.τ).loc Cert.HNormRefIdeal.main_arg0) = m ((c.tc : Thread Cert.HNormIdeal.nD Cert.HNormIdeal.τ).loc Cert.HNormIdeal.main_arg0)
      ∧ m' ((c.tc : Thread Cert.HNormRefIdeal.nD Cert.HNormRefIdeal.τ).loc Cert.HNormRefIdeal.main_arg1) = m ((c.tc : Thread Cert.HNormIdeal.nD Cert.HNormIdeal.τ).loc Cert.HNormIdeal.main_arg1)) →
    ∃ (v0 : (c : Dev Cert.HNormIdeal.nD) → Buf (Elt Ideal) ((c.tc : Thread Cert.HNormIdeal.nD Cert.HNormIdeal.τ).loc Cert.HNormIdeal.main_v1)),
      θ_run (Cert.HNormIdeal.defs (F := Ideal)) (onTc (τ := Cert.HNormIdeal.τ) (Cert.HNormIdeal.main (F := Ideal))) ⟨m, fun _ => 0, g⟩ (fun r => ∀ c : Dev Cert.HNormIdeal.nD,
          r.2.mem ((c.tc : Thread Cert.HNormIdeal.nD Cert.HNormIdeal.τ).loc Cert.HNormIdeal.main_v1) = v0 c
          ∧ r.2.mem ((c.tc : Thread Cert.HNormIdeal.nD Cert.HNormIdeal.τ).loc Cert.HNormIdeal.main_arg0) = m ((c.tc : Thread Cert.HNormIdeal.nD Cert.HNormIdeal.τ).loc Cert.HNormIdeal.main_arg0)
          ∧ r.2.mem ((c.tc : Thread Cert.HNormIdeal.nD Cert.HNormIdeal.τ).loc Cert.HNormIdeal.main_arg1) = m ((c.tc : Thread Cert.HNormIdeal.nD Cert.HNormIdeal.τ).loc Cert.HNormIdeal.main_arg1))
      ∧ θ_run (Cert.HNormRefIdeal.defs (F := Ideal)) (onTc (τ := Cert.HNormRefIdeal.τ) (Cert.HNormRefIdeal.main (F := Ideal))) ⟨m', fun _ => 0, g'⟩ (fun r => ∀ c : Dev Cert.HNormRefIdeal.nD,
          r.2.mem ((c.tc : Thread Cert.HNormRefIdeal.nD Cert.HNormRefIdeal.τ).loc Cert.HNormRefIdeal.main_v13) = v0 c
          ∧ r.2.mem ((c.tc : Thread Cert.HNormRefIdeal.nD Cert.HNormRefIdeal.τ).loc Cert.HNormRefIdeal.main_arg0) = m' ((c.tc : Thread Cert.HNormRefIdeal.nD Cert.HNormRefIdeal.τ).loc Cert.HNormRefIdeal.main_arg0)
          ∧ r.2.mem ((c.tc : Thread Cert.HNormRefIdeal.nD Cert.HNormRefIdeal.τ).loc Cert.HNormRefIdeal.main_arg1) = m' ((c.tc : Thread Cert.HNormRefIdeal.nD Cert.HNormRefIdeal.τ).loc Cert.HNormRefIdeal.main_arg1))

def preserves_Pre_PreIdeal : Prop :=
  IdealRules.named_const.Statement Cert.PreIdeal.κ "scale" .f32 0x3DD53B95#32 (((Real.sqrt 192)⁻¹ * (Real.log 2)⁻¹ : ℝ) : EReal)

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)
      ∧ m' ((c.tc : Thread Cert.PreRefIdeal.nD Cert.PreRefIdeal.τ).loc Cert.PreRefIdeal.main_arg11) = m ((c.tc : Thread Cert.PreIdeal.nD Cert.PreIdeal.τ).loc Cert.PreIdeal.main_arg11)) →
    ∃ (v0 : (c : Dev Cert.PreIdeal.nD) → Buf (Elt Ideal) ((c.tc : Thread Cert.PreIdeal.nD Cert.PreIdeal.τ).loc Cert.PreIdeal.main_v25_0)) (v1 : (c : Dev Cert.PreIdeal.nD) → Buf (Elt Ideal) ((c.tc : Thread Cert.PreIdeal.nD Cert.PreIdeal.τ).loc Cert.PreIdeal.main_v25_1)) (v2 : (c : Dev Cert.PreIdeal.nD) → Buf (Elt Ideal) ((c.tc : Thread Cert.PreIdeal.nD Cert.PreIdeal.τ).loc Cert.PreIdeal.main_v25_2)) (v3 : (c : Dev Cert.PreIdeal.nD) → Buf (Elt Ideal) ((c.tc : Thread Cert.PreIdeal.nD Cert.PreIdeal.τ).loc Cert.PreIdeal.main_v25_3)) (v4 : (c : Dev Cert.PreIdeal.nD) → Buf (Elt Ideal) ((c.tc : Thread Cert.PreIdeal.nD Cert.PreIdeal.τ).loc Cert.PreIdeal.main_v25_4)) (v5 : (c : Dev Cert.PreIdeal.nD) → Buf (Elt Ideal) ((c.tc : Thread Cert.PreIdeal.nD Cert.PreIdeal.τ).loc Cert.PreIdeal.main_v25_5)) (v6 : (c : Dev Cert.PreIdeal.nD) → Buf (Elt Ideal) ((c.tc : Thread Cert.PreIdeal.nD Cert.PreIdeal.τ).loc Cert.PreIdeal.main_v25_6)) (v7 : (c : Dev Cert.PreIdeal.nD) → Buf (Elt Ideal) ((c.tc : Thread Cert.PreIdeal.nD Cert.PreIdeal.τ).loc Cert.PreIdeal.main_v25_7)) (v8 : (c : Dev Cert.PreIdeal.nD) → Buf (Elt Ideal) ((c.tc : Thread Cert.PreIdeal.nD Cert.PreIdeal.τ).loc Cert.PreIdeal.main_v25_8)) (v9 : (c : Dev Cert.PreIdeal.nD) → Buf (Elt Ideal) ((c.tc : Thread Cert.PreIdeal.nD Cert.PreIdeal.τ).loc Cert.PreIdeal.main_v25_9)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v25_0) = v0 c
          ∧ r.2.mem ((c.tc : Thread Cert.PreIdeal.nD Cert.PreIdeal.τ).loc Cert.PreIdeal.main_v25_1) = v1 c
          ∧ r.2.mem ((c.tc : Thread Cert.PreIdeal.nD Cert.PreIdeal.τ).loc Cert.PreIdeal.main_v25_2) = v2 c
          ∧ r.2.mem ((c.tc : Thread Cert.PreIdeal.nD Cert.PreIdeal.τ).loc Cert.PreIdeal.main_v25_3) = v3 c
          ∧ r.2.mem ((c.tc : Thread Cert.PreIdeal.nD Cert.PreIdeal.τ).loc Cert.PreIdeal.main_v25_4) = v4 c
          ∧ r.2.mem ((c.tc : Thread Cert.PreIdeal.nD Cert.PreIdeal.τ).loc Cert.PreIdeal.main_v25_5) = v5 c
          ∧ r.2.mem ((c.tc : Thread Cert.PreIdeal.nD Cert.PreIdeal.τ).loc Cert.PreIdeal.main_v25_6) = v6 c
          ∧ r.2.mem ((c.tc : Thread Cert.PreIdeal.nD Cert.PreIdeal.τ).loc Cert.PreIdeal.main_v25_7) = v7 c
          ∧ r.2.mem ((c.tc : Thread Cert.PreIdeal.nD Cert.PreIdeal.τ).loc Cert.PreIdeal.main_v25_8) = v8 c
          ∧ r.2.mem ((c.tc : Thread Cert.PreIdeal.nD Cert.PreIdeal.τ).loc Cert.PreIdeal.main_v25_9) = v9 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
          ∧ r.2.mem ((c.tc : Thread Cert.PreIdeal.nD Cert.PreIdeal.τ).loc Cert.PreIdeal.main_arg11) = m ((c.tc : Thread Cert.PreIdeal.nD Cert.PreIdeal.τ).loc Cert.PreIdeal.main_arg11))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v132) = v0 c
          ∧ r.2.mem ((c.tc : Thread Cert.PreRefIdeal.nD Cert.PreRefIdeal.τ).loc Cert.PreRefIdeal.main_v133) = v1 c
          ∧ r.2.mem ((c.tc : Thread Cert.PreRefIdeal.nD Cert.PreRefIdeal.τ).loc Cert.PreRefIdeal.main_v36) = v2 c
          ∧ r.2.mem ((c.tc : Thread Cert.PreRefIdeal.nD Cert.PreRefIdeal.τ).loc Cert.PreRefIdeal.main_v134) = v3 c
          ∧ r.2.mem ((c.tc : Thread Cert.PreRefIdeal.nD Cert.PreRefIdeal.τ).loc Cert.PreRefIdeal.main_v136) = v4 c
          ∧ r.2.mem ((c.tc : Thread Cert.PreRefIdeal.nD Cert.PreRefIdeal.τ).loc Cert.PreRefIdeal.main_v138) = v5 c
          ∧ r.2.mem ((c.tc : Thread Cert.PreRefIdeal.nD Cert.PreRefIdeal.τ).loc Cert.PreRefIdeal.main_v140) = v6 c
          ∧ r.2.mem ((c.tc : Thread Cert.PreRefIdeal.nD Cert.PreRefIdeal.τ).loc Cert.PreRefIdeal.main_v75) = v7 c
          ∧ r.2.mem ((c.tc : Thread Cert.PreRefIdeal.nD Cert.PreRefIdeal.τ).loc Cert.PreRefIdeal.main_v141) = v8 c
          ∧ r.2.mem ((c.tc : Thread Cert.PreRefIdeal.nD Cert.PreRefIdeal.τ).loc Cert.PreRefIdeal.main_v142) = v9 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10)
          ∧ r.2.mem ((c.tc : Thread Cert.PreRefIdeal.nD Cert.PreRefIdeal.τ).loc Cert.PreRefIdeal.main_arg11) = m' ((c.tc : Thread Cert.PreRefIdeal.nD Cert.PreRefIdeal.τ).loc Cert.PreRefIdeal.main_arg11))

def preserves_Tables_TablesIdeal : Prop :=
  True

def algebraic_TablesIdeal_TablesRefIdeal [hTablesIdeal : Cert.TablesIdeal.Facts] [hTablesRefIdeal : Cert.TablesRefIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesRefIdeal.nD Cert.TablesRefIdeal.τ Cert.TablesRefIdeal.sig) → Buf (Elt Ideal) ℓ) (g' : Dev Cert.TablesRefIdeal.nD → PrngReg), Pre_TablesIdeal m →
    (∀ c : Dev Cert.TablesIdeal.nD,
      m' ((c.tc : Thread Cert.TablesRefIdeal.nD Cert.TablesRefIdeal.τ).loc Cert.TablesRefIdeal.main_arg0) = m ((c.tc : Thread Cert.TablesIdeal.nD Cert.TablesIdeal.τ).loc Cert.TablesIdeal.main_arg0)) →
    ∃ (v0 : (c : Dev Cert.TablesIdeal.nD) → Buf (Elt Ideal) ((c.tc : Thread Cert.TablesIdeal.nD Cert.TablesIdeal.τ).loc Cert.TablesIdeal.main_v11_0)) (v1 : (c : Dev Cert.TablesIdeal.nD) → Buf (Elt Ideal) ((c.tc : Thread Cert.TablesIdeal.nD Cert.TablesIdeal.τ).loc Cert.TablesIdeal.main_v11_1)) (v2 : (c : Dev Cert.TablesIdeal.nD) → Buf (Elt Ideal) ((c.tc : Thread Cert.TablesIdeal.nD Cert.TablesIdeal.τ).loc Cert.TablesIdeal.main_v11_2)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v11_0) = v0 c
          ∧ r.2.mem ((c.tc : Thread Cert.TablesIdeal.nD Cert.TablesIdeal.τ).loc Cert.TablesIdeal.main_v11_1) = v1 c
          ∧ r.2.mem ((c.tc : Thread Cert.TablesIdeal.nD Cert.TablesIdeal.τ).loc Cert.TablesIdeal.main_v11_2) = v2 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0))
      ∧ θ_run (Cert.TablesRefIdeal.defs (F := Ideal)) (onTc (τ := Cert.TablesRefIdeal.τ) (Cert.TablesRefIdeal.main (F := Ideal))) ⟨m', fun _ => 0, g'⟩ (fun r => ∀ c : Dev Cert.TablesRefIdeal.nD,
          r.2.mem ((c.tc : Thread Cert.TablesRefIdeal.nD Cert.TablesRefIdeal.τ).loc Cert.TablesRefIdeal.main_v17) = v0 c
          ∧ r.2.mem ((c.tc : Thread Cert.TablesRefIdeal.nD Cert.TablesRefIdeal.τ).loc Cert.TablesRefIdeal.main_v19) = v1 c
          ∧ r.2.mem ((c.tc : Thread Cert.TablesRefIdeal.nD Cert.TablesRefIdeal.τ).loc Cert.TablesRefIdeal.main_v20) = v2 c
          ∧ r.2.mem ((c.tc : Thread Cert.TablesRefIdeal.nD Cert.TablesRefIdeal.τ).loc Cert.TablesRefIdeal.main_arg0) = m' ((c.tc : Thread Cert.TablesRefIdeal.nD Cert.TablesRefIdeal.τ).loc Cert.TablesRefIdeal.main_arg0))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)
      ∧ m' ((c.tc : Thread Cert.RowsRefIdeal.nD Cert.RowsRefIdeal.τ).loc Cert.RowsRefIdeal.main_arg2) = m ((c.tc : Thread Cert.RowsIdeal.nD Cert.RowsIdeal.τ).loc Cert.RowsIdeal.main_arg2)) →
    ∃ (v0 : (c : Dev Cert.RowsIdeal.nD) → Buf (Elt Ideal) ((c.tc : Thread Cert.RowsIdeal.nD Cert.RowsIdeal.τ).loc Cert.RowsIdeal.main_v2)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v2) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v1) = v0 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1)
          ∧ r.2.mem ((c.tc : Thread Cert.RowsRefIdeal.nD Cert.RowsRefIdeal.τ).loc Cert.RowsRefIdeal.main_arg2) = m' ((c.tc : Thread Cert.RowsRefIdeal.nD Cert.RowsRefIdeal.τ).loc Cert.RowsRefIdeal.main_arg2))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)
      ∧ m' ((c.tc : Thread Cert.WGradRefIdeal.nD Cert.WGradRefIdeal.τ).loc Cert.WGradRefIdeal.main_arg2) = m ((c.tc : Thread Cert.WGradIdeal.nD Cert.WGradIdeal.τ).loc Cert.WGradIdeal.main_arg2)) →
    ∃ (v0 : (c : Dev Cert.WGradIdeal.nD) → Buf (Elt Ideal) ((c.tc : Thread Cert.WGradIdeal.nD Cert.WGradIdeal.τ).loc Cert.WGradIdeal.main_v2)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v2) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1)
          ∧ r.2.mem ((c.tc : Thread Cert.WGradIdeal.nD Cert.WGradIdeal.τ).loc Cert.WGradIdeal.main_arg2) = m ((c.tc : Thread Cert.WGradIdeal.nD Cert.WGradIdeal.τ).loc Cert.WGradIdeal.main_arg2))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v3) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1)
          ∧ r.2.mem ((c.tc : Thread Cert.WGradRefIdeal.nD Cert.WGradRefIdeal.τ).loc Cert.WGradRefIdeal.main_arg2) = m' ((c.tc : Thread Cert.WGradRefIdeal.nD Cert.WGradRefIdeal.τ).loc Cert.WGradRefIdeal.main_arg2))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v9)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v9) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v5) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)
      ∧ m' ((c.tc : Thread Cert.GdownRefIdeal.nD Cert.GdownRefIdeal.τ).loc Cert.GdownRefIdeal.main_arg2) = m ((c.tc : Thread Cert.GdownIdeal.nD Cert.GdownIdeal.τ).loc Cert.GdownIdeal.main_arg2)) →
    ∃ (v0 : (c : Dev Cert.GdownIdeal.nD) → Buf (Elt Ideal) ((c.tc : Thread Cert.GdownIdeal.nD Cert.GdownIdeal.τ).loc Cert.GdownIdeal.main_v4)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v4) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
          ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v3) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1)
          ∧ r.2.mem ((c.tc : Thread Cert.GdownRefIdeal.nD Cert.GdownRefIdeal.τ).loc Cert.GdownRefIdeal.main_arg2) = m' ((c.tc : Thread Cert.GdownRefIdeal.nD Cert.GdownRefIdeal.τ).loc Cert.GdownRefIdeal.main_arg2))

def preserves_QGrad_QGradIdeal : Prop :=
  True

def algebraic_QGradIdeal_QGradRefIdeal [hQGradIdeal : Cert.QGradIdeal.Facts] [hQGradRefIdeal : Cert.QGradRefIdeal.Facts] : Prop :=
  ∀ (m : (ℓ : Loc Cert.QGradIdeal.nD Cert.QGradIdeal.τ Cert.QGradIdeal.sig) → Buf (Elt Ideal) ℓ) (g : Dev Cert.QGradIdeal.nD → PrngReg)
    (m' : (ℓ : Loc Cert.QGradRefIdeal.nD Cert.QGradRefIdeal.τ Cert.QGradRefIdeal.sig) → Buf (Elt Ideal) ℓ) (g' : Dev Cert.QGradRefIdeal.nD → PrngReg), Pre_QGradIdeal m →
    (∀ c : Dev Cert.QGradIdeal.nD,
      m' ((c.tc : Thread Cert.QGradRefIdeal.nD Cert.QGradRefIdeal.τ).loc Cert.QGradRefIdeal.main_arg0) = m ((c.tc : Thread Cert.QGradIdeal.nD Cert.QGradIdeal.τ).loc Cert.QGradIdeal.main_arg0)
      ∧ m' ((c.tc : Thread Cert.QGradRefIdeal.nD Cert.QGradRefIdeal.τ).loc Cert.QGradRefIdeal.main_arg1) = m ((c.tc : Thread Cert.QGradIdeal.nD Cert.QGradIdeal.τ).loc Cert.QGradIdeal.main_arg1)
      ∧ m' ((c.tc : Thread Cert.QGradRefIdeal.nD Cert.QGradRefIdeal.τ).loc Cert.QGradRefIdeal.main_arg2) = m ((c.tc : Thread Cert.QGradIdeal.nD Cert.QGradIdeal.τ).loc Cert.QGradIdeal.main_arg2)
      ∧ m' ((c.tc : Thread Cert.QGradRefIdeal.nD Cert.QGradRefIdeal.τ).loc Cert.QGradRefIdeal.main_arg3) = m ((c.tc : Thread Cert.QGradIdeal.nD Cert.QGradIdeal.τ).loc Cert.QGradIdeal.main_arg3)
      ∧ m' ((c.tc : Thread Cert.QGradRefIdeal.nD Cert.QGradRefIdeal.τ).loc Cert.QGradRefIdeal.main_arg4) = m ((c.tc : Thread Cert.QGradIdeal.nD Cert.QGradIdeal.τ).loc Cert.QGradIdeal.main_arg4)
      ∧ m' ((c.tc : Thread Cert.QGradRefIdeal.nD Cert.QGradRefIdeal.τ).loc Cert.QGradRefIdeal.main_arg5) = m ((c.tc : Thread Cert.QGradIdeal.nD Cert.QGradIdeal.τ).loc Cert.QGradIdeal.main_arg5)
      ∧ m' ((c.tc : Thread Cert.QGradRefIdeal.nD Cert.QGradRefIdeal.τ).loc Cert.QGradRefIdeal.main_arg6) = m ((c.tc : Thread Cert.QGradIdeal.nD Cert.QGradIdeal.τ).loc Cert.QGradIdeal.main_arg6)
      ∧ m' ((c.tc : Thread Cert.QGradRefIdeal.nD Cert.QGradRefIdeal.τ).loc Cert.QGradRefIdeal.main_arg7) = m ((c.tc : Thread Cert.QGradIdeal.nD Cert.QGradIdeal.τ).loc Cert.QGradIdeal.main_arg7)
      ∧ m' ((c.tc : Thread Cert.QGradRefIdeal.nD Cert.QGradRefIdeal.τ).loc Cert.QGradRefIdeal.main_arg8) = m ((c.tc : Thread Cert.QGradIdeal.nD Cert.QGradIdeal.τ).loc Cert.QGradIdeal.main_arg8)) →
    ∃ (v0 : (c : Dev Cert.QGradIdeal.nD) → Buf (Elt Ideal) ((c.tc : Thread Cert.QGradIdeal.nD Cert.QGradIdeal.τ).loc Cert.QGradIdeal.main_v8_0)) (v1 : (c : Dev Cert.QGradIdeal.nD) → Buf (Elt Ideal) ((c.tc : Thread Cert.QGradIdeal.nD Cert.QGradIdeal.τ).loc Cert.QGradIdeal.main_v8_1)) (v2 : (c : Dev Cert.QGradIdeal.nD) → Buf (Elt Ideal) ((c.tc : Thread Cert.QGradIdeal.nD Cert.QGradIdeal.τ).loc Cert.QGradIdeal.main_v8_2)),
      θ_run (Cert.QGradIdeal.defs (F := Ideal)) (onTc (τ := Cert.QGradIdeal.τ) (Cert.QGradIdeal.main (F := Ideal))) ⟨m, fun _ => 0, g⟩ (fun r => ∀ c : Dev Cert.QGradIdeal.nD,
          r.2.mem ((c.tc : Thread Cert.QGradIdeal.nD Cert.QGradIdeal.τ).loc Cert.QGradIdeal.main_v8_0) = v0 c
          ∧ r.2.mem ((c.tc : Thread Cert.QGradIdeal.nD Cert.QGradIdeal.τ).loc Cert.QGradIdeal.main_v8_1) = v1 c
          ∧ r.2.mem ((c.tc : Thread Cert.QGradIdeal.nD Cert.QGradIdeal.τ).loc Cert.QGradIdeal.main_v8_2) = v2 c
          ∧ r.2.mem ((c.tc : Thread Cert.QGradIdeal.nD Cert.QGradIdeal.τ).loc Cert.QGradIdeal.main_arg0) = m ((c.tc : Thread Cert.QGradIdeal.nD Cert.QGradIdeal.τ).loc Cert.QGradIdeal.main_arg0)
          ∧ r.2.mem ((c.tc : Thread Cert.QGradIdeal.nD Cert.QGradIdeal.τ).loc Cert.QGradIdeal.main_arg1) = m ((c.tc : Thread Cert.QGradIdeal.nD Cert.QGradIdeal.τ).loc Cert.QGradIdeal.main_arg1)
          ∧ r.2.mem ((c.tc : Thread Cert.QGradIdeal.nD Cert.QGradIdeal.τ).loc Cert.QGradIdeal.main_arg2) = m ((c.tc : Thread Cert.QGradIdeal.nD Cert.QGradIdeal.τ).loc Cert.QGradIdeal.main_arg2)
          ∧ r.2.mem ((c.tc : Thread Cert.QGradIdeal.nD Cert.QGradIdeal.τ).loc Cert.QGradIdeal.main_arg3) = m ((c.tc : Thread Cert.QGradIdeal.nD Cert.QGradIdeal.τ).loc Cert.QGradIdeal.main_arg3)
          ∧ r.2.mem ((c.tc : Thread Cert.QGradIdeal.nD Cert.QGradIdeal.τ).loc Cert.QGradIdeal.main_arg4) = m ((c.tc : Thread Cert.QGradIdeal.nD Cert.QGradIdeal.τ).loc Cert.QGradIdeal.main_arg4)
          ∧ r.2.mem ((c.tc : Thread Cert.QGradIdeal.nD Cert.QGradIdeal.τ).loc Cert.QGradIdeal.main_arg5) = m ((c.tc : Thread Cert.QGradIdeal.nD Cert.QGradIdeal.τ).loc Cert.QGradIdeal.main_arg5)
          ∧ r.2.mem ((c.tc : Thread Cert.QGradIdeal.nD Cert.QGradIdeal.τ).loc Cert.QGradIdeal.main_arg6) = m ((c.tc : Thread Cert.QGradIdeal.nD Cert.QGradIdeal.τ).loc Cert.QGradIdeal.main_arg6)
          ∧ r.2.mem ((c.tc : Thread Cert.QGradIdeal.nD Cert.QGradIdeal.τ).loc Cert.QGradIdeal.main_arg7) = m ((c.tc : Thread Cert.QGradIdeal.nD Cert.QGradIdeal.τ).loc Cert.QGradIdeal.main_arg7)
          ∧ r.2.mem ((c.tc : Thread Cert.QGradIdeal.nD Cert.QGradIdeal.τ).loc Cert.QGradIdeal.main_arg8) = m ((c.tc : Thread Cert.QGradIdeal.nD Cert.QGradIdeal.τ).loc Cert.QGradIdeal.main_arg8))
      ∧ θ_run (Cert.QGradRefIdeal.defs (F := Ideal)) (onTc (τ := Cert.QGradRefIdeal.τ) (Cert.QGradRefIdeal.main (F := Ideal))) ⟨m', fun _ => 0, g'⟩ (fun r => ∀ c : Dev Cert.QGradRefIdeal.nD,
          r.2.mem ((c.tc : Thread Cert.QGradRefIdeal.nD Cert.QGradRefIdeal.τ).loc Cert.QGradRefIdeal.main_v13) = v0 c
          ∧ r.2.mem ((c.tc : Thread Cert.QGradRefIdeal.nD Cert.QGradRefIdeal.τ).loc Cert.QGradRefIdeal.main_v14) = v1 c
          ∧ r.2.mem ((c.tc : Thread Cert.QGradRefIdeal.nD Cert.QGradRefIdeal.τ).loc Cert.QGradRefIdeal.main_v15) = v2 c
          ∧ r.2.mem ((c.tc : Thread Cert.QGradRefIdeal.nD Cert.QGradRefIdeal.τ).loc Cert.QGradRefIdeal.main_arg0) = m' ((c.tc : Thread Cert.QGradRefIdeal.nD Cert.QGradRefIdeal.τ).loc Cert.QGradRefIdeal.main_arg0)
          ∧ r.2.mem ((c.tc : Thread Cert.QGradRefIdeal.nD Cert.QGradRefIdeal.τ).loc Cert.QGradRefIdeal.main_arg1) = m' ((c.tc : Thread Cert.QGradRefIdeal.nD Cert.QGradRefIdeal.τ).loc Cert.QGradRefIdeal.main_arg1)
          ∧ r.2.mem ((c.tc : Thread Cert.QGradRefIdeal.nD Cert.QGradRefIdeal.τ).loc Cert.QGradRefIdeal.main_arg2) = m' ((c.tc : Thread Cert.QGradRefIdeal.nD Cert.QGradRefIdeal.τ).loc Cert.QGradRefIdeal.main_arg2)
          ∧ r.2.mem ((c.tc : Thread Cert.QGradRefIdeal.nD Cert.QGradRefIdeal.τ).loc Cert.QGradRefIdeal.main_arg3) = m' ((c.tc : Thread Cert.QGradRefIdeal.nD Cert.QGradRefIdeal.τ).loc Cert.QGradRefIdeal.main_arg3)
          ∧ r.2.mem ((c.tc : Thread Cert.QGradRefIdeal.nD Cert.QGradRefIdeal.τ).loc Cert.QGradRefIdeal.main_arg4) = m' ((c.tc : Thread Cert.QGradRefIdeal.nD Cert.QGradRefIdeal.τ).loc Cert.QGradRefIdeal.main_arg4)
          ∧ r.2.mem ((c.tc : Thread Cert.QGradRefIdeal.nD Cert.QGradRefIdeal.τ).loc Cert.QGradRefIdeal.main_arg5) = m' ((c.tc : Thread Cert.QGradRefIdeal.nD Cert.QGradRefIdeal.τ).loc Cert.QGradRefIdeal.main_arg5)
          ∧ r.2.mem ((c.tc : Thread Cert.QGradRefIdeal.nD Cert.QGradRefIdeal.τ).loc Cert.QGradRefIdeal.main_arg6) = m' ((c.tc : Thread Cert.QGradRefIdeal.nD Cert.QGradRefIdeal.τ).loc Cert.QGradRefIdeal.main_arg6)
          ∧ r.2.mem ((c.tc : Thread Cert.QGradRefIdeal.nD Cert.QGradRefIdeal.τ).loc Cert.QGradRefIdeal.main_arg7) = m' ((c.tc : Thread Cert.QGradRefIdeal.nD Cert.QGradRefIdeal.τ).loc Cert.QGradRefIdeal.main_arg7)
          ∧ r.2.mem ((c.tc : Thread Cert.QGradRefIdeal.nD Cert.QGradRefIdeal.τ).loc Cert.QGradRefIdeal.main_arg8) = m' ((c.tc : Thread Cert.QGradRefIdeal.nD Cert.QGradRefIdeal.τ).loc Cert.QGradRefIdeal.main_arg8))

def Claim : Prop :=
  ∃ (hMixer : Cert.Mixer.Facts) (hMixerIdeal : Cert.MixerIdeal.Facts) (hMixerRefIdeal : Cert.MixerRefIdeal.Facts) (hAttn : Cert.Attn.Facts) (hAttnIdeal : Cert.AttnIdeal.Facts) (hAttnRefIdeal : Cert.AttnRefIdeal.Facts) (hDact : Cert.Dact.Facts) (hDactIdeal : Cert.DactIdeal.Facts) (hDactRefIdeal : Cert.DactRefIdeal.Facts) (hDin : Cert.Din.Facts) (hDinIdeal : Cert.DinIdeal.Facts) (hDinRefIdeal : Cert.DinRefIdeal.Facts) (hDup : Cert.Dup.Facts) (hDupIdeal : Cert.DupIdeal.Facts) (hDupRefIdeal : Cert.DupRefIdeal.Facts) (hDout : Cert.Dout.Facts) (hDoutIdeal : Cert.DoutIdeal.Facts) (hDoutRefIdeal : Cert.DoutRefIdeal.Facts) (hLoss : Cert.Loss.Facts) (hLossIdeal : Cert.LossIdeal.Facts) (hLossRefIdeal : Cert.LossRefIdeal.Facts) (hAttend : Cert.Attend.Facts) (hAttendIdeal : Cert.AttendIdeal.Facts) (hAttendRefIdeal : Cert.AttendRefIdeal.Facts) (hMixIn : Cert.MixIn.Facts) (hMixInIdeal : Cert.MixInIdeal.Facts) (hMixInRefIdeal : Cert.MixInRefIdeal.Facts) (hUpAct : Cert.UpAct.Facts) (hUpActIdeal : Cert.UpActIdeal.Facts) (hUpActRefIdeal : Cert.UpActRefIdeal.Facts) (hONorm : Cert.ONorm.Facts) (hONormIdeal : Cert.ONormIdeal.Facts) (hONormRefIdeal : Cert.ONormRefIdeal.Facts) (hHNorm : Cert.HNorm.Facts) (hHNormIdeal : Cert.HNormIdeal.Facts) (hHNormRefIdeal : Cert.HNormRefIdeal.Facts) (hPre : Cert.Pre.Facts) (hPreIdeal : Cert.PreIdeal.Facts) (hPreRefIdeal : Cert.PreRefIdeal.Facts) (hTables : Cert.Tables.Facts) (hTablesIdeal : Cert.TablesIdeal.Facts) (hTablesRefIdeal : Cert.TablesRefIdeal.Facts) (hRows : Cert.Rows.Facts) (hRowsIdeal : Cert.RowsIdeal.Facts) (hRowsRefIdeal : Cert.RowsRefIdeal.Facts) (hWGrad : Cert.WGrad.Facts) (hWGradIdeal : Cert.WGradIdeal.Facts) (hWGradRefIdeal : Cert.WGradRefIdeal.Facts) (hGup : Cert.Gup.Facts) (hGupIdeal : Cert.GupIdeal.Facts) (hGupRefIdeal : Cert.GupRefIdeal.Facts) (hGdown : Cert.Gdown.Facts) (hGdownIdeal : Cert.GdownIdeal.Facts) (hGdownRefIdeal : Cert.GdownRefIdeal.Facts) (hQGrad : Cert.QGrad.Facts) (hQGradIdeal : Cert.QGradIdeal.Facts) (hQGradRefIdeal : Cert.QGradRefIdeal.Facts) (hPre_attn_finite : Cert.Pre_attn_finite.Facts) (hPre_dact_finite : Cert.Pre_dact_finite.Facts) (hPre_attend_finite : Cert.Pre_attend_finite.Facts),
    quiescent_Mixer (hMixer := hMixer)
    ∧ quiescent_MixerIdeal (hMixerIdeal := hMixerIdeal)
    ∧ quiescent_MixerRefIdeal (hMixerRefIdeal := hMixerRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Dact (hDact := hDact)
    ∧ quiescent_DactIdeal (hDactIdeal := hDactIdeal)
    ∧ quiescent_DactIdeal_pre_dact_finite (hDactIdeal := hDactIdeal) (hPre_dact_finite := hPre_dact_finite)
    ∧ quiescent_DactRefIdeal (hDactRefIdeal := hDactRefIdeal)
    ∧ quiescent_DactRefIdeal_pre_dact_finite (hDactRefIdeal := hDactRefIdeal) (hPre_dact_finite := hPre_dact_finite)
    ∧ quiescent_Din (hDin := hDin)
    ∧ quiescent_DinIdeal (hDinIdeal := hDinIdeal)
    ∧ quiescent_DinRefIdeal (hDinRefIdeal := hDinRefIdeal)
    ∧ quiescent_Dup (hDup := hDup)
    ∧ quiescent_DupIdeal (hDupIdeal := hDupIdeal)
    ∧ quiescent_DupRefIdeal (hDupRefIdeal := hDupRefIdeal)
    ∧ quiescent_Dout (hDout := hDout)
    ∧ quiescent_DoutIdeal (hDoutIdeal := hDoutIdeal)
    ∧ quiescent_DoutRefIdeal (hDoutRefIdeal := hDoutRefIdeal)
    ∧ quiescent_Loss (hLoss := hLoss)
    ∧ quiescent_LossIdeal (hLossIdeal := hLossIdeal)
    ∧ quiescent_LossRefIdeal (hLossRefIdeal := hLossRefIdeal)
    ∧ quiescent_Attend (hAttend := hAttend)
    ∧ quiescent_AttendIdeal (hAttendIdeal := hAttendIdeal)
    ∧ quiescent_AttendIdeal_pre_attend_finite (hAttendIdeal := hAttendIdeal) (hPre_attend_finite := hPre_attend_finite)
    ∧ quiescent_AttendRefIdeal (hAttendRefIdeal := hAttendRefIdeal)
    ∧ quiescent_AttendRefIdeal_pre_attend_finite (hAttendRefIdeal := hAttendRefIdeal) (hPre_attend_finite := hPre_attend_finite)
    ∧ quiescent_MixIn (hMixIn := hMixIn)
    ∧ quiescent_MixInIdeal (hMixInIdeal := hMixInIdeal)
    ∧ quiescent_MixInRefIdeal (hMixInRefIdeal := hMixInRefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_ONorm (hONorm := hONorm)
    ∧ quiescent_ONormIdeal (hONormIdeal := hONormIdeal)
    ∧ quiescent_ONormRefIdeal (hONormRefIdeal := hONormRefIdeal)
    ∧ quiescent_HNorm (hHNorm := hHNorm)
    ∧ quiescent_HNormIdeal (hHNormIdeal := hHNormIdeal)
    ∧ quiescent_HNormRefIdeal (hHNormRefIdeal := hHNormRefIdeal)
    ∧ quiescent_Pre (hPre := hPre)
    ∧ quiescent_PreIdeal (hPreIdeal := hPreIdeal)
    ∧ quiescent_PreRefIdeal (hPreRefIdeal := hPreRefIdeal)
    ∧ quiescent_Tables (hTables := hTables)
    ∧ quiescent_TablesIdeal (hTablesIdeal := hTablesIdeal)
    ∧ quiescent_TablesRefIdeal (hTablesRefIdeal := hTablesRefIdeal)
    ∧ quiescent_Rows (hRows := hRows)
    ∧ quiescent_RowsIdeal (hRowsIdeal := hRowsIdeal)
    ∧ quiescent_RowsRefIdeal (hRowsRefIdeal := hRowsRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_Gup (hGup := hGup)
    ∧ quiescent_GupIdeal (hGupIdeal := hGupIdeal)
    ∧ quiescent_GupRefIdeal (hGupRefIdeal := hGupRefIdeal)
    ∧ quiescent_Gdown (hGdown := hGdown)
    ∧ quiescent_GdownIdeal (hGdownIdeal := hGdownIdeal)
    ∧ quiescent_GdownRefIdeal (hGdownRefIdeal := hGdownRefIdeal)
    ∧ quiescent_QGrad (hQGrad := hQGrad)
    ∧ quiescent_QGradIdeal (hQGradIdeal := hQGradIdeal)
    ∧ quiescent_QGradRefIdeal (hQGradRefIdeal := hQGradRefIdeal)
    ∧ preserves_Mixer_MixerIdeal
    ∧ algebraic_MixerIdeal_MixerRefIdeal (hMixerIdeal := hMixerIdeal) (hMixerRefIdeal := hMixerRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Dact_DactIdeal
    ∧ algebraic_DactIdeal_DactRefIdeal_pre_dact_finite (hDactIdeal := hDactIdeal) (hDactRefIdeal := hDactRefIdeal) (hPre_dact_finite := hPre_dact_finite)
    ∧ preserves_Din_DinIdeal
    ∧ algebraic_DinIdeal_DinRefIdeal (hDinIdeal := hDinIdeal) (hDinRefIdeal := hDinRefIdeal)
    ∧ preserves_Dup_DupIdeal
    ∧ algebraic_DupIdeal_DupRefIdeal (hDupIdeal := hDupIdeal) (hDupRefIdeal := hDupRefIdeal)
    ∧ preserves_Dout_DoutIdeal
    ∧ algebraic_DoutIdeal_DoutRefIdeal (hDoutIdeal := hDoutIdeal) (hDoutRefIdeal := hDoutRefIdeal)
    ∧ preserves_Loss_LossIdeal
    ∧ algebraic_LossIdeal_LossRefIdeal (hLossIdeal := hLossIdeal) (hLossRefIdeal := hLossRefIdeal)
    ∧ preserves_Attend_AttendIdeal
    ∧ algebraic_AttendIdeal_AttendRefIdeal_pre_attend_finite (hAttendIdeal := hAttendIdeal) (hAttendRefIdeal := hAttendRefIdeal) (hPre_attend_finite := hPre_attend_finite)
    ∧ preserves_MixIn_MixInIdeal
    ∧ algebraic_MixInIdeal_MixInRefIdeal (hMixInIdeal := hMixInIdeal) (hMixInRefIdeal := hMixInRefIdeal)
    ∧ preserves_UpAct_UpActIdeal
    ∧ algebraic_UpActIdeal_UpActRefIdeal (hUpActIdeal := hUpActIdeal) (hUpActRefIdeal := hUpActRefIdeal)
    ∧ preserves_ONorm_ONormIdeal
    ∧ algebraic_ONormIdeal_ONormRefIdeal (hONormIdeal := hONormIdeal) (hONormRefIdeal := hONormRefIdeal)
    ∧ preserves_HNorm_HNormIdeal
    ∧ algebraic_HNormIdeal_HNormRefIdeal (hHNormIdeal := hHNormIdeal) (hHNormRefIdeal := hHNormRefIdeal)
    ∧ preserves_Pre_PreIdeal
    ∧ algebraic_PreIdeal_PreRefIdeal (hPreIdeal := hPreIdeal) (hPreRefIdeal := hPreRefIdeal)
    ∧ preserves_Tables_TablesIdeal
    ∧ algebraic_TablesIdeal_TablesRefIdeal (hTablesIdeal := hTablesIdeal) (hTablesRefIdeal := hTablesRefIdeal)
    ∧ preserves_Rows_RowsIdeal
    ∧ algebraic_RowsIdeal_RowsRefIdeal (hRowsIdeal := hRowsIdeal) (hRowsRefIdeal := hRowsRefIdeal)
    ∧ preserves_WGrad_WGradIdeal
    ∧ algebraic_WGradIdeal_WGradRefIdeal (hWGradIdeal := hWGradIdeal) (hWGradRefIdeal := hWGradRefIdeal)
    ∧ preserves_Gup_GupIdeal
    ∧ algebraic_GupIdeal_GupRefIdeal (hGupIdeal := hGupIdeal) (hGupRefIdeal := hGupRefIdeal)
    ∧ preserves_Gdown_GdownIdeal
    ∧ algebraic_GdownIdeal_GdownRefIdeal (hGdownIdeal := hGdownIdeal) (hGdownRefIdeal := hGdownRefIdeal)
    ∧ preserves_QGrad_QGradIdeal
    ∧ algebraic_QGradIdeal_QGradRefIdeal (hQGradIdeal := hQGradIdeal) (hQGradRefIdeal := hQGradRefIdeal)
-- ==== Pre_attend_finite.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S_ : Shape := ⟨0, ![]⟩

class Facts : Prop where
  reducesTo_S2048x8x192_S_d0_1_2 : S2048x8x192.ReducesTo [0, 1, 2] S_
  h_S_ : 0 < S_.numel
  reducesTo_S2048x8x128_S_d0_1_2 : S2048x8x128.ReducesTo [0, 1, 2] S_
  reducesTo_S2048x64_S_d0_1 : S2048x64.ReducesTo [0, 1] S_

variable [Facts]

def fn {F : FTy → Type} [FloatOps F] (main_arg0 : FVec F S2048x8x192 .f32) (main_arg1 : FVec F S2048x8x128 .f32) (main_arg2 : FVec F S2048x64 .f32) (main_arg3 : FVec F S2048x8x128 .f32) (main_arg4 : IVec S2048 32) : IVec S_ 1 :=
  let main_v0 : FVec F S2048x8x192 .f32 := Host.absf main_arg0
  let main_cst : FVec F S_ .f32 := constant S_ .f32 0xFF800000#32
  let main_v1 : FVec F S_ .f32 := (fun x v => Host.reduce FloatOps.maximumf x v reducesTo_S2048x8x192_S_d0_1_2 h_S_) main_v0 main_cst
  let main_cst_0 : FVec F S_ .f32 := constant S_ .f32 0x7F800000#32
  let main_v2 : IVec S_ 1 := cmpf .olt main_v1 main_cst_0
  let main_v3 : FVec F S2048x8x128 .f32 := Host.absf main_arg1
  let main_cst_1 : FVec F S_ .f32 := constant S_ .f32 0xFF800000#32
  let main_v4 : FVec F S_ .f32 := (fun x v => Host.reduce FloatOps.maximumf x v reducesTo_S2048x8x128_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S2048x64 .f32 := Host.absf main_arg2
  let main_cst_3 : FVec F S_ .f32 := constant S_ .f32 0xFF800000#32
  let main_v8 : FVec F S_ .f32 := (fun x v => Host.reduce FloatOps.maximumf x v reducesTo_S2048x64_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Pre_attn_finite.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S_ : Shape := ⟨0, ![]⟩

class Facts : Prop where
  reducesTo_S2048x8x192_S_d0_1_2 : S2048x8x192.ReducesTo [0, 1, 2] S_
  h_S_ : 0 < S_.numel
  reducesTo_S2048x8x128_S_d0_1_2 : S2048x8x128.ReducesTo [0, 1, 2] S_
  reducesTo_S2048x64_S_d0_1 : S2048x64.ReducesTo [0, 1] S_

variable [Facts]

def fn_part1 {F : FTy → Type} [FloatOps F] (main_v14 : IVec S_ 1) (main_v15 : FVec F S2048x8x128 .f32) : IVec S_ 1 :=
  let main_cst_7 : FVec F S_ .f32 := constant S_ .f32 0xFF800000#32
  let main_v16 : FVec F S_ .f32 := (fun x v => Host.reduce FloatOps.maximumf x v reducesTo_S2048x8x128_S_d0_1_2 h_S_) main_v15 main_cst_7
  let main_cst_8 : FVec F S_ .f32 := constant S_ .f32 0x7F800000#32
  let main_v17 : IVec S_ 1 := cmpf .olt main_v16 main_cst_8
  let main_v18 : IVec S_ 1 := andi main_v14 main_v17
  main_v18

def fn {F : FTy → Type} [FloatOps F] (main_arg0 : FVec F S2048x8x192 .f32) (main_arg1 : FVec F S2048x8x128 .f32) (main_arg2 : FVec F S2048x64 .f32) (main_arg3 : FVec F S2048x8x128 .f32) (main_arg4 : IVec S2048 32) (main_arg5 : FVec F S2048x8x128 .f32) : IVec S_ 1 :=
  let main_v0 : FVec F S2048x8x192 .f32 := Host.absf main_arg0
  let main_cst : FVec F S_ .f32 := constant S_ .f32 0xFF800000#32
  let main_v1 : FVec F S_ .f32 := (fun x v => Host.reduce FloatOps.maximumf x v reducesTo_S2048x8x192_S_d0_1_2 h_S_) main_v0 main_cst
  let main_cst_0 : FVec F S_ .f32 := constant S_ .f32 0x7F800000#32
  let main_v2 : IVec S_ 1 := cmpf .olt main_v1 main_cst_0
  let main_v3 : FVec F S2048x8x128 .f32 := Host.absf main_arg1
  let main_cst_1 : FVec F S_ .f32 := constant S_ .f32 0xFF800000#32
  let main_v4 : FVec F S_ .f32 := (fun x v => Host.reduce FloatOps.maximumf x v reducesTo_S2048x8x128_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S2048x64 .f32 := Host.absf main_arg2
  let main_cst_3 : FVec F S_ .f32 := constant S_ .f32 0xFF800000#32
  let main_v8 : FVec F S_ .f32 := (fun x v => Host.reduce FloatOps.maximumf x v reducesTo_S2048x64_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S2048x8x128 .f32 := Host.absf main_arg3
  let main_cst_5 : FVec F S_ .f32 := constant S_ .f32 0xFF800000#32
  let main_v12 : FVec F S_ .f32 := (fun x v => Host.reduce FloatOps.maximumf x v reducesTo_S2048x8x128_S_d0_1_2 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  let main_v15 : FVec F S2048x8x128 .f32 := Host.absf main_arg5
  fn_part1 (F := F) main_v14 main_v15
-- ==== Pre_dact_finite.lean ====
abbrev S2048x1024 : Shape := ⟨2, ![2048, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  reducesTo_S2048x1024_S_d0_1 : S2048x1024.ReducesTo [0, 1] S_
  h_S_ : 0 < S_.numel
  reducesTo_S1024x5632_S_d0_1 : S1024x5632.ReducesTo [0, 1] S_
  reducesTo_S2816x1024_S_d0_1 : S2816x1024.ReducesTo [0, 1] S_

variable [Facts]

def fn {F : FTy → Type} [FloatOps F] (main_arg0 : FVec F S2048x1024 .f32) (main_arg1 : FVec F S1024x5632 .f32) (main_arg2 : FVec F S3x2816 .f32) (main_arg3 : FVec F S2816 .f32) (main_arg4 : FVec F S2816x1024 .f32) (main_arg5 : FVec F S2048x1024 .f32) : IVec S_ 1 :=
  let main_v0 : FVec F S2048x1024 .f32 := Host.absf main_arg0
  let main_cst : FVec F S_ .f32 := constant S_ .f32 0xFF800000#32
  let main_v1 : FVec F S_ .f32 := (fun x v => Host.reduce FloatOps.maximumf x v reducesTo_S2048x1024_S_d0_1 h_S_) main_v0 main_cst
  let main_cst_0 : FVec F S_ .f32 := constant S_ .f32 0x7F800000#32
  let main_v2 : IVec S_ 1 := cmpf .olt main_v1 main_cst_0
  let main_v3 : FVec F S1024x5632 .f32 := Host.absf main_arg1
  let main_cst_1 : FVec F S_ .f32 := constant S_ .f32 0xFF800000#32
  let main_v4 : FVec F S_ .f32 := (fun x v => Host.reduce FloatOps.maximumf x v reducesTo_S1024x5632_S_d0_1 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S2816x1024 .f32 := Host.absf main_arg4
  let main_cst_3 : FVec F S_ .f32 := constant S_ .f32 0xFF800000#32
  let main_v8 : FVec F S_ .f32 := (fun x v => Host.reduce FloatOps.maximumf x v reducesTo_S2816x1024_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  let main_v11 : FVec F S2048x1024 .f32 := Host.absf main_arg5
  let main_cst_5 : FVec F S_ .f32 := constant S_ .f32 0xFF800000#32
  let main_v12 : FVec F S_ .f32 := (fun x v => Host.reduce FloatOps.maximumf x v reducesTo_S2048x1024_S_d0_1 h_S_) main_v11 main_cst_5
  let main_cst_6 : FVec F S_ .f32 := constant S_ .f32 0x7F800000#32
  let main_v13 : IVec S_ 1 := cmpf .olt main_v12 main_cst_6
  let main_v14 : IVec S_ 1 := andi main_v10 main_v13
  main_v14
-- ==== Mixer.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S256x1024 : Shape := ⟨2, ![256, 1024]⟩
abbrev S16x1024 : Shape := ⟨2, ![16, 1024]⟩
abbrev S256x3072 : Shape := ⟨2, ![256, 3072]⟩
abbrev S272x1024 : Shape := ⟨2, ![272, 1024]⟩
abbrev S1x1024 : Shape := ⟨2, ![1, 1024]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | .hbm, ⟨6, _⟩ => ⟨S1024x3072, .bf16⟩
  | .hbm, ⟨7, _⟩ => ⟨S2048x3072, .f32⟩
  | .hbm, ⟨8, _⟩ => ⟨S2048x3072, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S1024x1024, .bf16⟩
  | .hbm, ⟨14, _⟩ => ⟨S2048x3072, .bf16⟩
  | .hbm, ⟨15, _⟩ => ⟨S3x1024, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .bf16⟩
  | .local _ .vmem, ⟨5, _⟩ => ⟨S256x1024, .bf16⟩
  | .local _ .vmem, ⟨6, _⟩ => ⟨S256x1024, .bf16⟩
  | .local _ .vmem, ⟨7, _⟩ => ⟨S16x1024, .bf16⟩
  | .local _ .vmem, ⟨8, _⟩ => ⟨S16x1024, .bf16⟩
  | .local _ .vmem, ⟨9, _⟩ => ⟨S256x1024, .bf16⟩
  | .local _ .vmem, ⟨10, _⟩ => ⟨S256x1024, .bf16⟩
  | .local _ .vmem, ⟨11, _⟩ => ⟨S16x1024, .bf16⟩
  | .local _ .vmem, ⟨12, _⟩ => ⟨S16x1024, .bf16⟩
  | .local _ .vmem, ⟨13, _⟩ => ⟨S256x1024, .bf16⟩
  | .local _ .vmem, ⟨14, _⟩ => ⟨S256x1024, .bf16⟩
  | .local _ .vmem, ⟨15, _⟩ => ⟨S16x1024, .bf16⟩
  | .local _ .vmem, ⟨16, _⟩ => ⟨S16x1024, .bf16⟩
  | .local _ .vmem, ⟨17, _⟩ => ⟨S3x1024, .f32⟩
  | .local _ .vmem, ⟨18, _⟩ => ⟨S256x3072, .bf16⟩
  | .local _ .vmem, ⟨19, _⟩ => ⟨S256x3072, .bf16⟩
  | .local _ .vmem, ⟨20, _⟩ => ⟨S3x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_28 : BitVec 32 := 0#32
  let v91 : BitVec 1 := Scalar.cmpi .eq arg0 c0_i32_28
  let v92 : BitVec 32 := Scalar.extui v91
  let c0_i32_29 : BitVec 32 := 0#32
  let v93 : BitVec 1 := Scalar.cmpi .ne v92 c0_i32_29
  v93

def k0_cond2 (i : grid0.Coords) : BitVec 1 :=
  let arg0 : BitVec 32 := BitVec.ofNat 32 (i 0).val
  let c0_i32_30 : BitVec 32 := 0#32
  let v94 : BitVec 1 := Scalar.cmpi .sgt arg0 c0_i32_30
  let v95 : BitVec 32 := Scalar.extui v94
  let c0_i32_31 : BitVec 32 := 0#32
  let v96 : BitVec 1 := Scalar.cmpi .ne v95 c0_i32_31
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixerRefIdeal.lean ====
abbrev S2048x1024 : Shape := ⟨2, ![2048, 1024]⟩
abbrev S1024x3072 : Shape := ⟨2, ![1024, 3072]⟩
abbrev S3x1024 : Shape := ⟨2, ![3, 1024]⟩
abbrev S1024x1024 : Shape := ⟨2, ![1024, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x1024, .f32⟩
  | .hbm, ⟨3, _⟩ => ⟨S1024x1024, .f32⟩
  | .hbm, ⟨4, _⟩ => ⟨S2048x1024, .f32⟩
  | .hbm, ⟨5, _⟩ => ⟨S2048x3072, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2050x1024, .f32⟩
  | .hbm, ⟨13, _⟩ => ⟨S_, .f32⟩
  | .hbm, ⟨14, _⟩ => ⟨S2x1024, .f32⟩
  | .hbm, ⟨15, _⟩ => ⟨S2048x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S_, .f32⟩
  | .hbm, ⟨52, _⟩ => ⟨S2050x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S_, .f32⟩
  | .hbm, ⟨66, _⟩ => ⟨S2050x1024, .f32⟩
  | .hbm, ⟨67, _⟩ => ⟨S2050x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S_, .f32⟩
  | .hbm, ⟨81, _⟩ => ⟨S2050x1024, .f32⟩
  | .hbm, ⟨82, _⟩ => ⟨S2050x1024, .f32⟩
  | .hbm, ⟨83, _⟩ => ⟨S2x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x3072, .f32⟩
  | .hbm, ⟨88, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Attn.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S1x2048x64 : Shape := ⟨3, ![1, 2048, 64]⟩
abbrev S8x2048x64 : Shape := ⟨3, ![8, 2048, 64]⟩
abbrev S2048x8x64 : Shape := ⟨3, ![2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x128 : Shape := ⟨2, ![2048, 128]⟩
abbrev S2048x8x256 : Shape := ⟨3, ![2048, 8, 256]⟩
abbrev S8x2048x256 : Shape := ⟨3, ![8, 2048, 256]⟩
abbrev S2048x1024 : Shape := ⟨2, ![2048, 1024]⟩
abbrev S8x1x2048 : Shape := ⟨3, ![8, 1, 2048]⟩
abbrev S8x2048x128 : Shape := ⟨3, ![8, 2048, 128]⟩
abbrev S2x2048x256 : Shape := ⟨3, ![2, 2048, 256]⟩
abbrev S512x256 : Shape := ⟨2, ![512, 256]⟩
abbrev S512x128 : Shape := ⟨2, ![512, 128]⟩
abbrev S2048x256 : Shape := ⟨2, ![2048, 256]⟩
abbrev S2x1x2048 : Shape := ⟨3, ![2, 1, 2048]⟩
abbrev S2x512x128 : Shape := ⟨3, ![2, 512, 128]⟩
abbrev S512 : Shape := ⟨1, ![512]⟩
abbrev S512x1 : Shape := ⟨2, ![512, 1]⟩
abbrev S128x512 : Shape := ⟨2, ![128, 512]⟩
abbrev S1x512 : Shape := ⟨2, ![1, 512]⟩
abbrev S1x1x512 : Shape := ⟨3, ![1, 1, 512]⟩
abbrev S1x512x256 : Shape := ⟨3, ![1, 512, 256]⟩
abbrev S512x512 : Shape := ⟨2, ![512, 512]⟩
abbrev S1x512x128 : Shape := ⟨3, ![1, 512, 128]⟩
abbrev S1x2048x256 : Shape := ⟨3, ![1, 2048, 256]⟩
abbrev S1x2048x128 : Shape := ⟨3, ![1, 2048, 128]⟩

abbrev nBuf : Space → Nat
  | .hbm => 186
  | .vmem => 27
  | .smem => 0
  | _ => 0

abbrev hbmTy0_0 (i : Nat) : BufTy := match i % 128 with
  | 0 => ⟨S2048x8x192, .f32⟩
  | 1 => ⟨S2048x8x128, .f32⟩
  | 2 => ⟨S2048x64, .f32⟩
  | 3 => ⟨S2048x8x128, .f32⟩
  | 4 => ⟨S2048, .i32⟩
  | 5 => ⟨S2048x8x128, .f32⟩
  | 6 => ⟨S1x2048x64, .f32⟩
  | 7 => ⟨S8x2048x64, .f32⟩
  | 8 => ⟨S2048x8x128, .f32⟩
  | 9 => ⟨S2048x8x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S2048x1x32, .f32⟩
  | 29 => ⟨S2048x1x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x64, .f32⟩
  | 43 => ⟨S8x2048x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S2048, .i32⟩
  | 50 => ⟨S_, .i32⟩
  | 51 => ⟨S_, .i32⟩
  | 52 => ⟨S2048, .i32⟩
  | 53 => ⟨S2048, .i32⟩
  | 54 => ⟨S2048, .i32⟩
  | 55 => ⟨S_, .i32⟩
  | 56 => ⟨S2048, .i32⟩
  | 57 => ⟨S2048, .i1⟩
  | 58 => ⟨S2048, .i32⟩
  | 59 => ⟨S2048, .i32⟩
  | 60 => ⟨S_, .i32⟩
  | 61 => ⟨S2048, .i32⟩
  | 62 => ⟨S2048, .i1⟩
  | 63 => ⟨S2048, .i1⟩
  | 64 => ⟨S_, .i32⟩
  | 65 => ⟨S2048, .i32⟩
  | 66 => ⟨S2048, .i32⟩
  | 67 => ⟨S2048, .i32⟩
  | 68 => ⟨S1x2048, .i32⟩
  | 69 => ⟨S2048x1, .i32⟩
  | 70 => ⟨S2048x2048, .i32⟩
  | 71 => ⟨S2048x2048, .i32⟩
  | 72 => ⟨S2048x2048, .i1⟩
  | 73 => ⟨S1x2048x2048, .i1⟩
  | 74 => ⟨S_, .f32⟩
  | 75 => ⟨S_, .f32⟩
  | 76 => ⟨S8x2048x2048, .i1⟩
  | 77 => ⟨S8x2048x2048, .f32⟩
  | 78 => ⟨S8x2048x2048, .f32⟩
  | 79 => ⟨S_, .f32⟩
  | 80 => ⟨S8x2048, .f32⟩
  | 81 => ⟨S8x2048x1, .f32⟩
  | 82 => ⟨S8x2048x2048, .f32⟩
  | 83 => ⟨S8x2048x2048, .f32⟩
  | 84 => ⟨S8x2048x2048, .f32⟩
  | 85 => ⟨S_, .f32⟩
  | 86 => ⟨S8x2048, .f32⟩
  | 87 => ⟨S8x2048x1, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x128x2048, .f32⟩
  | 94 => ⟨S2048x8x128, .f32⟩
  | 95 => ⟨S_, .f32⟩
  | 96 => ⟨S_, .f32⟩
  | 97 => ⟨S8x2048x1, .f32⟩
  | 98 => ⟨S8x2048x1, .f32⟩
  | 99 => ⟨S8x2048x1, .f32⟩
  | 100 => ⟨S8x2048x1, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S2048, .f32⟩
  | 112 => ⟨S2048x1, .f32⟩
  | 113 => ⟨S1x32, .f32⟩
  | 114 => ⟨S2048x32, .f32⟩
  | 115 => ⟨S2048x32, .f32⟩
  | 116 => ⟨S2048x32, .f32⟩
  | 117 => ⟨S2048x32, .f32⟩
  | 118 => ⟨S2048x32, .f32⟩
  | 119 => ⟨S_, .f32⟩
  | 120 => ⟨S2048x32, .f32⟩
  | 121 => ⟨S_, .f32⟩
  | 122 => ⟨S2048x64, .f32⟩
  | 123 => ⟨S2048x128, .f32⟩
  | 124 => ⟨S2048x32, .f32⟩
  | 125 => ⟨S2048x128, .f32⟩
  | 126 => ⟨S2048x128, .f32⟩
  | 127 => ⟨S2048x8x128, .f32⟩
  | _ => ⟨S2048x8x192, .f32⟩

abbrev hbmTy0_1 (i : Nat) : BufTy := match i % 128 with
  | 0 => ⟨S2048x8x64, .f32⟩
  | 1 => ⟨S32, .f32⟩
  | 2 => ⟨S_, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S2048, .f32⟩
  | 12 => ⟨S2048x1, .f32⟩
  | 13 => ⟨S1x32, .f32⟩
  | 14 => ⟨S2048x32, .f32⟩
  | 15 => ⟨S2048x32, .f32⟩
  | 16 => ⟨S2048x32, .f32⟩
  | 17 => ⟨S2048x32, .f32⟩
  | 18 => ⟨S2048x32, .f32⟩
  | 19 => ⟨S2048x1x32, .f32⟩
  | 20 => ⟨S2048x1x32, .f32⟩
  | 21 => ⟨S2048x8x32, .f32⟩
  | 22 => ⟨S2048x8x32, .f32⟩
  | 23 => ⟨S2048x8x32, .f32⟩
  | 24 => ⟨S2048x8x32, .f32⟩
  | 25 => ⟨S2048x8x32, .f32⟩
  | 26 => ⟨S2048x8x32, .f32⟩
  | 27 => ⟨S2048x8x32, .f32⟩
  | 28 => ⟨S2048x8x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x64, .f32⟩
  | 34 => ⟨S_, .f32⟩
  | 35 => ⟨S2048x8x64, .f32⟩
  | 36 => ⟨S2048x8x256, .f32⟩
  | 37 => ⟨S_, .f32⟩
  | 38 => ⟨S_, .f32⟩
  | 39 => ⟨S2048x8x256, .f32⟩
  | 40 => ⟨S2048x8x256, .f32⟩
  | 41 => ⟨S2048x8x256, .bf16⟩
  | 42 => ⟨S8x2048x256, .bf16⟩
  | 43 => ⟨S2048x1024, .f32⟩
  | 44 => ⟨S2048x1024, .bf16⟩
  | 45 => ⟨S2048x128, .f32⟩
  | 46 => ⟨S2048x128, .bf16⟩
  | 47 => ⟨S2048x1024, .f32⟩
  | 48 => ⟨S2048x1024, .bf16⟩
  | 49 => ⟨S2048x1024, .f32⟩
  | 50 => ⟨S2048x1024, .bf16⟩
  | 51 => ⟨S2048x1024, .f32⟩
  | 52 => ⟨S2048x1024, .bf16⟩
  | 53 => ⟨S8x1x2048, .f32⟩
  | 54 => ⟨S8x2048x256, .bf16⟩
  | 55 => ⟨S2048x1024, .bf16⟩
  | 56 => ⟨S8x2048x128, .f32⟩
  | 57 => ⟨S2048x1024, .bf16⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | .local _ .vmem, ⟨0, _⟩ => ⟨S2x2048x256, .bf16⟩
  | .local _ .vmem, ⟨1, _⟩ => ⟨S2x2048x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2x1x2048, .f32⟩
  | .local _ .vmem, ⟨13, _⟩ => ⟨S2x1x2048, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2x2048x256, .bf16⟩
  | .local _ .vmem, ⟨18, _⟩ => ⟨S2x2048x256, .bf16⟩
  | .local _ .vmem, ⟨19, _⟩ => ⟨S512x256, .bf16⟩
  | .local _ .vmem, ⟨20, _⟩ => ⟨S512x256, .bf16⟩
  | .local _ .vmem, ⟨21, _⟩ => ⟨S2x512x128, .f32⟩
  | .local _ .vmem, ⟨22, _⟩ => ⟨S2x512x128, .f32⟩
  | .local _ .vmem, ⟨23, _⟩ => ⟨S512x256, .bf16⟩
  | .local _ .vmem, ⟨24, _⟩ => ⟨S512x256, .bf16⟩
  | .local _ .vmem, ⟨25, _⟩ => ⟨S2x2048x256, .f32⟩
  | .local _ .vmem, ⟨26, _⟩ => ⟨S2x1x2048, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_3 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_6 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_7 : Ref sig .tc := ⟨.hbm, 102, rfl⟩
abbrev main_v68 : Ref sig .tc := ⟨.hbm, 103, rfl⟩
abbrev main_v69 : Ref sig .tc := ⟨.hbm, 104, rfl⟩
abbrev main_cst_8 : Ref sig .tc := ⟨.hbm, 105, rfl⟩
abbrev main_v70 : Ref sig .tc := ⟨.hbm, 106, rfl⟩
abbrev main_v71 : Ref sig .tc := ⟨.hbm, 107, rfl⟩
abbrev main_cst_9 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_10 : Ref sig .tc := ⟨.hbm, 119, rfl⟩
abbrev main_v82 : Ref sig .tc := ⟨.hbm, 120, rfl⟩
abbrev main_cst_11 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_12 : Ref sig .tc := ⟨.hbm, 130, rfl⟩
abbrev main_v91 : Ref sig .tc := ⟨.hbm, 131, rfl⟩
abbrev main_v92 : Ref sig .tc := ⟨.hbm, 132, rfl⟩
abbrev main_cst_13 : Ref sig .tc := ⟨.hbm, 133, rfl⟩
abbrev main_v93 : Ref sig .tc := ⟨.hbm, 134, rfl⟩
abbrev main_v94 : Ref sig .tc := ⟨.hbm, 135, rfl⟩
abbrev main_cst_14 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_15 : Ref sig .tc := ⟨.hbm, 162, rfl⟩
abbrev main_v120 : Ref sig .tc := ⟨.hbm, 163, rfl⟩
abbrev main_v121 : Ref sig .tc := ⟨.hbm, 164, rfl⟩
abbrev main_cst_16 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138_0 : Ref sig .tc := ⟨.hbm, 182, rfl⟩
abbrev main_v138_1 : Ref sig .tc := ⟨.hbm, 183, rfl⟩
abbrev main_v138_2 : Ref sig .tc := ⟨.hbm, 184, rfl⟩
abbrev main_v138_3 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v17 : BitVec 32 := Scalar.muli arg1 c512_i32
  v17
def k0_off1 (i : grid0.Coords) : Fin 3 → Nat :=
  let c0_10 : Index := 0#32
  let arg1 : BitVec 32 := BitVec.ofNat 32 (i 1).val
  let c512_i32 : BitVec 32 := 512#32
  let v17 : BitVec 32 := Scalar.muli arg1 c512_i32
  let v18 : BitVec 32 := v17
  let v19 : Index := Scalar.indexCast v18
  let c0_11 : Index := 0#32
  ![0, v19.toNat, 0]
def k0_off2 (i : grid0.Coords) : Fin 3 → Nat :=
  let c1 : Index := 1#32
  let arg1 : BitVec 32 := BitVec.ofNat 32 (i 1).val
  let c512_i32 : BitVec 32 := 512#32
  let v17 : BitVec 32 := Scalar.muli arg1 c512_i32
  let v18 : BitVec 32 := v17
  let v22 : Index := Scalar.indexCast v18
  let c0_12 : Index := 0#32
  ![1, v22.toNat, 0]
def k0_off3 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v25 : Index := Scalar.indexCast v18
  let c0_13 : Index := 0#32
  ![v25.toNat, 0]
def k0_off4 (i : grid0.Coords) : Fin 2 → Nat :=
  let arg1 : BitVec 32 := BitVec.ofNat 32 (i 1).val
  let c512_i32 : BitVec 32 := 512#32
  let v17 : BitVec 32 := Scalar.muli arg1 c512_i32
  let v18 : BitVec 32 := v17
  let v28 : Index := Scalar.indexCast v18
  let c128_14 : Index := 128#32
  ![v28.toNat, 128]
def k0_off5 (i : grid0.Coords) : Fin 3 → Nat :=
  let c0_21 : Index := 0#32
  let c0_22 : Index := 0#32
  let arg1 : BitVec 32 := BitVec.ofNat 32 (i 1).val
  let c512_i32 : BitVec 32 := 512#32
  let v17 : BitVec 32 := Scalar.muli arg1 c512_i32
  let v18 : BitVec 32 := v17
  let v44 : Index := Scalar.indexCast v18
  ![0, 0, v44.toNat]
def k0_off6 (i : grid0.Coords) : Fin 3 → Nat :=
  let c1_35 : Index := 1#32
  let c0_36 : Index := 0#32
  let arg1 : BitVec 32 := BitVec.ofNat 32 (i 1).val
  let c512_i32 : BitVec 32 := 512#32
  let v17 : BitVec 32 := Scalar.muli arg1 c512_i32
  let v18 : BitVec 32 := v17
  let v80 : Index := Scalar.indexCast v18
  ![1, 0, v80.toNat]
@[reducible] def k0_t1_loop (i : grid0.Coords) : Scf.Loop 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_47 : BitVec 32 := 1#32
  ⟨v107, v112, c1_i32_47⟩
def k0_mult2 (i : grid0.Coords) (k0_t1 : Fin (k0_t1_loop i).trips) : BitVec 32 :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  v140
def k0_off7 (i : grid0.Coords) (k0_t1 : Fin (k0_t1_loop i).trips) : Fin 3 → Nat :=
  let c0_67 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v142 : Index := Scalar.indexCast v141
  let c0_68 : Index := 0#32
  ![0, v142.toNat, 0]
def k0_off8 (i : grid0.Coords) (k0_t1 : Fin (k0_t1_loop i).trips) : Fin 3 → Nat :=
  let c1_69 : Index := 1#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v145 : Index := Scalar.indexCast v141
  let c0_70 : Index := 0#32
  ![1, v145.toNat, 0]
def k0_off9 (i : grid0.Coords) (k0_t1 : Fin (k0_t1_loop i).trips) : Fin 2 → Nat :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v148 : Index := Scalar.indexCast v141
  let c0_71 : Index := 0#32
  ![v148.toNat, 0]
def k0_off10 (i : grid0.Coords) (k0_t1 : Fin (k0_t1_loop i).trips) : Fin 2 → Nat :=
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v151 : Index := Scalar.indexCast v141
  let c128_72 : Index := 128#32
  ![v151.toNat, 128]
def k0_off11 (i : grid0.Coords) (k0_t1 : Fin (k0_t1_loop i).trips) : Fin 3 → Nat :=
  let c0_77 : Index := 0#32
  let c0_78 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v158 : Index := Scalar.indexCast v141
  ![0, 0, v158.toNat]
def k0_off12 (i : grid0.Coords) (k0_t1 : Fin (k0_t1_loop i).trips) : Fin 3 → Nat :=
  let c1_88 : Index := 1#32
  let c0_89 : Index := 0#32
  let arg1 : BitVec 32 := BitVec.ofNat 32 (i 1).val
  let c1_i32 : BitVec 32 := 1#32
  let v107 : BitVec 32 := Scalar.addi arg1 c1_i32
  let c1_i32_47 : BitVec 32 := 1#32
  let arg18 : BitVec 32 := Scf.iv v107 c1_i32_47 k0_t1
  let c512_i32_66 : BitVec 32 := 512#32
  let v140 : BitVec 32 := Scalar.muli arg18 c512_i32_66
  let v141 : BitVec 32 := v140
  let v185 : Index := Scalar.indexCast v141
  ![1, 0, v185.toNat]
@[reducible] def k0_t2_loop (i : grid0.Coords) : Scf.Loop 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let v109 : BitVec 32 := Scalar.addi v107 v108
  let c1_i32_48 : BitVec 32 := 1#32
  ⟨v112, v109, c1_i32_48⟩
def k0_mult3 (i : grid0.Coords) (k0_t2 : Fin (k0_t2_loop i).trips) : BitVec 32 :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  v140
def k0_off13 (i : grid0.Coords) (k0_t2 : Fin (k0_t2_loop i).trips) : Fin 3 → Nat :=
  let c0_67 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v142 : Index := Scalar.indexCast v141
  let c0_68 : Index := 0#32
  ![0, v142.toNat, 0]
def k0_off14 (i : grid0.Coords) (k0_t2 : Fin (k0_t2_loop i).trips) : Fin 3 → Nat :=
  let c1_69 : Index := 1#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v145 : Index := Scalar.indexCast v141
  let c0_70 : Index := 0#32
  ![1, v145.toNat, 0]
def k0_off15 (i : grid0.Coords) (k0_t2 : Fin (k0_t2_loop i).trips) : Fin 2 → Nat :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v148 : Index := Scalar.indexCast v141
  let c0_71 : Index := 0#32
  ![v148.toNat, 0]
def k0_off16 (i : grid0.Coords) (k0_t2 : Fin (k0_t2_loop i).trips) : Fin 2 → Nat :=
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v151 : Index := Scalar.indexCast v141
  let c128_72 : Index := 128#32
  ![v151.toNat, 128]
def k0_off17 (i : grid0.Coords) (k0_t2 : Fin (k0_t2_loop i).trips) : Fin 3 → Nat :=
  let c0_77 : Index := 0#32
  let c0_78 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v158 : Index := Scalar.indexCast v141
  ![0, 0, v158.toNat]
def k0_off18 (i : grid0.Coords) (k0_t2 : Fin (k0_t2_loop i).trips) : Fin 3 → Nat :=
  let c1_88 : Index := 1#32
  let c0_89 : Index := 0#32
  let arg1 : BitVec 32 := BitVec.ofNat 32 (i 1).val
  let c1_i32 : BitVec 32 := 1#32
  let v107 : BitVec 32 := Scalar.addi arg1 c1_i32
  let c4_i32 : BitVec 32 := 4#32
  let v108 : BitVec 32 := Scalar.subi c4_i32 v107
  let c1_i32_46 : BitVec 32 := 1#32
  let v110 : BitVec 32 := Scalar.divsi v108 c1_i32_46
  let v111 : BitVec 32 := Scalar.muli v110 c1_i32_46
  let v112 : BitVec 32 := Scalar.addi v107 v111
  let c1_i32_48 : BitVec 32 := 1#32
  let arg18 : BitVec 32 := Scf.iv v112 c1_i32_48 k0_t2
  let c512_i32_66 : BitVec 32 := 512#32
  let v140 : BitVec 32 := Scalar.muli arg18 c512_i32_66
  let v141 : BitVec 32 := v140
  let v185 : Index := Scalar.indexCast v141
  ![1, 0, v185.toNat]
def k0_cond2 (i : grid0.Coords) : BitVec 1 :=
  let arg1 : BitVec 32 := BitVec.ofNat 32 (i 1).val
  let c3_i32 : BitVec 32 := 3#32
  let v137 : BitVec 1 := Scalar.cmpi .eq arg1 c3_i32
  let v138 : BitVec 32 := Scalar.extui v137
  let c0_i32_65 : BitVec 32 := 0#32
  let v139 : BitVec 1 := Scalar.cmpi .ne v138 c0_i32_65
  v139

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== AttnIdeal.lean ====
variable {F : FTy → Type} [FloatOps F] [Named F]
def κ : String → Option EReal := fun
  | "ln2" => some ((Real.log 2 : ℝ) : EReal)
  | "mask" => some ⊥
  | _ => none
-- ==== AttnRefIdeal.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S1x2048x64 : Shape := ⟨3, ![1, 2048, 64]⟩
abbrev S8x2048x64 : Shape := ⟨3, ![8, 2048, 64]⟩
abbrev S2048x8x64 : Shape := ⟨3, ![2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x128 : Shape := ⟨3, ![8, 2048, 128]⟩
abbrev S8x2048x192 : Shape := ⟨3, ![8, 2048, 192]⟩
abbrev S8x2048x256 : Shape := ⟨3, ![8, 2048, 256]⟩
abbrev S2048x1024 : Shape := ⟨2, ![2048, 1024]⟩

abbrev nBuf : Space → Nat
  | .hbm => 187
  | .vmem => 0
  | .smem => 0
  | _ => 0

abbrev hbmTy0_0 (i : Nat) : BufTy := match i % 128 with
  | 0 => ⟨S2048x8x192, .f32⟩
  | 1 => ⟨S2048x8x128, .f32⟩
  | 2 => ⟨S2048x64, .f32⟩
  | 3 => ⟨S2048x8x128, .f32⟩
  | 4 => ⟨S2048, .i32⟩
  | 5 => ⟨S2048x8x128, .f32⟩
  | 6 => ⟨S1x2048x64, .f32⟩
  | 7 => ⟨S8x2048x64, .f32⟩
  | 8 => ⟨S2048x8x128, .f32⟩
  | 9 => ⟨S2048x8x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .f32⟩
  | 21 => ⟨S2048x1, .f32⟩
  | 22 => ⟨S1x32, .f32⟩
  | 23 => ⟨S2048x32, .f32⟩
  | 24 => ⟨S2048x32, .f32⟩
  | 25 => ⟨S2048x32, .f32⟩
  | 26 => ⟨S2048x32, .f32⟩
  | 27 => ⟨S2048x32, .f32⟩
  | 28 => ⟨S2048x1x32, .f32⟩
  | 29 => ⟨S2048x1x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x32, .f32⟩
  | 42 => ⟨S2048x8x64, .f32⟩
  | 43 => ⟨S8x2048x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S2048, .i32⟩
  | 50 => ⟨S_, .i32⟩
  | 51 => ⟨S_, .i32⟩
  | 52 => ⟨S2048, .i32⟩
  | 53 => ⟨S2048, .i32⟩
  | 54 => ⟨S2048, .i32⟩
  | 55 => ⟨S_, .i32⟩
  | 56 => ⟨S2048, .i32⟩
  | 57 => ⟨S2048, .i1⟩
  | 58 => ⟨S2048, .i32⟩
  | 59 => ⟨S2048, .i32⟩
  | 60 => ⟨S_, .i32⟩
  | 61 => ⟨S2048, .i32⟩
  | 62 => ⟨S2048, .i1⟩
  | 63 => ⟨S2048, .i1⟩
  | 64 => ⟨S_, .i32⟩
  | 65 => ⟨S2048, .i32⟩
  | 66 => ⟨S2048, .i32⟩
  | 67 => ⟨S2048, .i32⟩
  | 68 => ⟨S1x2048, .i32⟩
  | 69 => ⟨S2048x1, .i32⟩
  | 70 => ⟨S2048x2048, .i32⟩
  | 71 => ⟨S2048x2048, .i32⟩
  | 72 => ⟨S2048x2048, .i1⟩
  | 73 => ⟨S1x2048x2048, .i1⟩
  | 74 => ⟨S_, .f32⟩
  | 75 => ⟨S_, .f32⟩
  | 76 => ⟨S8x2048x2048, .i1⟩
  | 77 => ⟨S8x2048x2048, .f32⟩
  | 78 => ⟨S8x2048x2048, .f32⟩
  | 79 => ⟨S_, .f32⟩
  | 80 => ⟨S8x2048x2048, .f32⟩
  | 81 => ⟨S_, .f32⟩
  | 82 => ⟨S8x2048, .f32⟩
  | 83 => ⟨S8x2048x1, .f32⟩
  | 84 => ⟨S8x2048x2048, .f32⟩
  | 85 => ⟨S8x2048x2048, .i1⟩
  | 86 => ⟨S8x2048x2048, .f32⟩
  | 87 => ⟨S_, .f32⟩
  | 88 => ⟨S8x2048, .f32⟩
  | 89 => ⟨S_, .f32⟩
  | 90 => ⟨S8x2048, .f32⟩
  | 91 => ⟨S8x2048, .f32⟩
  | 92 => ⟨S_, .f32⟩
  | 93 => ⟨S8x2048, .f32⟩
  | 94 => ⟨S8x2048, .i1⟩
  | 95 => ⟨S_, .f32⟩
  | 96 => ⟨S8x2048, .f32⟩
  | 97 => ⟨S8x2048, .i1⟩
  | 98 => ⟨S_, .f32⟩
  | 99 => ⟨S8x2048, .f32⟩
  | 100 => ⟨S_, .f32⟩
  | 101 => ⟨S8x2048, .f32⟩
  | 102 => ⟨S_, .f32⟩
  | 103 => ⟨S8x2048, .f32⟩
  | 104 => ⟨S8x2048, .f32⟩
  | 105 => ⟨S8x2048, .f32⟩
  | 106 => ⟨S8x2048x1, .f32⟩
  | 107 => ⟨S8x2048x2048, .f32⟩
  | 108 => ⟨S8x2048x2048, .f32⟩
  | 109 => ⟨S8x2048x2048, .f32⟩
  | 110 => ⟨S_, .f32⟩
  | 111 => ⟨S8x2048, .f32⟩
  | 112 => ⟨S8x2048x1, .f32⟩
  | 113 => ⟨S8x2048x2048, .f32⟩
  | 114 => ⟨S8x2048x2048, .f32⟩
  | 115 => ⟨S8x2048x1, .f32⟩
  | 116 => ⟨S_, .f32⟩
  | 117 => ⟨S8x2048x1, .f32⟩
  | 118 => ⟨S8x2048x1, .f32⟩
  | 119 => ⟨S8x128x2048, .f32⟩
  | 120 => ⟨S2048x8x128, .f32⟩
  | 121 => ⟨S8x128x2048, .f32⟩
  | 122 => ⟨S8x2048x2048, .f32⟩
  | 123 => ⟨S8x128x2048, .f32⟩
  | 124 => ⟨S2048x8x128, .f32⟩
  | 125 => ⟨S8x2048x2048, .f32⟩
  | 126 => ⟨S8x2048x2048, .f32⟩
  | 127 => ⟨S8x2048x2048, .f32⟩
  | _ => ⟨S2048x8x192, .f32⟩

abbrev hbmTy0_1 (i : Nat) : BufTy := match i % 128 with
  | 0 => ⟨S_, .f32⟩
  | 1 => ⟨S8x2048, .f32⟩
  | 2 => ⟨S8x2048x1, .f32⟩
  | 3 => ⟨S8x2048x1, .f32⟩
  | 4 => ⟨S8x2048x2048, .f32⟩
  | 5 => ⟨S8x2048x2048, .f32⟩
  | 6 => ⟨S_, .f32⟩
  | 7 => ⟨S8x2048, .f32⟩
  | 8 => ⟨S8x2048x2048, .f32⟩
  | 9 => ⟨S8x2048x2048, .f32⟩
  | 10 => ⟨S8x2048x2048, .f32⟩
  | 11 => ⟨S_, .f32⟩
  | 12 => ⟨S8x2048x2048, .f32⟩
  | 13 => ⟨S8x2048x2048, .f32⟩
  | 14 => ⟨S_, .f32⟩
  | 15 => ⟨S8x2048x2048, .f32⟩
  | 16 => ⟨S8x2048x2048, .f32⟩
  | 17 => ⟨S8x2048x64, .f32⟩
  | 18 => ⟨S8x2048x64, .f32⟩
  | 19 => ⟨S2048x8x64, .f32⟩
  | 20 => ⟨S8x2048x128, .f32⟩
  | 21 => ⟨S2048x8x128, .f32⟩
  | 22 => ⟨S8x2048x128, .f32⟩
  | 23 => ⟨S2048x8x128, .f32⟩
  | 24 => ⟨S2048x8x32, .f32⟩
  | 25 => ⟨S2048x8x32, .f32⟩
  | 26 => ⟨S2048x8x32, .f32⟩
  | 27 => ⟨S2048x8x32, .f32⟩
  | 28 => ⟨S2048x8x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S_, .f32⟩
  | 38 => ⟨S2048x8x64, .f32⟩
  | 39 => ⟨S_, .f32⟩
  | 40 => ⟨S2048x8x64, .f32⟩
  | 41 => ⟨S2048x8x64, .f32⟩
  | 42 => ⟨S_, .f32⟩
  | 43 => ⟨S2048x8x192, .f32⟩
  | 44 => ⟨S_, .f32⟩
  | 45 => ⟨S2048x8x192, .f32⟩
  | 46 => ⟨S2048x8x192, .f32⟩
  | 47 => ⟨S8x2048x192, .f32⟩
  | 48 => ⟨S_, .i32⟩
  | 49 => ⟨S_, .f32⟩
  | 50 => ⟨S8x2048x256, .f32⟩
  | 51 => ⟨S_, .i32⟩
  | 52 => ⟨S_, .f32⟩
  | 53 => ⟨S8x2048x128, .f32⟩
  | 54 => ⟨S8x2048x256, .bf16⟩
  | 55 => ⟨S2048x1024, .f32⟩
  | 56 => ⟨S2048x1024, .bf16⟩
  | 57 => ⟨S2048x1024, .f32⟩
  | 58 => ⟨S2048x1024, .bf16⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_3 : Ref sig .tc := ⟨.hbm, 74, rfl⟩
abbrev main_call1_v0 : Ref sig .tc := ⟨.hbm, 75, rfl⟩
abbrev main_v47_1 : Ref sig .tc := ⟨.hbm, 76, rfl⟩
abbrev main_call1_v2 : Ref sig .tc := ⟨.hbm, 77, rfl⟩
abbrev main_v47_0 : Ref sig .tc := ⟨.hbm, 78, rfl⟩
abbrev main_call1_cst : Ref sig .tc := ⟨.hbm, 79, rfl⟩
abbrev main_v47_2 : Ref sig .tc := ⟨.hbm, 80, rfl⟩
abbrev main_cst_4 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_5 : Ref sig .tc := ⟨.hbm, 87, rfl⟩
abbrev main_v53 : Ref sig .tc := ⟨.hbm, 88, rfl⟩
abbrev main_cst_6 : Ref sig .tc := ⟨.hbm, 89, rfl⟩
abbrev main_v54 : Ref sig .tc := ⟨.hbm, 90, rfl⟩
abbrev main_v55 : Ref sig .tc := ⟨.hbm, 91, rfl⟩
abbrev main_cst_7 : Ref sig .tc := ⟨.hbm, 92, rfl⟩
abbrev main_v56 : Ref sig .tc := ⟨.hbm, 93, rfl⟩
abbrev main_v57 : Ref sig .tc := ⟨.hbm, 94, rfl⟩
abbrev main_cst_8 : Ref sig .tc := ⟨.hbm, 95, rfl⟩
abbrev main_v58 : Ref sig .tc := ⟨.hbm, 96, rfl⟩
abbrev main_v59 : Ref sig .tc := ⟨.hbm, 97, rfl⟩
abbrev main_cst_9 : Ref sig .tc := ⟨.hbm, 98, rfl⟩
abbrev main_v60 : Ref sig .tc := ⟨.hbm, 99, rfl⟩
abbrev main_cst_10 : Ref sig .tc := ⟨.hbm, 100, rfl⟩
abbrev main_v61 : Ref sig .tc := ⟨.hbm, 101, rfl⟩
abbrev main_cst_11 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_12 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_13 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_14 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_15 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_call2_cst : Ref sig .tc := ⟨.hbm, 139, rfl⟩
abbrev main_call2_v0 : Ref sig .tc := ⟨.hbm, 140, rfl⟩
abbrev main_v94 : Ref sig .tc := ⟨.hbm, 141, rfl⟩
abbrev main_cst_16 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_17 : Ref sig .tc := ⟨.hbm, 165, rfl⟩
abbrev main_v117 : Ref sig .tc := ⟨.hbm, 166, rfl⟩
abbrev main_cst_18 : Ref sig .tc := ⟨.hbm, 167, rfl⟩
abbrev main_v118 : Ref sig .tc := ⟨.hbm, 168, rfl⟩
abbrev main_v119 : Ref sig .tc := ⟨.hbm, 169, rfl⟩
abbrev main_cst_19 : Ref sig .tc := ⟨.hbm, 170, rfl⟩
abbrev main_v120 : Ref sig .tc := ⟨.hbm, 171, rfl⟩
abbrev main_cst_20 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_21 : Ref sig .tc := ⟨.hbm, 176, rfl⟩
abbrev main_call3_v0 : Ref sig .tc := ⟨.hbm, 177, rfl⟩
abbrev main_v124 : Ref sig .tc := ⟨.hbm, 178, rfl⟩
abbrev main_c_22 : Ref sig .tc := ⟨.hbm, 179, rfl⟩
abbrev main_call4_v0 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩

abbrev nD : Nat := 1
abbrev τ : Topo := Topo.v7x

variable {F : FTy → Type} [FloatOps F]
-- ==== Dact.lean ====
abbrev S2048x1024 : Shape := ⟨2, ![2048, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2048x5632 : Shape := ⟨2, ![2048, 5632]⟩
abbrev S1x4x704x1024 : Shape := ⟨4, ![1, 4, 704, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S3x4x704 : Shape := ⟨3, ![3, 4, 704]⟩
abbrev S4x3x704 : Shape := ⟨3, ![4, 3, 704]⟩
abbrev S4x1x704 : Shape := ⟨3, ![4, 1, 704]⟩
abbrev S512x1024 : Shape := ⟨2, ![512, 1024]⟩
abbrev S16x1024 : Shape := ⟨2, ![16, 1024]⟩
abbrev S1x1x704x1024 : Shape := ⟨4, ![1, 1, 704, 1024]⟩
abbrev S1x512x704 : Shape := ⟨3, ![1, 512, 704]⟩
abbrev S1x16x704 : Shape := ⟨3, ![1, 16, 704]⟩
abbrev S1x3x704 : Shape := ⟨3, ![1, 3, 704]⟩
abbrev S1x1x704 : Shape := ⟨3, ![1, 1, 704]⟩
abbrev S528x1024 : Shape := ⟨2, ![528, 1024]⟩
abbrev S704x1024 : Shape := ⟨2, ![704, 1024]⟩
abbrev S528x704 : Shape := ⟨2, ![528, 704]⟩
abbrev S528x1 : Shape := ⟨2, ![528, 1]⟩
abbrev S16x704 : Shape := ⟨2, ![16, 704]⟩
abbrev S512x704 : Shape := ⟨2, ![512, 704]⟩
abbrev S544x704 : Shape := ⟨2, ![544, 704]⟩
abbrev S3x704 : Shape := ⟨2, ![3, 704]⟩
abbrev S1x704 : Shape := ⟨2, ![1, 704]⟩
abbrev S704 : Shape := ⟨1, ![704]⟩

abbrev nBuf : Space → Nat
  | .hbm => 26
  | .vmem => 28
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S2048x1024, .f32⟩
  | .hbm, ⟨6, _⟩ => ⟨S2048x1024, .bf16⟩
  | .hbm, ⟨7, _⟩ => ⟨S1024x5632, .bf16⟩
  | .hbm, ⟨8, _⟩ => ⟨S2048x5632, .f32⟩
  | .hbm, ⟨9, _⟩ => ⟨S2048x5632, .bf16⟩
  | .hbm, ⟨10, _⟩ => ⟨S2048x1024, .bf16⟩
  | .hbm, ⟨11, _⟩ => ⟨S2816x1024, .bf16⟩
  | .hbm, ⟨12, _⟩ => ⟨S1x4x704x1024, .bf16⟩
  | .hbm, ⟨13, _⟩ => ⟨S2048x2816, .bf16⟩
  | .hbm, ⟨14, _⟩ => ⟨S2048x4x704, .bf16⟩
  | .hbm, ⟨15, _⟩ => ⟨S4x2048x704, .bf16⟩
  | .hbm, ⟨16, _⟩ => ⟨S2048x2816, .bf16⟩
  | .hbm, ⟨17, _⟩ => ⟨S2048x4x704, .bf16⟩
  | .hbm, ⟨18, _⟩ => ⟨S4x2048x704, .bf16⟩
  | .hbm, ⟨19, _⟩ => ⟨S3x4x704, .f32⟩
  | .hbm, ⟨20, _⟩ => ⟨S4x3x704, .f32⟩
  | .hbm, ⟨21, _⟩ => ⟨S4x1x704, .f32⟩
  | .hbm, ⟨22, _⟩ => ⟨S4x2048x704, .bf16⟩
  | .hbm, ⟨23, _⟩ => ⟨S4x2048x704, .bf16⟩
  | .hbm, ⟨24, _⟩ => ⟨S4x3x704, .f32⟩
  | .hbm, ⟨25, _⟩ => ⟨S4x1x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x16x704, .bf16⟩
  | .local _ .vmem, ⟨9, _⟩ => ⟨S1x16x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x3x704, .f32⟩
  | .local _ .vmem, ⟨17, _⟩ => ⟨S1x3x704, .f32⟩
  | .local _ .vmem, ⟨18, _⟩ => ⟨S1x1x704, .f32⟩
  | .local _ .vmem, ⟨19, _⟩ => ⟨S1x1x704, .f32⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x3x704, .f32⟩
  | .local _ .vmem, ⟨25, _⟩ => ⟨S1x3x704, .f32⟩
  | .local _ .vmem, ⟨26, _⟩ => ⟨S1x1x704, .f32⟩
  | .local _ .vmem, ⟨27, _⟩ => ⟨S1x1x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_44 : BitVec 32 := 0#32
  let v116 : BitVec 1 := Scalar.cmpi .eq arg1 c0_i32_44
  let v117 : BitVec 32 := Scalar.extui v116
  let c0_i32_45 : BitVec 32 := 0#32
  let v118 : BitVec 1 := Scalar.cmpi .ne v117 c0_i32_45
  v118

def k0_cond2 (i : grid0.Coords) : BitVec 1 :=
  let arg1 : BitVec 32 := BitVec.ofNat 32 (i 1).val
  let c0_i32_46 : BitVec 32 := 0#32
  let v119 : BitVec 1 := Scalar.cmpi .sgt arg1 c0_i32_46
  let v120 : BitVec 32 := Scalar.extui v119
  let c0_i32_47 : BitVec 32 := 0#32
  let v121 : BitVec 1 := Scalar.cmpi .ne v120 c0_i32_47
  v121

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== DactRefIdeal.lean ====
abbrev S2048x1024 : Shape := ⟨2, ![2048, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩
abbrev S2048x4x704 : Shape := ⟨3, ![2048, 4, 704]⟩
abbrev S4x2048x704 : Shape := ⟨3, ![4, 2048, 704]⟩
abbrev S3x4x704 : Shape := ⟨3, ![3, 4, 704]⟩
abbrev S4x3x704 : Shape := ⟨3, ![4, 3, 704]⟩
abbrev S4x1x704 : Shape := ⟨3, ![4, 1, 704]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2x2816, .f32⟩
  | .hbm, ⟨11, _⟩ => ⟨S2050x2816, .f32⟩
  | .hbm, ⟨12, _⟩ => ⟨S_, .f32⟩
  | .hbm, ⟨13, _⟩ => ⟨S2x2816, .f32⟩
  | .hbm, ⟨14, _⟩ => ⟨S2048x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S1x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S_, .f32⟩
  | .hbm, ⟨63, _⟩ => ⟨S2816, .f32⟩
  | .hbm, ⟨64, _⟩ => ⟨S2048x2816, .f32⟩
  | .hbm, ⟨65, _⟩ => ⟨S_, .f32⟩
  | .hbm, ⟨66, _⟩ => ⟨S2816, .f32⟩
  | .hbm, ⟨67, _⟩ => ⟨S1x2816, .f32⟩
  | .hbm, ⟨68, _⟩ => ⟨S2048x2816, .f32⟩
  | .hbm, ⟨69, _⟩ => ⟨S2048x2816, .f32⟩
  | .hbm, ⟨70, _⟩ => ⟨S_, .f32⟩
  | .hbm, ⟨71, _⟩ => ⟨S2816, .f32⟩
  | .hbm, ⟨72, _⟩ => ⟨S1x2816, .f32⟩
  | .hbm, ⟨73, _⟩ => ⟨S_, .f32⟩
  | .hbm, ⟨74, _⟩ => ⟨S3x2816, .f32⟩
  | .hbm, ⟨75, _⟩ => ⟨S_, .f32⟩
  | .hbm, ⟨76, _⟩ => ⟨S2050x2816, .f32⟩
  | .hbm, ⟨77, _⟩ => ⟨S2048x2816, .f32⟩
  | .hbm, ⟨78, _⟩ => ⟨S_, .f32⟩
  | .hbm, ⟨79, _⟩ => ⟨S2816, .f32⟩
  | .hbm, ⟨80, _⟩ => ⟨S1x2816, .f32⟩
  | .hbm, ⟨81, _⟩ => ⟨S2048x2816, .f32⟩
  | .hbm, ⟨82, _⟩ => ⟨S2048x2816, .f32⟩
  | .hbm, ⟨83, _⟩ => ⟨S_, .f32⟩
  | .hbm, ⟨84, _⟩ => ⟨S2816, .f32⟩
  | .hbm, ⟨85, _⟩ => ⟨S1x2816, .f32⟩
  | .hbm, ⟨86, _⟩ => ⟨S_, .f32⟩
  | .hbm, ⟨87, _⟩ => ⟨S3x2816, .f32⟩
  | .hbm, ⟨88, _⟩ => ⟨S3x2816, .f32⟩
  | .hbm, ⟨89, _⟩ => ⟨S_, .f32⟩
  | .hbm, ⟨90, _⟩ => ⟨S2050x2816, .f32⟩
  | .hbm, ⟨91, _⟩ => ⟨S2050x2816, .f32⟩
  | .hbm, ⟨92, _⟩ => ⟨S2048x2816, .f32⟩
  | .hbm, ⟨93, _⟩ => ⟨S_, .f32⟩
  | .hbm, ⟨94, _⟩ => ⟨S2816, .f32⟩
  | .hbm, ⟨95, _⟩ => ⟨S1x2816, .f32⟩
  | .hbm, ⟨96, _⟩ => ⟨S2048x2816, .f32⟩
  | .hbm, ⟨97, _⟩ => ⟨S2048x2816, .f32⟩
  | .hbm, ⟨98, _⟩ => ⟨S_, .f32⟩
  | .hbm, ⟨99, _⟩ => ⟨S2816, .f32⟩
  | .hbm, ⟨100, _⟩ => ⟨S1x2816, .f32⟩
  | .hbm, ⟨101, _⟩ => ⟨S_, .f32⟩
  | .hbm, ⟨102, _⟩ => ⟨S3x2816, .f32⟩
  | .hbm, ⟨103, _⟩ => ⟨S3x2816, .f32⟩
  | .hbm, ⟨104, _⟩ => ⟨S_, .f32⟩
  | .hbm, ⟨105, _⟩ => ⟨S2050x2816, .f32⟩
  | .hbm, ⟨106, _⟩ => ⟨S2050x2816, .f32⟩
  | .hbm, ⟨107, _⟩ => ⟨S2x2816, .f32⟩
  | .hbm, ⟨108, _⟩ => ⟨S2048x2816, .f32⟩
  | .hbm, ⟨109, _⟩ => ⟨S2048x5632, .f32⟩
  | .hbm, ⟨110, _⟩ => ⟨S2048x2816, .f32⟩
  | .hbm, ⟨111, _⟩ => ⟨S2048x4x704, .f32⟩
  | .hbm, ⟨112, _⟩ => ⟨S4x2048x704, .f32⟩
  | .hbm, ⟨113, _⟩ => ⟨S4x2048x704, .bf16⟩
  | .hbm, ⟨114, _⟩ => ⟨S2048x2816, .f32⟩
  | .hbm, ⟨115, _⟩ => ⟨S2048x4x704, .f32⟩
  | .hbm, ⟨116, _⟩ => ⟨S4x2048x704, .f32⟩
  | .hbm, ⟨117, _⟩ => ⟨S4x2048x704, .bf16⟩
  | .hbm, ⟨118, _⟩ => ⟨S3x4x704, .f32⟩
  | .hbm, ⟨119, _⟩ => ⟨S4x3x704, .f32⟩
  | .hbm, ⟨120, _⟩ => ⟨S4x1x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Din.lean ====
abbrev S2048x1024 : Shape := ⟨2, ![2048, 1024]⟩
abbrev S1024 : Shape := ⟨1, ![1024]⟩
abbrev S1024x3072 : Shape := ⟨2, ![1024, 3072]⟩
abbrev S2048x3072 : Shape := ⟨2, ![2048, 3072]⟩
abbrev S1x2048x3072 : Shape := ⟨3, ![1, 2048, 3072]⟩
abbrev S1x1024x3072 : Shape := ⟨3, ![1, 1024, 3072]⟩
abbrev S1x1024 : Shape := ⟨2, ![1, 1024]⟩
abbrev S1x512x3072 : Shape := ⟨3, ![1, 512, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3072, .f32⟩
  | .hbm, ⟨3, _⟩ => ⟨S2048x1024, .f32⟩
  | .hbm, ⟨4, _⟩ => ⟨S2048x3072, .f32⟩
  | .hbm, ⟨5, _⟩ => ⟨S2048x3072, .bf16⟩
  | .hbm, ⟨6, _⟩ => ⟨S1024x3072, .bf16⟩
  | .hbm, ⟨7, _⟩ => ⟨S1x2048x3072, .bf16⟩
  | .hbm, ⟨8, _⟩ => ⟨S1x1024x3072, .bf16⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S1x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_21 : BitVec 32 := 0#32
  let v40 : BitVec 1 := Scalar.cmpi .ne v39 c0_i32_21
  v40

def k0_cond2 (i : grid0.Coords) : BitVec 1 :=
  let arg0 : BitVec 32 := BitVec.ofNat 32 (i 0).val
  let c0_i32_22 : BitVec 32 := 0#32
  let v41 : BitVec 1 := Scalar.cmpi .sgt arg0 c0_i32_22
  let v42 : BitVec 32 := Scalar.extui v41
  let c0_i32_23 : BitVec 32 := 0#32
  let v43 : BitVec 1 := Scalar.cmpi .ne v42 c0_i32_23
  v43

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DinRefIdeal.lean ====
abbrev S2048x1024 : Shape := ⟨2, ![2048, 1024]⟩
abbrev S1024 : Shape := ⟨1, ![1024]⟩
abbrev S1024x3072 : Shape := ⟨2, ![1024, 3072]⟩
abbrev S2048x3072 : Shape := ⟨2, ![2048, 3072]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3072, .f32⟩
  | .hbm, ⟨3, _⟩ => ⟨S2048x1024, .f32⟩
  | .hbm, ⟨4, _⟩ => ⟨S2048x3072, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3072, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Dup.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S5632x1024 : Shape := ⟨2, ![5632, 1024]⟩
abbrev S1x8x704x1024 : Shape := ⟨4, ![1, 8, 704, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S1x1024 : Shape := ⟨2, ![1, 1024]⟩
abbrev S4x256x704 : Shape := ⟨3, ![4, 256, 704]⟩
abbrev S1x4x704x1024 : Shape := ⟨4, ![1, 4, 704, 1024]⟩
abbrev S256x1024 : Shape := ⟨2, ![256, 1024]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x1024, .f32⟩
  | .hbm, ⟨4, _⟩ => ⟨S2048x5632, .f32⟩
  | .hbm, ⟨5, _⟩ => ⟨S1024x5632, .bf16⟩
  | .hbm, ⟨6, _⟩ => ⟨S5632x1024, .bf16⟩
  | .hbm, ⟨7, _⟩ => ⟨S1x8x704x1024, .bf16⟩
  | .hbm, ⟨8, _⟩ => ⟨S2048x5632, .bf16⟩
  | .hbm, ⟨9, _⟩ => ⟨S2048x2816, .bf16⟩
  | .hbm, ⟨10, _⟩ => ⟨S2048x4x704, .bf16⟩
  | .hbm, ⟨11, _⟩ => ⟨S4x2048x704, .bf16⟩
  | .hbm, ⟨12, _⟩ => ⟨S2048x2816, .bf16⟩
  | .hbm, ⟨13, _⟩ => ⟨S2048x4x704, .bf16⟩
  | .hbm, ⟨14, _⟩ => ⟨S4x2048x704, .bf16⟩
  | .hbm, ⟨15, _⟩ => ⟨S1x1024, .f32⟩
  | .hbm, ⟨16, _⟩ => ⟨S2048x1024, .f32⟩
  | .hbm, ⟨17, _⟩ => ⟨S2048x1024, .bf16⟩
  | .hbm, ⟨18, _⟩ => ⟨S1x1024, .f32⟩
  | .local _ .vmem, ⟨0, _⟩ => ⟨S4x256x704, .bf16⟩
  | .local _ .vmem, ⟨1, _⟩ => ⟨S4x256x704, .bf16⟩
  | .local _ .vmem, ⟨2, _⟩ => ⟨S1x4x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S1x4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v80 : BitVec 1 := Scalar.cmpi .eq arg0 c0_i32
  let v81 : BitVec 32 := Scalar.extui v80
  let c0_i32_75 : BitVec 32 := 0#32
  let v82 : BitVec 1 := Scalar.cmpi .ne v81 c0_i32_75
  v82

def k0_cond2 (i : grid0.Coords) : BitVec 1 :=
  let arg0 : BitVec 32 := BitVec.ofNat 32 (i 0).val
  let c0_i32_76 : BitVec 32 := 0#32
  let v83 : BitVec 1 := Scalar.cmpi .sgt arg0 c0_i32_76
  let v84 : BitVec 32 := Scalar.extui v83
  let c0_i32_77 : BitVec 32 := 0#32
  let v85 : BitVec 1 := Scalar.cmpi .ne v84 c0_i32_77
  v85

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DupRefIdeal.lean ====
abbrev S2048x1024 : Shape := ⟨2, ![2048, 1024]⟩
abbrev S1024 : Shape := ⟨1, ![1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2048x1024, .f32⟩
  | .hbm, ⟨4, _⟩ => ⟨S2048x5632, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .bf16⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Dout.lean ====
abbrev S2048x1024 : Shape := ⟨2, ![2048, 1024]⟩
abbrev S1024 : Shape := ⟨1, ![1024]⟩
abbrev S1024x1024 : Shape := ⟨2, ![1024, 1024]⟩
abbrev S1024x5632 : Shape := ⟨2, ![1024, 5632]⟩
abbrev S2048x5632 : Shape := ⟨2, ![2048, 5632]⟩
abbrev S5632x1024 : Shape := ⟨2, ![5632, 1024]⟩
abbrev S1x8x704x1024 : Shape := ⟨4, ![1, 8, 704, 1024]⟩
abbrev S2048x2816 : Shape := ⟨2, ![2048, 2816]⟩
abbrev S2048x4x704 : Shape := ⟨3, ![2048, 4, 704]⟩
abbrev S4x2048x704 : Shape := ⟨3, ![4, 2048, 704]⟩
abbrev S1x1024 : Shape := ⟨2, ![1, 1024]⟩
abbrev S4x256x704 : Shape := ⟨3, ![4, 256, 704]⟩
abbrev S1x4x704x1024 : Shape := ⟨4, ![1, 4, 704, 1024]⟩
abbrev S256x1024 : Shape := ⟨2, ![256, 1024]⟩
abbrev S1x256x704 : Shape := ⟨3, ![1, 256, 704]⟩
abbrev S256x704 : Shape := ⟨2, ![256, 704]⟩
abbrev S1x1x704x1024 : Shape := ⟨4, ![1, 1, 704, 1024]⟩
abbrev S704x1024 : Shape := ⟨2, ![704, 1024]⟩
abbrev S256 : Shape := ⟨1, ![256]⟩
abbrev S256x1 : Shape := ⟨2, ![256, 1]⟩

abbrev nBuf : Space → Nat
  | .hbm => 27
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S1024x1024, .bf16⟩
  | .hbm, ⟨12, _⟩ => ⟨S1024x5632, .bf16⟩
  | .hbm, ⟨13, _⟩ => ⟨S5632x1024, .bf16⟩
  | .hbm, ⟨14, _⟩ => ⟨S1x8x704x1024, .bf16⟩
  | .hbm, ⟨15, _⟩ => ⟨S2048x5632, .bf16⟩
  | .hbm, ⟨16, _⟩ => ⟨S2048x2816, .bf16⟩
  | .hbm, ⟨17, _⟩ => ⟨S2048x4x704, .bf16⟩
  | .hbm, ⟨18, _⟩ => ⟨S4x2048x704, .bf16⟩
  | .hbm, ⟨19, _⟩ => ⟨S2048x2816, .bf16⟩
  | .hbm, ⟨20, _⟩ => ⟨S2048x4x704, .bf16⟩
  | .hbm, ⟨21, _⟩ => ⟨S4x2048x704, .bf16⟩
  | .hbm, ⟨22, _⟩ => ⟨S1x1024, .f32⟩
  | .hbm, ⟨23, _⟩ => ⟨S2048x1024, .f32⟩
  | .hbm, ⟨24, _⟩ => ⟨S2048x1024, .bf16⟩
  | .hbm, ⟨25, _⟩ => ⟨S1x1024, .f32⟩
  | .hbm, ⟨26, _⟩ => ⟨S2048x1024, .bf16⟩
  | .local _ .vmem, ⟨0, _⟩ => ⟨S4x256x704, .bf16⟩
  | .local _ .vmem, ⟨1, _⟩ => ⟨S4x256x704, .bf16⟩
  | .local _ .vmem, ⟨2, _⟩ => ⟨S1x4x704x1024, .bf16⟩
  | .local _ .vmem, ⟨3, _⟩ => ⟨S4x256x704, .bf16⟩
  | .local _ .vmem, ⟨4, _⟩ => ⟨S4x256x704, .bf16⟩
  | .local _ .vmem, ⟨5, _⟩ => ⟨S1x4x704x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v86 : BitVec 1 := Scalar.cmpi .eq arg0 c0_i32
  let v87 : BitVec 32 := Scalar.extui v86
  let c0_i32_80 : BitVec 32 := 0#32
  let v88 : BitVec 1 := Scalar.cmpi .ne v87 c0_i32_80
  v88

def k0_cond2 (i : grid0.Coords) : BitVec 1 :=
  let arg0 : BitVec 32 := BitVec.ofNat 32 (i 0).val
  let c0_i32_81 : BitVec 32 := 0#32
  let v89 : BitVec 1 := Scalar.cmpi .sgt arg0 c0_i32_81
  let v90 : BitVec 32 := Scalar.extui v89
  let c0_i32_82 : BitVec 32 := 0#32
  let v91 : BitVec 1 := Scalar.cmpi .ne v90 c0_i32_82
  v91

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DoutRefIdeal.lean ====
abbrev S2048x1024 : Shape := ⟨2, ![2048, 1024]⟩
abbrev S1024 : Shape := ⟨1, ![1024]⟩
abbrev S1024x1024 : Shape := ⟨2, ![1024, 1024]⟩
abbrev S1024x5632 : Shape := ⟨2, ![1024, 5632]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x1024, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S1x1024, .f32⟩
  | .hbm, ⟨61, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Loss.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S2048x4x704 : Shape := ⟨3, ![2048, 4, 704]⟩
abbrev S4x2048x704 : Shape := ⟨3, ![4, 2048, 704]⟩
abbrev S1x4x704x1024 : Shape := ⟨4, ![1, 4, 704, 1024]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1024, .f32⟩
  | .hbm, ⟨4, _⟩ => ⟨S2048x1024, .f32⟩
  | .hbm, ⟨5, _⟩ => ⟨S2048x4x704, .f32⟩
  | .hbm, ⟨6, _⟩ => ⟨S4x2048x704, .f32⟩
  | .hbm, ⟨7, _⟩ => ⟨S4x2048x704, .bf16⟩
  | .hbm, ⟨8, _⟩ => ⟨S2816x1024, .bf16⟩
  | .hbm, ⟨9, _⟩ => ⟨S1x4x704x1024, .bf16⟩
  | .hbm, ⟨10, _⟩ => ⟨S1x1024, .f32⟩
  | .hbm, ⟨11, _⟩ => ⟨S1x128, .f32⟩
  | .hbm, ⟨12, _⟩ => ⟨S2048x1024, .f32⟩
  | .hbm, ⟨13, _⟩ => ⟨S2048x1024, .bf16⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_48 : BitVec 32 := 0#32
  let v72 : BitVec 1 := Scalar.cmpi .ne v71 c0_i32_48
  v72

def k0_cond2 (i : grid0.Coords) : BitVec 1 :=
  let arg0 : BitVec 32 := BitVec.ofNat 32 (i 0).val
  let c0_i32 : BitVec 32 := 0#32
  let v70 : BitVec 1 := Scalar.cmpi .eq arg0 c0_i32
  let v_true : BitVec 1 := 1#1
  let v73 : BitVec 1 := Scalar.xori v70 v_true
  let v74 : BitVec 32 := Scalar.extui v73
  let c0_i32_49 : BitVec 32 := 0#32
  let v75 : BitVec 1 := Scalar.cmpi .ne v74 c0_i32_49
  v75

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S2048x1024 : Shape := ⟨2, ![2048, 1024]⟩
abbrev S2048x2816 : Shape := ⟨2, ![2048, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2816x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x128, .f32⟩
  | .hbm, ⟨76, _⟩ => ⟨S2048x1024, .bf16⟩
  | .hbm, ⟨77, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Attend.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S_ : Shape := ⟨0, ![]⟩
abbrev S2048x8x64 : Shape := ⟨3, ![2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S2048x8x256 : Shape := ⟨3, ![2048, 8, 256]⟩
abbrev S8x2048x256 : Shape := ⟨3, ![8, 2048, 256]⟩
abbrev S2048x1024 : Shape := ⟨2, ![2048, 1024]⟩
abbrev S2048x128 : Shape := ⟨2, ![2048, 128]⟩
abbrev S8x1x2048 : Shape := ⟨3, ![8, 1, 2048]⟩
abbrev S4x512x256 : Shape := ⟨3, ![4, 512, 256]⟩
abbrev S2048x512 : Shape := ⟨2, ![2048, 512]⟩
abbrev S512x512 : Shape := ⟨2, ![512, 512]⟩
abbrev S4x1x512 : Shape := ⟨3, ![4, 1, 512]⟩
abbrev S1x512x256 : Shape := ⟨3, ![1, 512, 256]⟩
abbrev S512x256 : Shape := ⟨2, ![512, 256]⟩
abbrev S512x1 : Shape := ⟨2, ![512, 1]⟩
abbrev S512x128 : Shape := ⟨2, ![512, 128]⟩
abbrev S512 : Shape := ⟨1, ![512]⟩
abbrev S128x512 : Shape := ⟨2, ![128, 512]⟩
abbrev S1x512 : Shape := ⟨2, ![1, 512]⟩
abbrev S1x1x512 : Shape := ⟨3, ![1, 1, 512]⟩

abbrev nBuf : Space → Nat
  | .hbm => 61
  | .vmem => 11
  | .smem => 0
  | _ => 0

abbrev bufTy : (tb : Table) → Fin (tcTables nBuf tb) → BufTy
  | .hbm, ⟨0, _⟩ => ⟨S2048x8x192, .f32⟩
  | .hbm, ⟨1, _⟩ => ⟨S2048x8x128, .f32⟩
  | .hbm, ⟨2, _⟩ => ⟨S2048x64, .f32⟩
  | .hbm, ⟨3, _⟩ => ⟨S2048x8x128, .f32⟩
  | .hbm, ⟨4, _⟩ => ⟨S2048, .i32⟩
  | .hbm, ⟨5, _⟩ => ⟨S_, .f32⟩
  | .hbm, ⟨6, _⟩ => ⟨S_, .f32⟩
  | .hbm, ⟨7, _⟩ => ⟨S2048x8x128, .f32⟩
  | .hbm, ⟨8, _⟩ => ⟨S2048x8x64, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1x32, .f32⟩
  | .hbm, ⟨28, _⟩ => ⟨S2048x1x32, .f32⟩
  | .hbm, ⟨29, _⟩ => ⟨S2048x8x32, .f32⟩
  | .hbm, ⟨30, _⟩ => ⟨S2048x8x32, .f32⟩
  | .hbm, ⟨31, _⟩ => ⟨S2048x8x32, .f32⟩
  | .hbm, ⟨32, _⟩ => ⟨S2048x8x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x32, .f32⟩
  | .hbm, ⟨39, _⟩ => ⟨S2048x8x32, .f32⟩
  | .hbm, ⟨40, _⟩ => ⟨S2048x8x32, .f32⟩
  | .hbm, ⟨41, _⟩ => ⟨S2048x8x64, .f32⟩
  | .hbm, ⟨42, _⟩ => ⟨S_, .f32⟩
  | .hbm, ⟨43, _⟩ => ⟨S2048x8x64, .f32⟩
  | .hbm, ⟨44, _⟩ => ⟨S2048x8x256, .f32⟩
  | .hbm, ⟨45, _⟩ => ⟨S_, .f32⟩
  | .hbm, ⟨46, _⟩ => ⟨S_, .f32⟩
  | .hbm, ⟨47, _⟩ => ⟨S2048x8x256, .f32⟩
  | .hbm, ⟨48, _⟩ => ⟨S2048x8x256, .f32⟩
  | .hbm, ⟨49, _⟩ => ⟨S2048x8x256, .bf16⟩
  | .hbm, ⟨50, _⟩ => ⟨S8x2048x256, .bf16⟩
  | .hbm, ⟨51, _⟩ => ⟨S2048x1024, .f32⟩
  | .hbm, ⟨52, _⟩ => ⟨S2048x1024, .bf16⟩
  | .hbm, ⟨53, _⟩ => ⟨S_, .f32⟩
  | .hbm, ⟨54, _⟩ => ⟨S2048x64, .f32⟩
  | .hbm, ⟨55, _⟩ => ⟨S2048x128, .f32⟩
  | .hbm, ⟨56, _⟩ => ⟨S2048x128, .bf16⟩
  | .hbm, ⟨57, _⟩ => ⟨S2048x1024, .f32⟩
  | .hbm, ⟨58, _⟩ => ⟨S2048x1024, .bf16⟩
  | .hbm, ⟨59, _⟩ => ⟨S2048x1024, .bf16⟩
  | .hbm, ⟨60, _⟩ => ⟨S8x1x2048, .f32⟩
  | .local _ .vmem, ⟨0, _⟩ => ⟨S4x512x256, .bf16⟩
  | .local _ .vmem, ⟨1, _⟩ => ⟨S4x512x256, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x512, .bf16⟩
  | .local _ .vmem, ⟨6, _⟩ => ⟨S2048x512, .bf16⟩
  | .local _ .vmem, ⟨7, _⟩ => ⟨S512x512, .bf16⟩
  | .local _ .vmem, ⟨8, _⟩ => ⟨S512x512, .bf16⟩
  | .local _ .vmem, ⟨9, _⟩ => ⟨S4x1x512, .f32⟩
  | .local _ .vmem, ⟨10, _⟩ => ⟨S4x1x512, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

@[reducible] def k0_t1_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_10 : BitVec 32 := 1#32
  ⟨c0_i32, v15, c1_i32_10⟩
def k0_mult1 (i : grid0.Coords) (k0_t1 : Fin (k0_t1_loop i).trips) : BitVec 32 :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  v219
def k0_off1 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  let v220 : BitVec 32 := v219
  let v221 : Index := Scalar.indexCast v220
  let c0_70 : Index := 0#32
  ![v221.toNat, 0]
def k0_off2 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  let v220 : BitVec 32 := v219
  let v224 : Index := Scalar.indexCast v220
  let c0_71 : Index := 0#32
  ![v224.toNat, 0]
def k0_off3 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  let v220 : BitVec 32 := v219
  let v229 : Index := Scalar.indexCast v220
  let c128_73 : Index := 128#32
  ![v229.toNat, 128]
def k0_off4 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  let v220 : BitVec 32 := v219
  let v234 : Index := Scalar.indexCast v220
  let c256_75 : Index := 256#32
  ![v234.toNat, 256]
def k0_off5 (i : grid0.Coords) (k0_t1 : Fin (k0_t1_loop i).trips) : Fin 2 → Nat :=
  let c0_i32 : BitVec 32 := 0#32
  let c1_i32_10 : BitVec 32 := 1#32
  let arg8 : BitVec 32 := Scf.iv c0_i32 c1_i32_10 k0_t1
  let c512_i32_69 : BitVec 32 := 512#32
  let v219 : BitVec 32 := Scalar.muli arg8 c512_i32_69
  let v220 : BitVec 32 := v219
  let v239 : Index := Scalar.indexCast v220
  let c384_77 : Index := 384#32
  ![v239.toNat, 384]
@[reducible] def k0_t2_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_11 : BitVec 32 := 1#32
  ⟨v15, v12, c1_i32_11⟩
def k0_mult2 (i : grid0.Coords) (k0_t2 : Fin (k0_t2_loop i).trips) : BitVec 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  v219
def k0_off6 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  let v220 : BitVec 32 := v219
  let v221 : Index := Scalar.indexCast v220
  let c0_70 : Index := 0#32
  ![v221.toNat, 0]
def k0_off7 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  let v220 : BitVec 32 := v219
  let v224 : Index := Scalar.indexCast v220
  let c0_71 : Index := 0#32
  ![v224.toNat, 0]
def k0_off8 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  let v220 : BitVec 32 := v219
  let v229 : Index := Scalar.indexCast v220
  let c128_73 : Index := 128#32
  ![v229.toNat, 128]
def k0_off9 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  let v220 : BitVec 32 := v219
  let v234 : Index := Scalar.indexCast v220
  let c256_75 : Index := 256#32
  ![v234.toNat, 256]
def k0_off10 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_11 : BitVec 32 := 1#32
  let arg8 : BitVec 32 := Scf.iv v15 c1_i32_11 k0_t2
  let c512_i32_69 : BitVec 32 := 512#32
  let v219 : BitVec 32 := Scalar.muli arg8 c512_i32_69
  let v220 : BitVec 32 := v219
  let v239 : Index := Scalar.indexCast v220
  let c384_77 : Index := 384#32
  ![v239.toNat, 384]
def k0_mult3 (i : grid0.Coords) : BitVec 32 :=
  let arg1 : BitVec 32 := BitVec.ofNat 32 (i 1).val
  let c512_i32 : BitVec 32 := 512#32
  let v18 : BitVec 32 := Scalar.muli arg1 c512_i32
  v18
def k0_off11 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_12 : Index := 0#32
  ![v20.toNat, 0]
def k0_off12 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v23 : Index := Scalar.indexCast v19
  let c0_13 : Index := 0#32
  ![v23.toNat, 0]
def k0_off13 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v28 : Index := Scalar.indexCast v19
  let c128 : Index := 128#32
  ![v28.toNat, 128]
def k0_off14 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v33 : Index := Scalar.indexCast v19
  let c256 : Index := 256#32
  ![v33.toNat, 256]
def k0_off15 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v38 : Index := Scalar.indexCast v19
  let c384 : Index := 384#32
  ![v38.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttendIdeal.lean ====
variable {F : FTy → Type} [FloatOps F] [Named F]
def κ : String → Option EReal := fun
  | "log2e" => some (((Real.log 2)⁻¹ : ℝ) : EReal)
  | "mask" => some ⊥
  | _ => none
-- ==== AttendRefIdeal.lean ====
abbrev S2048x8x192 : Shape := ⟨3, ![2048, 8, 192]⟩
abbrev S2048x8x128 : Shape := ⟨3, ![2048, 8, 128]⟩
abbrev S2048x64 : Shape := ⟨2, ![2048, 64]⟩
abbrev S2048 : Shape := ⟨1, ![2048]⟩
abbrev S1x2048x64 : Shape := ⟨3, ![1, 2048, 64]⟩
abbrev S8x2048x64 : Shape := ⟨3, ![8, 2048, 64]⟩
abbrev S2048x8x64 : Shape := ⟨3, ![2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x8x32 : Shape := ⟨3, ![2048, 8, 32]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x1024 : Shape := ⟨2, ![2048, 1024]⟩
abbrev S8x1x2048 : Shape := ⟨3, ![8, 1, 2048]⟩

abbrev nBuf : Space → Nat
  | .hbm => 182
  | .vmem => 0
  | .smem => 0
  | _ => 0

abbrev hbmTy0_0 (i : Nat) : BufTy := match i % 128 with
  | 0 => ⟨S2048x8x192, .f32⟩
  | 1 => ⟨S2048x8x128, .f32⟩
  | 2 => ⟨S2048x64, .f32⟩
  | 3 => ⟨S2048x8x128, .f32⟩
  | 4 => ⟨S2048, .i32⟩
  | 5 => ⟨S1x2048x64, .f32⟩
  | 6 => ⟨S8x2048x64, .f32⟩
  | 7 => ⟨S2048x8x128, .f32⟩
  | 8 => ⟨S2048x8x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S2048, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x32, .f32⟩
  | 26 => ⟨S2048x32, .f32⟩
  | 27 => ⟨S2048x1x32, .f32⟩
  | 28 => ⟨S2048x1x32, .f32⟩
  | 29 => ⟨S2048x8x32, .f32⟩
  | 30 => ⟨S2048x8x32, .f32⟩
  | 31 => ⟨S2048x8x32, .f32⟩
  | 32 => ⟨S2048x8x32, .f32⟩
  | 33 => ⟨S2048x8x32, .f32⟩
  | 34 => ⟨S2048x8x32, .f32⟩
  | 35 => ⟨S2048x8x32, .f32⟩
  | 36 => ⟨S2048x8x32, .f32⟩
  | 37 => ⟨S2048x8x32, .f32⟩
  | 38 => ⟨S2048x8x32, .f32⟩
  | 39 => ⟨S2048x8x32, .f32⟩
  | 40 => ⟨S2048x8x32, .f32⟩
  | 41 => ⟨S2048x8x64, .f32⟩
  | 42 => ⟨S8x2048x2048, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .f32⟩
  | 48 => ⟨S2048, .i32⟩
  | 49 => ⟨S_, .i32⟩
  | 50 => ⟨S_, .i32⟩
  | 51 => ⟨S2048, .i32⟩
  | 52 => ⟨S2048, .i32⟩
  | 53 => ⟨S2048, .i32⟩
  | 54 => ⟨S_, .i32⟩
  | 55 => ⟨S2048, .i32⟩
  | 56 => ⟨S2048, .i1⟩
  | 57 => ⟨S2048, .i32⟩
  | 58 => ⟨S2048, .i32⟩
  | 59 => ⟨S_, .i32⟩
  | 60 => ⟨S2048, .i32⟩
  | 61 => ⟨S2048, .i1⟩
  | 62 => ⟨S2048, .i1⟩
  | 63 => ⟨S_, .i32⟩
  | 64 => ⟨S2048, .i32⟩
  | 65 => ⟨S2048, .i32⟩
  | 66 => ⟨S2048, .i32⟩
  | 67 => ⟨S1x2048, .i32⟩
  | 68 => ⟨S2048x1, .i32⟩
  | 69 => ⟨S2048x2048, .i32⟩
  | 70 => ⟨S2048x2048, .i32⟩
  | 71 => ⟨S2048x2048, .i1⟩
  | 72 => ⟨S1x2048x2048, .i1⟩
  | 73 => ⟨S_, .f32⟩
  | 74 => ⟨S_, .f32⟩
  | 75 => ⟨S8x2048x2048, .i1⟩
  | 76 => ⟨S8x2048x2048, .f32⟩
  | 77 => ⟨S8x2048x2048, .f32⟩
  | 78 => ⟨S_, .f32⟩
  | 79 => ⟨S8x2048, .f32⟩
  | 80 => ⟨S8x2048x1, .f32⟩
  | 81 => ⟨S8x2048x2048, .f32⟩
  | 82 => ⟨S8x2048x2048, .f32⟩
  | 83 => ⟨S8x2048x2048, .f32⟩
  | 84 => ⟨S_, .f32⟩
  | 85 => ⟨S8x2048, .f32⟩
  | 86 => ⟨S8x2048, .f32⟩
  | 87 => ⟨S8x2048, .f32⟩
  | 88 => ⟨S2048x8x128, .f32⟩
  | 89 => ⟨S2048x8x64, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S2048, .f32⟩
  | 101 => ⟨S2048x1, .f32⟩
  | 102 => ⟨S1x32, .f32⟩
  | 103 => ⟨S2048x32, .f32⟩
  | 104 => ⟨S2048x32, .f32⟩
  | 105 => ⟨S2048x32, .f32⟩
  | 106 => ⟨S2048x32, .f32⟩
  | 107 => ⟨S2048x32, .f32⟩
  | 108 => ⟨S2048x1x32, .f32⟩
  | 109 => ⟨S2048x1x32, .f32⟩
  | 110 => ⟨S2048x8x32, .f32⟩
  | 111 => ⟨S2048x8x32, .f32⟩
  | 112 => ⟨S2048x8x32, .f32⟩
  | 113 => ⟨S2048x8x32, .f32⟩
  | 114 => ⟨S2048x8x32, .f32⟩
  | 115 => ⟨S2048x8x32, .f32⟩
  | 116 => ⟨S2048x8x32, .f32⟩
  | 117 => ⟨S2048x8x32, .f32⟩
  | 118 => ⟨S2048x8x32, .f32⟩
  | 119 => ⟨S2048x8x32, .f32⟩
  | 120 => ⟨S2048x8x32, .f32⟩
  | 121 => ⟨S2048x8x32, .f32⟩
  | 122 => ⟨S2048x8x64, .f32⟩
  | 123 => ⟨S8x2048x2048, .f32⟩
  | 124 => ⟨S8x2048x2048, .f32⟩
  | 125 => ⟨S8x2048x2048, .f32⟩
  | 126 => ⟨S_, .f32⟩
  | 127 => ⟨S8x2048x2048, .f32⟩
  | _ => ⟨S2048x8x192, .f32⟩

abbrev hbmTy0_1 (i : Nat) : BufTy := match i % 128 with
  | 0 => ⟨S8x2048x2048, .f32⟩
  | 1 => ⟨S2048, .i32⟩
  | 2 => ⟨S_, .i32⟩
  | 3 => ⟨S_, .i32⟩
  | 4 => ⟨S2048, .i32⟩
  | 5 => ⟨S2048, .i32⟩
  | 6 => ⟨S2048, .i32⟩
  | 7 => ⟨S_, .i32⟩
  | 8 => ⟨S2048, .i32⟩
  | 9 => ⟨S2048, .i1⟩
  | 10 => ⟨S2048, .i32⟩
  | 11 => ⟨S2048, .i32⟩
  | 12 => ⟨S_, .i32⟩
  | 13 => ⟨S2048, .i32⟩
  | 14 => ⟨S2048, .i1⟩
  | 15 => ⟨S2048, .i1⟩
  | 16 => ⟨S_, .i32⟩
  | 17 => ⟨S2048, .i32⟩
  | 18 => ⟨S2048, .i32⟩
  | 19 => ⟨S2048, .i32⟩
  | 20 => ⟨S1x2048, .i32⟩
  | 21 => ⟨S2048x1, .i32⟩
  | 22 => ⟨S2048x2048, .i32⟩
  | 23 => ⟨S2048x2048, .i32⟩
  | 24 => ⟨S2048x2048, .i1⟩
  | 25 => ⟨S1x2048x2048, .i1⟩
  | 26 => ⟨S_, .f32⟩
  | 27 => ⟨S_, .f32⟩
  | 28 => ⟨S8x2048x2048, .i1⟩
  | 29 => ⟨S8x2048x2048, .f32⟩
  | 30 => ⟨S8x2048x2048, .f32⟩
  | 31 => ⟨S_, .f32⟩
  | 32 => ⟨S8x2048, .f32⟩
  | 33 => ⟨S_, .f32⟩
  | 34 => ⟨S8x2048, .f32⟩
  | 35 => ⟨S8x2048, .f32⟩
  | 36 => ⟨S8x2048x1, .f32⟩
  | 37 => ⟨S8x2048x2048, .f32⟩
  | 38 => ⟨S8x2048x2048, .f32⟩
  | 39 => ⟨S8x2048x2048, .f32⟩
  | 40 => ⟨S_, .f32⟩
  | 41 => ⟨S8x2048, .f32⟩
  | 42 => ⟨S8x2048x1, .f32⟩
  | 43 => ⟨S8x2048x2048, .f32⟩
  | 44 => ⟨S8x2048x2048, .f32⟩
  | 45 => ⟨S8x128x2048, .f32⟩
  | 46 => ⟨S2048x8x128, .f32⟩
  | 47 => ⟨S2048x1024, .f32⟩
  | 48 => ⟨S2048x1024, .bf16⟩
  | 49 => ⟨S_, .f32⟩
  | 50 => ⟨S_, .f32⟩
  | 51 => ⟨S8x2048, .f32⟩
  | 52 => ⟨S8x2048, .f32⟩
  | 53 => ⟨S8x1x2048, .f32⟩
  | _ => ⟨S2048x8x192, .f32⟩

abbrev hbmTy (i : Nat) : BufTy := match i / 128 with
  | 0 => hbmTy0_0 i
  | 1 => hbmTy0_1 i
  | _ => ⟨S2048x8x192, .f32⟩

abbrev bufTy : (tb : Table) → Fin (tcTables nBuf tb) → BufTy
  | .hbm, ⟨i, _⟩ => hbmTy i
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_6 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_v62 : Ref sig .tc := ⟨.hbm, 96, rfl⟩
abbrev main_cst_8 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_9 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_10 : Ref sig .tc := ⟨.hbm, 130, rfl⟩
abbrev main_call2_v0 : Ref sig .tc := ⟨.hbm, 131, rfl⟩
abbrev main_call2_v1 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_c : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_c_0 : Ref sig .tc := ⟨.hbm, 144, rfl⟩
abbrev main_call2_v12 : Ref sig .tc := ⟨.hbm, 145, rfl⟩
abbrev main_call2_v13 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_11 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_v101 : Ref sig .tc := ⟨.hbm, 158, rfl⟩
abbrev main_cst_12 : Ref sig .tc := ⟨.hbm, 159, rfl⟩
abbrev main_v102 : Ref sig .tc := ⟨.hbm, 160, rfl⟩
abbrev main_cst_13 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_14 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_15 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩

abbrev nD : Nat := 1
abbrev τ : Topo := Topo.v7x

variable {F : FTy → Type} [FloatOps F]
-- ==== MixIn.lean ====
abbrev S2048x1024 : Shape := ⟨2, ![2048, 1024]⟩
abbrev S1024x3072 : Shape := ⟨2, ![1024, 3072]⟩
abbrev S3x1024 : Shape := ⟨2, ![3, 1024]⟩
abbrev S512x1024 : Shape := ⟨2, ![512, 1024]⟩
abbrev S16x1024 : Shape := ⟨2, ![16, 1024]⟩
abbrev S1024x512 : Shape := ⟨2, ![1024, 512]⟩
abbrev S3x512 : Shape := ⟨2, ![3, 512]⟩
abbrev S512x512 : Shape := ⟨2, ![512, 512]⟩
abbrev S528x1024 : Shape := ⟨2, ![528, 1024]⟩
abbrev S528x512 : Shape := ⟨2, ![528, 512]⟩
abbrev S528x1 : Shape := ⟨2, ![528, 1]⟩
abbrev S1x512 : Shape := ⟨2, ![1, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x1024, .f32⟩
  | .hbm, ⟨3, _⟩ => ⟨S2048x1024, .bf16⟩
  | .hbm, ⟨4, _⟩ => ⟨S1024x3072, .bf16⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S3x512, .f32⟩
  | .local _ .vmem, ⟨11, _⟩ => ⟨S3x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixInRefIdeal.lean ====
abbrev S2048x1024 : Shape := ⟨2, ![2048, 1024]⟩
abbrev S1024x3072 : Shape := ⟨2, ![1024, 3072]⟩
abbrev S3x1024 : Shape := ⟨2, ![3, 1024]⟩
abbrev S2048x3072 : Shape := ⟨2, ![2048, 3072]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S3x1024, .f32⟩
  | .hbm, ⟨3, _⟩ => ⟨S2048x3072, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2x1024, .f32⟩
  | .hbm, ⟨10, _⟩ => ⟨S2050x1024, .f32⟩
  | .hbm, ⟨11, _⟩ => ⟨S2048x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | .hbm, ⟨33, _⟩ => ⟨S2048x1024, .bf16⟩
  | .hbm, ⟨34, _⟩ => ⟨S2048x1024, .bf16⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== UpAct.lean ====
abbrev S2048x1024 : Shape := ⟨2, ![2048, 1024]⟩
abbrev S1024x5632 : Shape := ⟨2, ![1024, 5632]⟩
abbrev S3x2816 : Shape := ⟨2, ![3, 2816]⟩
abbrev S2816 : Shape := ⟨1, ![2816]⟩
abbrev S5632x1024 : Shape := ⟨2, ![5632, 1024]⟩
abbrev S1x8x704x1024 : Shape := ⟨4, ![1, 8, 704, 1024]⟩
abbrev S3x4x704 : Shape := ⟨3, ![3, 4, 704]⟩
abbrev S4x3x704 : Shape := ⟨3, ![4, 3, 704]⟩
abbrev S4x1x704 : Shape := ⟨3, ![4, 1, 704]⟩
abbrev S4x2048x704 : Shape := ⟨3, ![4, 2048, 704]⟩
abbrev S1024x1024 : Shape := ⟨2, ![1024, 1024]⟩
abbrev S16x1024 : Shape := ⟨2, ![16, 1024]⟩
abbrev S1x1x704x1024 : Shape := ⟨4, ![1, 1, 704, 1024]⟩
abbrev S1x3x704 : Shape := ⟨3, ![1, 3, 704]⟩
abbrev S1x1x704 : Shape := ⟨3, ![1, 1, 704]⟩
abbrev S1x1024x704 : Shape := ⟨3, ![1, 1024, 704]⟩
abbrev S1040x1024 : Shape := ⟨2, ![1040, 1024]⟩
abbrev S704x1024 : Shape := ⟨2, ![704, 1024]⟩
abbrev S1040x704 : Shape := ⟨2, ![1040, 704]⟩
abbrev S1024x704 : Shape := ⟨2, ![1024, 704]⟩
abbrev S1040x1 : Shape := ⟨2, ![1040, 1]⟩
abbrev S3x704 : Shape := ⟨2, ![3, 704]⟩
abbrev S1x704 : Shape := ⟨2, ![1, 704]⟩

abbrev nBuf : Space → Nat
  | .hbm => 14
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2048x1024, .bf16⟩
  | .hbm, ⟨5, _⟩ => ⟨S1024x5632, .bf16⟩
  | .hbm, ⟨6, _⟩ => ⟨S5632x1024, .bf16⟩
  | .hbm, ⟨7, _⟩ => ⟨S1x8x704x1024, .bf16⟩
  | .hbm, ⟨8, _⟩ => ⟨S3x4x704, .f32⟩
  | .hbm, ⟨9, _⟩ => ⟨S4x3x704, .f32⟩
  | .hbm, ⟨10, _⟩ => ⟨S4x1x704, .f32⟩
  | .hbm, ⟨11, _⟩ => ⟨S4x2048x704, .bf16⟩
  | .hbm, ⟨12, _⟩ => ⟨S4x2048x704, .bf16⟩
  | .hbm, ⟨13, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpActRefIdeal.lean ====
abbrev S2048x1024 : Shape := ⟨2, ![2048, 1024]⟩
abbrev S1024x5632 : Shape := ⟨2, ![1024, 5632]⟩
abbrev S3x2816 : Shape := ⟨2, ![3, 2816]⟩
abbrev S2816 : Shape := ⟨1, ![2816]⟩
abbrev S2048x5632 : Shape := ⟨2, ![2048, 5632]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩
abbrev S2048x4x704 : Shape := ⟨3, ![2048, 4, 704]⟩
abbrev S4x2048x704 : Shape := ⟨3, ![4, 2048, 704]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S3x2816, .f32⟩
  | .hbm, ⟨3, _⟩ => ⟨S2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2x2816, .f32⟩
  | .hbm, ⟨9, _⟩ => ⟨S2050x2816, .f32⟩
  | .hbm, ⟨10, _⟩ => ⟨S2048x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S1x2816, .f32⟩
  | .hbm, ⟨18, _⟩ => ⟨S2816, .f32⟩
  | .hbm, ⟨19, _⟩ => ⟨S1x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S1x2816, .f32⟩
  | .hbm, ⟨25, _⟩ => ⟨S2816, .f32⟩
  | .hbm, ⟨26, _⟩ => ⟨S1x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S1x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x4x704, .f32⟩
  | .hbm, ⟨44, _⟩ => ⟨S4x2048x704, .f32⟩
  | .hbm, ⟨45, _⟩ => ⟨S4x2048x704, .bf16⟩
  | .hbm, ⟨46, _⟩ => ⟨S2048x4x704, .f32⟩
  | .hbm, ⟨47, _⟩ => ⟨S4x2048x704, .f32⟩
  | .hbm, ⟨48, _⟩ => ⟨S4x2048x704, .bf16⟩
  | .hbm, ⟨49, _⟩ => ⟨S2048x4x704, .f32⟩
  | .hbm, ⟨50, _⟩ => ⟨S4x2048x704, .f32⟩
  | .hbm, ⟨51, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ONorm.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ONormRefIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== HNorm.lean ====
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HNormRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Pre.lean ====
abbrev S2048x1024 : Shape := ⟨2, ![2048, 1024]⟩
abbrev S1x1024 : Shape := ⟨2, ![1, 1024]⟩
abbrev S1x256 : Shape := ⟨2, ![1, 256]⟩
abbrev S1x384 : Shape := ⟨2, ![1, 384]⟩
abbrev S1024x256 : Shape := ⟨2, ![1024, 256]⟩
abbrev S1024x64 : Shape := ⟨2, ![1024, 64]⟩
abbrev S256x1024 : Shape := ⟨2, ![256, 1024]⟩
abbrev S1024x384 : Shape := ⟨2, ![1024, 384]⟩
abbrev S384x1536 : Shape := ⟨2, ![384, 1536]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S1536x384 : Shape := ⟨2, ![1536, 384]⟩
abbrev S8x192x384 : Shape := ⟨3, ![8, 192, 384]⟩
abbrev S8x256x384 : Shape := ⟨3, ![8, 256, 384]⟩
abbrev S64x1024 : Shape := ⟨2, ![64, 1024]⟩
abbrev S128x1024 : Shape := ⟨2, ![128, 1024]⟩
abbrev S2048x256 : Shape := ⟨2, ![2048, 256]⟩
abbrev S2048x384 : Shape := ⟨2, ![2048, 384]⟩
abbrev S8x2048x256 : Shape := ⟨3, ![8, 2048, 256]⟩
abbrev S512x1024 : Shape := ⟨2, ![512, 1024]⟩
abbrev S512x128 : Shape := ⟨2, ![512, 128]⟩
abbrev S512x256 : Shape := ⟨2, ![512, 256]⟩
abbrev S512x384 : Shape := ⟨2, ![512, 384]⟩
abbrev S8x512x256 : Shape := ⟨3, ![8, 512, 256]⟩
abbrev S512 : Shape := ⟨1, ![512]⟩
abbrev S512x1 : Shape := ⟨2, ![512, 1]⟩
abbrev S1x256x384 : Shape := ⟨3, ![1, 256, 384]⟩
abbrev S256x384 : Shape := ⟨2, ![256, 384]⟩
abbrev S1x512x128 : Shape := ⟨3, ![1, 512, 128]⟩

abbrev nBuf : Space → Nat
  | .hbm => 60
  | .vmem => 38
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x256, .f32⟩
  | .hbm, ⟨4, _⟩ => ⟨S1x384, .f32⟩
  | .hbm, ⟨5, _⟩ => ⟨S1024x256, .bf16⟩
  | .hbm, ⟨6, _⟩ => ⟨S1024x64, .bf16⟩
  | .hbm, ⟨7, _⟩ => ⟨S256x1024, .bf16⟩
  | .hbm, ⟨8, _⟩ => ⟨S256x1024, .bf16⟩
  | .hbm, ⟨9, _⟩ => ⟨S1024x384, .bf16⟩
  | .hbm, ⟨10, _⟩ => ⟨S384x1536, .bf16⟩
  | .hbm, ⟨11, _⟩ => ⟨S2048, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x64, .f32⟩
  | .hbm, ⟨31, _⟩ => ⟨S_, .i32⟩
  | .hbm, ⟨32, _⟩ => ⟨S_, .f32⟩
  | .hbm, ⟨33, _⟩ => ⟨S2048x128, .f32⟩
  | .hbm, ⟨34, _⟩ => ⟨S2048x32, .f32⟩
  | .hbm, ⟨35, _⟩ => ⟨S_, .i32⟩
  | .hbm, ⟨36, _⟩ => ⟨S_, .f32⟩
  | .hbm, ⟨37, _⟩ => ⟨S2048x128, .f32⟩
  | .hbm, ⟨38, _⟩ => ⟨S_, .i32⟩
  | .hbm, ⟨39, _⟩ => ⟨S_, .f32⟩
  | .hbm, ⟨40, _⟩ => ⟨S2048x128, .f32⟩
  | .hbm, ⟨41, _⟩ => ⟨S1536x384, .bf16⟩
  | .hbm, ⟨42, _⟩ => ⟨S8x192x384, .bf16⟩
  | .hbm, ⟨43, _⟩ => ⟨S_, .i32⟩
  | .hbm, ⟨44, _⟩ => ⟨S_, .bf16⟩
  | .hbm, ⟨45, _⟩ => ⟨S8x256x384, .bf16⟩
  | .hbm, ⟨46, _⟩ => ⟨S64x1024, .bf16⟩
  | .hbm, ⟨47, _⟩ => ⟨S_, .i32⟩
  | .hbm, ⟨48, _⟩ => ⟨S_, .bf16⟩
  | .hbm, ⟨49, _⟩ => ⟨S128x1024, .bf16⟩
  | .hbm, ⟨50, _⟩ => ⟨S2048x1024, .bf16⟩
  | .hbm, ⟨51, _⟩ => ⟨S2048x1024, .bf16⟩
  | .hbm, ⟨52, _⟩ => ⟨S2048x256, .f32⟩
  | .hbm, ⟨53, _⟩ => ⟨S2048x256, .bf16⟩
  | .hbm, ⟨54, _⟩ => ⟨S2048x128, .bf16⟩
  | .hbm, ⟨55, _⟩ => ⟨S2048x1024, .bf16⟩
  | .hbm, ⟨56, _⟩ => ⟨S2048x1024, .bf16⟩
  | .hbm, ⟨57, _⟩ => ⟨S2048x384, .f32⟩
  | .hbm, ⟨58, _⟩ => ⟨S2048x384, .bf16⟩
  | .hbm, ⟨59, _⟩ => ⟨S8x2048x256, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1x1024, .f32⟩
  | .local _ .vmem, ⟨10, _⟩ => ⟨S1x256, .f32⟩
  | .local _ .vmem, ⟨11, _⟩ => ⟨S1x384, .f32⟩
  | .local _ .vmem, ⟨12, _⟩ => ⟨S1024x256, .bf16⟩
  | .local _ .vmem, ⟨13, _⟩ => ⟨S128x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x384, .bf16⟩
  | .local _ .vmem, ⟨17, _⟩ => ⟨S8x256x384, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .vmem, ⟨26, _⟩ => ⟨S512x128, .bf16⟩
  | .local _ .vmem, ⟨27, _⟩ => ⟨S512x128, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x384, .f32⟩
  | .local _ .vmem, ⟨33, _⟩ => ⟨S512x384, .f32⟩
  | .local _ .vmem, ⟨34, _⟩ => ⟨S512x384, .bf16⟩
  | .local _ .vmem, ⟨35, _⟩ => ⟨S512x384, .bf16⟩
  | .local _ .vmem, ⟨36, _⟩ => ⟨S8x512x256, .bf16⟩
  | .local _ .vmem, ⟨37, _⟩ => ⟨S8x512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_call1_v0 : Ref sig .tc := ⟨.hbm, 36, rfl⟩
abbrev main_v18 : Ref sig .tc := ⟨.hbm, 37, rfl⟩
abbrev main_c_3 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_call3_v0 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_call4_v0 : Ref sig .tc := ⟨.hbm, 48, rfl⟩
abbrev main_v24 : Ref sig .tc := ⟨.hbm, 49, rfl⟩
abbrev main_v25_0 : Ref sig .tc := ⟨.hbm, 50, rfl⟩
abbrev main_v25_1 : Ref sig .tc := ⟨.hbm, 51, rfl⟩
abbrev main_v25_2 : Ref sig .tc := ⟨.hbm, 52, rfl⟩
abbrev main_v25_3 : Ref sig .tc := ⟨.hbm, 53, rfl⟩
abbrev main_v25_4 : Ref sig .tc := ⟨.hbm, 54, rfl⟩
abbrev main_v25_5 : Ref sig .tc := ⟨.hbm, 55, rfl⟩
abbrev main_v25_6 : Ref sig .tc := ⟨.hbm, 56, rfl⟩
abbrev main_v25_7 : Ref sig .tc := ⟨.hbm, 57, rfl⟩
abbrev main_v25_8 : Ref sig .tc := ⟨.hbm, 58, rfl⟩
abbrev main_v25_9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256x384 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x384 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== PreIdeal.lean ====
variable {F : FTy → Type} [FloatOps F] [Named F]
def κ : String → Option EReal := fun
  | "scale" => some (((Real.sqrt 192)⁻¹ * (Real.log 2)⁻¹ : ℝ) : EReal)
  | _ => none
-- ==== PreRefIdeal.lean ====
abbrev S2048x1024 : Shape := ⟨2, ![2048, 1024]⟩
abbrev S1x1024 : Shape := ⟨2, ![1, 1024]⟩
abbrev S1x256 : Shape := ⟨2, ![1, 256]⟩
abbrev S1x384 : Shape := ⟨2, ![1, 384]⟩
abbrev S1024x256 : Shape := ⟨2, ![1024, 256]⟩
abbrev S1024x64 : Shape := ⟨2, ![1024, 64]⟩
abbrev S256x1024 : Shape := ⟨2, ![256, 1024]⟩
abbrev S1024x384 : Shape := ⟨2, ![1024, 384]⟩
abbrev S384x1536 : Shape := ⟨2, ![384, 1536]⟩
abbrev S2048 : Shape := ⟨1, ![2048]⟩
abbrev S1024 : Shape := ⟨1, ![1024]⟩
abbrev S256 : Shape := ⟨1, ![256]⟩
abbrev S384 : Shape := ⟨1, ![384]⟩
abbrev S_ : Shape := ⟨0, ![]⟩
abbrev S2048x1 : Shape := ⟨2, ![2048, 1]⟩
abbrev S2048x256 : Shape := ⟨2, ![2048, 256]⟩
abbrev S2048x64 : Shape := ⟨2, ![2048, 64]⟩
abbrev S32 : Shape := ⟨1, ![32]⟩
abbrev S1x32 : Shape := ⟨2, ![1, 32]⟩
abbrev S2048x32 : Shape := ⟨2, ![2048, 32]⟩
abbrev S2048x384 : Shape := ⟨2, ![2048, 384]⟩
abbrev S2048x1536 : Shape := ⟨2, ![2048, 1536]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x256 : Shape := ⟨3, ![2048, 8, 256]⟩
abbrev S8x2048x256 : Shape := ⟨3, ![8, 2048, 256]⟩
abbrev S2048x128 : Shape := ⟨2, ![2048, 128]⟩

abbrev nBuf : Space → Nat
  | .hbm => 178
  | .vmem => 0
  | .smem => 0
  | _ => 0

abbrev hbmTy0_0 (i : Nat) : BufTy := match i % 128 with
  | 0 => ⟨S2048x1024, .f32⟩
  | 1 => ⟨S1x1024, .f32⟩
  | 2 => ⟨S1x1024, .f32⟩
  | 3 => ⟨S1x256, .f32⟩
  | 4 => ⟨S1x384, .f32⟩
  | 5 => ⟨S1024x256, .bf16⟩
  | 6 => ⟨S1024x64, .bf16⟩
  | 7 => ⟨S256x1024, .bf16⟩
  | 8 => ⟨S256x1024, .bf16⟩
  | 9 => ⟨S1024x384, .bf16⟩
  | 10 => ⟨S384x1536, .bf16⟩
  | 11 => ⟨S2048, .i32⟩
  | 12 => ⟨S1024, .f32⟩
  | 13 => ⟨S1024, .f32⟩
  | 14 => ⟨S256, .f32⟩
  | 15 => ⟨S384, .f32⟩
  | 16 => ⟨S1024x256, .f32⟩
  | 17 => ⟨S1024x64, .f32⟩
  | 18 => ⟨S256x1024, .f32⟩
  | 19 => ⟨S256x1024, .f32⟩
  | 20 => ⟨S1024x384, .f32⟩
  | 21 => ⟨S384x1536, .f32⟩
  | 22 => ⟨S2048x1024, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S_, .f32⟩
  | 30 => ⟨S2048x1, .f32⟩
  | 31 => ⟨S2048x1, .f32⟩
  | 32 => ⟨S2048x1, .f32⟩
  | 33 => ⟨S2048x1024, .f32⟩
  | 34 => ⟨S2048x1024, .f32⟩
  | 35 => ⟨S1x1024, .f32⟩
  | 36 => ⟨S2048x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x1, .f32⟩
  | 49 => ⟨S2048x1024, .f32⟩
  | 50 => ⟨S2048x1024, .f32⟩
  | 51 => ⟨S1x1024, .f32⟩
  | 52 => ⟨S2048x1024, .f32⟩
  | 53 => ⟨S2048x1024, .f32⟩
  | 54 => ⟨S2048x256, .f32⟩
  | 55 => ⟨S2048x256, .f32⟩
  | 56 => ⟨S_, .f32⟩
  | 57 => ⟨S2048, .f32⟩
  | 58 => ⟨S2048x1, .f32⟩
  | 59 => ⟨S_, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x1, .f32⟩
  | 66 => ⟨S2048x256, .f32⟩
  | 67 => ⟨S2048x256, .f32⟩
  | 68 => ⟨S1x256, .f32⟩
  | 69 => ⟨S2048x256, .f32⟩
  | 70 => ⟨S2048x256, .f32⟩
  | 71 => ⟨S2048x64, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S2048, .f32⟩
  | 83 => ⟨S2048x1, .f32⟩
  | 84 => ⟨S1x32, .f32⟩
  | 85 => ⟨S2048x32, .f32⟩
  | 86 => ⟨S2048x32, .f32⟩
  | 87 => ⟨S2048x32, .f32⟩
  | 88 => ⟨S2048x32, .f32⟩
  | 89 => ⟨S2048x32, .f32⟩
  | 90 => ⟨S2048x32, .f32⟩
  | 91 => ⟨S2048x32, .f32⟩
  | 92 => ⟨S2048x32, .f32⟩
  | 93 => ⟨S2048x32, .f32⟩
  | 94 => ⟨S2048x32, .f32⟩
  | 95 => ⟨S2048x32, .f32⟩
  | 96 => ⟨S2048x32, .f32⟩
  | 97 => ⟨S2048x32, .f32⟩
  | 98 => ⟨S2048x64, .f32⟩
  | 99 => ⟨S2048x384, .f32⟩
  | 100 => ⟨S2048x384, .f32⟩
  | 101 => ⟨S_, .f32⟩
  | 102 => ⟨S2048, .f32⟩
  | 103 => ⟨S2048x1, .f32⟩
  | 104 => ⟨S_, .f32⟩
  | 105 => ⟨S2048x1, .f32⟩
  | 106 => ⟨S2048x1, .f32⟩
  | 107 => ⟨S_, .f32⟩
  | 108 => ⟨S2048x1, .f32⟩
  | 109 => ⟨S2048x1, .f32⟩
  | 110 => ⟨S2048x1, .f32⟩
  | 111 => ⟨S2048x384, .f32⟩
  | 112 => ⟨S2048x384, .f32⟩
  | 113 => ⟨S1x384, .f32⟩
  | 114 => ⟨S2048x384, .f32⟩
  | 115 => ⟨S2048x384, .f32⟩
  | 116 => ⟨S2048x1536, .f32⟩
  | 117 => ⟨S2048x8x192, .f32⟩
  | 118 => ⟨S2048x8x128, .f32⟩
  | 119 => ⟨S2048x8x64, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S2048x1024, .f32⟩

abbrev hbmTy0_1 (i : Nat) : BufTy := match i % 128 with
  | 0 => ⟨S32, .f32⟩
  | 1 => ⟨S32, .f32⟩
  | 2 => ⟨S2048, .f32⟩
  | 3 => ⟨S2048x1, .f32⟩
  | 4 => ⟨S1x32, .f32⟩
  | 5 => ⟨S2048x32, .f32⟩
  | 6 => ⟨S2048x32, .f32⟩
  | 7 => ⟨S2048x32, .f32⟩
  | 8 => ⟨S2048x32, .f32⟩
  | 9 => ⟨S2048x32, .f32⟩
  | 10 => ⟨S2048x1x32, .f32⟩
  | 11 => ⟨S2048x1x32, .f32⟩
  | 12 => ⟨S2048x8x32, .f32⟩
  | 13 => ⟨S2048x8x32, .f32⟩
  | 14 => ⟨S2048x8x32, .f32⟩
  | 15 => ⟨S2048x8x32, .f32⟩
  | 16 => ⟨S2048x8x32, .f32⟩
  | 17 => ⟨S2048x8x32, .f32⟩
  | 18 => ⟨S2048x8x32, .f32⟩
  | 19 => ⟨S2048x8x32, .f32⟩
  | 20 => ⟨S2048x8x32, .f32⟩
  | 21 => ⟨S2048x8x32, .f32⟩
  | 22 => ⟨S2048x8x32, .f32⟩
  | 23 => ⟨S2048x8x32, .f32⟩
  | 24 => ⟨S2048x8x64, .f32⟩
  | 25 => ⟨S_, .f32⟩
  | 26 => ⟨S2048x8x64, .f32⟩
  | 27 => ⟨S2048x8x256, .f32⟩
  | 28 => ⟨S8x2048x256, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S8x2048x256, .f32⟩
  | 36 => ⟨S8x2048x256, .f32⟩
  | 37 => ⟨S2048x1024, .bf16⟩
  | 38 => ⟨S2048x1024, .bf16⟩
  | 39 => ⟨S2048x256, .bf16⟩
  | 40 => ⟨S_, .i32⟩
  | 41 => ⟨S_, .f32⟩
  | 42 => ⟨S2048x128, .f32⟩
  | 43 => ⟨S2048x128, .bf16⟩
  | 44 => ⟨S2048x1024, .f32⟩
  | 45 => ⟨S2048x1024, .bf16⟩
  | 46 => ⟨S2048x1024, .f32⟩
  | 47 => ⟨S2048x1024, .bf16⟩
  | 48 => ⟨S2048x384, .bf16⟩
  | 49 => ⟨S8x2048x256, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_11 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_14 : Ref sig .tc := ⟨.hbm, 121, rfl⟩
abbrev main_v94 : Ref sig .tc := ⟨.hbm, 122, rfl⟩
abbrev main_v95 : Ref sig .tc := ⟨.hbm, 123, rfl⟩
abbrev main_cst_15 : Ref sig .tc := ⟨.hbm, 124, rfl⟩
abbrev main_v96 : Ref sig .tc := ⟨.hbm, 125, rfl⟩
abbrev main_v97 : Ref sig .tc := ⟨.hbm, 126, rfl⟩
abbrev main_cst_16 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_17 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_18 : Ref sig .tc := ⟨.hbm, 157, rfl⟩
abbrev main_v126 : Ref sig .tc := ⟨.hbm, 158, rfl⟩
abbrev main_cst_19 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c : Ref sig .tc := ⟨.hbm, 168, rfl⟩
abbrev main_call0_v0 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩

abbrev nD : Nat := 1
abbrev τ : Topo := Topo.v7x

variable {F : FTy → Type} [FloatOps F]
-- ==== Tables.lean ====
abbrev S2048 : Shape := ⟨1, ![2048]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩

abbrev nBuf : Space → Nat
  | .hbm => 19
  | .vmem => 5
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S64, .f32⟩
  | .hbm, ⟨13, _⟩ => ⟨S128, .f32⟩
  | .hbm, ⟨14, _⟩ => ⟨S1x128, .f32⟩
  | .hbm, ⟨15, _⟩ => ⟨S2048x1, .i32⟩
  | .hbm, ⟨16, _⟩ => ⟨S2048x128, .f32⟩
  | .hbm, ⟨17, _⟩ => ⟨S2048x128, .f32⟩
  | .hbm, ⟨18, _⟩ => ⟨S2048x128, .f32⟩
  | .local _ .vmem, ⟨0, _⟩ => ⟨S2048x1, .i32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== TablesRefIdeal.lean ====
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩

abbrev nBuf : Space → Nat
  | .hbm => 27
  | .vmem => 0
  | .smem => 0
  | _ => 0

abbrev bufTy : (tb : Table) → Fin (tcTables nBuf tb) → BufTy
  | .hbm, ⟨0, _⟩ => ⟨S2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S_, .f32⟩
  | .hbm, ⟨20, _⟩ => ⟨S2048x32, .f32⟩
  | .hbm, ⟨21, _⟩ => ⟨S_, .f32⟩
  | .hbm, ⟨22, _⟩ => ⟨S2048x64, .f32⟩
  | .hbm, ⟨23, _⟩ => ⟨S2048x128, .f32⟩
  | .hbm, ⟨24, _⟩ => ⟨S2048x32, .f32⟩
  | .hbm, ⟨25, _⟩ => ⟨S2048x128, .f32⟩
  | .hbm, ⟨26, _⟩ => ⟨S2048x128, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Rows.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .bf16⟩
  | .hbm, ⟨4, _⟩ => ⟨S1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RowsRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== WGrad.lean ====
abbrev S2048x1024 : Shape := ⟨2, ![2048, 1024]⟩
abbrev S1024x3072 : Shape := ⟨2, ![1024, 3072]⟩
abbrev S2048x3072 : Shape := ⟨2, ![2048, 3072]⟩
abbrev S2048x512 : Shape := ⟨2, ![2048, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x1024, .bf16⟩
  | .hbm, ⟨4, _⟩ => ⟨S2048x3072, .bf16⟩
  | .hbm, ⟨5, _⟩ => ⟨S1024x3072, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WGradRefIdeal.lean ====
abbrev S2048x1024 : Shape := ⟨2, ![2048, 1024]⟩
abbrev S1024x3072 : Shape := ⟨2, ![1024, 3072]⟩
abbrev S2048x3072 : Shape := ⟨2, ![2048, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .f32⟩
  | .hbm, ⟨2, _⟩ => ⟨S2048x3072, .f32⟩
  | .hbm, ⟨3, _⟩ => ⟨S2048x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gup.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S2048x4x704 : Shape := ⟨3, ![2048, 4, 704]⟩
abbrev S4x2048x704 : Shape := ⟨3, ![4, 2048, 704]⟩
abbrev S8x704x1024 : Shape := ⟨3, ![8, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 13
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x4x704, .f32⟩
  | .hbm, ⟨5, _⟩ => ⟨S4x2048x704, .f32⟩
  | .hbm, ⟨6, _⟩ => ⟨S4x2048x704, .bf16⟩
  | .hbm, ⟨7, _⟩ => ⟨S2048x2816, .f32⟩
  | .hbm, ⟨8, _⟩ => ⟨S2048x4x704, .f32⟩
  | .hbm, ⟨9, _⟩ => ⟨S4x2048x704, .f32⟩
  | .hbm, ⟨10, _⟩ => ⟨S4x2048x704, .bf16⟩
  | .hbm, ⟨11, _⟩ => ⟨S2048x1024, .bf16⟩
  | .hbm, ⟨12, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x2048x704, .bf16⟩
  | .local _ .vmem, ⟨4, _⟩ => ⟨S2048x1024, .bf16⟩
  | .local _ .vmem, ⟨5, _⟩ => ⟨S1x704x1024, .bf16⟩
  | .local _ .vmem, ⟨6, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GupRefIdeal.lean ====
abbrev S2048x1024 : Shape := ⟨2, ![2048, 1024]⟩
abbrev S1024x5632 : Shape := ⟨2, ![1024, 5632]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S8x704x1024, .f32⟩
  | .hbm, ⟨8, _⟩ => ⟨S8x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gdown.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S4x2048x704 : Shape := ⟨3, ![4, 2048, 704]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 8
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S2048x1024, .bf16⟩
  | .hbm, ⟨7, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GdownRefIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QGrad.lean ====
abbrev S2048x384 : Shape := ⟨2, ![2048, 384]⟩
abbrev S384x1536 : Shape := ⟨2, ![384, 1536]⟩
abbrev S2048x8x192 : Shape := ⟨3, ![2048, 8, 192]⟩
abbrev S2048x1024 : Shape := ⟨2, ![2048, 1024]⟩
abbrev S1024x384 : Shape := ⟨2, ![1024, 384]⟩
abbrev S1024x1024 : Shape := ⟨2, ![1024, 1024]⟩
abbrev S8x2048x192 : Shape := ⟨3, ![8, 2048, 192]⟩
abbrev S_ : Shape := ⟨0, ![]⟩
abbrev S8x2048x256 : Shape := ⟨3, ![8, 2048, 256]⟩
abbrev S8x192x384 : Shape := ⟨3, ![8, 192, 384]⟩
abbrev S1x2048x256 : Shape := ⟨3, ![1, 2048, 256]⟩
abbrev S2048x256 : Shape := ⟨2, ![2048, 256]⟩
abbrev S256x384 : Shape := ⟨2, ![256, 384]⟩
abbrev S192x384 : Shape := ⟨2, ![192, 384]⟩
abbrev S1x192x384 : Shape := ⟨3, ![1, 192, 384]⟩

abbrev nBuf : Space → Nat
  | .hbm => 22
  | .vmem => 9
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048x8x192, .f32⟩
  | .hbm, ⟨3, _⟩ => ⟨S2048x1024, .f32⟩
  | .hbm, ⟨4, _⟩ => ⟨S1024x384, .f32⟩
  | .hbm, ⟨5, _⟩ => ⟨S2048x384, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S8x2048x192, .f32⟩
  | .hbm, ⟨10, _⟩ => ⟨S_, .i32⟩
  | .hbm, ⟨11, _⟩ => ⟨S_, .f32⟩
  | .hbm, ⟨12, _⟩ => ⟨S8x2048x256, .f32⟩
  | .hbm, ⟨13, _⟩ => ⟨S8x2048x256, .bf16⟩
  | .hbm, ⟨14, _⟩ => ⟨S2048x384, .bf16⟩
  | .hbm, ⟨15, _⟩ => ⟨S2048x1024, .bf16⟩
  | .hbm, ⟨16, _⟩ => ⟨S2048x384, .bf16⟩
  | .hbm, ⟨17, _⟩ => ⟨S2048x1024, .bf16⟩
  | .hbm, ⟨18, _⟩ => ⟨S2048x1024, .bf16⟩
  | .hbm, ⟨19, _⟩ => ⟨S8x192x384, .bf16⟩
  | .hbm, ⟨20, _⟩ => ⟨S1024x384, .bf16⟩
  | .hbm, ⟨21, _⟩ => ⟨S1024x1024, .bf16⟩
  | .local _ .vmem, ⟨0, _⟩ => ⟨S8x2048x256, .bf16⟩
  | .local _ .vmem, ⟨1, _⟩ => ⟨S2048x384, .bf16⟩
  | .local _ .vmem, ⟨2, _⟩ => ⟨S2048x1024, .bf16⟩
  | .local _ .vmem, ⟨3, _⟩ => ⟨S2048x384, .bf16⟩
  | .local _ .vmem, ⟨4, _⟩ => ⟨S2048x1024, .bf16⟩
  | .local _ .vmem, ⟨5, _⟩ => ⟨S2048x1024, .bf16⟩
  | .local _ .vmem, ⟨6, _⟩ => ⟨S8x192x384, .bf16⟩
  | .local _ .vmem, ⟨7, _⟩ => ⟨S1024x384, .bf16⟩
  | .local _ .vmem, ⟨8, _⟩ => ⟨S1024x1024, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x192x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== QGradRefIdeal.lean ====
abbrev S2048x384 : Shape := ⟨2, ![2048, 384]⟩
abbrev S384x1536 : Shape := ⟨2, ![384, 1536]⟩
abbrev S2048x8x192 : Shape := ⟨3, ![2048, 8, 192]⟩
abbrev S2048x1024 : Shape := ⟨2, ![2048, 1024]⟩
abbrev S1024x384 : Shape := ⟨2, ![1024, 384]⟩
abbrev S1024x1024 : Shape := ⟨2, ![1024, 1024]⟩
abbrev S2048x1536 : Shape := ⟨2, ![2048, 1536]⟩
abbrev S1536x384 : Shape := ⟨2, ![1536, 384]⟩
abbrev S384x1024 : Shape := ⟨2, ![384, 1024]⟩
abbrev S8x192x384 : Shape := ⟨3, ![8, 192, 384]⟩

abbrev nBuf : Space → Nat
  | .hbm => 25
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048x8x192, .f32⟩
  | .hbm, ⟨3, _⟩ => ⟨S2048x1024, .f32⟩
  | .hbm, ⟨4, _⟩ => ⟨S1024x384, .f32⟩
  | .hbm, ⟨5, _⟩ => ⟨S2048x384, .f32⟩
  | .hbm, ⟨6, _⟩ => ⟨S2048x1024, .f32⟩
  | .hbm, ⟨7, _⟩ => ⟨S1024x1024, .f32⟩
  | .hbm, ⟨8, _⟩ => ⟨S2048x1024, .f32⟩
  | .hbm, ⟨9, _⟩ => ⟨S2048x1536, .f32⟩
  | .hbm, ⟨10, _⟩ => ⟨S2048x8x192, .f32⟩
  | .hbm, ⟨11, _⟩ => ⟨S2048x1536, .f32⟩
  | .hbm, ⟨12, _⟩ => ⟨S1536x384, .f32⟩
  | .hbm, ⟨13, _⟩ => ⟨S384x1536, .f32⟩
  | .hbm, ⟨14, _⟩ => ⟨S2048x384, .f32⟩
  | .hbm, ⟨15, _⟩ => ⟨S384x1024, .f32⟩
  | .hbm, ⟨16, _⟩ => ⟨S1024x384, .f32⟩
  | .hbm, ⟨17, _⟩ => ⟨S2048x1024, .f32⟩
  | .hbm, ⟨18, _⟩ => ⟨S1024x1024, .f32⟩
  | .hbm, ⟨19, _⟩ => ⟨S1024x1024, .f32⟩
  | .hbm, ⟨20, _⟩ => ⟨S1536x384, .f32⟩
  | .hbm, ⟨21, _⟩ => ⟨S8x192x384, .f32⟩
  | .hbm, ⟨22, _⟩ => ⟨S8x192x384, .bf16⟩
  | .hbm, ⟨23, _⟩ => ⟨S1024x384, .bf16⟩
  | .hbm, ⟨24, _⟩ => ⟨S1024x1024, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Mixer.Spec.lean ====
module

public import Idealize.ShloMosaic.Lib.Pipeline.ValueKit
public import Idealize.ShloMosaic.Lib.Pointwise

@[expose] public section

noncomputable section

/-! The gated convolution's gradient, entry by entry over the extended reals: what both programs are shown to compute. -/

namespace Cert.MixerSpec

open Idealize.ShloMosaic

/-- A `2048 x 1024` array and a `1024 x 1024`, a `3 x 1024` one. -/
abbrev A := (⟨2, ![2048, 1024]⟩ : Shape).Idx → EReal
abbrev W := (⟨2, ![1024, 1024]⟩ : Shape).Idx → EReal
abbrev W3 := (⟨2, ![3, 1024]⟩ : Shape).Idx → EReal

/-- `f` at position `n`, and zero past its end. -/
def at0 (f : Fin 2048 → EReal) (n : ℕ) : EReal := if h : n < 2048 then f ⟨n, h⟩ else 0

/-- `f` moved `o` positions back: zero before it begins and past its end. -/
def back (f : Fin 2048 → EReal) (o n : ℕ) : EReal := if o ≤ n then at0 f (n - o) else 0

theorem at0_lt (f : Fin 2048 → EReal) {n : ℕ} (h : n < 2048) : at0 f n = f ⟨n, h⟩ := dif_pos h

theorem back_lt (f : Fin 2048 → EReal) {o n : ℕ} (h : n < o) : back f o n = 0 := if_neg (by omega)

theorem back_ge (f : Fin 2048 → EReal) {o n : ℕ} (h : o ≤ n) (h' : n - o < 2048) : back f o n = f ⟨n - o, h'⟩ :=
  (if_pos h).trans (at0_lt f h')

theorem back_add (f : Fin 2048 → EReal) {o n o' n' : ℕ} (h : o + n' = o' + n) : back f o n = back f o' n' := by
  unfold back
  by_cases h1 : o ≤ n
  · rw [if_pos h1, if_pos (by omega), show n - o = n' - o' by omega]
  · rw [if_neg h1, if_neg (by omega)]

theorem at0_mul (f : Fin 2048 → EReal) (w : EReal) (n : ℕ) : at0 (fun t => f t * w) n = at0 f n * w := by
  unfold at0
  split
  · rfl
  · rw [zero_mul]

/-- The gated input of the convolution, down one channel. -/
def cu (c u : A) (d : Fin 1024) (t : Fin 2048) : EReal := c (ix2 t d) * u (ix2 t d)

/-- The gradient that comes through the output projection. -/
def gy (ct : A) (wo : W) (d : Fin 1024) (t : Fin 2048) : EReal := ∑ k : Fin 1024, ct (ix2 t k) * wo (ix2 d k)

/-- The gradient of the convolution's result. -/
def dy (ct : A) (wo : W) (b : A) (d : Fin 1024) (t : Fin 2048) : EReal := gy ct wo d t * b (ix2 t d)

/-- The convolution's result. -/
def conv (c u : A) (w : W3) (t : Fin 2048) (d : Fin 1024) : EReal :=
  back (cu c u d) 2 t * w (ix2 0 d) + back (cu c u d) 1 t * w (ix2 1 d) + back (cu c u d) 0 t * w (ix2 2 d)

/-- The gradient of the convolution's input. -/
def dcu (ct : A) (wo : W) (b : A) (w : W3) (t : Fin 2048) (d : Fin 1024) : EReal :=
  dy ct wo b d t * w (ix2 2 d) + at0 (dy ct wo b d) (t + 1) * w (ix2 1 d) + at0 (dy ct wo b d) (t + 2) * w (ix2 0 d)

/-- The gradient of the three gates, side by side. -/
def dz (ct : A) (wo : W) (b c u : A) (w : W3) (t : Fin 2048) (j : Fin 3072) : EReal :=
  if h : (j : ℕ) < 1024 then gy ct wo ⟨j, h⟩ t * conv c u w t ⟨j, h⟩
  else if h' : (j : ℕ) < 2048 then dcu ct wo b w t ⟨j - 1024, by omega⟩ * u (ix2 t ⟨j - 1024, by omega⟩)
  else dcu ct wo b w t ⟨j - 2048, by omega⟩ * c (ix2 t ⟨j - 2048, by omega⟩)

section Parts

variable (ct : A) (wo : W) (b c u : A) (w : W3) (t : Fin 2048) (j : Fin 3072) (d : Fin 1024)

theorem dz_lo (h : (j : ℕ) = d) : dz ct wo b c u w t j = gy ct wo d t * conv c u w t d := by
  unfold dz
  rw [dif_pos (by omega)]
  simp only [h]

theorem dz_mid (h : (j : ℕ) = 1024 + d) : dz ct wo b c u w t j = dcu ct wo b w t d * u (ix2 t d) := by
  unfold dz
  rw [dif_neg (by omega), dif_pos (by omega)]
  simp only [h, Nat.add_sub_cancel_left]

theorem dz_hi (h : (j : ℕ) = 2048 + d) : dz ct wo b c u w t j = dcu ct wo b w t d * c (ix2 t d) := by
  unfold dz
  rw [dif_neg (by omega), dif_neg (by omega)]
  simp only [h, Nat.add_sub_cancel_left]

end Parts

/-- The gradient of the convolution's weights. -/
def dw (ct : A) (wo : W) (b c u : A) (r : Fin 3) (d : Fin 1024) : EReal :=
  ∑ t : Fin 2048, dy ct wo b d t * back (cu c u d) (2 - r) t

end Cert.MixerSpec

end
-- ==== Proof.Mixer.Kernel.lean ====
module

public import proofs.«01_k».proof.Proof.Gen.MixerIdeal.Value
public import proofs.«01_k».proof.Proof.Mixer.Spec

@[expose] public section

set_option maxRecDepth 16384

noncomputable section

/-! The kernel's two result arrays, entry by entry. -/

namespace Cert.MixerIdeal.Val

open Cert.MixerIdeal Cert.MixerIdeal.Gen Cert.MixerSpec Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev ctA (c : Dev nD) : A := V m c main_v7
abbrev woA (c : Dev nD) : W := V m c main_v8
abbrev bA (c : Dev nD) : A := V m c main_v4
abbrev cA (c : Dev nD) : A := V m c main_v5
abbrev uA (c : Dev nD) : A := V m c main_v6
abbrev wA (c : Dev nD) : W3 := V m c main_arg2

/-- Where each window's block lies. -/
theorem idx : ∀ t : Fin cfg0.N, (grid0.coords t 0).val = t.val ∧ win0_0.index t = ![t.val, 0] ∧ win0_1.index t = ![min (16 * (t.val + 1)) 127, 0]
    ∧ win0_2.index t = ![0, 0] ∧ win0_3.index t = ![t.val, 0] ∧ win0_4.index t = ![min (16 * (t.val + 1)) 127, 0]
    ∧ win0_5.index t = ![t.val, 0] ∧ win0_6.index t = ![16 * t.val - 1, 0] ∧ win0_7.index t = ![t.val, 0]
    ∧ win0_8.index t = ![16 * t.val - 1, 0] ∧ win0_9.index t = ![0, 0] ∧ win0_10.index t = ![t.val, 0] ∧ win0_11.index t = ![0, 0] :=
  (by decide +kernel : ∀ t : Fin grid0.N, _)

theorem lt8 (t : Fin cfg0.N) : t.val < 8 := lt_of_lt_of_eq t.isLt N_0

theorem sgt_word : ∀ n : Fin 8, Scalar.cmpi .sgt (BitVec.ofNat 32 n.val) 0#32 = BitVec.ofBool (decide (0 < n.val)) := by decide
theorem slt_word : ∀ n : Fin 8, Scalar.cmpi .slt (BitVec.ofNat 32 n.val) 7#32 = BitVec.ofBool (decide (n.val < 7)) := by decide

/-- The projected gradient at a row of the tile and its next rows. -/
theorem pay3_eq (c : Dev nD) (t : Fin cfg0.N) (r : Fin 272) (d : Fin 1024) (h : 256 * t.val + r.val < 2048) :
    k0_pay3 (iblk m c 0 t) (iblk m c 1 t) (iblk m c 2 t) (ix2 r d) = gy (ctA m c) (woA m c) d ⟨256 * t.val + r.val, h⟩ := by
  have ht := lt8 t
  pointwise [k0_pay3, gy]
  refine Finset.sum_congr rfl fun k _ => ?_
  congr 1
  · split
    · blk_ext [iblk, idx t]
    · blk_ext [iblk, idx t]
  · blk_ext [iblk, idx t]

/-- The gated input at a row of the tile and the rows before it. -/
theorem pay6_eq (c : Dev nD) (t : Fin cfg0.N) (r : Fin 272) (d : Fin 1024) :
    k0_pay6 (grid0.coords t) (iblk m c 5 t) (iblk m c 7 t) (iblk m c 6 t) (iblk m c 8 t) (ix2 r d)
      = back (cu (cA m c) (uA m c) d) 16 (256 * t.val + r.val) := by
  have ht := lt8 t
  pointwise [k0_pay6, k0_pay4, k0_pay5]
  split
  · rw [(idx t).1, sgt_word ⟨t.val, ht⟩, Scalar.select_ofBool]
    by_cases h0 : 0 < t.val
    · rw [if_pos (decide_eq_true h0), back_ge _ (by omega) (by omega)]
      refine congrArg₂ (· * ·) ?_ ?_
      · blk_ext [iblk, idx t]
      · blk_ext [iblk, idx t]
    · rw [if_neg (by simpa using h0), back_lt _ (by omega)]
  · rw [back_ge _ (by omega) (by omega)]
    refine congrArg₂ (· * ·) ?_ ?_
    · blk_ext [iblk, idx t]
    · blk_ext [iblk, idx t]

section Taps

variable (c : Dev nD) (t : Fin cfg0.N) (r : Fin 256) (d : Fin 1024)

/-- The gated input two rows back, one row back and in place. -/
theorem pay7_eq : k0_pay7 (grid0.coords t) (iblk m c 5 t) (iblk m c 7 t) (iblk m c 6 t) (iblk m c 8 t) (ix2 r d)
    = back (cu (cA m c) (uA m c) d) 2 (256 * t.val + r.val) := by
  pointwise [k0_pay7]
  rw [pay6_eq]
  exact back_add _ (by dsimp only; omega)

theorem pay8_eq : k0_pay8 (grid0.coords t) (iblk m c 5 t) (iblk m c 7 t) (iblk m c 6 t) (iblk m c 8 t) (ix2 r d)
    = back (cu (cA m c) (uA m c) d) 1 (256 * t.val + r.val) := by
  pointwise [k0_pay8]
  rw [pay6_eq]
  exact back_add _ (by dsimp only; omega)

theorem pay9_eq : k0_pay9 (grid0.coords t) (iblk m c 5 t) (iblk m c 7 t) (iblk m c 6 t) (iblk m c 8 t) (ix2 r d)
    = back (cu (cA m c) (uA m c) d) 0 (256 * t.val + r.val) := by
  pointwise [k0_pay9]
  rw [pay6_eq]
  exact back_add _ (by dsimp only; omega)

/-- The gradient of the convolution's result at a row of the tile. -/
theorem pay14_eq (h : 256 * t.val + r.val < 2048) :
    k0_pay14 (k0_pay3 (iblk m c 0 t) (iblk m c 1 t) (iblk m c 2 t)) (iblk m c 3 t) (ix2 r d)
      = dy (ctA m c) (woA m c) (bA m c) d ⟨256 * t.val + r.val, h⟩ := by
  pointwise [k0_pay14, k0_pay12]
  rw [pay3_eq m c t _ d h]
  refine congrArg₂ (· * ·) rfl ?_
  blk_ext [iblk, idx t]

/-- A row of the weights. -/
theorem w_eq (k : Fin 3) : iblk m c 9 t (ix2 k d) = wA m c (ix2 k d) := by
  blk_ext [iblk, idx t]

/-- The gradient of the convolution's input at a row of the tile. -/
theorem pay15_eq (h : 256 * t.val + r.val < 2048) :
    k0_pay15 (BitVec.ofNat 32 (grid0.coords t 0).val) (k0_pay3 (iblk m c 0 t) (iblk m c 1 t) (iblk m c 2 t)) (iblk m c 9 t) (iblk m c 3 t)
      (iblk m c 4 t) (ix2 r d) = dcu (ctA m c) (woA m c) (bA m c) (wA m c) ⟨256 * t.val + r.val, h⟩ d := by
  have ht := lt8 t
  have key : ∀ (k : Fin 272), (if hk : k.val < 256 then
        k0_pay14 (k0_pay3 (iblk m c 0 t) (iblk m c 1 t) (iblk m c 2 t)) (iblk m c 3 t) (ix2 ⟨k.val, hk⟩ d)
      else Scalar.select (Scalar.cmpi .slt (BitVec.ofNat 32 (grid0.coords t 0).val) 7#32)
        (k0_pay3 (iblk m c 0 t) (iblk m c 1 t) (iblk m c 2 t) (ix2 ⟨256 + (k.val - 256), by omega⟩ d)
          * (show FVec Ideal S16x1024 .bf16 from iblk m c 4 t) (ix2 ⟨k.val - 256, by omega⟩ d)) 0)
      = at0 (dy (ctA m c) (woA m c) (bA m c) d) (256 * t.val + k.val) := by
    intro k
    split
    · rw [pay14_eq m c t _ d (by dsimp only; omega), at0_lt]
    · rw [(idx t).1, slt_word ⟨t.val, ht⟩, Scalar.select_ofBool]
      by_cases h7 : t.val < 7
      · rw [if_pos (decide_eq_true h7), at0_lt _ (by omega)]
        rw [pay3_eq m c t _ d (by dsimp only; omega)]
        refine congrArg₂ (· * ·) (congrArg _ (Fin.ext (by dsimp only; omega))) ?_
        blk_ext [iblk, idx t]
      · rw [if_neg (by simpa using h7), at0, dif_neg (by omega)]
  pointwise [k0_pay15]
  rw [pay14_eq m c t r d h, w_eq, w_eq, w_eq]
  unfold dcu
  have k1 := key ⟨(r.val + 272 - 271) % 272, by omega⟩
  have k2 := key ⟨(r.val + 272 - 270) % 272, by omega⟩
  rw [show 256 * t.val + (r.val + 272 - 271) % 272 = 256 * t.val + r.val + 1 by omega] at k1
  rw [show 256 * t.val + (r.val + 272 - 270) % 272 = 256 * t.val + r.val + 2 by omega] at k2
  exact congrArg₂ (· + ·) (congrArg₂ (· + ·) rfl (congrArg (· * _) k1)) (congrArg (· * _) k2)

/-- The three column blocks a point stores. -/
theorem pay16_eq (h : 256 * t.val + r.val < 2048) :
    k0_pay16 (BitVec.ofNat 32 (grid0.coords t 0).val) (k0_pay3 (iblk m c 0 t) (iblk m c 1 t) (iblk m c 2 t)) (k0_pay5 (iblk m c 7 t))
      (iblk m c 9 t) (iblk m c 3 t) (iblk m c 4 t) (ix2 r d)
    = dcu (ctA m c) (woA m c) (bA m c) (wA m c) ⟨256 * t.val + r.val, h⟩ d * uA m c (ix2 ⟨256 * t.val + r.val, h⟩ d) := by
  pointwise [k0_pay16, k0_pay5]
  rw [pay15_eq m c t r d h]
  refine congrArg₂ (· * ·) rfl ?_
  blk_ext [iblk, idx t]

theorem pay17_eq (h : 256 * t.val + r.val < 2048) :
    k0_pay17 (BitVec.ofNat 32 (grid0.coords t 0).val) (k0_pay3 (iblk m c 0 t) (iblk m c 1 t) (iblk m c 2 t)) (k0_pay4 (iblk m c 5 t))
      (iblk m c 9 t) (iblk m c 3 t) (iblk m c 4 t) (ix2 r d)
    = dcu (ctA m c) (woA m c) (bA m c) (wA m c) ⟨256 * t.val + r.val, h⟩ d * cA m c (ix2 ⟨256 * t.val + r.val, h⟩ d) := by
  pointwise [k0_pay17, k0_pay4]
  rw [pay15_eq m c t r d h]
  refine congrArg₂ (· * ·) rfl ?_
  blk_ext [iblk, idx t]

theorem pay13_eq (h : 256 * t.val + r.val < 2048) :
    k0_pay13 (k0_pay3 (iblk m c 0 t) (iblk m c 1 t) (iblk m c 2 t))
      (k0_pay9 (grid0.coords t) (iblk m c 5 t) (iblk m c 7 t) (iblk m c 6 t) (iblk m c 8 t)) (iblk m c 9 t)
      (k0_pay10 (grid0.coords t) (iblk m c 5 t) (iblk m c 7 t) (iblk m c 6 t) (iblk m c 8 t) (iblk m c 9 t))
      (k0_pay11 (grid0.coords t) (iblk m c 5 t) (iblk m c 7 t) (iblk m c 6 t) (iblk m c 8 t) (iblk m c 9 t)) (ix2 r d)
    = gy (ctA m c) (woA m c) d ⟨256 * t.val + r.val, h⟩ * conv (cA m c) (uA m c) (wA m c) ⟨256 * t.val + r.val, h⟩ d := by
  pointwise [k0_pay13, k0_pay12, k0_pay10, k0_pay11]
  rw [pay3_eq m c t _ d h, pay7_eq, pay8_eq, pay9_eq, w_eq, w_eq, w_eq]
  rfl

end Taps

/-- What a point adds to the weights' gradient. -/
theorem pay1_eq (c : Dev nD) (t : Fin cfg0.N) (k : Fin 3) (d : Fin 1024) :
    k0_pay1 (k0_pay7 (grid0.coords t) (iblk m c 5 t) (iblk m c 7 t) (iblk m c 6 t) (iblk m c 8 t))
      (k0_pay8 (grid0.coords t) (iblk m c 5 t) (iblk m c 7 t) (iblk m c 6 t) (iblk m c 8 t))
      (k0_pay9 (grid0.coords t) (iblk m c 5 t) (iblk m c 7 t) (iblk m c 6 t) (iblk m c 8 t))
      (k0_pay14 (k0_pay3 (iblk m c 0 t) (iblk m c 1 t) (iblk m c 2 t)) (iblk m c 3 t)) (ix2 k d)
    = ∑ r : Fin 256, at0 (dy (ctA m c) (woA m c) (bA m c) d) (t.val * 256 + r.val) * back (cu (cA m c) (uA m c) d) (2 - k) (t.val * 256 + r.val) := by
  have ht := lt8 t
  have hs : ∀ r : Fin 256, t.val * 256 + r.val = 256 * t.val + r.val := fun r => by omega
  pointwise [k0_pay1]
  simp only [hs]
  fin_vals k with hk <;> simp only [hk, Nat.reduceSub, Nat.reduceLT, ↓reduceDIte] <;>
    refine Finset.sum_congr rfl fun r _ => ?_ <;> rw [pay14_eq m c t r d (by omega), at0_lt _ (by omega)]
  · rw [pay7_eq]
  · rw [pay8_eq]
  · rw [pay9_eq]

/-- The weights' gradient. -/
theorem final11 (c : Dev nD) (k : Fin 3) (d : Fin 1024) :
    (dats m 0 c).arrAt 11 cfg0.N (ix2 k d) = dw (ctA m c) (woA m c) (bA m c) (cA m c) (uA m c) k d := by
  refine congrFun ((dats m 0 c).arrAt_eq_of_after_last 11 t0_7 (by decide +kernel) (fun j => dw (ctA m c) (woA m c) (bA m c) (cA m c) (uA m c) (j 0) (j 1)) fun j => ?_) (ix2 k d)
  idx_vars j
  blk_simp
  rw [after0_11, Pipeline.eq_sum_fin_of_reset_step_apply_last (fun n h => (outsAt0 m c n h).2) 8 (fun _ => 0)
    (fun t j => ∑ r : Fin 256, at0 (dy (ctA m c) (woA m c) (bA m c) (j 1)) (t.val * 256 + r.val)
      * back (cu (cA m c) (uA m c) (j 1)) (2 - (j 0).val) (t.val * 256 + r.val))
    (fun t h j => by rw [outsAt0_A m c t h (by have := lt8 t; omega)]; frame_out; idx_vars j; rw [pay1_eq]; exact (zero_add _).symm)
    (fun t h j => by rw [outsAt0_B m c t h (by omega)]; frame_out; idx_vars j; pointwise [k0_pay2]; rw [pay1_eq])
    (le_of_eq N_0) t0_7 rfl _, zero_add]
  refine Fin.sum_mul_add_congr (fun s r hl => ?_) (by rw [show cfg0.N = 8 from N_0])
  rw [at0_lt _ hl]

/-- The gates' gradient. -/
theorem final10 (c : Dev nD) (t : Fin 2048) (j : Fin 3072) :
    (dats m 0 c).arrAt 10 cfg0.N (ix2 t j) = dz (ctA m c) (woA m c) (bA m c) (cA m c) (uA m c) (wA m c) t j := by
  refine congrFun ((dats m 0 c).arrAt_eq_of_covers 10 (fun i => dz (ctA m c) (woA m c) (bA m c) (cA m c) (uA m c) (wA m c) (i 0) (i 1)) (by decide +kernel) fun t hf y => ?_) (ix2 t j)
  idx_vars y
  have ht := lt8 t
  blk_simp
  rw [after0_10, show (win0_10.blk t).view.emb (ix2 y0 y1) = ix2 ⟨256 * t.val + y0.val, by omega⟩ y1 by blk_ext [idx t]]
  by_cases h8 : t.val % 8 = 0
  · rw [outsAt0_A m c t h8 (by omega)]
    frame_out
    canon_tiles x h
    all_goals idx_vars x
    all_goals obtain rfl : y0 = x0 := Fin.ext h0
    · rw [pay17_eq m c t y0 x1 (by omega), dz_hi (h := h1)]
    · rw [pay16_eq m c t y0 x1 (by omega), dz_mid (h := h1)]
    · rw [pay13_eq m c t y0 x1 (by omega), dz_lo (h := h1)]
  · rw [outsAt0_B m c t h8 (by omega)]
    frame_out
    canon_tiles x h
    all_goals idx_vars x
    all_goals obtain rfl : y0 = x0 := Fin.ext h0
    · rw [pay17_eq m c t y0 x1 (by omega), dz_hi (h := h1)]
    · rw [pay16_eq m c t y0 x1 (by omega), dz_mid (h := h1)]
    · rw [pay13_eq m c t y0 x1 (by omega), dz_lo (h := h1)]

end Cert.MixerIdeal.Val

end
-- ==== Proof.Mixer.Ref.lean ====
module

public import proofs.«01_k».proof.Proof.Gen.MixerRefIdeal.Read
public import proofs.«01_k».proof.Proof.Mixer.Spec

@[expose] public section

set_option maxRecDepth 16384

noncomputable section

/-! The reference's two results, entry by entry. -/

namespace Cert.MixerRefIdeal.Val

open Cert.MixerRefIdeal Cert.MixerRefIdeal.Read Cert.MixerSpec Idealize.ShloMosaic Idealize.ShloMosaic.TcCoe Idealize.SL.Sem

variable (x0 : FVec Ideal S2048x1024 .f32) (x1 : FVec Ideal S1024x3072 .f32) (x2 : FVec Ideal S3x1024 .f32)
  (x3 : FVec Ideal S1024x1024 .f32) (x4 : FVec Ideal S2048x1024 .f32)

/-- The three gates of the input projection. -/
abbrev b : A := val_main_v1 (F := Ideal) x0 x1
abbrev g : A := val_main_v2 (F := Ideal) x0 x1
abbrev u : A := val_main_v3 (F := Ideal) x0 x1

/-- The gated input under two rows of zeros. -/
theorem v6_eq (n : Fin 2050) (d : Fin 1024) : val_main_v6 (F := Ideal) x0 x1 (ix2 n d) = back (cu (g x0 x1) (u x0 x1) d) 2 n := by
  pointwise [val_main_v6, val_main_v5, val_main_cst, val_main_v4]
  split
  · rw [back_lt _ (by omega)]
  · rw [back_ge _ (by omega) (by omega)]; rfl

theorem v8_eq (t : Fin 2048) (d : Fin 1024) : val_main_v8 (F := Ideal) x0 x1 (ix2 t d) = back (cu (g x0 x1) (u x0 x1) d) 2 t := by
  pointwise [val_main_v8]
  rw [v6_eq]

theorem v14_eq (t : Fin 2048) (d : Fin 1024) : val_main_v14 (F := Ideal) x0 x1 (ix2 t d) = back (cu (g x0 x1) (u x0 x1) d) 1 t := by
  pointwise [val_main_v14]
  rw [v6_eq]
  exact back_add _ (by dsimp only; omega)

theorem v21_eq (t : Fin 2048) (d : Fin 1024) : val_main_v21 (F := Ideal) x0 x1 (ix2 t d) = back (cu (g x0 x1) (u x0 x1) d) 0 t := by
  pointwise [val_main_v21]
  rw [v6_eq]
  exact back_add _ (by dsimp only; omega)

theorem v27_eq (t : Fin 2048) (d : Fin 1024) : val_main_v27 (F := Ideal) x0 x1 x2 (ix2 t d) = conv (g x0 x1) (u x0 x1) x2 t d := by
  pointwise [val_main_v27, val_main_v26, val_main_v25, val_main_v24, val_main_v23, val_main_v22, val_main_v20, val_main_v19, val_main_v18,
    val_main_v17, val_main_v16, val_main_v15, val_main_v13, val_main_v12, val_main_v11, val_main_v10, val_main_v9]
  rw [v8_eq, v14_eq, v21_eq]
  rfl

theorem v30_eq (t : Fin 2048) (d : Fin 1024) : val_main_v30 (F := Ideal) x3 x4 (ix2 t d) = gy x4 x3 d t := by
  pointwise [val_main_v30]
  rfl

theorem v31_eq (t : Fin 2048) (d : Fin 1024) : val_main_v31 (F := Ideal) x0 x1 x3 x4 (ix2 t d) = dy x4 x3 (b x0 x1) d t := by
  pointwise [val_main_v31]
  rw [v30_eq]
  exact mul_comm _ _

theorem v65_eq (t : Fin 2048) (d : Fin 1024) :
    val_main_v65 (F := Ideal) x0 x1 x2 x3 x4 (ix2 t d) = dcu x4 x3 (b x0 x1) x2 t d := by
  pointwise [val_main_v65, val_main_v63, val_main_v62, val_main_v57, val_main_v56, val_main_v11, val_main_v10, val_main_v9, val_main_cst_12,
    val_main_v52, val_main_v51, val_main_v46, val_main_v45, val_main_v17, val_main_v16, val_main_v15, val_main_cst_8,
    val_main_v41, val_main_v37, val_main_v36, val_main_v24, val_main_v23, val_main_v22, val_main_cst_4]
  simp only [v31_eq]
  refine congrArg₂ (· + ·) (congrArg₂ (· + ·) rfl ?_) ?_
  · rw [← at0_mul]
    unfold at0
    by_cases h : t.val + 1 < 2048
    · rw [dif_pos (by omega), dif_pos h]
      simp only [show 2 + t.val - 1 = t.val + 1 by omega]
    · rw [dif_neg (by omega), dif_neg h]
  · rw [← at0_mul, add_comm t.val 2]
    rfl

theorem v68_eq (t : Fin 2048) (j : Fin 3072) :
    val_main_v69 (F := Ideal) x0 x1 x2 x3 x4 (ix2 t j) = dz x4 x3 (b x0 x1) (g x0 x1) (u x0 x1) x2 t j := by
  pointwise [val_main_v69, val_main_v68, val_main_v67, val_main_v66, val_main_v32]
  simp only [v30_eq, v27_eq, v65_eq]
  by_cases h1 : j.val < 1024
  · rw [dif_pos h1, dz_lo (d := ⟨j.val, h1⟩) (h := rfl)]
  · rw [dif_neg h1]
    by_cases h2 : j.val - 1024 < 1024
    · rw [dif_pos h2, dz_mid (d := ⟨j.val - 1024, h2⟩) (h := by dsimp only; omega)]
    · rw [dif_neg h2, dz_hi (d := ⟨j.val - 1024 - 1024, by omega⟩) (h := by dsimp only; omega)]
      exact mul_comm _ _

theorem v61_eq (k : Fin 3) (d : Fin 1024) :
    val_main_v61 (F := Ideal) x0 x1 x3 x4 (ix2 k d) = dw x4 x3 (b x0 x1) (g x0 x1) (u x0 x1) k d := by
  pointwise [val_main_v61, val_main_v60, val_main_v59, val_main_v58, val_main_v55, val_main_v54, val_main_v53, val_main_cst_9, val_main_cst_10,
    val_main_cst_11, val_main_v50, val_main_v49, val_main_v48, val_main_v47, val_main_v44, val_main_v43, val_main_v42, val_main_cst_5,
    val_main_cst_6, val_main_cst_7, val_main_v40, val_main_v39, val_main_v38, val_main_v35, val_main_v34, val_main_v33, val_main_cst_1,
    val_main_cst_2, val_main_cst_3]
  simp only [v8_eq, v14_eq, v21_eq, v31_eq, Fin.sum_univ_one, Finset.univ_unique, Finset.sum_singleton]
  fin_vals k with hk <;> simp [hk, dw, mul_comm]

end Cert.MixerRefIdeal.Val

end
-- ==== Proof.Mixer.Claim.lean ====
module

public import proofs.«01_k».proof.Defs
public import proofs.«01_k».proof.Proof.Mixer.Kernel
public import proofs.«01_k».proof.Proof.Mixer.Ref

@[expose] public section

set_option maxRecDepth 16384

noncomputable section

/-! The pair of the gated convolution's gradient: kernel and reference end with the same two arrays. -/

namespace Cert.MixerClaim

open Idealize.ShloMosaic Idealize.ShloMosaic.TcCoe Idealize.SL.Sem
open Cert.MixerIdeal Cert.MixerIdeal.Gen Cert.MixerRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x3072 .f32 := m ((c : Thread nD τ).loc main_arg1)
abbrev a2 : FVec Ideal S3x1024 .f32 := m ((c : Thread nD τ).loc main_arg2)
abbrev a3 : FVec Ideal S1024x1024 .f32 := m ((c : Thread nD τ).loc main_arg3)
abbrev a4 : FVec Ideal S2048x1024 .f32 := m ((c : Thread nD τ).loc main_arg4)

/-- What the host hands the launch: the gates of the input projection, and the cotangent and the weights as they are. -/
theorem bA_eq : Val.bA m c = val_main_v1 (F := Ideal) (a0 m c) (a1 m c) := by
  unfold Val.bA
  entry_read
  funext i
  idx_vars i
  pointwise [val_main_v1, val_main_v0]

theorem cA_eq : Val.cA m c = val_main_v2 (F := Ideal) (a0 m c) (a1 m c) := by
  unfold Val.cA
  entry_read
  funext i
  idx_vars i
  pointwise [val_main_v2, val_main_v0]

theorem uA_eq : Val.uA m c = val_main_v3 (F := Ideal) (a0 m c) (a1 m c) := by
  unfold Val.uA
  entry_read
  funext i
  idx_vars i
  pointwise [val_main_v3, val_main_v0]

theorem ctA_eq : Val.ctA m c = a4 m c := by
  unfold Val.ctA
  entry_read
  rfl

theorem woA_eq : Val.woA m c = a3 m c := by
  unfold Val.woA
  entry_read
  rfl

theorem wA_eq : Val.wA m c = a2 m c := by
  unfold Val.wA
  entry_read
  rfl

theorem out0 : (dats m 0 c).arrAt 10 cfg0.N = val_main_v69 (F := Ideal) (a0 m c) (a1 m c) (a2 m c) (a3 m c) (a4 m c) := by
  funext i
  idx_vars i
  rw [Val.final10, bA_eq, cA_eq, uA_eq, ctA_eq, woA_eq, wA_eq]
  exact (Cert.MixerRefIdeal.Val.v68_eq ..).symm

theorem out1 : (dats m 0 c).arrAt 11 cfg0.N = val_main_v61 (F := Ideal) (a0 m c) (a1 m c) (a3 m c) (a4 m c) := by
  funext i
  idx_vars i
  rw [Val.final11, bA_eq, cA_eq, uA_eq, ctA_eq, woA_eq]
  exact (Cert.MixerRefIdeal.Val.v61_eq ..).symm

/-- Kernel and reference agree at the extended reals. -/
theorem algebraic : Cert.algebraic_MixerIdeal_MixerRefIdeal := by
  pair_intro
  · run_from Cert.MixerIdeal.Value.run_blocks m g
  · run_from Cert.MixerRefIdeal.Value.run m' g'
    · rw [val_main_v69_eq, out0, (hagree c).1, (hagree c).2.1, (hagree c).2.2.1, (hagree c).2.2.2.1, (hagree c).2.2.2.2]
    · rw [val_main_v61_eq, out1, (hagree c).1, (hagree c).2.1, (hagree c).2.2.2.1, (hagree c).2.2.2.2]

end Cert.MixerClaim

end
-- ==== Proof.Attn.First.lean ====
module

public import proofs.«01_k».proof.Proof.Gen.AttnIdeal.Frame
public import proofs.«01_k».proof.Proof.Gen.AttnIdeal.Skeleton
public import proofs.«01_k».proof.Proof.Gen.AttnIdeal.Loops
public import Idealize.ShloMosaic.Lib.LoopRemainder

@[expose] public section

set_option maxRecDepth 16384

noncomputable section

namespace Cert.AttnIdeal.Own

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The step is the first of its pair of heads. -/
abbrev AtStart (i : grid0.Coords) : Prop := (Scalar.cmpi .ne (Scalar.extui (Scalar.cmpi .eq (BitVec.ofNat 32 (i 1).val) 0#32)) 0#32) = 1#1

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec F S2x2048x256 .bf16) (x1 : Vec F S512x256 .bf16) (x2 : Vec F S512x128 .bf16) (x3 : Vec F S512x256 .bf16)
  (x4 : Vec F S2048x256 .bf16) (x5 : Vec F S2048x256 .bf16) (x6 : Vec F S2x1x2048 .f32) (x7 x8 x9 : Vec F S2048x128 .f32)

/-- The key block: its heads' unrotated part beside the shared rotary part, and the value block, as the step loads them. -/
abbrev ldR : Vec F S512x128 .bf16 := (arg4.view.readAt (Elt F) (Rect.unit (s := S512x128) ![0, 0] S512x128.size inb_S512x128_S512x128_0_0).toLoadRect (harg4.unread x2))
abbrev ldK0 : Vec F S512x128 .bf16 := (arg3.view.readAt (Elt F) (Rect.unit (s := S512x256) ![0, 0] S512x128.size inb_S512x256_S512x128_0_0).toLoadRect (harg3.unread x1))
abbrev ldK1 : Vec F S512x128 .bf16 := (arg3.view.readAt (Elt F) (Rect.unit (s := S512x256) ![0, 128] S512x128.size inb_S512x256_S512x128_0_128).toLoadRect (harg3.unread x1))
abbrev ldV0 : Vec F S512x128 .bf16 := (arg5.view.readAt (Elt F) (Rect.unit (s := S512x256) ![0, 0] S512x128.size inb_S512x256_S512x128_0_0).toLoadRect (harg5.unread x3))
abbrev ldV1 : Vec F S512x128 .bf16 := (arg5.view.readAt (Elt F) (Rect.unit (s := S512x256) ![0, 128] S512x128.size inb_S512x256_S512x128_0_128).toLoadRect (harg5.unread x3))
abbrev ldQ0 : Vec F S1x512x256 .bf16 := (arg2.view.readAt (Elt F) (Rect.unit (s := S2x2048x256) (k0_off1 i) S1x512x256.size (k0_off1_inb i)).toLoadRect (harg2.unread x0))
abbrev ldQ1 : Vec F S1x512x256 .bf16 := (arg2.view.readAt (Elt F) (Rect.unit (s := S2x2048x256) (k0_off2 i) S1x512x256.size (k0_off2_inb i)).toLoadRect (harg2.unread x0))
abbrev ldD0 : Vec F S512x128 .bf16 := (arg7.view.readAt (Elt F) (Rect.unit (s := S2048x256) (k0_off3 i) S512x128.size (k0_off3_inb i)).toLoadRect (harg7.unread x5))
abbrev ldD1 : Vec F S512x128 .bf16 := (arg7.view.readAt (Elt F) (Rect.unit (s := S2048x256) (k0_off4 i) S512x128.size (k0_off4_inb i)).toLoadRect (harg7.unread x5))

/-- What the first part of the step hands to the rest: the blocks it loaded and the two score blocks of the diagonal. -/
def first : (Σ' (_ : BitVec 32) (_ : FVec F S512x256 .bf16) (_ : FVec F S512x256 .bf16) (_ : FVec F S512x128 .bf16) (_ : FVec F S512x128 .bf16)
    (_ : FVec F S512x256 .f32) (_ : FVec F S512x128 .f32) (_ : BitVec 32) (_ : FVec F S512x256 .bf16) (_ : FVec F S512x256 .bf16)
    (_ : FVec F S512x128 .bf16) (_ : FVec F S512x128 .bf16) (_ : FVec F S512x512 .f32) (_ : FVec F S512x512 .f32), FVec F S512x512 .f32) :=
  ⟨BitVec.ofNat 32 (i 1).val, k0_pay50 (ldR arg4 harg4 x2) (ldK0 arg3 harg3 x1), k0_pay51 (ldR arg4 harg4 x2) (ldK1 arg3 harg3 x1),
    k0_pay52 (ldV0 arg5 harg5 x3), k0_pay53 (ldV1 arg5 harg5 x3), k0_pay54 (F := F), k0_pay55 (F := F),
    Scalar.muli (BitVec.ofNat 32 (i 1).val) 512#32, k0_pay56 (ldQ0 i arg2 harg2 x0), k0_pay57 (ldQ1 i arg2 harg2 x0),
    k0_pay58 (ldD0 i arg7 harg7 x5), k0_pay59 (ldD1 i arg7 harg7 x5),
    k0_pay60 (ldR arg4 harg4 x2) (ldK0 arg3 harg3 x1) (ldQ0 i arg2 harg2 x0),
    k0_pay61 (ldR arg4 harg4 x2) (ldK1 arg3 harg3 x1) (ldQ1 i arg2 harg2 x0), constant S512x512 .f32 0x00000000#32⟩

/-- The buffers that the first part reads and does not write, at their blocks. -/
abbrev Ins : sProp 𝕄 := iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5))

/-- Away from the first step of a pair of heads the first part only loads. -/
theorem first_keep (hc0 : ¬AtStart i) (xs0 : Vec F S2x2048x256 .f32) (xs1 : Vec F S2x1x2048 .f32) (E : Set ℕ) :
    iprop(Ins c arg2 harg2 arg3 harg3 arg4 harg4 arg5 harg5 arg6 harg6 arg7 harg7 x0 x1 x2 x3 x4 x5 ∗ (arg16.view.loc (c : Thread nD τ) ↦[arg16.view.set]{fullShare} harg16.unread xs0) ∗ (arg17.view.loc (c : Thread nD τ) ↦[arg17.view.set]{fullShare} harg17.unread xs1))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun r => iprop(⌜r = first i arg2 harg2 arg3 harg3 arg4 harg4 arg5 harg5 arg7 harg7 x0 x1 x2 x3 x5⌝
          ∗ Ins c arg2 harg2 arg3 harg3 arg4 harg4 arg5 harg5 arg6 harg6 arg7 harg7 x0 x1 x2 x3 x4 x5 ∗ (arg16.view.loc (c : Thread nD τ) ↦[arg16.view.set]{fullShare} harg16.unread xs0) ∗ (arg17.view.loc (c : Thread nD τ) ↦[arg17.view.set]{fullShare} harg17.unread xs1))) := by
  rw [k0_part7_eq_skeleton]; unfold k0_part7_skel
  iintro ⟨⟨H2, H3, H4, H5, H6, H7⟩, H16, H17⟩
  sl_exec (disch := first | sl_exact hc0)
  sl_step
  isplitr
  · ipureintro; rfl
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H16]; · iexact H16
  iexact H17

/-- At the first step of a pair of heads the first part clears the query gradients and stores the row sums of the
    cotangent against the output; the stores are the run's own finds. -/
def first_init (hc0 : AtStart i) :
    Σ' (L0 : List (View.Piece (Elt F) S2x2048x256 .f32)), { L1 : List (View.Piece (Elt F) S2x1x2048 .f32) //
      ∀ (E : Set ℕ),
      iprop(Ins c arg2 harg2 arg3 harg3 arg4 harg4 arg5 harg5 arg6 harg6 arg7 harg7 x0 x1 x2 x3 x4 x5
        ∗ (∃ d, owns (c : Thread nD τ) arg16 fullShare d) ∗ (∃ d, owns (c : Thread nD τ) arg17 fullShare d))
      ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun r => iprop(⌜r = first i arg2 harg2 arg3 harg3 arg4 harg4 arg5 harg5 arg7 harg7 x0 x1 x2 x3 x5⌝
          ∗ Ins c arg2 harg2 arg3 harg3 arg4 harg4 arg5 harg5 arg6 harg6 arg7 harg7 x0 x1 x2 x3 x4 x5
          ∗ (∃ f, (arg16.view.loc (c : Thread nD τ) ↦[arg16.view.set]{fullShare} arg16.view.writes (Elt F) f L0)) ∗ (∃ f, (arg17.view.loc (c : Thread nD τ) ↦[arg17.view.set]{fullShare} arg17.view.writes (Elt F) f L1)))) } := by
  refine ⟨?_, ?_, fun E => ?run⟩
  case run =>
    rw [k0_part7_eq_skeleton]; unfold k0_part7_skel
    simp only [k0_part1_eq_skeleton, k0_part2_eq_skeleton, k0_part3_eq_skeleton]
    unfold owns
    iintro ⟨⟨H2, H3, H4, H5, H6, H7⟩, ⟨%d16, %f16, -, H16⟩, ⟨%d17, %f17, -, H17⟩⟩
    sl_exec (disch := first | sl_exact hc0)
    sl_step
    isplitr
    · ipureintro; rfl
    isplitl [H2 H3 H4 H5 H6 H7]
    · isplitl [H2]; · iexact H2
      isplitl [H3]; · iexact H3
      isplitl [H4]; · iexact H4
      isplitl [H5]; · iexact H5
      isplitl [H6]; · iexact H6
      iexact H7
    isplitl [H16]; · iexists _; iexact H16
    iexists _; iexact H17

end Cert.AttnIdeal.Own

end
-- ==== Proof.Attn.Run.lean ====
module

public import proofs.«01_k».proof.Proof.Attn.First

@[expose] public section

set_option maxRecDepth 16384

noncomputable section

namespace Cert.AttnIdeal.Own

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec F S2x2048x256 .bf16) (x1 : Vec F S512x256 .bf16) (x2 : Vec F S512x128 .bf16) (x3 : Vec F S512x256 .bf16)
  (x4 : Vec F S2048x256 .bf16) (x5 : Vec F S2048x256 .bf16) (x6 : Vec F S2x1x2048 .f32) (x7 x8 x9 : Vec F S2048x128 .f32)
variable (xs0 : Vec F S2x2048x256 .f32) (xs1 : Vec F S2x1x2048 .f32)
variable (a1 : BitVec 32) (v7 v10 : FVec F S512x256 .bf16) (v12 v14 : FVec F S512x128 .bf16) (v15 : FVec F S512x256 .f32)
  (v16 : FVec F S512x128 .f32) (v18 : BitVec 32) (v21 v24 : FVec F S512x256 .bf16) (v27 v30 : FVec F S512x128 .bf16)
  (v31 v32 z : FVec F S512x512 .f32)

/-- The buffers that a step reads and never writes, at their blocks. -/
abbrev AllIns : sProp 𝕄 := iprop(Ins c arg2 harg2 arg3 harg3 arg4 harg4 arg5 harg5 arg6 harg6 arg7 harg7 x0 x1 x2 x3 x4 x5 ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9))

set_option maxHeartbeats 1000000 in
/-- A step that is not the last of its pair of heads, from what its first part does: the stores are the run's own finds. -/
def runN (hc1 : ¬k0_cond2 i = 1#1) :
    Σ' (L11 : List (View.Piece (Elt F) S512x256 .bf16)) (L12 : List (View.Piece (Elt F) S2x512x128 .f32))
      (L13 : List (View.Piece (Elt F) S512x256 .bf16)), { LS : List (View.Piece (Elt F) S2x2048x256 .f32) //
      ∀ (f10 : Buf (Elt F) (arg12.view.loc (c : Thread nD τ))) (P : sProp 𝕄) (E : Set ℕ) (K : PUnit → sProp 𝕄)
        (hcut : iprop(Ins c arg2 harg2 arg3 harg3 arg4 harg4 arg5 harg5 arg6 harg6 arg7 harg7 x0 x1 x2 x3 x4 x5 ∗ P) ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨a1, v7, v10, v12, v14, v15, v16, v18, v21, v24, v27, v30, v31, v32, z⟩⌝ ∗ Ins c arg2 harg2 arg3 harg3 arg4 harg4 arg5 harg5 arg6 harg6 arg7 harg7 x0 x1 x2 x3 x4 x5 ∗ (arg16.view.loc (c : Thread nD τ) ↦[arg16.view.set]{fullShare} harg16.unread xs0) ∗ (arg17.view.loc (c : Thread nD τ) ↦[arg17.view.set]{fullShare} harg17.unread xs1)))),
      iprop(AllIns c arg2 harg2 arg3 harg3 arg4 harg4 arg5 harg5 arg6 harg6 arg7 harg7 arg8 harg8 arg9 harg9 arg10 harg10 arg11 harg11 x0 x1 x2 x3 x4 x5 x6 x7 x8 x9 ∗ P ∗ (arg12.view.loc (c : Thread nD τ) ↦[arg12.view.set]{fullShare} f10) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))
        ∗ (iprop(AllIns c arg2 harg2 arg3 harg3 arg4 harg4 arg5 harg5 arg6 harg6 arg7 harg7 arg8 harg8 arg9 harg9 arg10 harg10 arg11 harg11 x0 x1 x2 x3 x4 x5 x6 x7 x8 x9 ∗ (arg12.view.loc (c : Thread nD τ) ↦[arg12.view.set]{fullShare} f10)
            ∗ (∃ f, (arg13.view.loc (c : Thread nD τ) ↦[arg13.view.set]{fullShare} arg13.view.writes (Elt F) f L11)) ∗ (∃ f, (arg14.view.loc (c : Thread nD τ) ↦[arg14.view.set]{fullShare} arg14.view.writes (Elt F) f L12))
            ∗ (∃ f, (arg15.view.loc (c : Thread nD τ) ↦[arg15.view.set]{fullShare} arg15.view.writes (Elt F) f L13))
            ∗ (arg16.view.loc (c : Thread nD τ) ↦[arg16.view.set]{fullShare} arg16.view.writes (Elt F) (harg16.unread xs0) LS) ∗ (arg17.view.loc (c : Thread nD τ) ↦[arg17.view.set]{fullShare} harg17.unread xs1)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun f10 P E K hcut => ?run⟩
  case run =>
    simp only [cc0_attn_bwd_eq_skeleton]; unfold cc0_attn_bwd_skel
    rw [wp_bind]
    simp only [k0_part8_eq_skeleton, k0_part9_eq_skeleton]
    iintro ⟨⟨HI, H8, H9, H10, H11⟩, HP, H12, ⟨%f13, H13⟩, ⟨%f14, H14⟩, ⟨%f15, H15⟩, Hk⟩
    iapply (wp_wand_r Idealize.ShloMosaic.frame (wpE (defs₀ (F := F)) Variants.none (c : Thread nD τ) none) E)
    isplitl [HI HP]
    · iapply hcut; isplitl [HI]; · iexact HI
      iexact HP
    iintro %r ⟨%hr, ⟨H2, H3, H4, H5, H6, H7⟩, H16, H17⟩
    subst hr
    sl_exec (disch := first | sl_exact hc1)
    sl_step
    iapply Hk
    isplitl [H2 H3 H4 H5 H6 H7 H8 H9 H10 H11]
    · isplitl [H2 H3 H4 H5 H6 H7]
      · isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexact H10
      iexact H11
    isplitl [H12]; · iexact H12
    isplitl [H13]; · iexists _; iexact H13
    isplitl [H14]; · iexists _; iexact H14
    isplitl [H15]; · iexists _; iexact H15
    isplitl [H16]; · iexact H16
    iexact H17

set_option maxHeartbeats 1000000 in
/-- The last step of a pair of heads, which also writes the query gradients out. -/
def runC (hc1 : k0_cond2 i = 1#1) :
    Σ' (L10 : List (View.Piece (Elt F) S2x2048x256 .bf16)), Σ' (L11 : List (View.Piece (Elt F) S512x256 .bf16)) (L12 : List (View.Piece (Elt F) S2x512x128 .f32))
      (L13 : List (View.Piece (Elt F) S512x256 .bf16)), { LS : List (View.Piece (Elt F) S2x2048x256 .f32) //
      ∀ (P : sProp 𝕄) (E : Set ℕ) (K : PUnit → sProp 𝕄)
        (hcut : iprop(Ins c arg2 harg2 arg3 harg3 arg4 harg4 arg5 harg5 arg6 harg6 arg7 harg7 x0 x1 x2 x3 x4 x5 ∗ P) ⊢ wp frame (wpE (defs₀ (F := F)) Variants.none c none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun r => iprop(⌜r = ⟨a1, v7, v10, v12, v14, v15, v16, v18, v21, v24, v27, v30, v31, v32, z⟩⌝ ∗ Ins c arg2 harg2 arg3 harg3 arg4 harg4 arg5 harg5 arg6 harg6 arg7 harg7 x0 x1 x2 x3 x4 x5 ∗ (arg16.view.loc (c : Thread nD τ) ↦[arg16.view.set]{fullShare} harg16.unread xs0) ∗ (arg17.view.loc (c : Thread nD τ) ↦[arg17.view.set]{fullShare} harg17.unread xs1)))),
      iprop(AllIns c arg2 harg2 arg3 harg3 arg4 harg4 arg5 harg5 arg6 harg6 arg7 harg7 arg8 harg8 arg9 harg9 arg10 harg10 arg11 harg11 x0 x1 x2 x3 x4 x5 x6 x7 x8 x9 ∗ P ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))
        ∗ (iprop(AllIns c arg2 harg2 arg3 harg3 arg4 harg4 arg5 harg5 arg6 harg6 arg7 harg7 arg8 harg8 arg9 harg9 arg10 harg10 arg11 harg11 x0 x1 x2 x3 x4 x5 x6 x7 x8 x9 ∗ (∃ f, (arg12.view.loc (c : Thread nD τ) ↦[arg12.view.set]{fullShare} arg12.view.writes (Elt F) f L10))
            ∗ (∃ f, (arg13.view.loc (c : Thread nD τ) ↦[arg13.view.set]{fullShare} arg13.view.writes (Elt F) f L11)) ∗ (∃ f, (arg14.view.loc (c : Thread nD τ) ↦[arg14.view.set]{fullShare} arg14.view.writes (Elt F) f L12))
            ∗ (∃ f, (arg15.view.loc (c : Thread nD τ) ↦[arg15.view.set]{fullShare} arg15.view.writes (Elt F) f L13))
            ∗ (arg16.view.loc (c : Thread nD τ) ↦[arg16.view.set]{fullShare} arg16.view.writes (Elt F) (harg16.unread xs0) LS) ∗ (arg17.view.loc (c : Thread nD τ) ↦[arg17.view.set]{fullShare} harg17.unread xs1)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun P E K hcut => ?run⟩
  case run =>
    simp only [cc0_attn_bwd_eq_skeleton]; unfold cc0_attn_bwd_skel
    rw [wp_bind]
    simp only [k0_part8_eq_skeleton, k0_part9_eq_skeleton, k0_part6_eq_skeleton]
    iintro ⟨⟨HI, H8, H9, H10, H11⟩, HP, ⟨%f12, H12⟩, ⟨%f13, H13⟩, ⟨%f14, H14⟩, ⟨%f15, H15⟩, Hk⟩
    iapply (wp_wand_r Idealize.ShloMosaic.frame (wpE (defs₀ (F := F)) Variants.none (c : Thread nD τ) none) E)
    isplitl [HI HP]
    · iapply hcut; isplitl [HI]; · iexact HI
      iexact HP
    iintro %r ⟨%hr, ⟨H2, H3, H4, H5, H6, H7⟩, H16, H17⟩
    subst hr
    sl_exec (disch := first | sl_exact hc1)
    sl_step
    iapply Hk
    isplitl [H2 H3 H4 H5 H6 H7 H8 H9 H10 H11]
    · isplitl [H2 H3 H4 H5 H6 H7]
      · isplitl [H2]; · iexact H2
        isplitl [H3]; · iexact H3
        isplitl [H4]; · iexact H4
        isplitl [H5]; · iexact H5
        isplitl [H6]; · iexact H6
        iexact H7
      isplitl [H8]; · iexact H8
      isplitl [H9]; · iexact H9
      isplitl [H10]; · iexact H10
      iexact H11
    isplitl [H12]; · iexists _; iexact H12
    isplitl [H13]; · iexists _; iexact H13
    isplitl [H14]; · iexists _; iexact H14
    isplitl [H15]; · iexists _; iexact H15
    isplitl [H16]; · iexact H16
    iexact H17

end Cert.AttnIdeal.Own

end
-- ==== Proof.Attn.Step.lean ====
module

public import proofs.«01_k».proof.Proof.Attn.Run
public import proofs.«01_k».proof.Proof.Gen.AttnIdeal.Points

@[expose] public section

set_option maxRecDepth 16384

noncomputable section

namespace Cert.AttnIdeal.Own

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first step of a pair of heads is every fourth, from the first; -/
theorem atStart_iff (t : Fin cfg0.N) : AtStart (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [AtStart, e1]
  word_cmp

/-- the last is every fourth, from the fourth. -/
theorem atEnd_iff (t : Fin cfg0.N) : k0_cond2 (grid0.coords t) = 1#1 ↔ t.val % 4 = 3 := by
  have ht : t.val < 16 := Nat.lt_of_lt_of_eq t.isLt N_0
  have e1 : (grid0.coords t 1).val = t.val / 1 % 4 := Pipeline.Grid.coords_val t 1 (by decide) rfl
  simp only [k0_cond2, e1]
  word_cmp

/-- The block of query gradients is left alone and not written back at any step but the last of its pair, -/
theorem idle_dq : ∀ t : Fin cfg0.N, ¬k0_cond2 (grid0.coords t) = 1#1 →
    cfg0.idle 10 (grid0.coords t) = true ∧ (cfg0.win 10).flush t = false := by decide +kernel
/-- where it is stored. -/
theorem live_dq : ∀ t : Fin cfg0.N, k0_cond2 (grid0.coords t) = 1#1 → cfg0.idle 10 (grid0.coords t) = false := by decide +kernel

/-! The buffers a step is given, one per window and the two it carries. -/

abbrev stQ (t : Fin cfg0.N) : Memref sig .tc .vmem S2x2048x256 .bf16 := win0_0.stage (cfg0.slots t 0)
abbrev hstQ (t : Fin cfg0.N) : (stQ t).IsWhole := hstage0_0 ((cfg0.slots t 0).cast nbuf0_0)
abbrev stKN (t : Fin cfg0.N) : Memref sig .tc .vmem S512x256 .bf16 := win0_1.stage (cfg0.slots t 1)
abbrev hstKN (t : Fin cfg0.N) : (stKN t).IsWhole := hstage0_1 ((cfg0.slots t 1).cast nbuf0_1)
abbrev stKR (t : Fin cfg0.N) : Memref sig .tc .vmem S512x128 .bf16 := win0_2.stage (cfg0.slots t 2)
abbrev hstKR (t : Fin cfg0.N) : (stKR t).IsWhole := hstage0_2 ((cfg0.slots t 2).cast nbuf0_2)
abbrev stV (t : Fin cfg0.N) : Memref sig .tc .vmem S512x256 .bf16 := win0_3.stage (cfg0.slots t 3)
abbrev hstV (t : Fin cfg0.N) : (stV t).IsWhole := hstage0_3 ((cfg0.slots t 3).cast nbuf0_3)
abbrev stO (t : Fin cfg0.N) : Memref sig .tc .vmem S2048x256 .bf16 := win0_4.stage (cfg0.slots t 4)
abbrev hstO (t : Fin cfg0.N) : (stO t).IsWhole := hstage0_4 ((cfg0.slots t 4).cast nbuf0_4)
abbrev stD (t : Fin cfg0.N) : Memref sig .tc .vmem S2048x256 .bf16 := win0_5.stage (cfg0.slots t 5)
abbrev hstD (t : Fin cfg0.N) : (stD t).IsWhole := hstage0_5 ((cfg0.slots t 5).cast nbuf0_5)
abbrev stL (t : Fin cfg0.N) : Memref sig .tc .vmem S2x1x2048 .f32 := win0_6.stage (cfg0.slots t 6)
abbrev hstL (t : Fin cfg0.N) : (stL t).IsWhole := hstage0_6 ((cfg0.slots t 6).cast nbuf0_6)
abbrev stCos (t : Fin cfg0.N) : Memref sig .tc .vmem S2048x128 .f32 := win0_7.stage (cfg0.slots t 7)
abbrev hstCos (t : Fin cfg0.N) : (stCos t).IsWhole := hstage0_7 ((cfg0.slots t 7).cast nbuf0_7)
abbrev stSin (t : Fin cfg0.N) : Memref sig .tc .vmem S2048x128 .f32 := win0_8.stage (cfg0.slots t 8)
abbrev hstSin (t : Fin cfg0.N) : (stSin t).IsWhole := hstage0_8 ((cfg0.slots t 8).cast nbuf0_8)
abbrev stSin2 (t : Fin cfg0.N) : Memref sig .tc .vmem S2048x128 .f32 := win0_9.stage (cfg0.slots t 9)
abbrev hstSin2 (t : Fin cfg0.N) : (stSin2 t).IsWhole := hstage0_9 ((cfg0.slots t 9).cast nbuf0_9)
abbrev stDQ (t : Fin cfg0.N) : Memref sig .tc .vmem S2x2048x256 .bf16 := win0_10.stage (cfg0.slots t 10)
abbrev hstDQ (t : Fin cfg0.N) : (stDQ t).IsWhole := hstage0_10 ((cfg0.slots t 10).cast nbuf0_10)
abbrev stDKN (t : Fin cfg0.N) : Memref sig .tc .vmem S512x256 .bf16 := win0_11.stage (cfg0.slots t 11)
abbrev hstDKN (t : Fin cfg0.N) : (stDKN t).IsWhole := hstage0_11 ((cfg0.slots t 11).cast nbuf0_11)
abbrev stDKR (t : Fin cfg0.N) : Memref sig .tc .vmem S2x512x128 .f32 := win0_12.stage (cfg0.slots t 12)
abbrev hstDKR (t : Fin cfg0.N) : (stDKR t).IsWhole := hstage0_12 ((cfg0.slots t 12).cast nbuf0_12)
abbrev stDV (t : Fin cfg0.N) : Memref sig .tc .vmem S512x256 .bf16 := win0_13.stage (cfg0.slots t 13)
abbrev hstDV (t : Fin cfg0.N) : (stDV t).IsWhole := hstage0_13 ((cfg0.slots t 13).cast nbuf0_13)
abbrev acc : Memref sig .tc .vmem S2x2048x256 .f32 := Memref.whole cc0_scratch0
abbrev hacc : acc.IsWhole := Memref.isWhole_whole _
abbrev dl : Memref sig .tc .vmem S2x1x2048 .f32 := Memref.whole cc0_scratch1
abbrev hdl : dl.IsWhole := Memref.isWhole_whole _

/-- What is carried from step to step: the sums of the query gradients, and the row sums of the cotangent. -/
abbrev Carry (F : FTy → Type) : Type := Vec F S2x2048x256 .f32 × Vec F S2x1x2048 .f32

/-- The blocks that step `t` loads before its loop, and the diagonal's two score blocks. -/
def firstAt (c : Dev nD) (t : Fin cfg0.N) :=
  first (grid0.coords t) (stQ t) (hstQ t) (stKN t) (hstKN t) (stKR t) (hstKR t) (stV t) (hstV t) (stD t) (hstD t) (iblk m c 0 t) (iblk m c 1 t) (iblk m c 2 t) (iblk m c 3 t) (iblk m c 5 t)

/-- What a pair of heads starts from. -/
def initAt (c : Dev nD) (t : Fin cfg0.N) (h : AtStart (grid0.coords t)) :=
  first_init (F := F) c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (iblk m c 0 t) (iblk m c 1 t) (iblk m c 2 t) (iblk m c 3 t) (iblk m c 4 t) (iblk m c 5 t) h

/-- What is carried, as step `t`'s loop finds it, from what the step before left. -/
def start (c : Dev nD) (t : Fin cfg0.N) (p : Carry F) : Carry F :=
  if h : AtStart (grid0.coords t) then
    (acc.view.read (Elt F) (acc.view.writes (Elt F) acc.view.junk (initAt m c t h).1),
      dl.view.read (Elt F) (dl.view.writes (Elt F) dl.view.junk (initAt m c t h).2.1))
  else p

/-- The run of step `t` from what is carried, when it is not the last of its pair of heads, -/
def runNAt (c : Dev nD) (t : Fin cfg0.N) (s : Carry F) (h : ¬k0_cond2 (grid0.coords t) = 1#1) :=
  let r := firstAt m c t
  runN c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (iblk m c 0 t) (iblk m c 1 t) (iblk m c 2 t) (iblk m c 3 t) (iblk m c 4 t) (iblk m c 5 t) (iblk m c 6 t) (iblk m c 7 t) (iblk m c 8 t) (iblk m c 9 t) s.1 s.2 r.1 r.2.1 r.2.2.1 r.2.2.2.1 r.2.2.2.2.1 r.2.2.2.2.2.1 r.2.2.2.2.2.2.1 r.2.2.2.2.2.2.2.1
    r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1
    r.2.2.2.2.2.2.2.2.2.2.2.2.2.2 h
/-- and when it is. -/
def runCAt (c : Dev nD) (t : Fin cfg0.N) (s : Carry F) (h : k0_cond2 (grid0.coords t) = 1#1) :=
  let r := firstAt m c t
  runC c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (iblk m c 0 t) (iblk m c 1 t) (iblk m c 2 t) (iblk m c 3 t) (iblk m c 4 t) (iblk m c 5 t) (iblk m c 6 t) (iblk m c 7 t) (iblk m c 8 t) (iblk m c 9 t) s.1 s.2 r.1 r.2.1 r.2.2.1 r.2.2.2.1 r.2.2.2.2.1 r.2.2.2.2.2.1 r.2.2.2.2.2.2.1 r.2.2.2.2.2.2.2.1
    r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1
    r.2.2.2.2.2.2.2.2.2.2.2.2.2.2 h

/-- The block of query gradients a step leaves; it stores it at the last step of a pair only, -/
def outDQ (c : Dev nD) (t : Fin cfg0.N) (s : Carry F) : Vec F S2x2048x256 .bf16 :=
  (stDQ t).view.read (Elt F) (if h : k0_cond2 (grid0.coords t) = 1#1 then (stDQ t).view.writes (Elt F) (stDQ t).view.junk (runCAt m c t s h).1 else (stDQ t).view.junk)
/-- the key gradients' block of the unrotated part, -/
def outDKN (c : Dev nD) (t : Fin cfg0.N) (s : Carry F) : Vec F S512x256 .bf16 :=
  (stDKN t).view.read (Elt F) ((stDKN t).view.writes (Elt F) (stDKN t).view.junk (if h : k0_cond2 (grid0.coords t) = 1#1 then (runCAt m c t s h).2.1 else (runNAt m c t s h).1))
/-- of the rotary part, -/
def outDKR (c : Dev nD) (t : Fin cfg0.N) (s : Carry F) : Vec F S2x512x128 .f32 :=
  (stDKR t).view.read (Elt F) ((stDKR t).view.writes (Elt F) (stDKR t).view.junk (if h : k0_cond2 (grid0.coords t) = 1#1 then (runCAt m c t s h).2.2.1 else (runNAt m c t s h).2.1))
/-- and the value gradients' block; -/
def outDV (c : Dev nD) (t : Fin cfg0.N) (s : Carry F) : Vec F S512x256 .bf16 :=
  (stDV t).view.read (Elt F) ((stDV t).view.writes (Elt F) (stDV t).view.junk (if h : k0_cond2 (grid0.coords t) = 1#1 then (runCAt m c t s h).2.2.2.1 else (runNAt m c t s h).2.2.1))
/-- and the sums of the query gradients it leaves. -/
def outAcc (c : Dev nD) (t : Fin cfg0.N) (s : Carry F) : Vec F S2x2048x256 .f32 :=
  acc.view.read (Elt F) (acc.view.writes (Elt F) (hacc.unread s.1) (if h : k0_cond2 (grid0.coords t) = 1#1 then (runCAt m c t s h).2.2.2.2.1 else (runNAt m c t s h).2.2.2.1))

/-- What is carried when step `n`'s loop begins. -/
def entry (c : Dev nD) : (n : ℕ) → n < cfg0.N → Carry F
  | 0, hn => start m c ⟨0, hn⟩ (acc.view.read (Elt F) acc.view.junk, dl.view.read (Elt F) dl.view.junk)
  | n + 1, hn => start m c ⟨n + 1, hn⟩
      (outAcc m c ⟨n, Nat.lt_of_succ_lt hn⟩ (entry c n (Nat.lt_of_succ_lt hn)), (entry c n (Nat.lt_of_succ_lt hn)).2)

/-- The two carried buffers before step `n`: at anything before the first, then as the step before left them. -/
def Held (c : Dev nD) : (n : ℕ) → n ≤ cfg0.N → sProp 𝕄
  | 0, _ => iprop((∃ d, owns (c : Thread nD τ) acc fullShare d) ∗ (∃ d, owns (c : Thread nD τ) dl fullShare d))
  | n + 1, hn => iprop(owns (c : Thread nD τ) acc fullShare (outAcc m c ⟨n, hn⟩ (entry m c n hn)) ∗ owns (c : Thread nD τ) dl fullShare (entry m c n hn).2)

theorem Held_any (c : Dev nD) (n : ℕ) (h : n ≤ cfg0.N) :
    Held m c n h ⊢ iprop((∃ d, owns (c : Thread nD τ) acc fullShare d) ∗ (∃ d, owns (c : Thread nD τ) dl fullShare d)) := by
  cases n with
  | zero => exact Idealize.SL.BI.Entails.refl _
  | succ n =>
    unfold Held; iintro ⟨HA, HD⟩
    isplitl [HA]; · iexists _; iexact HA
    iexists _; iexact HD

theorem entry_eq (c : Dev nD) (t : Fin cfg0.N) (h : AtStart (grid0.coords t)) :
    entry m c t.val t.isLt = (acc.view.read (Elt F) (acc.view.writes (Elt F) acc.view.junk (initAt m c t h).1),
      dl.view.read (Elt F) (dl.view.writes (Elt F) dl.view.junk (initAt m c t h).2.1)) := by
  obtain ⟨n, hn⟩ := t
  cases n <;> exact dif_pos h

theorem Held_entry (c : Dev nD) (t : Fin cfg0.N) (h : ¬AtStart (grid0.coords t)) :
    Held m c t.val (Nat.le_of_lt t.isLt) = iprop(owns (c : Thread nD τ) acc fullShare (entry m c t.val t.isLt).1 ∗ owns (c : Thread nD τ) dl fullShare (entry m c t.val t.isLt).2) := by
  obtain ⟨n, hn⟩ := t
  cases n with
  | zero => exact absurd ((atStart_iff _).mpr rfl) h
  | succ n =>
    have e : entry m c (n + 1) hn = (outAcc m c ⟨n, Nat.lt_of_succ_lt hn⟩ (entry m c n (Nat.lt_of_succ_lt hn)), (entry m c n (Nat.lt_of_succ_lt hn)).2) := dif_neg h
    exact (congrArg (fun s : Carry F => iprop(owns (c : Thread nD τ) acc fullShare s.1 ∗ owns (c : Thread nD τ) dl fullShare s.2)) e).symm

/-- The first step's stores cover both carried buffers. -/
theorem init_cover (c : Dev nD) (t : Fin cfg0.N) (h : AtStart (grid0.coords t)) :
    View.Piece.tiledL (initAt m c t h).1 S2x2048x256.size = true ∧ View.Piece.tiledL (initAt m c t h).2.1 S1x1x512.size = true :=
  ⟨by sl_kernel_rfl, by sl_kernel_rfl⟩

/-- The first part of any step, from the carried buffers as the step before left them. -/
theorem cut (c : Dev nD) (t : Fin cfg0.N) (E : Set ℕ) :
    iprop(Ins c (stQ t) (hstQ t) (stKN t) (hstKN t) (stKR t) (hstKR t) (stV t) (hstV t) (stO t) (hstO t) (stD t) (hstD t) (iblk m c 0 t) (iblk m c 1 t) (iblk m c 2 t) (iblk m c 3 t) (iblk m c 4 t) (iblk m c 5 t) ∗ Held m c t.val (Nat.le_of_lt t.isLt))
      ⊢ wp frame (wpE (defs₀ (F := F)) Variants.none c none) E (k0_part7 (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl)
        (fun r => iprop(⌜r = firstAt m c t⌝ ∗ Ins c (stQ t) (hstQ t) (stKN t) (hstKN t) (stKR t) (hstKR t) (stV t) (hstV t) (stO t) (hstO t) (stD t) (hstD t) (iblk m c 0 t) (iblk m c 1 t) (iblk m c 2 t) (iblk m c 3 t) (iblk m c 4 t) (iblk m c 5 t) ∗ (acc.view.loc (c : Thread nD τ) ↦[acc.view.set]{fullShare} hacc.unread (entry m c t.val t.isLt).1) ∗ (dl.view.loc (c : Thread nD τ) ↦[dl.view.set]{fullShare} hdl.unread (entry m c t.val t.isLt).2))) := by
  by_cases h : AtStart (grid0.coords t)
  · iintro ⟨HI, HS⟩
    ihave HS' := (Held_any m c t.val _) $$ HS
    icases HS' with ⟨HA, HD⟩
    iapply (wp_wand_r Idealize.ShloMosaic.frame (wpE (defs₀ (F := F)) Variants.none (c : Thread nD τ) none) E)
    isplitl [HI HA HD]
    · iapply ((initAt m c t h).2.2 E)
      isplitl [HI]; · iexact HI
      isplitl [HA]; · iexact HA
      iexact HD
    iintro %r ⟨%hr, HI, ⟨%fa, HA⟩, ⟨%fd, HD⟩⟩
    rw [entry_eq m c t h]
    isplitr; · ipureintro; exact hr
    isplitl [HI]; · iexact HI
    isplitl [HA]
    · rw [← hacc.eq_unread (View.read_writes_of_cover acc.view fa acc.view acc.view.junk _ (View.cover_of_tiledL _ _ (init_cover m c t h).1))]
      iexact HA
    rw [← hdl.eq_unread (View.read_writes_of_cover dl.view fd dl.view dl.view.junk _ (View.cover_of_tiledL _ _ (init_cover m c t h).2))]
    iexact HD
  · rw [Held_entry m c t h]
    unfold owns
    iintro ⟨HI, ⟨%fa, %ea, HA⟩, ⟨%fd, %ed, HD⟩⟩
    iapply (first_keep c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (iblk m c 0 t) (iblk m c 1 t) (iblk m c 2 t) (iblk m c 3 t) (iblk m c 4 t) (iblk m c 5 t) h (entry m c t.val t.isLt).1 (entry m c t.val t.isLt).2 E)
    isplitl [HI]; · iexact HI
    rw [← hacc.eq_unread ea, ← hdl.eq_unread ed]
    isplitl [HA]; · iexact HA
    iexact HD

end Cert.AttnIdeal.Own

end
-- ==== Proof.Attn.Frame.lean ====
module

public import proofs.«01_k».proof.Proof.Attn.Step
public import Idealize.ShloMosaic.Lib.Claim

@[expose] public section

set_option maxRecDepth 16384

noncomputable section

namespace Cert.AttnIdeal.Own

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the kernel's one pipeline: each input block where it was, each output block at what the step leaves,
    the carried buffers as the step before left them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outDQ m c t (entry m c t.val t.isLt)
    | ⟨11, _⟩ => outDKN m c t (entry m c t.val t.isLt)
    | ⟨12, _⟩ => outDKR m c t (entry m c t.val t.isLt)
    | ⟨13, _⟩ => outDV m c t (entry m c t.val t.isLt)
  Φ t := iprop(Held m c t.val (Nat.le_of_lt_succ t.isLt) ∗ (∃ r, prngReg c r))
  q _ := fullShare
  owed _ := 0

theorem A_eq (c : Dev nD) (w : Fin cfg0.W) : (dats m 0 c).A w = V m c (Pipeline.arrRef spec0 w) := by
  dsimp only [dats]

theorem Phi_at (c : Dev nD) (t : Fin cfg0.N) :
    (dats m 0 c).Φ t.castSucc = iprop(Held m c t.val (Nat.le_of_lt t.isLt) ∗ (∃ r, prngReg c r)) := by
  dsimp only [dats]; exact Pipeline.Dat.Φ_castSucc (fun n h => iprop(Held m c n h ∗ (∃ r, prngReg c r))) t

theorem before_0 (c : Dev nD) (t : Fin cfg0.N) (d) : (dats m 0 c).before 0 t d = iblk m c 0 t := before0_0_of m (dats m 0 c) (A_eq m c 0) (fun _ => by dsimp only [dats]) t d
theorem before_1 (c : Dev nD) (t : Fin cfg0.N) (d) : (dats m 0 c).before 1 t d = iblk m c 1 t := before0_1_of m (dats m 0 c) (A_eq m c 1) (fun _ => by dsimp only [dats]) t d
theorem before_2 (c : Dev nD) (t : Fin cfg0.N) (d) : (dats m 0 c).before 2 t d = iblk m c 2 t := before0_2_of m (dats m 0 c) (A_eq m c 2) (fun _ => by dsimp only [dats]) t d
theorem before_3 (c : Dev nD) (t : Fin cfg0.N) (d) : (dats m 0 c).before 3 t d = iblk m c 3 t := before0_3_of m (dats m 0 c) (A_eq m c 3) (fun _ => by dsimp only [dats]) t d
theorem before_4 (c : Dev nD) (t : Fin cfg0.N) (d) : (dats m 0 c).before 4 t d = iblk m c 4 t := before0_4_of m (dats m 0 c) (A_eq m c 4) (fun _ => by dsimp only [dats]) t d
theorem before_5 (c : Dev nD) (t : Fin cfg0.N) (d) : (dats m 0 c).before 5 t d = iblk m c 5 t := before0_5_of m (dats m 0 c) (A_eq m c 5) (fun _ => by dsimp only [dats]) t d
theorem before_6 (c : Dev nD) (t : Fin cfg0.N) (d) : (dats m 0 c).before 6 t d = iblk m c 6 t := before0_6_of m (dats m 0 c) (A_eq m c 6) (fun _ => by dsimp only [dats]) t d
theorem before_7 (c : Dev nD) (t : Fin cfg0.N) (d) : (dats m 0 c).before 7 t d = iblk m c 7 t := before0_7_of m (dats m 0 c) (A_eq m c 7) (fun _ => by dsimp only [dats]) t d
theorem before_8 (c : Dev nD) (t : Fin cfg0.N) (d) : (dats m 0 c).before 8 t d = iblk m c 8 t := before0_8_of m (dats m 0 c) (A_eq m c 8) (fun _ => by dsimp only [dats]) t d
theorem before_9 (c : Dev nD) (t : Fin cfg0.N) (d) : (dats m 0 c).before 9 t d = iblk m c 9 t := before0_9_of m (dats m 0 c) (A_eq m c 9) (fun _ => by dsimp only [dats]) t d

/-- What a step must leave in a buffer it is not idle on. -/
theorem leaves (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The stores of a step cover the blocks of key and value gradients, and the last step's also that of the query gradients. -/
theorem coverN (c : Dev nD) (t : Fin cfg0.N) (s : Carry F) (h : ¬k0_cond2 (grid0.coords t) = 1#1) :
    View.Piece.tiledL (runNAt m c t s h).1 S512x128.size = true ∧ View.Piece.tiledL (runNAt m c t s h).2.1 S1x512x128.size = true
      ∧ View.Piece.tiledL (runNAt m c t s h).2.2.1 S512x128.size = true :=
  ⟨by sl_kernel_rfl, by sl_kernel_rfl, by sl_kernel_rfl⟩
theorem coverC (c : Dev nD) (t : Fin cfg0.N) (s : Carry F) (h : k0_cond2 (grid0.coords t) = 1#1) :
    View.Piece.tiledL (runCAt m c t s h).1 S1x2048x128.size = true ∧ View.Piece.tiledL (runCAt m c t s h).2.1 S512x128.size = true
      ∧ View.Piece.tiledL (runCAt m c t s h).2.2.1 S1x512x128.size = true ∧ View.Piece.tiledL (runCAt m c t s h).2.2.2.1 S512x128.size = true :=
  ⟨by sl_kernel_rfl, by sl_kernel_rfl, by sl_kernel_rfl, by sl_kernel_rfl⟩

/-- A block is what covering stores say, whatever was there. -/
theorem owns_of_stores {κ' : Kind} {sp' cs : Space} {s : Shape} {e : EltTy} (c : Dev nD) (v' : View sig κ' sp' s e) (size : Fin s.rank → ℕ) {M : Memref sig .tc cs s e}
    {f : Buf (Elt F) (M.view.loc (c : Thread nD τ))} {L : List (View.Piece (Elt F) s e)} (h : View.Piece.tiledL L size = true) :
    (M.view.loc (c : Thread nD τ) ↦[M.view.set]{fullShare} M.view.writes (Elt F) f L : sProp 𝕄)
      ⊢ owns (c : Thread nD τ) M fullShare (v'.read (Elt F) (v'.writes (Elt F) v'.junk L)) := by
  iintro H; unfold owns; iexists _; isplitr
  swap; · iexact H
  ipureintro; exact View.read_writes_of_cover _ _ _ _ _ (View.cover_of_tiledL L size h)

/-- What a step is called with, the buffers one by one, -/
def bodyPre (c : Dev nD) (t : Fin cfg0.N) : sProp 𝕄 :=
  iprop((dats m 0 c).Φ t.castSucc ∗ (dats m 0 c).owesAt () t.castSucc
    ∗ (∃ d, owns (c : Thread nD τ) (stQ t) fullShare ((dats m 0 c).before 0 t d))
    ∗ (∃ d, owns (c : Thread nD τ) (stKN t) fullShare ((dats m 0 c).before 1 t d))
    ∗ (∃ d, owns (c : Thread nD τ) (stKR t) fullShare ((dats m 0 c).before 2 t d))
    ∗ (∃ d, owns (c : Thread nD τ) (stV t) fullShare ((dats m 0 c).before 3 t d))
    ∗ (∃ d, owns (c : Thread nD τ) (stO t) fullShare ((dats m 0 c).before 4 t d))
    ∗ (∃ d, owns (c : Thread nD τ) (stD t) fullShare ((dats m 0 c).before 5 t d))
    ∗ (∃ d, owns (c : Thread nD τ) (stL t) fullShare ((dats m 0 c).before 6 t d))
    ∗ (∃ d, owns (c : Thread nD τ) (stCos t) fullShare ((dats m 0 c).before 7 t d))
    ∗ (∃ d, owns (c : Thread nD τ) (stSin t) fullShare ((dats m 0 c).before 8 t d))
    ∗ (∃ d, owns (c : Thread nD τ) (stSin2 t) fullShare ((dats m 0 c).before 9 t d))
    ∗ (∃ d, owns (c : Thread nD τ) (stDQ t) fullShare ((dats m 0 c).before 10 t d))
    ∗ (∃ d, owns (c : Thread nD τ) (stDKN t) fullShare ((dats m 0 c).before 11 t d))
    ∗ (∃ d, owns (c : Thread nD τ) (stDKR t) fullShare ((dats m 0 c).before 12 t d))
    ∗ (∃ d, owns (c : Thread nD τ) (stDV t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- A whole buffer held at contents is the buffer at the contents that read so, -/
theorem owns_raw {s : Shape} {e : EltTy} {cs : Space} (c : Dev nD) {M : Memref sig .tc cs s e} (h : M.IsWhole) (X : s.Idx → Elt F e) :
    (owns (c : Thread nD τ) M fullShare X : sProp 𝕄) ⊢ M.view.loc (c : Thread nD τ) ↦[M.view.set]{fullShare} h.unread X := by
  unfold owns; iintro ⟨%f, %e, H⟩
  rw [← h.eq_unread e]; iexact H
/-- and back. -/
theorem raw_owns {s : Shape} {e : EltTy} {cs : Space} (c : Dev nD) {M : Memref sig .tc cs s e} {f : Buf (Elt F) (M.view.loc (c : Thread nD τ))} {X : s.Idx → Elt F e}
    (h : M.view.read (Elt F) f = X) : (M.view.loc (c : Thread nD τ) ↦[M.view.set]{fullShare} f : sProp 𝕄) ⊢ owns (c : Thread nD τ) M fullShare X := by
  unfold owns; iintro H; iexists _; isplitr
  swap; · iexact H
  ipureintro; exact h
theorem owns_read {s : Shape} {e : EltTy} {cs : Space} (c : Dev nD) {M : Memref sig .tc cs s e} (X : s.Idx → Elt F e) :
    (owns (c : Thread nD τ) M fullShare X : sProp 𝕄) ⊢ iprop(∃ f, ⌜M.view.read (Elt F) f = X⌝ ∗ M.view.loc (c : Thread nD τ) ↦[M.view.set]{fullShare} f) := by
  unfold owns; iintro H; iexact H
/-- A buffer at some contents is held at what those read as. -/
theorem owns_at {s : Shape} {e : EltTy} {cs : Space} (c : Dev nD) {M : Memref sig .tc cs s e} (X : s.Idx → Elt F e) :
    (owns (c : Thread nD τ) M fullShare X : sProp 𝕄) ⊢ iprop(∃ f, M.view.loc (c : Thread nD τ) ↦[M.view.set]{fullShare} f) := by
  unfold owns; iintro ⟨%f, %e, H⟩; iexists _; iexact H

/-- The input blocks of a step, held, are the buffers its run takes, -/
theorem ins_raw (c : Dev nD) (t : Fin cfg0.N) : iprop(owns (c : Thread nD τ) (stQ t) fullShare (iblk m c 0 t) ∗ owns (c : Thread nD τ) (stKN t) fullShare (iblk m c 1 t) ∗ owns (c : Thread nD τ) (stKR t) fullShare (iblk m c 2 t) ∗ owns (c : Thread nD τ) (stV t) fullShare (iblk m c 3 t) ∗ owns (c : Thread nD τ) (stO t) fullShare (iblk m c 4 t) ∗ owns (c : Thread nD τ) (stD t) fullShare (iblk m c 5 t) ∗ owns (c : Thread nD τ) (stL t) fullShare (iblk m c 6 t) ∗ owns (c : Thread nD τ) (stCos t) fullShare (iblk m c 7 t) ∗ owns (c : Thread nD τ) (stSin t) fullShare (iblk m c 8 t) ∗ owns (c : Thread nD τ) (stSin2 t) fullShare (iblk m c 9 t)) ⊢ (AllIns c (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (iblk m c 0 t) (iblk m c 1 t) (iblk m c 2 t) (iblk m c 3 t) (iblk m c 4 t) (iblk m c 5 t) (iblk m c 6 t) (iblk m c 7 t) (iblk m c 8 t) (iblk m c 9 t) : sProp 𝕄) := by
  iintro ⟨H0, H1, H2, H3, H4, H5, H6, H7, H8, H9⟩
  isplitl [H0 H1 H2 H3 H4 H5]
  · isplitl [H0]; · iapply (owns_raw c (hstQ t) _); iexact H0
    isplitl [H1]; · iapply (owns_raw c (hstKN t) _); iexact H1
    isplitl [H2]; · iapply (owns_raw c (hstKR t) _); iexact H2
    isplitl [H3]; · iapply (owns_raw c (hstV t) _); iexact H3
    isplitl [H4]; · iapply (owns_raw c (hstO t) _); iexact H4
    iapply (owns_raw c (hstD t) _); iexact H5
  isplitl [H6]; · iapply (owns_raw c (hstL t) _); iexact H6
  isplitl [H7]; · iapply (owns_raw c (hstCos t) _); iexact H7
  isplitl [H8]; · iapply (owns_raw c (hstSin t) _); iexact H8
  iapply (owns_raw c (hstSin2 t) _); iexact H9
/-- and come back so. -/
theorem raw_ins (c : Dev nD) (t : Fin cfg0.N) : (AllIns c (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (iblk m c 0 t) (iblk m c 1 t) (iblk m c 2 t) (iblk m c 3 t) (iblk m c 4 t) (iblk m c 5 t) (iblk m c 6 t) (iblk m c 7 t) (iblk m c 8 t) (iblk m c 9 t) : sProp 𝕄) ⊢ iprop(owns (c : Thread nD τ) (stQ t) fullShare (iblk m c 0 t) ∗ owns (c : Thread nD τ) (stKN t) fullShare (iblk m c 1 t) ∗ owns (c : Thread nD τ) (stKR t) fullShare (iblk m c 2 t) ∗ owns (c : Thread nD τ) (stV t) fullShare (iblk m c 3 t) ∗ owns (c : Thread nD τ) (stO t) fullShare (iblk m c 4 t) ∗ owns (c : Thread nD τ) (stD t) fullShare (iblk m c 5 t) ∗ owns (c : Thread nD τ) (stL t) fullShare (iblk m c 6 t) ∗ owns (c : Thread nD τ) (stCos t) fullShare (iblk m c 7 t) ∗ owns (c : Thread nD τ) (stSin t) fullShare (iblk m c 8 t) ∗ owns (c : Thread nD τ) (stSin2 t) fullShare (iblk m c 9 t)) := by
  iintro ⟨⟨H0, H1, H2, H3, H4, H5⟩, H6, H7, H8, H9⟩
  isplitl [H0]; · iapply (raw_owns c ((hstQ t).read_unread _)); iexact H0
  isplitl [H1]; · iapply (raw_owns c ((hstKN t).read_unread _)); iexact H1
  isplitl [H2]; · iapply (raw_owns c ((hstKR t).read_unread _)); iexact H2
  isplitl [H3]; · iapply (raw_owns c ((hstV t).read_unread _)); iexact H3
  isplitl [H4]; · iapply (raw_owns c ((hstO t).read_unread _)); iexact H4
  isplitl [H5]; · iapply (raw_owns c ((hstD t).read_unread _)); iexact H5
  isplitl [H6]; · iapply (raw_owns c ((hstL t).read_unread _)); iexact H6
  isplitl [H7]; · iapply (raw_owns c ((hstCos t).read_unread _)); iexact H7
  isplitl [H8]; · iapply (raw_owns c ((hstSin t).read_unread _)); iexact H8
  iapply (raw_owns c ((hstSin2 t).read_unread _)); iexact H9

set_option maxHeartbeats 4000000 in
/-- One step, at any point: from its input blocks and the carried buffers to the blocks it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, Phi_at,
    show (dats m 0 c).Φ t.succ = iprop(Held m c (t.val + 1) t.isLt ∗ (∃ r, prngReg c r)) from rfl,
    show Held m c (t.val + 1) t.isLt = iprop(owns (c : Thread nD τ) acc fullShare (outAcc m c t (entry m c t.val t.isLt)) ∗ owns (c : Thread nD τ) dl fullShare (entry m c t.val t.isLt).2) from rfl,
    leaves m c 0 t rfl, leaves m c 1 t rfl, leaves m c 2 t rfl, leaves m c 3 t rfl, leaves m c 4 t rfl, leaves m c 5 t rfl, leaves m c 6 t rfl, leaves m c 7 t rfl, leaves m c 8 t rfl, leaves m c 9 t rfl, leaves m c 11 t rfl, leaves m c 12 t rfl, leaves m c 13 t rfl]
  rw [show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl,
    show (dats m 0 c).after 11 t = outDKN m c t (entry m c t.val t.isLt) from rfl, show (dats m 0 c).after 12 t = outDKR m c t (entry m c t.val t.isLt) from rfl,
    show (dats m 0 c).after 13 t = outDV m c t (entry m c t.val t.isLt) from rfl]
  by_cases h : k0_cond2 (grid0.coords t) = 1#1
  · rw [leaves m c 10 t (live_dq t h), show (dats m 0 c).after 10 t = outDQ m c t (entry m c t.val t.isLt) from rfl]
    unfold outDQ outDKN outDKR outDV outAcc; simp only [dif_pos h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runCAt m c t (entry m c t.val t.isLt) h).2.2.2.2.2 (Held m c t.val (Nat.le_of_lt t.isLt)) Set.univ _ (cut m c t Set.univ))
    isplitl [H0 H1 H2 H3 H4 H5 H6 H7 H8 H9]
    · iapply (ins_raw m c t)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    isplitl [H10]; · iapply (owns_at c _); iexact H10
    isplitl [H11]; · iapply (owns_at c _); iexact H11
    isplitl [H12]; · iapply (owns_at c _); iexact H12
    isplitl [H13]; · iapply (owns_at c _); iexact H13
    iintro ⟨HI, ⟨%g10, H10⟩, ⟨%g11, H11⟩, ⟨%g12, H12⟩, ⟨%g13, H13⟩, HA, HD⟩
    isplitl [HA HD Hg]
    · isplitl [HA HD]
      · isplitl [HA]; · iapply (raw_owns c rfl); iexact HA
        iapply (raw_owns c (hdl.read_unread _)); iexact HD
      iexact Hg
    isplitl [Ho]; · iexact Ho
    ihave HI' := (raw_ins m c t) $$ HI
    icases HI' with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (owns_of_stores c (stDQ t).view _ (coverC m c t _ h).1); iexact H10
    isplitl [H11]; · iapply (owns_of_stores c (stDKN t).view _ (coverC m c t _ h).2.1); iexact H11
    isplitl [H12]; · iapply (owns_of_stores c (stDKR t).view _ (coverC m c t _ h).2.2.1); iexact H12
    iapply (owns_of_stores c (stDV t).view _ (coverC m c t _ h).2.2.2); iexact H13
  · rw [Dat.leavesExact_idle (dats m 0 c) 10 t (idle_dq t h).1 (idle_dq t h).2]
    unfold outDKN outDKR outDV outAcc; simp only [dif_neg h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave H10 := (owns_read c _) $$ H10; icases H10 with ⟨%f10, %e10, H10⟩
    iapply ((runNAt m c t (entry m c t.val t.isLt) h).2.2.2.2 _ (Held m c t.val (Nat.le_of_lt t.isLt)) Set.univ _ (cut m c t Set.univ))
    isplitl [H0 H1 H2 H3 H4 H5 H6 H7 H8 H9]
    · iapply (ins_raw m c t)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    isplitl [H10]; · iexact H10
    isplitl [H11]; · iapply (owns_at c _); iexact H11
    isplitl [H12]; · iapply (owns_at c _); iexact H12
    isplitl [H13]; · iapply (owns_at c _); iexact H13
    iintro ⟨HI, H10, ⟨%g11, H11⟩, ⟨%g12, H12⟩, ⟨%g13, H13⟩, HA, HD⟩
    isplitl [HA HD Hg]
    · isplitl [HA HD]
      · isplitl [HA]; · iapply (raw_owns c rfl); iexact HA
        iapply (raw_owns c (hdl.read_unread _)); iexact HD
      iexact Hg
    isplitl [Ho]; · iexact Ho
    ihave HI' := (raw_ins m c t) $$ HI
    icases HI' with ⟨H0, H1, H2, H3, H4, H5, H6, H7, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iapply (raw_owns c e10); iexact H10
    isplitl [H11]; · iapply (owns_of_stores c (stDKN t).view _ (coverN m c t _ h).1); iexact H11
    isplitl [H12]; · iapply (owns_of_stores c (stDKR t).view _ (coverN m c t _ h).2.1); iexact H12
    iapply (owns_of_stores c (stDV t).view _ (coverN m c t _ h).2.2); iexact H13

/-- The pipeline's obligation on the body, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

/-- What the launch holds of the carried buffers is what the first step takes, -/
theorem launch_eq (c : Dev nD) : (Pipeline.ΦA spec0 c : sProp 𝕄)
    = iprop(iprop((∃ d, owns (c : Thread nD τ) acc fullShare d) ∗ (∃ d, owns (c : Thread nD τ) dl fullShare d)) ∗ (∃ r, prngReg c r)) := by
  unfold Pipeline.ΦA; rw [scopedRest0_eq]; simp only [acc, dl, owns_whole]; rfl
theorem hin (c : Dev nD) : Pipeline.ΦA spec0 c ⊢ (dats m 0 c).Φ 0 := by
  rw [launch_eq]; exact Idealize.SL.BI.Entails.refl _
/-- and what the last step leaves gives it back. -/
theorem hout (c : Dev nD) : (dats m 0 c).Φ (Fin.last cfg0.N) ⊢ Pipeline.ΦA spec0 c := by
  rw [launch_eq, show (dats m 0 c).Φ (Fin.last cfg0.N) = iprop(Held m c cfg0.N (Nat.le_refl _) ∗ (∃ r, prngReg c r)) from rfl]
  iintro ⟨HS, Hg⟩
  isplitl [HS]; · iapply (Held_any m c _ _); iexact HS
  iexact Hg

set_option backward.isDefEq.respectTransparency.types false in
/-- The whole run: every array of the kernel ends at what the steps wrote to it, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: from any memory with zero counters the program ends, its arguments unchanged and its counters at zero. -/
theorem frame : θ_run defs (onTc (τ := τ) (main (F := F))) ⟨m, fun _ => 0, ρ⟩ (fun r => (∀ c : Dev nD,
 r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ) ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.AttnIdeal.Own

end
-- ==== Proof.Attn.Bits.lean ====
module

public import proofs.«01_k».proof.Defs
public import proofs.«01_k».proof.Proof.Attn.Frame
public import proofs.«01_k».proof.Proof.Gen.Attn

@[expose] public section

noncomputable section

namespace Cert.AttnIdeal.Own

open Idealize.ShloMosaic Idealize.ShloMosaic.TcCoe Idealize.ShloMosaic.Tactic
open Idealize.SL.Sem

/-- Every name at its own literal. -/
local instance literal : Named Bits where
  named _ _ {φ} b := FloatOps.ofBits φ b

/-- The frame of the named program at the bit patterns, where a name is its own literal. -/
theorem frame_bits [Cert.AttnIdeal.Facts] : ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0) :=
  fun m g _ => frame (F := Bits) m g

/-- The program as compiled is that one, so it has the same frame. -/
theorem compiled : Cert.quiescent_Attn :=
  cast (by sl_kernel_rfl) frame_bits

end Cert.AttnIdeal.Own

end
-- ==== Proof.Attn.Tiles.lean ====
module

public import proofs.«01_k».proof.Proof.Gen.AttnIdeal.Skeleton
public import Idealize.ShloMosaic.Lib.Pipeline.ValueKit
public import Idealize.ShloMosaic.Lib.Pointwise

@[expose] public section

set_option maxRecDepth 16384

noncomputable section

/-! The body's tile computations on finite numbers, entry by entry. -/

namespace Cert.AttnIdeal.Val

open Cert.AttnIdeal Cert.AttnIdeal.Gen Idealize.ShloMosaic Idealize.ShloMosaic.TcCoe Idealize.SL.Sem

/-- A finite sum of finite numbers is finite. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum over the indices below `n`, of products of finite numbers. -/
theorem sum_mul {n : ℕ} {x y : Fin n → EReal} (f g : ℕ → ℝ) (hx : ∀ k, x k = (f k.val : EReal)) (hy : ∀ k, y k = (g k.val : EReal)) :
    (∑ k, x k * y k) = ((∑ k ∈ Finset.range n, f k * g k : ℝ) : EReal) := by
  rw [Finset.sum_range, ← coe_sum]
  exact Finset.sum_congr rfl fun k _ => by rw [hx, hy, EReal.coe_mul]

/-- The array's entries are the finite numbers `f`. -/
def Re {n k : ℕ} (x : (⟨2, ![n, k]⟩ : Shape).Idx → EReal) (f : ℕ → ℕ → ℝ) : Prop := ∀ (i : Fin n) (j : Fin k), x (ix2 i j) = ((f i.val j.val : ℝ) : EReal)

def Re3 {n k l : ℕ} (x : (⟨3, ![n, k, l]⟩ : Shape).Idx → EReal) (f : ℕ → ℕ → ℕ → ℝ) : Prop :=
  ∀ (i : Fin n) (j : Fin k) (p : Fin l), x (ix3 i j p) = ((f i.val j.val p.val : ℝ) : EReal)

/-- Products of two rows, summed over the first `n` entries. -/
def dot (n : ℕ) (f g : ℕ → ℕ → ℝ) (y x : ℕ) : ℝ := ∑ e ∈ Finset.range n, f y e * g x e
/-- The weight of key row `y` for query row `x`. -/
def wt (K Q : ℕ → ℕ → ℝ) (L : ℕ → ℝ) (y x : ℕ) : ℝ := (2 : ℝ) ^ (dot 256 K Q y x - L x)
/-- The same where a query's chunk of 64 sees the key's. -/
def wtm (K Q : ℕ → ℕ → ℝ) (L : ℕ → ℝ) (y x : ℕ) : ℝ := if y / 64 ≤ x / 64 then wt K Q L y x else 0
/-- The gradient of a score, from its weight. -/
def gs (w : ℕ → ℕ → ℝ) (V D : ℕ → ℕ → ℝ) (Δ : ℕ → ℝ) (y x : ℕ) : ℝ := w y x * (dot 128 V D y x - Δ x)
/-- What is added for a key row, -/
def addK (g Q : ℕ → ℕ → ℝ) (y e : ℕ) : ℝ := ∑ x ∈ Finset.range 512, g y x * Q x e
/-- and for a query row. -/
def addQ (g K : ℕ → ℕ → ℝ) (x e : ℕ) : ℝ := ∑ y ∈ Finset.range 512, g y x * K y e

theorem exp2_sub (a b : ℝ) : FloatOps.exp2 (F := Ideal) (φ := .f32) ((a : EReal) - (b : EReal)) = (((2 : ℝ) ^ (a - b) : ℝ) : EReal) := by
  rw [← EReal.coe_sub]; rfl

variable {K Q V D A : ℕ → ℕ → ℝ} {L Δ : ℕ → ℝ} {w : ℕ → ℕ → ℝ}
variable {v7 v10 v21 v24 : FVec Ideal S512x256 .bf16} {v143 v146 : Vec Ideal S1x512x256 .bf16} {v159 v168 : Vec Ideal S1x1x512 .f32}
  {v12 v14 v27 v30 : FVec Ideal S512x128 .bf16} {v149 v152 : Vec Ideal S512x128 .bf16} {kk : FVec Ideal S512x256 .f32} {vv : FVec Ideal S512x128 .f32}
  {v31 v155 v157 : FVec Ideal S512x512 .f32} {v177 : Vec Ideal S1x512x256 .f32} {v178 z : FVec Ideal S512x256 .f32} {v173 : FVec Ideal S512x512 .bf16}

/-! A trip of the loop over the later query blocks, first head. -/

theorem pay26 (h7 : Re v7 K) (hq : Re3 v143 fun _ => Q) (hl : Re3 v159 fun _ _ => L) : Re (k0_pay26 v7 v143 v159) (wt K Q L) := by
  intro y x
  pointwise [k0_pay26, k0_pay20]
  rw [sum_mul (K y) (Q x) (fun e => h7 y e) (fun e => hq 0 x e), hl 0 0 x, exp2_sub]
  rfl

theorem pay27 (h7 : Re v7 K) (hq : Re3 v143 fun _ => Q) (hl : Re3 v159 fun _ _ => L) (hd : Re v149 D) (ha : Re vv A) :
    Re (k0_pay27 v7 vv v143 v149 v159) fun y d => A y d + addK (wt K Q L) D y d := by
  intro y d
  pointwise [k0_pay27, k0_pay22]
  rw [sum_mul (wt K Q L y) (fun x => D x d) (fun x => pay26 h7 hq hl y x) (fun x => hd x d), ha y d, EReal.coe_add]
  rfl

theorem pay28 (h7 : Re v7 K) (hq : Re3 v143 fun _ => Q) (hl : Re3 v159 fun _ _ => L) (hv : Re v12 V) (hd : Re v149 D) (hδ : Re3 v168 fun _ _ => Δ) :
    Re (k0_pay28 v7 v12 v143 v149 v159 v168) (gs (wt K Q L) V D Δ) := by
  intro y x
  pointwise [k0_pay28, k0_pay22]
  rw [sum_mul (V y) (D x) (fun e => hv y e) (fun e => hd x e), hδ 0 0 x, pay26 h7 hq hl y x, ← EReal.coe_sub, ← EReal.coe_mul]
  rfl

theorem pay29 (h7 : Re v7 K) (hq : Re3 v143 fun _ => Q) (hl : Re3 v159 fun _ _ => L) (hv : Re v12 V) (hd : Re v149 D) (hδ : Re3 v168 fun _ _ => Δ) (ha : Re kk A) :
    Re (k0_pay29 v7 v12 kk v143 v149 v159 v168) fun y e => A y e + addK (gs (wt K Q L) V D Δ) Q y e := by
  intro y e
  pointwise [k0_pay29, k0_pay20]
  rw [sum_mul (gs (wt K Q L) V D Δ y) (fun x => Q x e) (fun x => pay28 h7 hq hl hv hd hδ y x) (fun x => hq 0 x e), ha y e, EReal.coe_add]
  rfl

theorem pay74 (h7 : Re v7 K) (hg : Re v173 w) (ha : Re3 v177 fun _ => A) :
    Re3 (k0_pay74 v7 v173 (k0_pay30 v177) (constant S512x256 .f32 0x00000000#32)) fun _ x e => A x e + addQ w K x e := by
  intro i x e
  obtain rfl : i = 0 := Subsingleton.elim _ _
  pointwise [k0_pay74, k0_pay30]
  rw [sum_mul (fun y => w y x) (fun y => K y e) (fun y => hg y x) (fun y => h7 y e), ha 0 x e, EReal.coe_add]
  rfl

/-! The second head. -/

theorem pay21 (hq : Re3 v146 fun _ => Q) : Re (k0_pay21 v146) Q := by
  intro x e
  pointwise [k0_pay21]
  exact hq 0 x e

theorem pay23 (hd : Re v152 D) : Re (k0_pay23 v152) D := by
  intro x d
  pointwise [k0_pay23]
  exact hd x d

theorem pay24 (h : Re v10 K) (hq : Re3 v146 fun _ => Q) : Re (k0_pay24 v10 v146) (dot 256 K Q) := by
  intro y x
  pointwise [k0_pay24, k0_pay21]
  exact sum_mul (K y) (Q x) (fun e => h y e) (fun e => hq 0 x e)

theorem pay25 (h : Re v14 V) (hd : Re v152 D) : Re (k0_pay25 v14 v152) (dot 128 V D) := by
  intro y x
  pointwise [k0_pay25, k0_pay23]
  exact sum_mul (V y) (D x) (fun e => h y e) (fun e => hd x e)

theorem pay75 (h : Re v155 (dot 256 K Q)) (hl : Re3 v159 fun _ _ => L) : Re (k0_pay75 v155 v159) (wt K Q L) := by
  intro y x
  pointwise [k0_pay75]
  rw [h y x, hl 0 0 x, exp2_sub]
  rfl

theorem pay76 (h : Re v155 (dot 256 K Q)) (hl : Re3 v159 fun _ _ => L) (hd : Re v27 D) (ha : Re vv A) :
    Re (k0_pay76 vv v27 v155 v159) fun y d => A y d + addK (wt K Q L) D y d := by
  intro y d
  pointwise [k0_pay76]
  rw [sum_mul (wt K Q L y) (fun x => D x d) (fun x => pay75 h hl y x) (fun x => hd x d), ha y d, EReal.coe_add]
  rfl

theorem pay77 (h : Re v155 (dot 256 K Q)) (hp : Re v157 (dot 128 V D)) (hl : Re3 v159 fun _ _ => L) (hδ : Re3 v168 fun _ _ => Δ) :
    Re (k0_pay77 v155 v157 v159 v168) (gs (wt K Q L) V D Δ) := by
  intro y x
  pointwise [k0_pay77]
  rw [hp y x, hδ 0 0 x, pay75 h hl y x, ← EReal.coe_sub, ← EReal.coe_mul]
  rfl

theorem pay78 (h : Re v155 (dot 256 K Q)) (hp : Re v157 (dot 128 V D)) (hl : Re3 v159 fun _ _ => L) (hδ : Re3 v168 fun _ _ => Δ) (hq : Re v21 Q) (ha : Re kk A) :
    Re (k0_pay78 kk v21 v155 v157 v159 v168) fun y e => A y e + addK (gs (wt K Q L) V D Δ) Q y e := by
  intro y e
  pointwise [k0_pay78]
  rw [sum_mul (gs (wt K Q L) V D Δ y) (fun x => Q x e) (fun x => pay77 h hp hl hδ y x) (fun x => hq x e), ha y e, EReal.coe_add]
  rfl

theorem pay79 (h : Re v155 (dot 256 K Q)) (hp : Re v157 (dot 128 V D)) (hl : Re3 v159 fun _ _ => L) (hδ : Re3 v168 fun _ _ => Δ) (hk : Re v10 K) (ha : Re3 v177 fun _ => A) :
    Re3 (k0_pay79 v10 v155 v157 v159 v168 v177) fun _ x e => A x e + addQ (gs (wt K Q L) V D Δ) K x e := by
  intro i x e
  obtain rfl : i = 0 := Subsingleton.elim _ _
  pointwise [k0_pay79]
  rw [sum_mul (fun y => gs (wt K Q L) V D Δ y x) (fun y => K y e) (fun y => pay77 h hp hl hδ y x) (fun y => hk y e), ha 0 x e, EReal.coe_add]
  rfl

/-! The diagonal block, where the later keys of a query's block are masked. -/

theorem shr_word : ∀ n : Fin 512, IntOp.shrsi ArithUnit.vector (BitVec.ofNat 32 n.val) 6#32 = BitVec.ofNat 32 (n.val / 64) := by decide +kernel
theorem sle_word : ∀ a b : Fin 8, IntOp.cmpi CmpIPredicate.sle (BitVec.ofNat 32 a.val) (BitVec.ofNat 32 b.val) = BitVec.ofBool (decide (a.val ≤ b.val)) := by decide

/-- Rows and columns of a tile in chunks of 64. -/
theorem chunk_word (y x : Fin 512) :
    IntOp.cmpi CmpIPredicate.sle (IntOp.shrsi ArithUnit.vector (BitVec.ofNat 32 y.val) 6#32) (IntOp.shrsi ArithUnit.vector (BitVec.ofNat 32 x.val) 6#32)
      = BitVec.ofBool (decide (y.val / 64 ≤ x.val / 64)) := by
  rw [shr_word, shr_word]
  exact sle_word ⟨y.val / 64, by omega⟩ ⟨x.val / 64, by omega⟩

theorem masked (p : Prop) [Decidable p] (s l : ℝ) :
    FloatOps.exp2 (F := Ideal) (φ := .f32) (Scalar.select (BitVec.ofBool (decide p)) (s : EReal) (Named.named (F := Ideal) (φ := .f32) κ "mask" 0xF149F2CA#32) - (l : EReal))
      = ((if p then (2 : ℝ) ^ (s - l) else 0 : ℝ) : EReal) := by
  rw [Scalar.select_ofBool]
  by_cases h : p
  · simp only [h, decide_true, if_true]; exact exp2_sub s l
  · simp only [h, decide_false, if_false, Bool.false_eq_true]
    have e : Named.named (F := Ideal) (φ := .f32) κ "mask" 0xF149F2CA#32 = (⊥ : EReal) := rfl
    rw [e, EReal.bot_sub]
    rfl

theorem pay63 (h : Re v31 (dot 256 K Q)) (hl : Re3 v159 fun _ _ => L) : Re (k0_pay63 v31 v159) (wtm K Q L) := by
  intro y x
  pointwise [k0_pay63]
  rw [chunk_word, h y x, hl 0 0 x]
  exact masked _ _ _

theorem pay64 (h : Re v31 (dot 256 K Q)) (hl : Re3 v159 fun _ _ => L) (hd : Re v27 D) (ha : Re vv A) :
    Re (k0_pay64 vv v27 v31 v159) fun y d => A y d + addK (wtm K Q L) D y d := by
  intro y d
  pointwise [k0_pay64]
  rw [sum_mul (wtm K Q L y) (fun x => D x d) (fun x => pay63 h hl y x) (fun x => hd x d), ha y d, EReal.coe_add]
  rfl

theorem pay65 (h : Re v31 (dot 256 K Q)) (hl : Re3 v159 fun _ _ => L) (hv : Re v12 V) (hd : Re v27 D) (hδ : Re3 v168 fun _ _ => Δ) :
    Re (k0_pay65 v12 v27 v31 (constant S512x512 .f32 0x00000000#32) v159 v168) (gs (wtm K Q L) V D Δ) := by
  intro y x
  pointwise [k0_pay65]
  rw [sum_mul (V y) (D x) (fun e => hv y e) (fun e => hd x e), hδ 0 0 x, pay63 h hl y x, ← EReal.coe_sub, ← EReal.coe_mul]
  rfl

theorem pay66 (h : Re v31 (dot 256 K Q)) (hl : Re3 v159 fun _ _ => L) (hv : Re v12 V) (hd : Re v27 D) (hδ : Re3 v168 fun _ _ => Δ) (hq : Re v21 Q) (ha : Re kk A) :
    Re (k0_pay66 v12 kk v21 v27 v31 (constant S512x512 .f32 0x00000000#32) v159 v168) fun y e => A y e + addK (gs (wtm K Q L) V D Δ) Q y e := by
  intro y e
  pointwise [k0_pay66]
  rw [sum_mul (gs (wtm K Q L) V D Δ y) (fun x => Q x e) (fun x => pay65 h hl hv hd hδ y x) (fun x => hq x e), ha y e, EReal.coe_add]
  rfl

theorem pay67 (h : Re v31 (dot 256 K Q)) (hl : Re3 v159 fun _ _ => L) (hv : Re v12 V) (hd : Re v27 D) (hδ : Re3 v168 fun _ _ => Δ) (hk : Re v7 K) (ha : Re3 v177 fun _ => A) :
    Re3 (k0_pay67 v7 v12 v27 v31 (constant S512x512 .f32 0x00000000#32) v159 v168 v177) fun _ x e => A x e + addQ (gs (wtm K Q L) V D Δ) K x e := by
  intro i x e
  obtain rfl : i = 0 := Subsingleton.elim _ _
  pointwise [k0_pay67]
  rw [sum_mul (fun y => gs (wtm K Q L) V D Δ y x) (fun y => K y e) (fun y => pay65 h hl hv hd hδ y x) (fun y => hk y e), ha 0 x e, EReal.coe_add]
  rfl

theorem pay62 (h : Re v14 V) (hd : Re v30 D) : Re (k0_pay62 v14 v30) (dot 128 V D) := by
  intro y x
  pointwise [k0_pay62]
  exact sum_mul (V y) (D x) (fun e => h y e) (fun e => hd x e)

/-- The columns' numbers, as the body makes them. -/
abbrev cols : IVec S512x512 32 := iota .tc S512x512 32 [1] iota_S512x512_d1_w32

theorem pay69 (h : Re v31 (dot 256 K Q)) (hl : Re3 v159 fun _ _ => L) : Re (k0_pay69 v31 k0_pay68 cols 6#32 v159) (wtm K Q L) := by
  intro y x
  pointwise [k0_pay69, k0_pay68]
  rw [chunk_word, h y x, hl 0 0 x]
  exact masked _ _ _

theorem pay70 (h : Re v31 (dot 256 K Q)) (hl : Re3 v159 fun _ _ => L) (hd : Re v27 D) (ha : Re vv A) :
    Re (k0_pay70 vv v27 v31 k0_pay68 cols 6#32 v159) fun y d => A y d + addK (wtm K Q L) D y d := by
  intro y d
  pointwise [k0_pay70]
  rw [sum_mul (wtm K Q L y) (fun x => D x d) (fun x => pay69 h hl y x) (fun x => hd x d), ha y d, EReal.coe_add]
  rfl

theorem pay71 (h : Re v31 (dot 256 K Q)) (hp : Re v157 (dot 128 V D)) (hl : Re3 v159 fun _ _ => L) (hδ : Re3 v168 fun _ _ => Δ) :
    Re (k0_pay71 v31 v157 k0_pay68 cols 6#32 v159 v168) (gs (wtm K Q L) V D Δ) := by
  intro y x
  pointwise [k0_pay71]
  rw [hp y x, hδ 0 0 x, pay69 h hl y x, ← EReal.coe_sub, ← EReal.coe_mul]
  rfl

theorem pay72 (h : Re v31 (dot 256 K Q)) (hp : Re v157 (dot 128 V D)) (hl : Re3 v159 fun _ _ => L) (hδ : Re3 v168 fun _ _ => Δ) (hq : Re v24 Q) (ha : Re kk A) :
    Re (k0_pay72 kk v24 v31 v157 k0_pay68 cols 6#32 v159 v168) fun y e => A y e + addK (gs (wtm K Q L) V D Δ) Q y e := by
  intro y e
  pointwise [k0_pay72]
  rw [sum_mul (gs (wtm K Q L) V D Δ y) (fun x => Q x e) (fun x => pay71 h hp hl hδ y x) (fun x => hq x e), ha y e, EReal.coe_add]
  rfl

theorem pay73 (h : Re v31 (dot 256 K Q)) (hp : Re v157 (dot 128 V D)) (hl : Re3 v159 fun _ _ => L) (hδ : Re3 v168 fun _ _ => Δ) (hk : Re v10 K) (ha : Re3 v177 fun _ => A) :
    Re3 (k0_pay73 v10 v31 v157 k0_pay68 cols 6#32 v159 v168 v177) fun _ x e => A x e + addQ (gs (wtm K Q L) V D Δ) K x e := by
  intro i x e
  obtain rfl : i = 0 := Subsingleton.elim _ _
  pointwise [k0_pay73]
  rw [sum_mul (fun y => gs (wtm K Q L) V D Δ y x) (fun y => K y e) (fun y => pay71 h hp hl hδ y x) (fun y => hk y e), ha 0 x e, EReal.coe_add]
  rfl

end Cert.AttnIdeal.Val

end
-- ==== Proof.Attn.Buffers.lean ====
module

public import proofs.«01_k».proof.Proof.Attn.Tiles

@[expose] public section

set_option maxRecDepth 16384

noncomputable section

namespace Cert.AttnIdeal.Val

open Cert.AttnIdeal Cert.AttnIdeal.Gen Idealize.ShloMosaic Idealize.ShloMosaic.TcCoe Idealize.SL.Sem
open Idealize.ShloMosaic.Pipeline (Dat)

theorem Re.of {n k : ℕ} {x : (⟨2, ![n, k]⟩ : Shape).Idx → EReal} {X Y : ℕ → ℕ → ℝ} (h : Re x X) (e : ∀ i j, X i j = Y i j) : Re x Y :=
  fun i j => (h i j).trans (by rw [e])

theorem Re3.of {n k l : ℕ} {x : (⟨3, ![n, k, l]⟩ : Shape).Idx → EReal} {X Y : ℕ → ℕ → ℕ → ℝ} (h : Re3 x X) (e : ∀ i j p, i < n → j < k → X i j p = Y i j p) : Re3 x Y :=
  fun i j p => (h i j p).trans (by rw [e _ _ _ i.isLt j.isLt])

/-! Reading and writing rectangles of a buffer. -/

section Buffers

variable {sig : RefSig} {κ : Kind} {sp : Space}

theorem readAt3 {e : EltTy} {n k l n' k' l' : ℕ} (v : View sig κ sp ⟨3, ![n, k, l]⟩ e) (f : v.ty.Contents (Elt Ideal)) (off : Fin 3 → ℕ)
    (inb : ∀ a, off a + ![n', k', l'] a ≤ (⟨3, ![n, k, l]⟩ : Shape).size a) (i : Fin n') (j : Fin k') (p : Fin l') :
    v.readAt (Elt Ideal) (Rect.unit (s := ⟨3, ![n, k, l]⟩) off ![n', k', l'] inb).toLoadRect f (ix3 i j p)
      = v.read (Elt Ideal) f (ix3 ⟨off 0 + i.val, by have h : off 0 + n' ≤ n := inb 0; omega⟩ ⟨off 1 + j.val, by have h : off 1 + k' ≤ k := inb 1; omega⟩
          ⟨off 2 + p.val, by have h : off 2 + l' ≤ l := inb 2; omega⟩) := by
  rw [View.readAt_apply]
  congr 1
  refine Rect.emb_eq_of_coords _ _ _ fun a => ?_
  fin_cases a <;> simp [Rect.unit]

theorem readAt2 {e : EltTy} {n k n' k' : ℕ} (v : View sig κ sp ⟨2, ![n, k]⟩ e) (f : v.ty.Contents (Elt Ideal)) (off : Fin 2 → ℕ)
    (inb : ∀ a, off a + ![n', k'] a ≤ (⟨2, ![n, k]⟩ : Shape).size a) (i : Fin n') (j : Fin k') :
    v.readAt (Elt Ideal) (Rect.unit (s := ⟨2, ![n, k]⟩) off ![n', k'] inb).toLoadRect f (ix2 i j)
      = v.read (Elt Ideal) f (ix2 ⟨off 0 + i.val, by have h : off 0 + n' ≤ n := inb 0; omega⟩ ⟨off 1 + j.val, by have h : off 1 + k' ≤ k := inb 1; omega⟩) := by
  rw [View.readAt_apply]
  congr 1
  refine Rect.emb_eq_of_coords _ _ _ fun a => ?_
  fin_cases a <;> simp [Rect.unit]

variable {n k l n' k' l' : ℕ} {off : Fin 3 → ℕ} {X : ℕ → ℕ → ℕ → ℝ} {a b c : ℕ}

theorem re_readAt2 (v : View sig κ sp ⟨2, ![n, k]⟩ .bf16) {f : v.ty.Contents (Elt Ideal)} {off : Fin 2 → ℕ} {X : ℕ → ℕ → ℝ}
    {inb : ∀ a, off a + ![n', k'] a ≤ (⟨2, ![n, k]⟩ : Shape).size a} (ho : off = ![a, b]) (h : Re (v.read (Elt Ideal) f) X) :
    Re (v.readAt (Elt Ideal) (Rect.unit (s := ⟨2, ![n, k]⟩) off ![n', k'] inb).toLoadRect f) fun x y => X (a + x) (b + y) := by
  subst ho
  exact fun i j => (readAt2 v f _ inb i j).trans (h _ _)

theorem re_readAt3b (v : View sig κ sp ⟨3, ![n, k, l]⟩ .bf16) {f : v.ty.Contents (Elt Ideal)}
    {inb : ∀ a, off a + ![n', k', l'] a ≤ (⟨3, ![n, k, l]⟩ : Shape).size a} (ho : off = ![a, b, c]) (h : Re3 (v.read (Elt Ideal) f) X) :
    Re3 (v.readAt (Elt Ideal) (Rect.unit (s := ⟨3, ![n, k, l]⟩) off ![n', k', l'] inb).toLoadRect f) fun x y z => X (a + x) (b + y) (c + z) := by
  subst ho
  exact fun i j p => (readAt3 v f _ inb i j p).trans (h _ _ _)

theorem re_readAt3 (v : View sig κ sp ⟨3, ![n, k, l]⟩ .f32) {f : v.ty.Contents (Elt Ideal)}
    {inb : ∀ a, off a + ![n', k', l'] a ≤ (⟨3, ![n, k, l]⟩ : Shape).size a} (ho : off = ![a, b, c]) (h : Re3 (v.read (Elt Ideal) f) X) :
    Re3 (v.readAt (Elt Ideal) (Rect.unit (s := ⟨3, ![n, k, l]⟩) off ![n', k', l'] inb).toLoadRect f) fun x y z => X (a + x) (b + y) (c + z) := by
  subst ho
  exact fun i j p => (readAt3 v f _ inb i j p).trans (h _ _ _)

/-- Adding to the 512 rows of block `b` of one head's sums. -/
def plus (X : ℕ → ℕ → ℕ → ℝ) (a b : ℕ) (Z : ℕ → ℕ → ℝ) (i t e : ℕ) : ℝ := X i t e + if i = a ∧ t / 512 = b then Z (t % 512) e else 0

theorem re_plus (v : View sig κ sp ⟨3, ![2, 2048, 256]⟩ .f32) {f : v.ty.Contents (Elt Ideal)} {L : List (View.Piece (Elt Ideal) ⟨3, ![2, 2048, 256]⟩ .f32)}
    {inb : ∀ a, off a + ![1, 512, 256] a ≤ (⟨3, ![2, 2048, 256]⟩ : Shape).size a} (ho : off = ![a, 512 * b, 0])
    {w : (⟨3, ![1, 512, 256]⟩ : Shape).Idx → EReal} {W Z : ℕ → ℕ → ℝ} (hw : Re3 w fun _ => W) (hW : ∀ x e, W x e = X a (512 * b + x) e + Z x e)
    (h : Re3 (v.read (Elt Ideal) (v.writes (Elt Ideal) f L)) X) :
    Re3 (v.read (Elt Ideal) (v.writes (Elt Ideal) f (⟨Rect.unit (s := ⟨3, ![2, 2048, 256]⟩) off ![1, 512, 256] inb, w⟩ :: L))) (plus X a b Z) := by
  subst ho
  intro i t e
  have hb : 512 * b + 512 ≤ 2048 := inb 1
  by_cases hi : i.val = a
  · by_cases ht : t.val / 512 = b
    · rw [View.read_writes_cons_hit_of_coords v f _ _ L (ix3 (0 : Fin 1) (⟨t.val % 512, by omega⟩ : Fin 512) e) (ix3 i t e)
        (fun x => by fin_cases x <;> simp [Rect.unit] <;> omega)]
      refine (hw 0 _ e).trans ?_
      have e1 : 512 * b + t.val % 512 = t.val := by omega
      simp only [plus, hi, ht, and_self, if_true, hW, e1]
    · rw [View.read_writes_cons_miss_of_axis v f _ L (ix3 i t e) 1 (512 * b) 512 rfl rfl rfl (by show t.val < _ ∨ _ ≤ t.val; omega), h i t e]
      simp [plus, ht]
  · rw [View.read_writes_cons_miss_of_axis v f _ L (ix3 i t e) 0 a 1 rfl rfl rfl (by show i.val < _ ∨ _ ≤ i.val; omega), h i t e]
    simp [plus, hi]

end Buffers

end Cert.AttnIdeal.Val

end
-- ==== Proof.Attn.Trip.lean ====
module

public import proofs.«01_k».proof.Proof.Attn.Step
public import proofs.«01_k».proof.Proof.Attn.Buffers

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! The loop over the later query blocks. -/

/-- The step's blocks hold the finite numbers `K`, `V` (by head) of the key rows, and `Q`, `D`, `L`, `Δ` of all the query rows. -/
structure Given (x0 : Vec Ideal S2x2048x256 .bf16) (x5 : Vec Ideal S2048x256 .bf16) (x6 xs1 : Vec Ideal S2x1x2048 .f32)
    (v7 v10 : FVec Ideal S512x256 .bf16) (v12 v14 : FVec Ideal S512x128 .bf16) (K V Q : ℕ → ℕ → ℕ → ℝ) (D L Δ : ℕ → ℕ → ℝ) : Prop where
  q : Re3 x0 Q
  d : Re x5 D
  l : Re3 x6 fun a _ t => L a t
  δ : Re3 xs1 fun a _ t => Δ a t
  k0 : Re v7 (K 0)
  k1 : Re v10 (K 1)
  v0 : Re v12 (V 0)
  v1 : Re v14 (V 1)

/-- Block `b` of a head's query rows, -/
def Qb (Q : ℕ → ℕ → ℕ → ℝ) (a b x e : ℕ) : ℝ := Q a (512 * b + x) e
/-- of its cotangent, -/
def Db (D : ℕ → ℕ → ℝ) (a b x d : ℕ) : ℝ := D (512 * b + x) (128 * a + d)
/-- and of a number per row. -/
def Lb (L : ℕ → ℕ → ℝ) (a b x : ℕ) : ℝ := L a (512 * b + x)

/-- The weights of query block `b`, -/
def wB (K Q : ℕ → ℕ → ℕ → ℝ) (L : ℕ → ℕ → ℝ) (a b : ℕ) : ℕ → ℕ → ℝ := wt (K a) (Qb Q a b) (Lb L a b)
/-- and its score gradients. -/
def gB (K V Q : ℕ → ℕ → ℕ → ℝ) (D L Δ : ℕ → ℕ → ℝ) (a b : ℕ) : ℕ → ℕ → ℝ := gs (wB K Q L a b) (V a) (Db D a b) (Lb Δ a b)

theorem row_word : ∀ j k : Fin 4, (Scalar.indexCast (Scalar.muli (Scf.iv (Scalar.addi (BitVec.ofNat 32 j.val) 1#32) 1#32 k.val) 512#32)).toNat = 512 * (j.val + 1 + k.val) := by decide

theorem trips_word : ∀ j : Fin 4, Scf.Loop.trips (⟨Scalar.addi (BitVec.ofNat 32 j.val) 1#32, Scalar.addi (Scalar.addi (BitVec.ofNat 32 j.val) 1#32) (Scalar.muli (Scalar.divsi (Scalar.subi 4#32 (Scalar.addi (BitVec.ofNat 32 j.val) 1#32)) 1#32) 1#32), 1#32⟩ : Scf.Loop 32) = 3 - j.val := by decide

theorem trips_eq (i : grid0.Coords) : (k0_t1_loop i).trips = 3 - (i 1).val := trips_word (i 1)

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x5 : Vec Ideal S2048x256 .bf16) (x6 xs1 : Vec Ideal S2x1x2048 .f32)
variable (a1 : BitVec 32) (v7 v10 : FVec Ideal S512x256 .bf16) (v12 v14 : FVec Ideal S512x128 .bf16) (v15 : FVec Ideal S512x256 .f32)
  (v16 : FVec Ideal S512x128 .f32) (v18 : BitVec 32) (v24 : FVec Ideal S512x256 .bf16) (v30 : FVec Ideal S512x128 .bf16)
  (v32 v34 : FVec Ideal S512x512 .f32) (v52 : FVec Ideal S512x128 .f32) (v61 : FVec Ideal S512x256 .f32) (v73 v74 : IVec S512x512 32) (b6 v107 : BitVec 32)
variable {K V Q : ℕ → ℕ → ℕ → ℝ} {D L Δ : ℕ → ℕ → ℝ}

theorem offs (k : Fin (k0_t1_loop i).trips) :
    k0_off7 i k = ![0, 512 * ((i 1).val + 1 + k.val), 0] ∧ k0_off8 i k = ![1, 512 * ((i 1).val + 1 + k.val), 0]
    ∧ k0_off9 i k = ![512 * ((i 1).val + 1 + k.val), 0] ∧ k0_off10 i k = ![512 * ((i 1).val + 1 + k.val), 128]
    ∧ k0_off11 i k = ![0, 0, 512 * ((i 1).val + 1 + k.val)] ∧ k0_off12 i k = ![1, 0, 512 * ((i 1).val + 1 + k.val)] := by
  have hk : k.val < 4 := by have h1 := k.isLt; have h2 := trips_eq i; omega
  have h := row_word (i 1) ⟨k.val, hk⟩
  refine ⟨?_, ?_, ?_, ?_, ?_, ?_⟩ <;> (first | unfold k0_off7 | unfold k0_off8 | unfold k0_off9 | unfold k0_off10 | unfold k0_off11 | unfold k0_off12) <;>
    dsimp only at h ⊢ <;> rw [h]

/-- A trip of the loop at the blocks that the step reads. -/
abbrev theTrip (k : Fin (k0_t1_loop i).trips) := trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 v7 v10 v12 v14 v15 v16 v18 v24 v30 v32 v34 v52 v61 v73 v74 b6 v107
  (harg2.unread x0) (harg7.unread x5) (harg8.unread x6) (harg17.unread xs1) k

/-- The blocks that trip `k` loads. -/
theorem trip_blocks (g : Given x0 x5 x6 xs1 v7 v10 v12 v14 K V Q D L Δ) (k : Fin (k0_t1_loop i).trips) (b : ℕ) (hb : b = (i 1).val + 1 + k.val) :
    (Re3 (arg2.view.readAt (Elt Ideal) (Rect.unit (s := S2x2048x256) (k0_off7 i k) S1x512x256.size (k0_off7_inb i k)).toLoadRect (harg2.unread x0)) fun _ => Qb Q 0 b)
    ∧ (Re3 (arg2.view.readAt (Elt Ideal) (Rect.unit (s := S2x2048x256) (k0_off8 i k) S1x512x256.size (k0_off8_inb i k)).toLoadRect (harg2.unread x0)) fun _ => Qb Q 1 b)
    ∧ (Re (arg7.view.readAt (Elt Ideal) (Rect.unit (s := S2048x256) (k0_off9 i k) S512x128.size (k0_off9_inb i k)).toLoadRect (harg7.unread x5)) (Db D 0 b))
    ∧ (Re (arg7.view.readAt (Elt Ideal) (Rect.unit (s := S2048x256) (k0_off10 i k) S512x128.size (k0_off10_inb i k)).toLoadRect (harg7.unread x5)) (Db D 1 b))
    ∧ (Re3 (arg8.view.readAt (Elt Ideal) (Rect.unit (s := S2x1x2048) (k0_off11 i k) S1x1x512.size (k0_off11_inb i k)).toLoadRect (harg8.unread x6)) fun _ _ => Lb L 0 b)
    ∧ (Re3 (arg8.view.readAt (Elt Ideal) (Rect.unit (s := S2x1x2048) (k0_off12 i k) S1x1x512.size (k0_off12_inb i k)).toLoadRect (harg8.unread x6)) fun _ _ => Lb L 1 b)
    ∧ (Re3 (arg17.view.readAt (Elt Ideal) (Rect.unit (s := S2x1x2048) (k0_off11 i k) S1x1x512.size (k0_off11_inb i k)).toLoadRect (harg17.unread xs1)) fun _ _ => Lb Δ 0 b)
    ∧ (Re3 (arg17.view.readAt (Elt Ideal) (Rect.unit (s := S2x1x2048) (k0_off12 i k) S1x1x512.size (k0_off12_inb i k)).toLoadRect (harg17.unread xs1)) fun _ _ => Lb Δ 1 b) := by
  obtain ⟨o7, o8, o9, o10, o11, o12⟩ := offs i k
  rw [← hb] at o7 o8 o9 o10 o11 o12
  have hq := (harg2.read_unread x0).symm ▸ g.q
  have hd := (harg7.read_unread x5).symm ▸ g.d
  have hl := (harg8.read_unread x6).symm ▸ g.l
  have hδ := (harg17.read_unread xs1).symm ▸ g.δ
  refine ⟨(re_readAt3b arg2.view o7 hq).of ?_, (re_readAt3b arg2.view o8 hq).of ?_, (re_readAt2 arg7.view o9 hd).of ?_, (re_readAt2 arg7.view o10 hd).of ?_,
    (re_readAt3 arg8.view o11 hl).of ?_, (re_readAt3 arg8.view o12 hl).of ?_, (re_readAt3 arg17.view o11 hδ).of ?_, (re_readAt3 arg17.view o12 hδ).of ?_⟩
  all_goals
    intros
    simp only [Qb, Db, Lb, Nat.mul_zero, Nat.mul_one, Nat.zero_add]
    try (congr 1; omega)

/-- A trip adds its query block's share to the four sums it carries, -/
theorem trip_sums (g : Given x0 x5 x6 xs1 v7 v10 v12 v14 K V Q D L Δ) (k : Fin (k0_t1_loop i).trips)
    {p : FVec Ideal S512x256 .f32 × FVec Ideal S512x128 .f32 × FVec Ideal S512x256 .f32 × FVec Ideal S512x128 .f32} (f) {A0 A1 A2 A3 : ℕ → ℕ → ℝ}
    (h0 : Re p.1 A0) (h1 : Re p.2.1 A1) (h2 : Re p.2.2.1 A2) (h3 : Re p.2.2.2 A3) (b : ℕ) (hb : b = (i 1).val + 1 + k.val) :
    let r := (theTrip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 k).1 p f
    (Re r.1 fun y e => A0 y e + addK (gB K V Q D L Δ 0 b) (Qb Q 0 b) y e) ∧ (Re r.2.1 fun y e => A1 y e + addK (wB K Q L 0 b) (Db D 0 b) y e)
    ∧ (Re r.2.2.1 fun y e => A2 y e + addK (gB K V Q D L Δ 1 b) (Qb Q 1 b) y e) ∧ (Re r.2.2.2 fun y e => A3 y e + addK (wB K Q L 1 b) (Db D 1 b) y e) := by
  obtain ⟨q0, q1, d0, d1, l0, l1, δ0, δ1⟩ := trip_blocks i arg2 harg2 arg7 harg7 arg8 harg8 arg17 harg17 x0 x5 x6 xs1 v7 v10 v12 v14 g k b hb
  unfold theTrip trip_k0_t1
  dsimp only
  refine ⟨pay29 g.k0 q0 l0 g.v0 d0 δ0 h0, pay27 g.k0 q0 l0 d0 h1, pay78 (pay24 g.k1 q1) (pay25 g.v1 d1) l1 δ1 (pay21 q1) h2, pay76 (pay24 g.k1 q1) l1 (pay23 d1) h3⟩

/-- and to the query gradients of that block. -/
theorem trip_acc (g : Given x0 x5 x6 xs1 v7 v10 v12 v14 K V Q D L Δ) (k : Fin (k0_t1_loop i).trips) (p) (f) {X : ℕ → ℕ → ℕ → ℝ}
    (h : Re3 (arg16.view.read (Elt Ideal) f) X) (b : ℕ) (hb : b = (i 1).val + 1 + k.val) :
    Re3 (arg16.view.read (Elt Ideal) (arg16.view.writes (Elt Ideal) f ((theTrip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 k).2.1 p f)))
      (plus (plus X 0 b (addQ (gB K V Q D L Δ 0 b) (K 0))) 1 b (addQ (gB K V Q D L Δ 1 b) (K 1))) := by
  obtain ⟨q0, q1, d0, d1, l0, l1, δ0, δ1⟩ := trip_blocks i arg2 harg2 arg7 harg7 arg8 harg8 arg17 harg17 x0 x5 x6 xs1 v7 v10 v12 v14 g k b hb
  obtain ⟨o7, o8, -⟩ := offs i k
  rw [← hb] at o7 o8
  have f0 := re_readAt3 (n' := 1) (k' := 512) (l' := 256) arg16.view (inb := k0_off7_inb i k) o7 h
  have f1 := re_readAt3 (n' := 1) (k' := 512) (l' := 256) arg16.view (inb := k0_off8_inb i k) o8 h
  unfold theTrip trip_k0_t1
  dsimp only
  refine re_plus arg16.view o8 (pay79 (A := fun x e => X 1 (512 * b + x) e) (pay24 g.k1 q1) (pay25 g.v1 d1) l1 δ1 g.k1 (f1.of fun a x e ha _ => ?_)) (fun x e => ?_)
    (re_plus arg16.view o7 (pay74 (A := fun x e => X 0 (512 * b + x) e) g.k0 (pay28 g.k0 q0 l0 g.v0 d0 δ0) (f0.of fun a x e ha _ => ?_)) (fun x e => rfl) h)
  · obtain rfl : a = 0 := by omega
    simp only [Nat.add_zero, Nat.zero_add]
  · simp [plus, gB, wB]
  · obtain rfl : a = 0 := by omega
    simp only [Nat.zero_add]

/-- What the trips before `n` have added to the query gradients. -/
def later (K V Q : ℕ → ℕ → ℕ → ℝ) (D L Δ : ℕ → ℕ → ℝ) (j : ℕ) (X : ℕ → ℕ → ℕ → ℝ) : ℕ → ℕ → ℕ → ℕ → ℝ
  | 0 => X
  | n + 1 => plus (plus (later K V Q D L Δ j X n) 0 (j + 1 + n) (addQ (gB K V Q D L Δ 0 (j + 1 + n)) (K 0))) 1 (j + 1 + n) (addQ (gB K V Q D L Δ 1 (j + 1 + n)) (K 1))

theorem later_eq (j : ℕ) (X : ℕ → ℕ → ℕ → ℝ) (n a t e : ℕ) (ha : a < 2) :
    later K V Q D L Δ j X n a t e = X a t e + if j + 1 ≤ t / 512 ∧ t / 512 < j + 1 + n then addQ (gB K V Q D L Δ a (t / 512)) (K a) (t % 512) e else 0 := by
  induction n with
  | zero => simp only [later]; rw [if_neg (by omega), add_zero]
  | succ n ih =>
    obtain rfl | rfl : a = 0 ∨ a = 1 := by omega
    all_goals
      simp only [later, plus, ih, true_and, false_and, if_false, add_zero, zero_ne_one, one_ne_zero]
      by_cases h : t / 512 = j + 1 + n
      · rw [if_neg (by omega), if_pos h, if_pos (by omega), h, add_zero]
      · rw [if_neg h, add_zero]
        congr 1
        exact if_congr (by omega) rfl rfl

/-- The state before trip `n`. -/
abbrev theState (G) (init) (n : ℕ) := st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 v7 v10 v12 v14 v15 v16 v18 v24 v30 v32 v34 v52 v61 v73 v74 b6 v107
  (harg2.unread x0) (harg7.unread x5) (harg8.unread x6) (harg17.unread xs1) G init n

/-- The loop's invariant. -/
theorem loop (g : Given x0 x5 x6 xs1 v7 v10 v12 v14 K V Q D L Δ) (G)
    {p : FVec Ideal S512x256 .f32 × FVec Ideal S512x128 .f32 × FVec Ideal S512x256 .f32 × FVec Ideal S512x128 .f32} {A0 A1 A2 A3 : ℕ → ℕ → ℝ} {X : ℕ → ℕ → ℕ → ℝ}
    (h0 : Re p.1 A0) (h1 : Re p.2.1 A1) (h2 : Re p.2.2.1 A2) (h3 : Re p.2.2.2 A3) (hX : Re3 (arg16.view.read (Elt Ideal) G) X) (n : ℕ) (hn : n ≤ 3 - (i 1).val) :
    let s := theState c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 G p n
    ((Re s.1.1 fun y e => A0 y e + ∑ k ∈ Finset.range n, addK (gB K V Q D L Δ 0 ((i 1).val + 1 + k)) (Qb Q 0 ((i 1).val + 1 + k)) y e)
    ∧ (Re s.1.2.1 fun y e => A1 y e + ∑ k ∈ Finset.range n, addK (wB K Q L 0 ((i 1).val + 1 + k)) (Db D 0 ((i 1).val + 1 + k)) y e)
    ∧ (Re s.1.2.2.1 fun y e => A2 y e + ∑ k ∈ Finset.range n, addK (gB K V Q D L Δ 1 ((i 1).val + 1 + k)) (Qb Q 1 ((i 1).val + 1 + k)) y e)
    ∧ (Re s.1.2.2.2 fun y e => A3 y e + ∑ k ∈ Finset.range n, addK (wB K Q L 1 ((i 1).val + 1 + k)) (Db D 1 ((i 1).val + 1 + k)) y e))
    ∧ Re3 (arg16.view.read (Elt Ideal) (arg16.view.writes (Elt Ideal) G s.2)) (later K V Q D L Δ (i 1).val X n) := by
  induction n with
  | zero =>
    refine ⟨⟨h0.of ?_, h1.of ?_, h2.of ?_, h3.of ?_⟩, hX⟩ <;> intro _ _ <;> simp
  | succ n ih =>
    obtain ⟨⟨i0, i1, i2, i3⟩, iX⟩ := ih (by omega)
    have hk : n < (k0_t1_loop i).trips := by have h := trips_eq i; omega
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a1 v7 v10 v12 v14 v15 v16 v18 v24 v30 v32 v34 v52 v61 v73 v74 b6 v107
      (harg2.unread x0) (harg7.unread x5) (harg8.unread x6) (harg17.unread xs1) G p ⟨n, hk⟩
    obtain ⟨r0, r1, r2, r3⟩ := trip_sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 g ⟨n, hk⟩ (arg16.view.writes (Elt Ideal) G (theState c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 G p n).2) i0 i1 i2 i3 _ rfl
    have rX := trip_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 g ⟨n, hk⟩ (theState c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 v34 v52 v61 v73 v74 b6 v107 G p n).1 _ iX _ rfl
    dsimp only at e
    simp only [theState, e, View.writes_append]
    refine ⟨⟨r0.of ?_, r1.of ?_, r2.of ?_, r3.of ?_⟩, rX⟩ <;> intro _ _ <;> rw [Finset.sum_range_succ, add_assoc]

end Cert.AttnIdeal.Val

end
-- ==== Proof.Attn.Sums.lean ====
module

public import proofs.«01_k».proof.Proof.Attn.Step
public import proofs.«01_k».proof.Proof.Attn.Trip

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x5 : Vec Ideal S2048x256 .bf16) (x6 : Vec Ideal S2x1x2048 .f32)
variable (xs0 : Vec Ideal S2x2048x256 .f32) (xs1 : Vec Ideal S2x1x2048 .f32)
variable (a1 : BitVec 32) (v7 v10 : FVec Ideal S512x256 .bf16) (v12 v14 : FVec Ideal S512x128 .bf16) (v15 : FVec Ideal S512x256 .f32)
  (v16 : FVec Ideal S512x128 .f32) (v18 : BitVec 32) (v21 v24 : FVec Ideal S512x256 .bf16) (v27 v30 : FVec Ideal S512x128 .bf16)
  (v31 v32 : FVec Ideal S512x512 .f32)
variable {K V Q : ℕ → ℕ → ℕ → ℝ} {D L Δ : ℕ → ℕ → ℝ}

/-! A step's sums: the diagonal block and then the later ones. -/

/-- The four sums after the diagonal block, -/
def diagP : FVec Ideal S512x256 .f32 × FVec Ideal S512x128 .f32 × FVec Ideal S512x256 .f32 × FVec Ideal S512x128 .f32 :=
  (k0_pay66 v12 v15 v21 v27 v31 (constant S512x512 .f32 0x00000000#32) (arg8.view.readAt (Elt Ideal) (Rect.unit (s := S2x1x2048) (k0_off5 i) S1x1x512.size (k0_off5_inb i)).toLoadRect (harg8.unread x6)) (arg17.view.readAt (Elt Ideal) (Rect.unit (s := S2x1x2048) (k0_off5 i) S1x1x512.size (k0_off5_inb i)).toLoadRect (harg17.unread xs1)), k0_pay64 v16 v27 v31 (arg8.view.readAt (Elt Ideal) (Rect.unit (s := S2x1x2048) (k0_off5 i) S1x1x512.size (k0_off5_inb i)).toLoadRect (harg8.unread x6)),
   k0_pay72 v15 v24 v32 (k0_pay62 v14 v30) k0_pay68 cols 6#32 (arg8.view.readAt (Elt Ideal) (Rect.unit (s := S2x1x2048) (k0_off6 i) S1x1x512.size (k0_off6_inb i)).toLoadRect (harg8.unread x6)) (arg17.view.readAt (Elt Ideal) (Rect.unit (s := S2x1x2048) (k0_off6 i) S1x1x512.size (k0_off6_inb i)).toLoadRect (harg17.unread xs1)), k0_pay70 v16 v30 v32 k0_pay68 cols 6#32 (arg8.view.readAt (Elt Ideal) (Rect.unit (s := S2x1x2048) (k0_off6 i) S1x1x512.size (k0_off6_inb i)).toLoadRect (harg8.unread x6)))

/-- and its stores into the query gradients. -/
def diagL : List (View.Piece (Elt Ideal) S2x2048x256 .f32) :=
  [⟨Rect.unit (s := S2x2048x256) (k0_off2 i) S1x512x256.size (k0_off2_inb i), k0_pay73 v10 v32 (k0_pay62 v14 v30) k0_pay68 cols 6#32 (arg8.view.readAt (Elt Ideal) (Rect.unit (s := S2x1x2048) (k0_off6 i) S1x1x512.size (k0_off6_inb i)).toLoadRect (harg8.unread x6)) (arg17.view.readAt (Elt Ideal) (Rect.unit (s := S2x1x2048) (k0_off6 i) S1x1x512.size (k0_off6_inb i)).toLoadRect (harg17.unread xs1)) (arg16.view.readAt (Elt Ideal) (Rect.unit (s := S2x2048x256) (k0_off2 i) S1x512x256.size (k0_off2_inb i)).toLoadRect (harg16.unread xs0))⟩,
   ⟨Rect.unit (s := S2x2048x256) (k0_off1 i) S1x512x256.size (k0_off1_inb i), k0_pay67 v7 v12 v27 v31 (constant S512x512 .f32 0x00000000#32) (arg8.view.readAt (Elt Ideal) (Rect.unit (s := S2x1x2048) (k0_off5 i) S1x1x512.size (k0_off5_inb i)).toLoadRect (harg8.unread x6)) (arg17.view.readAt (Elt Ideal) (Rect.unit (s := S2x1x2048) (k0_off5 i) S1x1x512.size (k0_off5_inb i)).toLoadRect (harg17.unread xs1)) (arg16.view.readAt (Elt Ideal) (Rect.unit (s := S2x2048x256) (k0_off1 i) S1x512x256.size (k0_off1_inb i)).toLoadRect (harg16.unread xs0))⟩]

/-- What the step's loop leaves. -/
def theEnd := theState c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 (k0_pay62 v14 v30)
  (k0_pay64 v16 v27 v31 (arg8.view.readAt (Elt Ideal) (Rect.unit (s := S2x1x2048) (k0_off5 i) S1x1x512.size (k0_off5_inb i)).toLoadRect (harg8.unread x6))) (k0_pay66 v12 v15 v21 v27 v31 (constant S512x512 .f32 0x00000000#32) (arg8.view.readAt (Elt Ideal) (Rect.unit (s := S2x1x2048) (k0_off5 i) S1x1x512.size (k0_off5_inb i)).toLoadRect (harg8.unread x6)) (arg17.view.readAt (Elt Ideal) (Rect.unit (s := S2x1x2048) (k0_off5 i) S1x1x512.size (k0_off5_inb i)).toLoadRect (harg17.unread xs1))) k0_pay68 cols 6#32 (Scalar.addi a1 1#32)
  (arg16.view.writes (Elt Ideal) (harg16.unread xs0) (diagL i arg8 harg8 arg16 harg16 arg17 harg17 x6 xs0 xs1 v7 v10 v12 v14 v27 v30 v31 v32))
  (diagP i arg8 harg8 arg17 harg17 x6 xs1 v12 v14 v15 v16 v21 v24 v27 v30 v31 v32) (k0_t1_loop i).trips

/-- The score gradients of a step's own query block. -/
def gM (K V Q : ℕ → ℕ → ℕ → ℝ) (D L Δ : ℕ → ℕ → ℝ) (a b : ℕ) : ℕ → ℕ → ℝ := gs (wtm (K a) (Qb Q a b) (Lb L a b)) (V a) (Db D a b) (Lb Δ a b)

theorem off_word : ∀ j : Fin 4, (Scalar.indexCast (Scalar.muli (BitVec.ofNat 32 j.val) 512#32)).toNat = 512 * j.val := by decide

theorem offs_diag : k0_off1 i = ![0, 512 * (i 1).val, 0] ∧ k0_off2 i = ![1, 512 * (i 1).val, 0] ∧ k0_off3 i = ![512 * (i 1).val, 0]
    ∧ k0_off4 i = ![512 * (i 1).val, 128] ∧ k0_off5 i = ![0, 0, 512 * (i 1).val] ∧ k0_off6 i = ![1, 0, 512 * (i 1).val] := by
  have h := off_word (i 1)
  refine ⟨?_, ?_, ?_, ?_, ?_, ?_⟩ <;> (first | unfold k0_off1 | unfold k0_off2 | unfold k0_off3 | unfold k0_off4 | unfold k0_off5 | unfold k0_off6) <;>
    dsimp only at h ⊢ <;> rw [h]

/-- What the step has before its loop, besides `Given`: its own query block, the scores of it, and nothing summed. -/
structure Diag (v15 : FVec Ideal S512x256 .f32) (v16 : FVec Ideal S512x128 .f32) (v21 v24 : FVec Ideal S512x256 .bf16) (v27 v30 : FVec Ideal S512x128 .bf16)
    (v31 v32 : FVec Ideal S512x512 .f32) (K Q : ℕ → ℕ → ℕ → ℝ) (D : ℕ → ℕ → ℝ) (j : ℕ) : Prop where
  z15 : Re v15 fun _ _ => 0
  z16 : Re v16 fun _ _ => 0
  q0 : Re v21 (Qb Q 0 j)
  q1 : Re v24 (Qb Q 1 j)
  d0 : Re v27 (Db D 0 j)
  d1 : Re v30 (Db D 1 j)
  s0 : Re v31 (dot 256 (K 0) (Qb Q 0 j))
  s1 : Re v32 (dot 256 (K 1) (Qb Q 1 j))

theorem diag_blocks (g : Given x0 x5 x6 xs1 v7 v10 v12 v14 K V Q D L Δ) :
    (Re3 (arg8.view.readAt (Elt Ideal) (Rect.unit (s := S2x1x2048) (k0_off5 i) S1x1x512.size (k0_off5_inb i)).toLoadRect (harg8.unread x6)) fun _ _ => Lb L 0 (i 1).val) ∧ (Re3 (arg8.view.readAt (Elt Ideal) (Rect.unit (s := S2x1x2048) (k0_off6 i) S1x1x512.size (k0_off6_inb i)).toLoadRect (harg8.unread x6)) fun _ _ => Lb L 1 (i 1).val)
    ∧ (Re3 (arg17.view.readAt (Elt Ideal) (Rect.unit (s := S2x1x2048) (k0_off5 i) S1x1x512.size (k0_off5_inb i)).toLoadRect (harg17.unread xs1)) fun _ _ => Lb Δ 0 (i 1).val) ∧ (Re3 (arg17.view.readAt (Elt Ideal) (Rect.unit (s := S2x1x2048) (k0_off6 i) S1x1x512.size (k0_off6_inb i)).toLoadRect (harg17.unread xs1)) fun _ _ => Lb Δ 1 (i 1).val) := by
  obtain ⟨-, -, -, -, o5, o6⟩ := offs_diag i
  have hl := (harg8.read_unread x6).symm ▸ g.l
  have hδ := (harg17.read_unread xs1).symm ▸ g.δ
  refine ⟨(re_readAt3 arg8.view o5 hl).of ?_, (re_readAt3 arg8.view o6 hl).of ?_, (re_readAt3 arg17.view o5 hδ).of ?_, (re_readAt3 arg17.view o6 hδ).of ?_⟩
  all_goals
    intros
    simp only [Lb, Nat.zero_add]
    congr 1
    omega

theorem diag_sums (g : Given x0 x5 x6 xs1 v7 v10 v12 v14 K V Q D L Δ) (d : Diag v15 v16 v21 v24 v27 v30 v31 v32 K Q D (i 1).val) :
    let p := diagP i arg8 harg8 arg17 harg17 x6 xs1 v12 v14 v15 v16 v21 v24 v27 v30 v31 v32
    Re p.1 (addK (gM K V Q D L Δ 0 (i 1).val) (Qb Q 0 (i 1).val)) ∧ Re p.2.1 (addK (wtm (K 0) (Qb Q 0 (i 1).val) (Lb L 0 (i 1).val)) (Db D 0 (i 1).val))
    ∧ Re p.2.2.1 (addK (gM K V Q D L Δ 1 (i 1).val) (Qb Q 1 (i 1).val)) ∧ Re p.2.2.2 (addK (wtm (K 1) (Qb Q 1 (i 1).val) (Lb L 1 (i 1).val)) (Db D 1 (i 1).val)) := by
  obtain ⟨l0, l1, e0, e1⟩ := diag_blocks i arg8 harg8 arg17 harg17 x0 x5 x6 xs1 v7 v10 v12 v14 g
  refine ⟨(pay66 d.s0 l0 g.v0 d.d0 e0 d.q0 d.z15).of ?_, (pay64 d.s0 l0 d.d0 d.z16).of ?_, (pay72 d.s1 (pay62 g.v1 d.d1) l1 e1 d.q1 d.z15).of ?_, (pay70 d.s1 l1 d.d1 d.z16).of ?_⟩ <;>
    intro _ _ <;> rw [zero_add] <;> rfl

theorem diag_acc (g : Given x0 x5 x6 xs1 v7 v10 v12 v14 K V Q D L Δ) (d : Diag v15 v16 v21 v24 v27 v30 v31 v32 K Q D (i 1).val) {X : ℕ → ℕ → ℕ → ℝ} (h : Re3 xs0 X) :
    Re3 (arg16.view.read (Elt Ideal) (arg16.view.writes (Elt Ideal) (harg16.unread xs0) (diagL i arg8 harg8 arg16 harg16 arg17 harg17 x6 xs0 xs1 v7 v10 v12 v14 v27 v30 v31 v32)))
      (plus (plus X 0 (i 1).val (addQ (gM K V Q D L Δ 0 (i 1).val) (K 0))) 1 (i 1).val (addQ (gM K V Q D L Δ 1 (i 1).val) (K 1))) := by
  obtain ⟨l0, l1, e0, e1⟩ := diag_blocks i arg8 harg8 arg17 harg17 x0 x5 x6 xs1 v7 v10 v12 v14 g
  obtain ⟨o1, o2, -⟩ := offs_diag i
  have hX := (harg16.read_unread xs0).symm ▸ h
  have f0 := re_readAt3 (n' := 1) (k' := 512) (l' := 256) arg16.view (inb := k0_off1_inb i) o1 hX
  have f1 := re_readAt3 (n' := 1) (k' := 512) (l' := 256) arg16.view (inb := k0_off2_inb i) o2 hX
  unfold diagL
  refine re_plus arg16.view o2 (pay73 (A := fun x e => X 1 (512 * (i 1).val + x) e) d.s1 (pay62 g.v1 d.d1) l1 e1 g.k1 (f1.of fun a x e ha _ => ?_)) (fun x e => ?_)
    (re_plus arg16.view o1 (pay67 (A := fun x e => X 0 (512 * (i 1).val + x) e) d.s0 l0 g.v0 d.d0 e0 g.k0 (f0.of fun a x e ha _ => ?_)) (fun x e => rfl) hX)
  · obtain rfl : a = 0 := by omega
    simp only [Nat.add_zero, Nat.zero_add]
  · simp [plus, gM]
  · obtain rfl : a = 0 := by omega
    simp only [Nat.zero_add]

/-- A step's sums for a key row: of the key gradients, -/
def sumK (K V Q : ℕ → ℕ → ℕ → ℝ) (D L Δ : ℕ → ℕ → ℝ) (j a y e : ℕ) : ℝ :=
  addK (gM K V Q D L Δ a j) (Qb Q a j) y e + ∑ k ∈ Finset.range (3 - j), addK (gB K V Q D L Δ a (j + 1 + k)) (Qb Q a (j + 1 + k)) y e
/-- and of the value gradients. -/
def sumV (K Q : ℕ → ℕ → ℕ → ℝ) (D L : ℕ → ℕ → ℝ) (j a y e : ℕ) : ℝ :=
  addK (wtm (K a) (Qb Q a j) (Lb L a j)) (Db D a j) y e + ∑ k ∈ Finset.range (3 - j), addK (wB K Q L a (j + 1 + k)) (Db D a (j + 1 + k)) y e
/-- What a step adds to the query gradients of a row. -/
def sumQ (K V Q : ℕ → ℕ → ℕ → ℝ) (D L Δ : ℕ → ℕ → ℝ) (j a t e : ℕ) : ℝ :=
  if t / 512 < j then 0 else if t / 512 = j then addQ (gM K V Q D L Δ a j) (K a) (t % 512) e else addQ (gB K V Q D L Δ a (t / 512)) (K a) (t % 512) e

/-- What the step's loop leaves, in numbers. -/
theorem end_sums (g : Given x0 x5 x6 xs1 v7 v10 v12 v14 K V Q D L Δ) (d : Diag v15 v16 v21 v24 v27 v30 v31 v32 K Q D (i 1).val) {X : ℕ → ℕ → ℕ → ℝ} (h : Re3 xs0 X) :
    let s := theEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs0 xs1 a1 v7 v10 v12 v14 v15 v16 v18 v21 v24 v27 v30 v31 v32
    (Re s.1.1 (sumK K V Q D L Δ (i 1).val 0) ∧ Re s.1.2.1 (sumV K Q D L (i 1).val 0) ∧ Re s.1.2.2.1 (sumK K V Q D L Δ (i 1).val 1) ∧ Re s.1.2.2.2 (sumV K Q D L (i 1).val 1))
    ∧ Re3 (arg16.view.read (Elt Ideal) (arg16.view.writes (Elt Ideal) (harg16.unread xs0) (s.2 ++ diagL i arg8 harg8 arg16 harg16 arg17 harg17 x6 xs0 xs1 v7 v10 v12 v14 v27 v30 v31 v32)))
        fun a t e => X a t e + sumQ K V Q D L Δ (i 1).val a t e := by
  obtain ⟨h0, h1, h2, h3⟩ := diag_sums i arg8 harg8 arg17 harg17 x0 x5 x6 xs1 v7 v10 v12 v14 v15 v16 v21 v24 v27 v30 v31 v32 g d
  have hX := diag_acc i arg8 harg8 arg16 harg16 arg17 harg17 x0 x5 x6 xs0 xs1 v7 v10 v12 v14 v15 v16 v21 v24 v27 v30 v31 v32 g d h
  obtain ⟨hs, hA⟩ := loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs1 a1 v7 v10 v12 v14 v15 v16 v18 v24 v30 v32 (k0_pay62 v14 v30)
    (k0_pay64 v16 v27 v31 (arg8.view.readAt (Elt Ideal) (Rect.unit (s := S2x1x2048) (k0_off5 i) S1x1x512.size (k0_off5_inb i)).toLoadRect (harg8.unread x6))) (k0_pay66 v12 v15 v21 v27 v31 (constant S512x512 .f32 0x00000000#32) (arg8.view.readAt (Elt Ideal) (Rect.unit (s := S2x1x2048) (k0_off5 i) S1x1x512.size (k0_off5_inb i)).toLoadRect (harg8.unread x6)) (arg17.view.readAt (Elt Ideal) (Rect.unit (s := S2x1x2048) (k0_off5 i) S1x1x512.size (k0_off5_inb i)).toLoadRect (harg17.unread xs1))) k0_pay68 cols 6#32 (Scalar.addi a1 1#32) g _ h0 h1 h2 h3 hX _ (trips_eq i).le
  unfold theEnd
  refine ⟨?_, ?_⟩
  · obtain ⟨i0, i1, i2, i3⟩ := hs
    refine ⟨i0.of ?_, i1.of ?_, i2.of ?_, i3.of ?_⟩ <;> intro _ _ <;> simp only [sumK, sumV, trips_eq i]
  · rw [View.writes_append]
    refine hA.of fun a t e ha ht => ?_
    rw [later_eq _ _ _ _ _ _ ha, trips_eq i]
    have hj : (i 1).val < 4 := (i 1).isLt
    obtain rfl | rfl : a = 0 ∨ a = 1 := by omega
    all_goals
      simp only [plus, sumQ, true_and, false_and, if_false, add_zero, zero_ne_one, one_ne_zero]
      rcases Nat.lt_trichotomy (t / 512) (i 1).val with h | h | h
      · rw [if_neg (by omega), if_neg (by omega), if_pos h]; simp only [add_zero]
      · rw [if_pos h, if_neg (by omega), if_neg (by omega), if_pos h]; simp only [add_zero]
      · rw [if_neg (by omega), if_pos (by omega), if_neg (by omega), if_neg (by omega), add_zero]

end Cert.AttnIdeal.Val

end
-- ==== Proof.Attn.Outs.lean ====
module

public import proofs.«01_k».proof.Proof.Attn.Step
public import proofs.«01_k».proof.Proof.Attn.Sums

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! The stores at a step's end. -/

/-- The state a loop ends with: its four sums and its stores into the query sums. -/
abbrev Ended : Type := (FVec Ideal S512x256 .f32 × FVec Ideal S512x128 .f32 × FVec Ideal S512x256 .f32 × FVec Ideal S512x128 .f32) × List (View.Piece (Elt Ideal) S2x2048x256 .f32)

/-- The block of unrotated key gradients, as a step stores it, -/
def listKN (E : Ended) : List (View.Piece (Elt Ideal) S512x256 .bf16) :=
  [⟨Rect.unit (s := S512x256) ![0, 128] S512x128.size inb_S512x256_S512x128_0_128, k0_pay6 E.1.2.2.1⟩,
    ⟨Rect.unit (s := S512x256) ![0, 0] S512x128.size inb_S512x256_S512x128_0_0, k0_pay2 E.1.1 k0_pay86⟩]
/-- of rotary ones, -/
def listKR (E : Ended) : List (View.Piece (Elt Ideal) S2x512x128 .f32) :=
  [⟨Rect.unit (s := S2x512x128) ![1, 0, 0] S1x512x128.size inb_S2x512x128_S1x512x128_1_0_0, k0_pay7 E.1.2.2.1⟩,
    ⟨Rect.unit (s := S2x512x128) ![0, 0, 0] S1x512x128.size inb_S2x512x128_S1x512x128_0_0_0, k0_pay3 E.1.1 k0_pay86⟩]
/-- and of value gradients. -/
def listV (E : Ended) : List (View.Piece (Elt Ideal) S512x256 .bf16) :=
  [⟨Rect.unit (s := S512x256) ![0, 128] S512x128.size inb_S512x256_S512x128_0_128, k0_pay8 E.1.2.2.2⟩,
    ⟨Rect.unit (s := S512x256) ![0, 0] S512x128.size inb_S512x256_S512x128_0_0, k0_pay4 E.1.2.1⟩]

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x1 : Vec Ideal S512x256 .bf16) (x2 : Vec Ideal S512x128 .bf16) (x3 : Vec Ideal S512x256 .bf16)
  (x4 : Vec Ideal S2048x256 .bf16) (x5 : Vec Ideal S2048x256 .bf16) (x6 : Vec Ideal S2x1x2048 .f32) (x7 x8 x9 : Vec Ideal S2048x128 .f32)
variable (xs0 : Vec Ideal S2x2048x256 .f32) (xs1 : Vec Ideal S2x1x2048 .f32)
variable (a1 : BitVec 32) (v7 v10 : FVec Ideal S512x256 .bf16) (v12 v14 : FVec Ideal S512x128 .bf16) (v15 : FVec Ideal S512x256 .f32)
  (v16 : FVec Ideal S512x128 .f32) (v18 : BitVec 32) (v21 v24 : FVec Ideal S512x256 .bf16) (v27 v30 : FVec Ideal S512x128 .bf16)
  (v31 v32 : FVec Ideal S512x512 .f32)

theorem runN_eq (h) :
    let r := runN c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 a1 v7 v10 v12 v14 v15 v16 v18 v21 v24 v27 v30 v31 v32 (constant S512x512 .f32 0x00000000#32) h
    let E := theEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs0 xs1 a1 v7 v10 v12 v14 v15 v16 v18 v21 v24 v27 v30 v31 v32
    r.1 = listKN E ∧ r.2.1 = listKR E ∧ r.2.2.1 = listV E ∧ r.2.2.2.1 = E.2 ++ diagL i arg8 harg8 arg16 harg16 arg17 harg17 x6 xs0 xs1 v7 v10 v12 v14 v27 v30 v31 v32 := by
  refine ⟨?_, ?_, ?_, ?_⟩ <;> sl_kernel_rfl

theorem runC_eq (h) :
    let r := runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 a1 v7 v10 v12 v14 v15 v16 v18 v21 v24 v27 v30 v31 v32 (constant S512x512 .f32 0x00000000#32) h
    let E := theEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs0 xs1 a1 v7 v10 v12 v14 v15 v16 v18 v21 v24 v27 v30 v31 v32
    r.2.1 = listKN E ∧ r.2.2.1 = listKR E ∧ r.2.2.2.1 = listV E ∧ r.2.2.2.2.1 = E.2 ++ diagL i arg8 harg8 arg16 harg16 arg17 harg17 x6 xs0 xs1 v7 v10 v12 v14 v27 v30 v31 v32 := by
  refine ⟨?_, ?_, ?_, ?_⟩ <;> sl_kernel_rfl

end Cert.AttnIdeal.Val

end
-- ==== Proof.Attn.Stores.lean ====
module

public import proofs.«01_k».proof.Proof.Attn.Step
public import proofs.«01_k».proof.Proof.Attn.Outs
public import Idealize.ShloMosaic.Lib.KernelVsHost

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! What the stores at a step's end hold, in numbers. -/

/-- The scale of the scores. -/
def theScale : ℝ := 9686330 / 134217728

theorem scale_eq : Ideal.ofBits .f32 0x3D93CD3A#32 = (theScale : EReal) := by
  unfold theScale
  simp [Ideal.ofBits, Ideal.ieee, -EReal.coe_mul]; norm_num

theorem neg_one_eq : Ideal.ofBits .f32 0xBF800000#32 = ((-1 : ℝ) : EReal) := by
  simp [Ideal.ofBits, Ideal.ieee, -EReal.coe_mul, -EReal.coe_neg]; norm_num

section Stored

variable {A A0 A1 C S S2 : ℕ → ℕ → ℝ}

theorem pay2 {v : Vec Ideal S512x256 .f32} (h : Re v A) : Re (k0_pay2 (F := Ideal) v k0_pay86) fun y e => A y e * Real.log 2 := by
  intro y e
  pointwise [k0_pay2, k0_pay1, k0_pay86]
  exact (congrArg (· * _) (h y _)).trans (EReal.coe_mul _ _).symm

theorem pay3 {v : Vec Ideal S512x256 .f32} (h : Re v A) : Re3 (k0_pay3 (F := Ideal) v k0_pay86) fun _ y e => A y (128 + e) * Real.log 2 := by
  intro a y e
  pointwise [k0_pay3, k0_pay1, k0_pay86]
  exact (congrArg (· * _) (h y _)).trans (EReal.coe_mul _ _).symm

theorem pay6 {v : Vec Ideal S512x256 .f32} (h : Re v A) : Re (k0_pay6 (F := Ideal) v) fun y e => A y e * Real.log 2 := by
  intro y e
  pointwise [k0_pay6, k0_pay5]
  exact (congrArg (· * _) (h y _)).trans (EReal.coe_mul _ _).symm

theorem pay7 {v : Vec Ideal S512x256 .f32} (h : Re v A) : Re3 (k0_pay7 (F := Ideal) v) fun _ y e => A y (128 + e) * Real.log 2 := by
  intro a y e
  pointwise [k0_pay7, k0_pay5]
  exact (congrArg (· * _) (h y _)).trans (EReal.coe_mul _ _).symm

theorem pay48v {v : Vec Ideal S512x128 .f32} (h : Re v A) : Re (k0_pay4 (F := Ideal) v) A ∧ Re (k0_pay8 (F := Ideal) v) A :=
  ⟨fun y e => h y e, fun y e => h y e⟩

/-- A row of rotary gradients turned back by the tables. -/
def turn (C S S2 A : ℕ → ℕ → ℝ) (t e : ℕ) : ℝ := A t e * C t e + -1 * (A t ((e + 32) % 128) * S t e + A t ((e + 96) % 128) * S2 t e)

theorem pay43 {v : Vec Ideal S1x2048x256 .f32} (h : Re3 v fun _ => A) : Re3 (k0_pay43 v) fun _ t e => A t e * theScale := by
  intro a t e
  pointwise [k0_pay43, k0_pay42, scale_eq]
  exact (congrArg (· * _) (h 0 t _)).trans (EReal.coe_mul _ _).symm

theorem pay46 {v : Vec Ideal S1x2048x256 .f32} (h : Re3 v fun _ => A) : Re3 (k0_pay9 (k0_pay46 v)) fun _ t e => A t e * theScale := by
  intro a t e
  pointwise [k0_pay9, k0_pay46, k0_pay45, scale_eq]
  exact (congrArg (· * _) (h 0 t _)).trans (EReal.coe_mul _ _).symm

theorem rotated (n : ℕ) (hn : n < 128) {x : S2048x128.Idx → EReal} (h : Re x A) (hr : S2048x128.Rotates 1 none) :
    Re (dynamicRotate 1 (BitVec.ofNat 32 n) none x hr) fun t e => A t ((e + 128 - n) % 128) := by
  intro t e
  rw [dynamicRotate_apply 1 (BitVec.ofNat 32 n) x hr (ix2 t e) (ix2 t ⟨(e.val + 128 - n) % 128, Nat.mod_lt _ (by decide)⟩) (fun b => by
    have h1 : (BitVec.ofNat 32 n).toNat = n := by rw [BitVec.toNat_ofNat]; exact Nat.mod_eq_of_lt (by omega)
    rw [h1]
    fin_cases b
    · rfl
    · show (e.val + 128 - n) % 128 = (e.val + 128 - n % 128) % 128
      rw [Nat.mod_eq_of_lt hn])]
  exact h t _

theorem turned {x c s s2 : S2048x128.Idx → EReal} (h : Re x A) (hc : Re c C) (hs : Re s S) (hs2 : Re s2 S2) (hr : S2048x128.Rotates 1 none) :
    Re (fun j => x j * c j + ((-1 : ℝ) : EReal) * (dynamicRotate 1 96#32 none x hr j * s j + dynamicRotate 1 32#32 none x hr j * s2 j)) (turn C S S2 A) := by
  intro t e
  have h1 := rotated 96 (by decide) h hr t e
  have h2 := rotated 32 (by decide) h hr t e
  simp only [show e.val + 128 - 96 = e.val + 32 by omega] at h1
  simp only [show e.val + 128 - 32 = e.val + 96 by omega] at h2
  show x (ix2 t e) * c (ix2 t e) + _ * (dynamicRotate 1 (BitVec.ofNat 32 96) none x hr (ix2 t e) * s (ix2 t e) + dynamicRotate 1 (BitVec.ofNat 32 32) none x hr (ix2 t e) * s2 (ix2 t e)) = _
  rw [h1, h2, h t e, hc t e, hs t e, hs2 t e]
  simp only [← EReal.coe_mul, ← EReal.coe_add]
  rfl

theorem pay44 {v : Vec Ideal S1x2048x256 .f32} {c s s2 : Vec Ideal S2048x128 .f32} (h : Re3 v fun _ => A) (hc : Re c C) (hs : Re s S) (hs2 : Re s2 S2) :
    Re3 (k0_pay44 v c s s2) fun _ t e => turn C S S2 (fun t e => A t (128 + e) * theScale) t e := by
  intro a t e
  have hx : Re (extractStridedSlice S2048x128 ![0, 128] (k0_pay42 v) slices_S2048x256_o0_128_S2048x128) fun t e => A t (128 + e) * theScale := fun t e => by
    pointwise [k0_pay42, scale_eq]
    exact (congrArg (· * _) (h 0 t _)).trans (EReal.coe_mul _ _).symm
  refine Eq.trans ?_ (turned hx hc hs hs2 rotates_S2048x128_d1 t e)
  unfold k0_pay44
  generalize extractStridedSlice S2048x128 ![0, 128] (k0_pay42 v) slices_S2048x256_o0_128_S2048x128 = x
  dsimp only
  pointwise [neg_one_eq]

theorem pay10 {v : Vec Ideal S1x2048x256 .f32} {c s s2 : Vec Ideal S2048x128 .f32} (h : Re3 v fun _ => A) (hc : Re c C) (hs : Re s S) (hs2 : Re s2 S2) :
    Re3 (k0_pay10 (k0_pay45 v) c s s2) fun _ t e => turn C S S2 (fun t e => A t (128 + e) * theScale) t e := by
  intro a t e
  have hx : Re (extractStridedSlice S2048x128 ![0, 128] (k0_pay45 v) slices_S2048x256_o0_128_S2048x128) fun t e => A t (128 + e) * theScale := fun t e => by
    pointwise [k0_pay45, scale_eq]
    exact (congrArg (· * _) (h 0 t _)).trans (EReal.coe_mul _ _).symm
  refine Eq.trans ?_ (turned hx hc hs hs2 rotates_S2048x128_d1 t e)
  unfold k0_pay10
  generalize extractStridedSlice S2048x128 ![0, 128] (k0_pay45 v) slices_S2048x256_o0_128_S2048x128 = x
  dsimp only
  pointwise [neg_one_eq]

variable {sig : RefSig} {κ : Kind} {sp : Space}

/-- Two blocks of 128 columns side by side. -/
theorem re_cols (v : View sig κ sp S512x256 .bf16) (f : v.ty.Contents (Elt Ideal)) {w0 w1 : Vec Ideal S512x128 .bf16} (h0 : Re w0 A0) (h1 : Re w1 A1) :
    Re (v.read (Elt Ideal) (v.writes (Elt Ideal) f [⟨Rect.unit (s := S512x256) ![0, 128] S512x128.size inb_S512x256_S512x128_0_128, w1⟩, ⟨Rect.unit (s := S512x256) ![0, 0] S512x128.size inb_S512x256_S512x128_0_0, w0⟩]))
      fun y e => if e < 128 then A0 y e else A1 y (e - 128) := by
  intro y e
  by_cases he : e.val < 128
  · rw [View.read_writes_cons_miss_of_axis v f _ _ (ix2 y e) 1 128 128 rfl rfl rfl (by show e.val < _ ∨ _; omega),
      View.read_writes_cons_hit_of_coords v f _ _ _ (ix2 y (⟨e.val, he⟩ : Fin 128)) (ix2 y e) (fun x => by fin_cases x <;> simp [Rect.unit])]
    exact (h0 y _).trans (by simp only [if_pos he])
  · rw [View.read_writes_cons_hit_of_coords v f _ _ _ (ix2 y (⟨e.val - 128, by omega⟩ : Fin 128)) (ix2 y e) (fun x => by fin_cases x <;> simp [Rect.unit] <;> omega)]
    exact (h1 y _).trans (by simp only [if_neg he])

/-- Two heads' blocks. -/
theorem re_heads (v : View sig κ sp S2x512x128 .f32) (f : v.ty.Contents (Elt Ideal)) {w0 w1 : Vec Ideal S1x512x128 .f32} (h0 : Re3 w0 fun _ => A0) (h1 : Re3 w1 fun _ => A1) :
    Re3 (v.read (Elt Ideal) (v.writes (Elt Ideal) f [⟨Rect.unit (s := S2x512x128) ![1, 0, 0] S1x512x128.size inb_S2x512x128_S1x512x128_1_0_0, w1⟩, ⟨Rect.unit (s := S2x512x128) ![0, 0, 0] S1x512x128.size inb_S2x512x128_S1x512x128_0_0_0, w0⟩]))
      fun a y e => if a = 0 then A0 y e else A1 y e := by
  intro a y e
  by_cases ha : a.val = 0
  · rw [View.read_writes_cons_miss_of_axis v f _ _ (ix3 a y e) 0 1 1 rfl rfl rfl (by show a.val < _ ∨ _; omega),
      View.read_writes_cons_hit_of_coords v f _ _ _ (ix3 (0 : Fin 1) y e) (ix3 a y e) (fun x => by fin_cases x <;> simp [Rect.unit] <;> omega)]
    exact (h0 0 y e).trans (by simp only [if_pos ha])
  · rw [View.read_writes_cons_hit_of_coords v f _ _ _ (ix3 (0 : Fin 1) y e) (ix3 a y e) (fun x => by fin_cases x <;> simp [Rect.unit] <;> omega)]
    exact (h1 0 y e).trans (by simp only [if_neg ha])

/-- A pair of heads' query gradients, as the last step stores them. -/
def listDQ (v140 v169 : Vec Ideal S1x2048x256 .f32) (c s s2 : Vec Ideal S2048x128 .f32) : List (View.Piece (Elt Ideal) S2x2048x256 .bf16) :=
  [⟨Rect.unit (s := S2x2048x256) ![1, 0, 128] S1x2048x128.size inb_S2x2048x256_S1x2048x128_1_0_128, k0_pay10 (k0_pay45 v169) c s s2⟩,
    ⟨Rect.unit (s := S2x2048x256) ![1, 0, 0] S1x2048x128.size inb_S2x2048x256_S1x2048x128_1_0_0, k0_pay9 (k0_pay46 v169)⟩,
    ⟨Rect.unit (s := S2x2048x256) ![0, 0, 128] S1x2048x128.size inb_S2x2048x256_S1x2048x128_0_0_128, k0_pay44 v140 c s s2⟩,
    ⟨Rect.unit (s := S2x2048x256) ![0, 0, 0] S1x2048x128.size inb_S2x2048x256_S1x2048x128_0_0_0, k0_pay43 v140⟩]

/-- The query gradients of a head from its sums: scaled, the rotary part turned back. -/
def dqRow (C S S2 A : ℕ → ℕ → ℝ) (t e : ℕ) : ℝ := if e < 128 then A t e * theScale else turn C S S2 (fun t e => A t (128 + e) * theScale) t (e - 128)

theorem re_dq (v : View sig κ sp S2x2048x256 .bf16) (f : v.ty.Contents (Elt Ideal)) {v140 v169 : Vec Ideal S1x2048x256 .f32} {c s s2 : Vec Ideal S2048x128 .f32}
    (h0 : Re3 v140 fun _ => A0) (h1 : Re3 v169 fun _ => A1) (hc : Re c C) (hs : Re s S) (hs2 : Re s2 S2) :
    Re3 (v.read (Elt Ideal) (v.writes (Elt Ideal) f (listDQ v140 v169 c s s2))) fun a => dqRow C S S2 (if a = 0 then A0 else A1) := by
  intro a t e
  unfold listDQ
  obtain rfl | rfl : a = 0 ∨ a = 1 := by omega
  · rw [View.read_writes_cons_miss_of_axis v f _ _ (ix3 0 t e) 0 1 1 rfl rfl rfl (.inl Nat.zero_lt_one), View.read_writes_cons_miss_of_axis v f _ _ (ix3 0 t e) 0 1 1 rfl rfl rfl (.inl Nat.zero_lt_one)]
    by_cases he : e.val < 128
    · rw [View.read_writes_cons_miss_of_axis v f _ _ (ix3 0 t e) 2 128 128 rfl rfl rfl (.inl he),
        View.read_writes_cons_hit_of_coords v f _ _ _ (ix3 (0 : Fin 1) t (⟨e.val, he⟩ : Fin 128)) (ix3 0 t e) (fun x => by fin_cases x <;> simp [Rect.unit])]
      exact (pay43 h0 0 t _).trans (by simp only [dqRow, if_pos he]; rfl)
    · rw [View.read_writes_cons_hit_of_coords v f _ _ _ (ix3 (0 : Fin 1) t (⟨e.val - 128, by omega⟩ : Fin 128)) (ix3 0 t e) (fun x => by fin_cases x <;> simp [Rect.unit] <;> omega)]
      exact (pay44 h0 hc hs hs2 0 t _).trans (by simp only [dqRow, if_neg he]; rfl)
  · by_cases he : e.val < 128
    · rw [View.read_writes_cons_miss_of_axis v f _ _ (ix3 1 t e) 2 128 128 rfl rfl rfl (.inl he),
        View.read_writes_cons_hit_of_coords v f _ _ _ (ix3 (0 : Fin 1) t (⟨e.val, he⟩ : Fin 128)) (ix3 1 t e) (fun x => by fin_cases x <;> simp [Rect.unit])]
      exact (pay46 h1 0 t _).trans (by simp only [dqRow, if_pos he]; rfl)
    · rw [View.read_writes_cons_hit_of_coords v f _ _ _ (ix3 (0 : Fin 1) t (⟨e.val - 128, by omega⟩ : Fin 128)) (ix3 1 t e) (fun x => by fin_cases x <;> simp [Rect.unit] <;> omega)]
      exact (pay10 h1 hc hs hs2 0 t _).trans (by simp only [dqRow, if_neg he]; rfl)

end Stored

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x1 : Vec Ideal S512x256 .bf16) (x2 : Vec Ideal S512x128 .bf16) (x3 : Vec Ideal S512x256 .bf16)
  (x4 : Vec Ideal S2048x256 .bf16) (x5 : Vec Ideal S2048x256 .bf16) (x6 : Vec Ideal S2x1x2048 .f32) (x7 x8 x9 : Vec Ideal S2048x128 .f32)
variable (xs0 : Vec Ideal S2x2048x256 .f32) (xs1 : Vec Ideal S2x1x2048 .f32)
variable (a1 : BitVec 32) (v7 v10 : FVec Ideal S512x256 .bf16) (v12 v14 : FVec Ideal S512x128 .bf16) (v15 : FVec Ideal S512x256 .f32)
  (v16 : FVec Ideal S512x128 .f32) (v18 : BitVec 32) (v21 v24 : FVec Ideal S512x256 .bf16) (v27 v30 : FVec Ideal S512x128 .bf16)
  (v31 v32 : FVec Ideal S512x512 .f32)

theorem runC_dq (h) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 a1 v7 v10 v12 v14 v15 v16 v18 v21 v24 v27 v30 v31 v32 (constant S512x512 .f32 0x00000000#32) h).1
      = listDQ (arg16.view.readAt (Elt Ideal) (Rect.unit (s := S2x2048x256) ![0, 0, 0] S1x2048x256.size inb_S2x2048x256_S1x2048x256_0_0_0).toLoadRect (arg16.view.writes (Elt Ideal) (harg16.unread xs0) ((theEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs0 xs1 a1 v7 v10 v12 v14 v15 v16 v18 v21 v24 v27 v30 v31 v32).2 ++ diagL i arg8 harg8 arg16 harg16 arg17 harg17 x6 xs0 xs1 v7 v10 v12 v14 v27 v30 v31 v32)))
        (arg16.view.readAt (Elt Ideal) (Rect.unit (s := S2x2048x256) ![1, 0, 0] S1x2048x256.size inb_S2x2048x256_S1x2048x256_1_0_0).toLoadRect (arg16.view.writes (Elt Ideal) (harg16.unread xs0) ((theEnd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x5 x6 xs0 xs1 a1 v7 v10 v12 v14 v15 v16 v18 v21 v24 v27 v30 v31 v32).2 ++ diagL i arg8 harg8 arg16 harg16 arg17 harg17 x6 xs0 xs1 v7 v10 v12 v14 v27 v30 v31 v32)))
        (arg9.view.readAt (Elt Ideal) (Rect.unit (s := S2048x128) ![0, 0] S2048x128.size inb_S2048x128_S2048x128_0_0).toLoadRect (harg9.unread x7)) (arg10.view.readAt (Elt Ideal) (Rect.unit (s := S2048x128) ![0, 0] S2048x128.size inb_S2048x128_S2048x128_0_0).toLoadRect (harg10.unread x8)) (arg11.view.readAt (Elt Ideal) (Rect.unit (s := S2048x128) ![0, 0] S2048x128.size inb_S2048x128_S2048x128_0_0).toLoadRect (harg11.unread x9)) := by sl_kernel_rfl

end Cert.AttnIdeal.Val

end
-- ==== Proof.Attn.Loaded.lean ====
module

public import proofs.«01_k».proof.Proof.Attn.Step
public import proofs.«01_k».proof.Proof.Attn.Sums

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! What a step has before its loop. -/

section Loaded

variable {A B : ℕ → ℕ → ℝ} {Q : ℕ → ℕ → ℝ}

/-- A key row: its head's unrotated entries, then the rotary ones. -/
def kk (KN KR : ℕ → ℕ → ℝ) (a y e : ℕ) : ℝ := if e < 128 then KN y (128 * a + e) else KR y (e - 128)
/-- A value row of a head. -/
def vv (VV : ℕ → ℕ → ℝ) (a y d : ℕ) : ℝ := VV y (128 * a + d)

theorem pay50 {v3 v5 : Vec Ideal S512x128 .bf16} (h3 : Re v3 B) (h5 : Re v5 A) : Re (k0_pay50 v3 v5) fun y e => if e < 128 then A y e else B y (e - 128) := by
  intro y e
  pointwise [k0_pay50, k0_pay49]
  split_ifs <;> first | exact h5 y _ | exact h3 y _

theorem pay51 {v3 v5 : Vec Ideal S512x128 .bf16} (h3 : Re v3 B) (h5 : Re v5 A) : Re (k0_pay51 v3 v5) fun y e => if e < 128 then A y e else B y (e - 128) := by
  intro y e
  pointwise [k0_pay51, k0_pay49]
  split_ifs <;> first | exact h5 y _ | exact h3 y _

theorem pay_cast {v : Vec Ideal S512x128 .bf16} (h : Re v A) : Re (k0_pay52 v) A ∧ Re (k0_pay53 v) A ∧ Re (k0_pay58 v) A ∧ Re (k0_pay59 v) A := by
  refine ⟨fun y d => ?_, fun y d => ?_, fun y d => ?_, fun y d => ?_⟩ <;> pointwise [k0_pay52, k0_pay53, k0_pay58, k0_pay59] <;> exact h y d

theorem pay_cast3 {v : Vec Ideal S1x512x256 .bf16} (h : Re3 v fun _ => A) : Re (k0_pay56 v) A ∧ Re (k0_pay57 v) A := by
  refine ⟨fun y d => ?_, fun y d => ?_⟩ <;> pointwise [k0_pay56, k0_pay57] <;> exact h 0 y d

theorem pay_zero : Re (k0_pay54 (F := Ideal)) (fun _ _ => 0) ∧ Re (k0_pay55 (F := Ideal)) (fun _ _ => 0) := by
  refine ⟨fun y d => ?_, fun y d => ?_⟩ <;> pointwise [k0_pay54, k0_pay55] <;> rfl

theorem pay60 {v3 v5 : Vec Ideal S512x128 .bf16} {v20 : Vec Ideal S1x512x256 .bf16} (h3 : Re v3 B) (h5 : Re v5 A) (hq : Re3 v20 fun _ => Q) :
    Re (k0_pay60 v3 v5 v20) (dot 256 (fun y e => if e < 128 then A y e else B y (e - 128)) Q) := by
  intro y x
  pointwise [k0_pay60]
  exact sum_mul (fun e => if e < 128 then A y e else B y (e - 128)) (Q x) (fun e => pay50 h3 h5 y e) (fun e => (pay_cast3 hq).1 x e)

theorem pay61 {v3 v5 : Vec Ideal S512x128 .bf16} {v20 : Vec Ideal S1x512x256 .bf16} (h3 : Re v3 B) (h5 : Re v5 A) (hq : Re3 v20 fun _ => Q) :
    Re (k0_pay61 v3 v5 v20) (dot 256 (fun y e => if e < 128 then A y e else B y (e - 128)) Q) := by
  intro y x
  pointwise [k0_pay61]
  exact sum_mul (fun e => if e < 128 then A y e else B y (e - 128)) (Q x) (fun e => pay51 h3 h5 y e) (fun e => (pay_cast3 hq).2 x e)

end Loaded

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x1 : Vec Ideal S512x256 .bf16) (x2 : Vec Ideal S512x128 .bf16) (x3 : Vec Ideal S512x256 .bf16)
  (x4 x5 : Vec Ideal S2048x256 .bf16) (x6 xs1 : Vec Ideal S2x1x2048 .f32) (x7 x8 x9 : Vec Ideal S2048x128 .f32) (xs0 : Vec Ideal S2x2048x256 .f32)
variable {Q : ℕ → ℕ → ℕ → ℝ} {KN KR VV D L Δ : ℕ → ℕ → ℝ}

/-- From the blocks' entries, all that the loop is given. -/
theorem first_given (h0 : Re3 x0 Q) (h1 : Re x1 KN) (h2 : Re x2 KR) (h3 : Re x3 VV) (h5 : Re x5 D) (h6 : Re3 x6 fun a _ t => L a t) (hδ : Re3 xs1 fun a _ t => Δ a t) :
    let r := first i arg2 harg2 arg3 harg3 arg4 harg4 arg5 harg5 arg7 harg7 x0 x1 x2 x3 x5
    Given x0 x5 x6 xs1 r.2.1 r.2.2.1 r.2.2.2.1 r.2.2.2.2.1 (kk KN KR) (vv VV) Q D L Δ
    ∧ Diag r.2.2.2.2.2.1 r.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1
        (kk KN KR) Q D (i 1).val := by
  obtain ⟨o1, o2, o3, o4, -⟩ := offs_diag i
  have b0 := (harg2.read_unread x0).symm ▸ h0
  have b1 := (harg3.read_unread x1).symm ▸ h1
  have b2 := (harg4.read_unread x2).symm ▸ h2
  have b3 := (harg5.read_unread x3).symm ▸ h3
  have b5 := (harg7.read_unread x5).symm ▸ h5
  have q0 := (re_readAt3b (n' := 1) (k' := 512) (l' := 256) arg2.view (inb := k0_off1_inb i) o1 b0).of (Y := fun _ => Qb Q 0 (i 1).val) fun a x e ha _ => by
    obtain rfl : a = 0 := by omega
    simp only [Qb, Nat.zero_add]
  have q1 := (re_readAt3b (n' := 1) (k' := 512) (l' := 256) arg2.view (inb := k0_off2_inb i) o2 b0).of (Y := fun _ => Qb Q 1 (i 1).val) fun a x e ha _ => by
    obtain rfl : a = 0 := by omega
    simp only [Qb, Nat.zero_add, Nat.add_zero]
  have d0 := (re_readAt2 (n' := 512) (k' := 128) arg7.view (inb := k0_off3_inb i) o3 b5).of (Y := Db D 0 (i 1).val) fun x e => by simp only [Db, Nat.mul_zero]
  have d1 := (re_readAt2 (n' := 512) (k' := 128) arg7.view (inb := k0_off4_inb i) o4 b5).of (Y := Db D 1 (i 1).val) fun x e => by simp only [Db, Nat.mul_one]
  have kn0 := (re_readAt2 (n' := 512) (k' := 128) (a := 0) (b := 0) arg3.view (inb := inb_S512x256_S512x128_0_0) rfl b1).of (Y := fun y e => KN y (128 * 0 + e)) fun x e => by simp only [Nat.mul_zero, Nat.zero_add]
  have kn1 := (re_readAt2 (n' := 512) (k' := 128) (a := 0) (b := 128) arg3.view (inb := inb_S512x256_S512x128_0_128) rfl b1).of (Y := fun y e => KN y (128 * 1 + e)) fun x e => by simp only [Nat.mul_one, Nat.zero_add]
  have kr := (re_readAt2 (n' := 512) (k' := 128) (a := 0) (b := 0) arg4.view (inb := inb_S512x128_S512x128_0_0) rfl b2).of (Y := KR) fun x e => by simp only [Nat.zero_add]
  have v0 := (re_readAt2 (n' := 512) (k' := 128) (a := 0) (b := 0) arg5.view (inb := inb_S512x256_S512x128_0_0) rfl b3).of (Y := fun y e => VV y (128 * 0 + e)) fun x e => by simp only [Nat.mul_zero, Nat.zero_add]
  have v1 := (re_readAt2 (n' := 512) (k' := 128) (a := 0) (b := 128) arg5.view (inb := inb_S512x256_S512x128_0_128) rfl b3).of (Y := fun y e => VV y (128 * 1 + e)) fun x e => by simp only [Nat.mul_one, Nat.zero_add]
  exact ⟨⟨h0, h5, h6, hδ, pay50 kr kn0, pay51 kr kn1, (pay_cast v0).1, (pay_cast v1).2.1⟩,
    ⟨pay_zero.1, pay_zero.2, (pay_cast3 q0).1, (pay_cast3 q1).2, (pay_cast d0).2.2.1, (pay_cast d1).2.2.2, pay60 kr kn0 q0, pay61 kr kn1 q1⟩⟩

end Cert.AttnIdeal.Val

end
-- ==== Proof.Attn.Steps.lean ====
module

public import proofs.«01_k».proof.Proof.Attn.Step
public import proofs.«01_k».proof.Proof.Attn.Stores
public import proofs.«01_k».proof.Proof.Attn.Loaded

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! A grid step, in numbers. -/

variable (m : (ℓ : Loc nD τ sig) → Buf (Elt Ideal) ℓ) (c : Dev nD) (t : Fin cfg0.N) (s : Carry Ideal)

/-- The blocks that step `t` reads in its loop. -/
abbrev blkQ : Vec Ideal S2x2048x256 .bf16 := iblk m c 0 t
abbrev blkD : Vec Ideal S2048x256 .bf16 := iblk m c 5 t
abbrev blkL : Vec Ideal S2x1x2048 .f32 := iblk m c 6 t
abbrev blkKN : Vec Ideal S512x256 .bf16 := iblk m c 1 t
abbrev blkKR : Vec Ideal S512x128 .bf16 := iblk m c 2 t
abbrev blkV : Vec Ideal S512x256 .bf16 := iblk m c 3 t
abbrev blkO : Vec Ideal S2048x256 .bf16 := iblk m c 4 t
abbrev blkC : Vec Ideal S2048x128 .f32 := iblk m c 7 t
abbrev blkS : Vec Ideal S2048x128 .f32 := iblk m c 8 t
abbrev blkS2 : Vec Ideal S2048x128 .f32 := iblk m c 9 t

/-- The state that step `t`'s loop ends with, and the stores into the query sums before it. -/
def endAt : Ended :=
  let r := firstAt m c t
  theEnd c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (blkQ m c t) (blkD m c t) (blkL m c t) s.1 s.2 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1
def diagAt : List (View.Piece (Elt Ideal) S2x2048x256 .f32) :=
  let r := firstAt m c t
  diagL (grid0.coords t) (stL t) (hstL t) acc hacc dl hdl (blkL m c t) s.1 s.2 r.2.1 r.2.2.1 r.2.2.2.1 r.2.2.2.2.1 r.2.2.2.2.2.2.2.2.2.2.1 r.2.2.2.2.2.2.2.2.2.2.2.1 r.2.2.2.2.2.2.2.2.2.2.2.2.1 r.2.2.2.2.2.2.2.2.2.2.2.2.2.1

theorem runNAt_eq (h) : (runNAt m c t s h).1 = listKN (endAt m c t s) ∧ (runNAt m c t s h).2.1 = listKR (endAt m c t s)
    ∧ (runNAt m c t s h).2.2.1 = listV (endAt m c t s) ∧ (runNAt m c t s h).2.2.2.1 = (endAt m c t s).2 ++ diagAt m c t s :=
  let r := firstAt m c t
  runN_eq c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (blkQ m c t) (iblk m c 1 t) (iblk m c 2 t) (iblk m c 3 t) (iblk m c 4 t) (blkD m c t) (blkL m c t) (iblk m c 7 t) (iblk m c 8 t) (iblk m c 9 t) s.1 s.2 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 h

theorem runCAt_eq (h) : (runCAt m c t s h).2.1 = listKN (endAt m c t s) ∧ (runCAt m c t s h).2.2.1 = listKR (endAt m c t s)
    ∧ (runCAt m c t s h).2.2.2.1 = listV (endAt m c t s) ∧ (runCAt m c t s h).2.2.2.2.1 = (endAt m c t s).2 ++ diagAt m c t s :=
  let r := firstAt m c t
  runC_eq c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (blkQ m c t) (iblk m c 1 t) (iblk m c 2 t) (iblk m c 3 t) (iblk m c 4 t) (blkD m c t) (blkL m c t) (iblk m c 7 t) (iblk m c 8 t) (iblk m c 9 t) s.1 s.2 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 h

/-- The query sums after step `t`'s stores, as a buffer. -/
def accAt : acc.view.ty.Contents (Elt Ideal) := acc.view.writes (Elt Ideal) (hacc.unread s.1) ((endAt m c t s).2 ++ diagAt m c t s)

theorem runCAt_dq (h) : (runCAt m c t s h).1 = listDQ
    (acc.view.readAt (Elt Ideal) (Rect.unit (s := S2x2048x256) ![0, 0, 0] S1x2048x256.size inb_S2x2048x256_S1x2048x256_0_0_0).toLoadRect (accAt m c t s))
    (acc.view.readAt (Elt Ideal) (Rect.unit (s := S2x2048x256) ![1, 0, 0] S1x2048x256.size inb_S2x2048x256_S1x2048x256_1_0_0).toLoadRect (accAt m c t s))
    ((stCos t).view.readAt (Elt Ideal) (Rect.unit (s := S2048x128) ![0, 0] S2048x128.size inb_S2048x128_S2048x128_0_0).toLoadRect ((hstCos t).unread (iblk m c 7 t)))
    ((stSin t).view.readAt (Elt Ideal) (Rect.unit (s := S2048x128) ![0, 0] S2048x128.size inb_S2048x128_S2048x128_0_0).toLoadRect ((hstSin t).unread (iblk m c 8 t)))
    ((stSin2 t).view.readAt (Elt Ideal) (Rect.unit (s := S2048x128) ![0, 0] S2048x128.size inb_S2048x128_S2048x128_0_0).toLoadRect ((hstSin2 t).unread (iblk m c 9 t))) :=
  let r := firstAt m c t
  runC_dq c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (blkQ m c t) (iblk m c 1 t) (iblk m c 2 t) (iblk m c 3 t) (iblk m c 4 t) (blkD m c t) (blkL m c t) (iblk m c 7 t) (iblk m c 8 t) (iblk m c 9 t) s.1 s.2 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 h

/-- What step `t`'s blocks hold, in numbers. -/
structure Blocks (Q : ℕ → ℕ → ℕ → ℝ) (KN KR VV D L C S S2 : ℕ → ℕ → ℝ) : Prop where
  q : Re3 (blkQ m c t) Q
  kn : Re (blkKN m c t) KN
  kr : Re (blkKR m c t) KR
  v : Re (blkV m c t) VV
  d : Re (blkD m c t) D
  l : Re3 (blkL m c t) fun a _ x => L a x
  cos : Re (blkC m c t) C
  sin : Re (blkS m c t) S
  sin2 : Re (blkS2 m c t) S2

variable {Q X : ℕ → ℕ → ℕ → ℝ} {KN KR VV D L Δ C S S2 : ℕ → ℕ → ℝ}

theorem endAt_sums (b : Blocks m c t Q KN KR VV D L C S S2) (hδ : Re3 s.2 fun a _ x => Δ a x) (h : Re3 s.1 X) :
    (Re (endAt m c t s).1.1 (sumK (kk KN KR) (vv VV) Q D L Δ (grid0.coords t 1).val 0) ∧ Re (endAt m c t s).1.2.1 (sumV (kk KN KR) Q D L (grid0.coords t 1).val 0)
      ∧ Re (endAt m c t s).1.2.2.1 (sumK (kk KN KR) (vv VV) Q D L Δ (grid0.coords t 1).val 1) ∧ Re (endAt m c t s).1.2.2.2 (sumV (kk KN KR) Q D L (grid0.coords t 1).val 1))
    ∧ Re3 (acc.view.read (Elt Ideal) (accAt m c t s)) fun a x e => X a x e + sumQ (kk KN KR) (vv VV) Q D L Δ (grid0.coords t 1).val a x e := by
  have g : (let r := firstAt m c t
      Given (blkQ m c t) (blkD m c t) (blkL m c t) s.2 r.2.1 r.2.2.1 r.2.2.2.1 r.2.2.2.2.1 (kk KN KR) (vv VV) Q D L Δ
      ∧ Diag r.2.2.2.2.2.1 r.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 (kk KN KR) Q D (grid0.coords t 1).val) :=
    first_given (grid0.coords t) (stQ t) (hstQ t) (stKN t) (hstKN t) (stKR t) (hstKR t) (stV t) (hstV t) (stD t) (hstD t) (blkQ m c t) (blkKN m c t) (blkKR m c t) (blkV m c t) (blkD m c t) (blkL m c t) s.2 b.q b.kn b.kr b.v b.d b.l hδ
  unfold accAt endAt diagAt
  generalize firstAt m c t = r at g ⊢
  dsimp only at g ⊢
  exact end_sums c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t) (stDQ t) (hstDQ t) (stDKN t) (hstDKN t) (stDKR t) (hstDKR t) (stDV t) (hstDV t) acc hacc dl hdl (blkQ m c t) (blkD m c t) (blkL m c t) s.1 s.2 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 g.1 g.2 h

end Cert.AttnIdeal.Val

end
-- ==== Proof.Attn.StepOut.lean ====
module

public import proofs.«01_k».proof.Proof.Attn.Step
public import proofs.«01_k».proof.Proof.Attn.Steps

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! What a grid step leaves, in numbers. -/

variable (m : (ℓ : Loc nD τ sig) → Buf (Elt Ideal) ℓ) (c : Dev nD) (t : Fin cfg0.N) (s : Carry Ideal)
variable {Q X : ℕ → ℕ → ℕ → ℝ} {KN KR VV D L Δ C S S2 : ℕ → ℕ → ℝ}

theorem outAcc_re (b : Blocks m c t Q KN KR VV D L C S S2) (hδ : Re3 s.2 fun a _ x => Δ a x) (h : Re3 s.1 X) :
    Re3 (outAcc m c t s) fun a x e => X a x e + sumQ (kk KN KR) (vv VV) Q D L Δ (grid0.coords t 1).val a x e := by
  have e := (endAt_sums m c t s b hδ h).2
  unfold outAcc
  split
  · next hc => rw [(runCAt_eq m c t s hc).2.2.2]; exact e
  · next hc => rw [(runNAt_eq m c t s hc).2.2.2]; exact e

theorem outDKN_re (b : Blocks m c t Q KN KR VV D L C S S2) (hδ : Re3 s.2 fun a _ x => Δ a x) (h : Re3 s.1 X) :
    Re (outDKN m c t s) fun y e => if e < 128 then sumK (kk KN KR) (vv VV) Q D L Δ (grid0.coords t 1).val 0 y e * Real.log 2
      else sumK (kk KN KR) (vv VV) Q D L Δ (grid0.coords t 1).val 1 y (e - 128) * Real.log 2 := by
  obtain ⟨h0, -, h1, -⟩ := (endAt_sums m c t s b hδ h).1
  have e := re_cols (stDKN t).view (stDKN t).view.junk (pay2 h0) (pay6 h1)
  unfold outDKN
  split
  · next hc => rw [(runCAt_eq m c t s hc).1]; exact e
  · next hc => rw [(runNAt_eq m c t s hc).1]; exact e

theorem outDKR_re (b : Blocks m c t Q KN KR VV D L C S S2) (hδ : Re3 s.2 fun a _ x => Δ a x) (h : Re3 s.1 X) :
    Re3 (outDKR m c t s) fun a y e => if a = 0 then sumK (kk KN KR) (vv VV) Q D L Δ (grid0.coords t 1).val 0 y (128 + e) * Real.log 2
      else sumK (kk KN KR) (vv VV) Q D L Δ (grid0.coords t 1).val 1 y (128 + e) * Real.log 2 := by
  obtain ⟨h0, -, h1, -⟩ := (endAt_sums m c t s b hδ h).1
  have e := re_heads (stDKR t).view (stDKR t).view.junk (pay3 h0) (pay7 h1)
  unfold outDKR
  split
  · next hc => rw [(runCAt_eq m c t s hc).2.1]; exact e
  · next hc => rw [(runNAt_eq m c t s hc).2.1]; exact e

theorem outDV_re (b : Blocks m c t Q KN KR VV D L C S S2) (hδ : Re3 s.2 fun a _ x => Δ a x) (h : Re3 s.1 X) :
    Re (outDV m c t s) fun y e => if e < 128 then sumV (kk KN KR) Q D L (grid0.coords t 1).val 0 y e else sumV (kk KN KR) Q D L (grid0.coords t 1).val 1 y (e - 128) := by
  obtain ⟨-, h0, -, h1⟩ := (endAt_sums m c t s b hδ h).1
  have e := re_cols (stDV t).view (stDV t).view.junk (pay48v h0).1 (pay48v h1).2
  unfold outDV
  split
  · next hc => rw [(runCAt_eq m c t s hc).2.2.1]; exact e
  · next hc => rw [(runNAt_eq m c t s hc).2.2.1]; exact e

/-- A table, read whole. -/
theorem re_table {κ : Kind} {sp : Space} (v : View sig κ sp S2048x128 .f32) {f : v.ty.Contents (Elt Ideal)} {A : ℕ → ℕ → ℝ} (h : Re (v.read (Elt Ideal) f) A) :
    Re (v.readAt (Elt Ideal) (Rect.unit (s := S2048x128) ![0, 0] S2048x128.size inb_S2048x128_S2048x128_0_0).toLoadRect f) A := by
  intro x y
  refine (readAt2 v f ![0, 0] inb_S2048x128_S2048x128_0_0 x y).trans ((h _ _).trans ?_)
  show ((A (0 + x.val) (0 + y.val) : ℝ) : EReal) = _
  rw [Nat.zero_add, Nat.zero_add]

theorem outDQ_re (b : Blocks m c t Q KN KR VV D L C S S2) (hδ : Re3 s.2 fun a _ x => Δ a x) (h : Re3 s.1 X) (hc : k0_cond2 (grid0.coords t) = 1#1) :
    Re3 (outDQ m c t s) fun a => dqRow C S S2 fun x e => X a x e + sumQ (kk KN KR) (vv VV) Q D L Δ (grid0.coords t 1).val a x e := by
  have e := (endAt_sums m c t s b hδ h).2
  have r0 := (re_readAt3 (n' := 1) (k' := 2048) (l' := 256) (a := 0) (b := 0) (c := 0) acc.view (inb := inb_S2x2048x256_S1x2048x256_0_0_0) rfl e).of (Y := fun _ x e => X 0 x e + sumQ (kk KN KR) (vv VV) Q D L Δ (grid0.coords t 1).val 0 x e) fun i x e hi _ => by
    obtain rfl : i = 0 := by omega
    simp only [Nat.zero_add]
  have r1 := (re_readAt3 (n' := 1) (k' := 2048) (l' := 256) (a := 1) (b := 0) (c := 0) acc.view (inb := inb_S2x2048x256_S1x2048x256_1_0_0) rfl e).of (Y := fun _ x e => X 1 x e + sumQ (kk KN KR) (vv VV) Q D L Δ (grid0.coords t 1).val 1 x e) fun i x e hi _ => by
    obtain rfl : i = 0 := by omega
    simp only [Nat.zero_add, Nat.add_zero]
  have tc := re_table (stCos t).view (((hstCos t).read_unread (blkC m c t)).symm ▸ b.cos)
  have ts := re_table (stSin t).view (((hstSin t).read_unread (blkS m c t)).symm ▸ b.sin)
  have ts2 := re_table (stSin2 t).view (((hstSin2 t).read_unread (blkS2 m c t)).symm ▸ b.sin2)
  unfold outDQ
  rw [dif_pos hc, runCAt_dq m c t s hc]
  refine (re_dq (stDQ t).view (stDQ t).view.junk r0 r1 tc ts ts2).of fun a x e ha _ => ?_
  obtain rfl | rfl : a = 0 ∨ a = 1 := by omega
  · rw [if_pos rfl]
  · rw [if_neg one_ne_zero]

end Cert.AttnIdeal.Val

end
-- ==== Proof.Attn.Init.lean ====
module

public import proofs.«01_k».proof.Proof.Attn.Step
public import proofs.«01_k».proof.Proof.Attn.Buffers

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! What a pair of heads starts from, in numbers. -/

/-- A row of one matrix against the same row of another. -/
def rowDot (n : ℕ) (A B : ℕ → ℕ → ℝ) (t : ℕ) : ℝ := ∑ e ∈ Finset.range n, A t e * B t e

section Rows

variable {A B : ℕ → ℕ → ℝ}

theorem row00 {d o : Vec Ideal S512x128 .bf16} (hd : Re d A) (ho : Re o B) : Re3 (k0_pay12 d o) fun _ _ t => rowDot 128 A B t := by
  intro i j t
  pointwise [k0_pay12]
  exact sum_mul (A t) (B t) (fun e => hd t e) (fun e => ho t e)

theorem row01 {d o : Vec Ideal S512x128 .bf16} (hd : Re d A) (ho : Re o B) : Re3 (k0_pay13 d o) fun _ _ t => rowDot 128 A B t := by
  intro i j t
  pointwise [k0_pay13]
  exact sum_mul (A t) (B t) (fun e => hd t e) (fun e => ho t e)

theorem row02 {d o : Vec Ideal S512x128 .bf16} (hd : Re d A) (ho : Re o B) : Re3 (k0_pay14 d o) fun _ _ t => rowDot 128 A B t := by
  intro i j t
  pointwise [k0_pay14]
  exact sum_mul (A t) (B t) (fun e => hd t e) (fun e => ho t e)

theorem row03 {d o : Vec Ideal S512x128 .bf16} (hd : Re d A) (ho : Re o B) : Re3 (k0_pay15 d o) fun _ _ t => rowDot 128 A B t := by
  intro i j t
  pointwise [k0_pay15]
  exact sum_mul (A t) (B t) (fun e => hd t e) (fun e => ho t e)

theorem row10 {d o : Vec Ideal S512x128 .bf16} (hd : Re d A) (ho : Re o B) : Re3 (k0_pay17 (k0_pay16 d o)) fun _ _ t => rowDot 128 A B t := by
  intro i j t
  pointwise [k0_pay17, k0_pay16]
  exact sum_mul (A t) (B t) (fun e => hd t e) (fun e => ho t e)

theorem row11 {d o : Vec Ideal S512x128 .bf16} (hd : Re d A) (ho : Re o B) : Re3 (k0_pay18 d o) fun _ _ t => rowDot 128 A B t := by
  intro i j t
  pointwise [k0_pay18]
  exact sum_mul (A t) (B t) (fun e => hd t e) (fun e => ho t e)

theorem row12 {d o : Vec Ideal S512x128 .bf16} (hd : Re d A) (ho : Re o B) : Re3 (k0_pay47 (k0_pay19 d o)) fun _ _ t => rowDot 128 A B t := by
  intro i j t
  pointwise [k0_pay47, k0_pay19]
  exact sum_mul (A t) (B t) (fun e => hd t e) (fun e => ho t e)

theorem row13 {d o : Vec Ideal S512x128 .bf16} (hd : Re d A) (ho : Re o B) : Re3 (k0_pay48 d o) fun _ _ t => rowDot 128 A B t := by
  intro i j t
  pointwise [k0_pay48]
  exact sum_mul (A t) (B t) (fun e => hd t e) (fun e => ho t e)

end Rows

section Filled

variable {κ : Kind} {sp : Space} (v : View sig κ sp S2x1x2048 .f32) (f : v.ty.Contents (Elt Ideal)) (G : ℕ → ℕ → ℝ)

/-- The stores `L` leave the number `G a t` at row `t` of head `a`, where `P` says so. -/
def Filled (L : List (View.Piece (Elt Ideal) S2x1x2048 .f32)) (P : ℕ → ℕ → Prop) : Prop :=
  ∀ (a : Fin 2) (t : Fin 2048), P a t → v.read (Elt Ideal) (v.writes (Elt Ideal) f L) (ix3 a 0 t) = ((G a t : ℝ) : EReal)

theorem filled_nil : Filled v f G [] fun _ _ => False := fun _ _ h => h.elim

variable {f G} in
/-- One more store, of the 512 rows of block `b` of head `a`. -/
theorem filled_cons {a b : ℕ} {L : List (View.Piece (Elt Ideal) S2x1x2048 .f32)} {P : ℕ → ℕ → Prop} {off : Fin 3 → ℕ}
    {inb : ∀ x, off x + S1x1x512.size x ≤ S2x1x2048.size x} (ho : off = ![a, 0, 512 * b]) {w : Vec Ideal S1x1x512 .f32} (hw : Re3 w fun _ _ x => G a (512 * b + x))
    (h : Filled v f G L P) : Filled v f G (⟨Rect.unit (s := S2x1x2048) off S1x1x512.size inb, w⟩ :: L) fun a' t => (a' = a ∧ t / 512 = b) ∨ P a' t := by
  subst ho
  intro i t hP
  by_cases hi : i.val = a
  · by_cases ht : t.val / 512 = b
    · rw [View.read_writes_cons_hit_of_coords v f _ _ L (ix3 (0 : Fin 1) (0 : Fin 1) (⟨t.val % 512, by omega⟩ : Fin 512)) (ix3 i 0 t)
        (fun x => by fin_cases x <;> simp [Rect.unit] <;> omega)]
      refine (hw 0 0 _).trans ?_
      have e1 : 512 * b + t.val % 512 = t.val := by omega
      simp only [hi, e1]
    · rw [View.read_writes_cons_miss_of_axis v f _ L (ix3 i 0 t) 2 (512 * b) 512 rfl rfl rfl (by show t.val < _ ∨ _ ≤ t.val; omega)]
      exact h i t (hP.resolve_left fun e => ht e.2)
  · rw [View.read_writes_cons_miss_of_axis v f _ L (ix3 i 0 t) 0 a 1 rfl rfl rfl (by show i.val < _ ∨ _ ≤ i.val; omega)]
    exact h i t (hP.resolve_left fun e => hi e.1)

end Filled

/-- The row sums of the cotangent against the output, of a head's columns. -/
def deltaOf (D O : ℕ → ℕ → ℝ) (a t : ℕ) : ℝ := ∑ e ∈ Finset.range 128, D t (128 * a + e) * O t (128 * a + e)

variable (c : Dev nD) (i : grid0.Coords)
  (arg2 : Memref sig .tc .vmem S2x2048x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S512x256 .bf16) (harg5 : arg5.IsWhole)
  (arg6 : Memref sig .tc .vmem S2048x256 .bf16) (harg6 : arg6.IsWhole)
  (arg7 : Memref sig .tc .vmem S2048x256 .bf16) (harg7 : arg7.IsWhole)
  (arg8 : Memref sig .tc .vmem S2x1x2048 .f32) (harg8 : arg8.IsWhole)
  (arg9 : Memref sig .tc .vmem S2048x128 .f32) (harg9 : arg9.IsWhole)
  (arg10 : Memref sig .tc .vmem S2048x128 .f32) (harg10 : arg10.IsWhole)
  (arg11 : Memref sig .tc .vmem S2048x128 .f32) (harg11 : arg11.IsWhole)
  (arg12 : Memref sig .tc .vmem S2x2048x256 .bf16) (harg12 : arg12.IsWhole)
  (arg13 : Memref sig .tc .vmem S512x256 .bf16) (harg13 : arg13.IsWhole)
  (arg14 : Memref sig .tc .vmem S2x512x128 .f32) (harg14 : arg14.IsWhole)
  (arg15 : Memref sig .tc .vmem S512x256 .bf16) (harg15 : arg15.IsWhole)
  (arg16 : Memref sig .tc .vmem S2x2048x256 .f32) (harg16 : arg16.IsWhole)
  (arg17 : Memref sig .tc .vmem S2x1x2048 .f32) (harg17 : arg17.IsWhole)
variable (x0 : Vec Ideal S2x2048x256 .bf16) (x1 : Vec Ideal S512x256 .bf16) (x2 : Vec Ideal S512x128 .bf16) (x3 : Vec Ideal S512x256 .bf16)
  (x4 : Vec Ideal S2048x256 .bf16) (x5 : Vec Ideal S2048x256 .bf16)

theorem init_eq (h) : (first_init (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 h).1
      = [⟨Rect.unit (s := S2x2048x256) ![0, 0, 0] S2x2048x256.size inb_S2x2048x256_S2x2048x256_0_0_0, k0_pay11 (F := Ideal)⟩]
    ∧ (first_init (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 h).2.1 = [
    ⟨Rect.unit (s := S2x1x2048) ![1, 0, 1536] S1x1x512.size inb_S2x1x2048_S1x1x512_1_0_1536, k0_pay48 (arg7.view.readAt (Elt Ideal) (Rect.unit (s := S2048x256) ![1536, 128] S512x128.size inb_S2048x256_S512x128_1536_128).toLoadRect (harg7.unread x5)) (arg6.view.readAt (Elt Ideal) (Rect.unit (s := S2048x256) ![1536, 128] S512x128.size inb_S2048x256_S512x128_1536_128).toLoadRect (harg6.unread x4))⟩,
    ⟨Rect.unit (s := S2x1x2048) ![1, 0, 1024] S1x1x512.size inb_S2x1x2048_S1x1x512_1_0_1024, k0_pay47 (k0_pay19 (arg7.view.readAt (Elt Ideal) (Rect.unit (s := S2048x256) ![1024, 128] S512x128.size inb_S2048x256_S512x128_1024_128).toLoadRect (harg7.unread x5)) (arg6.view.readAt (Elt Ideal) (Rect.unit (s := S2048x256) ![1024, 128] S512x128.size inb_S2048x256_S512x128_1024_128).toLoadRect (harg6.unread x4)))⟩,
    ⟨Rect.unit (s := S2x1x2048) ![1, 0, 512] S1x1x512.size inb_S2x1x2048_S1x1x512_1_0_512, k0_pay18 (arg7.view.readAt (Elt Ideal) (Rect.unit (s := S2048x256) ![512, 128] S512x128.size inb_S2048x256_S512x128_512_128).toLoadRect (harg7.unread x5)) (arg6.view.readAt (Elt Ideal) (Rect.unit (s := S2048x256) ![512, 128] S512x128.size inb_S2048x256_S512x128_512_128).toLoadRect (harg6.unread x4))⟩,
    ⟨Rect.unit (s := S2x1x2048) ![1, 0, 0] S1x1x512.size inb_S2x1x2048_S1x1x512_1_0_0, k0_pay17 (k0_pay16 (arg7.view.readAt (Elt Ideal) (Rect.unit (s := S2048x256) ![0, 128] S512x128.size inb_S2048x256_S512x128_0_128).toLoadRect (harg7.unread x5)) (arg6.view.readAt (Elt Ideal) (Rect.unit (s := S2048x256) ![0, 128] S512x128.size inb_S2048x256_S512x128_0_128).toLoadRect (harg6.unread x4)))⟩,
    ⟨Rect.unit (s := S2x1x2048) ![0, 0, 1536] S1x1x512.size inb_S2x1x2048_S1x1x512_0_0_1536, k0_pay15 (arg7.view.readAt (Elt Ideal) (Rect.unit (s := S2048x256) ![1536, 0] S512x128.size inb_S2048x256_S512x128_1536_0).toLoadRect (harg7.unread x5)) (arg6.view.readAt (Elt Ideal) (Rect.unit (s := S2048x256) ![1536, 0] S512x128.size inb_S2048x256_S512x128_1536_0).toLoadRect (harg6.unread x4))⟩,
    ⟨Rect.unit (s := S2x1x2048) ![0, 0, 1024] S1x1x512.size inb_S2x1x2048_S1x1x512_0_0_1024, k0_pay14 (arg7.view.readAt (Elt Ideal) (Rect.unit (s := S2048x256) ![1024, 0] S512x128.size inb_S2048x256_S512x128_1024_0).toLoadRect (harg7.unread x5)) (arg6.view.readAt (Elt Ideal) (Rect.unit (s := S2048x256) ![1024, 0] S512x128.size inb_S2048x256_S512x128_1024_0).toLoadRect (harg6.unread x4))⟩,
    ⟨Rect.unit (s := S2x1x2048) ![0, 0, 512] S1x1x512.size inb_S2x1x2048_S1x1x512_0_0_512, k0_pay13 (arg7.view.readAt (Elt Ideal) (Rect.unit (s := S2048x256) ![512, 0] S512x128.size inb_S2048x256_S512x128_512_0).toLoadRect (harg7.unread x5)) (arg6.view.readAt (Elt Ideal) (Rect.unit (s := S2048x256) ![512, 0] S512x128.size inb_S2048x256_S512x128_512_0).toLoadRect (harg6.unread x4))⟩,
    ⟨Rect.unit (s := S2x1x2048) ![0, 0, 0] S1x1x512.size inb_S2x1x2048_S1x1x512_0_0_0, k0_pay12 (arg7.view.readAt (Elt Ideal) (Rect.unit (s := S2048x256) ![0, 0] S512x128.size inb_S2048x256_S512x128_0_0).toLoadRect (harg7.unread x5)) (arg6.view.readAt (Elt Ideal) (Rect.unit (s := S2048x256) ![0, 0] S512x128.size inb_S2048x256_S512x128_0_0).toLoadRect (harg6.unread x4))⟩] := by
  refine ⟨?_, ?_⟩ <;> sl_kernel_rfl

/-- The query sums start at nothing, and the row sums are stored. -/
theorem init_re {D O : ℕ → ℕ → ℝ} (h4 : Re x4 O) (h5 : Re x5 D) (f0 : arg16.view.ty.Contents (Elt Ideal)) (f : arg17.view.ty.Contents (Elt Ideal)) (h) :
    Re3 (arg16.view.read (Elt Ideal) (arg16.view.writes (Elt Ideal) f0 (first_init (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 h).1)) (fun _ _ _ => 0)
    ∧ Re3 (arg17.view.read (Elt Ideal) (arg17.view.writes (Elt Ideal) f (first_init (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 h).2.1)) fun a _ t => deltaOf D O a t := by
  obtain ⟨e0, e1⟩ := init_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 h
  constructor
  · rw [e0]
    intro a t e
    rw [View.read_writes_cons_hit_of_coords arg16.view f0 _ _ _ (ix3 a t e) (ix3 a t e) (fun x => by fin_cases x <;> simp [Rect.unit])]
    pointwise [k0_pay11]
    rfl
  rw [e1]
  have b6 := (harg6.read_unread x4).symm ▸ h4
  have b7 := (harg7.read_unread x5).symm ▸ h5
  have cut2 : ∀ {r : Memref sig .tc .vmem S2048x256 .bf16} {g : r.view.ty.Contents (Elt Ideal)} {X : ℕ → ℕ → ℝ}, Re (r.view.read (Elt Ideal) g) X → ∀ (p q : ℕ)
      (inb : ∀ a, ![p, q] a + S512x128.size a ≤ S2048x256.size a), Re (r.view.readAt (Elt Ideal) (Rect.unit (s := S2048x256) ![p, q] S512x128.size inb).toLoadRect g) fun t e => X (p + t) (q + e) :=
    fun hX p q inb => re_readAt2 (n' := 512) (k' := 128) _ rfl hX
  have f00 := filled_cons arg17.view (G := deltaOf D O) (a := 0) (b := 0) (inb := inb_S2x1x2048_S1x1x512_0_0_0) rfl (row00 (cut2 b7 0 0 inb_S2048x256_S512x128_0_0) (cut2 b6 0 0 inb_S2048x256_S512x128_0_0)) (filled_nil arg17.view f _)
  have f01 := filled_cons arg17.view (G := deltaOf D O) (a := 0) (b := 1) (inb := inb_S2x1x2048_S1x1x512_0_0_512) rfl (row01 (cut2 b7 512 0 inb_S2048x256_S512x128_512_0) (cut2 b6 512 0 inb_S2048x256_S512x128_512_0)) f00
  have f02 := filled_cons arg17.view (G := deltaOf D O) (a := 0) (b := 2) (inb := inb_S2x1x2048_S1x1x512_0_0_1024) rfl (row02 (cut2 b7 1024 0 inb_S2048x256_S512x128_1024_0) (cut2 b6 1024 0 inb_S2048x256_S512x128_1024_0)) f01
  have f03 := filled_cons arg17.view (G := deltaOf D O) (a := 0) (b := 3) (inb := inb_S2x1x2048_S1x1x512_0_0_1536) rfl (row03 (cut2 b7 1536 0 inb_S2048x256_S512x128_1536_0) (cut2 b6 1536 0 inb_S2048x256_S512x128_1536_0)) f02
  have f10 := filled_cons arg17.view (G := deltaOf D O) (a := 1) (b := 0) (inb := inb_S2x1x2048_S1x1x512_1_0_0) rfl (row10 (cut2 b7 0 128 inb_S2048x256_S512x128_0_128) (cut2 b6 0 128 inb_S2048x256_S512x128_0_128)) f03
  have f11 := filled_cons arg17.view (G := deltaOf D O) (a := 1) (b := 1) (inb := inb_S2x1x2048_S1x1x512_1_0_512) rfl (row11 (cut2 b7 512 128 inb_S2048x256_S512x128_512_128) (cut2 b6 512 128 inb_S2048x256_S512x128_512_128)) f10
  have f12 := filled_cons arg17.view (G := deltaOf D O) (a := 1) (b := 2) (inb := inb_S2x1x2048_S1x1x512_1_0_1024) rfl (row12 (cut2 b7 1024 128 inb_S2048x256_S512x128_1024_128) (cut2 b6 1024 128 inb_S2048x256_S512x128_1024_128)) f11
  have f13 := filled_cons arg17.view (G := deltaOf D O) (a := 1) (b := 3) (inb := inb_S2x1x2048_S1x1x512_1_0_1536) rfl (row13 (cut2 b7 1536 128 inb_S2048x256_S512x128_1536_128) (cut2 b6 1536 128 inb_S2048x256_S512x128_1536_128)) f12
  intro a j t
  obtain rfl : j = 0 := Fin.fin_one_eq_zero j
  exact f13 a t (by omega)

end Cert.AttnIdeal.Val

end
-- ==== Proof.Attn.Global.lean ====
module

public import proofs.«01_k».proof.Proof.Attn.StepOut
public import proofs.«01_k».proof.Proof.Attn.Init

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

/-! The gradients over all rows, and a step's sums as parts of them. -/

section Rows

variable (KN KR VV D : ℕ → ℕ → ℝ) (Q : ℕ → ℕ → ℕ → ℝ) (L Δ : ℕ → ℕ → ℝ)

/-- A head's key row, -/
def keyRow (h k e : ℕ) : ℝ := if e < 128 then KN k (128 * h + e) else KR k (e - 128)
/-- the weight of key row `k` for query row `q`, -/
def weight (h k q : ℕ) : ℝ := if k / 64 ≤ q / 64 then (2 : ℝ) ^ ((∑ e ∈ Finset.range 256, keyRow KN KR h k e * Q h q e) - L h q) else 0
/-- the gradient of their score, -/
def scoreGrad (h k q : ℕ) : ℝ := weight KN KR Q L h k q * ((∑ d ∈ Finset.range 128, VV k (128 * h + d) * D q (128 * h + d)) - Δ h q)
/-- and the gradients of a key row, a value row and a query row. -/
def gradK (h k e : ℕ) : ℝ := ∑ q ∈ Finset.range 2048, scoreGrad KN KR VV D Q L Δ h k q * Q h q e
def gradV (h k d : ℕ) : ℝ := ∑ q ∈ Finset.range 2048, weight KN KR Q L h k q * D q (128 * h + d)
def gradQ (h q e : ℕ) : ℝ := ∑ k ∈ Finset.range 2048, scoreGrad KN KR VV D Q L Δ h k q * keyRow KN KR h k e

/-- Parts of the arrays: the block of rows `j` of a pair of heads' columns, the rows alone, the heads alone and the columns alone. -/
def cutB (A : ℕ → ℕ → ℝ) (p j y e : ℕ) : ℝ := A (512 * j + y) (256 * p + e)
def cutR (A : ℕ → ℕ → ℝ) (j y e : ℕ) : ℝ := A (512 * j + y) e
def cutH {α : Type} (A : ℕ → α) (p a : ℕ) : α := A (2 * p + a)
def cutC (A : ℕ → ℕ → ℝ) (p t e : ℕ) : ℝ := A t (256 * p + e)

variable {KN KR VV D Q L Δ}

theorem sum_rows (f : ℕ → ℝ) : ∑ q ∈ Finset.range 2048, f q = ∑ b ∈ Finset.range 4, ∑ x ∈ Finset.range 512, f (512 * b + x) := by
  rw [show 2048 = 512 + 512 + 512 + 512 from rfl, Finset.sum_range_add, Finset.sum_range_add, Finset.sum_range_add]
  simp only [Finset.sum_range_succ, Finset.sum_range_zero, zero_add, Nat.mul_zero, Nat.mul_one, Nat.reduceAdd, Nat.reduceMul]

variable {p j a y x b : ℕ}

theorem col_eq (e : ℕ) : 256 * p + (128 * a + e) = 128 * (2 * p + a) + e := by omega

theorem kk_eq (e : ℕ) : kk (cutB KN p j) (cutR KR j) a y e = keyRow KN KR (2 * p + a) (512 * j + y) e := by
  unfold kk keyRow cutB cutR; rw [col_eq]

theorem dot_eq : dot 256 (kk (cutB KN p j) (cutR KR j) a) (Qb (cutH Q p) a b) y x
    = ∑ e ∈ Finset.range 256, keyRow KN KR (2 * p + a) (512 * j + y) e * Q (2 * p + a) (512 * b + x) e :=
  Finset.sum_congr rfl fun e _ => by rw [kk_eq]; rfl

theorem wB_eq (h : j < b) (hy : y < 512) : wB (kk (cutB KN p j) (cutR KR j)) (cutH Q p) (cutH L p) a b y x = weight KN KR Q L (2 * p + a) (512 * j + y) (512 * b + x) := by
  unfold wB wt weight; rw [dot_eq, if_pos (by omega)]; rfl

theorem wM_eq : wtm (kk (cutB KN p j) (cutR KR j) a) (Qb (cutH Q p) a j) (Lb (cutH L p) a j) y x = weight KN KR Q L (2 * p + a) (512 * j + y) (512 * j + x) := by
  unfold wtm wt weight; rw [dot_eq]
  have h : y / 64 ≤ x / 64 ↔ (512 * j + y) / 64 ≤ (512 * j + x) / 64 := by omega
  simp only [h]; rfl

theorem w_zero (h : b < j) (hx : x < 512) : weight KN KR Q L (2 * p + a) (512 * j + y) (512 * b + x) = 0 :=
  if_neg (by omega)

theorem gs_eq {w : ℕ → ℕ → ℝ} (h : w y x = weight KN KR Q L (2 * p + a) (512 * j + y) (512 * b + x)) :
    gs w (vv (cutB VV p j) a) (Db (cutC D p) a b) (Lb (cutH Δ p) a b) y x = scoreGrad KN KR VV D Q L Δ (2 * p + a) (512 * j + y) (512 * b + x) := by
  unfold gs scoreGrad
  rw [h]
  refine congrArg (_ * ·) (congrArg₂ (· - ·) (Finset.sum_congr rfl fun d _ => ?_) rfl)
  unfold vv Db cutB cutC
  rw [col_eq]

/-- A sum over the query blocks that key block `j` meets. -/
theorem later_blocks (hj : j < 4) {T : ℕ → ℝ} (h0 : ∀ b, b < j → T b = 0) : ∑ b ∈ Finset.range 4, T b = T j + ∑ k ∈ Finset.range (3 - j), T (j + 1 + k) := by
  interval_cases j <;> simp [Finset.sum_range_succ, h0] <;> ring

theorem sumK_eq (hj : j < 4) (hy : y < 512) (e : ℕ) :
    sumK (kk (cutB KN p j) (cutR KR j)) (vv (cutB VV p j)) (cutH Q p) (cutC D p) (cutH L p) (cutH Δ p) j a y e = gradK KN KR VV D Q L Δ (2 * p + a) (512 * j + y) e := by
  unfold gradK sumK
  rw [sum_rows, later_blocks hj]
  · refine congrArg₂ (· + ·) (Finset.sum_congr rfl fun x _ => ?_) (Finset.sum_congr rfl fun k _ => Finset.sum_congr rfl fun x _ => ?_)
    · exact congrArg₂ (· * ·) (gs_eq wM_eq) rfl
    · exact congrArg₂ (· * ·) (gs_eq (wB_eq (by omega) hy)) rfl
  · intro b hb
    refine Finset.sum_eq_zero fun x hx => ?_
    unfold scoreGrad
    rw [w_zero hb (Finset.mem_range.mp hx), zero_mul, zero_mul]

theorem sumV_eq (hj : j < 4) (hy : y < 512) (d : ℕ) :
    sumV (kk (cutB KN p j) (cutR KR j)) (cutH Q p) (cutC D p) (cutH L p) j a y d = gradV KN KR D Q L (2 * p + a) (512 * j + y) d := by
  unfold gradV sumV
  rw [sum_rows, later_blocks hj]
  · refine congrArg₂ (· + ·) (Finset.sum_congr rfl fun x _ => ?_) (Finset.sum_congr rfl fun k _ => Finset.sum_congr rfl fun x _ => ?_)
    · exact congrArg₂ (· * ·) wM_eq (by unfold Db cutC; rw [col_eq])
    · exact congrArg₂ (· * ·) (wB_eq (by omega) hy) (by unfold Db cutC; rw [col_eq])
  · intro b hb
    refine Finset.sum_eq_zero fun x hx => ?_
    rw [w_zero hb (Finset.mem_range.mp hx), zero_mul]

theorem sumQ_eq (t e : ℕ) :
    sumQ (kk (cutB KN p j) (cutR KR j)) (vv (cutB VV p j)) (cutH Q p) (cutC D p) (cutH L p) (cutH Δ p) j a t e
      = ∑ y ∈ Finset.range 512, scoreGrad KN KR VV D Q L Δ (2 * p + a) (512 * j + y) t * keyRow KN KR (2 * p + a) (512 * j + y) e := by
  have ht : 512 * (t / 512) + t % 512 = t := by omega
  unfold sumQ
  split_ifs with h1 h2
  · refine (Finset.sum_eq_zero fun y _ => ?_).symm
    unfold scoreGrad
    rw [← ht, w_zero h1 (by omega), zero_mul, zero_mul]
  · refine Finset.sum_congr rfl fun y _ => congrArg₂ (· * ·) ?_ (kk_eq e)
    have h3 : 512 * j + t % 512 = t := by omega
    exact (gs_eq wM_eq).trans (by rw [h3])
  · refine Finset.sum_congr rfl fun y hy => congrArg₂ (· * ·) ?_ (kk_eq e)
    exact (gs_eq (wB_eq (by omega) (Finset.mem_range.mp hy))).trans (by rw [ht])

/-- The query gradients after the first `n` key blocks. -/
def partQ (KN KR VV D : ℕ → ℕ → ℝ) (Q : ℕ → ℕ → ℕ → ℝ) (L Δ : ℕ → ℕ → ℝ) (h n q e : ℕ) : ℝ :=
  ∑ b ∈ Finset.range n, ∑ y ∈ Finset.range 512, scoreGrad KN KR VV D Q L Δ h (512 * b + y) q * keyRow KN KR h (512 * b + y) e

theorem partQ_succ (h n q e : ℕ) : partQ KN KR VV D Q L Δ h (n + 1) q e
    = partQ KN KR VV D Q L Δ h n q e + ∑ y ∈ Finset.range 512, scoreGrad KN KR VV D Q L Δ h (512 * n + y) q * keyRow KN KR h (512 * n + y) e :=
  Finset.sum_range_succ _ _

theorem partQ_all (h q e : ℕ) : partQ KN KR VV D Q L Δ h 4 q e = gradQ KN KR VV D Q L Δ h q e :=
  (sum_rows fun k => scoreGrad KN KR VV D Q L Δ h k q * keyRow KN KR h k e).symm

end Rows

end Cert.AttnIdeal.Val

end
-- ==== Proof.Attn.Arrays.lean ====
module

public import proofs.«01_k».proof.Proof.Attn.Global
public import proofs.«01_k».proof.Proof.Attn.Frame
public import Idealize.ShloMosaic.Lib.Pipeline.ValueKit
public import Idealize.ShloMosaic.Lib.Pointwise

@[expose] public section

set_option maxRecDepth 16384

noncomputable section

namespace Cert.AttnIdeal.Val

open Cert.AttnIdeal Cert.AttnIdeal.Gen Cert.AttnIdeal.Own Idealize.ShloMosaic Idealize.ShloMosaic.TcCoe Idealize.SL.Sem
open Idealize.ShloMosaic.Pipeline (Dat)

variable (m : (ℓ : Loc nD τ sig) → Buf (Elt Ideal) ℓ) (c : Dev nD)

/-! The launch's arrays, in numbers. -/

/-- Where each window's block lies. -/
theorem idx : ∀ t : Fin cfg0.N, (grid0.coords t 1).val = t.val % 4 ∧ win0_0.index t = ![t.val / 4, 0, 0] ∧ win0_1.index t = ![t.val % 4, t.val / 4]
    ∧ win0_2.index t = ![t.val % 4, 0] ∧ win0_3.index t = ![t.val % 4, t.val / 4] ∧ win0_4.index t = ![0, t.val / 4] ∧ win0_5.index t = ![0, t.val / 4]
    ∧ win0_6.index t = ![t.val / 4, 0, 0] ∧ win0_7.index t = ![0, 0] ∧ win0_8.index t = ![0, 0] ∧ win0_9.index t = ![0, 0]
    ∧ win0_10.index t = ![t.val / 4, 0, 0] ∧ win0_11.index t = ![t.val % 4, t.val / 4] ∧ win0_12.index t = ![t.val / 4, t.val % 4, 0]
    ∧ win0_13.index t = ![t.val % 4, t.val / 4] :=
  (by decide +kernel : ∀ t : Fin grid0.N, _)

theorem lt16 (t : Fin cfg0.N) : t.val < 16 := lt_of_lt_of_eq t.isLt N_0

/-- What the launch finds, in numbers. -/
structure Found (KN KR VV O D : ℕ → ℕ → ℝ) (Q : ℕ → ℕ → ℕ → ℝ) (L C S S2 : ℕ → ℕ → ℝ) : Prop where
  q : Re3 (n := 8) (k := 2048) (l := 256) (V m c main_v126) Q
  kn : Re (n := 2048) (k := 1024) (V m c main_v128) KN
  kr : Re (n := 2048) (k := 128) (V m c main_v130) KR
  v : Re (n := 2048) (k := 1024) (V m c main_v132) VV
  o : Re (n := 2048) (k := 1024) (V m c main_v134) O
  d : Re (n := 2048) (k := 1024) (V m c main_v136) D
  l : Re3 (n := 8) (k := 1) (l := 2048) (V m c main_v137) fun h _ t => L h t
  cos : Re (n := 2048) (k := 128) (V m c main_v84) C
  sin : Re (n := 2048) (k := 128) (V m c main_v86) S
  sin2 : Re (n := 2048) (k := 128) (V m c main_v87) S2

variable {m c} {KN KR VV O D : ℕ → ℕ → ℝ} {Q : ℕ → ℕ → ℕ → ℝ} {L C S S2 : ℕ → ℕ → ℝ}

section At

variable (m c) (t : Fin cfg0.N)

theorem at_q (y e x) : blkQ m c t (ix3 y e x) = V m c main_v126 (ix3 ⟨2 * (t.val / 4) + y.val, by have := lt16 t; omega⟩ e x) := by
  blk_ext [iblk, idx t]
theorem at_kn (y e) : blkKN m c t (ix2 y e) = V m c main_v128 (ix2 ⟨512 * (t.val % 4) + y.val, by omega⟩ ⟨256 * (t.val / 4) + e.val, by have := lt16 t; omega⟩) := by
  blk_ext [iblk, idx t]
theorem at_kr (y e) : blkKR m c t (ix2 y e) = V m c main_v130 (ix2 ⟨512 * (t.val % 4) + y.val, by omega⟩ e) := by
  blk_ext [iblk, idx t]
theorem at_v (y e) : blkV m c t (ix2 y e) = V m c main_v132 (ix2 ⟨512 * (t.val % 4) + y.val, by omega⟩ ⟨256 * (t.val / 4) + e.val, by have := lt16 t; omega⟩) := by
  blk_ext [iblk, idx t]
theorem at_o (y e) : blkO m c t (ix2 y e) = V m c main_v134 (ix2 y ⟨256 * (t.val / 4) + e.val, by have := lt16 t; omega⟩) := by
  blk_ext [iblk, idx t]
theorem at_d (y e) : blkD m c t (ix2 y e) = V m c main_v136 (ix2 y ⟨256 * (t.val / 4) + e.val, by have := lt16 t; omega⟩) := by
  blk_ext [iblk, idx t]
theorem at_l (y e x) : blkL m c t (ix3 y e x) = V m c main_v137 (ix3 ⟨2 * (t.val / 4) + y.val, by have := lt16 t; omega⟩ e x) := by
  blk_ext [iblk, idx t]
theorem at_c (y e) : blkC m c t (ix2 y e) = V m c main_v84 (ix2 y e) := by
  blk_ext [iblk, idx t]
theorem at_s (y e) : blkS m c t (ix2 y e) = V m c main_v86 (ix2 y e) := by
  blk_ext [iblk, idx t]
theorem at_s2 (y e) : blkS2 m c t (ix2 y e) = V m c main_v87 (ix2 y e) := by
  blk_ext [iblk, idx t]

end At

theorem blocks (f : Found m c KN KR VV O D Q L C S S2) (t : Fin cfg0.N) :
    Blocks m c t (cutH Q (t.val / 4)) (cutB KN (t.val / 4) (t.val % 4)) (cutR KR (t.val % 4)) (cutB VV (t.val / 4) (t.val % 4)) (cutC D (t.val / 4)) (cutH L (t.val / 4)) C S S2
    ∧ Re (blkO m c t) (cutC O (t.val / 4)) :=
  ⟨⟨fun a x e => (at_q m c t a x e).trans (f.q _ _ _), fun y e => (at_kn m c t y e).trans (f.kn _ _), fun y e => (at_kr m c t y e).trans (f.kr _ _),
    fun y e => (at_v m c t y e).trans (f.v _ _), fun y e => (at_d m c t y e).trans (f.d _ _), fun a z x => (at_l m c t a z x).trans (f.l _ _ _),
    fun y e => (at_c m c t y e).trans (f.cos _ _), fun y e => (at_s m c t y e).trans (f.sin _ _), fun y e => (at_s2 m c t y e).trans (f.sin2 _ _)⟩,
    fun y e => (at_o m c t y e).trans (f.o _ _)⟩

theorem start_re {t : Fin cfg0.N} {D O : ℕ → ℕ → ℝ} (h : AtStart (grid0.coords t)) (hO : Re (blkO m c t) O) (hD : Re (blkD m c t) D) :
    Re3 (entry m c t.val t.isLt).1 (fun _ _ _ => 0) ∧ Re3 (entry m c t.val t.isLt).2 fun a _ x => deltaOf D O a x := by
  rw [entry_eq m c t h]
  have key := init_re c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t)
    (stDQ t) (hstDQ t) (stDKN t) (hstDKN t) (stDKR t) (hstDKR t) (stDV t) (hstDV t) acc hacc dl hdl (blkQ m c t) (blkKN m c t) (blkKR m c t) (blkV m c t) (blkO m c t) (blkD m c t) hO hD acc.view.junk dl.view.junk h
  have e : initAt m c t h = first_init c (grid0.coords t) (stQ t) (hstQ t) (stKN t) (hstKN t) (stKR t) (hstKR t) (stV t) (hstV t) (stO t) (hstO t) (stD t) (hstD t) (stL t) (hstL t) (stCos t) (hstCos t) (stSin t) (hstSin t) (stSin2 t) (hstSin2 t)
    (stDQ t) (hstDQ t) (stDKN t) (hstDKN t) (stDKR t) (hstDKR t) (stDV t) (hstDV t) acc hacc dl hdl (blkQ m c t) (blkKN m c t) (blkKR m c t) (blkV m c t) (blkO m c t) (blkD m c t) h := by sl_kernel_rfl
  rw [e]
  dsimp only
  exact key

/-- What is carried into step `t`: the query gradients over the key blocks before, and the row sums. -/
theorem carried (f : Found m c KN KR VV O D Q L C S S2) : ∀ (n : ℕ) (hn : n < cfg0.N),
    Re3 (entry m c n hn).1 (fun a t e => partQ KN KR VV D Q L (deltaOf D O) (2 * (n / 4) + a) (n % 4) t e)
    ∧ Re3 (entry m c n hn).2 fun a _ t => cutH (deltaOf D O) (n / 4) a t := by
  have first : ∀ t : Fin cfg0.N, t.val % 4 = 0 →
      Re3 (entry m c t.val t.isLt).1 (fun a x e => partQ KN KR VV D Q L (deltaOf D O) (2 * (t.val / 4) + a) (t.val % 4) x e)
      ∧ Re3 (entry m c t.val t.isLt).2 fun a _ x => cutH (deltaOf D O) (t.val / 4) a x := fun t h => by
    obtain ⟨b, b4⟩ := blocks f t
    obtain ⟨i0, i1⟩ := start_re ((atStart_iff t).mpr h) b4 b.d
    refine ⟨i0.of fun a x e _ _ => ?_, i1.of fun a _ x _ _ => ?_⟩
    · rw [h]; rfl
    · unfold cutH deltaOf
      refine Finset.sum_congr rfl fun d _ => ?_
      unfold cutC
      rw [col_eq]
  intro n
  induction n with
  | zero => exact fun hn => first ⟨0, hn⟩ rfl
  | succ n ih =>
    intro hn
    by_cases h : (n + 1) % 4 = 0
    · exact first ⟨n + 1, hn⟩ h
    obtain ⟨h0, h1⟩ := ih (Nat.lt_of_succ_lt hn)
    have e : entry m c (n + 1) hn = (outAcc m c ⟨n, Nat.lt_of_succ_lt hn⟩ (entry m c n (Nat.lt_of_succ_lt hn)), (entry m c n (Nat.lt_of_succ_lt hn)).2) :=
      dif_neg fun h' => h ((atStart_iff ⟨n + 1, hn⟩).mp h')
    obtain ⟨b, -⟩ := blocks f ⟨n, Nat.lt_of_succ_lt hn⟩
    have hq : (n + 1) / 4 = n / 4 := by omega
    have hr : (n + 1) % 4 = n % 4 + 1 := by omega
    rw [e, hq, hr]
    refine ⟨(outAcc_re m c ⟨n, Nat.lt_of_succ_lt hn⟩ _ b h1 h0).of fun a x d _ _ => ?_, h1⟩
    rw [partQ_succ, (idx ⟨n, Nat.lt_of_succ_lt hn⟩).1, sumQ_eq]

variable (f : Found m c KN KR VV O D Q L C S S2)
include f

/-- The launch leaves the query gradients, scaled and turned back, -/
theorem dq_array : Re3 (n := 8) (k := 2048) (l := 256) ((dats m 0 c).arrAt 10 cfg0.N) fun h => dqRow C S S2 (gradQ KN KR VV D Q L (deltaOf D O) h) := by
  intro h q e
  refine congrFun ((dats m 0 c).arrAt_eq_of_covers 10 (fun i => ((dqRow C S S2 (gradQ KN KR VV D Q L (deltaOf D O) (i 0).val) (i 1).val (i 2).val : ℝ) : EReal)) (by decide +kernel) fun t hf y => ?_) (ix3 h q e)
  idx_vars y
  have ht := lt16 t
  have h3 : t.val % 4 = 3 := by
    by_contra h3
    rw [(idle_dq t fun hc => h3 ((atEnd_iff t).mp hc)).2] at hf
    exact absurd hf (by decide)
  obtain ⟨b, -⟩ := blocks f t
  obtain ⟨h0, h1⟩ := carried f t.val t.isLt
  blk_simp [idx t]
  rw [show t.val / 4 * 2 + y0.val = 2 * (t.val / 4) + y0.val by omega]
  refine (outDQ_re m c t _ b h1 h0 ((atEnd_iff t).mpr h3) y0 y1 y2).trans ?_
  refine congrArg (fun A : ℕ → ℕ → ℝ => ((dqRow C S S2 A y1.val y2.val : ℝ) : EReal)) (funext fun x => funext fun d => ?_)
  rw [(idx t).1, sumQ_eq, h3, ← partQ_succ]
  exact partQ_all _ _ _

/-- the key gradients of the unrotated part, -/
theorem dkn_array : Re (n := 2048) (k := 1024) ((dats m 0 c).arrAt 11 cfg0.N) fun k e => gradK KN KR VV D Q L (deltaOf D O) (e / 128) k (e % 128) * Real.log 2 := by
  intro k e
  refine congrFun ((dats m 0 c).arrAt_eq_of_covers 11 (fun i => ((gradK KN KR VV D Q L (deltaOf D O) ((i 1).val / 128) (i 0).val ((i 1).val % 128) * Real.log 2 : ℝ) : EReal)) (by decide +kernel) fun t hf y => ?_) (ix2 k e)
  idx_vars y
  have ht := lt16 t
  obtain ⟨b, -⟩ := blocks f t
  obtain ⟨h0, h1⟩ := carried f t.val t.isLt
  blk_simp [idx t]
  rw [show t.val / 4 * 256 + y1.val = 256 * (t.val / 4) + y1.val by omega, show t.val % 4 * 512 + y0.val = 512 * (t.val % 4) + y0.val by omega]
  refine (outDKN_re m c t _ b h1 h0 y0 y1).trans ?_
  dsimp only
  rw [(idx t).1, sumK_eq (by omega) y0.isLt, sumK_eq (by omega) y0.isLt]
  split_ifs with hy
  · rw [show (256 * (t.val / 4) + y1.val) / 128 = 2 * (t.val / 4) + 0 by omega, show (256 * (t.val / 4) + y1.val) % 128 = y1.val by omega]
  · rw [show (256 * (t.val / 4) + y1.val) / 128 = 2 * (t.val / 4) + 1 by omega, show (256 * (t.val / 4) + y1.val) % 128 = y1.val - 128 by omega]

/-- of the rotary part, head by head, -/
theorem dkr_array : Re3 (n := 8) (k := 2048) (l := 128) ((dats m 0 c).arrAt 12 cfg0.N) fun h k e => gradK KN KR VV D Q L (deltaOf D O) h k (128 + e) * Real.log 2 := by
  intro h k e
  refine congrFun ((dats m 0 c).arrAt_eq_of_covers 12 (fun i => ((gradK KN KR VV D Q L (deltaOf D O) (i 0).val (i 1).val (128 + (i 2).val) * Real.log 2 : ℝ) : EReal)) (by decide +kernel) fun t hf y => ?_) (ix3 h k e)
  idx_vars y
  have ht := lt16 t
  obtain ⟨b, -⟩ := blocks f t
  obtain ⟨h0, h1⟩ := carried f t.val t.isLt
  blk_simp [idx t]
  rw [show t.val / 4 * 2 + y0.val = 2 * (t.val / 4) + y0.val by omega, show t.val % 4 * 512 + y1.val = 512 * (t.val % 4) + y1.val by omega]
  refine (outDKR_re m c t _ b h1 h0 y0 y1 y2).trans ?_
  dsimp only
  rw [(idx t).1, sumK_eq (by omega) y1.isLt, sumK_eq (by omega) y1.isLt]
  obtain hy | hy : y0.val = 0 ∨ y0.val = 1 := by omega
  · rw [if_pos hy, hy]
  · rw [if_neg (by omega), hy]

/-- and the value gradients. -/
theorem dv_array : Re (n := 2048) (k := 1024) ((dats m 0 c).arrAt 13 cfg0.N) fun k e => gradV KN KR D Q L (e / 128) k (e % 128) := by
  intro k e
  refine congrFun ((dats m 0 c).arrAt_eq_of_covers 13 (fun i => ((gradV KN KR D Q L ((i 1).val / 128) (i 0).val ((i 1).val % 128) : ℝ) : EReal)) (by decide +kernel) fun t hf y => ?_) (ix2 k e)
  idx_vars y
  have ht := lt16 t
  obtain ⟨b, -⟩ := blocks f t
  obtain ⟨h0, h1⟩ := carried f t.val t.isLt
  blk_simp [idx t]
  rw [show t.val / 4 * 256 + y1.val = 256 * (t.val / 4) + y1.val by omega, show t.val % 4 * 512 + y0.val = 512 * (t.val % 4) + y0.val by omega]
  refine (outDV_re m c t _ b h1 h0 y0 y1).trans ?_
  dsimp only
  rw [(idx t).1, sumV_eq (by omega) y0.isLt, sumV_eq (by omega) y0.isLt]
  split_ifs with hy
  · rw [show (256 * (t.val / 4) + y1.val) / 128 = 2 * (t.val / 4) + 0 by omega, show (256 * (t.val / 4) + y1.val) % 128 = y1.val by omega]
  · rw [show (256 * (t.val / 4) + y1.val) / 128 = 2 * (t.val / 4) + 1 by omega, show (256 * (t.val / 4) + y1.val) % 128 = y1.val - 128 by omega]

end Cert.AttnIdeal.Val

end
-- ==== Proof.Attn.Forward.lean ====
module

public import proofs.«01_k».proof.Proof.Attn.Global
public import proofs.«01_k».proof.Proof.Attn.Stores

@[expose] public section

noncomputable section

/-! The attention's gradient in real numbers: softmax weights over a chunked mask, and what its saved logarithms give back. -/

namespace Cert.AttnIdeal.Val

section

variable (Q K V D : ℕ → ℕ → ℕ → ℝ) (R CO SI MX : ℕ → ℕ → ℝ)

/-- A head's rotary query part, turned by its row's angles, -/
def rotQ (t h e : ℕ) : ℝ :=
  if e < 32 then Q t h (128 + e) * CO t e - Q t h (160 + e) * SI t e else Q t h (128 + e) * CO t (e - 32) + Q t h (96 + e) * SI t (e - 32)
/-- the score of a key row for a query row, -/
def score (h q k : ℕ) : ℝ := (∑ e ∈ Finset.range 128, Q q h e * K k h e + ∑ e ∈ Finset.range 64, rotQ Q CO SI q h e * R k e) * theScale
/-- its exponential against the row's number `MX h q`, where the mask lets it, -/
def expo (h q k : ℕ) : ℝ := if k / 64 ≤ q / 64 then Real.exp (score Q K R CO SI h q k - MX h q) else 0
/-- the sum of a row, -/
def tot (h q : ℕ) : ℝ := ∑ k ∈ Finset.range 2048, expo Q K R CO SI MX h q k
/-- the softmax weight, -/
def prob (h q k : ℕ) : ℝ := expo Q K R CO SI MX h q k / tot Q K R CO SI MX h q
/-- the output, -/
def outp (h q d : ℕ) : ℝ := ∑ k ∈ Finset.range 2048, prob Q K R CO SI MX h q k * V k h d
/-- the cotangent of a weight, -/
def wct (h q k : ℕ) : ℝ := ∑ d ∈ Finset.range 128, D q h d * V k h d
/-- and of a score before its scale. -/
def sct (h q k : ℕ) : ℝ := prob Q K R CO SI MX h q k * (wct V D h q k - ∑ j ∈ Finset.range 2048, wct V D h q j * prob Q K R CO SI MX h q j)

/-- What is saved of a row: the base-two logarithm of its sum of exponentials. -/
def lse (h q : ℕ) : ℝ := (MX h q + Real.log (tot Q K R CO SI MX h q)) / Real.log 2

/-- The launch's arrays: the queries scaled, the keys, values and cotangents with their heads side by side. -/
def arrQ (h t e : ℕ) : ℝ := (if e < 128 then Q t h e else if e < 192 then rotQ Q CO SI t h (e - 128) else 0) * (theScale / Real.log 2)
def arrH (X : ℕ → ℕ → ℕ → ℝ) (t e : ℕ) : ℝ := X t (e / 128) (e % 128)
def arrR (t e : ℕ) : ℝ := if e < 64 then R t e else 0
def arrO (t e : ℕ) : ℝ := outp Q K V R CO SI MX (e / 128) t (e % 128)

variable {Q K V D R CO SI MX}

theorem expo_nonneg (h q k : ℕ) : 0 ≤ expo Q K R CO SI MX h q k := by
  unfold expo; split_ifs
  · exact (Real.exp_pos _).le
  · exact le_rfl

theorem tot_pos {h q : ℕ} (hq : q < 2048) : 0 < tot Q K R CO SI MX h q :=
  Finset.sum_pos' (fun k _ => expo_nonneg h q k) ⟨q, Finset.mem_range.mpr hq, by unfold expo; rw [if_pos le_rfl]; exact Real.exp_pos _⟩

theorem arrH_at (X : ℕ → ℕ → ℕ → ℝ) (t h : ℕ) {d : ℕ} (hd : d < 128) : arrH X t (128 * h + d) = X t h d := by
  unfold arrH; rw [show (128 * h + d) / 128 = h by omega, show (128 * h + d) % 128 = d by omega]

theorem arrO_at (t h : ℕ) {d : ℕ} (hd : d < 128) : arrO Q K V R CO SI MX t (128 * h + d) = outp Q K V R CO SI MX h t d := by
  unfold arrO; rw [show (128 * h + d) / 128 = h by omega, show (128 * h + d) % 128 = d by omega]

theorem log2_ne : Real.log 2 ≠ 0 := (Real.log_pos one_lt_two).ne'

/-- A product of a key row with a scaled query row is the score over `log 2`. -/
theorem dot_score (h q k : ℕ) : ∑ e ∈ Finset.range 256, keyRow (arrH K) (arrR R) h k e * arrQ Q CO SI h q e = score Q K R CO SI h q k / Real.log 2 := by
  rw [show 256 = 128 + (64 + 64) from rfl, Finset.sum_range_add, Finset.sum_range_add]
  have e0 : ∀ e ∈ Finset.range 128, keyRow (arrH K) (arrR R) h k e * arrQ Q CO SI h q e = Q q h e * K k h e * (theScale / Real.log 2) := fun e he => by
    have he := Finset.mem_range.mp he
    unfold keyRow arrQ; rw [if_pos he, if_pos he, arrH_at K k h he]; ring
  have e1 : ∀ e ∈ Finset.range 64, keyRow (arrH K) (arrR R) h k (128 + e) * arrQ Q CO SI h q (128 + e) = rotQ Q CO SI q h e * R k e * (theScale / Real.log 2) := fun e he => by
    have he := Finset.mem_range.mp he
    unfold keyRow arrQ; rw [if_neg (by omega), if_neg (by omega), if_pos (by omega), show 128 + e - 128 = e by omega]; unfold arrR; rw [if_pos he]; ring
  have e2 : ∀ e ∈ Finset.range 64, keyRow (arrH K) (arrR R) h k (128 + (64 + e)) * arrQ Q CO SI h q (128 + (64 + e)) = 0 := fun e he => by
    unfold keyRow arrR; rw [if_neg (by omega), if_neg (by omega), zero_mul]
  rw [Finset.sum_congr rfl e0, Finset.sum_congr rfl e1, Finset.sum_congr rfl e2, Finset.sum_const_zero, ← Finset.sum_mul, ← Finset.sum_mul]
  unfold score; ring

/-- The weight that the saved logarithm gives back is the softmax weight. -/
theorem weight_eq {h q : ℕ} (hq : q < 2048) (k : ℕ) :
    weight (arrH K) (arrR R) (arrQ Q CO SI) (lse Q K R CO SI MX) h k q = prob Q K R CO SI MX h q k := by
  unfold weight prob expo
  split_ifs
  · rw [dot_score]
    unfold lse
    rw [Real.rpow_def_of_pos two_pos, ← sub_div, mul_div_cancel₀ _ log2_ne, ← sub_sub, Real.exp_sub, Real.exp_log (tot_pos hq)]
  · rw [zero_div]

/-- The row sum of cotangent against output, over the keys. -/
theorem delta_eq (h q : ℕ) : deltaOf (arrH D) (arrO Q K V R CO SI MX) h q = ∑ j ∈ Finset.range 2048, wct V D h q j * prob Q K R CO SI MX h q j := by
  unfold deltaOf
  have e : ∀ d ∈ Finset.range 128, arrH D q (128 * h + d) * arrO Q K V R CO SI MX q (128 * h + d) = ∑ j ∈ Finset.range 2048, D q h d * V j h d * prob Q K R CO SI MX h q j := fun d hd => by
    have hd := Finset.mem_range.mp hd
    rw [arrH_at D q h hd, arrO_at q h hd]
    unfold outp
    rw [Finset.mul_sum]
    exact Finset.sum_congr rfl fun j _ => by ring
  rw [Finset.sum_congr rfl e, Finset.sum_comm]
  exact Finset.sum_congr rfl fun j _ => by unfold wct; rw [Finset.sum_mul]

theorem scoreGrad_eq {h q : ℕ} (hq : q < 2048) (k : ℕ) :
    scoreGrad (arrH K) (arrR R) (arrH V) (arrH D) (arrQ Q CO SI) (lse Q K R CO SI MX) (deltaOf (arrH D) (arrO Q K V R CO SI MX)) h k q = sct Q K V D R CO SI MX h q k := by
  unfold scoreGrad sct
  rw [weight_eq hq, delta_eq]
  refine congrArg (fun x => prob Q K R CO SI MX h q k * (x - _)) (Finset.sum_congr rfl fun d hd => ?_)
  have hd := Finset.mem_range.mp hd
  rw [arrH_at V k h hd, arrH_at D q h hd, mul_comm]

/-- The gradients of the keys' two parts, -/
theorem gradKN_eq (h k : ℕ) {e : ℕ} (he : e < 128) :
    gradK (arrH K) (arrR R) (arrH V) (arrH D) (arrQ Q CO SI) (lse Q K R CO SI MX) (deltaOf (arrH D) (arrO Q K V R CO SI MX)) h k e * Real.log 2
      = ∑ q ∈ Finset.range 2048, sct Q K V D R CO SI MX h q k * theScale * Q q h e := by
  unfold gradK
  rw [Finset.sum_mul]
  refine Finset.sum_congr rfl fun q hq => ?_
  rw [scoreGrad_eq (Finset.mem_range.mp hq)]
  unfold arrQ
  rw [if_pos he]
  have := log2_ne
  field_simp

theorem gradKR_eq (h k : ℕ) (e : ℕ) :
    gradK (arrH K) (arrR R) (arrH V) (arrH D) (arrQ Q CO SI) (lse Q K R CO SI MX) (deltaOf (arrH D) (arrO Q K V R CO SI MX)) h k (128 + e) * Real.log 2
      = if e < 64 then ∑ q ∈ Finset.range 2048, sct Q K V D R CO SI MX h q k * theScale * rotQ Q CO SI q h e else 0 := by
  unfold gradK
  rw [Finset.sum_mul]
  split_ifs with he
  · refine Finset.sum_congr rfl fun q hq => ?_
    rw [scoreGrad_eq (Finset.mem_range.mp hq)]
    unfold arrQ
    rw [if_neg (by omega), if_pos (by omega), show 128 + e - 128 = e by omega]
    have := log2_ne
    field_simp
  · refine Finset.sum_eq_zero fun q _ => ?_
    unfold arrQ
    rw [if_neg (by omega), if_neg (by omega), zero_mul, mul_zero, zero_mul]

/-- of the values, -/
theorem gradV_eq (h k : ℕ) {d : ℕ} (hd : d < 128) :
    gradV (arrH K) (arrR R) (arrH D) (arrQ Q CO SI) (lse Q K R CO SI MX) h k d = ∑ q ∈ Finset.range 2048, D q h d * prob Q K R CO SI MX h q k := by
  unfold gradV
  refine Finset.sum_congr rfl fun q hq => ?_
  rw [weight_eq (Finset.mem_range.mp hq), arrH_at D q h hd, mul_comm]

/-- and of the queries, before they are turned back. -/
theorem gradQ_eq (h : ℕ) {q : ℕ} (hq : q < 2048) (e : ℕ) :
    gradQ (arrH K) (arrR R) (arrH V) (arrH D) (arrQ Q CO SI) (lse Q K R CO SI MX) (deltaOf (arrH D) (arrO Q K V R CO SI MX)) h q e
      = ∑ k ∈ Finset.range 2048, sct Q K V D R CO SI MX h q k * keyRow (arrH K) (arrR R) h k e := by
  unfold gradQ
  exact Finset.sum_congr rfl fun k _ => by rw [scoreGrad_eq hq]

end

section

variable (Q K V D : ℕ → ℕ → ℕ → ℝ) (R CO SI MX : ℕ → ℕ → ℝ)

/-- The tables of the angles, over 128 columns. -/
def arrC (t e : ℕ) : ℝ := if e < 32 then CO t e else if e < 64 then CO t (e - 32) else 0
def arrS (t e : ℕ) : ℝ := if e < 32 then -SI t e else 0
def arrS2 (t e : ℕ) : ℝ := if e < 32 then 0 else if e < 64 then SI t (e - 32) else 0

/-- The gradient of a query's turned part, -/
def rotGrad (h q e : ℕ) : ℝ := ∑ k ∈ Finset.range 2048, sct Q K V D R CO SI MX h q k * theScale * R k e
/-- turned back, -/
def backGrad (h q e : ℕ) : ℝ :=
  if e < 32 then rotGrad Q K V D R CO SI MX h q e * CO q e + rotGrad Q K V D R CO SI MX h q (32 + e) * SI q e
  else rotGrad Q K V D R CO SI MX h q e * CO q (e - 32) - rotGrad Q K V D R CO SI MX h q (e - 32) * SI q (e - 32)
/-- and the gradient of a whole query row, padded. -/
def queryGrad (h q e : ℕ) : ℝ :=
  if e < 128 then ∑ k ∈ Finset.range 2048, sct Q K V D R CO SI MX h q k * theScale * K k h e
  else if e < 192 then backGrad Q K V D R CO SI MX h q (e - 128) else 0

variable {Q K V D R CO SI MX}

theorem turn_eq (A : ℕ → ℕ → ℝ) (q : ℕ) {x : ℕ} (hx : x < 128) : turn (arrC CO) (arrS SI) (arrS2 SI) A q x
    = if x < 32 then A q x * CO q x + A q (32 + x) * SI q x else if x < 64 then A q x * CO q (x - 32) - A q (x - 32) * SI q (x - 32) else 0 := by
  unfold turn arrC arrS arrS2
  split_ifs with h0 h1
  · rw [show (x + 32) % 128 = 32 + x by omega]; ring
  · rw [show (x + 96) % 128 = x - 32 by omega]; ring
  · ring

theorem queryGrad_eq (h : ℕ) {q : ℕ} (hq : q < 2048) {e : ℕ} (he : e < 256) :
    dqRow (arrC CO) (arrS SI) (arrS2 SI) (gradQ (arrH K) (arrR R) (arrH V) (arrH D) (arrQ Q CO SI) (lse Q K R CO SI MX) (deltaOf (arrH D) (arrO Q K V R CO SI MX)) h) q e
      = queryGrad Q K V D R CO SI MX h q e := by
  have low : ∀ e < 64, gradQ (arrH K) (arrR R) (arrH V) (arrH D) (arrQ Q CO SI) (lse Q K R CO SI MX) (deltaOf (arrH D) (arrO Q K V R CO SI MX)) h q (128 + e) * theScale
      = rotGrad Q K V D R CO SI MX h q e := fun e he => by
    rw [gradQ_eq h hq]
    unfold rotGrad
    rw [Finset.sum_mul]
    refine Finset.sum_congr rfl fun k _ => ?_
    unfold keyRow arrR
    rw [if_neg (by omega), show 128 + e - 128 = e by omega, if_pos he]; ring
  unfold dqRow queryGrad
  split_ifs with h0 h1
  · rw [gradQ_eq h hq, Finset.sum_mul]
    refine Finset.sum_congr rfl fun k _ => ?_
    unfold keyRow
    rw [if_pos h0, arrH_at K k h h0]; ring
  · rw [turn_eq _ _ (by omega)]
    unfold backGrad
    split_ifs with h2 h3
    · rw [← low _ (by omega), ← low _ (by omega)]
    · rw [← low _ (by omega), ← low _ (by omega)]
    · omega
  · rw [turn_eq _ _ (by omega), if_neg (by omega), if_neg (by omega)]

end

end Cert.AttnIdeal.Val

end
-- ==== Proof.Attn.Ref.lean ====
module

public import proofs.«01_k».proof.Proof.Gen.AttnRefIdeal.Read
public import proofs.«01_k».proof.Proof.Attn.Forward
public import Idealize.ShloMosaic.Lib.Pipeline.ValueKit
public import Idealize.ShloMosaic.Lib.Pointwise

@[expose] public section

set_option maxRecDepth 16384

noncomputable section

namespace Cert.AttnRefIdeal.Val

open Cert.AttnRefIdeal Cert.AttnRefIdeal.Gen Cert.AttnRefIdeal.Read Cert.AttnIdeal.Val Idealize.ShloMosaic Idealize.ShloMosaic.TcCoe Idealize.SL.Sem

/-! The reference of the attention's gradient, in numbers. -/

theorem ninf_eq : Ideal.ofBits .f32 0xFF800000#32 = ⊥ := by simp [Ideal.ofBits, Ideal.ieee]
theorem tenk_eq : Ideal.ofBits .f32 0x461C4000#32 = ((10000 : ℝ) : EReal) := by
  simp [Ideal.ofBits, Ideal.ieee, -EReal.coe_mul]; norm_num
theorem thirtytwo_eq : Ideal.ofBits .f32 0x42000000#32 = ((32 : ℝ) : EReal) := by
  simp [Ideal.ofBits, Ideal.ieee, -EReal.coe_mul]; norm_num

theorem div_real (x : ℝ) {y : ℝ} (h : y ≠ 0) : Ideal.div (x : EReal) (y : EReal) = ((x / y : ℝ) : EReal) := by
  rw [Ideal.div_coe h, ← EReal.coe_mul, mul_one_div]

theorem add_real {x y : EReal} {a b : ℝ} (hx : x = (a : EReal)) (hy : y = (b : EReal)) : x + y = ((a + b : ℝ) : EReal) := by rw [hx, hy, EReal.coe_add]
theorem sub_real {x y : EReal} {a b : ℝ} (hx : x = (a : EReal)) (hy : y = (b : EReal)) : x - y = ((a - b : ℝ) : EReal) := by rw [hx, hy, EReal.coe_sub]
theorem mul_real {x y : EReal} {a b : ℝ} (hx : x = (a : EReal)) (hy : y = (b : EReal)) : x * y = ((a * b : ℝ) : EReal) := by rw [hx, hy, EReal.coe_mul]

/-- An entry, its last coordinate given another way. -/
theorem re3_at {n k l : ℕ} {x : (⟨3, ![n, k, l]⟩ : Shape).Idx → EReal} {X : ℕ → ℕ → ℕ → ℝ} (h : Re3 x X) {i : Fin n} {j : Fin k} {p : Fin l} (p' : ℕ) (hp : p.val = p') :
    x (ix3 i j p) = ((X i.val j.val p' : ℝ) : EReal) := hp ▸ h i j p

theorem sum_real {n : ℕ} {x : Fin n → EReal} {f : ℕ → ℝ} (h : ∀ k : Fin n, x k = ((f k.val : ℝ) : EReal)) : ∑ k, x k = ((∑ k ∈ Finset.range n, f k : ℝ) : EReal) := by
  rw [Finset.sum_range, ← coe_sum]
  exact Finset.sum_congr rfl fun k _ => h k

/-- The greatest of finitely many numbers, some of them struck out for `-∞`, is a number when one is not. -/
theorem max_real {n : ℕ} {x : Fin n → EReal} {f : Fin n → ℝ} {p : Fin n → Prop} [DecidablePred p] (h : ∀ k, x k = if p k then ((f k : ℝ) : EReal) else ⊥) (k0 : Fin n) (hk : p k0) :
    ∃ M : ℝ, Finset.univ.fold max ⊥ x = ((M : ℝ) : EReal) := by
  have lt : Finset.univ.fold max ⊥ x < ⊤ := (Finset.fold_max_lt _).mpr ⟨bot_lt_top, fun k _ => by
    rw [h k]; split_ifs
    · exact EReal.coe_lt_top _
    · exact bot_lt_top⟩
  have gt : ⊥ < Finset.univ.fold max ⊥ x := (Finset.lt_fold_max _).mpr (Or.inr ⟨k0, Finset.mem_univ _, by rw [h k0, if_pos hk]; exact EReal.bot_lt_coe _⟩)
  exact ⟨_, (EReal.coe_toReal lt.ne gt.ne').symm⟩

variable {x0 : FVec Ideal S2048x8x192 .f32} {x1 : FVec Ideal S2048x8x128 .f32} {x2 : FVec Ideal S2048x64 .f32} {x3 : FVec Ideal S2048x8x128 .f32} {x4 : Vec Ideal S2048 .i32} {x5 : FVec Ideal S2048x8x128 .f32}

/-- Every angle is a number. -/
theorem angle (t : Fin 2048) (j : Fin 32) : ∃ a : ℝ, val_main_v16 (F := Ideal) x4 (ix2 t j) = ((a : ℝ) : EReal) := by
  pointwise [val_main_v16, val_main_v15, val_main_v14, val_main_v13, val_main_v12, val_main_v11, val_main_v10, val_main_v9, val_main_v8, val_main_v7, val_main_v6, val_main_v5, val_main_v4, val_main_cst_1, val_main_cst_0, val_main_cst, tenk_eq, thirtytwo_eq]
  have e : Ideal.div (FloatOps.sitofp (F := Ideal) .f32 (BitVec.ofNat 32 j.val)) ((32 : ℝ) : EReal) = _ := div_real _ (by norm_num)
  rw [e]
  have p : (0 : ℝ) < Real.rpow 10000 (((BitVec.ofNat 32 j.val).toInt : ℝ) / 32) := Real.rpow_pos_of_pos (by norm_num) _
  exact ⟨_, mul_real rfl (div_real 1 p.ne')⟩

/-- The chunk of a row, as the mask computes it. -/
theorem chunk (t : Fin 2048) : val_main_v40 (F := Ideal) (ix1 t) = BitVec.ofNat 32 (t.val / 64) := by
  pointwise [val_main_v40, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_v39, val_main_c]
  revert t
  decide +kernel

theorem le_chunk : ∀ a b : Fin 32, IntOp.cmpi .sle (BitVec.ofNat 32 a.val) (BitVec.ofNat 32 b.val) = BitVec.ofBool (decide (a.val ≤ b.val)) := by decide +kernel

theorem mask (q k : Fin 2048) : val_main_v45 (F := Ideal) (ix2 q k) = BitVec.ofBool (decide (k.val / 64 ≤ q.val / 64)) := by
  pointwise [val_main_v45, val_main_v44, val_main_v43, val_main_v42, val_main_v41, chunk]
  exact le_chunk ⟨k.val / 64, by omega⟩ ⟨q.val / 64, by omega⟩

variable (x0 x1 x2 x3 x4 x5) in
/-- The arguments in numbers: the arrays' entries, the angles' tables and the greatest score of each row. -/
structure Nums (Q K V D : ℕ → ℕ → ℕ → ℝ) (R CO SI MX : ℕ → ℕ → ℝ) : Prop where
  q : Re3 x0 Q
  k : Re3 x1 K
  r : Re x2 R
  v : Re3 x3 V
  d : Re3 x5 D
  cos : Re (val_main_v17 (F := Ideal) x4) CO
  sin : Re (val_main_v18 (F := Ideal) x4) SI
  top : Re (val_main_v48 (F := Ideal) x0 x1 x2 x4) MX

section Forward

variable {Q K : ℕ → ℕ → ℕ → ℝ} {R CO SI : ℕ → ℕ → ℝ} (q : Re3 x0 Q) (k : Re3 x1 K) (r : Re x2 R) (cos : Re (val_main_v17 (F := Ideal) x4) CO) (sin : Re (val_main_v18 (F := Ideal) x4) SI)
include q cos sin

theorem turned : Re3 (val_main_v33 (F := Ideal) x0 x4) (fun t h e => rotQ Q CO SI t h e) := by
  intro t h e
  pointwise [val_main_v33, val_main_v32, val_main_v31, val_main_v27, val_main_v29, val_main_v24, val_main_v26, val_main_v23, val_main_v25, val_main_v28, val_main_v30, val_main_v22, val_main_v21, val_main_v19, val_main_v20, val_main_v3]
  unfold rotQ
  split_ifs with he
  · exact sub_real (mul_real (re3_at q _ rfl) (cos _ _)) (mul_real (re3_at q _ (show 128 + (32 + e.val) = 160 + e.val by omega)) (sin _ _))
  all_goals exact add_real (mul_real (re3_at q _ (show 128 + (32 + (e.val - 32)) = 128 + e.val by omega)) (cos _ _)) (mul_real (re3_at q _ (show 128 + (e.val - 32) = 96 + e.val by omega)) (sin _ _))

include k r
theorem scores : Re3 (val_main_v38 (F := Ideal) x0 x1 x2 x4) (score Q K R CO SI) := by
  intro h t s
  pointwise [val_main_v38, val_main_v37, val_main_v36, val_main_v35, val_main_v34, val_main_v1, val_main_v0, val_main_v2, val_main_cst_2, scale_eq]
  exact mul_real (add_real (sum_mul (fun e => Q t h e) (fun e => K s h e) (fun e => q t h _) fun e => k s h e)
    (sum_mul (fun e => rotQ Q CO SI t h e) (fun e => R s e) (fun e => turned q cos sin t h e) fun e => r s e)) rfl

theorem masked (h : Fin 8) (t s : Fin 2048) : val_main_v47_0 (F := Ideal) x0 x1 x2 x4 (ix3 h t s) = if s.val / 64 ≤ t.val / 64 then ((score Q K R CO SI h t s : ℝ) : EReal) else ⊥ := by
  pointwise [val_main_v47_0, val_main_v47_1, val_main_v46, val_main_call1_v2, mask, val_main_call1_v0, val_main_cst_3, ninf_eq]
  exact ite_congr rfl (fun _ => scores q k r cos sin h t s) fun _ => ninf_eq

theorem tops : ∃ MX : ℕ → ℕ → ℝ, Re (val_main_v48 (F := Ideal) x0 x1 x2 x4) MX := by
  have each (h : Fin 8) (t : Fin 2048) : ∃ M : ℝ, val_main_v48 (F := Ideal) x0 x1 x2 x4 (ix2 h t) = ((M : ℝ) : EReal) := by
    pointwise [val_main_v48, val_main_cst_4, ninf_eq]
    exact max_real (fun s => masked q k r cos sin h t s) t le_rfl
  choose M hM using each
  exact ⟨fun h t => if hh : h < 8 ∧ t < 2048 then M ⟨h, hh.1⟩ ⟨t, hh.2⟩ else 0, fun h t => by dsimp only; rw [hM, dif_pos ⟨h.isLt, t.isLt⟩]⟩

end Forward

section Softmax

variable {Q K V D : ℕ → ℕ → ℕ → ℝ} {R CO SI MX : ℕ → ℕ → ℝ} (n : Nums x0 x1 x2 x3 x4 x5 Q K V D R CO SI MX)
include n

theorem rowTop (h : Fin 8) (t : Fin 2048) : val_main_v55 (F := Ideal) x0 x1 x2 x4 (ix2 h t) = ((MX h t : ℝ) : EReal) := by
  have e : val_main_v54 (F := Ideal) (ix2 h t) = ⊥ := by pointwise [val_main_v54, val_main_cst_6, ninf_eq]
  rw [val_main_v55_apply, n.top h t, e]
  exact max_eq_right bot_le

/-- The exponential of a masked score against its row's greatest. -/
theorem exp_masked (h : Fin 8) (t s : Fin 2048) : Ideal.exp (val_main_v47_0 (F := Ideal) x0 x1 x2 x4 (ix3 h t s) - ((MX h t : ℝ) : EReal)) = ((expo Q K R CO SI MX h t s : ℝ) : EReal) := by
  rw [masked n.q n.k n.r n.cos n.sin]
  unfold expo
  split_ifs
  · rw [sub_real rfl rfl, Ideal.exp_coe]
  · rw [EReal.bot_sub, Ideal.exp_bot, EReal.coe_zero]

theorem expos : Re3 (val_main_v68 (F := Ideal) x0 x1 x2 x4) (expo Q K R CO SI MX) := by
  intro h t s
  pointwise [val_main_v68, val_main_v67, val_main_v66, val_main_v65]
  rw [rowTop n]
  exact exp_masked n h t s

theorem tots (h : Fin 8) (t : Fin 2048) (z : Fin 1) : val_main_v70 (F := Ideal) x0 x1 x2 x4 (ix3 h t z) = ((tot Q K R CO SI MX h t : ℝ) : EReal) := by
  pointwise [val_main_v70, val_main_v69, val_main_cst_12, Ideal.ofBits_zero_f32]
  exact sum_real fun s => expos n h t s

theorem probs : Re3 (val_main_v72 (F := Ideal) x0 x1 x2 x4) (prob Q K R CO SI MX) := by
  intro h t s
  pointwise [val_main_v72, val_main_v71]
  rw [expos n, tots n, div_real _ (tot_pos t.isLt).ne']
  rfl

theorem wcts : Re3 (val_main_v79 (F := Ideal) x3 x5) (wct V D) := by
  intro h t s
  pointwise [val_main_v79, val_main_v78]
  exact sum_mul (fun d => D t h d) (fun d => V s h d) (fun d => n.d t h d) fun d => n.v s h d

theorem scts : Re3 (val_main_v94 (F := Ideal) x0 x1 x2 x3 x4 x5) (sct Q K V D R CO SI MX) := by
  intro h t s
  have L := (tot_pos (Q := Q) (K := K) (R := R) (CO := CO) (SI := SI) (MX := MX) (h := h.val) t.isLt).ne'
  pointwise [val_main_v94, val_main_v93, val_main_v92, val_main_v91, val_main_v90, val_main_v89, val_main_v88, val_main_v87, val_main_v86, val_main_v85, val_main_v84, val_main_v83, val_main_v82, val_main_v75, val_main_v74, val_main_v73,
    val_main_cst_13, val_main_cst_14, val_main_cst_15, Ideal.ofBits_zero_f32, Ideal.ofBits_one_f32, val_main_v47_1, val_main_v46, mask, val_main_call2_v0]
  have key (j : Fin 2048) : val_main_v79 (F := Ideal) x3 x5 (ix3 h t j) * Ideal.div 1 (val_main_v70 (F := Ideal) x0 x1 x2 x4 (ix3 h t 0) * val_main_v70 (F := Ideal) x0 x1 x2 x4 (ix3 h t 0)) * val_main_v68 (F := Ideal) x0 x1 x2 x4 (ix3 h t j)
      = ((wct V D h t j * (1 / (tot Q K R CO SI MX h t * tot Q K R CO SI MX h t)) * expo Q K R CO SI MX h t j : ℝ) : EReal) := by
    rw [tots n, ← EReal.coe_mul, ← EReal.coe_one, div_real _ (mul_ne_zero L L)]
    exact mul_real (mul_real (wcts n h t j) rfl) (expos n h t j)
  have sums := sum_real (f := fun j => wct V D h t j * (1 / (tot Q K R CO SI MX h t * tot Q K R CO SI MX h t)) * expo Q K R CO SI MX h t j) key
  split_ifs with live
  · rw [Fin.sum_univ_one, sums, wcts n, tots n, expos n, div_real _ L, ← EReal.coe_neg, ← EReal.coe_add, ← EReal.coe_mul]
    refine congrArg _ ?_
    have inner : ∑ j ∈ Finset.range 2048, wct V D h t j * prob Q K R CO SI MX h t j
        = (∑ j ∈ Finset.range 2048, wct V D h t j * (1 / (tot Q K R CO SI MX h t * tot Q K R CO SI MX h t)) * expo Q K R CO SI MX h t j) * tot Q K R CO SI MX h t := by
      rw [Finset.sum_mul]
      refine Finset.sum_congr rfl fun j _ => ?_
      unfold prob
      field_simp
    unfold sct
    rw [inner]
    unfold prob
    field_simp
    ring
  · unfold sct prob expo
    rw [if_neg live, zero_div, zero_mul]
    exact Ideal.ofBits_zero_f32

theorem scaled : Re3 (val_main_v96 (F := Ideal) x0 x1 x2 x3 x4 x5) (fun h q k => sct Q K V D R CO SI MX h q k * theScale) := by
  intro h t s
  pointwise [val_main_v96, val_main_v95, val_main_cst_16, scale_eq]
  exact mul_real (scts n h t s) rfl

omit n in
theorem zero_int : FloatOps.sitofp (F := Ideal) .f32 (0#32) = ((0 : ℝ) : EReal) := by
  show (((BitVec.toInt 0#32 : ℤ) : ℝ) : EReal) = _
  norm_num

/-- A sum of the scores' cotangents against numbers. -/
theorem sum_scaled {x : Fin 2048 → EReal} {f : ℕ → ℝ} (h : Fin 8) (t s : Fin 2048) (hx : ∀ j, x j = ((f j.val : ℝ) : EReal)) :
    ∑ j : Fin 2048, val_main_v96 (F := Ideal) x0 x1 x2 x3 x4 x5 (ix3 h j s) * x j = ((∑ j ∈ Finset.range 2048, sct Q K V D R CO SI MX h j s * theScale * f j : ℝ) : EReal)
    ∧ ∑ j : Fin 2048, val_main_v96 (F := Ideal) x0 x1 x2 x3 x4 x5 (ix3 h t j) * x j = ((∑ j ∈ Finset.range 2048, sct Q K V D R CO SI MX h t j * theScale * f j : ℝ) : EReal) :=
  ⟨sum_mul (fun j => sct Q K V D R CO SI MX h j s * theScale) f (fun j => scaled n h j s) hx, sum_mul (fun j => sct Q K V D R CO SI MX h t j * theScale) f (fun j => scaled n h t j) hx⟩

/-- The gradient of the keys, their heads side by side, -/
theorem key_result : Re (val_main_v128 (F := Ideal) x0 x1 x2 x3 x4 x5) (fun k e => ∑ q ∈ Finset.range 2048, sct Q K V D R CO SI MX (e / 128) q k * theScale * Q q (e / 128) (e % 128)) := by
  intro t e
  pointwise [val_main_v128, val_main_v127, val_main_v101, val_main_v100, val_main_v2]
  exact (sum_scaled n ⟨e.val / 128, by omega⟩ t t (f := fun q => Q q (e.val / 128) (e.val % 128)) fun q => re3_at n.q _ rfl).1

/-- of the values, -/
theorem value_result : Re (val_main_v130 (F := Ideal) x0 x1 x2 x4 x5) (fun k e => ∑ q ∈ Finset.range 2048, D q (e / 128) (e % 128) * prob Q K R CO SI MX (e / 128) q k) := by
  intro t e
  pointwise [val_main_v130, val_main_v129, val_main_v81, val_main_v80, val_main_v78]
  exact sum_mul (fun q => D q (e.val / 128) (e.val % 128)) (fun q => prob Q K R CO SI MX (e.val / 128) q t) (fun q => re3_at n.d _ rfl) fun q => probs n ⟨e.val / 128, by omega⟩ q t

/-- of the rotated part of the keys, a head at a time and padded, -/
theorem rope_result : Re3 (val_main_v125 (F := Ideal) x0 x1 x2 x3 x4 x5) (fun h k e => if e < 64 then ∑ q ∈ Finset.range 2048, sct Q K V D R CO SI MX h q k * theScale * rotQ Q CO SI q h e else 0) := by
  intro h t e
  pointwise [val_main_v125, val_main_v97]
  by_cases he : e.val < 64
  · rw [dif_pos he, if_pos he]
    exact (sum_scaled n h t t (f := fun q => rotQ Q CO SI q h e) fun q => turned n.q n.cos n.sin q h ⟨e.val, he⟩).1
  · rw [dif_neg he, if_neg he]
    pointwise [val_main_call4_v0, val_main_c_22]
    exact zero_int

/-- the parts of a query row: the rotated part before it is turned back, -/
theorem rot_grad (h : Fin 8) (t : Fin 2048) {p : Fin 64} (p' : ℕ) (hp : p.val = p') : val_main_v99 (F := Ideal) x0 x1 x2 x3 x4 x5 (ix3 t h p) = ((rotGrad Q K V D R CO SI MX h t p' : ℝ) : EReal) := by
  pointwise [val_main_v99, val_main_v98, val_main_v1, val_main_v0]
  exact (sum_scaled n h t t (f := fun k => R k p') fun k => hp ▸ n.r k p).2

/-- the part without rotation, -/
theorem nope_grad (h : Fin 8) (t : Fin 2048) (e : Fin 128) : val_main_v103 (F := Ideal) x0 x1 x2 x3 x4 x5 (ix3 t h e) = ((∑ k ∈ Finset.range 2048, sct Q K V D R CO SI MX h t k * theScale * K k h e : ℝ) : EReal) := by
  pointwise [val_main_v103, val_main_v102]
  exact (sum_scaled n h t t (f := fun k => K k h e) fun k => n.k k h e).2

/-- the two halves turned back, -/
theorem back_high (h : Fin 8) (t : Fin 2048) (e : Fin 32) : val_main_v113 (F := Ideal) x0 x1 x2 x3 x4 x5 (ix3 t h e) = ((rotGrad Q K V D R CO SI MX h t (32 + e) * CO t e + -rotGrad Q K V D R CO SI MX h t e * SI t e : ℝ) : EReal) := by
  pointwise [val_main_v113, val_main_v112, val_main_v111, val_main_v110, val_main_v109, val_main_v108, val_main_v105, val_main_v104, val_main_v19, val_main_v20]
  exact add_real (mul_real (rot_grad n h t _ rfl) (n.cos t e)) (mul_real ((congrArg _ (rot_grad n h t _ rfl)).trans (EReal.coe_neg _).symm) (n.sin t e))

theorem back_low (h : Fin 8) (t : Fin 2048) (e : Fin 32) : val_main_v116 (F := Ideal) x0 x1 x2 x3 x4 x5 (ix3 t h e) = ((rotGrad Q K V D R CO SI MX h t (32 + e) * SI t e + rotGrad Q K V D R CO SI MX h t e * CO t e : ℝ) : EReal) := by
  pointwise [val_main_v116, val_main_v115, val_main_v114, val_main_v107, val_main_v106, val_main_v105, val_main_v104, val_main_v19, val_main_v20]
  exact add_real (mul_real (rot_grad n h t _ rfl) (n.sin t e)) (mul_real (rot_grad n h t _ rfl) (n.cos t e))

theorem back (h : Fin 8) (t : Fin 2048) (e : Fin 64) : val_main_v119 (F := Ideal) x0 x1 x2 x3 x4 x5 (ix3 t h e) = ((backGrad Q K V D R CO SI MX h t e : ℝ) : EReal) := by
  have z17 : val_main_cst_17 (F := Ideal) (Shape.Idx.first h_S_) = 0 := Ideal.ofBits_zero_f32
  have z18 : val_main_cst_18 (F := Ideal) (Shape.Idx.first h_S_) = 0 := Ideal.ofBits_zero_f32
  pointwise [val_main_v119, val_main_v118, val_main_v117]
  unfold backGrad
  by_cases h32 : e.val < 32
  · have c : ¬(32 ≤ e.val ∧ e.val - 32 < 32) := by omega
    rw [dif_neg c, dif_pos h32, if_pos h32, back_low n, z17, zero_add]
    exact congrArg _ (add_comm _ _)
  · have c : 32 ≤ e.val ∧ e.val - 32 < 32 := by omega
    have c' : 32 + (e.val - 32) = e.val := by omega
    rw [dif_pos c, dif_neg h32, if_neg h32, back_high n, z18, add_zero]
    dsimp only
    rw [c', neg_mul, sub_eq_add_neg]

set_option maxHeartbeats 1000000 in
/-- and of the queries. -/
theorem query_result : Re3 (val_main_v126 (F := Ideal) x0 x1 x2 x3 x4 x5) (fun h q e => queryGrad Q K V D R CO SI MX h q e) := by
  intro h t e
  have z19 : val_main_cst_19 (F := Ideal) (Shape.Idx.first h_S_) = 0 := Ideal.ofBits_zero_f32
  have z20 : val_main_cst_20 (F := Ideal) (Shape.Idx.first h_S_) = 0 := Ideal.ofBits_zero_f32
  pointwise [val_main_v126, val_main_v124, val_main_v123, val_main_v122, val_main_v121, val_main_v120]
  have nope := nope_grad n h t
  have turn := back n h t
  generalize val_main_v103 (F := Ideal) x0 x1 x2 x3 x4 x5 = a at nope ⊢
  generalize val_main_v119 (F := Ideal) x0 x1 x2 x3 x4 x5 = b at turn ⊢
  generalize val_main_cst_19 (F := Ideal) (Shape.Idx.first h_S_) = y at z19 ⊢
  generalize val_main_cst_20 (F := Ideal) (Shape.Idx.first h_S_) = z at z20 ⊢
  subst z19 z20
  unfold queryGrad
  by_cases h128 : e.val < 128
  · have c : ¬(128 ≤ e.val ∧ e.val - 128 < 64) := by omega
    have h192 : e.val < 192 := by omega
    simp only [h128, h192, c, ↓reduceDIte, ↓reduceIte, nope, zero_add]
  · by_cases h192 : e.val < 192
    · have c : 128 ≤ e.val ∧ e.val - 128 < 64 := by omega
      simp only [h128, h192, c, and_self, ↓reduceDIte, ↓reduceIte, turn, add_zero]
    · simp only [h128, h192, ↓reduceDIte, ↓reduceIte]
      pointwise [val_main_call3_v0, val_main_c_21]
      exact zero_int

end Softmax

/-- Finite arguments have their numbers. -/
theorem exists_nums (f0 : ∀ i, ∃ r : ℝ, x0 i = (r : EReal)) (f1 : ∀ i, ∃ r : ℝ, x1 i = (r : EReal)) (f2 : ∀ i, ∃ r : ℝ, x2 i = (r : EReal)) (f3 : ∀ i, ∃ r : ℝ, x3 i = (r : EReal)) (f5 : ∀ i, ∃ r : ℝ, x5 i = (r : EReal)) :
    ∃ (Q K V D : ℕ → ℕ → ℕ → ℝ) (R CO SI MX : ℕ → ℕ → ℝ), Nums x0 x1 x2 x3 x4 x5 Q K V D R CO SI MX := by
  have three {n k l : ℕ} {x : (⟨3, ![n, k, l]⟩ : Shape).Idx → EReal} (f : ∀ i, ∃ r : ℝ, x i = (r : EReal)) : ∃ X : ℕ → ℕ → ℕ → ℝ, Re3 x X := by
    choose X hX using f
    exact ⟨fun a b c => if h : a < n ∧ b < k ∧ c < l then X (ix3 ⟨a, h.1⟩ ⟨b, h.2.1⟩ ⟨c, h.2.2⟩) else 0, fun a b c => by dsimp only; rw [hX, dif_pos ⟨a.isLt, b.isLt, c.isLt⟩]⟩
  have two {n k : ℕ} {x : (⟨2, ![n, k]⟩ : Shape).Idx → EReal} (f : ∀ (a : Fin n) (b : Fin k), ∃ r : ℝ, x (ix2 a b) = (r : EReal)) : ∃ X : ℕ → ℕ → ℝ, Re x X := by
    choose X hX using f
    exact ⟨fun a b => if h : a < n ∧ b < k then X ⟨a, h.1⟩ ⟨b, h.2⟩ else 0, fun a b => by dsimp only; rw [hX, dif_pos ⟨a.isLt, b.isLt⟩]⟩
  obtain ⟨Q, hQ⟩ := three f0
  obtain ⟨K, hK⟩ := three f1
  obtain ⟨V, hV⟩ := three f3
  obtain ⟨D, hD⟩ := three f5
  obtain ⟨R, hR⟩ := two fun a b => f2 (ix2 a b)
  obtain ⟨CO, hC⟩ := two (x := val_main_v17 (F := Ideal) x4) fun a b => (angle (x4 := x4) a b).imp' Real.cos fun r hr => by
    rw [val_main_v17_apply, hr]; rfl
  obtain ⟨SI, hS⟩ := two (x := val_main_v18 (F := Ideal) x4) fun a b => (angle (x4 := x4) a b).imp' Real.sin fun r hr => by
    rw [val_main_v18_apply, hr]; rfl
  obtain ⟨MX, hM⟩ := tops hQ hK hR hC hS
  exact ⟨Q, K, V, D, R, CO, SI, MX, hQ, hK, hR, hV, hD, hC, hS, hM⟩

end Cert.AttnRefIdeal.Val

end
-- ==== Proof.Attn.Host.lean ====
module

public import proofs.«01_k».proof.Proof.Attn.Arrays
public import proofs.«01_k».proof.Proof.Attn.Ref
public import Idealize.ShloMosaic.Lib.StableHlo.ReadAt

@[expose] public section

set_option maxRecDepth 16384

noncomputable section

namespace Cert.AttnHost

open Idealize.ShloMosaic Idealize.ShloMosaic.TcCoe Idealize.SL.Sem
open Cert.AttnRefIdeal.Val (mul_real add_real sub_real div_real re3_at sum_real)
open Cert.AttnIdeal Cert.AttnIdeal.Gen Cert.AttnIdeal.Val Cert.AttnRefIdeal.Read

variable (m : (ℓ : Loc nD τ sig) → Buf (Elt Ideal) ℓ) (c : Dev nD)

/-- The kernel's own arguments. -/
abbrev a0 : FVec Ideal S2048x8x192 .f32 := m ((c : Thread nD τ).loc main_arg0)
abbrev a1 : FVec Ideal S2048x8x128 .f32 := m ((c : Thread nD τ).loc main_arg1)
abbrev a2 : FVec Ideal S2048x64 .f32 := m ((c : Thread nD τ).loc main_arg2)
abbrev a3 : FVec Ideal S2048x8x128 .f32 := m ((c : Thread nD τ).loc main_arg3)
abbrev a4 : Vec Ideal S2048 .i32 := m ((c : Thread nD τ).loc main_arg4)
abbrev a5 : FVec Ideal S2048x8x128 .f32 := m ((c : Thread nD τ).loc main_arg5)

/-- What the host's buffers hold once the scores are masked. -/
irreducible_def W : Valuation τ sig (Elt Ideal) := StableHlo.after (hostOps0 ++ (hostOps0_1 ++ (hostOps0_2 ++ hostOps0_3))) (fun b => m (c, b))

/-- The rest of the host's line starts from there. -/
theorem V_eq (b : Ref sig .tc) : V m c b = StableHlo.after hostOps0_4 (W m c) (Proc.devRef .tc b) := by
  rw [W_def, ← StableHlo.after_append]
  rfl

/-- The masked scores are the reference's, -/
theorem w47 : W m c (Proc.devRef .tc main_v47) = val_main_v47_0 (F := Ideal) (a0 m c) (a1 m c) (a2 m c) (a4 m c) := by
  rw [W_def]
  after_reads_simp
  rfl

theorem w_args : W m c (Proc.devRef .tc main_arg0) = a0 m c ∧ W m c (Proc.devRef .tc main_arg1) = a1 m c ∧ W m c (Proc.devRef .tc main_arg2) = a2 m c ∧ W m c (Proc.devRef .tc main_arg3) = a3 m c ∧ W m c (Proc.devRef .tc main_arg4) = a4 m c ∧ W m c (Proc.devRef .tc main_arg5) = a5 m c := by
  rw [W_def]
  refine ⟨?_, ?_, ?_, ?_, ?_, ?_⟩ <;> after_reads_simp

theorem s80 : StableHlo.after hostOps0_4 (W m c) (Proc.devRef .tc main_v80) = val_main_v17 (F := Ideal) (a4 m c) ∧ StableHlo.after hostOps0_4 (W m c) (Proc.devRef .tc main_v81) = val_main_v18 (F := Ideal) (a4 m c) := by
  constructor <;> (after_reads_simp; rw [(w_args m c).2.2.2.2.1]; rfl)

/-- The greatest score of each row, the sum of its exponentials against a number, and the weights. -/
def topOf (s : FVec Ideal S8x2048x2048 .f32) : FVec Ideal S8x2048 .f32 := Host.reduce FloatOps.maximumf s (constant S_ .f32 0xFF800000#32) reducesTo_S8x2048x2048_S8x2048_d2 h_S_
def expOf (s : FVec Ideal S8x2048x2048 .f32) (M : FVec Ideal S8x2048 .f32) : FVec Ideal S8x2048x2048 .f32 :=
  Host.exp (subf s (broadcastInDim S8x2048x2048 ![0, 1, 2] bcast_S8x2048x1_S8x2048x2048_0_1_2 (broadcastInDim S8x2048x1 ![0, 1] bcast_S8x2048_S8x2048x1_0_1 M)))
def sumOf (e : FVec Ideal S8x2048x2048 .f32) : FVec Ideal S8x2048 .f32 := Host.reduceAdd e (constant S_ .f32 0x00000000#32) reducesTo_S8x2048x2048_S8x2048_d2 h_S_

theorem two_eq : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [two_eq, Ideal.log_coe, if_neg (by norm_num)]

/-- What is kept of each row: its greatest score and the logarithm of its sum, over `log 2`. -/
def lseOf (M L : FVec Ideal S8x2048 .f32) : FVec Ideal S8x1x2048 .f32 :=
  shapeCast S8x1x2048 (Host.divf (addf (broadcastInDim S8x2048x1 ![0, 1] bcast_S8x2048_S8x2048x1_0_1 M) (Host.log (broadcastInDim S8x2048x1 ![0, 1] bcast_S8x2048_S8x2048x1_0_1 L))) (broadcastInDim S8x2048x1 ![] bcast_S_S8x2048x1 (Host.log (constant (F := Ideal) S_ .f32 0x40000000#32)))) shapeCasts_S8x2048x1_S8x1x2048

theorem lse_read : V m c main_v137 = lseOf (topOf (val_main_v47_0 (F := Ideal) (a0 m c) (a1 m c) (a2 m c) (a4 m c))) (sumOf (expOf (val_main_v47_0 (F := Ideal) (a0 m c) (a1 m c) (a2 m c) (a4 m c)) (topOf (val_main_v47_0 (F := Ideal) (a0 m c) (a1 m c) (a2 m c) (a4 m c))))) := by
  rw [V_eq]
  after_reads_simp
  rw [w47]
  generalize val_main_v47_0 (F := Ideal) (a0 m c) (a1 m c) (a2 m c) (a4 m c) = s
  rfl

section Found

variable {m c} {Q K Vv D : ℕ → ℕ → ℕ → ℝ} {R CO SI MX : ℕ → ℕ → ℝ} (n : Cert.AttnRefIdeal.Val.Nums (a0 m c) (a1 m c) (a2 m c) (a3 m c) (a4 m c) (a5 m c) Q K Vv D R CO SI MX)
include n

theorem top_at (h : Fin 8) (t : Fin 2048) : topOf (val_main_v47_0 (F := Ideal) (a0 m c) (a1 m c) (a2 m c) (a4 m c)) (ix2 h t) = ((MX h t : ℝ) : EReal) := n.top h t

theorem exp_at : Re3 (expOf (val_main_v47_0 (F := Ideal) (a0 m c) (a1 m c) (a2 m c) (a4 m c)) (topOf (val_main_v47_0 (F := Ideal) (a0 m c) (a1 m c) (a2 m c) (a4 m c)))) (expo Q K R CO SI MX) := by
  intro h t s
  have e := top_at n h t
  generalize topOf _ = M at e ⊢
  pointwise [expOf]
  rw [e]
  exact Cert.AttnRefIdeal.Val.exp_masked n h t s

theorem sum_at (h : Fin 8) (t : Fin 2048) : sumOf (expOf (val_main_v47_0 (F := Ideal) (a0 m c) (a1 m c) (a2 m c) (a4 m c)) (topOf (val_main_v47_0 (F := Ideal) (a0 m c) (a1 m c) (a2 m c) (a4 m c)))) (ix2 h t) = ((tot Q K R CO SI MX h t : ℝ) : EReal) := by
  have e := exp_at n
  generalize expOf _ _ = E at e ⊢
  pointwise [sumOf, Ideal.ofBits_zero_f32]
  exact sum_real fun s => e h t s

theorem cos_at (t : Fin 2048) (j : Fin 32) : Ideal.cos (FloatOps.sitofp (F := Ideal) .f32 (a4 m c (ix1 t)) * Ideal.div 1 (Ideal.pow (Ideal.ofBits .f32 0x461C4000#32) (Ideal.div (FloatOps.sitofp (F := Ideal) .f32 (BitVec.ofNat 32 j.val)) (Ideal.ofBits .f32 0x42000000#32)))) = ((CO t j : ℝ) : EReal) := by
  rw [← n.cos t j]
  pointwise [val_main_v17, val_main_v16, val_main_v15, val_main_v14, val_main_v13, val_main_v12, val_main_v11, val_main_v10, val_main_v9, val_main_v8, val_main_v7, val_main_v6, val_main_v5, val_main_v4, val_main_cst_1, val_main_cst_0, val_main_cst]

theorem sin_at (t : Fin 2048) (j : Fin 32) : Ideal.sin (FloatOps.sitofp (F := Ideal) .f32 (a4 m c (ix1 t)) * Ideal.div 1 (Ideal.pow (Ideal.ofBits .f32 0x461C4000#32) (Ideal.div (FloatOps.sitofp (F := Ideal) .f32 (BitVec.ofNat 32 j.val)) (Ideal.ofBits .f32 0x42000000#32)))) = ((SI t j : ℝ) : EReal) := by
  rw [← n.sin t j]
  pointwise [val_main_v18, val_main_v16, val_main_v15, val_main_v14, val_main_v13, val_main_v12, val_main_v11, val_main_v10, val_main_v9, val_main_v8, val_main_v7, val_main_v6, val_main_v5, val_main_v4, val_main_cst_1, val_main_cst_0, val_main_cst]

omit n in
theorem zero_real : (0 : EReal) = ((0 : ℝ) : EReal) := EReal.coe_zero.symm

omit n in
theorem scale_over : Ideal.div (Ideal.ofBits .f32 0x3D93CD3A#32) (Ideal.log (Ideal.ofBits .f32 0x40000000#32)) = ((theScale / Real.log 2 : ℝ) : EReal) := by
  rw [scale_eq, log_two, div_real _ log2_ne]

theorem f_q : Re3 (n := 8) (k := 2048) (l := 256) (V m c main_v126) (arrQ Q CO SI) := by
  intro h t e
  rw [V_eq]
  iterate 3
    try simp only [Matrix.cons_val_zero, Matrix.cons_val_one, Matrix.cons_val]
    try after_reads_at
  try simp only [(w_args m c).2.2.2.2.1, (w_args m c).1]
  unfold arrQ
  refine mul_real ?_ scale_over
  by_cases h128 : e.val < 128
  · simp only [h128, ↓reduceDIte, ↓reduceIte]
    exact n.q t h _
  by_cases h64 : e.val - 128 < 64
  · have h192 : e.val < 192 := by omega
    unfold rotQ
    by_cases h32 : e.val - 128 < 32
    · simp only [h128, h64, h192, h32, ↓reduceDIte, ↓reduceIte]
      exact sub_real (mul_real (n.q t h _) (cos_at n t ⟨e.val - 128, h32⟩))
        (mul_real (re3_at n.q _ (show 128 + (32 + (e.val - 128)) = 160 + (e.val - 128) by omega)) (sin_at n t ⟨e.val - 128, h32⟩))
    · simp only [h128, h64, h192, h32, ↓reduceDIte, ↓reduceIte]
      exact add_real (mul_real (re3_at n.q _ (show 128 + (32 + (e.val - 128 - 32)) = 128 + (e.val - 128) by omega)) (cos_at n t ⟨e.val - 128 - 32, by omega⟩))
        (mul_real (re3_at n.q _ (show 128 + (e.val - 128 - 32) = 96 + (e.val - 128) by omega)) (sin_at n t ⟨e.val - 128 - 32, by omega⟩))
  · have h192 : ¬e.val < 192 := by omega
    simp only [h128, h64, h192, ↓reduceDIte, ↓reduceIte]
    exact zero_real

theorem f_kn : Re (n := 2048) (k := 1024) (V m c main_v128) (arrH K) := by
  intro t e
  rw [V_eq]
  iterate 3
    try simp only [Matrix.cons_val_zero, Matrix.cons_val_one, Matrix.cons_val]
    try after_reads_at
  try simp only [(w_args m c).2.1]
  exact re3_at n.k _ rfl

theorem f_kr : Re (n := 2048) (k := 128) (V m c main_v130) (arrR R) := by
  intro t e
  rw [V_eq]
  iterate 3
    try simp only [Matrix.cons_val_zero, Matrix.cons_val_one, Matrix.cons_val]
    try after_reads_at
  try simp only [(w_args m c).2.2.1]
  unfold arrR
  split_ifs
  · exact n.r t _
  · exact zero_real

theorem f_v : Re (n := 2048) (k := 1024) (V m c main_v132) (arrH Vv) := by
  intro t e
  rw [V_eq]
  iterate 3
    try simp only [Matrix.cons_val_zero, Matrix.cons_val_one, Matrix.cons_val]
    try after_reads_at
  try simp only [(w_args m c).2.2.2.1]
  exact re3_at n.v _ rfl

theorem f_d : Re (n := 2048) (k := 1024) (V m c main_v136) (arrH D) := by
  intro t e
  rw [V_eq]
  iterate 3
    try simp only [Matrix.cons_val_zero, Matrix.cons_val_one, Matrix.cons_val]
    try after_reads_at
  try simp only [(w_args m c).2.2.2.2.2]
  exact re3_at n.d _ rfl

theorem f_cos : Re (n := 2048) (k := 128) (V m c main_v84) (arrC CO) := by
  intro t e
  rw [V_eq]
  iterate 3
    try simp only [Matrix.cons_val_zero, Matrix.cons_val_one, Matrix.cons_val]
    try after_reads_at
  try simp only [(w_args m c).2.2.2.2.1]
  unfold arrC
  split_ifs with h1 h2
  · exact cos_at n t ⟨e.val, h1⟩
  all_goals first | exact zero_real | exact cos_at n t ⟨e.val - 32, by assumption⟩ | omega

theorem f_sin : Re (n := 2048) (k := 128) (V m c main_v86) (arrS SI) := by
  intro t e
  rw [V_eq]
  iterate 3
    try simp only [Matrix.cons_val_zero, Matrix.cons_val_one, Matrix.cons_val]
    try after_reads_at
  try simp only [(w_args m c).2.2.2.2.1]
  unfold arrS
  split_ifs with h1 h2
  · exact (congrArg _ (sin_at n t ⟨e.val, h1⟩)).trans (EReal.coe_neg _).symm
  all_goals exact zero_real

theorem f_sin2 : Re (n := 2048) (k := 128) (V m c main_v87) (arrS2 SI) := by
  intro t e
  rw [V_eq]
  iterate 3
    try simp only [Matrix.cons_val_zero, Matrix.cons_val_one, Matrix.cons_val]
    try after_reads_at
  try simp only [(w_args m c).2.2.2.2.1]
  unfold arrS2
  split_ifs with h1 h2
  all_goals first | exact zero_real | exact sin_at n t ⟨e.val - 32, by assumption⟩ | omega

theorem lse_at (h : Fin 8) (z : Fin 1) (t : Fin 2048) (M L : FVec Ideal S8x2048 .f32) (eM : M (ix2 h t) = ((MX h t : ℝ) : EReal)) (eL : L (ix2 h t) = ((tot Q K R CO SI MX h t : ℝ) : EReal)) : lseOf M L (ix3 h z t) = ((lse Q K R CO SI MX h t : ℝ) : EReal) := by
  unfold lseOf
  pointwise [log_two]
  rw [eM, eL, Ideal.log_coe, if_neg (tot_pos t.isLt).not_ge, ← EReal.coe_add, div_real _ log2_ne]
  unfold lse
  rfl

theorem f_lse : Re3 (n := 8) (k := 1) (l := 2048) (V m c main_v137) (fun h _ t => lse Q K R CO SI MX h t) := by
  intro h z t
  rw [lse_read]
  exact lse_at n h z t _ _ (top_at n h t) (sum_at n h t)

theorem f_o : Re (n := 2048) (k := 1024) (V m c main_v134) (arrO Q K Vv R CO SI MX) := by
  intro t e
  have eE := exp_at n
  have eL := sum_at n
  rw [V_eq]
  after_reads_simp
  rw [w47, (w_args m c).2.2.2.1]
  change shapeCast S2048x1024 (transpose S2048x8x128 [2, 0, 1] (Host.dotGeneral dot_S2048x8x128_S8x2048x2048_S8x128x2048_0_2_2_1_1_0 none (a3 m c)
    (Host.divf (expOf _ (topOf _)) (broadcastInDim S8x2048x2048 ![0, 1, 2] bcast_S8x2048x1_S8x2048x2048_0_1_2 (broadcastInDim S8x2048x1 ![0, 1] bcast_S8x2048_S8x2048x1_0_1 (sumOf (expOf _ (topOf _)))))))
    transposes_S8x128x2048_S2048x8x128_2_0_1) shapeCasts_S2048x8x128_S2048x1024 (ix2 t e) = _
  generalize sumOf _ = L at eL ⊢
  generalize expOf _ _ = E at eE ⊢
  pointwise []
  refine (sum_mul (fun k => Vv k (e.val / 128) (e.val % 128)) (fun k => prob Q K R CO SI MX (e.val / 128) t k) (fun k => re3_at n.v _ rfl) fun k => ?_).trans (congrArg _ (Finset.sum_congr rfl fun k _ => mul_comm _ _))
  rw [eE, eL, div_real _ (tot_pos t.isLt).ne']
  rfl

/-- What the launch finds. -/
theorem found : Found m c (arrH K) (arrR R) (arrH Vv) (arrO Q K Vv R CO SI MX) (arrH D) (arrQ Q CO SI) (lse Q K R CO SI MX) (arrC CO) (arrS SI) (arrS2 SI) :=
  ⟨f_q n, f_kn n, f_kr n, f_v n, f_o n, f_d n, f_lse n, f_cos n, f_sin n, f_sin2 n⟩

end Found

end Cert.AttnHost

end
-- ==== Proof.Attn.Finite.lean ====
module

public import proofs.«01_k».proof.Proof.Gen.Pre_attn_finite
public import Idealize.ShloMosaic.Lib.Pipeline.ValueKit
public import Idealize.ShloMosaic.Lib.Pointwise

@[expose] public section

noncomputable section

/-! What the precondition of the attention's gradient says: its arrays hold real numbers. -/

namespace Cert.AttnFinite

open Idealize.ShloMosaic Cert.Pre_attn_finite

/-- An extended real whose absolute value stays under `+∞` is a real number. -/
theorem real_of_abs {x : EReal} (h : max x (-x) < ⊤) : ∃ r : ℝ, x = ((r : ℝ) : EReal) := by
  induction x with
  | bot => simp at h
  | top => simp at h
  | coe r => exact ⟨r, rfl⟩

/-- Where the greatest absolute value of an array is under `+∞`, every entry is a real number. -/
theorem reals {s : Shape} {axes : List (Fin s.rank)} (x : FVec Ideal s .f32) (h : s.ReducesTo axes S_) (h0 : 0 < S_.numel)
    (e : cmpf (F := Ideal) .olt (Host.reduce FloatOps.maximumf (Host.absf x) (constant (F := Ideal) S_ .f32 0xFF800000#32) h h0) (constant (F := Ideal) S_ .f32 0x7F800000#32) = fun _ => 1#1) (i : s.Idx) :
    ∃ r : ℝ, x i = ((r : ℝ) : EReal) := by
  have e0 := congrFun e ix0
  rw [show cmpf (F := Ideal) .olt (Host.reduce FloatOps.maximumf (Host.absf x) (constant (F := Ideal) S_ .f32 0xFF800000#32) h h0) (constant (F := Ideal) S_ .f32 0x7F800000#32) ix0
    = BitVec.ofBool (decide (Host.reduce FloatOps.maximumf (Host.absf x) (constant (F := Ideal) S_ .f32 0xFF800000#32) h h0 ix0 < constant (F := Ideal) S_ .f32 0x7F800000#32 ix0)) from rfl] at e0
  have lt : Host.reduce FloatOps.maximumf (Host.absf x) (constant (F := Ideal) S_ .f32 0xFF800000#32) h h0 ix0 < constant (F := Ideal) S_ .f32 0x7F800000#32 ix0 := by
    by_contra hn
    rw [decide_eq_false hn] at e0
    exact absurd e0 (by decide)
  rw [Host.reduce_eq_fold] at lt
  refine real_of_abs ?_
  have := (Finset.fold_max_lt (s := Finset.univ.filter fun i => h.drop i = ix0) (f := fun i => max (x i) (-(x i))) (b := (constant (F := Ideal) S_ .f32 0xFF800000#32) (Shape.Idx.first h0)) (c := (⊤ : EReal))).mp
    (lt_of_lt_of_le (α := EReal) lt le_top)
  exact this.2 i (Finset.mem_filter.mpr ⟨Finset.mem_univ _, funext fun a => a.elim0⟩)

theorem and_one {p q : IVec S_ 1} (h : andi p q = fun _ => 1#1) : p = (fun _ => 1#1) ∧ q = fun _ => 1#1 := by
  have two : ∀ a b : BitVec 1, a &&& b = 1#1 → a = 1#1 ∧ b = 1#1 := by decide
  exact ⟨funext fun i => (two _ _ (congrFun h i)).1, funext fun i => (two _ _ (congrFun h i)).2⟩

/-- The precondition makes every entry of the five float arrays a real number. -/
theorem args {x0 : FVec Ideal S2048x8x192 .f32} {x1 : FVec Ideal S2048x8x128 .f32} {x2 : FVec Ideal S2048x64 .f32} {x3 : FVec Ideal S2048x8x128 .f32} {x4 : IVec S2048 32} {x5 : FVec Ideal S2048x8x128 .f32}
    (h : fn (F := Ideal) x0 x1 x2 x3 x4 x5 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
    ∧ (∀ i, ∃ r : ℝ, x3 i = ((r : ℝ) : EReal)) ∧ ∀ i, ∃ r : ℝ, x5 i = ((r : ℝ) : EReal) := by
  obtain ⟨h, h5⟩ := and_one h
  obtain ⟨h, h3⟩ := and_one h
  obtain ⟨h, h2⟩ := and_one h
  obtain ⟨h0, h1⟩ := and_one h
  exact ⟨reals x0 _ _ h0, reals x1 _ _ h1, reals x2 _ _ h2, reals x3 _ _ h3, reals x5 _ _ h5⟩

end Cert.AttnFinite

end
-- ==== Proof.Attn.Claim.lean ====
module

public import proofs.«01_k».proof.Defs
public import proofs.«01_k».proof.Proof.Attn.Host
public import proofs.«01_k».proof.Proof.Attn.Finite
public import proofs.«01_k».proof.Proof.Attn.Frame

@[expose] public section

set_option maxRecDepth 16384

noncomputable section

/-! The pair of the attention's gradient: kernel and reference end with the same four arrays. -/

namespace Cert.AttnClaim

open Idealize.ShloMosaic Idealize.ShloMosaic.TcCoe Idealize.SL.Sem
open Cert.AttnIdeal Cert.AttnIdeal.Gen Cert.AttnIdeal.Own Cert.AttnIdeal.Val Cert.AttnHost Cert.AttnRefIdeal.Read

variable (m : (ℓ : Loc nD τ sig) → Buf (Elt Ideal) ℓ) (ρ : Dev nD → PrngReg)

/-- The kernel's run: its result arrays are what the steps wrote to them, its arguments are kept. -/
theorem run : θ_run defs (onTc (τ := τ) (main (F := Ideal))) ⟨m, fun _ => 0, ρ⟩ fun r => ∀ c : Dev nD,
      r.2.mem ((c : Thread nD τ).loc main_v138_0) = (dats m 0 c).arrAt 10 cfg0.N
      ∧ r.2.mem ((c : Thread nD τ).loc main_v138_1) = (dats m 0 c).arrAt 11 cfg0.N
      ∧ r.2.mem ((c : Thread nD τ).loc main_v138_2) = (dats m 0 c).arrAt 12 cfg0.N
      ∧ r.2.mem ((c : Thread nD τ).loc main_v138_3) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1.1 c).1 10, (h.1.1 c).1 11, (h.1.1 c).1 12, (h.1.1 c).1 13, h.2.1 c⟩)
    (θ_run_and (Cert.AttnIdeal.Own.run_main m ρ) (Cert.AttnIdeal.Own.frame m ρ))

section Out

variable {m} {c : Dev nD} {Q K Vv D : ℕ → ℕ → ℕ → ℝ} {R CO SI MX : ℕ → ℕ → ℝ} (n : Cert.AttnRefIdeal.Val.Nums (a0 m c) (a1 m c) (a2 m c) (a3 m c) (a4 m c) (a5 m c) Q K Vv D R CO SI MX)
include n

theorem out0 : (dats m 0 c).arrAt 10 cfg0.N = val_main_v126 (F := Ideal) (a0 m c) (a1 m c) (a2 m c) (a3 m c) (a4 m c) (a5 m c) := by
  funext i
  idx_vars i
  exact ((dq_array (found n) i0 i1 i2).trans (congrArg _ (queryGrad_eq i0 i1.isLt i2.isLt))).trans (Cert.AttnRefIdeal.Val.query_result n i0 i1 i2).symm

theorem out1 : (dats m 0 c).arrAt 11 cfg0.N = val_main_v128 (F := Ideal) (a0 m c) (a1 m c) (a2 m c) (a3 m c) (a4 m c) (a5 m c) := by
  funext i
  idx_vars i
  exact ((dkn_array (found n) i0 i1).trans (congrArg _ (gradKN_eq _ i0 (Nat.mod_lt _ (by norm_num))))).trans (Cert.AttnRefIdeal.Val.key_result n i0 i1).symm

theorem out2 : (dats m 0 c).arrAt 12 cfg0.N = val_main_v125 (F := Ideal) (a0 m c) (a1 m c) (a2 m c) (a3 m c) (a4 m c) (a5 m c) := by
  funext i
  idx_vars i
  exact ((dkr_array (found n) i0 i1 i2).trans (congrArg _ (gradKR_eq i0 i1 i2))).trans (Cert.AttnRefIdeal.Val.rope_result n i0 i1 i2).symm

theorem out3 : (dats m 0 c).arrAt 13 cfg0.N = val_main_v130 (F := Ideal) (a0 m c) (a1 m c) (a2 m c) (a4 m c) (a5 m c) := by
  funext i
  idx_vars i
  exact ((dv_array (found n) i0 i1).trans (congrArg _ (gradV_eq _ i0 (Nat.mod_lt _ (by norm_num))))).trans (Cert.AttnRefIdeal.Val.value_result n i0 i1).symm

end Out

/-- Finite arguments have their numbers. -/
theorem nums {m : (ℓ : Loc nD τ sig) → Buf (Elt Ideal) ℓ} (h : Cert.Pre_AttnIdeal_attn_finite m) (c : Dev nD) :
    ∃ (Q K V D : ℕ → ℕ → ℕ → ℝ) (R CO SI MX : ℕ → ℕ → ℝ), Cert.AttnRefIdeal.Val.Nums (a0 m c) (a1 m c) (a2 m c) (a3 m c) (a4 m c) (a5 m c) Q K V D R CO SI MX := by
  obtain ⟨f0, f1, f2, f3, f5⟩ := Cert.AttnFinite.args (h c)
  exact Cert.AttnRefIdeal.Val.exists_nums f0 f1 f2 f3 f5

/-- The reference's results at its own arguments. -/
theorem reference (m' : (ℓ : Loc Cert.AttnRefIdeal.nD Cert.AttnRefIdeal.τ Cert.AttnRefIdeal.sig) → Buf (Elt Ideal) ℓ) (g' : Dev Cert.AttnRefIdeal.nD → PrngReg) :
    θ_run (Cert.AttnRefIdeal.defs (F := Ideal)) (onTc (τ := Cert.AttnRefIdeal.τ) (Cert.AttnRefIdeal.main (F := Ideal))) ⟨m', fun _ => 0, g'⟩ fun r => ∀ c : Dev Cert.AttnRefIdeal.nD,
      let a (b : Ref Cert.AttnRefIdeal.sig .tc) := m' ((c.tc : Thread Cert.AttnRefIdeal.nD Cert.AttnRefIdeal.τ).loc b)
      let o (b : Ref Cert.AttnRefIdeal.sig .tc) := r.2.mem ((c.tc : Thread Cert.AttnRefIdeal.nD Cert.AttnRefIdeal.τ).loc b)
      (o Cert.AttnRefIdeal.main_v126 = val_main_v126 (F := Ideal) (a Cert.AttnRefIdeal.main_arg0) (a Cert.AttnRefIdeal.main_arg1) (a Cert.AttnRefIdeal.main_arg2) (a Cert.AttnRefIdeal.main_arg3) (a Cert.AttnRefIdeal.main_arg4) (a Cert.AttnRefIdeal.main_arg5)
      ∧ o Cert.AttnRefIdeal.main_v128 = val_main_v128 (F := Ideal) (a Cert.AttnRefIdeal.main_arg0) (a Cert.AttnRefIdeal.main_arg1) (a Cert.AttnRefIdeal.main_arg2) (a Cert.AttnRefIdeal.main_arg3) (a Cert.AttnRefIdeal.main_arg4) (a Cert.AttnRefIdeal.main_arg5)
      ∧ o Cert.AttnRefIdeal.main_v125 = val_main_v125 (F := Ideal) (a Cert.AttnRefIdeal.main_arg0) (a Cert.AttnRefIdeal.main_arg1) (a Cert.AttnRefIdeal.main_arg2) (a Cert.AttnRefIdeal.main_arg3) (a Cert.AttnRefIdeal.main_arg4) (a Cert.AttnRefIdeal.main_arg5)
      ∧ o Cert.AttnRefIdeal.main_v130 = val_main_v130 (F := Ideal) (a Cert.AttnRefIdeal.main_arg0) (a Cert.AttnRefIdeal.main_arg1) (a Cert.AttnRefIdeal.main_arg2) (a Cert.AttnRefIdeal.main_arg4) (a Cert.AttnRefIdeal.main_arg5))
      ∧ o Cert.AttnRefIdeal.main_arg0 = a Cert.AttnRefIdeal.main_arg0 ∧ o Cert.AttnRefIdeal.main_arg1 = a Cert.AttnRefIdeal.main_arg1 ∧ o Cert.AttnRefIdeal.main_arg2 = a Cert.AttnRefIdeal.main_arg2
      ∧ o Cert.AttnRefIdeal.main_arg3 = a Cert.AttnRefIdeal.main_arg3 ∧ o Cert.AttnRefIdeal.main_arg4 = a Cert.AttnRefIdeal.main_arg4 ∧ o Cert.AttnRefIdeal.main_arg5 = a Cert.AttnRefIdeal.main_arg5 :=
  (θ_run Cert.AttnRefIdeal.defs _ _).mono (fun r h c => ⟨⟨(h c).1.trans (val_main_v126_eq (StableHlo.launchContents m' c)), (h c).2.1.trans (val_main_v128_eq (StableHlo.launchContents m' c)),
    (h c).2.2.1.trans (val_main_v125_eq (StableHlo.launchContents m' c)), (h c).2.2.2.1.trans (val_main_v130_eq (StableHlo.launchContents m' c))⟩, (h c).2.2.2.2⟩) (Cert.AttnRefIdeal.Value.run m' g')

/-- Kernel and reference agree at the extended reals, their arguments finite. -/
theorem algebraic : Cert.algebraic_AttnIdeal_AttnRefIdeal_pre_attn_finite := by
  intro m g m' g' hpre hagree
  refine ⟨_, _, _, _, run m g, (θ_run Cert.AttnRefIdeal.defs _ _).mono (fun r h c => ?_) (reference m' g')⟩
  obtain ⟨Q, K, V, D, R, CO, SI, MX, n⟩ := nums hpre c
  obtain ⟨e0, e1, e2, e3, e4, e5⟩ := hagree c
  obtain ⟨⟨h0, h1, h2, h3⟩, kept⟩ := h c
  dsimp only at h0 h1 h2 h3
  rw [e0, e1, e2, e3, e4, e5] at h0 h1 h2
  rw [e0, e1, e2, e4, e5] at h3
  exact ⟨h0.trans (out0 n).symm, h1.trans (out1 n).symm, h2.trans (out2 n).symm, h3.trans (out3 n).symm, kept⟩

end Cert.AttnClaim

end
-- ==== Proof.Reals.lean ====
module

public import proofs.«01_k».proof.Proof.Attn.Finite

@[expose] public section

noncomputable section

/-! Extended reals that are real numbers, and what keeps them so. -/

namespace Cert.Reals

open Idealize.ShloMosaic

/-- An extended real that is a real number. -/
def IsReal (x : EReal) : Prop := ∃ r : ℝ, x = ((r : ℝ) : EReal)

variable {x y : EReal}

theorem IsReal.coe (r : ℝ) : IsReal (r : EReal) := ⟨r, rfl⟩
theorem IsReal.zero : IsReal 0 := ⟨0, rfl⟩
theorem IsReal.add (hx : IsReal x) (hy : IsReal y) : IsReal (x + y) := by
  obtain ⟨a, rfl⟩ := hx; obtain ⟨b, rfl⟩ := hy; exact ⟨a + b, (EReal.coe_add a b).symm⟩
theorem IsReal.sub (hx : IsReal x) (hy : IsReal y) : IsReal (x - y) := by
  obtain ⟨a, rfl⟩ := hx; obtain ⟨b, rfl⟩ := hy; exact ⟨a - b, (EReal.coe_sub a b).symm⟩
theorem IsReal.mul (hx : IsReal x) (hy : IsReal y) : IsReal (x * y) := by
  obtain ⟨a, rfl⟩ := hx; obtain ⟨b, rfl⟩ := hy; exact ⟨a * b, (EReal.coe_mul a b).symm⟩

theorem IsReal.sum {ι : Type*} {s : Finset ι} {f : ι → EReal} (h : ∀ i ∈ s, IsReal (f i)) : IsReal (∑ i ∈ s, f i) := by
  classical
  induction s using Finset.induction_on with
  | empty => rw [Finset.sum_empty]; exact .zero
  | insert a s ha ih =>
    rw [Finset.sum_insert ha]
    exact (h a (Finset.mem_insert_self a s)).add (ih fun i hi => h i (Finset.mem_insert_of_mem hi))

/-- A sum of products of real numbers. -/
theorem IsReal.dot {ι : Type*} [Fintype ι] {f g : ι → EReal} (hf : ∀ i, IsReal (f i)) (hg : ∀ i, IsReal (g i)) : IsReal (∑ i, f i * g i) :=
  .sum fun i _ => (hf i).mul (hg i)

end Cert.Reals

end
-- ==== Proof.Dact.Spec.lean ====
module

public import proofs.«01_k».proof.Proof.Mixer.Spec

@[expose] public section

noncomputable section

/-! The gradient of the feed-forward block's convolution and gate, entry by entry over the extended reals: what both programs are shown to compute. -/

namespace Cert.DactSpec

open Idealize.ShloMosaic Cert.MixerSpec

/-- The cotangent, the projection's weights in four blocks of columns, a pair of gates, the taps and the offsets. -/
abbrev C := (⟨2, ![2048, 1024]⟩ : Shape).Idx → EReal
abbrev WD := (⟨4, ![1, 4, 704, 1024]⟩ : Shape).Idx → EReal
abbrev G := (⟨3, ![4, 2048, 704]⟩ : Shape).Idx → EReal
abbrev WC := (⟨3, ![4, 3, 704]⟩ : Shape).Idx → EReal
abbrev BC := (⟨3, ![4, 1, 704]⟩ : Shape).Idx → EReal

/-- One half, as the programs write it. -/
abbrev half : EReal := Ideal.ofBits .f32 0x3F000000#32

/-- The logistic function through the hyperbolic tangent. -/
def sg (x : EReal) : EReal := half * Ideal.tanh (half * x) + half

variable (ct : C) (wd : WD) (g v : G) (w : WC) (b : BC)

/-- The gradient that comes through the output projection. -/
def da (j : Fin 4) (d : Fin 704) (t : Fin 2048) : EReal := ∑ k : Fin 1024, ct (ix2 t k) * wd (ix4 0 j d k)

/-- One column of a gate. -/
def col (j : Fin 4) (d : Fin 704) (t : Fin 2048) : EReal := g (ix3 j t d)

/-- The convolution's result. -/
def gc (j : Fin 4) (d : Fin 704) (n : ℕ) : EReal :=
  ((back (col g j d) 2 n * w (ix3 j 0 d) + back (col g j d) 1 n * w (ix3 j 1 d)) + back (col g j d) 0 n * w (ix3 j 2 d)) + b (ix3 j 0 d)

/-- The gradient of the gate's linear half. -/
def dv (j : Fin 4) (t : Fin 2048) (d : Fin 704) : EReal :=
  da ct wd j d t * (gc g w b j d t * sg (gc g w b j d t))

/-- The gradient of the convolution's result. -/
def dgc (j : Fin 4) (d : Fin 704) (t : Fin 2048) : EReal :=
  (da ct wd j d t * v (ix3 j t d)) * (sg (gc g w b j d t) + (gc g w b j d t * sg (gc g w b j d t)) * (1 - sg (gc g w b j d t)))

/-- The gradient of the convolution's input. -/
def dg (j : Fin 4) (t : Fin 2048) (d : Fin 704) : EReal :=
  (dgc ct wd g v w b j d t * w (ix3 j 2 d) + at0 (dgc ct wd g v w b j d) (t + 1) * w (ix3 j 1 d))
    + at0 (dgc ct wd g v w b j d) (t + 2) * w (ix3 j 0 d)

/-- The gradient of the taps. -/
def dw (j : Fin 4) (k : Fin 3) (d : Fin 704) : EReal :=
  ∑ t : Fin 2048, dgc ct wd g v w b j d t * back (col g j d) (2 - k) t

/-- The gradient of the offsets. -/
def db (j : Fin 4) (d : Fin 704) : EReal := ∑ t : Fin 2048, dgc ct wd g v w b j d t

end Cert.DactSpec

end
-- ==== Proof.Dact.Kernel.lean ====
module

public import proofs.«01_k».proof.Proof.Gen.DactIdeal.Value
public import proofs.«01_k».proof.Proof.Dact.Spec

@[expose] public section

set_option maxRecDepth 16384

noncomputable section

/-! The kernel's four result arrays, entry by entry. -/

namespace Cert.DactIdeal.Val

open Cert.DactIdeal Cert.DactIdeal.Gen Cert.MixerSpec Cert.DactSpec Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev ctA (c : Dev nD) : C := V m c main_v4
abbrev wdA (c : Dev nD) : WD := V m c main_v6
abbrev gA (c : Dev nD) : G := V m c main_v9
abbrev vA (c : Dev nD) : G := V m c main_v12
abbrev wA (c : Dev nD) : WC := V m c main_v14
abbrev bA (c : Dev nD) : BC := V m c main_v15

/-- Where each window's block lies. -/
theorem idx : ∀ t : Fin cfg0.N, (grid0.coords t 0).val = t.val / 4 ∧ (grid0.coords t 1).val = t.val % 4
    ∧ win0_0.index t = ![t.val % 4, 0] ∧ win0_1.index t = ![min (32 * (t.val % 4 + 1)) 127, 0]
    ∧ win0_2.index t = ![0, t.val / 4, 0, 0] ∧ win0_3.index t = ![t.val / 4, t.val % 4, 0] ∧ win0_4.index t = ![t.val / 4, 32 * (t.val % 4) - 1, 0]
    ∧ win0_5.index t = ![t.val / 4, min (32 * (t.val % 4 + 1)) 127, 0] ∧ win0_6.index t = ![t.val / 4, t.val % 4, 0] ∧ win0_7.index t = ![t.val / 4, min (32 * (t.val % 4 + 1)) 127, 0]
    ∧ win0_8.index t = ![t.val / 4, 0, 0] ∧ win0_9.index t = ![t.val / 4, 0, 0] ∧ win0_10.index t = ![t.val / 4, t.val % 4, 0] ∧ win0_11.index t = ![t.val / 4, t.val % 4, 0]
    ∧ win0_12.index t = ![t.val / 4, 0, 0] ∧ win0_13.index t = ![t.val / 4, 0, 0] :=
  (by decide +kernel : ∀ t : Fin grid0.N, _)

theorem lt16 (t : Fin cfg0.N) : t.val < 16 := lt_of_lt_of_eq t.isLt N_0

theorem sgt_word : ∀ n : Fin 4, Scalar.cmpi .sgt (BitVec.ofNat 32 n.val) 0#32 = BitVec.ofBool (decide (0 < n.val)) := by decide
theorem slt_word : ∀ n : Fin 4, Scalar.cmpi .slt (BitVec.ofNat 32 n.val) 3#32 = BitVec.ofBool (decide (n.val < 3)) := by decide

theorem lt_word : ∀ n : Fin 528, IntOp.cmpi .slt (BitVec.ofNat 32 n.val) 512#32 = BitVec.ofBool (decide (n.val < 512)) := by decide +kernel

/-- The column block and the row a point works at. -/
abbrev jb (t : Fin cfg0.N) : Fin 4 := ⟨t.val / 4, by have := lt16 t; omega⟩

section Point

variable (c : Dev nD) (t : Fin cfg0.N) (d : Fin 704)

/-- What the point computes, stage by stage. -/
abbrev p3 := k0_pay3 (grid0.coords t) (iblk m c 0 t) (iblk m c 1 t) (iblk m c 2 t)
abbrev p4 := k0_pay4 (grid0.coords t) (iblk m c 4 t) (iblk m c 3 t) (iblk m c 5 t)
abbrev p5 := k0_pay5 (grid0.coords t) (iblk m c 4 t) (iblk m c 3 t) (iblk m c 5 t)
abbrev p9 := k0_pay9 (p4 m c t) (p5 m c t) 1#32 (iblk m c 8 t) (iblk m c 9 t)
abbrev p10 := k0_pay10 (p4 m c t) (p5 m c t) 1#32 (iblk m c 8 t) (iblk m c 9 t)
abbrev p11 := k0_pay11 (iblk m c 6 t) (iblk m c 7 t)
abbrev p12 := k0_pay12 (p4 m c t) (p5 m c t) 1#32 (iblk m c 8 t) (iblk m c 9 t)
abbrev p14 := k0_pay14 (p3 m c t) (p10 m c t) (p11 m c t) (p12 m c t)

theorem p3_eq (r : Fin 528) : p3 m c t (ix2 r d) = at0 (da (ctA m c) (wdA m c) (jb t) d) (512 * (t.val % 4) + r.val) := by
  have ht := lt16 t
  pointwise [p3, k0_pay3]
  rw [(idx t).2.1, slt_word ⟨t.val % 4, by omega⟩]
  have hw : IntOp.cmpi .slt (BitVec.ofNat 32 r.val) 512#32 = BitVec.ofBool (decide (r.val < 512)) := lt_word r
  rw [hw]
  have hor : IntOp.ori (BitVec.ofBool (decide (t.val % 4 < 3))) (BitVec.ofBool (decide (r.val < 512))) = BitVec.ofBool (decide (512 * (t.val % 4) + r.val < 2048)) := by
    rw [show decide (512 * (t.val % 4) + r.val < 2048) = (decide (t.val % 4 < 3) || decide (r.val < 512)) by rw [← Bool.decide_or]; exact decide_eq_decide.2 (by omega)]
    cases decide (t.val % 4 < 3) <;> cases decide (r.val < 512) <;> rfl
  rw [hor, Scalar.select_ofBool]
  by_cases h : 512 * (t.val % 4) + r.val < 2048
  · rw [if_pos (decide_eq_true h), at0_lt _ h]
    refine Finset.sum_congr rfl fun k _ => congrArg₂ (· * ·) ?_ ?_
    · split
      · blk_ext [iblk, idx t]
      · blk_ext [iblk, idx t]
    · blk_ext [iblk, idx t]
  · rw [if_neg (by simpa using h), at0, dif_neg h]

theorem p4_eq (r : Fin 544) (h : 512 * (t.val % 4) + r.val < 2064) : p4 m c t (ix2 r d) = back (col (gA m c) (jb t) d) 16 (512 * (t.val % 4) + r.val) := by
  have ht := lt16 t
  pointwise [p4, k0_pay4]
  split
  · rw [(idx t).2.1, sgt_word ⟨t.val % 4, by omega⟩, Scalar.select_ofBool]
    by_cases h0 : 0 < t.val % 4
    · rw [if_pos (decide_eq_true h0), back_ge _ (by omega) (by omega)]
      blk_ext [iblk, idx t]
    · rw [if_neg (by simpa using h0), back_lt _ (by omega)]
  · rw [back_ge _ (by omega) (by omega)]
    split
    · blk_ext [iblk, idx t]
    · blk_ext [iblk, idx t]

theorem p5_eq (r : Fin 528) (h : 512 * (t.val % 4) + r.val < 2048) : p5 m c t (ix2 r d) = back (col (gA m c) (jb t) d) 2 (512 * (t.val % 4) + r.val) := by
  pointwise [p5, k0_pay5]
  refine (p4_eq m c t d ⟨(16 + r.val + 544 - 2) % 544, by omega⟩ (by dsimp only; omega)).trans (back_add _ (by dsimp only; omega))

theorem p6_eq (r : Fin 528) (h : 512 * (t.val % 4) + r.val < 2048) : k0_pay6 (p4 m c t) 1#32 (ix2 r d) = back (col (gA m c) (jb t) d) 1 (512 * (t.val % 4) + r.val) := by
  pointwise [k0_pay6]
  refine (p4_eq m c t d ⟨(16 + r.val + 544 - 1) % 544, by omega⟩ (by dsimp only; omega)).trans (back_add _ (by dsimp only; omega))

theorem p7_eq (r : Fin 528) (h : 512 * (t.val % 4) + r.val < 2048) : k0_pay7 (p4 m c t) (ix2 r d) = back (col (gA m c) (jb t) d) 0 (512 * (t.val % 4) + r.val) := by
  pointwise [k0_pay7]
  refine (p4_eq m c t d ⟨16 + r.val, by omega⟩ (by dsimp only; omega)).trans (back_add _ (by dsimp only; omega))

theorem p9_eq (r : Fin 528) (h : 512 * (t.val % 4) + r.val < 2048) : p9 m c t (ix2 r d) = gc (gA m c) (wA m c) (bA m c) (jb t) d (512 * (t.val % 4) + r.val) := by
  pointwise [p9, k0_pay9, k0_pay8]
  rw [p5_eq m c t d r h, p6_eq m c t d r h, p7_eq m c t d r h]
  refine congrArg₂ (· + ·) (congrArg₂ (· + ·) (congrArg₂ (· + ·) (congrArg _ ?_) (congrArg _ ?_)) (congrArg _ ?_)) ?_ <;> blk_ext [iblk, idx t]

theorem p10_eq (r : Fin 528) (h : 512 * (t.val % 4) + r.val < 2048) : p10 m c t (ix2 r d) = sg (gc (gA m c) (wA m c) (bA m c) (jb t) d (512 * (t.val % 4) + r.val)) := by
  refine Eq.trans ?_ (congrArg sg (p9_eq m c t d r h))
  pointwise [p10, p9, k0_pay10]
  rfl

theorem p11_eq (r : Fin 528) (h : 512 * (t.val % 4) + r.val < 2048) : p11 m c t (ix2 r d) = vA m c (ix3 (jb t) ⟨512 * (t.val % 4) + r.val, h⟩ d) := by
  have ht := lt16 t
  pointwise [p11, k0_pay11]
  split
  · blk_ext [iblk, idx t]
  · blk_ext [iblk, idx t]

theorem p14_eq (r : Fin 528) : p14 m c t (ix2 r d) = at0 (dgc (ctA m c) (wdA m c) (gA m c) (vA m c) (wA m c) (bA m c) (jb t) d) (512 * (t.val % 4) + r.val) := by
  rw [show p14 m c t (ix2 r d) = p3 m c t (ix2 r d) * p11 m c t (ix2 r d) *
      (p10 m c t (ix2 r d) + p9 m c t (ix2 r d) * p10 m c t (ix2 r d) * (1 - p10 m c t (ix2 r d))) by
    pointwise [p14, k0_pay14, k0_pay12], p3_eq]
  by_cases h : 512 * (t.val % 4) + r.val < 2048
  · rw [p9_eq m c t d r h, p10_eq m c t d r h, p11_eq m c t d r h, at0_lt _ h, at0_lt _ h]
    rfl
  · rw [at0, dif_neg h, at0, dif_neg h, zero_mul, zero_mul]

theorem w_eq (k : Fin 3) : iblk m c 8 t (ix3 0 k d) = wA m c (ix3 (jb t) k d) := by
  blk_ext [iblk, idx t]

theorem w8_eq (k : Fin 3) : k0_pay8 (iblk m c 8 t) (ix2 k d) = wA m c (ix3 (jb t) k d) := by
  pointwise [k0_pay8]
  exact w_eq m c t d k

theorem p15_eq (r : Fin 512) : k0_pay15 (p3 m c t) (p10 m c t) (p11 m c t) (p12 m c t) (ix2 r d)
    = at0 (dgc (ctA m c) (wdA m c) (gA m c) (vA m c) (wA m c) (bA m c) (jb t) d) (512 * (t.val % 4) + r.val) := by
  pointwise [k0_pay15]
  exact p14_eq m c t d ⟨r.val, by omega⟩

/-- What a point stores. -/
theorem pay13_eq (r : Fin 512) (h : 512 * (t.val % 4) + r.val < 2048) :
    k0_pay13 (p3 m c t) (p4 m c t) (p5 m c t) 1#32 (iblk m c 8 t) (iblk m c 9 t) (ix3 0 r d)
      = dv (ctA m c) (wdA m c) (gA m c) (wA m c) (bA m c) (jb t) ⟨512 * (t.val % 4) + r.val, h⟩ d := by
  pointwise [k0_pay13]
  refine congrArg₂ (· * ·) ((p3_eq m c t d ⟨r.val, by omega⟩).trans (at0_lt _ h)) ?_
  pointwise [k0_pay12]
  exact congrArg₂ (· * ·) (p9_eq m c t d ⟨r.val, by omega⟩ h) (p10_eq m c t d ⟨r.val, by omega⟩ h)

theorem pay16_eq (r : Fin 512) (h : 512 * (t.val % 4) + r.val < 2048) :
    k0_pay16 (p3 m c t) (k0_pay8 (iblk m c 8 t)) (p10 m c t) (p11 m c t) (p12 m c t) (ix3 0 r d)
      = dg (ctA m c) (wdA m c) (gA m c) (vA m c) (wA m c) (bA m c) (jb t) ⟨512 * (t.val % 4) + r.val, h⟩ d := by
  have k1 := p14_eq m c t d ⟨(r.val + 528 - 527) % 528, by omega⟩
  have k2 := p14_eq m c t d ⟨(r.val + 528 - 526) % 528, by omega⟩
  rw [show 512 * (t.val % 4) + (r.val + 528 - 527) % 528 = 512 * (t.val % 4) + r.val + 1 by omega] at k1
  rw [show 512 * (t.val % 4) + (r.val + 528 - 526) % 528 = 512 * (t.val % 4) + r.val + 2 by omega] at k2
  pointwise [k0_pay16]
  rw [p15_eq, at0_lt _ h, w8_eq, w8_eq, w8_eq]
  exact congrArg₂ (· + ·) (congrArg₂ (· + ·) rfl (congrArg (· * _) k1)) (congrArg (· * _) k2)

theorem pay17_eq (k : Fin 3) :
    k0_pay17 (p3 m c t) (p5 m c t) (k0_pay6 (p4 m c t) 1#32) (k0_pay7 (p4 m c t)) (p10 m c t) (p11 m c t) (p12 m c t) (ix2 k d)
      = ∑ r : Fin 512, at0 (dgc (ctA m c) (wdA m c) (gA m c) (vA m c) (wA m c) (bA m c) (jb t) d) (t.val % 4 * 512 + r.val) * back (col (gA m c) (jb t) d) (2 - k) (t.val % 4 * 512 + r.val) := by
  rw [Nat.mul_comm (t.val % 4)]
  pointwise [k0_pay17]
  fin_vals k with hk <;> simp only [hk, Nat.reduceSub, Nat.reduceLT, ↓reduceDIte] <;>
    refine Finset.sum_congr rfl fun r _ => congrArg₂ (· * ·) (p15_eq m c t d r) ?_
  · exact p5_eq m c t d ⟨r.val, by omega⟩ (by dsimp only; omega)
  · exact p6_eq m c t d ⟨r.val, by omega⟩ (by dsimp only; omega)
  · exact p7_eq m c t d ⟨r.val, by omega⟩ (by dsimp only; omega)

theorem pay18_eq :
    k0_pay18 (p3 m c t) (p10 m c t) (p11 m c t) (p12 m c t) (ix2 0 d)
      = ∑ r : Fin 512, at0 (dgc (ctA m c) (wdA m c) (gA m c) (vA m c) (wA m c) (bA m c) (jb t) d) (t.val % 4 * 512 + r.val) := by
  rw [Nat.mul_comm (t.val % 4)]
  pointwise [k0_pay18]
  exact Finset.sum_congr rfl fun r _ => p15_eq m c t d r

end Point

/-- The gradient of the gate's convolved half. -/
theorem final10 (c : Dev nD) (j : Fin 4) (t : Fin 2048) (d : Fin 704) :
    (dats m 0 c).arrAt 10 cfg0.N (ix3 j t d) = dg (ctA m c) (wdA m c) (gA m c) (vA m c) (wA m c) (bA m c) j t d := by
  refine congrFun ((dats m 0 c).arrAt_eq_of_covers 10 (fun i => dg (ctA m c) (wdA m c) (gA m c) (vA m c) (wA m c) (bA m c) (i 0) (i 1) (i 2)) (by decide +kernel) fun t hf y => ?_) (ix3 j t d)
  idx_vars y
  obtain rfl : y0 = 0 := Subsingleton.elim _ _
  have ht := lt16 t
  blk_simp
  rw [after0_10, show (win0_10.blk t).view.emb (ix3 0 y1 y2) = ix3 (jb t) ⟨512 * (t.val % 4) + y1.val, by omega⟩ y2 by blk_ext [idx t]]
  by_cases h4 : t.val % 4 = 0
  · rw [outsAt0_A m c t h4 (by omega)]
    frame_out
    exact pay16_eq m c t y2 y1 (by omega)
  · rw [outsAt0_B m c t h4 (by omega)]
    frame_out
    exact pay16_eq m c t y2 y1 (by omega)

/-- The gradient of the gate's linear half. -/
theorem final11 (c : Dev nD) (j : Fin 4) (t : Fin 2048) (d : Fin 704) :
    (dats m 0 c).arrAt 11 cfg0.N (ix3 j t d) = dv (ctA m c) (wdA m c) (gA m c) (wA m c) (bA m c) j t d := by
  refine congrFun ((dats m 0 c).arrAt_eq_of_covers 11 (fun i => dv (ctA m c) (wdA m c) (gA m c) (wA m c) (bA m c) (i 0) (i 1) (i 2)) (by decide +kernel) fun t hf y => ?_) (ix3 j t d)
  idx_vars y
  obtain rfl : y0 = 0 := Subsingleton.elim _ _
  have ht := lt16 t
  blk_simp
  rw [after0_11, show (win0_11.blk t).view.emb (ix3 0 y1 y2) = ix3 (jb t) ⟨512 * (t.val % 4) + y1.val, by omega⟩ y2 by blk_ext [idx t]]
  by_cases h4 : t.val % 4 = 0
  · rw [outsAt0_A m c t h4 (by omega)]
    frame_out
    exact pay13_eq m c t y2 y1 (by omega)
  · rw [outsAt0_B m c t h4 (by omega)]
    frame_out
    exact pay13_eq m c t y2 y1 (by omega)

/-- A sum over the rows, tile by tile. -/
theorem sum_tiles (f : ℕ → EReal) : ∑ s : Fin 4, ∑ r : Fin 512, f (s.val * 512 + r.val) = ∑ t : Fin 2048, f t.val :=
  Fin.sum_mul_add_congr (fun _ _ _ => rfl) rfl

theorem sum_run (t : Fin cfg0.N) (hr : t.val % 4 = 3) (f : Fin 4 → ℕ → EReal) (g : Fin 2048 → EReal) (h : ∀ r : Fin 2048, f (jb t) r.val = g r) :
    ∑ s : Fin 4, ∑ r : Fin 512, f (jb ⟨4 * (t.val / 4) + s.val, Pipeline.run_point_lt_of_flush t (by omega) s⟩) ((4 * (t.val / 4) + s.val) % 4 * 512 + r.val)
      = ∑ r, g r := by
  refine Eq.trans (Finset.sum_congr rfl fun s _ => ?_) ((sum_tiles (f (jb t))).trans (Finset.sum_congr rfl fun r _ => h r))
  have e1 : jb (⟨4 * (t.val / 4) + s.val, Pipeline.run_point_lt_of_flush t (by omega) s⟩ : Fin cfg0.N) = jb t := Fin.ext (by dsimp only; omega)
  have e2 : (4 * (t.val / 4) + s.val) % 4 = s.val := by omega
  rw [e1]
  simp only [e2]

/-- The last point of a column block is the one that writes back its sums. -/
theorem flush12 : ∀ t : Fin cfg0.N, (win0 12).flush t = true → t.val % 4 = 3 :=
  (by decide +kernel : ∀ t : Fin grid0.N, _)
theorem flush13 : ∀ t : Fin cfg0.N, (win0 13).flush t = true → t.val % 4 = 3 :=
  (by decide +kernel : ∀ t : Fin grid0.N, _)

/-- The gradient of the taps. -/
theorem final12 (c : Dev nD) (j : Fin 4) (k : Fin 3) (d : Fin 704) :
    (dats m 0 c).arrAt 12 cfg0.N (ix3 j k d) = dw (ctA m c) (wdA m c) (gA m c) (vA m c) (wA m c) (bA m c) j k d := by
  refine congrFun ((dats m 0 c).arrAt_eq_of_covers 12 (fun i => dw (ctA m c) (wdA m c) (gA m c) (vA m c) (wA m c) (bA m c) (i 0) (i 1) (i 2)) (by decide +kernel) fun t hf y => ?_) (ix3 j k d)
  idx_vars y
  obtain rfl : y0 = 0 := Subsingleton.elim _ _
  have ht := lt16 t
  have hr := flush12 t hf
  blk_simp
  rw [after0_12, show (win0_12.blk t).view.emb (ix3 0 y1 y2) = ix3 (jb t) y1 y2 by blk_ext [idx t]]
  rw [Pipeline.eq_sum_fin_of_reset_step_apply_of_flush (fun n h => (outsAt0 m c n h).2.2.1) 4 (fun _ => 0)
    (fun t i => ∑ r : Fin 512, at0 (dgc (ctA m c) (wdA m c) (gA m c) (vA m c) (wA m c) (bA m c) (jb t) (i 2)) (t.val % 4 * 512 + r.val)
      * back (col (gA m c) (jb t) (i 2)) (2 - (i 1).val) (t.val % 4 * 512 + r.val))
    (fun t h i => by
      rw [outsAt0_A m c t h (by omega), zero_add]
      frame_out
      idx_vars i
      obtain rfl : i0 = 0 := Subsingleton.elim _ _
      pointwise [k0_pay19]
      exact pay17_eq m c t i2 i1)
    (fun t h i => by
      rw [outsAt0_B m c t h (by omega)]
      frame_out
      idx_vars i
      obtain rfl : i0 = 0 := Subsingleton.elim _ _
      pointwise [k0_pay1]
      exact congrArg _ (pay17_eq m c t i2 i1))
    t (by omega) _, zero_add]
  exact sum_run t hr (fun j n => at0 (dgc (ctA m c) (wdA m c) (gA m c) (vA m c) (wA m c) (bA m c) j y2) n * back (col (gA m c) j y2) (2 - y1.val) n) _
    fun r => congrArg (· * _) (at0_lt _ r.isLt)

/-- The gradient of the offsets. -/
theorem final13 (c : Dev nD) (j : Fin 4) (d : Fin 704) :
    (dats m 0 c).arrAt 13 cfg0.N (ix3 j 0 d) = db (ctA m c) (wdA m c) (gA m c) (vA m c) (wA m c) (bA m c) j d := by
  refine congrFun ((dats m 0 c).arrAt_eq_of_covers 13 (fun i => db (ctA m c) (wdA m c) (gA m c) (vA m c) (wA m c) (bA m c) (i 0) (i 2)) (by decide +kernel) fun t hf y => ?_) (ix3 j 0 d)
  idx_vars y
  obtain rfl : y0 = 0 := Subsingleton.elim _ _
  obtain rfl : y1 = 0 := Subsingleton.elim _ _
  have ht := lt16 t
  have hr := flush13 t hf
  blk_simp
  rw [after0_13, show (win0_13.blk t).view.emb (ix3 0 0 y2) = ix3 (jb t) 0 y2 by blk_ext [idx t]]
  rw [Pipeline.eq_sum_fin_of_reset_step_apply_of_flush (fun n h => (outsAt0 m c n h).2.2.2) 4 (fun _ => 0)
    (fun t i => ∑ r : Fin 512, at0 (dgc (ctA m c) (wdA m c) (gA m c) (vA m c) (wA m c) (bA m c) (jb t) (i 2)) (t.val % 4 * 512 + r.val))
    (fun t h i => by
      rw [outsAt0_A m c t h (by omega), zero_add]
      frame_out
      idx_vars i
      obtain rfl : i0 = 0 := Subsingleton.elim _ _
      obtain rfl : i1 = 0 := Subsingleton.elim _ _
      pointwise [k0_pay20]
      exact pay18_eq m c t i2)
    (fun t h i => by
      rw [outsAt0_B m c t h (by omega)]
      frame_out
      idx_vars i
      obtain rfl : i0 = 0 := Subsingleton.elim _ _
      obtain rfl : i1 = 0 := Subsingleton.elim _ _
      pointwise [k0_pay2]
      exact congrArg _ (pay18_eq m c t i2))
    t (by omega) _, zero_add]
  exact sum_run t hr (fun j n => at0 (dgc (ctA m c) (wdA m c) (gA m c) (vA m c) (wA m c) (bA m c) j y2) n) _ fun r => at0_lt _ r.isLt

end Cert.DactIdeal.Val

end
-- ==== Proof.Dact.Logistic.lean ====
module

public import proofs.«01_k».proof.Proof.Dact.Spec

@[expose] public section

noncomputable section

/-! The logistic function written through the hyperbolic tangent, and the product rule of the gate. -/

namespace Cert.DactSpec

open Idealize.ShloMosaic

theorem half_eq : half = ((2⁻¹ : ℝ) : EReal) := by
  simp [half, Ideal.ofBits, Ideal.ieee, -EReal.coe_mul]; norm_num

/-- Through the hyperbolic tangent the logistic function has the values it has through the exponential. -/
theorem sg_eq (x : EReal) : sg x = Ideal.logistic x := by
  unfold sg
  rw [half_eq]
  induction x with
  | bot =>
    rw [EReal.coe_mul_bot_of_pos (by norm_num), Ideal.tanh_bot, Ideal.logistic_bot, show (-1 : EReal) = ((-1 : ℝ) : EReal) from rfl]
    norm_cast
    norm_num
  | top =>
    rw [EReal.coe_mul_top_of_pos (by norm_num), Ideal.tanh_top, Ideal.logistic_top, mul_one]
    norm_cast
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(2⁻¹ * r)) * Real.exp (-(2⁻¹ * r)) := by rw [← Real.exp_add]; congr 1; ring
    have k : Real.exp (2⁻¹ * r) * Real.exp (-(2⁻¹ * r)) = 1 := by rw [← Real.exp_add]; simp
    have p := Real.exp_pos (2⁻¹ * r)
    have q := Real.exp_pos (-(2⁻¹ * r))
    rw [e]
    generalize Real.exp (2⁻¹ * r) = a at *
    generalize Real.exp (-(2⁻¹ * r)) = b at *
    field_simp
    nlinarith [k]

/-- The logistic function's values are real numbers. -/
theorem logistic_real (x : EReal) : ∃ s : ℝ, Ideal.logistic x = ((s : ℝ) : EReal) := by
  induction x with
  | bot => exact ⟨0, Ideal.logistic_bot⟩
  | top => exact ⟨1, Ideal.logistic_top⟩
  | coe r => exact ⟨_, Ideal.logistic_coe r⟩

/-- The product rule of the gate, the incoming gradient a real number. -/
theorem silu_rule {t : EReal} (ht : ∃ r : ℝ, t = ((r : ℝ) : EReal)) (x : EReal) :
    t * (Ideal.logistic x + (x * Ideal.logistic x) * (1 - Ideal.logistic x))
      = t * Ideal.logistic x + (x * t) * (Ideal.logistic x * (1 - Ideal.logistic x)) := by
  obtain ⟨r, rfl⟩ := ht
  induction x with
  | bot => simp
  | top =>
    rw [Ideal.logistic_top, show (1 : EReal) - 1 = 0 from EReal.sub_self (by decide) (by decide)]
    simp
  | coe x =>
    obtain ⟨s, hs⟩ := logistic_real (x : EReal)
    rw [hs, show (1 : EReal) = ((1 : ℝ) : EReal) from rfl]
    norm_cast
    ring

end Cert.DactSpec

end
-- ==== Proof.Dact.Ref.lean ====
module

public import proofs.«01_k».proof.Proof.Gen.DactRefIdeal.Read
public import proofs.«01_k».proof.Proof.Dact.Logistic

@[expose] public section

set_option maxRecDepth 16384

noncomputable section

/-! The reference's four results, entry by entry. -/

namespace Cert.DactRefIdeal.Val

open Cert.DactRefIdeal Cert.DactRefIdeal.Read Cert.MixerSpec Cert.DactSpec Idealize.ShloMosaic Idealize.ShloMosaic.TcCoe Idealize.SL.Sem

/-- A channel: the block it lies in and its place there. -/
abbrev ch (j : Fin 4) (d : Fin 704) : Fin 2816 := ⟨j.val * 704 + d.val, by omega⟩

variable (x0 : FVec Ideal S2048x1024 .f32) (x1 : FVec Ideal S1024x5632 .f32) (x2 : FVec Ideal S3x2816 .f32)
  (x3 : FVec Ideal S2816 .f32) (x4 : FVec Ideal S2816x1024 .f32) (x5 : FVec Ideal S2048x1024 .f32)

/-- The gates, the taps, the offsets and the weights in blocks of channels. -/
def g : G := fun i => val_main_v1 (F := Ideal) x0 x1 (ix2 (i 1) (ch (i 0) (i 2)))
def v : G := fun i => val_main_v2 (F := Ideal) x0 x1 (ix2 (i 1) (ch (i 0) (i 2)))
def w : WC := fun i => x2 (ix2 (i 1) (ch (i 0) (i 2)))
def b : BC := fun i => x3 (ix1 (ch (i 0) (i 2)))
def wd : WD := fun i => x4 (ix2 (ch (i 1) (i 2)) (i 3))

variable (j : Fin 4) (d : Fin 704)

/-- The gates under two rows of zeros. -/
theorem v4_eq (n : Fin 2050) : val_main_v4 (F := Ideal) x0 x1 (ix2 n (ch j d)) = back (col (g x0 x1) j d) 2 n := by
  pointwise [val_main_v4, val_main_v3, val_main_cst]
  split
  · rw [back_lt _ (by omega)]
  · rw [back_ge _ (by omega) (by omega)]; rfl

theorem v6_eq (t : Fin 2048) : val_main_v6 (F := Ideal) x0 x1 (ix2 t (ch j d)) = back (col (g x0 x1) j d) 2 t := by
  pointwise [val_main_v6]
  exact v4_eq x0 x1 j d ⟨t.val, by omega⟩

theorem v12_eq (t : Fin 2048) : val_main_v12 (F := Ideal) x0 x1 (ix2 t (ch j d)) = back (col (g x0 x1) j d) 1 t := by
  pointwise [val_main_v12]
  exact (v4_eq x0 x1 j d ⟨1 + t.val, by omega⟩).trans (back_add _ (by dsimp only; omega))

theorem v19_eq (t : Fin 2048) : val_main_v19 (F := Ideal) x0 x1 (ix2 t (ch j d)) = back (col (g x0 x1) j d) 0 t := by
  pointwise [val_main_v19]
  exact (v4_eq x0 x1 j d ⟨2 + t.val, by omega⟩).trans (back_add _ (by dsimp only; omega))

theorem v28_eq (t : Fin 2048) : val_main_v28 (F := Ideal) x0 x1 x2 x3 (ix2 t (ch j d)) = gc (g x0 x1) (w x2) (b x3) j d t := by
  pointwise [val_main_v28, val_main_v27, val_main_v26, val_main_v25, val_main_v24, val_main_v23, val_main_v22, val_main_v21, val_main_v20, val_main_v18,
    val_main_v17, val_main_v16, val_main_v15, val_main_v14, val_main_v13, val_main_v11, val_main_v10, val_main_v9, val_main_v8, val_main_v7]
  rw [v6_eq, v12_eq, v19_eq]
  rfl

theorem v29_eq (t : Fin 2048) : val_main_v29_2 (F := Ideal) x0 x1 x2 x3 (ix2 t (ch j d)) = sg (gc (g x0 x1) (w x2) (b x3) j d t) := by
  rw [sg_eq, ← v28_eq]
  pointwise [val_main_v29_2, val_main_call0_v4, val_main_call0_cst_0, val_main_call0_v3, val_main_call0_v2, val_main_call0_cst, val_main_call0_v1, val_main_call0_v0]
  rfl

theorem v32_eq (t : Fin 2048) : val_main_v32 (F := Ideal) x4 x5 (ix2 t (ch j d)) = da x5 (wd x4) j d t := by
  pointwise [val_main_v32]
  rfl

theorem v33_eq (t : Fin 2048) : val_main_v33 (F := Ideal) x0 x1 x2 x3 x4 x5 (ix2 t (ch j d)) = dv x5 (wd x4) (g x0 x1) (w x2) (b x3) j t d := by
  pointwise [val_main_v33, val_main_v29_0]
  rw [v32_eq, v28_eq, v29_eq]
  exact mul_comm _ _

variable (hx : ∀ t : Fin 2048, ∃ r : ℝ, da x5 (wd x4) j d t * v x0 x1 (ix3 j t d) = ((r : ℝ) : EReal))

include hx in
theorem v35_eq (t : Fin 2048) : val_main_v35 (F := Ideal) x0 x1 x2 x3 x4 x5 (ix2 t (ch j d)) = dgc x5 (wd x4) (g x0 x1) (v x0 x1) (w x2) (b x3) j d t := by
  unfold dgc
  rw [sg_eq, silu_rule (hx t), ← sg_eq, ← v28_eq, ← v32_eq x4 x5]
  pointwise [val_main_v35, val_main_call1_v2, val_main_call1_v1, val_main_call1_v0, val_main_v34, val_main_v29_1, val_main_call0_v7, val_main_call0_v6, val_main_call0_cst_1]
  rw [v29_eq, v28_eq]
  rfl

omit hx in
/-- The gates' gradient as the reference sums it: three moved copies of the convolution's. -/
theorem v71_at (t : Fin 2048) (e : Fin 2816) : val_main_v71 (F := Ideal) x0 x1 x2 x3 x4 x5 (ix2 t e)
    = (val_main_v35 (F := Ideal) x0 x1 x2 x3 x4 x5 (ix2 t e) * x2 (ix2 2 e) + at0 (fun t => val_main_v35 (F := Ideal) x0 x1 x2 x3 x4 x5 (ix2 t e)) (t + 1) * x2 (ix2 1 e))
      + at0 (fun t => val_main_v35 (F := Ideal) x0 x1 x2 x3 x4 x5 (ix2 t e)) (t + 2) * x2 (ix2 0 e) := by
  pointwise [val_main_v71, val_main_v69, val_main_v68, val_main_v63, val_main_v62, val_main_v58, val_main_v57, val_main_v52, val_main_v51, val_main_v47, val_main_v43, val_main_v42,
    val_main_v22, val_main_v21, val_main_v20, val_main_v15, val_main_v14, val_main_v13, val_main_v9, val_main_v8, val_main_v7, val_main_cst_6, val_main_cst_10, val_main_cst_14]
  refine congrArg₂ (· + ·) (congrArg₂ (· + ·) rfl ?_) ?_
  · rw [← at0_mul]
    unfold at0
    by_cases h : t.val + 1 < 2048
    · rw [dif_pos (by omega), dif_pos h]
      simp only [show 2 + t.val - 1 = t.val + 1 by omega]
    · rw [dif_neg (by omega), dif_neg h]
  · rw [← at0_mul, add_comm t.val 2]
    rfl

include hx in
theorem v71_eq (t : Fin 2048) : val_main_v71 (F := Ideal) x0 x1 x2 x3 x4 x5 (ix2 t (ch j d)) = dg x5 (wd x4) (g x0 x1) (v x0 x1) (w x2) (b x3) j t d := by
  rw [v71_at]
  simp only [v35_eq x0 x1 x2 x3 x4 x5 j d hx]
  rfl

omit hx in
theorem v67_at (k : Fin 3) (e : Fin 2816) (f : Fin 2048 → EReal) (u : ℕ → ℕ → EReal) (h : ∀ t, val_main_v35 (F := Ideal) x0 x1 x2 x3 x4 x5 (ix2 t e) = f t)
    (h6 : ∀ t, val_main_v6 (F := Ideal) x0 x1 (ix2 t e) = u 2 t.val) (h12 : ∀ t, val_main_v12 (F := Ideal) x0 x1 (ix2 t e) = u 1 t.val)
    (h19 : ∀ t, val_main_v19 (F := Ideal) x0 x1 (ix2 t e) = u 0 t.val) :
    val_main_v67 (F := Ideal) x0 x1 x2 x3 x4 x5 (ix2 k e) = ∑ t : Fin 2048, f t * u (2 - k) t := by
  pointwise [val_main_v67, val_main_v66, val_main_v65, val_main_v64, val_main_v61, val_main_v60, val_main_v59, val_main_v56, val_main_v55, val_main_v54, val_main_v53, val_main_v50,
    val_main_v49, val_main_v48, val_main_v46, val_main_v45, val_main_v44, val_main_v41, val_main_v40, val_main_v39, val_main_cst_3, val_main_cst_4, val_main_cst_5, val_main_cst_7,
    val_main_cst_8, val_main_cst_9, val_main_cst_11, val_main_cst_12, val_main_cst_13]
  simp only [h, h6, h12, h19, Fin.sum_univ_one, Finset.univ_unique, Finset.sum_singleton]
  fin_vals k with hk <;> simp [hk, mul_comm]

include hx in
theorem v67_eq (k : Fin 3) : val_main_v67 (F := Ideal) x0 x1 x2 x3 x4 x5 (ix2 k (ch j d)) = DactSpec.dw x5 (wd x4) (g x0 x1) (v x0 x1) (w x2) (b x3) j k d :=
  v67_at x0 x1 x2 x3 x4 x5 k (ch j d) (dgc x5 (wd x4) (g x0 x1) (v x0 x1) (w x2) (b x3) j d) (back (col (g x0 x1) j d)) (v35_eq x0 x1 x2 x3 x4 x5 j d hx)
    (v6_eq x0 x1 j d) (v12_eq x0 x1 j d) (v19_eq x0 x1 j d)

include hx in
theorem v38_eq : val_main_v38 (F := Ideal) x0 x1 x2 x3 x4 x5 (ix1 (ch j d)) = db x5 (wd x4) (g x0 x1) (v x0 x1) (w x2) (b x3) j d := by
  pointwise [val_main_v38, val_main_v37, val_main_v36, val_main_cst_1, val_main_cst_2]
  simp only [v35_eq x0 x1 x2 x3 x4 x5 j d hx, Fin.sum_univ_one, Finset.univ_unique, Finset.sum_singleton]
  simp [db]

/-- The results, in blocks of channels. -/
theorem v80_eq (t : Fin 2048) : val_main_v80 (F := Ideal) x0 x1 x2 x3 x4 x5 (ix3 j t d) = dv x5 (wd x4) (g x0 x1) (w x2) (b x3) j t d := by
  pointwise [val_main_v80, val_main_v79, val_main_v78, val_main_v77, val_main_v72]
  exact v33_eq x0 x1 x2 x3 x4 x5 j d t

include hx in
theorem v76_eq (t : Fin 2048) : val_main_v76 (F := Ideal) x0 x1 x2 x3 x4 x5 (ix3 j t d) = dg x5 (wd x4) (g x0 x1) (v x0 x1) (w x2) (b x3) j t d := by
  pointwise [val_main_v76, val_main_v75, val_main_v74, val_main_v73, val_main_v72]
  rw [dif_pos (ch j d).isLt]
  exact v71_eq x0 x1 x2 x3 x4 x5 j d hx t

include hx in
theorem v82_eq (k : Fin 3) : val_main_v82 (F := Ideal) x0 x1 x2 x3 x4 x5 (ix3 j k d) = DactSpec.dw x5 (wd x4) (g x0 x1) (v x0 x1) (w x2) (b x3) j k d := by
  pointwise [val_main_v82, val_main_v81]
  exact v67_eq x0 x1 x2 x3 x4 x5 j d hx k

include hx in
theorem v83_eq : val_main_v83 (F := Ideal) x0 x1 x2 x3 x4 x5 (ix3 j 0 d) = db x5 (wd x4) (g x0 x1) (v x0 x1) (w x2) (b x3) j d := by
  pointwise [val_main_v83]
  exact v38_eq x0 x1 x2 x3 x4 x5 j d hx

end Cert.DactRefIdeal.Val

end
-- ==== Proof.Dact.Claim.lean ====
module

public import proofs.«01_k».proof.Defs
public import proofs.«01_k».proof.Proof.Gen.Pre_dact_finite
public import proofs.«01_k».proof.Proof.Reals
public import proofs.«01_k».proof.Proof.Dact.Kernel
public import proofs.«01_k».proof.Proof.Dact.Ref

@[expose] public section

set_option maxRecDepth 16384

noncomputable section

/-! The pair of the feed-forward block's convolution and gate: kernel and reference end with the same four arrays. -/

namespace Cert.DactClaim

open Idealize.ShloMosaic Idealize.ShloMosaic.TcCoe Idealize.SL.Sem
open Cert.Reals Cert.DactIdeal Cert.DactIdeal.Gen Cert.DactRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x5632 .f32 := m ((c : Thread nD τ).loc main_arg1)
abbrev a2 : FVec Ideal S3x2816 .f32 := m ((c : Thread nD τ).loc main_arg2)
abbrev a3 : FVec Ideal S2816 .f32 := m ((c : Thread nD τ).loc main_arg3)
abbrev a4 : FVec Ideal S2816x1024 .f32 := m ((c : Thread nD τ).loc main_arg4)
abbrev a5 : FVec Ideal S2048x1024 .f32 := m ((c : Thread nD τ).loc main_arg5)

/-- What the host hands the launch: the gates, the taps, the offsets and the weights in blocks, and the cotangent as it is. -/
theorem gA_eq : Val.gA m c = Cert.DactRefIdeal.Val.g (a0 m c) (a1 m c) := by
  unfold Val.gA
  entry_read
  funext i
  idx_vars i
  pointwise [Cert.DactRefIdeal.Val.g, val_main_v1, val_main_v0]

theorem vA_eq : Val.vA m c = Cert.DactRefIdeal.Val.v (a0 m c) (a1 m c) := by
  unfold Val.vA
  entry_read
  funext i
  idx_vars i
  pointwise [Cert.DactRefIdeal.Val.v, val_main_v2, val_main_v0]

theorem wA_eq : Val.wA m c = Cert.DactRefIdeal.Val.w (a2 m c) := by
  unfold Val.wA
  entry_read
  funext i
  idx_vars i
  pointwise [Cert.DactRefIdeal.Val.w]

theorem bA_eq : Val.bA m c = Cert.DactRefIdeal.Val.b (a3 m c) := by
  unfold Val.bA
  entry_read
  funext i
  idx_vars i
  pointwise [Cert.DactRefIdeal.Val.b]

theorem wdA_eq : Val.wdA m c = Cert.DactRefIdeal.Val.wd (a4 m c) := by
  unfold Val.wdA
  entry_read
  funext i
  idx_vars i
  pointwise [Cert.DactRefIdeal.Val.wd]

theorem ctA_eq : Val.ctA m c = a5 m c := by
  unfold Val.ctA
  entry_read
  rfl

/-- Where the precondition holds, the gradient that reaches the gate is a real number. -/
theorem real_at {x0 : FVec Ideal S2048x1024 .f32} {x1 : FVec Ideal S1024x5632 .f32} {x2 : FVec Ideal S3x2816 .f32} {x3 : FVec Ideal S2816 .f32} {x4 : FVec Ideal S2816x1024 .f32} {x5 : FVec Ideal S2048x1024 .f32}
    (h : Cert.Pre_dact_finite.fn (F := Ideal) x0 x1 x2 x3 x4 x5 = fun _ => 1#1) (j : Fin 4) (d : Fin 704) (t : Fin 2048) :
    ∃ r : ℝ, Cert.DactSpec.da x5 (Cert.DactRefIdeal.Val.wd x4) j d t * Cert.DactRefIdeal.Val.v x0 x1 (ix3 j t d) = ((r : ℝ) : EReal) := by
  obtain ⟨h, h5⟩ := AttnFinite.and_one h
  obtain ⟨h, h4⟩ := AttnFinite.and_one h
  obtain ⟨h0, h1⟩ := AttnFinite.and_one h
  refine IsReal.mul (.dot (fun k => AttnFinite.reals x5 _ _ h5 _) fun k => AttnFinite.reals x4 _ _ h4 _) ?_
  rw [Cert.DactRefIdeal.Val.v]
  pointwise [val_main_v2, val_main_v0]
  exact .dot (fun k => AttnFinite.reals x0 _ _ h0 _) fun k => AttnFinite.reals x1 _ _ h1 _

variable (hp : Cert.Pre_dact_finite.fn (F := Ideal) (a0 m c) (a1 m c) (a2 m c) (a3 m c) (a4 m c) (a5 m c) = fun _ => 1#1)

include hp in
theorem out0 : (dats m 0 c).arrAt 10 cfg0.N = val_main_v76 (F := Ideal) (a0 m c) (a1 m c) (a2 m c) (a3 m c) (a4 m c) (a5 m c) := by
  funext i
  idx_vars i
  rw [Val.final10, gA_eq, vA_eq, wA_eq, bA_eq, wdA_eq, ctA_eq]
  exact (Cert.DactRefIdeal.Val.v76_eq _ _ _ _ _ _ _ _ (real_at hp _ _) _).symm

theorem out1 : (dats m 0 c).arrAt 11 cfg0.N = val_main_v80 (F := Ideal) (a0 m c) (a1 m c) (a2 m c) (a3 m c) (a4 m c) (a5 m c) := by
  funext i
  idx_vars i
  rw [Val.final11, gA_eq, wA_eq, bA_eq, wdA_eq, ctA_eq]
  exact (Cert.DactRefIdeal.Val.v80_eq ..).symm

include hp in
theorem out2 : (dats m 0 c).arrAt 12 cfg0.N = val_main_v82 (F := Ideal) (a0 m c) (a1 m c) (a2 m c) (a3 m c) (a4 m c) (a5 m c) := by
  funext i
  idx_vars i
  rw [Val.final12, gA_eq, vA_eq, wA_eq, bA_eq, wdA_eq, ctA_eq]
  exact (Cert.DactRefIdeal.Val.v82_eq _ _ _ _ _ _ _ _ (real_at hp _ _) _).symm

include hp in
theorem out3 : (dats m 0 c).arrAt 13 cfg0.N = val_main_v83 (F := Ideal) (a0 m c) (a1 m c) (a2 m c) (a3 m c) (a4 m c) (a5 m c) := by
  funext i
  idx_vars i
  obtain rfl : i1 = 0 := Subsingleton.elim _ _
  rw [Val.final13, gA_eq, vA_eq, wA_eq, bA_eq, wdA_eq, ctA_eq]
  exact (Cert.DactRefIdeal.Val.v83_eq _ _ _ _ _ _ _ _ (real_at hp _ _)).symm

/-- The reference's run, its results as the stages of its arguments. -/
theorem reference (m' : (ℓ : Loc Cert.DactRefIdeal.nD Cert.DactRefIdeal.τ Cert.DactRefIdeal.sig) → Buf (Elt Ideal) ℓ) (g' : Dev Cert.DactRefIdeal.nD → PrngReg) :
    θ_run (Cert.DactRefIdeal.defs (F := Ideal)) (onTc (τ := Cert.DactRefIdeal.τ) (Cert.DactRefIdeal.main (F := Ideal))) ⟨m', fun _ => 0, g'⟩ fun r => ∀ c : Dev Cert.DactRefIdeal.nD,
      let a (b : Ref Cert.DactRefIdeal.sig .tc) := m' ((c.tc : Thread Cert.DactRefIdeal.nD Cert.DactRefIdeal.τ).loc b)
      let o (b : Ref Cert.DactRefIdeal.sig .tc) := r.2.mem ((c.tc : Thread Cert.DactRefIdeal.nD Cert.DactRefIdeal.τ).loc b)
      (o Cert.DactRefIdeal.main_v76 = val_main_v76 (F := Ideal) (a Cert.DactRefIdeal.main_arg0) (a Cert.DactRefIdeal.main_arg1) (a Cert.DactRefIdeal.main_arg2) (a Cert.DactRefIdeal.main_arg3) (a Cert.DactRefIdeal.main_arg4) (a Cert.DactRefIdeal.main_arg5)
      ∧ o Cert.DactRefIdeal.main_v80 = val_main_v80 (F := Ideal) (a Cert.DactRefIdeal.main_arg0) (a Cert.DactRefIdeal.main_arg1) (a Cert.DactRefIdeal.main_arg2) (a Cert.DactRefIdeal.main_arg3) (a Cert.DactRefIdeal.main_arg4) (a Cert.DactRefIdeal.main_arg5)
      ∧ o Cert.DactRefIdeal.main_v82 = val_main_v82 (F := Ideal) (a Cert.DactRefIdeal.main_arg0) (a Cert.DactRefIdeal.main_arg1) (a Cert.DactRefIdeal.main_arg2) (a Cert.DactRefIdeal.main_arg3) (a Cert.DactRefIdeal.main_arg4) (a Cert.DactRefIdeal.main_arg5)
      ∧ o Cert.DactRefIdeal.main_v83 = val_main_v83 (F := Ideal) (a Cert.DactRefIdeal.main_arg0) (a Cert.DactRefIdeal.main_arg1) (a Cert.DactRefIdeal.main_arg2) (a Cert.DactRefIdeal.main_arg3) (a Cert.DactRefIdeal.main_arg4) (a Cert.DactRefIdeal.main_arg5))
      ∧ o Cert.DactRefIdeal.main_arg0 = a Cert.DactRefIdeal.main_arg0 ∧ o Cert.DactRefIdeal.main_arg1 = a Cert.DactRefIdeal.main_arg1 ∧ o Cert.DactRefIdeal.main_arg2 = a Cert.DactRefIdeal.main_arg2 ∧ o Cert.DactRefIdeal.main_arg3 = a Cert.DactRefIdeal.main_arg3 ∧ o Cert.DactRefIdeal.main_arg4 = a Cert.DactRefIdeal.main_arg4 ∧ o Cert.DactRefIdeal.main_arg5 = a Cert.DactRefIdeal.main_arg5 :=
  (θ_run Cert.DactRefIdeal.defs _ _).mono (fun r h c => ⟨⟨(h c).1.trans (val_main_v76_eq m' c), (h c).2.1.trans (val_main_v80_eq m' c),
    (h c).2.2.1.trans (val_main_v82_eq m' c), (h c).2.2.2.1.trans (val_main_v83_eq m' c)⟩, (h c).2.2.2.2⟩) (Cert.DactRefIdeal.Value.run m' g')

/-- Kernel and reference agree at the extended reals, their arguments finite. -/
theorem algebraic : Cert.algebraic_DactIdeal_DactRefIdeal_pre_dact_finite := by
  intro m g m' g' hpre hagree
  refine ⟨_, _, _, _, Cert.DactIdeal.Value.run_blocks m g, (θ_run Cert.DactRefIdeal.defs _ _).mono (fun r h c => ?_) (reference m' g')⟩
  obtain ⟨e0, e1, e2, e3, e4, e5⟩ := hagree c
  obtain ⟨⟨h0, h1, h2, h3⟩, kept⟩ := h c
  dsimp only at h0 h1 h2 h3
  rw [e0, e1, e2, e3, e4, e5] at h0 h1 h2 h3
  exact ⟨h0.trans (out0 m c (hpre c)).symm, h1.trans (out1 m c).symm, h2.trans (out2 m c (hpre c)).symm, h3.trans (out3 m c (hpre c)).symm, kept⟩

end Cert.DactClaim

end
-- ==== Proof.Norm.Spec.lean ====
module

public import Idealize.ShloMosaic.Lib.Pipeline.ValueKit
public import Idealize.ShloMosaic.Lib.Pointwise
public import proofs.«01_k».proof.Proof.Reals

@[expose] public section

noncomputable section

/-! The gradient of a norm over one row, in the form the kernels compute it and in the form of its derivative. -/

namespace Cert.Norm

open Idealize.ShloMosaic Cert.Reals

/-- The row's length, what is added under the root, and minus a half, as the programs write them. -/
abbrev len : EReal := Ideal.ofBits .f32 0x44800000#32
abbrev eps : EReal := Ideal.ofBits .f32 0x358637BD#32
abbrev neg : EReal := Ideal.ofBits .f32 0xBF000000#32

/-- What stands under the root, and the inverse root. -/
def ms (x : Fin 1024 → EReal) : EReal := Ideal.div (∑ k, x k * x k) len + eps
def inv (x : Fin 1024 → EReal) : EReal := Ideal.rsqrt (ms x)

/-- The gradient of a row's norm, `y` coming in and `g` the gain. -/
def grad (x g y : Fin 1024 → EReal) (d : Fin 1024) : EReal :=
  inv x * (y d * g d - x d * inv x * Ideal.div (∑ k, y k * g k * (x k * inv x)) len)

/-- A row of a matrix, the norm's gradient there with `dh` added, and the gain's gradient over all rows. -/
abbrev A := (⟨2, ![2048, 1024]⟩ : Shape).Idx → EReal
abbrev R := (⟨2, ![1, 1024]⟩ : Shape).Idx → EReal
def row (x : A) (t : Fin 2048) (k : Fin 1024) : EReal := x (ix2 t k)
def dx (x : A) (g : Fin 1024 → EReal) (y : Fin 2048 → Fin 1024 → EReal) (dh : A) (t : Fin 2048) (d : Fin 1024) : EReal :=
  dh (ix2 t d) + grad (row x t) g (y t) d
def dgain (x : A) (y : Fin 2048 → Fin 1024 → EReal) (d : Fin 1024) : EReal := ∑ t : Fin 2048, y t d * (row x t d * inv (row x t))

/-- Eight blocks of columns, the first four in one array and the last four in another, times the eight blocks of a matrix's rows. -/
abbrev Z := (⟨3, ![4, 2048, 704]⟩ : Shape).Idx → EReal
abbrev W := (⟨4, ![1, 8, 704, 1024]⟩ : Shape).Idx → EReal
def blk (a b : Z) (j : Fin 8) (t : Fin 2048) (k : Fin 704) : EReal :=
  if h : j.val < 4 then a (ix3 ⟨j.val, h⟩ t k) else b (ix3 ⟨j.val - 4, by omega⟩ t k)
def halves (a b : Z) (w : W) (t : Fin 2048) (d : Fin 1024) : EReal := ∑ j : Fin 8, ∑ k : Fin 704, blk a b j t k * w (ix4 0 j k d)

theorem sum_mul_congr {n : ℕ} {a a' b b' : Fin n → EReal} (ha : ∀ k, a k = a' k) (hb : ∀ k, b k = b' k) : ∑ k, a k * b k = ∑ k, a' k * b' k :=
  Finset.sum_congr rfl fun k _ => congrArg₂ (· * ·) (ha k) (hb k)

theorem halves_eight (a b : Z) (w : W) (t : Fin 2048) (d : Fin 1024) :
    let A (j : Fin 4) := ∑ k : Fin 704, a (ix3 j t k) * w (ix4 0 ⟨j.val, by omega⟩ k d)
    let B (j : Fin 4) := ∑ k : Fin 704, b (ix3 j t k) * w (ix4 0 ⟨4 + j.val, by omega⟩ k d)
    A 0 + A 1 + A 2 + A 3 + B 0 + B 1 + B 2 + B 3 = halves a b w t d :=
  (Fin.sum_univ_eight fun j => ∑ k : Fin 704, blk a b j t k * w (ix4 0 j k d)).symm

/-- Cut from a matrix of 5632 columns, and one of 5632 rows, the blocks give the matrices' product. -/
theorem halves_eq {a b : Z} {w : W} {z : (⟨2, ![2048, 5632]⟩ : Shape).Idx → EReal} {u : (⟨2, ![1024, 5632]⟩ : Shape).Idx → EReal}
    (ha : ∀ j t (k : Fin 704) h, a (ix3 j t k) = z (ix2 t ⟨j.val * 704 + k.val, h⟩)) (hb : ∀ j t (k : Fin 704) h, b (ix3 j t k) = z (ix2 t ⟨2816 + (j.val * 704 + k.val), h⟩))
    (hw : ∀ j (k : Fin 704) d h, w (ix4 0 j k d) = u (ix2 d ⟨j.val * 704 + k.val, h⟩)) (t : Fin 2048) (d : Fin 1024) :
    halves a b w t d = ∑ k : Fin 5632, z (ix2 t k) * u (ix2 d k) := by
  refine Fin.sum_mul_add_congr (fun j k hl => ?_) rfl
  rw [hw _ _ _ hl, blk]
  by_cases h : j.val < 4
  · rw [dif_pos h, ha ⟨j.val, h⟩ t k hl]
  · rw [dif_neg h, hb ⟨j.val - 4, by omega⟩ t k (by dsimp only; omega)]
    refine congrArg (· * _) (congrArg z (congrArg (ix2 t) (Fin.ext ?_)))
    dsimp only
    omega

theorem len_eq : len = ((1024 : ℝ) : EReal) := by
  simp [len, Ideal.ofBits, Ideal.ieee, -EReal.coe_mul]; norm_num

theorem neg_eq : neg = ((-(1 / 2) : ℝ) : EReal) := by
  simp [neg, Ideal.ofBits, Ideal.ieee, -EReal.coe_mul, -EReal.coe_neg]; norm_num

theorem eps_pos : ∃ e : ℝ, 0 < e ∧ eps = ((e : ℝ) : EReal) := by
  refine ⟨_, ?_, by simp [eps, Ideal.ofBits, Ideal.ieee, -EReal.coe_mul]; rfl⟩
  norm_num

/-- Sums of real numbers are the sums taken in the reals. -/
theorem sum_coe {ι : Type*} [Fintype ι] (f : ι → ℝ) : ∑ i, ((f i : ℝ) : EReal) = ((∑ i, f i : ℝ) : EReal) :=
  (map_sum (⟨⟨fun r : ℝ => (r : EReal), rfl⟩, EReal.coe_add⟩ : ℝ →+ EReal) f Finset.univ).symm

/-- A real factor that is not negative goes into a sum. -/
theorem coe_mul_add {r : ℝ} (hr : 0 ≤ r) (a b : EReal) : (r : EReal) * (a + b) = r * a + r * b :=
  EReal.left_distrib_of_nonneg_of_ne_top (by exact_mod_cast hr) (EReal.coe_ne_top _) a b

theorem coe_mul_sum {ι : Type*} {r : ℝ} (hr : 0 ≤ r) (s : Finset ι) (f : ι → EReal) : (r : EReal) * ∑ i ∈ s, f i = ∑ i ∈ s, (r : EReal) * f i := by
  classical
  induction s using Finset.induction_on with
  | empty => simp
  | insert i s hi ih => rw [Finset.sum_insert hi, Finset.sum_insert hi, coe_mul_add hr, ih]

theorem coe_two_mul (a : EReal) : ((2 : ℝ) : EReal) * a = a + a := by
  induction a with
  | bot => rw [EReal.coe_mul_bot_of_pos (by norm_num)]; rfl
  | top => rw [EReal.coe_mul_top_of_pos (by norm_num)]; rfl
  | coe a => rw [← EReal.coe_mul, ← EReal.coe_add, two_mul]

/-- Over a row of real numbers: what stands under the root is positive and its inverse root is the real one. -/
theorem inv_real {x : Fin 1024 → EReal} (hx : ∀ k, IsReal (x k)) : ∃ q : ℝ, 0 < q ∧ ms x = ((q : ℝ) : EReal) ∧ inv x = (((Real.sqrt q)⁻¹ : ℝ) : EReal) := by
  choose X hX using hx
  obtain ⟨e, he, h⟩ := eps_pos
  have hm : ms x = (((∑ k, X k * X k) / 1024 + e : ℝ) : EReal) := by
    simp only [ms, hX, ← EReal.coe_mul, sum_coe, len_eq, h]
    rw [Ideal.div_coe (by norm_num), ← EReal.coe_mul, ← EReal.coe_add, mul_one_div]
  have hq : 0 < (∑ k, X k * X k) / 1024 + e := by
    have := Finset.sum_nonneg fun k (_ : k ∈ Finset.univ) => mul_self_nonneg (X k)
    positivity
  refine ⟨_, hq, hm, ?_⟩
  rw [inv, hm, Ideal.rsqrt_coe, if_neg (not_lt.2 hq.le), if_neg hq.ne']

/-- Over a row with an infinite entry: what stands under the root is infinite and its inverse root is zero. -/
theorem inv_inf {x : Fin 1024 → EReal} (hx : ¬∀ k, IsReal (x k)) : ms x = ⊤ ∧ inv x = 0 := by
  obtain ⟨k, hk⟩ := not_forall.1 hx
  have hs : ∑ k, x k * x k = ⊤ := by
    have h0 (i : Fin 1024) : 0 ≤ x i * x i := by
      rcases le_total 0 (x i) with h | h
      · exact mul_nonneg h h
      · exact EReal.mul_nonneg_iff.2 (.inr ⟨h, h⟩)
    have h1 : x k * x k = ⊤ := by
      rcases hkk : x k with _ | _ | r
      · exact EReal.bot_mul_bot
      · exact EReal.top_mul_top
      · exact absurd ⟨r, hkk⟩ hk
    exact top_le_iff.1 (h1 ▸ Finset.single_le_sum (f := fun k => x k * x k) (fun i _ => h0 i) (Finset.mem_univ k))
  obtain ⟨e, he, h⟩ := eps_pos
  have hm : ms x = ⊤ := by
    rw [ms, hs, len_eq, Ideal.div_coe (by norm_num), EReal.top_mul_coe_of_pos (by norm_num), h]
    exact EReal.top_add_coe e
  exact ⟨hm, by rw [inv, hm, Ideal.rsqrt_top]⟩

/-- The derivative of a row's norm, summed as differentiation leaves it. -/
theorem grad_eq (x g y : Fin 1024 → EReal) (d : Fin 1024) :
    y d * g d * inv x + x d * Ideal.div ((∑ k, x k * (y k * g k)) * (neg * Ideal.div (inv x) (ms x))) len
      + Ideal.div ((∑ k, x k * (y k * g k)) * (neg * Ideal.div (inv x) (ms x))) len * x d = grad x g y d := by
  by_cases hx : ∀ k, IsReal (x k)
  · obtain ⟨q, hq, hm, hi⟩ := inv_real hx
    have hr : 0 < (Real.sqrt q)⁻¹ := inv_pos.2 (Real.sqrt_pos.2 hq)
    have s : (Real.sqrt q)⁻¹ * (Real.sqrt q)⁻¹ = 1 / q := by
      rw [← mul_inv, Real.mul_self_sqrt hq.le, one_div]
    have e : ∑ k, y k * g k * (x k * inv x) = inv x * ∑ k, x k * (y k * g k) := by
      rw [hi, coe_mul_sum hr.le]
      exact Finset.sum_congr rfl fun k _ => by rw [mul_comm (y k * g k), mul_comm (x k), mul_assoc]
    obtain ⟨X, hX⟩ := hx d
    rw [grad, e, hm, hi, neg_eq, len_eq, Ideal.div_coe hq.ne', Ideal.div_coe (by norm_num), Ideal.div_coe (by norm_num), hX, sub_eq_add_neg,
      coe_mul_add hr.le, mul_comm (y d * g d), add_assoc]
    generalize (Real.sqrt q)⁻¹ = r at *
    generalize ∑ k, x k * (y k * g k) = S
    refine congrArg (HAdd.hAdd (α := EReal) _) ?_
    rw [mul_comm (S * _ * _) (X : EReal), ← coe_two_mul, ← EReal.neg_mul, ← EReal.coe_mul X r, ← EReal.coe_neg]
    simp only [mul_comm S, mul_assoc S, mul_left_comm _ S, ← EReal.coe_mul]
    rw [mul_comm (r : EReal) S, mul_assoc S]
    simp only [mul_left_comm _ S, ← EReal.coe_mul]
    have sw (a b : EReal) : a * S * b = S * (a * b) := by rw [mul_comm a S, mul_assoc]
    rw [sw]
    simp only [mul_left_comm _ S, ← EReal.coe_mul]
    refine congrArg (fun t : ℝ => S * (t : EReal)) ?_
    rw [← s]
    ring
  · obtain ⟨hm, hi⟩ := inv_inf hx
    have hz : Ideal.div ((∑ k, x k * (y k * g k)) * (neg * Ideal.div 0 ⊤)) len = 0 := by
      have h0 : Ideal.div 0 ⊤ = 0 := by rw [Ideal.div, if_neg EReal.top_ne_zero, zero_mul]
      rw [h0, mul_zero, mul_zero, len_eq, Ideal.div_coe (by norm_num), zero_mul]
    rw [grad, hm, hi, hz]
    simp

end Cert.Norm

end
-- ==== Proof.Din.Kernel.lean ====
module

public import proofs.«01_k».proof.Proof.Gen.DinIdeal.Value
public import proofs.«01_k».proof.Proof.Norm.Spec

@[expose] public section

set_option maxRecDepth 16384

noncomputable section

/-! The kernel's three result arrays, entry by entry. -/

namespace Cert.DinIdeal.Val

open Cert.DinIdeal Cert.DinIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev dzA (c : Dev nD) : (⟨3, ![1, 2048, 3072]⟩ : Shape).Idx → EReal := V m c main_v2
abbrev wA (c : Dev nD) : (⟨3, ![1, 1024, 3072]⟩ : Shape).Idx → EReal := V m c main_v3
abbrev xA (c : Dev nD) : Norm.A := V m c main_arg0
abbrev gA (c : Dev nD) : Norm.R := V m c main_v4
abbrev dhA (c : Dev nD) : Norm.A := V m c main_arg3

/-- Where each window's block lies. -/
theorem idx : ∀ t : Fin cfg0.N, win0_0.index t = ![0, t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0] ∧ win0_7.index t = ![0, 0] :=
  (by decide +kernel : ∀ t : Fin grid0.N, _)

theorem lt4 (t : Fin cfg0.N) : t.val < 4 := lt_of_lt_of_eq t.isLt N_0

/-- The gain, and the gradient that comes through the projection. -/
def gn (c : Dev nD) (k : Fin 1024) : EReal := gA m c (ix2 0 k)
def dy (c : Dev nD) (t : Fin 2048) (d : Fin 1024) : EReal := ∑ k : Fin 3072, dzA m c (ix3 0 t k) * wA m c (ix3 0 d k)

section Point

variable (c : Dev nD) (t : Fin cfg0.N) (r : Fin 512) (d : Fin 1024) (h : 512 * t.val + r.val < 2048)

include h in
theorem x_eq : iblk m c 2 t (ix2 r d) = row (xA m c) ⟨512 * t.val + r.val, h⟩ d := by
  rw [row]
  blk_ext [iblk, idx t]

theorem g_eq : iblk m c 3 t (ix2 0 d) = gn m c d := by
  rw [gn]
  blk_ext [iblk, idx t]

include h in
theorem dz_eq (k : Fin 3072) : iblk m c 0 t (ix3 0 r k) = dzA m c (ix3 0 ⟨512 * t.val + r.val, h⟩ k) := by
  blk_ext [iblk, idx t]

theorem w_eq (k : Fin 3072) : iblk m c 1 t (ix3 0 d k) = wA m c (ix3 0 d k) := by
  blk_ext [iblk, idx t]

/-- What the point stores. -/
theorem pay5_eq : k0_pay5 (iblk m c 0 t) (iblk m c 1 t) (iblk m c 2 t) (iblk m c 4 t) (iblk m c 3 t) (ix2 r d)
    = dx (xA m c) (gn m c) (dy m c) (dhA m c) ⟨512 * t.val + r.val, h⟩ d := by
  pointwise [k0_pay5, k0_pay4, k0_pay3, k0_pay2]
  simp only [x_eq m c t r _ h, dz_eq m c t r h, w_eq, g_eq]
  refine congrArg₂ (· + ·) ?_ rfl
  blk_ext [iblk, idx t]

theorem pay7_eq : k0_pay7 (iblk m c 0 t) (iblk m c 1 t) (iblk m c 2 t) (iblk m c 4 t) (iblk m c 3 t) (ix2 r d)
    = dx (xA m c) (gn m c) (dy m c) (dhA m c) ⟨512 * t.val + r.val, h⟩ d := by
  pointwise [k0_pay7]
  exact pay5_eq m c t r d h

end Point

/-- What the point adds to the gain's gradient. -/
theorem pay6_eq (c : Dev nD) (t : Fin cfg0.N) (d : Fin 1024) : k0_pay6 (iblk m c 0 t) (iblk m c 1 t) (iblk m c 2 t) (ix2 0 d)
    = ∑ r : Fin 512, dy m c ⟨t.val * 512 + r.val, by have := lt4 t; omega⟩ d
      * (row (xA m c) ⟨t.val * 512 + r.val, by have := lt4 t; omega⟩ d * inv (row (xA m c) ⟨t.val * 512 + r.val, by have := lt4 t; omega⟩)) := by
  have ht := lt4 t
  pointwise [k0_pay6, k0_pay4, k0_pay3, k0_pay2]
  refine Finset.sum_congr rfl fun r _ => ?_
  simp only [x_eq m c t r _ (by omega), dz_eq m c t r (by omega), w_eq, Nat.mul_comm 512]
  rfl

/-- The input's gradient, kept and rounded. -/
theorem final5 (c : Dev nD) (t : Fin 2048) (d : Fin 1024) : (dats m 0 c).arrAt 5 cfg0.N (ix2 t d) = dx (xA m c) (gn m c) (dy m c) (dhA m c) t d := by
  refine congrFun ((dats m 0 c).arrAt_eq_of_covers 5 (fun i => dx (xA m c) (gn m c) (dy m c) (dhA m c) (i 0) (i 1)) (by decide +kernel) fun t hf y => ?_) (ix2 t d)
  idx_vars y
  have ht := lt4 t
  blk_simp
  rw [after0_5, show (win0_5.blk t).view.emb (ix2 y0 y1) = ix2 ⟨512 * t.val + y0.val, by omega⟩ y1 by blk_ext [idx t]]
  by_cases h4 : t.val % 4 = 0
  · rw [outsAt0_A m c t h4 (by omega)]
    frame_out
    exact pay5_eq m c t y0 y1 (by omega)
  · rw [outsAt0_B m c t h4 (by omega)]
    frame_out
    exact pay5_eq m c t y0 y1 (by omega)

theorem final6 (c : Dev nD) (t : Fin 2048) (d : Fin 1024) : (dats m 0 c).arrAt 6 cfg0.N (ix2 t d) = dx (xA m c) (gn m c) (dy m c) (dhA m c) t d := by
  refine congrFun ((dats m 0 c).arrAt_eq_of_covers 6 (fun i => dx (xA m c) (gn m c) (dy m c) (dhA m c) (i 0) (i 1)) (by decide +kernel) fun t hf y => ?_) (ix2 t d)
  idx_vars y
  have ht := lt4 t
  blk_simp
  rw [after0_6, show (win0_6.blk t).view.emb (ix2 y0 y1) = ix2 ⟨512 * t.val + y0.val, by omega⟩ y1 by blk_ext [idx t]]
  by_cases h4 : t.val % 4 = 0
  · rw [outsAt0_A m c t h4 (by omega)]
    frame_out
    exact pay7_eq m c t y0 y1 (by omega)
  · rw [outsAt0_B m c t h4 (by omega)]
    frame_out
    exact pay7_eq m c t y0 y1 (by omega)

/-- The gain's gradient. -/
theorem final7 (c : Dev nD) (d : Fin 1024) : (dats m 0 c).arrAt 7 cfg0.N (ix2 0 d) = dgain (xA m c) (dy m c) d := by
  refine congrFun ((dats m 0 c).arrAt_eq_of_after_last 7 t0_3 (by decide +kernel) (fun j => dgain (xA m c) (dy m c) (j 1)) fun j => ?_) (ix2 0 d)
  idx_vars j
  blk_simp
  rw [after0_7, Pipeline.eq_sum_fin_of_reset_step_apply_last (fun n h => (outsAt0 m c n h).2.2) 4 (fun _ => 0)
    (fun t j => ∑ r : Fin 512, dy m c ⟨t.val * 512 + r.val, by have := lt4 t; omega⟩ (j 1)
      * (row (xA m c) ⟨t.val * 512 + r.val, by have := lt4 t; omega⟩ (j 1) * inv (row (xA m c) ⟨t.val * 512 + r.val, by have := lt4 t; omega⟩)))
    (fun t h j => by
      have := lt4 t
      rw [outsAt0_A m c t h (by omega), zero_add]
      frame_out
      idx_vars j
      obtain rfl : j0 = 0 := Subsingleton.elim _ _
      exact pay6_eq m c t j1)
    (fun t h j => by
      rw [outsAt0_B m c t h (by omega)]
      frame_out
      idx_vars j
      obtain rfl : j0 = 0 := Subsingleton.elim _ _
      pointwise [k0_pay1]
      exact congrArg _ (pay6_eq m c t j1))
    (le_of_eq N_0) t0_3 rfl _, zero_add]
  exact Fin.sum_mul_add_congr (fun s r hl => rfl) (by rw [show cfg0.N = 4 from N_0])

end Cert.DinIdeal.Val

end
-- ==== Proof.Din.Ref.lean ====
module

public import proofs.«01_k».proof.Proof.Gen.DinRefIdeal.Read
public import proofs.«01_k».proof.Proof.Norm.Spec

@[expose] public section

set_option maxRecDepth 16384

noncomputable section

/-! The reference's three results, entry by entry. -/

namespace Cert.DinRefIdeal.Val

open Cert.DinRefIdeal Cert.DinRefIdeal.Read Cert.Norm Cert.Reals Idealize.ShloMosaic Idealize.ShloMosaic.TcCoe Idealize.SL.Sem

variable (x0 : FVec Ideal S2048x1024 .f32) (x1 : FVec Ideal S1024 .f32) (x2 : FVec Ideal S1024x3072 .f32) (x3 : FVec Ideal S2048x1024 .f32)
  (x4 : FVec Ideal S2048x3072 .f32) (t : Fin 2048) (d : Fin 1024)

/-- The gain, and the gradient that comes through the projection. -/
def gn (k : Fin 1024) : EReal := x1 (ix1 k)
def dy (t : Fin 2048) (d : Fin 1024) : EReal := ∑ k : Fin 3072, x4 (ix2 t k) * x2 (ix2 d k)

theorem v17_eq : val_main_v17 (F := Ideal) x2 x4 (ix2 t d) = dy x2 x4 t d := by
  pointwise [val_main_v17]
  rfl

theorem v6_eq : val_main_v6 (F := Ideal) x0 (ix2 t 0) = ms (row x0 t) := by
  pointwise [val_main_v6, val_main_v5, val_main_cst_1, val_main_v4, val_main_v3, val_main_cst_0, val_main_v2, val_main_v1, val_main_cst, val_main_v0]
  rfl

theorem v7_eq : val_main_v7 (F := Ideal) x0 (ix2 t 0) = inv (row x0 t) := by
  pointwise [val_main_v7]
  rw [v6_eq]
  rfl

/-- The gain's gradient. -/
theorem v40_eq : val_main_v40 (F := Ideal) x0 x2 x4 (ix2 0 d) = dgain x0 (dy x2 x4) d := by
  pointwise [val_main_v40, val_main_v23, val_main_cst_4, val_main_v20, val_main_v19, val_main_cst_3, val_main_v18, val_main_v12, val_main_v11]
  simp only [v17_eq, v7_eq, zero_add, Finset.univ_unique, Finset.sum_singleton]
  exact Finset.sum_congr rfl fun t _ => mul_comm _ _

/-- The share of each entry that comes through the root. -/
theorem v34_eq : val_main_v34 (F := Ideal) x0 x1 x2 x4 (ix2 t d)
    = Ideal.div ((∑ k, row x0 t k * (dy x2 x4 t k * gn x1 k)) * (neg * Ideal.div (inv (row x0 t)) (ms (row x0 t)))) len := by
  pointwise [val_main_v34, val_main_v33, val_main_cst_7, val_main_v32, val_main_v31, val_main_cst_6, val_main_v30, val_main_v26, val_main_v25, val_main_cst_5, val_main_v24,
    val_main_v22, val_main_v21, val_main_v13, val_main_v10, val_main_v9, val_main_cst_2, val_main_v8]
  simp only [v17_eq, Fin.sum_univ_one, v7_eq, v6_eq]
  rfl

/-- The input's gradient. -/
theorem v38_eq : val_main_v38 (F := Ideal) x0 x1 x2 x3 x4 (ix2 t d) = dx x0 (gn x1) (dy x2 x4) x3 t d := by
  rw [dx, ← grad_eq (row x0 t) (gn x1) (dy x2 x4 t), ← v34_eq x0 x1 x2 x4 t d, ← add_assoc, ← add_assoc]
  pointwise [val_main_v38, val_main_v37, val_main_v36, val_main_v35, val_main_v29, val_main_v28, val_main_v27, val_main_v22, val_main_v21, val_main_v13]
  rw [v17_eq, v7_eq]
  rfl

theorem v39_eq : val_main_v39 (F := Ideal) x0 x1 x2 x3 x4 (ix2 t d) = dx x0 (gn x1) (dy x2 x4) x3 t d := by
  pointwise [val_main_v39]
  exact v38_eq x0 x1 x2 x3 x4 t d

end Cert.DinRefIdeal.Val

end
-- ==== Proof.Din.Claim.lean ====
module

public import proofs.«01_k».proof.Defs
public import proofs.«01_k».proof.Proof.Norm.Spec
public import proofs.«01_k».proof.Proof.Reals
public import proofs.«01_k».proof.Proof.Din.Kernel
public import proofs.«01_k».proof.Proof.Din.Ref

@[expose] public section

set_option maxRecDepth 16384

noncomputable section

/-! The pair of the mixer's input projection: kernel and reference end with the same arrays. -/

namespace Cert.DinClaim

open Idealize.ShloMosaic Idealize.ShloMosaic.TcCoe Idealize.SL.Sem
open Cert.Reals Cert.DinIdeal Cert.DinIdeal.Gen Cert.DinRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024 .f32 := m ((c : Thread nD τ).loc main_arg1)
abbrev a2 : FVec Ideal S1024x3072 .f32 := m ((c : Thread nD τ).loc main_arg2)
abbrev a3 : FVec Ideal S2048x1024 .f32 := m ((c : Thread nD τ).loc main_arg3)
abbrev a4 : FVec Ideal S2048x3072 .f32 := m ((c : Thread nD τ).loc main_arg4)

open Cert.DinRefIdeal.Val in
/-- What the host hands the launch: the arguments as they are. -/
theorem dy_eq : Val.dy m c = dy (a2 m c) (a4 m c) := by
  have e2 : Val.dzA m c = fun i => a4 m c (ix2 (i 1) (i 2)) := by
    unfold Val.dzA
    entry_read
    funext i
    idx_vars i
    pointwise []
  have e3 : Val.wA m c = fun i => a2 m c (ix2 (i 1) (i 2)) := by
    unfold Val.wA
    entry_read
    funext i
    idx_vars i
    pointwise []
  funext t d
  rw [Val.dy, e2, e3]
  rfl

theorem gn_eq : Val.gn m c = Cert.DinRefIdeal.Val.gn (a1 m c) := by
  funext k
  rw [Val.gn]
  unfold Val.gA
  entry_read
  pointwise [Cert.DinRefIdeal.Val.gn]

theorem xA_eq : Val.xA m c = a0 m c := by
  unfold Val.xA
  entry_read
  rfl

theorem dhA_eq : Val.dhA m c = a3 m c := by
  unfold Val.dhA
  entry_read
  rfl

theorem out0 : (dats m 0 c).arrAt 5 cfg0.N = val_main_v38 (F := Ideal) (a0 m c) (a1 m c) (a2 m c) (a3 m c) (a4 m c) := by
  funext i
  idx_vars i
  rw [Val.final5, dy_eq, gn_eq, xA_eq, dhA_eq]
  exact (Cert.DinRefIdeal.Val.v38_eq ..).symm

theorem out1 : (dats m 0 c).arrAt 6 cfg0.N = val_main_v39 (F := Ideal) (a0 m c) (a1 m c) (a2 m c) (a3 m c) (a4 m c) := by
  funext i
  idx_vars i
  rw [Val.final6, dy_eq, gn_eq, xA_eq, dhA_eq]
  exact (Cert.DinRefIdeal.Val.v39_eq ..).symm

theorem out2 : (dats m 0 c).arrAt 7 cfg0.N = val_main_v40 (F := Ideal) (a0 m c) (a2 m c) (a4 m c) := by
  funext i
  idx_vars i
  obtain rfl : i0 = 0 := Subsingleton.elim _ _
  rw [Val.final7, dy_eq, xA_eq]
  exact (Cert.DinRefIdeal.Val.v40_eq ..).symm

/-- The reference's run, its results as the stages of its arguments. -/
theorem reference (m' : (ℓ : Loc Cert.DinRefIdeal.nD Cert.DinRefIdeal.τ Cert.DinRefIdeal.sig) → Buf (Elt Ideal) ℓ) (g' : Dev Cert.DinRefIdeal.nD → PrngReg) :
    θ_run (Cert.DinRefIdeal.defs (F := Ideal)) (onTc (τ := Cert.DinRefIdeal.τ) (Cert.DinRefIdeal.main (F := Ideal))) ⟨m', fun _ => 0, g'⟩ fun r => ∀ c : Dev Cert.DinRefIdeal.nD,
      let a (b : Ref Cert.DinRefIdeal.sig .tc) := m' ((c.tc : Thread Cert.DinRefIdeal.nD Cert.DinRefIdeal.τ).loc b)
      let o (b : Ref Cert.DinRefIdeal.sig .tc) := r.2.mem ((c.tc : Thread Cert.DinRefIdeal.nD Cert.DinRefIdeal.τ).loc b)
      (o Cert.DinRefIdeal.main_v38 = val_main_v38 (F := Ideal) (a Cert.DinRefIdeal.main_arg0) (a Cert.DinRefIdeal.main_arg1) (a Cert.DinRefIdeal.main_arg2) (a Cert.DinRefIdeal.main_arg3) (a Cert.DinRefIdeal.main_arg4)
      ∧ o Cert.DinRefIdeal.main_v39 = val_main_v39 (F := Ideal) (a Cert.DinRefIdeal.main_arg0) (a Cert.DinRefIdeal.main_arg1) (a Cert.DinRefIdeal.main_arg2) (a Cert.DinRefIdeal.main_arg3) (a Cert.DinRefIdeal.main_arg4)
      ∧ o Cert.DinRefIdeal.main_v40 = val_main_v40 (F := Ideal) (a Cert.DinRefIdeal.main_arg0) (a Cert.DinRefIdeal.main_arg2) (a Cert.DinRefIdeal.main_arg4))
      ∧ o Cert.DinRefIdeal.main_arg0 = a Cert.DinRefIdeal.main_arg0 ∧ o Cert.DinRefIdeal.main_arg1 = a Cert.DinRefIdeal.main_arg1 ∧ o Cert.DinRefIdeal.main_arg2 = a Cert.DinRefIdeal.main_arg2 ∧ o Cert.DinRefIdeal.main_arg3 = a Cert.DinRefIdeal.main_arg3 ∧ o Cert.DinRefIdeal.main_arg4 = a Cert.DinRefIdeal.main_arg4 :=
  (θ_run Cert.DinRefIdeal.defs _ _).mono (fun r h c => ⟨⟨(h c).1.trans (val_main_v38_eq m' c),
    (h c).2.1.trans (val_main_v39_eq m' c),
    (h c).2.2.1.trans (val_main_v40_eq _ _ _)⟩, (h c).2.2.2⟩) (Cert.DinRefIdeal.Value.run m' g')

/-- Kernel and reference agree at the extended reals. -/
theorem algebraic : Cert.algebraic_DinIdeal_DinRefIdeal := by
  intro m g m' g' _ hagree
  refine ⟨_, _, _, Cert.DinIdeal.Value.run_blocks m g, (θ_run Cert.DinRefIdeal.defs _ _).mono (fun r h c => ?_) (reference m' g')⟩
  obtain ⟨e0, e1, e2, e3, e4⟩ := hagree c
  obtain ⟨⟨h0, h1, h2⟩, kept⟩ := h c
  dsimp only at h0 h1 h2
  rw [e0, e1, e2, e3, e4] at h0
  rw [e0, e1, e2, e3, e4] at h1
  rw [e0, e2, e4] at h2
  exact ⟨h0.trans (out0 m c).symm, h1.trans (out1 m c).symm, h2.trans (out2 m c).symm, kept⟩

end Cert.DinClaim

end
-- ==== Proof.Dup.Kernel.lean ====
module

public import proofs.«01_k».proof.Proof.Gen.DupIdeal.Value
public import proofs.«01_k».proof.Proof.Norm.Spec

@[expose] public section

set_option maxRecDepth 16384

noncomputable section

/-! The kernel's three result arrays, entry by entry. -/

namespace Cert.DupIdeal.Val

open Cert.DupIdeal Cert.DupIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev dgA (c : Dev nD) : Norm.Z := V m c main_v6
abbrev dvA (c : Dev nD) : Norm.Z := V m c main_v9
abbrev wA (c : Dev nD) : Norm.W := V m c main_v2
abbrev xA (c : Dev nD) : Norm.A := V m c main_arg0
abbrev gA (c : Dev nD) : Norm.R := V m c main_v10
abbrev dhA (c : Dev nD) : Norm.A := V m c main_arg3

/-- Where each window's block lies. -/
theorem idx : ∀ t : Fin cfg0.N, win0_0.index t = ![0, t.val, 0] ∧ win0_1.index t = ![0, 0, 0, 0] ∧ win0_2.index t = ![0, t.val, 0] ∧ win0_3.index t = ![0, 1, 0, 0]
    ∧ win0_4.index t = ![t.val, 0] ∧ win0_5.index t = ![0, 0] ∧ win0_6.index t = ![t.val, 0] ∧ win0_7.index t = ![t.val, 0] ∧ win0_8.index t = ![t.val, 0] ∧ win0_9.index t = ![0, 0] :=
  (by decide +kernel : ∀ t : Fin grid0.N, _)

theorem lt8 (t : Fin cfg0.N) : t.val < 8 := lt_of_lt_of_eq t.isLt N_0

/-- The gain, and the gradient that comes through the projection. -/
def gn (c : Dev nD) (k : Fin 1024) : EReal := gA m c (ix2 0 k)
abbrev dy (c : Dev nD) := halves (dgA m c) (dvA m c) (wA m c)

theorem wg_eq (c : Dev nD) (t : Fin cfg0.N) (d : Fin 1024) (j : Fin 4) (k : Fin 704) : iblk m c 1 t (ix4 0 j k d) = wA m c (ix4 0 ⟨j.val, by omega⟩ k d) := by
  blk_ext [iblk, idx t]

theorem wv_eq (c : Dev nD) (t : Fin cfg0.N) (d : Fin 1024) (j : Fin 4) (k : Fin 704) : iblk m c 3 t (ix4 0 j k d) = wA m c (ix4 0 ⟨4 + j.val, by omega⟩ k d) := by
  blk_ext [iblk, idx t]

section Point

variable (c : Dev nD) (t : Fin cfg0.N) (r : Fin 256) (d : Fin 1024) (h : 256 * t.val + r.val < 2048)

/-- The point's product, block by block. -/
abbrev p8 := k0_pay8
  (k0_pay7 (View.ld (iblk m c 0 t) (Rect.unit ![0, 0, 0] ![1, 256, 704] inb_S4x256x704_S1x256x704_0_0_0))
    (View.ld (iblk m c 1 t) (Rect.unit ![0, 0, 0, 0] ![1, 1, 704, 1024] inb_S1x4x704x1024_S1x1x704x1024_0_0_0_0))
    (View.ld (iblk m c 0 t) (Rect.unit ![1, 0, 0] ![1, 256, 704] inb_S4x256x704_S1x256x704_1_0_0))
    (View.ld (iblk m c 1 t) (Rect.unit ![0, 1, 0, 0] ![1, 1, 704, 1024] inb_S1x4x704x1024_S1x1x704x1024_0_1_0_0))
    (View.ld (iblk m c 0 t) (Rect.unit ![2, 0, 0] ![1, 256, 704] inb_S4x256x704_S1x256x704_2_0_0))
    (View.ld (iblk m c 1 t) (Rect.unit ![0, 2, 0, 0] ![1, 1, 704, 1024] inb_S1x4x704x1024_S1x1x704x1024_0_2_0_0))
    (View.ld (iblk m c 0 t) (Rect.unit ![3, 0, 0] ![1, 256, 704] inb_S4x256x704_S1x256x704_3_0_0))
    (View.ld (iblk m c 1 t) (Rect.unit ![0, 3, 0, 0] ![1, 1, 704, 1024] inb_S1x4x704x1024_S1x1x704x1024_0_3_0_0)))
  (View.ld (iblk m c 2 t) (Rect.unit ![0, 0, 0] ![1, 256, 704] inb_S4x256x704_S1x256x704_0_0_0))
  (View.ld (iblk m c 3 t) (Rect.unit ![0, 0, 0, 0] ![1, 1, 704, 1024] inb_S1x4x704x1024_S1x1x704x1024_0_0_0_0))
  (View.ld (iblk m c 2 t) (Rect.unit ![1, 0, 0] ![1, 256, 704] inb_S4x256x704_S1x256x704_1_0_0))
  (View.ld (iblk m c 3 t) (Rect.unit ![0, 1, 0, 0] ![1, 1, 704, 1024] inb_S1x4x704x1024_S1x1x704x1024_0_1_0_0))
  (View.ld (iblk m c 2 t) (Rect.unit ![2, 0, 0] ![1, 256, 704] inb_S4x256x704_S1x256x704_2_0_0))
  (View.ld (iblk m c 3 t) (Rect.unit ![0, 2, 0, 0] ![1, 1, 704, 1024] inb_S1x4x704x1024_S1x1x704x1024_0_2_0_0))
  (View.ld (iblk m c 2 t) (Rect.unit ![3, 0, 0] ![1, 256, 704] inb_S4x256x704_S1x256x704_3_0_0))
  (View.ld (iblk m c 3 t) (Rect.unit ![0, 3, 0, 0] ![1, 1, 704, 1024] inb_S1x4x704x1024_S1x1x704x1024_0_3_0_0))

include h in
theorem x_eq : iblk m c 4 t (ix2 r d) = row (xA m c) ⟨256 * t.val + r.val, h⟩ d := by
  rw [row]
  blk_ext [iblk, idx t]

theorem g_eq : iblk m c 5 t (ix2 0 d) = gn m c d := by
  rw [gn]
  blk_ext [iblk, idx t]

include h in
theorem dg_eq (j : Fin 4) (k : Fin 704) : iblk m c 0 t (ix3 j r k) = dgA m c (ix3 j ⟨256 * t.val + r.val, h⟩ k) := by
  blk_ext [iblk, idx t]

include h in
theorem dv_eq (j : Fin 4) (k : Fin 704) : iblk m c 2 t (ix3 j r k) = dvA m c (ix3 j ⟨256 * t.val + r.val, h⟩ k) := by
  blk_ext [iblk, idx t]

include h in
theorem p8_eq : p8 m c t (ix2 r d) = dy m c ⟨256 * t.val + r.val, h⟩ d := by
  have hA (j : Fin 4) := sum_mul_congr (dg_eq m c t r h j) (wg_eq m c t d j)
  have hB (j : Fin 4) := sum_mul_congr (dv_eq m c t r h j) (wv_eq m c t d j)
  refine Eq.trans ?_ (halves_eight ..)
  pointwise [p8, k0_pay8, k0_pay7]
  exact congr (congrArg HAdd.hAdd (congr (congrArg HAdd.hAdd (congr (congrArg HAdd.hAdd (congr (congrArg HAdd.hAdd
    (congr (congrArg HAdd.hAdd (congr (congrArg HAdd.hAdd (congr (congrArg HAdd.hAdd (hA 0)) (hA 1))) (hA 2))) (hA 3))) (hB 0))) (hB 1))) (hB 2))) (hB 3)

/-- What the point stores. -/
theorem pay3_eq : k0_pay3 (p8 m c t) (iblk m c 4 t) (k0_pay9 (iblk m c 4 t)) (FloatOps.ofBits FTy.f32 1149239296#32) (iblk m c 6 t) (iblk m c 5 t) (ix2 r d)
    = dx (xA m c) (gn m c) (dy m c) (dhA m c) ⟨256 * t.val + r.val, h⟩ d := by
  pointwise [k0_pay3, k0_pay2, k0_pay1, k0_pay9]
  simp only [x_eq m c t r _ h, p8_eq m c t r _ h, g_eq]
  refine congrArg₂ (· + ·) ?_ rfl
  blk_ext [iblk, idx t]

theorem pay5_eq : k0_pay5 (p8 m c t) (iblk m c 4 t) (k0_pay9 (iblk m c 4 t)) (FloatOps.ofBits FTy.f32 1149239296#32) (iblk m c 6 t) (iblk m c 5 t) (ix2 r d)
    = dx (xA m c) (gn m c) (dy m c) (dhA m c) ⟨256 * t.val + r.val, h⟩ d := by
  pointwise [k0_pay5]
  exact pay3_eq m c t r d h

end Point

/-- What the point adds to the gain's gradient. -/
theorem pay4_eq (c : Dev nD) (t : Fin cfg0.N) (d : Fin 1024) : k0_pay4 (p8 m c t) (iblk m c 4 t) (k0_pay9 (iblk m c 4 t)) (FloatOps.ofBits FTy.f32 1149239296#32) (ix2 0 d)
    = ∑ r : Fin 256, dy m c ⟨t.val * 256 + r.val, by have := lt8 t; omega⟩ d
      * (row (xA m c) ⟨t.val * 256 + r.val, by have := lt8 t; omega⟩ d * inv (row (xA m c) ⟨t.val * 256 + r.val, by have := lt8 t; omega⟩)) := by
  have ht := lt8 t
  pointwise [k0_pay4, k0_pay2, k0_pay1, k0_pay9]
  refine Finset.sum_congr rfl fun r _ => ?_
  simp only [x_eq m c t r _ (by omega), p8_eq m c t r _ (by omega), Nat.mul_comm 256]
  rfl

/-- The input's gradient, kept and rounded. -/
theorem final7 (c : Dev nD) (t : Fin 2048) (d : Fin 1024) : (dats m 0 c).arrAt 7 cfg0.N (ix2 t d) = dx (xA m c) (gn m c) (dy m c) (dhA m c) t d := by
  refine congrFun ((dats m 0 c).arrAt_eq_of_covers 7 (fun i => dx (xA m c) (gn m c) (dy m c) (dhA m c) (i 0) (i 1)) (by decide +kernel) fun t hf y => ?_) (ix2 t d)
  idx_vars y
  have ht := lt8 t
  blk_simp
  rw [after0_7, show (win0_7.blk t).view.emb (ix2 y0 y1) = ix2 ⟨256 * t.val + y0.val, by omega⟩ y1 by blk_ext [idx t]]
  by_cases h8 : t.val % 8 = 0
  · rw [outsAt0_A m c t h8 (by omega)]
    frame_out
    exact pay3_eq m c t y0 y1 (by omega)
  · rw [outsAt0_B m c t h8 (by omega)]
    frame_out
    exact pay3_eq m c t y0 y1 (by omega)

theorem final8 (c : Dev nD) (t : Fin 2048) (d : Fin 1024) : (dats m 0 c).arrAt 8 cfg0.N (ix2 t d) = dx (xA m c) (gn m c) (dy m c) (dhA m c) t d := by
  refine congrFun ((dats m 0 c).arrAt_eq_of_covers 8 (fun i => dx (xA m c) (gn m c) (dy m c) (dhA m c) (i 0) (i 1)) (by decide +kernel) fun t hf y => ?_) (ix2 t d)
  idx_vars y
  have ht := lt8 t
  blk_simp
  rw [after0_8, show (win0_8.blk t).view.emb (ix2 y0 y1) = ix2 ⟨256 * t.val + y0.val, by omega⟩ y1 by blk_ext [idx t]]
  by_cases h8 : t.val % 8 = 0
  · rw [outsAt0_A m c t h8 (by omega)]
    frame_out
    exact pay5_eq m c t y0 y1 (by omega)
  · rw [outsAt0_B m c t h8 (by omega)]
    frame_out
    exact pay5_eq m c t y0 y1 (by omega)

/-- The gain's gradient. -/
theorem final9 (c : Dev nD) (d : Fin 1024) : (dats m 0 c).arrAt 9 cfg0.N (ix2 0 d) = dgain (xA m c) (dy m c) d := by
  refine congrFun ((dats m 0 c).arrAt_eq_of_after_last 9 t0_7 (by decide +kernel) (fun j => dgain (xA m c) (dy m c) (j 1)) fun j => ?_) (ix2 0 d)
  idx_vars j
  blk_simp
  rw [after0_9, Pipeline.eq_sum_fin_of_reset_step_apply_last (fun n h => (outsAt0 m c n h).2.2) 8 (fun _ => 0)
    (fun t j => ∑ r : Fin 256, dy m c ⟨t.val * 256 + r.val, by have := lt8 t; omega⟩ (j 1)
      * (row (xA m c) ⟨t.val * 256 + r.val, by have := lt8 t; omega⟩ (j 1) * inv (row (xA m c) ⟨t.val * 256 + r.val, by have := lt8 t; omega⟩)))
    (fun t h j => by
      have := lt8 t
      rw [outsAt0_A m c t h (by omega), zero_add]
      frame_out
      idx_vars j
      obtain rfl : j0 = 0 := Subsingleton.elim _ _
      exact pay4_eq m c t j1)
    (fun t h j => by
      rw [outsAt0_B m c t h (by omega)]
      frame_out
      idx_vars j
      obtain rfl : j0 = 0 := Subsingleton.elim _ _
      pointwise [k0_pay6]
      exact congrArg _ (pay4_eq m c t j1))
    (le_of_eq N_0) t0_7 rfl _, zero_add]
  exact Fin.sum_mul_add_congr (fun s r hl => rfl) (by rw [show cfg0.N = 8 from N_0])

end Cert.DupIdeal.Val

end
-- ==== Proof.Dup.Ref.lean ====
module

public import proofs.«01_k».proof.Proof.Gen.DupRefIdeal.Read
public import proofs.«01_k».proof.Proof.Norm.Spec

@[expose] public section

set_option maxRecDepth 16384

noncomputable section

/-! The reference's three results, entry by entry. -/

namespace Cert.DupRefIdeal.Val

open Cert.DupRefIdeal Cert.DupRefIdeal.Read Cert.Norm Cert.Reals Idealize.ShloMosaic Idealize.ShloMosaic.TcCoe Idealize.SL.Sem

variable (x0 : FVec Ideal S2048x1024 .f32) (x1 : FVec Ideal S1024 .f32) (x2 : FVec Ideal S1024x5632 .f32) (x3 : FVec Ideal S2048x1024 .f32)
  (x4 : FVec Ideal S2048x5632 .f32) (t : Fin 2048) (d : Fin 1024)

/-- The gain, and the gradient that comes through the projection. -/
def gn (k : Fin 1024) : EReal := x1 (ix1 k)
def dy (t : Fin 2048) (d : Fin 1024) : EReal := ∑ k : Fin 5632, x4 (ix2 t k) * x2 (ix2 d k)

theorem v17_eq : val_main_v17 (F := Ideal) x2 x4 (ix2 t d) = dy x2 x4 t d := by
  pointwise [val_main_v17]
  rfl

theorem v6_eq : val_main_v6 (F := Ideal) x0 (ix2 t 0) = ms (row x0 t) := by
  pointwise [val_main_v6, val_main_v5, val_main_cst_1, val_main_v4, val_main_v3, val_main_cst_0, val_main_v2, val_main_v1, val_main_cst, val_main_v0]
  rfl

theorem v7_eq : val_main_v7 (F := Ideal) x0 (ix2 t 0) = inv (row x0 t) := by
  pointwise [val_main_v7]
  rw [v6_eq]
  rfl

/-- The gain's gradient. -/
theorem v40_eq : val_main_v40 (F := Ideal) x0 x2 x4 (ix2 0 d) = dgain x0 (dy x2 x4) d := by
  pointwise [val_main_v40, val_main_v23, val_main_cst_4, val_main_v20, val_main_v19, val_main_cst_3, val_main_v18, val_main_v12, val_main_v11]
  simp only [v17_eq, v7_eq, zero_add, Finset.univ_unique, Finset.sum_singleton]
  exact Finset.sum_congr rfl fun t _ => mul_comm _ _

/-- The share of each entry that comes through the root. -/
theorem v34_eq : val_main_v34 (F := Ideal) x0 x1 x2 x4 (ix2 t d)
    = Ideal.div ((∑ k, row x0 t k * (dy x2 x4 t k * gn x1 k)) * (neg * Ideal.div (inv (row x0 t)) (ms (row x0 t)))) len := by
  pointwise [val_main_v34, val_main_v33, val_main_cst_7, val_main_v32, val_main_v31, val_main_cst_6, val_main_v30, val_main_v26, val_main_v25, val_main_cst_5, val_main_v24,
    val_main_v22, val_main_v21, val_main_v13, val_main_v10, val_main_v9, val_main_cst_2, val_main_v8]
  simp only [v17_eq, Fin.sum_univ_one, v7_eq, v6_eq]
  rfl

/-- The input's gradient. -/
theorem v38_eq : val_main_v38 (F := Ideal) x0 x1 x2 x3 x4 (ix2 t d) = dx x0 (gn x1) (dy x2 x4) x3 t d := by
  rw [dx, ← grad_eq (row x0 t) (gn x1) (dy x2 x4 t), ← v34_eq x0 x1 x2 x4 t d, ← add_assoc, ← add_assoc]
  pointwise [val_main_v38, val_main_v37, val_main_v36, val_main_v35, val_main_v29, val_main_v28, val_main_v27, val_main_v22, val_main_v21, val_main_v13]
  rw [v17_eq, v7_eq]
  rfl

theorem v39_eq : val_main_v39 (F := Ideal) x0 x1 x2 x3 x4 (ix2 t d) = dx x0 (gn x1) (dy x2 x4) x3 t d := by
  pointwise [val_main_v39]
  exact v38_eq x0 x1 x2 x3 x4 t d

end Cert.DupRefIdeal.Val

end
-- ==== Proof.Dup.Claim.lean ====
module

public import proofs.«01_k».proof.Defs
public import proofs.«01_k».proof.Proof.Norm.Spec
public import proofs.«01_k».proof.Proof.Reals
public import proofs.«01_k».proof.Proof.Dup.Kernel
public import proofs.«01_k».proof.Proof.Dup.Ref

@[expose] public section

set_option maxRecDepth 16384

noncomputable section

/-! The pair of the conv-gated layer's first projection: kernel and reference end with the same arrays. -/

namespace Cert.DupClaim

open Idealize.ShloMosaic Idealize.ShloMosaic.TcCoe Idealize.SL.Sem
open Cert.Reals Cert.DupIdeal Cert.DupIdeal.Gen Cert.DupRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024 .f32 := m ((c : Thread nD τ).loc main_arg1)
abbrev a2 : FVec Ideal S1024x5632 .f32 := m ((c : Thread nD τ).loc main_arg2)
abbrev a3 : FVec Ideal S2048x1024 .f32 := m ((c : Thread nD τ).loc main_arg3)
abbrev a4 : FVec Ideal S2048x5632 .f32 := m ((c : Thread nD τ).loc main_arg4)

open Cert.DupRefIdeal.Val in
/-- What the host hands the launch: the gradient's two halves and the projection, cut in blocks. -/
theorem dy_eq : Val.dy m c = dy (a2 m c) (a4 m c) := by
  funext t d
  refine Norm.halves_eq (fun j t k h => ?_) (fun j t k h => ?_) (fun j k d h => ?_) t d
  · unfold Val.dgA
    entry_read
    pointwise []
  · unfold Val.dvA
    entry_read
    pointwise []
  · unfold Val.wA
    entry_read
    pointwise []

theorem gn_eq : Val.gn m c = Cert.DupRefIdeal.Val.gn (a1 m c) := by
  funext k
  rw [Val.gn]
  unfold Val.gA
  entry_read
  pointwise [Cert.DupRefIdeal.Val.gn]

theorem xA_eq : Val.xA m c = a0 m c := by
  unfold Val.xA
  entry_read
  rfl

theorem dhA_eq : Val.dhA m c = a3 m c := by
  unfold Val.dhA
  entry_read
  rfl

theorem out0 : (dats m 0 c).arrAt 7 cfg0.N = val_main_v38 (F := Ideal) (a0 m c) (a1 m c) (a2 m c) (a3 m c) (a4 m c) := by
  funext i
  idx_vars i
  rw [Val.final7, dy_eq, gn_eq, xA_eq, dhA_eq]
  exact (Cert.DupRefIdeal.Val.v38_eq ..).symm

theorem out1 : (dats m 0 c).arrAt 8 cfg0.N = val_main_v39 (F := Ideal) (a0 m c) (a1 m c) (a2 m c) (a3 m c) (a4 m c) := by
  funext i
  idx_vars i
  rw [Val.final8, dy_eq, gn_eq, xA_eq, dhA_eq]
  exact (Cert.DupRefIdeal.Val.v39_eq ..).symm

theorem out2 : (dats m 0 c).arrAt 9 cfg0.N = val_main_v40 (F := Ideal) (a0 m c) (a2 m c) (a4 m c) := by
  funext i
  idx_vars i
  obtain rfl : i0 = 0 := Subsingleton.elim _ _
  rw [Val.final9, dy_eq, xA_eq]
  exact (Cert.DupRefIdeal.Val.v40_eq ..).symm

/-- The reference's run, its results as the stages of its arguments. -/
theorem reference (m' : (ℓ : Loc Cert.DupRefIdeal.nD Cert.DupRefIdeal.τ Cert.DupRefIdeal.sig) → Buf (Elt Ideal) ℓ) (g' : Dev Cert.DupRefIdeal.nD → PrngReg) :
    θ_run (Cert.DupRefIdeal.defs (F := Ideal)) (onTc (τ := Cert.DupRefIdeal.τ) (Cert.DupRefIdeal.main (F := Ideal))) ⟨m', fun _ => 0, g'⟩ fun r => ∀ c : Dev Cert.DupRefIdeal.nD,
      let a (b : Ref Cert.DupRefIdeal.sig .tc) := m' ((c.tc : Thread Cert.DupRefIdeal.nD Cert.DupRefIdeal.τ).loc b)
      let o (b : Ref Cert.DupRefIdeal.sig .tc) := r.2.mem ((c.tc : Thread Cert.DupRefIdeal.nD Cert.DupRefIdeal.τ).loc b)
      (o Cert.DupRefIdeal.main_v38 = val_main_v38 (F := Ideal) (a Cert.DupRefIdeal.main_arg0) (a Cert.DupRefIdeal.main_arg1) (a Cert.DupRefIdeal.main_arg2) (a Cert.DupRefIdeal.main_arg3) (a Cert.DupRefIdeal.main_arg4)
      ∧ o Cert.DupRefIdeal.main_v39 = val_main_v39 (F := Ideal) (a Cert.DupRefIdeal.main_arg0) (a Cert.DupRefIdeal.main_arg1) (a Cert.DupRefIdeal.main_arg2) (a Cert.DupRefIdeal.main_arg3) (a Cert.DupRefIdeal.main_arg4)
      ∧ o Cert.DupRefIdeal.main_v40 = val_main_v40 (F := Ideal) (a Cert.DupRefIdeal.main_arg0) (a Cert.DupRefIdeal.main_arg2) (a Cert.DupRefIdeal.main_arg4))
      ∧ o Cert.DupRefIdeal.main_arg0 = a Cert.DupRefIdeal.main_arg0 ∧ o Cert.DupRefIdeal.main_arg1 = a Cert.DupRefIdeal.main_arg1 ∧ o Cert.DupRefIdeal.main_arg2 = a Cert.DupRefIdeal.main_arg2 ∧ o Cert.DupRefIdeal.main_arg3 = a Cert.DupRefIdeal.main_arg3 ∧ o Cert.DupRefIdeal.main_arg4 = a Cert.DupRefIdeal.main_arg4 :=
  (θ_run Cert.DupRefIdeal.defs _ _).mono (fun r h c => ⟨⟨(h c).1.trans (val_main_v38_eq m' c),
    (h c).2.1.trans (val_main_v39_eq m' c),
    (h c).2.2.1.trans (val_main_v40_eq _ _ _)⟩, (h c).2.2.2⟩) (Cert.DupRefIdeal.Value.run m' g')

/-- Kernel and reference agree at the extended reals. -/
theorem algebraic : Cert.algebraic_DupIdeal_DupRefIdeal := by
  intro m g m' g' _ hagree
  refine ⟨_, _, _, Cert.DupIdeal.Value.run_blocks m g, (θ_run Cert.DupRefIdeal.defs _ _).mono (fun r h c => ?_) (reference m' g')⟩
  obtain ⟨e0, e1, e2, e3, e4⟩ := hagree c
  obtain ⟨⟨h0, h1, h2⟩, kept⟩ := h c
  dsimp only at h0 h1 h2
  rw [e0, e1, e2, e3, e4] at h0
  rw [e0, e1, e2, e3, e4] at h1
  rw [e0, e2, e4] at h2
  exact ⟨h0.trans (out0 m c).symm, h1.trans (out1 m c).symm, h2.trans (out2 m c).symm, kept⟩

end Cert.DupClaim

end
-- ==== Proof.Dout.Kernel.lean ====
module

public import proofs.«01_k».proof.Proof.Gen.DoutIdeal.Value
public import proofs.«01_k».proof.Proof.Norm.Spec

@[expose] public section

set_option maxRecDepth 16384

noncomputable section

/-! The kernel's four result arrays, entry by entry. -/

namespace Cert.DoutIdeal.Val

open Cert.DoutIdeal Cert.DoutIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev dgA (c : Dev nD) : Norm.Z := V m c main_v11
abbrev dvA (c : Dev nD) : Norm.Z := V m c main_v14
abbrev wA (c : Dev nD) : Norm.W := V m c main_v7
abbrev xA (c : Dev nD) : Norm.A := V m c main_v3
abbrev gA (c : Dev nD) : Norm.R := V m c main_v15
abbrev dhA (c : Dev nD) : Norm.A := V m c main_arg5
abbrev woA (c : Dev nD) : (⟨2, ![1024, 1024]⟩ : Shape).Idx → EReal := V m c main_v4

/-- Where each window's block lies. -/
theorem idx : ∀ t : Fin cfg0.N, win0_0.index t = ![0, t.val, 0] ∧ win0_1.index t = ![0, 0, 0, 0] ∧ win0_2.index t = ![0, t.val, 0] ∧ win0_3.index t = ![0, 1, 0, 0]
    ∧ win0_4.index t = ![t.val, 0] ∧ win0_5.index t = ![0, 0] ∧ win0_6.index t = ![t.val, 0] ∧ win0_7.index t = ![0, 0] ∧ win0_8.index t = ![t.val, 0] ∧ win0_9.index t = ![t.val, 0] ∧ win0_10.index t = ![0, 0] ∧ win0_11.index t = ![t.val, 0] :=
  (by decide +kernel : ∀ t : Fin grid0.N, _)

theorem lt8 (t : Fin cfg0.N) : t.val < 8 := lt_of_lt_of_eq t.isLt N_0

/-- The gain, and the gradient that comes through the projection. -/
def gn (c : Dev nD) (k : Fin 1024) : EReal := gA m c (ix2 0 k)
abbrev dy (c : Dev nD) := halves (dgA m c) (dvA m c) (wA m c)

theorem wg_eq (c : Dev nD) (t : Fin cfg0.N) (d : Fin 1024) (j : Fin 4) (k : Fin 704) : iblk m c 1 t (ix4 0 j k d) = wA m c (ix4 0 ⟨j.val, by omega⟩ k d) := by
  blk_ext [iblk, idx t]

theorem wv_eq (c : Dev nD) (t : Fin cfg0.N) (d : Fin 1024) (j : Fin 4) (k : Fin 704) : iblk m c 3 t (ix4 0 j k d) = wA m c (ix4 0 ⟨4 + j.val, by omega⟩ k d) := by
  blk_ext [iblk, idx t]

/-- The gradient at the heads' outputs: the input's gradient through the output projection. -/
def do_ (c : Dev nD) (t : Fin 2048) (e : Fin 1024) : EReal := ∑ k : Fin 1024, dx (xA m c) (gn m c) (dy m c) (dhA m c) t k * woA m c (ix2 e k)

section Point

variable (c : Dev nD) (t : Fin cfg0.N) (r : Fin 256) (d : Fin 1024) (h : 256 * t.val + r.val < 2048)

/-- The point's product, block by block. -/
abbrev p3 := k0_pay3
  (k0_pay2 (View.ld (iblk m c 0 t) (Rect.unit ![0, 0, 0] ![1, 256, 704] inb_S4x256x704_S1x256x704_0_0_0))
    (View.ld (iblk m c 1 t) (Rect.unit ![0, 0, 0, 0] ![1, 1, 704, 1024] inb_S1x4x704x1024_S1x1x704x1024_0_0_0_0))
    (View.ld (iblk m c 0 t) (Rect.unit ![1, 0, 0] ![1, 256, 704] inb_S4x256x704_S1x256x704_1_0_0))
    (View.ld (iblk m c 1 t) (Rect.unit ![0, 1, 0, 0] ![1, 1, 704, 1024] inb_S1x4x704x1024_S1x1x704x1024_0_1_0_0))
    (View.ld (iblk m c 0 t) (Rect.unit ![2, 0, 0] ![1, 256, 704] inb_S4x256x704_S1x256x704_2_0_0))
    (View.ld (iblk m c 1 t) (Rect.unit ![0, 2, 0, 0] ![1, 1, 704, 1024] inb_S1x4x704x1024_S1x1x704x1024_0_2_0_0))
    (View.ld (iblk m c 0 t) (Rect.unit ![3, 0, 0] ![1, 256, 704] inb_S4x256x704_S1x256x704_3_0_0))
    (View.ld (iblk m c 1 t) (Rect.unit ![0, 3, 0, 0] ![1, 1, 704, 1024] inb_S1x4x704x1024_S1x1x704x1024_0_3_0_0)))
  (View.ld (iblk m c 2 t) (Rect.unit ![0, 0, 0] ![1, 256, 704] inb_S4x256x704_S1x256x704_0_0_0))
  (View.ld (iblk m c 3 t) (Rect.unit ![0, 0, 0, 0] ![1, 1, 704, 1024] inb_S1x4x704x1024_S1x1x704x1024_0_0_0_0))
  (View.ld (iblk m c 2 t) (Rect.unit ![1, 0, 0] ![1, 256, 704] inb_S4x256x704_S1x256x704_1_0_0))
  (View.ld (iblk m c 3 t) (Rect.unit ![0, 1, 0, 0] ![1, 1, 704, 1024] inb_S1x4x704x1024_S1x1x704x1024_0_1_0_0))
  (View.ld (iblk m c 2 t) (Rect.unit ![2, 0, 0] ![1, 256, 704] inb_S4x256x704_S1x256x704_2_0_0))
  (View.ld (iblk m c 3 t) (Rect.unit ![0, 2, 0, 0] ![1, 1, 704, 1024] inb_S1x4x704x1024_S1x1x704x1024_0_2_0_0))
  (View.ld (iblk m c 2 t) (Rect.unit ![3, 0, 0] ![1, 256, 704] inb_S4x256x704_S1x256x704_3_0_0))
  (View.ld (iblk m c 3 t) (Rect.unit ![0, 3, 0, 0] ![1, 1, 704, 1024] inb_S1x4x704x1024_S1x1x704x1024_0_3_0_0))

include h in
theorem x_eq : iblk m c 4 t (ix2 r d) = row (xA m c) ⟨256 * t.val + r.val, h⟩ d := by
  rw [row]
  blk_ext [iblk, idx t]

theorem g_eq : iblk m c 5 t (ix2 0 d) = gn m c d := by
  rw [gn]
  blk_ext [iblk, idx t]

include h in
theorem dg_eq (j : Fin 4) (k : Fin 704) : iblk m c 0 t (ix3 j r k) = dgA m c (ix3 j ⟨256 * t.val + r.val, h⟩ k) := by
  blk_ext [iblk, idx t]

include h in
theorem dv_eq (j : Fin 4) (k : Fin 704) : iblk m c 2 t (ix3 j r k) = dvA m c (ix3 j ⟨256 * t.val + r.val, h⟩ k) := by
  blk_ext [iblk, idx t]

include h in
theorem p3_eq : p3 m c t (ix2 r d) = dy m c ⟨256 * t.val + r.val, h⟩ d := by
  have hA (j : Fin 4) := sum_mul_congr (dg_eq m c t r h j) (wg_eq m c t d j)
  have hB (j : Fin 4) := sum_mul_congr (dv_eq m c t r h j) (wv_eq m c t d j)
  refine Eq.trans ?_ (halves_eight ..)
  pointwise [p3, k0_pay3, k0_pay2]
  exact congr (congrArg HAdd.hAdd (congr (congrArg HAdd.hAdd (congr (congrArg HAdd.hAdd (congr (congrArg HAdd.hAdd
    (congr (congrArg HAdd.hAdd (congr (congrArg HAdd.hAdd (congr (congrArg HAdd.hAdd (hA 0)) (hA 1))) (hA 2))) (hA 3))) (hB 0))) (hB 1))) (hB 2))) (hB 3)

theorem wo_eq (e : Fin 1024) : iblk m c 7 t (ix2 d e) = woA m c (ix2 d e) := by
  blk_ext [iblk, idx t]

/-- What the point stores. -/
theorem pay8_eq : k0_pay8 (p3 m c t) (k0_pay4 (iblk m c 4 t)) (k0_pay5 (iblk m c 4 t)) (iblk m c 6 t) (iblk m c 5 t) (ix2 r d)
    = dx (xA m c) (gn m c) (dy m c) (dhA m c) ⟨256 * t.val + r.val, h⟩ d := by
  pointwise [k0_pay8, k0_pay7, k0_pay6, k0_pay5, k0_pay4]
  simp only [x_eq m c t r _ h, p3_eq m c t r _ h, g_eq]
  refine congrArg₂ (· + ·) ?_ rfl
  blk_ext [iblk, idx t]

theorem pay10_eq : k0_pay10 (p3 m c t) (k0_pay4 (iblk m c 4 t)) (k0_pay5 (iblk m c 4 t)) (iblk m c 6 t) (iblk m c 5 t) (ix2 r d)
    = dx (xA m c) (gn m c) (dy m c) (dhA m c) ⟨256 * t.val + r.val, h⟩ d := by
  pointwise [k0_pay10]
  exact pay8_eq m c t r d h

/-- The gradient at the heads' outputs. -/
theorem pay11_eq : k0_pay11 (p3 m c t) (k0_pay4 (iblk m c 4 t)) (k0_pay5 (iblk m c 4 t)) (iblk m c 6 t) (iblk m c 5 t) (iblk m c 7 t) (ix2 r d)
    = do_ m c ⟨256 * t.val + r.val, h⟩ d := by
  pointwise [k0_pay11]
  refine Finset.sum_congr rfl fun k _ => congrArg₂ (· * ·) ?_ (wo_eq m c t d k)
  exact pay10_eq m c t r k h

end Point

/-- What the point adds to the gain's gradient. -/
theorem pay9_eq (c : Dev nD) (t : Fin cfg0.N) (d : Fin 1024) : k0_pay9 (p3 m c t) (k0_pay4 (iblk m c 4 t)) (k0_pay5 (iblk m c 4 t)) (ix2 0 d)
    = ∑ r : Fin 256, dy m c ⟨t.val * 256 + r.val, by have := lt8 t; omega⟩ d
      * (row (xA m c) ⟨t.val * 256 + r.val, by have := lt8 t; omega⟩ d * inv (row (xA m c) ⟨t.val * 256 + r.val, by have := lt8 t; omega⟩)) := by
  have ht := lt8 t
  pointwise [k0_pay9, k0_pay7, k0_pay6, k0_pay5, k0_pay4]
  refine Finset.sum_congr rfl fun r _ => ?_
  simp only [x_eq m c t r _ (by omega), p3_eq m c t r _ (by omega), Nat.mul_comm 256]
  rfl

/-- The input's gradient, kept and rounded. -/
theorem final8 (c : Dev nD) (t : Fin 2048) (d : Fin 1024) : (dats m 0 c).arrAt 8 cfg0.N (ix2 t d) = dx (xA m c) (gn m c) (dy m c) (dhA m c) t d := by
  refine congrFun ((dats m 0 c).arrAt_eq_of_covers 8 (fun i => dx (xA m c) (gn m c) (dy m c) (dhA m c) (i 0) (i 1)) (by decide +kernel) fun t hf y => ?_) (ix2 t d)
  idx_vars y
  have ht := lt8 t
  blk_simp
  rw [after0_8, show (win0_8.blk t).view.emb (ix2 y0 y1) = ix2 ⟨256 * t.val + y0.val, by omega⟩ y1 by blk_ext [idx t]]
  by_cases h8 : t.val % 8 = 0
  · rw [outsAt0_A m c t h8 (by omega)]
    frame_out
    exact pay8_eq m c t y0 y1 (by omega)
  · rw [outsAt0_B m c t h8 (by omega)]
    frame_out
    exact pay8_eq m c t y0 y1 (by omega)

theorem final9 (c : Dev nD) (t : Fin 2048) (d : Fin 1024) : (dats m 0 c).arrAt 9 cfg0.N (ix2 t d) = dx (xA m c) (gn m c) (dy m c) (dhA m c) t d := by
  refine congrFun ((dats m 0 c).arrAt_eq_of_covers 9 (fun i => dx (xA m c) (gn m c) (dy m c) (dhA m c) (i 0) (i 1)) (by decide +kernel) fun t hf y => ?_) (ix2 t d)
  idx_vars y
  have ht := lt8 t
  blk_simp
  rw [after0_9, show (win0_9.blk t).view.emb (ix2 y0 y1) = ix2 ⟨256 * t.val + y0.val, by omega⟩ y1 by blk_ext [idx t]]
  by_cases h8 : t.val % 8 = 0
  · rw [outsAt0_A m c t h8 (by omega)]
    frame_out
    exact pay10_eq m c t y0 y1 (by omega)
  · rw [outsAt0_B m c t h8 (by omega)]
    frame_out
    exact pay10_eq m c t y0 y1 (by omega)

/-- The gain's gradient. -/
theorem final10 (c : Dev nD) (d : Fin 1024) : (dats m 0 c).arrAt 10 cfg0.N (ix2 0 d) = dgain (xA m c) (dy m c) d := by
  refine congrFun ((dats m 0 c).arrAt_eq_of_after_last 10 t0_7 (by decide +kernel) (fun j => dgain (xA m c) (dy m c) (j 1)) fun j => ?_) (ix2 0 d)
  idx_vars j
  blk_simp
  rw [after0_10, Pipeline.eq_sum_fin_of_reset_step_apply_last (fun n h => (outsAt0 m c n h).2.2.1) 8 (fun _ => 0)
    (fun t j => ∑ r : Fin 256, dy m c ⟨t.val * 256 + r.val, by have := lt8 t; omega⟩ (j 1)
      * (row (xA m c) ⟨t.val * 256 + r.val, by have := lt8 t; omega⟩ (j 1) * inv (row (xA m c) ⟨t.val * 256 + r.val, by have := lt8 t; omega⟩)))
    (fun t h j => by
      have := lt8 t
      rw [outsAt0_A m c t h (by omega), zero_add]
      frame_out
      idx_vars j
      obtain rfl : j0 = 0 := Subsingleton.elim _ _
      exact pay9_eq m c t j1)
    (fun t h j => by
      rw [outsAt0_B m c t h (by omega)]
      frame_out
      idx_vars j
      obtain rfl : j0 = 0 := Subsingleton.elim _ _
      pointwise [k0_pay1]
      exact congrArg _ (pay9_eq m c t j1))
    (le_of_eq N_0) t0_7 rfl _, zero_add]
  exact Fin.sum_mul_add_congr (fun s r hl => rfl) (by rw [show cfg0.N = 8 from N_0])

theorem final11 (c : Dev nD) (t : Fin 2048) (d : Fin 1024) : (dats m 0 c).arrAt 11 cfg0.N (ix2 t d) = do_ m c t d := by
  refine congrFun ((dats m 0 c).arrAt_eq_of_covers 11 (fun i => do_ m c (i 0) (i 1)) (by decide +kernel) fun t hf y => ?_) (ix2 t d)
  idx_vars y
  have ht := lt8 t
  blk_simp
  rw [after0_11, show (win0_11.blk t).view.emb (ix2 y0 y1) = ix2 ⟨256 * t.val + y0.val, by omega⟩ y1 by blk_ext [idx t]]
  by_cases h8 : t.val % 8 = 0
  · rw [outsAt0_A m c t h8 (by omega)]
    frame_out
    exact pay11_eq m c t y0 y1 (by omega)
  · rw [outsAt0_B m c t h8 (by omega)]
    frame_out
    exact pay11_eq m c t y0 y1 (by omega)

end Cert.DoutIdeal.Val

end
-- ==== Proof.Dout.Ref.lean ====
module

public import proofs.«01_k».proof.Proof.Gen.DoutRefIdeal.Read
public import proofs.«01_k».proof.Proof.Dup.Ref

@[expose] public section

set_option maxRecDepth 16384

noncomputable section

/-! The reference's four results, entry by entry: the first projection's reference at the hidden state after the heads, and one product more. -/

namespace Cert.DoutRefIdeal.Val

open Cert.DoutRefIdeal Cert.DoutRefIdeal.Read Cert.Norm Cert.Reals Idealize.ShloMosaic Idealize.ShloMosaic.TcCoe Idealize.SL.Sem
open Cert.DupRefIdeal.Val (gn dy)

variable (x0 x1 : FVec Ideal S2048x1024 .f32) (x2 : FVec Ideal S1024 .f32) (x3 : FVec Ideal S1024x1024 .f32) (x4 : FVec Ideal S1024x5632 .f32)
  (x5 : FVec Ideal S2048x1024 .f32) (x6 : FVec Ideal S2048x5632 .f32) (t : Fin 2048) (d : Fin 1024)

/-- The hidden state after the heads. -/
def h3 : Norm.A := fun i => x0 i + ∑ k : Fin 1024, x1 (ix2 (i 0) k) * x3 (ix2 k (i 1))

theorem v1_eq : val_main_v1 (F := Ideal) x0 x1 x3 = h3 x0 x1 x3 := by
  funext i
  idx_vars i
  pointwise [val_main_v1, val_main_v0]
  rfl

/-- The gain's gradient. -/
theorem v44_eq : val_main_v44 (F := Ideal) x0 x1 x3 x4 x6 (ix2 0 d) = dgain (h3 x0 x1 x3) (dy x4 x6) d := by
  rw [← v1_eq]
  exact Cert.DupRefIdeal.Val.v40_eq (val_main_v1 (F := Ideal) x0 x1 x3) x4 x6 d

/-- The input's gradient. -/
theorem v40_eq : val_main_v40 (F := Ideal) x0 x1 x2 x3 x4 x5 x6 (ix2 t d) = dx (h3 x0 x1 x3) (gn x2) (dy x4 x6) x5 t d := by
  rw [← v1_eq]
  exact Cert.DupRefIdeal.Val.v38_eq (val_main_v1 (F := Ideal) x0 x1 x3) x2 x4 x5 x6 t d

theorem v43_eq : val_main_v43 (F := Ideal) x0 x1 x2 x3 x4 x5 x6 (ix2 t d) = dx (h3 x0 x1 x3) (gn x2) (dy x4 x6) x5 t d := by
  pointwise [val_main_v43]
  exact v40_eq x0 x1 x2 x3 x4 x5 x6 t d

/-- The gradient at the heads' outputs. -/
theorem v45_eq : val_main_v45 (F := Ideal) x0 x1 x2 x3 x4 x5 x6 (ix2 t d)
    = ∑ k : Fin 1024, dx (h3 x0 x1 x3) (gn x2) (dy x4 x6) x5 t k * x3 (ix2 d k) := by
  pointwise [val_main_v45, val_main_v42, val_main_v41]
  exact Finset.sum_congr rfl fun k _ => congrArg (· * _) (v40_eq x0 x1 x2 x3 x4 x5 x6 t k)

end Cert.DoutRefIdeal.Val

end
-- ==== Proof.Dout.Claim.lean ====
module

public import proofs.«01_k».proof.Defs
public import proofs.«01_k».proof.Proof.Norm.Spec
public import proofs.«01_k».proof.Proof.Reals
public import proofs.«01_k».proof.Proof.Dout.Kernel
public import proofs.«01_k».proof.Proof.Dout.Ref

@[expose] public section

set_option maxRecDepth 16384

noncomputable section

/-! The pair of the last layer's first projection: kernel and reference end with the same arrays. -/

namespace Cert.DoutClaim

open Idealize.ShloMosaic Idealize.ShloMosaic.TcCoe Idealize.SL.Sem
open Cert.Reals Cert.DoutIdeal Cert.DoutIdeal.Gen Cert.DoutRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S2048x1024 .f32 := m ((c : Thread nD τ).loc main_arg1)
abbrev a2 : FVec Ideal S1024 .f32 := m ((c : Thread nD τ).loc main_arg2)
abbrev a3 : FVec Ideal S1024x1024 .f32 := m ((c : Thread nD τ).loc main_arg3)
abbrev a4 : FVec Ideal S1024x5632 .f32 := m ((c : Thread nD τ).loc main_arg4)
abbrev a5 : FVec Ideal S2048x1024 .f32 := m ((c : Thread nD τ).loc main_arg5)
abbrev a6 : FVec Ideal S2048x5632 .f32 := m ((c : Thread nD τ).loc main_arg6)

open Cert.DupRefIdeal.Val in
/-- What the host hands the launch: the gradient's two halves and the projection, cut in blocks. -/
theorem dy_eq : Val.dy m c = dy (a4 m c) (a6 m c) := by
  funext t d
  refine Norm.halves_eq (fun j t k h => ?_) (fun j t k h => ?_) (fun j k d h => ?_) t d
  · unfold Val.dgA
    entry_read
    pointwise []
  · unfold Val.dvA
    entry_read
    pointwise []
  · unfold Val.wA
    entry_read
    pointwise []

theorem gn_eq : Val.gn m c = Cert.DupRefIdeal.Val.gn (a2 m c) := by
  funext k
  rw [Val.gn]
  unfold Val.gA
  entry_read
  pointwise [Cert.DupRefIdeal.Val.gn]

open Cert.DoutRefIdeal.Val in
theorem xA_eq : Val.xA m c = h3 (a0 m c) (a1 m c) (a3 m c) := by
  unfold Val.xA
  entry_read
  funext i
  idx_vars i
  pointwise []
  rfl

theorem wo_eq : Val.woA m c = a3 m c := by
  unfold Val.woA
  entry_read
  rfl

theorem dhA_eq : Val.dhA m c = a5 m c := by
  unfold Val.dhA
  entry_read
  rfl

theorem out0 : (dats m 0 c).arrAt 8 cfg0.N = val_main_v40 (F := Ideal) (a0 m c) (a1 m c) (a2 m c) (a3 m c) (a4 m c) (a5 m c) (a6 m c) := by
  funext i
  idx_vars i
  rw [Val.final8, dy_eq, gn_eq, xA_eq, dhA_eq]
  exact (Cert.DoutRefIdeal.Val.v40_eq ..).symm

theorem out1 : (dats m 0 c).arrAt 9 cfg0.N = val_main_v43 (F := Ideal) (a0 m c) (a1 m c) (a2 m c) (a3 m c) (a4 m c) (a5 m c) (a6 m c) := by
  funext i
  idx_vars i
  rw [Val.final9, dy_eq, gn_eq, xA_eq, dhA_eq]
  exact (Cert.DoutRefIdeal.Val.v43_eq ..).symm

theorem out3 : (dats m 0 c).arrAt 11 cfg0.N = val_main_v45 (F := Ideal) (a0 m c) (a1 m c) (a2 m c) (a3 m c) (a4 m c) (a5 m c) (a6 m c) := by
  funext i
  idx_vars i
  rw [Val.final11, Val.do_, wo_eq, dy_eq, gn_eq, xA_eq, dhA_eq]
  exact (Cert.DoutRefIdeal.Val.v45_eq ..).symm

theorem out2 : (dats m 0 c).arrAt 10 cfg0.N = val_main_v44 (F := Ideal) (a0 m c) (a1 m c) (a3 m c) (a4 m c) (a6 m c) := by
  funext i
  idx_vars i
  obtain rfl : i0 = 0 := Subsingleton.elim _ _
  rw [Val.final10, dy_eq, xA_eq]
  exact (Cert.DoutRefIdeal.Val.v44_eq ..).symm

/-- The reference's run, its results as the stages of its arguments. -/
theorem reference (m' : (ℓ : Loc Cert.DoutRefIdeal.nD Cert.DoutRefIdeal.τ Cert.DoutRefIdeal.sig) → Buf (Elt Ideal) ℓ) (g' : Dev Cert.DoutRefIdeal.nD → PrngReg) :
    θ_run (Cert.DoutRefIdeal.defs (F := Ideal)) (onTc (τ := Cert.DoutRefIdeal.τ) (Cert.DoutRefIdeal.main (F := Ideal))) ⟨m', fun _ => 0, g'⟩ fun r => ∀ c : Dev Cert.DoutRefIdeal.nD,
      let a (b : Ref Cert.DoutRefIdeal.sig .tc) := m' ((c.tc : Thread Cert.DoutRefIdeal.nD Cert.DoutRefIdeal.τ).loc b)
      let o (b : Ref Cert.DoutRefIdeal.sig .tc) := r.2.mem ((c.tc : Thread Cert.DoutRefIdeal.nD Cert.DoutRefIdeal.τ).loc b)
      (o Cert.DoutRefIdeal.main_v40 = val_main_v40 (F := Ideal) (a Cert.DoutRefIdeal.main_arg0) (a Cert.DoutRefIdeal.main_arg1) (a Cert.DoutRefIdeal.main_arg2) (a Cert.DoutRefIdeal.main_arg3) (a Cert.DoutRefIdeal.main_arg4) (a Cert.DoutRefIdeal.main_arg5) (a Cert.DoutRefIdeal.main_arg6)
      ∧ o Cert.DoutRefIdeal.main_v43 = val_main_v43 (F := Ideal) (a Cert.DoutRefIdeal.main_arg0) (a Cert.DoutRefIdeal.main_arg1) (a Cert.DoutRefIdeal.main_arg2) (a Cert.DoutRefIdeal.main_arg3) (a Cert.DoutRefIdeal.main_arg4) (a Cert.DoutRefIdeal.main_arg5) (a Cert.DoutRefIdeal.main_arg6)
      ∧ o Cert.DoutRefIdeal.main_v44 = val_main_v44 (F := Ideal) (a Cert.DoutRefIdeal.main_arg0) (a Cert.DoutRefIdeal.main_arg1) (a Cert.DoutRefIdeal.main_arg3) (a Cert.DoutRefIdeal.main_arg4) (a Cert.DoutRefIdeal.main_arg6)
      ∧ o Cert.DoutRefIdeal.main_v45 = val_main_v45 (F := Ideal) (a Cert.DoutRefIdeal.main_arg0) (a Cert.DoutRefIdeal.main_arg1) (a Cert.DoutRefIdeal.main_arg2) (a Cert.DoutRefIdeal.main_arg3) (a Cert.DoutRefIdeal.main_arg4) (a Cert.DoutRefIdeal.main_arg5) (a Cert.DoutRefIdeal.main_arg6))
      ∧ o Cert.DoutRefIdeal.main_arg0 = a Cert.DoutRefIdeal.main_arg0 ∧ o Cert.DoutRefIdeal.main_arg1 = a Cert.DoutRefIdeal.main_arg1 ∧ o Cert.DoutRefIdeal.main_arg2 = a Cert.DoutRefIdeal.main_arg2 ∧ o Cert.DoutRefIdeal.main_arg3 = a Cert.DoutRefIdeal.main_arg3 ∧ o Cert.DoutRefIdeal.main_arg4 = a Cert.DoutRefIdeal.main_arg4 ∧ o Cert.DoutRefIdeal.main_arg5 = a Cert.DoutRefIdeal.main_arg5 ∧ o Cert.DoutRefIdeal.main_arg6 = a Cert.DoutRefIdeal.main_arg6 :=
  (θ_run Cert.DoutRefIdeal.defs _ _).mono (fun r h c => ⟨⟨(h c).1.trans (val_main_v40_eq m' c),
    (h c).2.1.trans (val_main_v43_eq m' c),
    (h c).2.2.1.trans (val_main_v44_eq _ _ _ _ _),
    (h c).2.2.2.1.trans (val_main_v45_eq m' c)⟩, (h c).2.2.2.2⟩) (Cert.DoutRefIdeal.Value.run m' g')

/-- Kernel and reference agree at the extended reals. -/
theorem algebraic : Cert.algebraic_DoutIdeal_DoutRefIdeal := by
  intro m g m' g' _ hagree
  refine ⟨_, _, _, _, Cert.DoutIdeal.Value.run_blocks m g, (θ_run Cert.DoutRefIdeal.defs _ _).mono (fun r h c => ?_) (reference m' g')⟩
  obtain ⟨e0, e1, e2, e3, e4, e5, e6⟩ := hagree c
  obtain ⟨⟨h0, h1, h2, h3⟩, kept⟩ := h c
  dsimp only at h0 h1 h2 h3
  rw [e0, e1, e2, e3, e4, e5, e6] at h0
  rw [e0, e1, e2, e3, e4, e5, e6] at h1
  rw [e0, e1, e3, e4, e6] at h2
  rw [e0, e1, e2, e3, e4, e5, e6] at h3
  exact ⟨h0.trans (out0 m c).symm, h1.trans (out1 m c).symm, h2.trans (out2 m c).symm, h3.trans (out3 m c).symm, kept⟩

end Cert.DoutClaim

end
-- ==== Proof.Loss.Spec.lean ====
module

public import proofs.«01_k».proof.Proof.Norm.Spec

@[expose] public section

noncomputable section

/-! The loss, half the sum over the rows of the mean squared error after the last norm, and its gradient. -/

namespace Cert.LossSpec

open Idealize.ShloMosaic Cert.Reals Cert.Norm

/-- One half, one over the row's length and two, as the programs write them. -/
abbrev half : EReal := Ideal.ofBits .f32 0x3F000000#32
abbrev per : EReal := Ideal.ofBits .f32 0x3A800000#32
abbrev two : EReal := Ideal.ofBits .f32 0x40000000#32
abbrev one : EReal := Ideal.ofBits .f32 0x3F800000#32

/-- The error at an entry, the gradient there, a row's mean squared error and the loss. -/
def err (x : A) (g : Fin 1024 → EReal) (y : A) (t : Fin 2048) (d : Fin 1024) : EReal := row x t d * inv (row x t) * g d - y (ix2 t d)
def derr (x : A) (g : Fin 1024 → EReal) (y : A) (t : Fin 2048) (d : Fin 1024) : EReal := err x g y t d * per
def mean (x : A) (g : Fin 1024 → EReal) (y : A) (t : Fin 2048) : EReal := Ideal.div (∑ d, err x g y t d * err x g y t d) len
def loss (x : A) (g : Fin 1024 → EReal) (y : A) : EReal := half * ∑ t, mean x g y t

theorem half_eq : half = ((1 / 2 : ℝ) : EReal) := by
  simp [half, Ideal.ofBits, Ideal.ieee, -EReal.coe_mul]; norm_num

theorem per_eq : per = ((1 / 1024 : ℝ) : EReal) := by
  simp [per, Ideal.ofBits, Ideal.ieee, -EReal.coe_mul]; norm_num

theorem two_eq : two = ((2 : ℝ) : EReal) := by
  simp [two, Ideal.ofBits, Ideal.ieee, -EReal.coe_mul]; norm_num

theorem one_eq : one = ((1 : ℝ) : EReal) := by
  simp [one, Ideal.ofBits, Ideal.ieee, -EReal.coe_mul]; norm_num

/-- Half of the mean's factor, times twice the error. -/
theorem derr_eq (e : EReal) : Ideal.div (half * one) len * (two * e) = e * per := by
  rw [half_eq, one_eq, len_eq, two_eq, per_eq, Ideal.div_coe (by norm_num), ← mul_assoc, ← EReal.coe_mul, ← EReal.coe_mul, ← EReal.coe_mul, mul_comm]
  norm_num

/-- A half goes into a sum. -/
theorem half_sum {ι : Type*} (s : Finset ι) (f : ι → EReal) : half * ∑ i ∈ s, f i = ∑ i ∈ s, half * f i := by
  rw [half_eq, coe_mul_sum (by norm_num)]

/-- The loss, the rows in four blocks. -/
theorem loss_blocks (x : A) (g : Fin 1024 → EReal) (y : A) :
    ∑ s : Fin 4, half * ∑ r : Fin 512, mean x g y ⟨s.val * 512 + r.val, by omega⟩ = loss x g y := by
  rw [loss, half_sum]
  simp only [half_sum]
  exact Fin.sum_mul_add_congr (fun s r hl => rfl) rfl

end Cert.LossSpec

end
-- ==== Proof.Loss.Kernel.lean ====
module

public import proofs.«01_k».proof.Proof.Gen.LossIdeal.Value
public import proofs.«01_k».proof.Proof.Loss.Spec

@[expose] public section

set_option maxRecDepth 16384

noncomputable section

/-! The kernel's four result arrays, entry by entry. -/

namespace Cert.LossIdeal.Val

open Cert.LossIdeal Cert.LossIdeal.Gen Cert.Norm Cert.LossSpec Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev aA (c : Dev nD) : Norm.Z := V m c main_v2
abbrev wA (c : Dev nD) : (⟨4, ![1, 4, 704, 1024]⟩ : Shape).Idx → EReal := V m c main_v4
abbrev hA (c : Dev nD) : Norm.A := V m c main_arg0
abbrev gA (c : Dev nD) : Norm.R := V m c main_v5
abbrev tA (c : Dev nD) : Norm.A := V m c main_arg4

/-- Where each window's block lies. -/
theorem idx : ∀ t : Fin cfg0.N, win0_0.index t = ![0, t.val, 0] ∧ win0_1.index t = ![0, 0, 0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

theorem lt4 (t : Fin cfg0.N) : t.val < 4 := lt_of_lt_of_eq t.isLt N_0

/-- The gain, the hidden state after the last layer, and the loss's gradient there. -/
def gn (c : Dev nD) (k : Fin 1024) : EReal := gA m c (ix2 0 k)
def hid (c : Dev nD) : Norm.A := fun i => hA m c i + ∑ j : Fin 4, ∑ k : Fin 704, aA m c (ix3 j (i 0) k) * wA m c (ix4 0 j k (i 1))
def dh (c : Dev nD) (t : Fin 2048) (d : Fin 1024) : EReal := grad (row (hid m c) t) (gn m c) (derr (hid m c) (gn m c) (tA m c) t) d

section Point

variable (c : Dev nD) (t : Fin cfg0.N) (r : Fin 512) (d : Fin 1024) (h : 512 * t.val + r.val < 2048)

/-- The point's hidden states. -/
abbrev p5 := k0_pay5 (View.ld (iblk m c 0 t) (Rect.unit ![0, 0, 0] ![1, 512, 704] inb_S4x512x704_S1x512x704_0_0_0))
  (View.ld (iblk m c 1 t) (Rect.unit ![0, 0, 0, 0] ![1, 1, 704, 1024] inb_S1x4x704x1024_S1x1x704x1024_0_0_0_0))
  (View.ld (iblk m c 0 t) (Rect.unit ![1, 0, 0] ![1, 512, 704] inb_S4x512x704_S1x512x704_1_0_0))
  (View.ld (iblk m c 1 t) (Rect.unit ![0, 1, 0, 0] ![1, 1, 704, 1024] inb_S1x4x704x1024_S1x1x704x1024_0_1_0_0))
  (View.ld (iblk m c 0 t) (Rect.unit ![2, 0, 0] ![1, 512, 704] inb_S4x512x704_S1x512x704_2_0_0))
  (View.ld (iblk m c 1 t) (Rect.unit ![0, 2, 0, 0] ![1, 1, 704, 1024] inb_S1x4x704x1024_S1x1x704x1024_0_2_0_0))
  (View.ld (iblk m c 0 t) (Rect.unit ![3, 0, 0] ![1, 512, 704] inb_S4x512x704_S1x512x704_3_0_0))
  (View.ld (iblk m c 1 t) (Rect.unit ![0, 3, 0, 0] ![1, 1, 704, 1024] inb_S1x4x704x1024_S1x1x704x1024_0_3_0_0))
  (iblk m c 2 t)

theorem g_eq : iblk m c 3 t (ix2 0 d) = gn m c d := by
  rw [gn]
  blk_ext [iblk, idx t]

theorem w_eq (j : Fin 4) (k : Fin 704) : iblk m c 1 t (ix4 0 j k d) = wA m c (ix4 0 j k d) := by
  blk_ext [iblk, idx t]

include h in
theorem a_eq (j : Fin 4) (k : Fin 704) : iblk m c 0 t (ix3 j r k) = aA m c (ix3 j ⟨512 * t.val + r.val, h⟩ k) := by
  blk_ext [iblk, idx t]

include h in
theorem p5_eq : p5 m c t (ix2 r d) = row (hid m c) ⟨512 * t.val + r.val, h⟩ d := by
  have hs (j : Fin 4) := sum_mul_congr (a_eq m c t r h j) (w_eq m c t d j)
  rw [row, hid, Fin.sum_univ_four]
  pointwise [p5, k0_pay5]
  rw [add_comm]
  refine congrArg₂ (· + ·) ?_ (congr (congrArg HAdd.hAdd (congr (congrArg HAdd.hAdd (congr (congrArg HAdd.hAdd (hs 0)) (hs 1))) (hs 2))) (hs 3))
  blk_ext [iblk, idx t]

include h in
theorem p6_eq : k0_pay6 (p5 m c t) (ix2 r 0) = inv (row (hid m c) ⟨512 * t.val + r.val, h⟩) := by
  pointwise [k0_pay6]
  simp only [p5_eq m c t r _ h]
  rfl

include h in
theorem p7_eq : k0_pay7 (p5 m c t) (ix2 r d) = row (hid m c) ⟨512 * t.val + r.val, h⟩ d * inv (row (hid m c) ⟨512 * t.val + r.val, h⟩) := by
  pointwise [k0_pay7]
  rw [p5_eq m c t r d h, p6_eq m c t r h]

include h in
theorem p9_eq : k0_pay9 (p5 m c t) (iblk m c 3 t) (iblk m c 4 t) (ix2 r d) = err (hid m c) (gn m c) (tA m c) ⟨512 * t.val + r.val, h⟩ d := by
  pointwise [k0_pay9, k0_pay8]
  rw [p7_eq m c t r d h, g_eq, err]
  refine congrArg (HSub.hSub (α := EReal) _) ?_
  blk_ext [iblk, idx t]

include h in
theorem p11_eq : k0_pay11 (p5 m c t) (iblk m c 3 t) (iblk m c 4 t) (ix2 r d) = derr (hid m c) (gn m c) (tA m c) ⟨512 * t.val + r.val, h⟩ d := by
  pointwise [k0_pay11]
  rw [p9_eq m c t r d h]
  rfl

include h in
/-- What the point stores. -/
theorem pay12_eq : k0_pay12 (p5 m c t) (iblk m c 3 t) (iblk m c 4 t) (ix2 r d) = dh m c ⟨512 * t.val + r.val, h⟩ d := by
  pointwise [k0_pay12, k0_pay8]
  simp only [p11_eq m c t r _ h, p7_eq m c t r _ h, p6_eq m c t r h, g_eq]
  rfl

include h in
theorem pay13_eq : k0_pay13 (p5 m c t) (iblk m c 3 t) (iblk m c 4 t) (ix2 r d) = dh m c ⟨512 * t.val + r.val, h⟩ d := by
  pointwise [k0_pay13]
  exact pay12_eq m c t r d h

end Point

/-- What the point adds to the loss and to the gain's gradient. -/
theorem pay10_eq (c : Dev nD) (t : Fin cfg0.N) : k0_pay10 (p5 m c t) (iblk m c 3 t) (iblk m c 4 t) (ix2 0 0)
    = half * ∑ r : Fin 512, mean (hid m c) (gn m c) (tA m c) ⟨t.val * 512 + r.val, by have := lt4 t; omega⟩ := by
  have ht := lt4 t
  pointwise [k0_pay10]
  refine congrArg _ (Finset.sum_congr rfl fun r _ => ?_)
  simp only [p9_eq m c t r _ (by omega), Nat.mul_comm 512]
  rfl

theorem pay1_eq (c : Dev nD) (t : Fin cfg0.N) (d : Fin 1024) : k0_pay1 (k0_pay7 (p5 m c t)) (k0_pay11 (p5 m c t) (iblk m c 3 t) (iblk m c 4 t)) (ix2 0 d)
    = ∑ r : Fin 512, derr (hid m c) (gn m c) (tA m c) ⟨t.val * 512 + r.val, by have := lt4 t; omega⟩ d
      * (row (hid m c) ⟨t.val * 512 + r.val, by have := lt4 t; omega⟩ d * inv (row (hid m c) ⟨t.val * 512 + r.val, by have := lt4 t; omega⟩)) := by
  have ht := lt4 t
  pointwise [k0_pay1]
  refine Finset.sum_congr rfl fun r _ => ?_
  simp only [p11_eq m c t r _ (by omega), p7_eq m c t r _ (by omega), Nat.mul_comm 512]

/-- The input's gradient, kept and rounded. -/
theorem final6 (c : Dev nD) (t : Fin 2048) (d : Fin 1024) : (dats m 0 c).arrAt 6 cfg0.N (ix2 t d) = dh m c t d := by
  refine congrFun ((dats m 0 c).arrAt_eq_of_covers 6 (fun i => dh m c (i 0) (i 1)) (by decide +kernel) fun t hf y => ?_) (ix2 t d)
  idx_vars y
  have ht := lt4 t
  blk_simp
  rw [after0_6, show (win0_6.blk t).view.emb (ix2 y0 y1) = ix2 ⟨512 * t.val + y0.val, by omega⟩ y1 by blk_ext [idx t]]
  by_cases h4 : t.val % 4 = 0
  · rw [outsAt0_A m c t h4 (by omega)]
    frame_out
    exact pay12_eq m c t y0 y1 (by omega)
  · rw [outsAt0_B m c t h4 (by omega)]
    frame_out
    exact pay12_eq m c t y0 y1 (by omega)

theorem final7 (c : Dev nD) (t : Fin 2048) (d : Fin 1024) : (dats m 0 c).arrAt 7 cfg0.N (ix2 t d) = dh m c t d := by
  refine congrFun ((dats m 0 c).arrAt_eq_of_covers 7 (fun i => dh m c (i 0) (i 1)) (by decide +kernel) fun t hf y => ?_) (ix2 t d)
  idx_vars y
  have ht := lt4 t
  blk_simp
  rw [after0_7, show (win0_7.blk t).view.emb (ix2 y0 y1) = ix2 ⟨512 * t.val + y0.val, by omega⟩ y1 by blk_ext [idx t]]
  by_cases h4 : t.val % 4 = 0
  · rw [outsAt0_A m c t h4 (by omega)]
    frame_out
    exact pay13_eq m c t y0 y1 (by omega)
  · rw [outsAt0_B m c t h4 (by omega)]
    frame_out
    exact pay13_eq m c t y0 y1 (by omega)

/-- The loss, in every lane. -/
theorem final5 (c : Dev nD) (l : Fin 128) : (dats m 0 c).arrAt 5 cfg0.N (ix2 0 l) = loss (hid m c) (gn m c) (tA m c) := by
  refine congrFun ((dats m 0 c).arrAt_eq_of_after_last 5 t0_3 (by decide +kernel) (fun _ => loss (hid m c) (gn m c) (tA m c)) fun j => ?_) (ix2 0 l)
  idx_vars j
  blk_simp
  rw [after0_5, Pipeline.eq_sum_fin_of_reset_step_apply_last (fun n h => (outsAt0 m c n h).1) 4 (fun _ => 0)
    (fun t _ => half * ∑ r : Fin 512, mean (hid m c) (gn m c) (tA m c) ⟨t.val * 512 + r.val, by have := lt4 t; omega⟩)
    (fun t h j => by
      have := lt4 t
      rw [outsAt0_A m c t h (by omega), zero_add]
      frame_out
      idx_vars j
      obtain rfl : j0 = 0 := Subsingleton.elim _ _
      pointwise [k0_pay2]
      exact pay10_eq m c t)
    (fun t h j => by
      rw [outsAt0_B m c t h (by omega)]
      frame_out
      idx_vars j
      obtain rfl : j0 = 0 := Subsingleton.elim _ _
      pointwise [k0_pay4]
      exact congrArg _ (pay10_eq m c t))
    (le_of_eq N_0) t0_3 rfl _, zero_add]
  exact loss_blocks (hid m c) (gn m c) (tA m c)

/-- The gain's gradient. -/
theorem final8 (c : Dev nD) (d : Fin 1024) : (dats m 0 c).arrAt 8 cfg0.N (ix2 0 d) = dgain (hid m c) (derr (hid m c) (gn m c) (tA m c)) d := by
  refine congrFun ((dats m 0 c).arrAt_eq_of_after_last 8 t0_3 (by decide +kernel) (fun j => dgain (hid m c) (derr (hid m c) (gn m c) (tA m c)) (j 1)) fun j => ?_) (ix2 0 d)
  idx_vars j
  blk_simp
  rw [after0_8, Pipeline.eq_sum_fin_of_reset_step_apply_last (fun n h => (outsAt0 m c n h).2.2.2) 4 (fun _ => 0)
    (fun t j => ∑ r : Fin 512, derr (hid m c) (gn m c) (tA m c) ⟨t.val * 512 + r.val, by have := lt4 t; omega⟩ (j 1)
      * (row (hid m c) ⟨t.val * 512 + r.val, by have := lt4 t; omega⟩ (j 1) * inv (row (hid m c) ⟨t.val * 512 + r.val, by have := lt4 t; omega⟩)))
    (fun t h j => by
      have := lt4 t
      rw [outsAt0_A m c t h (by omega), zero_add]
      frame_out
      idx_vars j
      obtain rfl : j0 = 0 := Subsingleton.elim _ _
      exact pay1_eq m c t j1)
    (fun t h j => by
      rw [outsAt0_B m c t h (by omega)]
      frame_out
      idx_vars j
      obtain rfl : j0 = 0 := Subsingleton.elim _ _
      pointwise [k0_pay3]
      exact congrArg _ (pay1_eq m c t j1))
    (le_of_eq N_0) t0_3 rfl _, zero_add]
  exact Fin.sum_mul_add_congr (fun s r hl => rfl) (by rw [show cfg0.N = 4 from N_0])

end Cert.LossIdeal.Val

end
-- ==== Proof.Loss.Ref.lean ====
module

public import proofs.«01_k».proof.Proof.Gen.LossRefIdeal.Read
public import proofs.«01_k».proof.Proof.Loss.Spec

@[expose] public section

set_option maxRecDepth 16384

noncomputable section

/-! The reference's four results, entry by entry. -/

namespace Cert.LossRefIdeal.Val

open Cert.LossRefIdeal Cert.LossRefIdeal.Read Cert.Norm Cert.LossSpec Cert.Reals Idealize.ShloMosaic Idealize.ShloMosaic.TcCoe Idealize.SL.Sem

variable (x0 : FVec Ideal S2048x1024 .f32) (x1 : FVec Ideal S2048x2816 .f32) (x2 : FVec Ideal S2816x1024 .f32) (x3 : FVec Ideal S1024 .f32)
  (x4 : FVec Ideal S2048x1024 .f32) (t : Fin 2048) (d : Fin 1024)

/-- The gain, and the hidden state after the last layer. -/
def gn (k : Fin 1024) : EReal := x3 (ix1 k)
def hid : Norm.A := fun i => x0 i + ∑ k : Fin 2816, x1 (ix2 (i 0) k) * x2 (ix2 k (i 1))

theorem v1_eq : val_main_v1 (F := Ideal) x0 x1 x2 (ix2 t d) = row (hid x0 x1 x2) t d := by
  pointwise [val_main_v1, val_main_v0]
  rfl

theorem v8_eq : val_main_v8 (F := Ideal) x0 x1 x2 (ix2 t 0) = ms (row (hid x0 x1 x2) t) := by
  pointwise [val_main_v8, val_main_v7, val_main_cst_1, val_main_v6, val_main_v5, val_main_cst_0, val_main_v4, val_main_v3, val_main_cst, val_main_v2]
  simp only [v1_eq]
  rfl

theorem v9_eq : val_main_v9 (F := Ideal) x0 x1 x2 (ix2 t 0) = inv (row (hid x0 x1 x2) t) := by
  pointwise [val_main_v9]
  rw [v8_eq]
  rfl

theorem v18_eq : val_main_v18 (F := Ideal) x0 x1 x2 x3 x4 (ix2 t d) = err (hid x0 x1 x2) (gn x3) x4 t d := by
  pointwise [val_main_v18, val_main_v17, val_main_v16, val_main_v15, val_main_v14, val_main_v13]
  rw [v1_eq, v9_eq]
  rfl

/-- The loss, in every lane. -/
theorem v53_eq (l : Fin 128) : val_main_v53 (F := Ideal) x0 x1 x2 x3 x4 (ix2 0 l) = loss (hid x0 x1 x2) (gn x3) x4 := by
  pointwise [val_main_v53, val_main_v26, val_main_cst_7, val_main_v25, val_main_cst_6, val_main_v24, val_main_v23, val_main_cst_5, val_main_v22, val_main_cst_4, val_main_v19]
  simp only [v18_eq, zero_add]
  rfl

theorem v32_eq : val_main_v32 (F := Ideal) x0 x1 x2 x3 x4 (ix2 t d) = derr (hid x0 x1 x2) (gn x3) x4 t d := by
  rw [derr, ← derr_eq, ← v18_eq]
  pointwise [val_main_v32, val_main_v31, val_main_v30, val_main_v29, val_main_cst_10, val_main_v28, val_main_v27, val_main_cst_9, val_main_cst_8, val_main_v21, val_main_v20, val_main_cst_3]

/-- The gain's gradient. -/
theorem v55_eq : val_main_v55 (F := Ideal) x0 x1 x2 x3 x4 (ix2 0 d) = dgain (hid x0 x1 x2) (derr (hid x0 x1 x2) (gn x3) x4) d := by
  pointwise [val_main_v55, val_main_v38, val_main_cst_12, val_main_v35, val_main_v34, val_main_cst_11, val_main_v33, val_main_v14, val_main_v13]
  simp only [v32_eq, v1_eq, v9_eq, zero_add, Finset.univ_unique, Finset.sum_singleton]
  exact Finset.sum_congr rfl fun t _ => mul_comm _ _

/-- The share of each entry that comes through the root. -/
theorem v48_eq : val_main_v48 (F := Ideal) x0 x1 x2 x3 x4 (ix2 t d)
    = Ideal.div ((∑ k, row (hid x0 x1 x2) t k * (derr (hid x0 x1 x2) (gn x3) x4 t k * gn x3 k))
      * (neg * Ideal.div (inv (row (hid x0 x1 x2) t)) (ms (row (hid x0 x1 x2) t)))) len := by
  pointwise [val_main_v48, val_main_v47, val_main_cst_15, val_main_v46, val_main_v45, val_main_cst_14, val_main_v44, val_main_v41, val_main_v40, val_main_cst_13, val_main_v39,
    val_main_v37, val_main_v36, val_main_v15, val_main_v12, val_main_v11, val_main_cst_2, val_main_v10]
  simp only [v32_eq, v1_eq, Fin.sum_univ_one, v9_eq, v8_eq]
  rfl

/-- The input's gradient. -/
theorem v52_eq : val_main_v52 (F := Ideal) x0 x1 x2 x3 x4 (ix2 t d) = grad (row (hid x0 x1 x2) t) (gn x3) (derr (hid x0 x1 x2) (gn x3) x4 t) d := by
  rw [← grad_eq (row (hid x0 x1 x2) t) (gn x3) (derr (hid x0 x1 x2) (gn x3) x4 t), ← v48_eq x0 x1 x2 x3 x4 t d]
  pointwise [val_main_v52, val_main_v51, val_main_v50, val_main_v49, val_main_v43, val_main_v42, val_main_v37, val_main_v36, val_main_v15]
  rw [v32_eq, v9_eq, v1_eq]
  rfl

theorem v54_eq : val_main_v54 (F := Ideal) x0 x1 x2 x3 x4 (ix2 t d) = grad (row (hid x0 x1 x2) t) (gn x3) (derr (hid x0 x1 x2) (gn x3) x4 t) d := by
  pointwise [val_main_v54]
  exact v52_eq x0 x1 x2 x3 x4 t d

end Cert.LossRefIdeal.Val

end
-- ==== Proof.Loss.Claim.lean ====
module

public import proofs.«01_k».proof.Defs
public import proofs.«01_k».proof.Proof.Norm.Spec
public import proofs.«01_k».proof.Proof.Reals
public import proofs.«01_k».proof.Proof.Loss.Kernel
public import proofs.«01_k».proof.Proof.Loss.Ref

@[expose] public section

set_option maxRecDepth 16384

noncomputable section

/-! The pair of the loss: kernel and reference end with the same arrays. -/

namespace Cert.LossClaim

open Idealize.ShloMosaic Idealize.ShloMosaic.TcCoe Idealize.SL.Sem
open Cert.Reals Cert.LossIdeal Cert.LossIdeal.Gen Cert.LossRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S2048x2816 .f32 := m ((c : Thread nD τ).loc main_arg1)
abbrev a2 : FVec Ideal S2816x1024 .f32 := m ((c : Thread nD τ).loc main_arg2)
abbrev a3 : FVec Ideal S1024 .f32 := m ((c : Thread nD τ).loc main_arg3)
abbrev a4 : FVec Ideal S2048x1024 .f32 := m ((c : Thread nD τ).loc main_arg4)

theorem gn_eq : Val.gn m c = Cert.LossRefIdeal.Val.gn (a3 m c) := by
  funext k
  rw [Val.gn]
  unfold Val.gA
  entry_read
  pointwise [Cert.LossRefIdeal.Val.gn]

theorem act_eq (j : Fin 4) (t : Fin 2048) (k : Fin 704) (h : j.val * 704 + k.val < 2816) : Val.aA m c (ix3 j t k) = a1 m c (ix2 t ⟨j.val * 704 + k.val, h⟩) := by
  unfold Val.aA
  entry_read
  pointwise []

theorem w_eq (j : Fin 4) (k : Fin 704) (d : Fin 1024) (h : j.val * 704 + k.val < 2816) : Val.wA m c (ix4 0 j k d) = a2 m c (ix2 ⟨j.val * 704 + k.val, h⟩ d) := by
  unfold Val.wA
  entry_read
  pointwise []

/-- The hidden state after the last layer, its product taken block by block. -/
theorem hid_eq : Val.hid m c = Cert.LossRefIdeal.Val.hid (a0 m c) (a1 m c) (a2 m c) := by
  funext i
  idx_vars i
  have e : Val.hA m c = a0 m c := by
    unfold Val.hA
    entry_read
    rfl
  rw [Val.hid, Cert.LossRefIdeal.Val.hid, e]
  exact congrArg (HAdd.hAdd (α := EReal) _) (Fin.sum_mul_add_congr (fun j k hl => congrArg₂ (· * ·) (act_eq m c j i0 k hl) (w_eq m c j k i1 hl)) rfl)

theorem tA_eq : Val.tA m c = a4 m c := by
  unfold Val.tA
  entry_read
  rfl

theorem out0 : (dats m 0 c).arrAt 5 cfg0.N = val_main_v53 (F := Ideal) (a0 m c) (a1 m c) (a2 m c) (a3 m c) (a4 m c) := by
  funext i
  idx_vars i
  obtain rfl : i0 = 0 := Subsingleton.elim _ _
  rw [Val.final5, hid_eq, gn_eq, tA_eq]
  exact (Cert.LossRefIdeal.Val.v53_eq ..).symm

theorem out3 : (dats m 0 c).arrAt 8 cfg0.N = val_main_v55 (F := Ideal) (a0 m c) (a1 m c) (a2 m c) (a3 m c) (a4 m c) := by
  funext i
  idx_vars i
  obtain rfl : i0 = 0 := Subsingleton.elim _ _
  rw [Val.final8, hid_eq, gn_eq, tA_eq]
  exact (Cert.LossRefIdeal.Val.v55_eq ..).symm

theorem out1 : (dats m 0 c).arrAt 6 cfg0.N = val_main_v52 (F := Ideal) (a0 m c) (a1 m c) (a2 m c) (a3 m c) (a4 m c) := by
  funext i
  idx_vars i
  rw [Val.final6, Val.dh, hid_eq, gn_eq, tA_eq]
  exact (Cert.LossRefIdeal.Val.v52_eq ..).symm

theorem out2 : (dats m 0 c).arrAt 7 cfg0.N = val_main_v54 (F := Ideal) (a0 m c) (a1 m c) (a2 m c) (a3 m c) (a4 m c) := by
  funext i
  idx_vars i
  rw [Val.final7, Val.dh, hid_eq, gn_eq, tA_eq]
  exact (Cert.LossRefIdeal.Val.v54_eq ..).symm

/-- The reference's run, its results as the stages of its arguments. -/
theorem reference (m' : (ℓ : Loc Cert.LossRefIdeal.nD Cert.LossRefIdeal.τ Cert.LossRefIdeal.sig) → Buf (Elt Ideal) ℓ) (g' : Dev Cert.LossRefIdeal.nD → PrngReg) :
    θ_run (Cert.LossRefIdeal.defs (F := Ideal)) (onTc (τ := Cert.LossRefIdeal.τ) (Cert.LossRefIdeal.main (F := Ideal))) ⟨m', fun _ => 0, g'⟩ fun r => ∀ c : Dev Cert.LossRefIdeal.nD,
      let a (b : Ref Cert.LossRefIdeal.sig .tc) := m' ((c.tc : Thread Cert.LossRefIdeal.nD Cert.LossRefIdeal.τ).loc b)
      let o (b : Ref Cert.LossRefIdeal.sig .tc) := r.2.mem ((c.tc : Thread Cert.LossRefIdeal.nD Cert.LossRefIdeal.τ).loc b)
      (o Cert.LossRefIdeal.main_v53 = val_main_v53 (F := Ideal) (a Cert.LossRefIdeal.main_arg0) (a Cert.LossRefIdeal.main_arg1) (a Cert.LossRefIdeal.main_arg2) (a Cert.LossRefIdeal.main_arg3) (a Cert.LossRefIdeal.main_arg4)
      ∧ o Cert.LossRefIdeal.main_v52 = val_main_v52 (F := Ideal) (a Cert.LossRefIdeal.main_arg0) (a Cert.LossRefIdeal.main_arg1) (a Cert.LossRefIdeal.main_arg2) (a Cert.LossRefIdeal.main_arg3) (a Cert.LossRefIdeal.main_arg4)
      ∧ o Cert.LossRefIdeal.main_v54 = val_main_v54 (F := Ideal) (a Cert.LossRefIdeal.main_arg0) (a Cert.LossRefIdeal.main_arg1) (a Cert.LossRefIdeal.main_arg2) (a Cert.LossRefIdeal.main_arg3) (a Cert.LossRefIdeal.main_arg4)
      ∧ o Cert.LossRefIdeal.main_v55 = val_main_v55 (F := Ideal) (a Cert.LossRefIdeal.main_arg0) (a Cert.LossRefIdeal.main_arg1) (a Cert.LossRefIdeal.main_arg2) (a Cert.LossRefIdeal.main_arg3) (a Cert.LossRefIdeal.main_arg4))
      ∧ o Cert.LossRefIdeal.main_arg0 = a Cert.LossRefIdeal.main_arg0 ∧ o Cert.LossRefIdeal.main_arg1 = a Cert.LossRefIdeal.main_arg1 ∧ o Cert.LossRefIdeal.main_arg2 = a Cert.LossRefIdeal.main_arg2 ∧ o Cert.LossRefIdeal.main_arg3 = a Cert.LossRefIdeal.main_arg3 ∧ o Cert.LossRefIdeal.main_arg4 = a Cert.LossRefIdeal.main_arg4 :=
  (θ_run Cert.LossRefIdeal.defs _ _).mono (fun r h c => ⟨⟨(h c).1.trans (val_main_v53_eq _ _ _ _ _),
    (h c).2.1.trans (val_main_v52_eq m' c),
    (h c).2.2.1.trans (val_main_v54_eq m' c),
    (h c).2.2.2.1.trans (val_main_v55_eq _ _ _ _ _)⟩, (h c).2.2.2.2⟩) (Cert.LossRefIdeal.Value.run m' g')

/-- Kernel and reference agree at the extended reals. -/
theorem algebraic : Cert.algebraic_LossIdeal_LossRefIdeal := by
  intro m g m' g' _ hagree
  refine ⟨_, _, _, _, Cert.LossIdeal.Value.run_blocks m g, (θ_run Cert.LossRefIdeal.defs _ _).mono (fun r h c => ?_) (reference m' g')⟩
  obtain ⟨e0, e1, e2, e3, e4⟩ := hagree c
  obtain ⟨⟨h0, h1, h2, h3⟩, kept⟩ := h c
  dsimp only at h0 h1 h2 h3
  rw [e0, e1, e2, e3, e4] at h0
  rw [e0, e1, e2, e3, e4] at h1
  rw [e0, e1, e2, e3, e4] at h2
  rw [e0, e1, e2, e3, e4] at h3
  exact ⟨h0.trans (out0 m c).symm, h1.trans (out1 m c).symm, h2.trans (out2 m c).symm, h3.trans (out3 m c).symm, kept⟩

end Cert.LossClaim

end
-- ==== Proof.Attend.Run.lean ====
module

public import proofs.«01_k».proof.Proof.Gen.AttendIdeal.Value

@[expose] public section

set_option maxRecDepth 65536

noncomputable section

/-! The forward attention's body as steps of four heads: each step takes a tile of scores and a tile of values. -/

namespace Cert.AttendIdeal.Val

open Cert.AttendIdeal Cert.AttendIdeal.Gen Idealize.ShloMosaic Idealize.ShloMosaic.TcCoe Idealize.SL.Sem

/-- What a head carries from tile to tile: its rows' maxima, sums and weighted values. -/
abbrev Head : Type := FVec Ideal S512x1 .f32 × FVec Ideal S512x1 .f32 × FVec Ideal S512x128 .f32
/-- The four heads' numbers, as the loop carries them. -/
abbrev Carry : Type := FVec Ideal S512x1 .f32 × FVec Ideal S512x1 .f32 × FVec Ideal S512x128 .f32 × FVec Ideal S512x1 .f32 × FVec Ideal S512x1 .f32 × FVec Ideal S512x128 .f32
  × FVec Ideal S512x1 .f32 × FVec Ideal S512x1 .f32 × FVec Ideal S512x128 .f32 × FVec Ideal S512x1 .f32 × FVec Ideal S512x1 .f32 × FVec Ideal S512x128 .f32

/-- One head's part of them. -/
def headOf (r : Carry) : Fin 4 → Head :=
  ![(r.1, r.2.1, r.2.2.1), (r.2.2.2.1, r.2.2.2.2.1, r.2.2.2.2.2.1), (r.2.2.2.2.2.2.1, r.2.2.2.2.2.2.2.1, r.2.2.2.2.2.2.2.2.1),
    (r.2.2.2.2.2.2.2.2.2.1, r.2.2.2.2.2.2.2.2.2.2.1, r.2.2.2.2.2.2.2.2.2.2.2)]

/-- A head's step over a tile of scores `s` and of values `v`. -/
def stepHead (s : FVec Ideal S512x512 .f32) (v : Vec Ideal S512x128 .bf16) (h : Head) : Head :=
  (k0_pay12 h.1 s, k0_pay15 h.1 h.2.1 s, k0_pay16 h.1 h.2.2 s v)

/-- A tile of scores: queries against keys, whose rotary part all heads share. -/
def tile (q : Vec Ideal S1x512x256 .bf16) (kr kn : Vec Ideal S512x128 .bf16) : FVec Ideal S512x512 .f32 := k0_pay5 (k0_pay54 q) kr kn

/-- What a head carries at the start, -/
def startHead : Head := (k0_pay56, k0_pay57, k0_pay58)
/-- and all four. -/
def startAll : Carry := (k0_pay56, k0_pay57, k0_pay58, k0_pay56, k0_pay57, k0_pay58, k0_pay56, k0_pay57, k0_pay58, k0_pay56, k0_pay57, k0_pay58)

/-- What a head stores: its rows' averages, -/
def avg (h : Head) : FVec Ideal S512x128 .bf16 := k0_pay95 h.2.1 h.2.2
/-- and its rows' logarithms. -/
def logs (h : Head) : FVec Ideal S1x1x512 .f32 := k0_pay1 (k0_pay102 h.1 h.2.1)

variable (c : Dev nD) (i : grid0.Coords)
  (arg2 : Memref sig .tc .vmem S4x512x256 .bf16) (harg2 : arg2.IsWhole)
  (arg3 : Memref sig .tc .vmem S2048x512 .bf16) (harg3 : arg3.IsWhole)
  (arg4 : Memref sig .tc .vmem S2048x128 .bf16) (harg4 : arg4.IsWhole)
  (arg5 : Memref sig .tc .vmem S2048x512 .bf16) (harg5 : arg5.IsWhole)
  (arg6 : Memref sig .tc .vmem S512x512 .bf16) (harg6 : arg6.IsWhole)
  (arg7 : Memref sig .tc .vmem S4x1x512 .f32) (harg7 : arg7.IsWhole)
variable (x0 : Vec Ideal S4x512x256 .bf16) (x1 : Vec Ideal S2048x512 .bf16) (x2 : Vec Ideal S2048x128 .bf16) (x3 : Vec Ideal S2048x512 .bf16)

/-- The heads' queries, -/
def ldQ : Fin 4 → Vec Ideal S1x512x256 .bf16 :=
  ![arg2.view.readAt (Elt Ideal) (Rect.unit (s := S4x512x256) ![0, 0, 0] S1x512x256.size inb_S4x512x256_S1x512x256_0_0_0).toLoadRect (harg2.unread x0),
    arg2.view.readAt (Elt Ideal) (Rect.unit (s := S4x512x256) ![1, 0, 0] S1x512x256.size inb_S4x512x256_S1x512x256_1_0_0).toLoadRect (harg2.unread x0),
    arg2.view.readAt (Elt Ideal) (Rect.unit (s := S4x512x256) ![2, 0, 0] S1x512x256.size inb_S4x512x256_S1x512x256_2_0_0).toLoadRect (harg2.unread x0),
    arg2.view.readAt (Elt Ideal) (Rect.unit (s := S4x512x256) ![3, 0, 0] S1x512x256.size inb_S4x512x256_S1x512x256_3_0_0).toLoadRect (harg2.unread x0)]
/-- a tile's rotary keys, -/
def ldR (k : Fin (k0_t1_loop i).trips) : Vec Ideal S512x128 .bf16 := arg4.view.readAt (Elt Ideal) (Rect.unit (s := S2048x128) (k0_off1 i k) S512x128.size (k0_off1_inb i k)).toLoadRect (harg4.unread x2)
/-- and, from a buffer of four heads side by side, a tile of each. -/
def ldH (k : Fin (k0_t1_loop i).trips) : Fin 4 → Vec Ideal S512x128 .bf16 :=
  ![arg3.view.readAt (Elt Ideal) (Rect.unit (s := S2048x512) (k0_off2 i k) S512x128.size (k0_off2_inb i k)).toLoadRect (harg3.unread x1),
    arg3.view.readAt (Elt Ideal) (Rect.unit (s := S2048x512) (k0_off3 i k) S512x128.size (k0_off3_inb i k)).toLoadRect (harg3.unread x1),
    arg3.view.readAt (Elt Ideal) (Rect.unit (s := S2048x512) (k0_off4 i k) S512x128.size (k0_off4_inb i k)).toLoadRect (harg3.unread x1),
    arg3.view.readAt (Elt Ideal) (Rect.unit (s := S2048x512) (k0_off5 i k) S512x128.size (k0_off5_inb i k)).toLoadRect (harg3.unread x1)]
/-- The same at the tile on the diagonal. -/
def lastR : Vec Ideal S512x128 .bf16 := arg4.view.readAt (Elt Ideal) (Rect.unit (s := S2048x128) (k0_off11 i) S512x128.size (k0_off11_inb i)).toLoadRect (harg4.unread x2)
def lastH : Fin 4 → Vec Ideal S512x128 .bf16 :=
  ![arg3.view.readAt (Elt Ideal) (Rect.unit (s := S2048x512) (k0_off12 i) S512x128.size (k0_off12_inb i)).toLoadRect (harg3.unread x1),
    arg3.view.readAt (Elt Ideal) (Rect.unit (s := S2048x512) (k0_off13 i) S512x128.size (k0_off13_inb i)).toLoadRect (harg3.unread x1),
    arg3.view.readAt (Elt Ideal) (Rect.unit (s := S2048x512) (k0_off14 i) S512x128.size (k0_off14_inb i)).toLoadRect (harg3.unread x1),
    arg3.view.readAt (Elt Ideal) (Rect.unit (s := S2048x512) (k0_off15 i) S512x128.size (k0_off15_inb i)).toLoadRect (harg3.unread x1)]

/-- The loop over the tiles before the diagonal: what is carried before trip `n`. -/
def carried (n : ℕ) : Carry :=
  st_k0_t1 (F := Ideal) Variants.none c none i arg2 harg2 arg3 harg3 arg4 harg4 arg5 harg5 arg6 harg6 arg7 harg7 (ldQ arg2 harg2 x0 0) (ldQ arg2 harg2 x0 1) (ldQ arg2 harg2 x0 2) (ldQ arg2 harg2 x0 3)
    (harg3.unread x1) (harg4.unread x2) (harg5.unread x3) startAll n

theorem carried_zero (a : Fin 4) : headOf (carried c i arg2 harg2 arg3 harg3 arg4 harg4 arg5 harg5 arg6 harg6 arg7 harg7 x0 x1 x2 x3 0) a = startHead := by
  unfold carried
  rw [st_k0_t1_zero]
  revert a
  exact Fin.forall_fin_succ.mpr ⟨rfl, Fin.forall_fin_succ.mpr ⟨rfl, Fin.forall_fin_succ.mpr ⟨rfl, Fin.forall_fin_succ.mpr ⟨rfl, fun a => a.elim0⟩⟩⟩⟩

/-- A trip is a step of every head. -/
theorem carried_succ (k : Fin (k0_t1_loop i).trips) (a : Fin 4) :
    headOf (carried c i arg2 harg2 arg3 harg3 arg4 harg4 arg5 harg5 arg6 harg6 arg7 harg7 x0 x1 x2 x3 (k.val + 1)) a
      = stepHead (tile (ldQ arg2 harg2 x0 a) (ldR i arg4 harg4 x2 k) (ldH i arg3 harg3 x1 k a)) (ldH i arg5 harg5 x3 k a)
          (headOf (carried c i arg2 harg2 arg3 harg3 arg4 harg4 arg5 harg5 arg6 harg6 arg7 harg7 x0 x1 x2 x3 k.val) a) := by
  unfold carried
  rw [st_k0_t1_succ]
  unfold tripR_k0_t1 trip_k0_t1
  fin_cases a <;> sl_kernel_rfl

/-- A head at the body's end: after the step over the diagonal's tile, masked. -/
def lastHead (a : Fin 4) : Head :=
  stepHead (k0_pay68 (tile (ldQ arg2 harg2 x0 a) (lastR i arg4 harg4 x2) (lastH i arg3 harg3 x1 a))) (lastH i arg5 harg5 x3 a)
    (headOf (carried c i arg2 harg2 arg3 harg3 arg4 harg4 arg5 harg5 arg6 harg6 arg7 harg7 x0 x1 x2 x3 (k0_t1_loop i).trips) a)

/-- The second loop makes no trip. -/
theorem no_trips : (k0_t2_loop i).trips = 0 := Nat.le_zero.mp (k0_t2_abs i).2.1

/-- The body's stores. -/
theorem stores_eq :
    let r := kernelRun0_A (F := Ideal) c i arg2 harg2 arg3 harg3 arg4 harg4 arg5 harg5 arg6 harg6 arg7 harg7 x0 x1 x2 x3
    let h := lastHead c i arg2 harg2 arg3 harg3 arg4 harg4 arg5 harg5 arg6 harg6 arg7 harg7 x0 x1 x2 x3
    r.1 = [⟨Rect.unit (s := S512x512) ![0, 384] S512x128.size inb_S512x512_S512x128_0_384, avg (h 3)⟩,
        ⟨Rect.unit (s := S512x512) ![0, 256] S512x128.size inb_S512x512_S512x128_0_256, avg (h 2)⟩,
        ⟨Rect.unit (s := S512x512) ![0, 128] S512x128.size inb_S512x512_S512x128_0_128, avg (h 1)⟩,
        ⟨Rect.unit (s := S512x512) ![0, 0] S512x128.size inb_S512x512_S512x128_0_0, avg (h 0)⟩]
      ∧ r.2.1 = [⟨Rect.unit (s := S4x1x512) ![3, 0, 0] S1x1x512.size inb_S4x1x512_S1x1x512_3_0_0, logs (h 3)⟩,
        ⟨Rect.unit (s := S4x1x512) ![2, 0, 0] S1x1x512.size inb_S4x1x512_S1x1x512_2_0_0, logs (h 2)⟩,
        ⟨Rect.unit (s := S4x1x512) ![1, 0, 0] S1x1x512.size inb_S4x1x512_S1x1x512_1_0_0, logs (h 1)⟩,
        ⟨Rect.unit (s := S4x1x512) ![0, 0, 0] S1x1x512.size inb_S4x1x512_S1x1x512_0_0_0, logs (h 0)⟩] := by
  have e (z : Carry) (v15 : BitVec 32) : st_k0_t2 (F := Ideal) Variants.none c none i arg2 harg2 arg3 harg3 arg4 harg4 arg5 harg5 arg6 harg6 arg7 harg7 (ldQ arg2 harg2 x0 0) (ldQ arg2 harg2 x0 1) (ldQ arg2 harg2 x0 2) (ldQ arg2 harg2 x0 3)
      v15 (harg3.unread x1) (harg4.unread x2) (harg5.unread x3) z (k0_t2_loop i).trips = z := by
    rw [no_trips, st_k0_t2_zero]
  intro r h
  have hl : ∀ a, h a = stepHead (k0_pay68 (tile (ldQ arg2 harg2 x0 a) (lastR i arg4 harg4 x2) (lastH i arg3 harg3 x1 a))) (lastH i arg5 harg5 x3 a)
      (headOf (st_k0_t2 (F := Ideal) Variants.none c none i arg2 harg2 arg3 harg3 arg4 harg4 arg5 harg5 arg6 harg6 arg7 harg7 (ldQ arg2 harg2 x0 0) (ldQ arg2 harg2 x0 1) (ldQ arg2 harg2 x0 2) (ldQ arg2 harg2 x0 3)
        (kernelRun0_A.sl.v15 i) (harg3.unread x1) (harg4.unread x2) (harg5.unread x3) (carried c i arg2 harg2 arg3 harg3 arg4 harg4 arg5 harg5 arg6 harg6 arg7 harg7 x0 x1 x2 x3 (k0_t1_loop i).trips) (k0_t2_loop i).trips) a) := fun a => by
    rw [e]; rfl
  rw [hl 0, hl 1, hl 2, hl 3]
  constructor <;> sl_kernel_rfl

end Cert.AttendIdeal.Val

end
-- ==== Proof.Attend.Online.lean ====
module

public import proofs.«01_k».proof.Proof.Attend.Run
public import proofs.«01_k».proof.Proof.Attn.Forward
public import proofs.«01_k».proof.Proof.Attn.Ref
public import proofs.«01_k».proof.Proof.Norm.Spec

@[expose] public section

noncomputable section

/-! A row's softmax taken tile by tile, in numbers: what is carried, a step over a tile, and what the end gives. -/

namespace Cert.AttendIdeal.Val

open Cert.AttendIdeal Cert.AttendIdeal.Gen Idealize.ShloMosaic Idealize.ShloMosaic.TcCoe Idealize.SL.Sem
open Cert.AttnIdeal.Val (Re Re3 coe_sum exp2_sub score expo tot prob outp lse expo_nonneg tot_pos log2_ne)
open Cert.AttnRefIdeal.Val (max_real ninf_eq)

/-- The power of two for key `k` in row `q`, against the number `M`, where the mask lets it. -/
def wgt (S : ℕ → ℝ) (q : ℕ) (M : ℝ) (k : ℕ) : ℝ := if k / 64 ≤ q / 64 then (2 : ℝ) ^ (S k - M) else 0

/-- After `n` keys a row's maximum `m` is a number and `X` the sum of `f` weighted against it, or no key was seen. -/
def Kept (S : ℕ → ℝ) (q n : ℕ) (f : ℕ → EReal) (m X : EReal) : Prop :=
  (n = 0 ∧ m = ⊥ ∧ X = 0) ∨ ∃ M : ℝ, m = (M : EReal) ∧ X = ∑ k ∈ Finset.range n, (wgt S q M k : EReal) * f k

variable {S : ℕ → ℝ} {f : ℕ → EReal} {q n : ℕ} {m X : EReal}

/-- A change of the number against which a weight is taken. -/
theorem wgt_change (S : ℕ → ℝ) (q : ℕ) (M N : ℝ) (k : ℕ) : (2 : ℝ) ^ (M - N) * wgt S q M k = wgt S q N k := by
  unfold wgt
  split_ifs
  · rw [← Real.rpow_add two_pos]; congr 1; ring
  · rw [mul_zero]

/-- The next maximum is a number. -/
theorem next_real {s : Fin 512 → EReal} (h : Kept S q n f m X) (hs : ∀ y : Fin 512, s y = if (n + y.val) / 64 ≤ q / 64 then ((S (n + y.val) : ℝ) : EReal) else ⊥) (hn : n ≤ q) :
    ∃ M : ℝ, max m (Finset.univ.fold max ⊥ s) = (M : EReal) := by
  obtain ⟨B, hB⟩ := max_real (p := fun y : Fin 512 => (n + y.val) / 64 ≤ q / 64) hs ⟨0, by decide⟩ (Nat.div_le_div_right (by simpa using hn))
  rw [hB]
  rcases h with ⟨_, hm, _⟩ | ⟨M, hm, _⟩
  · exact ⟨B, by rw [hm]; exact max_eq_right bot_le⟩
  · exact ⟨max M B, by rw [hm]; exact (EReal.coe_strictMono.monotone.map_max).symm⟩

/-- A masked score's power of two. -/
theorem power {x : EReal} {k : ℕ} {M : ℝ} (hx : x = if k / 64 ≤ q / 64 then ((S k : ℝ) : EReal) else ⊥) :
    FloatOps.exp2 (F := Ideal) (φ := .f32) (x - (M : EReal)) = ((wgt S q M k : ℝ) : EReal) := by
  unfold wgt
  rw [hx]
  split_ifs
  · exact exp2_sub _ _
  · rw [EReal.bot_sub]; rfl

/-- What was carried, brought to the next maximum. -/
theorem rescaled {M : ℝ} (h : Kept S q n f m X) :
    FloatOps.exp2 (F := Ideal) (φ := .f32) (m - (M : EReal)) * X = ∑ k ∈ Finset.range n, (wgt S q M k : EReal) * f k := by
  rcases h with ⟨hn, _, hX⟩ | ⟨N, hm, hX⟩
  · rw [hX, hn, mul_zero, Finset.sum_range_zero]
  · rw [hX, hm, exp2_sub, Cert.Norm.coe_mul_sum (Real.rpow_nonneg two_pos.le _)]
    simp only [← mul_assoc, ← EReal.coe_mul, wgt_change]

/-- A step over the tile of the next 512 keys. -/
theorem Kept.step {s v : Fin 512 → EReal} (h : Kept S q n f m X) (hs : ∀ y : Fin 512, s y = if (n + y.val) / 64 ≤ q / 64 then ((S (n + y.val) : ℝ) : EReal) else ⊥) (hn : n ≤ q)
    (hv : ∀ y : Fin 512, v y = f (n + y.val)) {m' : EReal} (hm : m' = max m (Finset.univ.fold max ⊥ s)) :
    Kept S q (n + 512) f m' (FloatOps.exp2 (F := Ideal) (φ := .f32) (m - m') * X + ∑ y, FloatOps.exp2 (F := Ideal) (φ := .f32) (s y - m') * v y) := by
  obtain ⟨M, hM⟩ := next_real h hs hn
  rw [hM] at hm
  refine Or.inr ⟨M, hm, ?_⟩
  have tile : ∀ y : Fin 512, FloatOps.exp2 (F := Ideal) (φ := .f32) (s y - m') * v y = (wgt S q M (n + y.val) : EReal) * f (n + y.val) := fun y => by
    rw [hm, power (hs y), hv]
  rw [Finset.sum_congr rfl fun y _ => tile y, hm, rescaled h, Finset.sum_range_add, Finset.sum_range (fun k => (wgt S q M (n + k) : EReal) * f (n + k))]

/-! The end, against the softmax of the whole row. -/

variable {Q K : ℕ → ℕ → ℕ → ℝ} {V : ℕ → ℕ → ℕ → EReal} {R CO SI MX : ℕ → ℕ → ℝ} {h : ℕ}

/-- A weight is an exponential, rescaled. -/
theorem wgt_expo (q : ℕ) (M : ℝ) (k : ℕ) :
    wgt (fun k => score Q K R CO SI h q k / Real.log 2) q M k = Real.exp (MX h q - M * Real.log 2) * expo Q K R CO SI MX h q k := by
  unfold wgt expo
  split_ifs
  · rw [Real.rpow_def_of_pos two_pos, ← Real.exp_add]
    congr 1
    have := log2_ne
    field_simp
    ring
  · rw [mul_zero]

/-- The softmax's average of any numbers `V`, finite or not. -/
def avgOf (Q K : ℕ → ℕ → ℕ → ℝ) (R CO SI MX : ℕ → ℕ → ℝ) (V : ℕ → ℕ → ℕ → EReal) (h q d : ℕ) : EReal :=
  ∑ k ∈ Finset.range 2048, (prob Q K R CO SI MX h q k : EReal) * V k h d

/-- The keys after the row's own tile count for nothing. -/
theorem wgt_sum (M : ℝ) (f : ℕ → EReal) {i : ℕ} (hi : i < 4) (hq : q < 512 * i + 512) :
    ∑ k ∈ Finset.range (512 * i + 512), (wgt (fun k => score Q K R CO SI h q k / Real.log 2) q M k : EReal) * f k
      = (Real.exp (MX h q - M * Real.log 2) : EReal) * ∑ k ∈ Finset.range 2048, (expo Q K R CO SI MX h q k : EReal) * f k := by
  rw [Cert.Norm.coe_mul_sum (Real.exp_pos _).le, ← Finset.sum_subset (Finset.range_mono (show 512 * i + 512 ≤ 2048 by omega)) (fun k _ hk => ?_)]
  · exact Finset.sum_congr rfl fun k _ => by rw [wgt_expo (MX := MX), EReal.coe_mul, mul_assoc]
  · have hk := Finset.mem_range.not.mp hk
    unfold expo
    rw [if_neg (by omega), EReal.coe_zero, zero_mul, mul_zero]

/-- The sum of a row's exponentials. -/
theorem sum_expo : ∑ k ∈ Finset.range 2048, (expo Q K R CO SI MX h q k : EReal) * 1 = (tot Q K R CO SI MX h q : EReal) := by
  simp only [mul_one, coe_sum]; rfl

/-- The natural logarithm of the word of two. -/
theorem log_two : Ideal.log (Ideal.ofBits .f32 0x40000000#32) = ((Real.log 2 : ℝ) : EReal) := by
  have two : Ideal.ofBits .f32 0x40000000#32 = ((2 : ℝ) : EReal) := by
    simp [Ideal.ofBits, Ideal.ieee, -EReal.coe_mul]; norm_num
  rw [two, Ideal.log_coe, if_neg (by norm_num)]

theorem log2e_eq : Named.named (F := Ideal) (φ := .f32) κ "log2e" 1069066811#32 = (((Real.log 2)⁻¹ : ℝ) : EReal) := rfl

section End

variable {l o : EReal} {i : ℕ} (hi : i < 4) (hq : q < 512 * i + 512)
include hi hq

/-- The average that a head stores is the softmax's, -/
theorem end_avg {d : ℕ} (hl : Kept (fun k => score Q K R CO SI h q k / Real.log 2) q (512 * i + 512) (fun _ => 1) m l)
    (ho : Kept (fun k => score Q K R CO SI h q k / Real.log 2) q (512 * i + 512) (fun k => V k h d) m o) :
    Ideal.div o l = avgOf Q K R CO SI MX V h q d := by
  rcases hl with ⟨hn, _⟩ | ⟨M, hm, hl⟩
  · omega
  rcases ho with ⟨hn, _⟩ | ⟨N, hm', ho⟩
  · omega
  obtain rfl : M = N := EReal.coe_injective (hm.symm.trans hm')
  have pos := tot_pos (Q := Q) (K := K) (R := R) (CO := CO) (SI := SI) (MX := MX) (h := h) (q := q) (by omega)
  rw [wgt_sum (MX := MX) M _ hi hq] at hl ho
  rw [sum_expo, ← EReal.coe_mul] at hl
  have c := Real.exp_pos (MX h q - M * Real.log 2)
  rw [hl, ho, Ideal.div_coe (mul_pos c pos).ne', mul_comm, ← mul_assoc, ← EReal.coe_mul, Cert.Norm.coe_mul_sum (mul_nonneg (one_div_nonneg.mpr (mul_pos c pos).le) c.le)]
  unfold avgOf
  refine Finset.sum_congr rfl fun k _ => ?_
  rw [← mul_assoc, ← EReal.coe_mul]
  refine congrArg (fun x : ℝ => (x : EReal) * _) ?_
  unfold prob
  have := pos.ne'
  have := c.ne'
  field_simp

/-- and its logarithm the row's. -/
theorem end_log (hl : Kept (fun k => score Q K R CO SI h q k / Real.log 2) q (512 * i + 512) (fun _ => 1) m l) :
    m + Ideal.log l * Named.named (F := Ideal) (φ := .f32) κ "log2e" 1069066811#32 = ((lse Q K R CO SI MX h q : ℝ) : EReal) := by
  rcases hl with ⟨hn, _⟩ | ⟨M, hm, hl⟩
  · omega
  have pos := tot_pos (Q := Q) (K := K) (R := R) (CO := CO) (SI := SI) (MX := MX) (h := h) (q := q) (by omega)
  rw [wgt_sum (MX := MX) M _ hi hq] at hl
  rw [sum_expo, ← EReal.coe_mul] at hl
  have lg : Ideal.log l = ((MX h q - M * Real.log 2 + Real.log (tot Q K R CO SI MX h q) : ℝ) : EReal) := by
    have p := mul_pos (Real.exp_pos (MX h q - M * Real.log 2)) pos
    rw [hl, Ideal.log_coe, if_neg p.not_ge, Real.log_mul (Real.exp_pos _).ne' pos.ne', Real.log_exp]
  rw [lg, log2e_eq, hm, ← EReal.coe_mul, ← EReal.coe_add]
  congr 1
  unfold lse
  have := log2_ne
  field_simp
  ring

end End

end Cert.AttendIdeal.Val

end
-- ==== Proof.Attend.Heads.lean ====
module

public import proofs.«01_k».proof.Proof.Attend.Online
public import proofs.«01_k».proof.Proof.Attn.Loaded

@[expose] public section

set_option maxRecDepth 65536

noncomputable section

/-! The heads' steps on finite blocks: what each row of each head holds before every tile, and what is stored. -/

namespace Cert.AttendIdeal.Val

open Cert.AttendIdeal Cert.AttendIdeal.Gen Idealize.ShloMosaic Idealize.ShloMosaic.TcCoe Idealize.SL.Sem
open Cert.AttnIdeal.Val (Re Re3 chunk_word readAt2 re_readAt2 re_readAt3b)

/-- The entries of an array, finite or not. -/
def Er {n k : ℕ} (x : (⟨2, ![n, k]⟩ : Shape).Idx → EReal) (f : ℕ → ℕ → EReal) : Prop := ∀ (i : Fin n) (j : Fin k), x (ix2 i j) = f i.val j.val

/-- A score of the blocks: a query row against a key row and the rotary part. -/
def dots (Q : ℕ → ℕ → ℕ → ℝ) (KN KR : ℕ → ℕ → ℝ) (a x k : ℕ) : ℝ :=
  ∑ e ∈ Finset.range 128, Q a x e * KN k (128 * a + e) + ∑ e ∈ Finset.range 128, Q a x (128 + e) * KR k e

/-- Every row of a head's numbers after `n` keys, the rows starting at row `r`. -/
def Rows (S : ℕ → ℕ → ℝ) (W : ℕ → ℕ → EReal) (r n : ℕ) (h : Head) : Prop :=
  ∀ x : Fin 512, Kept (S x.val) (r + x.val) n (fun _ => 1) (h.1 (ix2 x 0)) (h.2.1 (ix2 x 0))
    ∧ ∀ d : Fin 128, Kept (S x.val) (r + x.val) n (fun k => W k d.val) (h.1 (ix2 x 0)) (h.2.2 (ix2 x d))

theorem rows_start (S : ℕ → ℕ → ℝ) (W : ℕ → ℕ → EReal) (r : ℕ) : Rows S W r 0 startHead := by
  refine fun x => ⟨Or.inl ⟨rfl, ?_, ?_⟩, fun d => Or.inl ⟨rfl, ?_, ?_⟩⟩ <;> unfold startHead <;> dsimp only <;> pointwise [k0_pay56, k0_pay57, k0_pay58] <;> rfl

/-- A step of a head. -/
theorem rows_step {S : ℕ → ℕ → ℝ} {W : ℕ → ℕ → EReal} {r n : ℕ} {h : Head} {s : FVec Ideal S512x512 .f32} {v : Vec Ideal S512x128 .bf16} (hh : Rows S W r n h) (hn : n ≤ r)
    (hs : ∀ x y : Fin 512, s (ix2 x y) = if (n + y.val) / 64 ≤ (r + x.val) / 64 then ((S x.val (n + y.val) : ℝ) : EReal) else ⊥)
    (hv : Er v fun y d => W (n + y) d) : Rows S W r (n + 512) (stepHead s v h) := by
  intro x
  have hm : (stepHead s v h).1 (ix2 x 0) = max (h.1 (ix2 x 0)) (Finset.univ.fold max ⊥ fun y => s (ix2 x y)) := by
    unfold stepHead; pointwise [k0_pay12, Cert.AttnRefIdeal.Val.ninf_eq]
  refine ⟨?_, fun d => ?_⟩
  · have e : (stepHead s v h).2.1 (ix2 x 0) = FloatOps.exp2 (F := Ideal) (φ := .f32) (h.1 (ix2 x 0) - (stepHead s v h).1 (ix2 x 0)) * h.2.1 (ix2 x 0)
        + ∑ y, FloatOps.exp2 (F := Ideal) (φ := .f32) (s (ix2 x y) - (stepHead s v h).1 (ix2 x 0)) * 1 := by
      simp only [mul_one]
      unfold stepHead; pointwise [k0_pay15, k0_pay14, k0_pay13]
    rw [e]
    exact ((hh x).1).step (hs x) (by omega) (fun _ => rfl) hm
  · have e : (stepHead s v h).2.2 (ix2 x d) = FloatOps.exp2 (F := Ideal) (φ := .f32) (h.1 (ix2 x 0) - (stepHead s v h).1 (ix2 x 0)) * h.2.2 (ix2 x d)
        + ∑ y, FloatOps.exp2 (F := Ideal) (φ := .f32) (s (ix2 x y) - (stepHead s v h).1 (ix2 x 0)) * v (ix2 y d) := by
      unfold stepHead; pointwise [k0_pay16, k0_pay14, k0_pay13]
    rw [e]
    exact ((hh x).2 d).step (hs x) (by omega) (fun y => hv y d) hm

/-- A tile of scores. -/
theorem tile_dots {Q : ℕ → ℕ → ℕ → ℝ} {KN KR : ℕ → ℕ → ℝ} {q : Vec Ideal S1x512x256 .bf16} {kr kn : Vec Ideal S512x128 .bf16} {a n : ℕ}
    (hq : Re3 q fun _ x e => Q a x e) (hr : Re kr fun y e => KR (n + y) e) (hk : Re kn fun y e => KN (n + y) (128 * a + e)) : Re (tile q kr kn) fun x y => dots Q KN KR a x (n + y) := by
  intro x y
  unfold tile
  pointwise [k0_pay5, k0_pay54, k0_pay2]
  unfold dots
  rw [EReal.coe_add]
  exact congr (congrArg HAdd.hAdd (Cert.AttnIdeal.Val.sum_mul (fun e => Q a x e) (fun e => KN (n + y) (128 * a + e)) (fun e => hq 0 x _) (fun e => hk y e)))
    (Cert.AttnIdeal.Val.sum_mul (fun e => Q a x (128 + e)) (fun e => KR (n + y) e) (fun e => hq 0 x _) (fun e => hr y e))

/-- The tile on the diagonal, masked. -/
theorem masked_tile {s : FVec Ideal S512x512 .f32} {S : ℕ → ℕ → ℝ} {r : ℕ} (hr : 64 ∣ r) (hs : Re s fun x y => S x (r + y)) (x y : Fin 512) :
    k0_pay68 s (ix2 x y) = if (r + y.val) / 64 ≤ (r + x.val) / 64 then ((S x.val (r + y.val) : ℝ) : EReal) else ⊥ := by
  pointwise [k0_pay68]
  rw [chunk_word, hs x y, Scalar.select_ofBool]
  obtain ⟨t, rfl⟩ := hr
  have e : (y.val / 64 ≤ x.val / 64) = ((64 * t + y.val) / 64 ≤ (64 * t + x.val) / 64) := by
    rw [Nat.mul_add_div (by decide), Nat.mul_add_div (by decide)]; simp only [Nat.add_le_add_iff_left]
  simp only [e, decide_eq_true_eq]
  rfl

variable (c : Dev nD) (i : grid0.Coords)
  (arg2 : Memref sig .tc .vmem S4x512x256 .bf16) (harg2 : arg2.IsWhole)
  (arg3 : Memref sig .tc .vmem S2048x512 .bf16) (harg3 : arg3.IsWhole)
  (arg4 : Memref sig .tc .vmem S2048x128 .bf16) (harg4 : arg4.IsWhole)
  (arg5 : Memref sig .tc .vmem S2048x512 .bf16) (harg5 : arg5.IsWhole)
  (arg6 : Memref sig .tc .vmem S512x512 .bf16) (harg6 : arg6.IsWhole)
  (arg7 : Memref sig .tc .vmem S4x1x512 .f32) (harg7 : arg7.IsWhole)
variable {x0 : Vec Ideal S4x512x256 .bf16} {x1 : Vec Ideal S2048x512 .bf16} {x2 : Vec Ideal S2048x128 .bf16} {x3 : Vec Ideal S2048x512 .bf16}
variable {Q : ℕ → ℕ → ℕ → ℝ} {KN KR : ℕ → ℕ → ℝ} {W VV : ℕ → ℕ → EReal}

/-- Where the loop's tiles lie, and how many there are. -/
theorem places : ∀ i : grid0.Coords, (k0_t1_loop i).trips = (i 1).val
    ∧ (∀ k, k0_off1 i k = ![512 * k.val, 0] ∧ k0_off2 i k = ![512 * k.val, 0] ∧ k0_off3 i k = ![512 * k.val, 128] ∧ k0_off4 i k = ![512 * k.val, 256] ∧ k0_off5 i k = ![512 * k.val, 384])
    ∧ k0_off11 i = ![512 * (i 1).val, 0] ∧ k0_off12 i = ![512 * (i 1).val, 0] ∧ k0_off13 i = ![512 * (i 1).val, 128] ∧ k0_off14 i = ![512 * (i 1).val, 256] ∧ k0_off15 i = ![512 * (i 1).val, 384] := by
  decide +kernel

theorem four {p : Fin 4 → Prop} (h0 : p 0) (h1 : p 1) (h2 : p 2) (h3 : p 3) (a : Fin 4) : p a := by
  fin_cases a <;> assumption

/-- A rectangle of an array. -/
theorem er_readAt2 {sig : RefSig} {κ : Kind} {sp : Space} {n k n' k' a b : ℕ} (v : View sig κ sp ⟨2, ![n, k]⟩ .bf16) {f : v.ty.Contents (Elt Ideal)} {off : Fin 2 → ℕ} {X : ℕ → ℕ → EReal}
    {inb : ∀ a, off a + ![n', k'] a ≤ (⟨2, ![n, k]⟩ : Shape).size a} (ho : off = ![a, b]) (h : Er (v.read (Elt Ideal) f) X) :
    Er (v.readAt (Elt Ideal) (Rect.unit (s := ⟨2, ![n, k]⟩) off ![n', k'] inb).toLoadRect f) fun x y => X (a + x) (b + y) := by
  subst ho
  exact fun i j => (readAt2 v f _ inb i j).trans (h _ _)

/-- A head's queries, -/
theorem ldQ_re (h0 : Re3 x0 Q) (a : Fin 4) : Re3 (ldQ arg2 harg2 x0 a) fun _ x e => Q a.val x e := by
  have b0 := (harg2.read_unread x0).symm ▸ h0
  have g (a : ℕ) (inb) := (re_readAt3b (n' := 1) (k' := 512) (l' := 256) (a := a) (b := 0) (c := 0) arg2.view (inb := inb) rfl b0).of (Y := fun _ x e => Q a x e) fun y x e hy _ => by
    obtain rfl : y = 0 := by omega
    simp only [Nat.zero_add, Nat.add_zero]
  exact four (p := fun a => Re3 (ldQ arg2 harg2 x0 a) fun _ x e => Q a.val x e) (g 0 _) (g 1 _) (g 2 _) (g 3 _) a

/-- a tile's rotary keys, -/
theorem ldR_re (h2 : Re x2 KR) (k : Fin (k0_t1_loop i).trips) : Re (ldR i arg4 harg4 x2 k) fun y e => KR (512 * k.val + y) e :=
  (re_readAt2 (n' := 512) (k' := 128) arg4.view (inb := k0_off1_inb i k) ((places i).2.1 k).1 ((harg4.read_unread x2).symm ▸ h2)).of fun x e => by rw [Nat.zero_add]

/-- and a head's tile. -/
theorem ldH_re (h1 : Er x1 W) (k : Fin (k0_t1_loop i).trips) (a : Fin 4) : Er (ldH i arg3 harg3 x1 k a) fun y e => W (512 * k.val + y) (128 * a.val + e) := by
  have b1 := (harg3.read_unread x1).symm ▸ h1
  have g {off : Fin 2 → ℕ} (b : ℕ) (ho : off = ![512 * k.val, b]) (inb) := er_readAt2 (n' := 512) (k' := 128) arg3.view (inb := inb) ho b1
  obtain ⟨-, o2, o3, o4, o5⟩ := (places i).2.1 k
  exact four (p := fun a => Er (ldH i arg3 harg3 x1 k a) fun y e => W (512 * k.val + y) (128 * a.val + e)) (g 0 o2 _) (g 128 o3 _) (g 256 o4 _) (g 384 o5 _) a

theorem lastR_re (h2 : Re x2 KR) : Re (lastR i arg4 harg4 x2) fun y e => KR (512 * (i 1).val + y) e :=
  (re_readAt2 (n' := 512) (k' := 128) arg4.view (inb := k0_off11_inb i) (places i).2.2.1 ((harg4.read_unread x2).symm ▸ h2)).of fun x e => by rw [Nat.zero_add]

theorem lastH_re (h1 : Er x1 W) (a : Fin 4) : Er (lastH i arg3 harg3 x1 a) fun y e => W (512 * (i 1).val + y) (128 * a.val + e) := by
  have b1 := (harg3.read_unread x1).symm ▸ h1
  have g {off : Fin 2 → ℕ} (b : ℕ) (ho : off = ![512 * (i 1).val, b]) (inb) := er_readAt2 (n' := 512) (k' := 128) arg3.view (inb := inb) ho b1
  obtain ⟨-, o2, o3, o4, o5⟩ := (places i).2.2
  exact four (p := fun a => Er (lastH i arg3 harg3 x1 a) fun y e => W (512 * (i 1).val + y) (128 * a.val + e)) (g 0 o2 _) (g 128 o3 _) (g 256 o4 _) (g 384 o5 _) a

section Blocks

variable (h0 : Re3 x0 Q) (h1 : Re x1 KN) (h2 : Re x2 KR) (h3 : Er x3 VV) (a : Fin 4)
include h0 h1 h2 h3

/-- The loop over the tiles before the diagonal, whose keys every row sees. -/
theorem rows_carried : ∀ n ≤ (i 1).val, Rows (dots Q KN KR a) (fun k d => VV k (128 * a.val + d)) (512 * (i 1).val) (512 * n)
    (headOf (carried c i arg2 harg2 arg3 harg3 arg4 harg4 arg5 harg5 arg6 harg6 arg7 harg7 x0 x1 x2 x3 n) a) := by
  intro n
  induction n with
  | zero => intro _; rw [carried_zero]; exact rows_start _ _ _
  | succ n ih =>
    intro hn
    have ht : n < (k0_t1_loop i).trips := by rw [(places i).1]; exact hn
    rw [carried_succ c i arg2 harg2 arg3 harg3 arg4 harg4 arg5 harg5 arg6 harg6 arg7 harg7 x0 x1 x2 x3 ⟨n, ht⟩ a]
    refine rows_step (n := 512 * n) (ih (Nat.le_of_lt hn)) (Nat.mul_le_mul_left 512 (Nat.le_of_lt hn)) (fun x y => ?_) (ldH_re i arg5 harg5 h3 ⟨n, ht⟩ a)
    have le : 512 * n + y.val ≤ 512 * (i 1).val + x.val := by have := y.isLt; have : 512 * (n + 1) ≤ 512 * (i 1).val := Nat.mul_le_mul_left 512 hn; omega
    rw [if_pos (Nat.div_le_div_right le)]
    exact tile_dots (ldQ_re arg2 harg2 h0 a) (ldR_re i arg4 harg4 h2 ⟨n, ht⟩) (ldH_re i arg3 harg3 (W := fun y e => KN y e) h1 ⟨n, ht⟩ a) x y

/-- A head's rows at the end. -/
theorem rows_last : Rows (dots Q KN KR a) (fun k d => VV k (128 * a.val + d)) (512 * (i 1).val) (512 * (i 1).val + 512)
    (lastHead c i arg2 harg2 arg3 harg3 arg4 harg4 arg5 harg5 arg6 harg6 arg7 harg7 x0 x1 x2 x3 a) := by
  unfold lastHead
  have hc := rows_carried c i arg2 harg2 arg3 harg3 arg4 harg4 arg5 harg5 arg6 harg6 arg7 harg7 h0 h1 h2 h3 a _ le_rfl
  rw [← (places i).1] at hc
  refine rows_step ((places i).1 ▸ hc) le_rfl (masked_tile (Dvd.dvd.mul_right (by decide) _) ?_) (lastH_re i arg5 harg5 h3 a)
  exact tile_dots (ldQ_re arg2 harg2 h0 a) (lastR_re i arg4 harg4 h2) (lastH_re i arg3 harg3 (W := fun y e => KN y e) h1 a)

end Blocks

end Cert.AttendIdeal.Val

end
-- ==== Proof.Attend.Arrays.lean ====
module

public import proofs.«01_k».proof.Proof.Attend.Heads
public import proofs.«01_k».proof.Proof.Gen.AttendIdeal.Value
public import Idealize.ShloMosaic.Lib.Pipeline.ValueKit
public import Idealize.ShloMosaic.Lib.Pointwise

@[expose] public section

set_option maxRecDepth 16384

noncomputable section

/-! The launch's two result arrays, in numbers. -/

namespace Cert.AttendIdeal.Val

open Cert.AttendIdeal Cert.AttendIdeal.Gen Idealize.ShloMosaic Idealize.ShloMosaic.TcCoe Idealize.SL.Sem
open Idealize.ShloMosaic.Pipeline (Dat)
open Cert.AttnIdeal.Val (Re Re3 score lse arrQ arrH arrR arrH_at dot_score keyRow)

section Pieces

variable {sig : RefSig} {κ : Kind} {sp : Space}

/-- Four blocks of 128 columns side by side. -/
theorem four_cols (v : View sig κ sp S512x512 .bf16) (f : v.ty.Contents (Elt Ideal)) {w : Fin 4 → Vec Ideal S512x128 .bf16} {G : ℕ → ℕ → EReal} (hw : ∀ a, Er (w a) fun y e => G y (128 * a.val + e)) :
    Er (v.read (Elt Ideal) (v.writes (Elt Ideal) f [⟨Rect.unit (s := S512x512) ![0, 384] S512x128.size inb_S512x512_S512x128_0_384, w 3⟩, ⟨Rect.unit (s := S512x512) ![0, 256] S512x128.size inb_S512x512_S512x128_0_256, w 2⟩,
      ⟨Rect.unit (s := S512x512) ![0, 128] S512x128.size inb_S512x512_S512x128_0_128, w 1⟩, ⟨Rect.unit (s := S512x512) ![0, 0] S512x128.size inb_S512x512_S512x128_0_0, w 0⟩])) G := by
  intro y e
  have hit (a : Fin 4) (he : e.val / 128 = a.val) : w a (ix2 y (⟨e.val % 128, Nat.mod_lt _ (by decide)⟩ : Fin 128)) = G y.val e.val :=
    (hw a y _).trans (congrArg (G y.val) (by show 128 * a.val + e.val % 128 = e.val; omega))
  by_cases h3 : 384 ≤ e.val
  · rw [View.read_writes_cons_hit_of_coords v f _ _ _ (ix2 y (⟨e.val % 128, Nat.mod_lt _ (by decide)⟩ : Fin 128)) (ix2 y e) (fun x => by fin_cases x <;> simp [Rect.unit] <;> omega)]
    exact hit 3 (by show _ = 3; omega)
  rw [View.read_writes_cons_miss_of_axis v f _ _ (ix2 y e) 1 384 128 rfl rfl rfl (by show e.val < _ ∨ _; omega)]
  by_cases h2 : 256 ≤ e.val
  · rw [View.read_writes_cons_hit_of_coords v f _ _ _ (ix2 y (⟨e.val % 128, Nat.mod_lt _ (by decide)⟩ : Fin 128)) (ix2 y e) (fun x => by fin_cases x <;> simp [Rect.unit] <;> omega)]
    exact hit 2 (by show _ = 2; omega)
  rw [View.read_writes_cons_miss_of_axis v f _ _ (ix2 y e) 1 256 128 rfl rfl rfl (by show e.val < _ ∨ _; omega)]
  by_cases h1 : 128 ≤ e.val
  · rw [View.read_writes_cons_hit_of_coords v f _ _ _ (ix2 y (⟨e.val % 128, Nat.mod_lt _ (by decide)⟩ : Fin 128)) (ix2 y e) (fun x => by fin_cases x <;> simp [Rect.unit] <;> omega)]
    exact hit 1 (by show _ = 1; omega)
  rw [View.read_writes_cons_miss_of_axis v f _ _ (ix2 y e) 1 128 128 rfl rfl rfl (by show e.val < _ ∨ _; omega),
    View.read_writes_cons_hit_of_coords v f _ _ _ (ix2 y (⟨e.val % 128, Nat.mod_lt _ (by decide)⟩ : Fin 128)) (ix2 y e) (fun x => by fin_cases x <;> simp [Rect.unit] <;> omega)]
  exact hit 0 (by show _ = 0; omega)

/-- Four heads' rows. -/
theorem four_rows (v : View sig κ sp S4x1x512 .f32) (f : v.ty.Contents (Elt Ideal)) (w : Fin 4 → Vec Ideal S1x1x512 .f32) (a : Fin 4) (z : Fin 1) (q : Fin 512) :
    v.read (Elt Ideal) (v.writes (Elt Ideal) f [⟨Rect.unit (s := S4x1x512) ![3, 0, 0] S1x1x512.size inb_S4x1x512_S1x1x512_3_0_0, w 3⟩, ⟨Rect.unit (s := S4x1x512) ![2, 0, 0] S1x1x512.size inb_S4x1x512_S1x1x512_2_0_0, w 2⟩,
      ⟨Rect.unit (s := S4x1x512) ![1, 0, 0] S1x1x512.size inb_S4x1x512_S1x1x512_1_0_0, w 1⟩, ⟨Rect.unit (s := S4x1x512) ![0, 0, 0] S1x1x512.size inb_S4x1x512_S1x1x512_0_0_0, w 0⟩]) (ix3 a z q) = w a (ix3 0 0 q) := by
  obtain rfl : z = 0 := Subsingleton.elim _ _
  fin_cases a
  · rw [View.read_writes_cons_miss_of_axis v f _ _ _ 0 3 1 rfl rfl rfl (by simp), View.read_writes_cons_miss_of_axis v f _ _ _ 0 2 1 rfl rfl rfl (by simp),
      View.read_writes_cons_miss_of_axis v f _ _ _ 0 1 1 rfl rfl rfl (by simp), View.read_writes_cons_hit_of_coords v f _ _ _ (ix3 0 0 q) _ (fun x => by fin_cases x <;> simp [Rect.unit])]
    rfl
  · rw [View.read_writes_cons_miss_of_axis v f _ _ _ 0 3 1 rfl rfl rfl (by simp), View.read_writes_cons_miss_of_axis v f _ _ _ 0 2 1 rfl rfl rfl (by simp),
      View.read_writes_cons_hit_of_coords v f _ _ _ (ix3 0 0 q) _ (fun x => by fin_cases x <;> simp [Rect.unit])]
    rfl
  · rw [View.read_writes_cons_miss_of_axis v f _ _ _ 0 3 1 rfl rfl rfl (by simp), View.read_writes_cons_hit_of_coords v f _ _ _ (ix3 0 0 q) _ (fun x => by fin_cases x <;> simp [Rect.unit])]
    rfl
  · rw [View.read_writes_cons_hit_of_coords v f _ _ _ (ix3 0 0 q) _ (fun x => by fin_cases x <;> simp [Rect.unit])]
    rfl

end Pieces

theorem avg_at (h : Head) (q : Fin 512) (d : Fin 128) : avg h (ix2 q d) = Ideal.div (h.2.2 (ix2 q d)) (h.2.1 (ix2 q 0)) := by
  unfold avg; pointwise [k0_pay95]

theorem logs_at (h : Head) (q : Fin 512) : logs h (ix3 0 0 q) = h.1 (ix2 q 0) + Ideal.log (h.2.1 (ix2 q 0)) * Named.named (F := Ideal) (φ := .f32) κ "log2e" 1069066811#32 := by
  unfold logs; pointwise [k0_pay1, k0_pay102]

variable (m : (ℓ : Loc nD τ sig) → Buf (Elt Ideal) ℓ) (c : Dev nD)

/-- Where each window's block lies. -/
theorem idx : ∀ t : Fin cfg0.N, (grid0.coords t 1).val = t.val % 4 ∧ win0_0.index t = ![t.val / 4, t.val % 4, 0] ∧ win0_1.index t = ![0, t.val / 4]
    ∧ win0_2.index t = ![0, 0] ∧ win0_3.index t = ![0, t.val / 4] ∧ win0_4.index t = ![t.val % 4, t.val / 4] ∧ win0_5.index t = ![t.val / 4, 0, t.val % 4] :=
  (by decide +kernel : ∀ t : Fin grid0.N, _)

theorem lt8 (t : Fin cfg0.N) : t.val < 8 := lt_of_lt_of_eq t.isLt N_0

/-- What the launch finds: queries and keys in numbers, values whatever they are. -/
structure Found (Q K : ℕ → ℕ → ℕ → ℝ) (R CO SI : ℕ → ℕ → ℝ) (W : ℕ → ℕ → ℕ → EReal) : Prop where
  q : Re3 (n := 8) (k := 2048) (l := 256) (V m c main_v39) (arrQ Q CO SI)
  kn : Re (n := 2048) (k := 1024) (V m c main_v41) (arrH K)
  kr : Re (n := 2048) (k := 128) (V m c main_v44) (arrR R)
  v : Er (n := 2048) (k := 1024) (V m c main_v46) fun t e => W t (e / 128) (e % 128)

variable {m c} {Q K : ℕ → ℕ → ℕ → ℝ} {R CO SI MX : ℕ → ℕ → ℝ} {W : ℕ → ℕ → ℕ → EReal}

/-- The scores of a point's blocks are the layer's. -/
theorem dots_score (h i x k : ℕ) {a : ℕ} :
    dots (fun a x e => arrQ Q CO SI (4 * h + a) (512 * i + x) e) (fun k e => arrH K k (512 * h + e)) (arrR R) a x k = score Q K R CO SI (4 * h + a) (512 * i + x) k / Real.log 2 := by
  rw [← dot_score, show 256 = 128 + 128 from rfl, Finset.sum_range_add]
  unfold dots
  refine congr (congrArg HAdd.hAdd (Finset.sum_congr rfl fun e he => ?_)) (Finset.sum_congr rfl fun e _ => ?_)
  · unfold keyRow
    rw [if_pos (Finset.mem_range.mp he), mul_comm]
    dsimp only
    rw [show 512 * h + (128 * a + e) = 128 * (4 * h + a) + e by ring]
  · unfold keyRow
    rw [if_neg (by omega), mul_comm, Nat.add_sub_cancel_left]

section At

variable (m c) (t : Fin cfg0.N)

theorem at_q (a : Fin 4) (x : Fin 512) (e : Fin 256) : iblk m c 0 t (ix3 a x e) = V m c main_v39 (ix3 ⟨4 * (t.val / 4) + a.val, by have := lt8 t; omega⟩ ⟨512 * (t.val % 4) + x.val, by omega⟩ e) := by
  blk_ext [iblk, idx t]
theorem at_kn (k : Fin 2048) (e : Fin 512) : iblk m c 1 t (ix2 k e) = V m c main_v41 (ix2 k ⟨512 * (t.val / 4) + e.val, by have := lt8 t; omega⟩) := by
  blk_ext [iblk, idx t]
theorem at_kr (k : Fin 2048) (e : Fin 128) : iblk m c 2 t (ix2 k e) = V m c main_v44 (ix2 k e) := by
  blk_ext [iblk, idx t]
theorem at_v (k : Fin 2048) (e : Fin 512) : iblk m c 3 t (ix2 k e) = V m c main_v46 (ix2 k ⟨512 * (t.val / 4) + e.val, by have := lt8 t; omega⟩) := by
  blk_ext [iblk, idx t]

end At

section Point

variable (f : Found m c Q K R CO SI W) (t : Fin cfg0.N)
include f

/-- What a head holds at the end of a point. -/
theorem rows_point (a : Fin 4) :
    Rows (fun x k => score Q K R CO SI (4 * (t.val / 4) + a.val) (512 * (t.val % 4) + x) k / Real.log 2) (fun k d => W k (4 * (t.val / 4) + a.val) (d % 128)) (512 * (t.val % 4)) (512 * (t.val % 4) + 512)
      (lastHead c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) a) := by
  have ht := lt8 t
  have b0 : Re3 (n := 4) (k := 512) (l := 256) (iblk m c 0 t) fun a x e => arrQ Q CO SI (4 * (t.val / 4) + a) (512 * (t.val % 4) + x) e := fun a x e =>
    (at_q m c t a x e).trans (f.q _ _ _)
  have b1 : Re (n := 2048) (k := 512) (iblk m c 1 t) fun k e => arrH K k (512 * (t.val / 4) + e) := fun k e =>
    (at_kn m c t k e).trans (f.kn _ _)
  have b2 : Re (n := 2048) (k := 128) (iblk m c 2 t) (arrR R) := fun k e =>
    (at_kr m c t k e).trans (f.kr _ _)
  have b3 : Er (n := 2048) (k := 512) (iblk m c 3 t) fun k e => W k ((512 * (t.val / 4) + e) / 128) ((512 * (t.val / 4) + e) % 128) := fun k e =>
    (at_v m c t k e).trans (f.v _ _)
  have r := rows_last c (grid0.coords t) (ms0_0 t) (hs0_0 t) (ms0_1 t) (hs0_1 t) (ms0_2 t) (hs0_2 t) (ms0_3 t) (hs0_3 t) (ms0_4 t) (hs0_4 t) (ms0_5 t) (hs0_5 t) b0 b1 b2 b3 a
  rw [(idx t).1] at r
  intro x
  obtain ⟨r1, r2⟩ := r x
  have es : dots (fun a x e => arrQ Q CO SI (4 * (t.val / 4) + a) (512 * (t.val % 4) + x) e) (fun k e => arrH K k (512 * (t.val / 4) + e)) (arrR R) a.val x.val
      = fun k => score Q K R CO SI (4 * (t.val / 4) + a.val) (512 * (t.val % 4) + x.val) k / Real.log 2 := funext fun k => dots_score _ _ _ k
  rw [es] at r1
  simp only [es] at r2
  refine ⟨r1, fun d => ?_⟩
  have e : (fun k => W k ((512 * (t.val / 4) + (128 * a.val + d.val)) / 128) ((512 * (t.val / 4) + (128 * a.val + d.val)) % 128)) = fun k => W k (4 * (t.val / 4) + a.val) (d.val % 128) := by
    rw [show (512 * (t.val / 4) + (128 * a.val + d.val)) / 128 = 4 * (t.val / 4) + a.val by omega, show (512 * (t.val / 4) + (128 * a.val + d.val)) % 128 = d.val % 128 by omega]
  exact e ▸ r2 d

/-- The block of averages a point stores, -/
theorem avg_point : Er (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t))
    fun q e => avgOf Q K R CO SI MX W (4 * (t.val / 4) + e / 128) (512 * (t.val % 4) + q) (e % 128) := by
  unfold out0_A_4
  rw [(stores_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)).1]
  refine four_cols (w := fun a => avg (lastHead c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) a)) _ _ fun a q d => ?_
  obtain ⟨r1, r2⟩ := rows_point f t a q
  rw [avg_at, end_avg (MX := MX) (V := W) (d := d.val % 128) (by omega) (by omega) r1 (r2 d)]
  dsimp only
  rw [show (128 * a.val + d.val) / 128 = a.val by omega, show (128 * a.val + d.val) % 128 = d.val % 128 by omega]

/-- and the rows' logarithms. -/
theorem logs_point (a : Fin 4) (z : Fin 1) (q : Fin 512) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (ix3 a z q)
      = ((lse Q K R CO SI MX (4 * (t.val / 4) + a.val) (512 * (t.val % 4) + q.val) : ℝ) : EReal) := by
  unfold out0_A_5
  rw [(stores_eq c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)).2]
  refine (four_rows _ _ (fun a => logs (lastHead c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) a)) a z q).trans ?_
  rw [logs_at]
  exact end_log (MX := MX) (by omega) (by omega) (rows_point f t a q).1

/-- Both, as the launch's points leave them. -/
theorem outs_point : (∀ q e : Fin 512, (outsAt0 m c t).1 (ix2 q e) = avgOf Q K R CO SI MX W ((t.val / 4 * 512 + e.val) / 128) (t.val % 4 * 512 + q.val) ((t.val / 4 * 512 + e.val) % 128))
    ∧ ∀ (a : Fin 4) (z : Fin 1) (q : Fin 512), (outsAt0 m c t).2 (ix3 a z q) = ((lse Q K R CO SI MX (t.val / 4 * 4 + a.val) (t.val % 4 * 512 + q.val) : ℝ) : EReal) := by
  unfold outsAt0
  dsimp only
  refine ⟨fun q e => ?_, fun a z q => ?_⟩
  · have h := avg_point (MX := MX) f t q e
    rw [h, show (t.val / 4 * 512 + e.val) / 128 = 4 * (t.val / 4) + e.val / 128 by omega, show (t.val / 4 * 512 + e.val) % 128 = e.val % 128 by omega, Nat.mul_comm (t.val % 4)]
  · rw [logs_point (MX := MX) f t a z q, Nat.mul_comm (t.val / 4), Nat.mul_comm (t.val % 4)]

end Point

variable (f : Found m c Q K R CO SI W)
include f

/-- The launch leaves the heads' averages side by side, -/
theorem avg_array : Er (n := 2048) (k := 1024) ((dats m 0 c).arrAt 4 cfg0.N) fun q e => avgOf Q K R CO SI MX W (e / 128) q (e % 128) := by
  intro q e
  refine congrFun ((dats m 0 c).arrAt_eq_of_covers 4 (fun i => avgOf Q K R CO SI MX W ((i 1).val / 128) (i 0).val ((i 1).val % 128)) (by decide +kernel) fun t hf y => ?_) (ix2 q e)
  idx_vars y
  have ht := lt8 t
  blk_simp [idx t]
  rw [after0_4]
  exact (outs_point (MX := MX) f t).1 y0 y1

/-- and every row's logarithm. -/
theorem logs_array (h : Fin 8) (z : Fin 1) (q : Fin 2048) : (dats m 0 c).arrAt 5 cfg0.N (ix3 h z q) = ((lse Q K R CO SI MX h.val q.val : ℝ) : EReal) := by
  refine congrFun ((dats m 0 c).arrAt_eq_of_covers 5 (fun i => ((lse Q K R CO SI MX (i 0).val (i 2).val : ℝ) : EReal)) (by decide +kernel) fun t hf y => ?_) (ix3 h z q)
  idx_vars y
  have ht := lt8 t
  blk_simp [idx t]
  rw [after0_5]
  exact (outs_point (MX := MX) f t).2 y0 y1 y2

end Cert.AttendIdeal.Val

end
-- ==== Proof.Attend.Ref.lean ====
module

public import proofs.«01_k».proof.Proof.Gen.AttendRefIdeal.Run
public import proofs.«01_k».proof.Proof.Gen.AttendRefIdeal.Read
public import proofs.«01_k».proof.Proof.Attend.Online

@[expose] public section

set_option maxRecDepth 16384

noncomputable section

/-! The reference of the attention, in numbers. -/

namespace Cert.AttendRefIdeal.Val

open Cert.AttendRefIdeal Cert.AttendRefIdeal.Gen Cert.AttendRefIdeal.Read Idealize.ShloMosaic Idealize.ShloMosaic.TcCoe Idealize.SL.Sem
open Cert.AttnIdeal.Val (Re Re3 expo prob tot tot_pos lse log2_ne)
open Cert.AttnRefIdeal.Val (Nums exp_masked probs sum_real div_real)
open Cert.AttendIdeal.Val (avgOf)

variable {x0 : FVec Ideal S2048x8x192 .f32} {x1 : FVec Ideal S2048x8x128 .f32} {x2 : FVec Ideal S2048x64 .f32} {x3 : FVec Ideal S2048x8x128 .f32} {x4 : Vec Ideal S2048 .i32}

/-- The masked scores, their greatest and the weights are those of the gradient's reference. -/
theorem scores_eq : val_main_v47 (F := Ideal) x0 x1 x2 x4 = Cert.AttnRefIdeal.Read.val_main_v47_0 (F := Ideal) x0 x1 x2 x4 := by sl_kernel_rfl
theorem tops_eq : val_main_v48 (F := Ideal) x0 x1 x2 x4 = Cert.AttnRefIdeal.Read.val_main_v48 (F := Ideal) x0 x1 x2 x4 := by sl_kernel_rfl
theorem probs_eq : val_main_v112 (F := Ideal) x0 x1 x2 x4 = Cert.AttnRefIdeal.Read.val_main_v72 (F := Ideal) x0 x1 x2 x4 := by sl_kernel_rfl

/-- An array's entries, whatever they are. -/
def entries (x : FVec Ideal S2048x8x128 .f32) (t h d : ℕ) : EReal := if i : t < 2048 ∧ h < 8 ∧ d < 128 then x (ix3 ⟨t, i.1⟩ ⟨h, i.2.1⟩ ⟨d, i.2.2⟩) else 0

theorem entries_at (x : FVec Ideal S2048x8x128 .f32) (t : Fin 2048) (h : Fin 8) (d : Fin 128) : entries x t h d = x (ix3 t h d) :=
  dif_pos ⟨t.isLt, h.isLt, d.isLt⟩

variable {y z : FVec Ideal S2048x8x128 .f32} {Q K Y Z : ℕ → ℕ → ℕ → ℝ} {R CO SI MX : ℕ → ℕ → ℝ} (n : Nums x0 x1 x2 y x4 z Q K Y Z R CO SI MX)
include n

theorem expos (h : Fin 8) (t s : Fin 2048) : val_main_v52 (F := Ideal) x0 x1 x2 x4 (ix3 h t s) = ((expo Q K R CO SI MX h t s : ℝ) : EReal) := by
  pointwise [val_main_v52, val_main_v51, val_main_v50, val_main_v49]
  rw [scores_eq, tops_eq, n.top]
  exact exp_masked n h t s

theorem tots (h : Fin 8) (t : Fin 2048) : val_main_v53 (F := Ideal) x0 x1 x2 x4 (ix2 h t) = ((tot Q K R CO SI MX h t : ℝ) : EReal) := by
  pointwise [val_main_v53, val_main_cst_5, Ideal.ofBits_zero_f32]
  exact sum_real fun s => expos n h t s

/-- The heads' averages side by side, -/
theorem avg_result (t : Fin 2048) (e : Fin 1024) : val_main_v116 (F := Ideal) x0 x1 x2 x3 x4 (ix2 t e) = avgOf Q K R CO SI MX (entries x3) (e.val / 128) t (e.val % 128) := by
  pointwise [val_main_v116, val_main_v115, val_main_v114, val_main_v113]
  unfold avgOf
  rw [Finset.sum_range]
  refine Finset.sum_congr rfl fun k _ => ?_
  rw [probs_eq, mul_comm]
  exact congr (congrArg HMul.hMul (probs n _ _ _)) (entries_at x3 k ⟨e.val / 128, by omega⟩ ⟨e.val % 128, Nat.mod_lt _ (by decide)⟩).symm

theorem logs (h : Fin 8) (t : Fin 2048) : val_main_v55 (F := Ideal) x0 x1 x2 x4 (ix2 h t) = ((MX h t + Real.log (tot Q K R CO SI MX h t) : ℝ) : EReal) := by
  have e : val_main_v54 (F := Ideal) x0 x1 x2 x4 (ix2 h t) = ((Real.log (tot Q K R CO SI MX h t) : ℝ) : EReal) := by
    pointwise [val_main_v54]
    rw [tots n, Ideal.log_coe, if_neg (tot_pos t.isLt).not_ge]
  rw [val_main_v55_apply, e, tops_eq, n.top]
  exact (EReal.coe_add _ _).symm

/-- and the rows' logarithms. -/
theorem lse_result (h : Fin 8) (u : Fin 1) (t : Fin 2048) : val_main_v120 (F := Ideal) x0 x1 x2 x4 (ix3 h u t) = ((lse Q K R CO SI MX h t : ℝ) : EReal) := by
  have l := logs n h t
  unfold val_main_v120 val_main_v119
  generalize val_main_v55 (F := Ideal) x0 x1 x2 x4 = A at l ⊢
  pointwise [val_main_v118, val_main_v117, val_main_cst_15, Cert.AttendIdeal.Val.log_two]
  rw [l]
  exact div_real _ log2_ne

end Cert.AttendRefIdeal.Val

end
-- ==== Proof.Attend.Host.lean ====
module

public import proofs.«01_k».proof.Proof.Attend.Arrays
public import proofs.«01_k».proof.Proof.Attend.Ref
public import Idealize.ShloMosaic.Lib.StableHlo.ReadAt

@[expose] public section

set_option maxRecDepth 16384

noncomputable section

/-! What the attention's launch finds in its arrays. -/

namespace Cert.AttendHost

open Idealize.ShloMosaic Idealize.ShloMosaic.TcCoe Idealize.SL.Sem
open Cert.AttnRefIdeal.Val (Nums mul_real add_real sub_real div_real re3_at)
open Cert.AttnIdeal.Val (Re Re3 rotQ theScale scale_eq log2_ne arrQ arrH arrR)
open Cert.AttendIdeal Cert.AttendIdeal.Gen Cert.AttendIdeal.Val Cert.AttnRefIdeal.Read
open Cert.AttendRefIdeal.Val (entries entries_at)

variable (m : (ℓ : Loc nD τ sig) → Buf (Elt Ideal) ℓ) (c : Dev nD)

/-- The kernel's own arguments. -/
abbrev a0 : FVec Ideal S2048x8x192 .f32 := m ((c : Thread nD τ).loc main_arg0)
abbrev a1 : FVec Ideal S2048x8x128 .f32 := m ((c : Thread nD τ).loc main_arg1)
abbrev a2 : FVec Ideal S2048x64 .f32 := m ((c : Thread nD τ).loc main_arg2)
abbrev a3 : FVec Ideal S2048x8x128 .f32 := m ((c : Thread nD τ).loc main_arg3)
abbrev a4 : Vec Ideal S2048 .i32 := m ((c : Thread nD τ).loc main_arg4)

/-- The scale of the queries, in powers of two. -/
theorem scale_over : Ideal.div (Ideal.ofBits .f32 0x3D93CD3A#32) (Ideal.log (Ideal.ofBits .f32 0x40000000#32)) = ((theScale / Real.log 2 : ℝ) : EReal) := by
  rw [scale_eq, log_two, div_real _ log2_ne]

/-- The values reach the launch as they are. -/
theorem f_v : Er (n := 2048) (k := 1024) (V m c main_v46) fun t e => entries (a3 m c) t (e / 128) (e % 128) := by
  intro t e
  refine Eq.trans ?_ (entries_at (a3 m c) t ⟨e.val / 128, by omega⟩ ⟨e.val % 128, Nat.mod_lt _ (by decide)⟩).symm
  iterate 3
    try simp only [Matrix.cons_val_zero, Matrix.cons_val_one, Matrix.cons_val]
    try after_reads_at

variable {m c} {y z : FVec Ideal S2048x8x128 .f32} {Q K Y Z : ℕ → ℕ → ℕ → ℝ} {R CO SI MX : ℕ → ℕ → ℝ} (n : Nums (a0 m c) (a1 m c) (a2 m c) y (a4 m c) z Q K Y Z R CO SI MX)
include n

/-- The cosine and the sine of a position's angle. -/
theorem turn_at (t : Fin 2048) (j : Fin 32) :
    let angle := FloatOps.sitofp (F := Ideal) .f32 (a4 m c (ix1 t)) * Ideal.div 1 (Ideal.pow (Ideal.ofBits .f32 0x461C4000#32) (Ideal.div (FloatOps.sitofp (F := Ideal) .f32 (BitVec.ofNat 32 j.val)) (Ideal.ofBits .f32 0x42000000#32)))
    Ideal.cos angle = ((CO t j : ℝ) : EReal) ∧ Ideal.sin angle = ((SI t j : ℝ) : EReal) := by
  have e : val_main_v16 (F := Ideal) (a4 m c) (ix2 t j) = FloatOps.sitofp (F := Ideal) .f32 (a4 m c (ix1 t)) * Ideal.div 1 (Ideal.pow (Ideal.ofBits .f32 0x461C4000#32) (Ideal.div (FloatOps.sitofp (F := Ideal) .f32 (BitVec.ofNat 32 j.val)) (Ideal.ofBits .f32 0x42000000#32))) := by
    pointwise [val_main_v16, val_main_v15, val_main_v14, val_main_v13, val_main_v12, val_main_v11, val_main_v10, val_main_v9, val_main_v8, val_main_v7, val_main_v6, val_main_v5, val_main_v4, val_main_cst_1, val_main_cst_0, val_main_cst]
  dsimp only
  rw [← e, ← n.cos t j, ← n.sin t j]
  exact ⟨rfl, rfl⟩

theorem f_kn : Re (n := 2048) (k := 1024) (V m c main_v41) (arrH K) := by
  intro t e
  iterate 3
    try simp only [Matrix.cons_val_zero, Matrix.cons_val_one, Matrix.cons_val]
    try after_reads_at
  exact re3_at n.k _ rfl

theorem f_kr : Re (n := 2048) (k := 128) (V m c main_v44) (arrR R) := by
  intro t e
  iterate 3
    try simp only [Matrix.cons_val_zero, Matrix.cons_val_one, Matrix.cons_val]
    try after_reads_at
  unfold arrR
  split_ifs
  · exact n.r t _
  · exact EReal.coe_zero.symm

theorem f_q : Re3 (n := 8) (k := 2048) (l := 256) (V m c main_v39) (arrQ Q CO SI) := by
  intro h t e
  iterate 3
    try simp only [Matrix.cons_val_zero, Matrix.cons_val_one, Matrix.cons_val]
    try after_reads_at
  unfold arrQ
  refine mul_real ?_ scale_over
  by_cases low : e.val < 128
  · simp only [low, ↓reduceDIte, ↓reduceIte]
    exact n.q t h _
  by_cases mid : e.val - 128 < 64
  · have mid' : e.val < 192 := by omega
    unfold rotQ
    by_cases first : e.val - 128 < 32
    · simp only [low, mid, mid', first, ↓reduceDIte, ↓reduceIte]
      exact sub_real (mul_real (n.q t h _) (turn_at n t ⟨e.val - 128, first⟩).1) (mul_real (re3_at n.q (160 + (e.val - 128)) (by dsimp only; omega)) (turn_at n t ⟨e.val - 128, first⟩).2)
    · simp only [low, mid, mid', first, ↓reduceDIte, ↓reduceIte]
      exact add_real (mul_real (re3_at n.q (128 + (e.val - 128)) (by dsimp only; omega)) (turn_at n t ⟨e.val - 128 - 32, by omega⟩).1)
        (mul_real (re3_at n.q (96 + (e.val - 128)) (by dsimp only; omega)) (turn_at n t ⟨e.val - 128 - 32, by omega⟩).2)
  · have high : ¬e.val < 192 := by omega
    simp only [low, mid, high, ↓reduceDIte, ↓reduceIte]
    exact EReal.coe_zero.symm

/-- What the launch finds. -/
theorem found : Found m c Q K R CO SI (entries (a3 m c)) := ⟨f_q n, f_kn n, f_kr n, f_v m c⟩

end Cert.AttendHost

end
-- ==== Proof.Attend.Claim.lean ====
module

public import proofs.«01_k».proof.Defs
public import proofs.«01_k».proof.Proof.Gen.Pre_attend_finite
public import proofs.«01_k».proof.Proof.Attn.Finite
public import proofs.«01_k».proof.Proof.Attend.Host

@[expose] public section

set_option maxRecDepth 16384

noncomputable section

/-! The pair of the attention: kernel and reference end with the same averages and the same rows' logarithms. -/

namespace Cert.AttendClaim

open Idealize.ShloMosaic Idealize.ShloMosaic.TcCoe Idealize.SL.Sem
open Cert.AttendIdeal Cert.AttendIdeal.Gen Cert.AttendIdeal.Val Cert.AttendHost Cert.AttendRefIdeal.Read Cert.AttnFinite

/-- The precondition makes queries and keys real numbers. -/
theorem args {x0 : FVec Ideal S2048x8x192 .f32} {x1 x3 : FVec Ideal S2048x8x128 .f32} {x2 : FVec Ideal S2048x64 .f32} {x4 : IVec S2048 32} (h : Cert.Pre_attend_finite.fn (F := Ideal) x0 x1 x2 x3 x4 = fun _ => 1#1) :
    (∀ i, ∃ r : ℝ, x0 i = ((r : ℝ) : EReal)) ∧ (∀ i, ∃ r : ℝ, x1 i = ((r : ℝ) : EReal)) ∧ ∀ i, ∃ r : ℝ, x2 i = ((r : ℝ) : EReal) := by
  obtain ⟨h, h2⟩ := and_one h
  obtain ⟨h0, h1⟩ := and_one h
  exact ⟨reals x0 _ _ h0, reals x1 _ _ h1, reals x2 _ _ h2⟩

variable {m : (ℓ : Loc nD τ sig) → Buf (Elt Ideal) ℓ} (h : Cert.Pre_AttendIdeal_attend_finite m) (c : Dev nD)
include h

/-- Where queries and keys are finite, the launch leaves what the reference does. -/
theorem outs : (dats m 0 c).arrAt 4 cfg0.N = val_main_v116 (F := Ideal) (a0 m c) (a1 m c) (a2 m c) (a3 m c) (a4 m c)
    ∧ (dats m 0 c).arrAt 5 cfg0.N = val_main_v120 (F := Ideal) (a0 m c) (a1 m c) (a2 m c) (a4 m c) := by
  obtain ⟨f0, f1, f2⟩ := args (h c)
  obtain ⟨Q, K, Y, Z, R, CO, SI, MX, n⟩ := Cert.AttnRefIdeal.Val.exists_nums (x4 := a4 m c) f0 f1 f2 f1 f1
  constructor
  · funext i
    idx_vars i
    exact (avg_array (found n) i0 i1).trans (Cert.AttendRefIdeal.Val.avg_result n i0 i1).symm
  · funext i
    idx_vars i
    exact (logs_array (found n) i0 i1 i2).trans (Cert.AttendRefIdeal.Val.lse_result n i0 i1 i2).symm

omit h in
/-- Kernel and reference agree at the extended reals, queries and keys finite. -/
theorem algebraic : Cert.algebraic_AttendIdeal_AttendRefIdeal_pre_attend_finite := by
  intro m g m' g' hpre hagree
  refine ⟨_, _, Cert.AttendIdeal.Value.run_blocks m g, (θ_run Cert.AttendRefIdeal.defs _ _).mono (fun r h c => ?_) (Cert.AttendRefIdeal.Value.run m' g')⟩
  obtain ⟨e0, e1, e2, e3, e4⟩ := hagree c
  obtain ⟨h0, h1, kept⟩ := h c
  have r0 := h0.trans (val_main_v116_eq m' c)
  have r1 := h1.trans (val_main_v120_eq m' c)
  rw [e0, e1, e2, e3, e4] at r0
  rw [e0, e1, e2, e4] at r1
  exact ⟨r0.trans (outs hpre c).1.symm, r1.trans (outs hpre c).2.symm, kept⟩

end Cert.AttendClaim

end
-- ==== Proof.MixIn.Kernel.lean ====
module

public import proofs.«01_k».proof.Proof.Gen.MixInIdeal.Value
public import proofs.«01_k».proof.Proof.Mixer.Spec

@[expose] public section

set_option maxRecDepth 16384

noncomputable section

/-! The kernel's four results, entry by entry. -/

namespace Cert.MixInIdeal.Val

open Cert.MixInIdeal Cert.MixInIdeal.Gen Cert.MixerSpec Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev hA (c : Dev nD) : A := V m c main_v0
abbrev zA (c : Dev nD) : (⟨2, ![1024, 3072]⟩ : Shape).Idx → EReal := V m c main_v1
abbrev wA (c : Dev nD) : W3 := V m c main_arg2

/-- Where each window's block lies. -/
theorem idx : ∀ t : Fin cfg0.N, (grid0.coords t 0).val = t.val / 4 ∧ (grid0.coords t 1).val = t.val % 4
    ∧ win0_0.index t = ![t.val % 4, 0] ∧ win0_1.index t = ![32 * (t.val % 4) - 1, 0] ∧ win0_2.index t = ![0, t.val / 4]
    ∧ win0_3.index t = ![0, 2 + t.val / 4] ∧ win0_4.index t = ![0, 4 + t.val / 4] ∧ win0_5.index t = ![0, t.val / 4]
    ∧ win0_6.index t = ![t.val % 4, t.val / 4] ∧ win0_7.index t = ![t.val % 4, t.val / 4] ∧ win0_8.index t = ![t.val % 4, t.val / 4]
    ∧ win0_9.index t = ![t.val % 4, t.val / 4] :=
  (by decide +kernel : ∀ t : Fin grid0.N, _)

theorem lt8 (t : Fin cfg0.N) : t.val < 8 := lt_of_lt_of_eq t.isLt N_0

theorem sgt_word : ∀ n : Fin 4, Scalar.cmpi .sgt (BitVec.ofNat 32 n.val) 0#32 = BitVec.ofBool (decide (0 < n.val)) := by decide
theorem sge_word : ∀ n : Fin 528, IntOp.cmpi .sge (BitVec.ofNat 32 n.val) 16#32 = BitVec.ofBool (decide (16 ≤ n.val)) := by decide +kernel

/-- A factor may stand inside or outside a choice against zero. -/
theorem select_mul (b : BitVec 1) (x y : EReal) : Scalar.select b (x * y) 0 = Scalar.select b x 0 * y := by
  unfold Scalar.select
  split
  · rfl
  · rw [zero_mul]

/-- One third of the projection of the rows. -/
def z (c : Dev nD) (p : Fin 3) (t : Fin 2048) (d : Fin 1024) : EReal :=
  ∑ k : Fin 1024, hA m c (ix2 t k) * zA m c (ix2 k ⟨1024 * p.val + d.val, by omega⟩)

/-- It as an array. -/
def zz (c : Dev nD) (p : Fin 3) : A := fun i => z m c p (i 0) (i 1)

section Point

variable (c : Dev nD) (t : Fin cfg0.N) (d : Fin 512)

/-- The column a point's column stands for. -/
abbrev cl : Fin 1024 := ⟨512 * (t.val / 4) + d.val, by have := lt8 t; omega⟩

/-- The rows of the tile and the ones before it. -/
theorem pay3_eq (r : Fin 528) (k : Fin 1024) (h : 16 ≤ 512 * (t.val % 4) + r.val) :
    k0_pay3 (iblk m c 0 t) (iblk m c 1 t) (ix2 r k) = hA m c (ix2 ⟨512 * (t.val % 4) + r.val - 16, by omega⟩ k) := by
  pointwise [k0_pay3, k0_pay2]
  split <;> blk_ext [iblk, idx t]

theorem pay4_eq (r : Fin 528) (h : 16 ≤ 512 * (t.val % 4) + r.val) :
    k0_pay4 (iblk m c 0 t) (iblk m c 1 t) (iblk m c 3 t) (ix2 r d) = z m c 1 ⟨512 * (t.val % 4) + r.val - 16, by omega⟩ (cl t d) := by
  pointwise [k0_pay4, z]
  refine Finset.sum_congr rfl fun k _ => congrArg₂ (· * ·) (pay3_eq m c t r k h) ?_
  blk_ext [iblk, idx t]

theorem pay5_eq (r : Fin 528) (h : 16 ≤ 512 * (t.val % 4) + r.val) :
    k0_pay5 (iblk m c 0 t) (iblk m c 1 t) (iblk m c 4 t) (ix2 r d) = z m c 2 ⟨512 * (t.val % 4) + r.val - 16, by omega⟩ (cl t d) := by
  pointwise [k0_pay5, z]
  refine Finset.sum_congr rfl fun k _ => congrArg₂ (· * ·) (pay3_eq m c t r k h) ?_
  blk_ext [iblk, idx t]

theorem pay6_eq (r : Fin 512) :
    k0_pay6 (iblk m c 0 t) (iblk m c 2 t) (ix2 r d) = z m c 0 ⟨512 * (t.val % 4) + r.val, by omega⟩ (cl t d) := by
  pointwise [k0_pay6, k0_pay2, z]
  refine Finset.sum_congr rfl fun k _ => congrArg₂ (· * ·) ?_ ?_ <;> blk_ext [iblk, idx t]

theorem pay7_eq (r : Fin 512) :
    k0_pay7 (iblk m c 0 t) (iblk m c 1 t) (iblk m c 3 t) (ix2 r d) = z m c 1 ⟨512 * (t.val % 4) + r.val, by omega⟩ (cl t d) := by
  pointwise [k0_pay7]
  refine (pay4_eq m c t d ⟨16 + r.val, by omega⟩ (by dsimp only; omega)).trans (congrArg (z m c 1 · _) (Fin.ext (by dsimp only; omega)))

theorem pay8_eq (r : Fin 512) :
    k0_pay8 (iblk m c 0 t) (iblk m c 1 t) (iblk m c 4 t) (ix2 r d) = z m c 2 ⟨512 * (t.val % 4) + r.val, by omega⟩ (cl t d) := by
  pointwise [k0_pay8]
  refine (pay5_eq m c t d ⟨16 + r.val, by omega⟩ (by dsimp only; omega)).trans (congrArg (z m c 2 · _) (Fin.ext (by dsimp only; omega)))

/-- The gated input, zero before the first row. -/
theorem gated_eq (r : Fin 528) :
    Scalar.select (k0_pay10 (grid0.coords t) (ix2 r d)) (k0_pay9 (iblk m c 0 t) (iblk m c 1 t) (iblk m c 3 t) (iblk m c 4 t) (ix2 r d)) 0
      = back (cu (zz m c 1) (zz m c 2) (cl t d)) 16 (512 * (t.val % 4) + r.val) := by
  pointwise [k0_pay10, k0_pay9]
  rw [(idx t).2.1, sgt_word ⟨t.val % 4, by omega⟩]
  have hw : IntOp.cmpi .sge (BitVec.ofNat 32 r.val) 16#32 = BitVec.ofBool (decide (16 ≤ r.val)) := sge_word r
  rw [hw]
  have hor : IntOp.ori (BitVec.ofBool (decide (0 < t.val % 4))) (BitVec.ofBool (decide (16 ≤ r.val))) = BitVec.ofBool (decide (16 ≤ 512 * (t.val % 4) + r.val)) := by
    rw [show decide (16 ≤ 512 * (t.val % 4) + r.val) = (decide (0 < t.val % 4) || decide (16 ≤ r.val)) by rw [← Bool.decide_or]; exact decide_eq_decide.2 (by omega)]
    cases decide (0 < t.val % 4) <;> cases decide (16 ≤ r.val) <;> rfl
  rw [hor, Scalar.select_ofBool]
  by_cases h : 16 ≤ 512 * (t.val % 4) + r.val
  · rw [if_pos (decide_eq_true h), back_ge _ h (by omega), pay4_eq m c t d r h, pay5_eq m c t d r h]
    rfl
  · rw [if_neg (by simpa using h), back_lt _ (by omega)]

theorem w_eq (k : Fin 3) : iblk m c 5 t (ix2 k d) = wA m c (ix2 k (cl t d)) := by
  blk_ext [iblk, idx t]

/-- What a point stores last. -/
theorem pay1_eq (r : Fin 512) :
    k0_pay1 (k0_pay6 (iblk m c 0 t) (iblk m c 2 t)) (k0_pay9 (iblk m c 0 t) (iblk m c 1 t) (iblk m c 3 t) (iblk m c 4 t))
      (Scalar.ofBits .f32 0x00000000#32) (k0_pay10 (grid0.coords t)) (iblk m c 5 t) (ix2 r d)
    = z m c 0 ⟨512 * (t.val % 4) + r.val, by omega⟩ (cl t d) * conv (zz m c 1) (zz m c 2) (wA m c) ⟨512 * (t.val % 4) + r.val, by omega⟩ (cl t d) := by
  have g (o : ℕ) (ho : o ≤ 2) : _ = _ := (gated_eq m c t d ⟨(16 + r.val + 528 - o) % 528, by omega⟩).trans
    (back_add (o' := o) (n' := 512 * (t.val % 4) + r.val) _ (by dsimp only; omega))
  pointwise [k0_pay1]
  rw [pay6_eq, w_eq, w_eq, w_eq]
  simp only [select_mul]
  refine congrArg₂ (· * ·) rfl (congrArg₂ (· + ·) (congrArg₂ (· + ·) (congrArg (· * _) ?_) (congrArg (· * _) ?_)) (congrArg (· * _) ?_))
  · exact g 2 (by omega)
  · exact g 1 (by omega)
  · refine (gated_eq m c t d ⟨16 + r.val, by omega⟩).trans (back_add _ (by dsimp only; omega))

end Point

section Final

variable (c : Dev nD) (t : Fin 2048) (d : Fin 1024)

/-- The three gates. -/
theorem final6 : (dats m 0 c).arrAt 6 cfg0.N (ix2 t d) = z m c 0 t d := by
  refine congrFun ((dats m 0 c).arrAt_eq_of_covers 6 (zz m c 0) (by decide +kernel) fun t hf y => ?_) (ix2 t d)
  idx_vars y
  have ht := lt8 t
  blk_simp
  rw [after0_6, show (win0_6.blk t).view.emb (ix2 y0 y1) = ix2 ⟨512 * (t.val % 4) + y0.val, by omega⟩ (cl t y1) by blk_ext [idx t]]
  frame_out
  exact pay6_eq m c t y1 y0

theorem final7 : (dats m 0 c).arrAt 7 cfg0.N (ix2 t d) = z m c 1 t d := by
  refine congrFun ((dats m 0 c).arrAt_eq_of_covers 7 (zz m c 1) (by decide +kernel) fun t hf y => ?_) (ix2 t d)
  idx_vars y
  have ht := lt8 t
  blk_simp
  rw [after0_7, show (win0_7.blk t).view.emb (ix2 y0 y1) = ix2 ⟨512 * (t.val % 4) + y0.val, by omega⟩ (cl t y1) by blk_ext [idx t]]
  frame_out
  exact pay7_eq m c t y1 y0

theorem final8 : (dats m 0 c).arrAt 8 cfg0.N (ix2 t d) = z m c 2 t d := by
  refine congrFun ((dats m 0 c).arrAt_eq_of_covers 8 (zz m c 2) (by decide +kernel) fun t hf y => ?_) (ix2 t d)
  idx_vars y
  have ht := lt8 t
  blk_simp
  rw [after0_8, show (win0_8.blk t).view.emb (ix2 y0 y1) = ix2 ⟨512 * (t.val % 4) + y0.val, by omega⟩ (cl t y1) by blk_ext [idx t]]
  frame_out
  exact pay8_eq m c t y1 y0

/-- The gated convolution. -/
theorem final9 : (dats m 0 c).arrAt 9 cfg0.N (ix2 t d) = z m c 0 t d * conv (zz m c 1) (zz m c 2) (wA m c) t d := by
  refine congrFun ((dats m 0 c).arrAt_eq_of_covers 9 (fun i => z m c 0 (i 0) (i 1) * conv (zz m c 1) (zz m c 2) (wA m c) (i 0) (i 1)) (by decide +kernel) fun t hf y => ?_) (ix2 t d)
  idx_vars y
  have ht := lt8 t
  blk_simp
  rw [after0_9, show (win0_9.blk t).view.emb (ix2 y0 y1) = ix2 ⟨512 * (t.val % 4) + y0.val, by omega⟩ (cl t y1) by blk_ext [idx t]]
  frame_out
  exact pay1_eq m c t y1 y0

end Final

end Cert.MixInIdeal.Val

end
-- ==== Proof.MixIn.Ref.lean ====
module

public import proofs.«01_k».proof.Proof.Gen.MixInRefIdeal.Read
public import proofs.«01_k».proof.Proof.Mixer.Spec

@[expose] public section

set_option maxRecDepth 16384

noncomputable section

/-! The reference's four results, entry by entry. -/

namespace Cert.MixInRefIdeal.Val

open Cert.MixInRefIdeal Cert.MixInRefIdeal.Read Cert.MixerSpec Idealize.ShloMosaic Idealize.ShloMosaic.TcCoe Idealize.SL.Sem

variable (x0 : FVec Ideal S2048x1024 .f32) (x1 : FVec Ideal S1024x3072 .f32) (x2 : FVec Ideal S3x1024 .f32) (t : Fin 2048) (d : Fin 1024)

/-- The three gates. -/
abbrev b : A := val_main_v1 (F := Ideal) x0 x1
abbrev g : A := val_main_v2 (F := Ideal) x0 x1
abbrev u : A := val_main_v3 (F := Ideal) x0 x1

/-- The gates as they are handed on. -/
theorem v28_eq : val_main_v28 (F := Ideal) x0 x1 (ix2 t d) = b x0 x1 (ix2 t d) := by
  pointwise [val_main_v28]

theorem v29_eq : val_main_v29 (F := Ideal) x0 x1 (ix2 t d) = g x0 x1 (ix2 t d) := by
  pointwise [val_main_v29]

theorem v30_eq : val_main_v30 (F := Ideal) x0 x1 (ix2 t d) = u x0 x1 (ix2 t d) := by
  pointwise [val_main_v30]

/-- The gated input under two rows of zeros. -/
theorem v6_eq (n : Fin 2050) : val_main_v6 (F := Ideal) x0 x1 (ix2 n d) = back (cu (g x0 x1) (u x0 x1) d) 2 n := by
  pointwise [val_main_v6, val_main_v5, val_main_cst, val_main_v4]
  split
  · rw [back_lt _ (by omega)]
  · rw [back_ge _ (by omega) (by omega)]; rfl

/-- The gated convolution. -/
theorem v31_eq : val_main_v31 (F := Ideal) x0 x1 x2 (ix2 t d) = b x0 x1 (ix2 t d) * conv (g x0 x1) (u x0 x1) x2 t d := by
  have s (o : ℕ) (ho : o ≤ 2) : _ = _ := (v6_eq x0 x1 d ⟨o + t.val, by omega⟩).trans (back_add (o' := 2 - o) (n' := t.val) _ (by dsimp only; omega))
  pointwise [val_main_v31, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8, val_main_v7]
  refine congrArg₂ (· * ·) rfl (congrArg₂ (· + ·) (congrArg₂ (· + ·) (congrArg (· * _) ?_) (congrArg (· * _) (s 1 (by omega)))) (congrArg (· * _) (s 2 (by omega))))
  exact v6_eq x0 x1 d ⟨t.val, by omega⟩

end Cert.MixInRefIdeal.Val

end
-- ==== Proof.MixIn.Claim.lean ====
module

public import proofs.«01_k».proof.Defs
public import proofs.«01_k».proof.Proof.Norm.Spec
public import proofs.«01_k».proof.Proof.Reals
public import proofs.«01_k».proof.Proof.MixIn.Kernel
public import proofs.«01_k».proof.Proof.MixIn.Ref

@[expose] public section

set_option maxRecDepth 16384

noncomputable section

/-! The mixer's input projection and gated convolution: kernel and reference end with the same arrays. -/

namespace Cert.MixInClaim

open Idealize.ShloMosaic Idealize.ShloMosaic.TcCoe Idealize.SL.Sem
open Cert.Reals Cert.MixInIdeal Cert.MixInIdeal.Gen Cert.MixInRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x3072 .f32 := m ((c : Thread nD τ).loc main_arg1)
abbrev a2 : FVec Ideal S3x1024 .f32 := m ((c : Thread nD τ).loc main_arg2)

/-- What the host hands the launch: the arguments as they are. -/
theorem hA_eq : Val.hA m c = a0 m c := by
  unfold Val.hA
  entry_read
  rfl

theorem zA_eq : Val.zA m c = a1 m c := by
  unfold Val.zA
  entry_read
  rfl

/-- The three gates, of the arguments. -/
theorem z0_eq : Val.zz m c 0 = Cert.MixInRefIdeal.Val.b (a0 m c) (a1 m c) := by
  funext i
  idx_vars i
  change Val.z m c 0 i0 i1 = _
  rw [Val.z, hA_eq, zA_eq]
  pointwise [val_main_v1, val_main_v0]

theorem z1_eq : Val.zz m c 1 = Cert.MixInRefIdeal.Val.g (a0 m c) (a1 m c) := by
  funext i
  idx_vars i
  change Val.z m c 1 i0 i1 = _
  rw [Val.z, hA_eq, zA_eq]
  pointwise [val_main_v2, val_main_v0]

theorem z2_eq : Val.zz m c 2 = Cert.MixInRefIdeal.Val.u (a0 m c) (a1 m c) := by
  funext i
  idx_vars i
  change Val.z m c 2 i0 i1 = _
  rw [Val.z, hA_eq, zA_eq]
  pointwise [val_main_v3, val_main_v0]

theorem wA_eq : Val.wA m c = a2 m c := by
  unfold Val.wA
  entry_read
  rfl

theorem out0 : (dats m 0 c).arrAt 6 cfg0.N = val_main_v28 (F := Ideal) (a0 m c) (a1 m c) := by
  funext i
  idx_vars i
  rw [Val.final6]
  exact (congrFun (z0_eq m c) (ix2 i0 i1)).trans (Cert.MixInRefIdeal.Val.v28_eq ..).symm

theorem out1 : (dats m 0 c).arrAt 7 cfg0.N = val_main_v29 (F := Ideal) (a0 m c) (a1 m c) := by
  funext i
  idx_vars i
  rw [Val.final7]
  exact (congrFun (z1_eq m c) (ix2 i0 i1)).trans (Cert.MixInRefIdeal.Val.v29_eq ..).symm

theorem out2 : (dats m 0 c).arrAt 8 cfg0.N = val_main_v30 (F := Ideal) (a0 m c) (a1 m c) := by
  funext i
  idx_vars i
  rw [Val.final8]
  exact (congrFun (z2_eq m c) (ix2 i0 i1)).trans (Cert.MixInRefIdeal.Val.v30_eq ..).symm

theorem out3 : (dats m 0 c).arrAt 9 cfg0.N = val_main_v31 (F := Ideal) (a0 m c) (a1 m c) (a2 m c) := by
  funext i
  idx_vars i
  rw [Val.final9, z1_eq, z2_eq, wA_eq]
  exact (congrArg (· * _) (congrFun (z0_eq m c) (ix2 i0 i1))).trans (Cert.MixInRefIdeal.Val.v31_eq ..).symm

/-- The reference's run, its results as the stages of its arguments. -/
theorem reference (m' : (ℓ : Loc Cert.MixInRefIdeal.nD Cert.MixInRefIdeal.τ Cert.MixInRefIdeal.sig) → Buf (Elt Ideal) ℓ) (g' : Dev Cert.MixInRefIdeal.nD → PrngReg) :
    θ_run (Cert.MixInRefIdeal.defs (F := Ideal)) (onTc (τ := Cert.MixInRefIdeal.τ) (Cert.MixInRefIdeal.main (F := Ideal))) ⟨m', fun _ => 0, g'⟩ fun r => ∀ c : Dev Cert.MixInRefIdeal.nD,
      let a (b : Ref Cert.MixInRefIdeal.sig .tc) := m' ((c.tc : Thread Cert.MixInRefIdeal.nD Cert.MixInRefIdeal.τ).loc b)
      let o (b : Ref Cert.MixInRefIdeal.sig .tc) := r.2.mem ((c.tc : Thread Cert.MixInRefIdeal.nD Cert.MixInRefIdeal.τ).loc b)
      (o Cert.MixInRefIdeal.main_v28 = val_main_v28 (F := Ideal) (a Cert.MixInRefIdeal.main_arg0) (a Cert.MixInRefIdeal.main_arg1)
      ∧ o Cert.MixInRefIdeal.main_v29 = val_main_v29 (F := Ideal) (a Cert.MixInRefIdeal.main_arg0) (a Cert.MixInRefIdeal.main_arg1)
      ∧ o Cert.MixInRefIdeal.main_v30 = val_main_v30 (F := Ideal) (a Cert.MixInRefIdeal.main_arg0) (a Cert.MixInRefIdeal.main_arg1)
      ∧ o Cert.MixInRefIdeal.main_v31 = val_main_v31 (F := Ideal) (a Cert.MixInRefIdeal.main_arg0) (a Cert.MixInRefIdeal.main_arg1) (a Cert.MixInRefIdeal.main_arg2))
      ∧ o Cert.MixInRefIdeal.main_arg0 = a Cert.MixInRefIdeal.main_arg0 ∧ o Cert.MixInRefIdeal.main_arg1 = a Cert.MixInRefIdeal.main_arg1 ∧ o Cert.MixInRefIdeal.main_arg2 = a Cert.MixInRefIdeal.main_arg2 :=
  (θ_run Cert.MixInRefIdeal.defs _ _).mono (fun r h c => ⟨⟨(h c).1.trans (val_main_v28_eq _ _),
    (h c).2.1.trans (val_main_v29_eq _ _),
    (h c).2.2.1.trans (val_main_v30_eq _ _),
    (h c).2.2.2.1.trans (val_main_v31_eq _ _ _)⟩, (h c).2.2.2.2⟩) (Cert.MixInRefIdeal.Value.run m' g')

/-- Kernel and reference agree at the extended reals. -/
theorem algebraic : Cert.algebraic_MixInIdeal_MixInRefIdeal := by
  intro m g m' g' _ hagree
  refine ⟨_, _, _, _, Cert.MixInIdeal.Value.run_blocks m g, (θ_run Cert.MixInRefIdeal.defs _ _).mono (fun r h c => ?_) (reference m' g')⟩
  obtain ⟨e0, e1, e2⟩ := hagree c
  obtain ⟨⟨h0, h1, h2, h3⟩, kept⟩ := h c
  dsimp only at h0 h1 h2 h3
  rw [e0, e1] at h0
  rw [e0, e1] at h1
  rw [e0, e1] at h2
  rw [e0, e1, e2] at h3
  exact ⟨h0.trans (out0 m c).symm, h1.trans (out1 m c).symm, h2.trans (out2 m c).symm, h3.trans (out3 m c).symm, kept⟩

end Cert.MixInClaim

end
-- ==== Proof.UpAct.Kernel.lean ====
module

public import proofs.«01_k».proof.Proof.Gen.UpActIdeal.Value
public import proofs.«01_k».proof.Proof.Dact.Spec

@[expose] public section

set_option maxRecDepth 16384

noncomputable section

/-! The kernel's three results, entry by entry. -/

namespace Cert.UpActIdeal.Val

open Cert.UpActIdeal Cert.UpActIdeal.Gen Cert.MixerSpec Cert.DactSpec Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev hA (c : Dev nD) : A := V m c main_v0
abbrev uA (c : Dev nD) : (⟨4, ![1, 8, 704, 1024]⟩ : Shape).Idx → EReal := V m c main_v3
abbrev wA (c : Dev nD) : WC := V m c main_v5
abbrev bA (c : Dev nD) : BC := V m c main_v6

/-- Where each window's block lies. -/
theorem idx : ∀ t : Fin cfg0.N, (grid0.coords t 0).val = t.val / 2 ∧ (grid0.coords t 1).val = t.val % 2
    ∧ win0_0.index t = ![t.val % 2, 0] ∧ win0_1.index t = ![64 * (t.val % 2) - 1, 0] ∧ win0_2.index t = ![0, t.val / 2, 0, 0]
    ∧ win0_3.index t = ![0, t.val / 2 + 4, 0, 0] ∧ win0_4.index t = ![t.val / 2, 0, 0] ∧ win0_5.index t = ![t.val / 2, 0, 0]
    ∧ win0_6.index t = ![t.val / 2, t.val % 2, 0] ∧ win0_7.index t = ![t.val / 2, t.val % 2, 0] ∧ win0_8.index t = ![t.val / 2, t.val % 2, 0] :=
  (by decide +kernel : ∀ t : Fin grid0.N, _)

theorem lt8 (t : Fin cfg0.N) : t.val < 8 := lt_of_lt_of_eq t.isLt N_0

theorem sgt_word : ∀ n : Fin 2, Scalar.cmpi .sgt (BitVec.ofNat 32 n.val) 0#32 = BitVec.ofBool (decide (0 < n.val)) := by decide
theorem sge_word : ∀ n : Fin 1040, IntOp.cmpi .sge (BitVec.ofNat 32 n.val) 16#32 = BitVec.ofBool (decide (16 ≤ n.val)) := by decide +kernel

/-- A block of columns of the projection of the rows. -/
def z (c : Dev nD) (p : Fin 2) (j : Fin 4) (t : Fin 2048) (d : Fin 704) : EReal :=
  ∑ k : Fin 1024, hA m c (ix2 t k) * uA m c (ix4 0 ⟨j.val + 4 * p.val, by omega⟩ d k)

/-- The two halves. -/
def gz (c : Dev nD) : G := fun i => z m c 0 (i 0) (i 1) (i 2)
def vz (c : Dev nD) : G := fun i => z m c 1 (i 0) (i 1) (i 2)

/-- The gated half. -/
def act (c : Dev nD) (j : Fin 4) (t : Fin 2048) (d : Fin 704) : EReal :=
  (gc (gz m c) (wA m c) (bA m c) j d t * sg (gc (gz m c) (wA m c) (bA m c) j d t)) * vz m c (ix3 j t d)

section Point

variable (c : Dev nD) (t : Fin cfg0.N) (d : Fin 704)

/-- The block of columns a point works at. -/
abbrev jb : Fin 4 := ⟨t.val / 2, by have := lt8 t; omega⟩

theorem pay3_eq (r : Fin 1040) (h : 16 ≤ 1024 * (t.val % 2) + r.val) :
    k0_pay3 (iblk m c 0 t) (iblk m c 1 t) (iblk m c 2 t) (ix2 r d) = col (gz m c) (jb t) d ⟨1024 * (t.val % 2) + r.val - 16, by omega⟩ := by
  have ht := lt8 t
  pointwise [k0_pay3, k0_pay2, col, gz, z]
  refine Finset.sum_congr rfl fun k _ => congrArg₂ (· * ·) ?_ ?_
  · split <;> blk_ext [iblk, idx t]
  · blk_ext [iblk, idx t]

theorem pay4_eq (r : Fin 1024) :
    k0_pay4 (iblk m c 0 t) (iblk m c 3 t) (ix2 r d) = vz m c (ix3 (jb t) ⟨1024 * (t.val % 2) + r.val, by omega⟩ d) := by
  have ht := lt8 t
  pointwise [k0_pay4, k0_pay2, vz, z]
  refine Finset.sum_congr rfl fun k _ => congrArg₂ (· * ·) ?_ ?_ <;> blk_ext [iblk, idx t]

theorem pay5_eq (r : Fin 1024) :
    k0_pay5 (iblk m c 0 t) (iblk m c 1 t) (iblk m c 2 t) (ix3 0 r d) = gz m c (ix3 (jb t) ⟨1024 * (t.val % 2) + r.val, by omega⟩ d) := by
  pointwise [k0_pay5]
  exact (pay3_eq m c t d ⟨16 + r.val, by omega⟩ (by dsimp only; omega)).trans (congrArg (col (gz m c) (jb t) d) (Fin.ext (by dsimp only; omega)))

theorem pay6_eq (r : Fin 1024) :
    k0_pay6 (iblk m c 0 t) (iblk m c 3 t) (ix3 0 r d) = vz m c (ix3 (jb t) ⟨1024 * (t.val % 2) + r.val, by omega⟩ d) := by
  pointwise [k0_pay6]
  exact pay4_eq m c t d r

/-- The convolved half, zero before the first row. -/
theorem pay7_eq (r : Fin 1040) :
    k0_pay7 (grid0.coords t) (iblk m c 0 t) (iblk m c 1 t) (iblk m c 2 t) (ix2 r d) = back (col (gz m c) (jb t) d) 16 (1024 * (t.val % 2) + r.val) := by
  pointwise [k0_pay7]
  rw [(idx t).2.1, sgt_word ⟨t.val % 2, by omega⟩]
  have hw : IntOp.cmpi .sge (BitVec.ofNat 32 r.val) 16#32 = BitVec.ofBool (decide (16 ≤ r.val)) := sge_word r
  rw [hw]
  have hor : IntOp.ori (BitVec.ofBool (decide (0 < t.val % 2))) (BitVec.ofBool (decide (16 ≤ r.val))) = BitVec.ofBool (decide (16 ≤ 1024 * (t.val % 2) + r.val)) := by
    rw [show decide (16 ≤ 1024 * (t.val % 2) + r.val) = (decide (0 < t.val % 2) || decide (16 ≤ r.val)) by rw [← Bool.decide_or]; exact decide_eq_decide.2 (by omega)]
    cases decide (0 < t.val % 2) <;> cases decide (16 ≤ r.val) <;> rfl
  rw [hor, Scalar.select_ofBool]
  by_cases h : 16 ≤ 1024 * (t.val % 2) + r.val
  · rw [if_pos (decide_eq_true h), back_ge _ h (by omega)]
    exact pay3_eq m c t d r h
  · rw [if_neg (by simpa using h), back_lt _ (by omega)]

/-- The convolution with its offset at a row of the tile. -/
abbrev taps (r : Fin 1024) : EReal :=
  k0_pay8 (grid0.coords t) (iblk m c 0 t) (iblk m c 1 t) (iblk m c 2 t) (ix2 ⟨16 + r.val, by omega⟩ d) * iblk m c 4 t (ix3 0 0 d)
    + k0_pay7 (grid0.coords t) (iblk m c 0 t) (iblk m c 1 t) (iblk m c 2 t) (ix2 ⟨(16 + r.val + 1040 - 1) % 1040, by omega⟩ d) * iblk m c 4 t (ix3 0 1 d)
    + k0_pay7 (grid0.coords t) (iblk m c 0 t) (iblk m c 1 t) (iblk m c 2 t) (ix2 ⟨16 + r.val, by omega⟩ d) * iblk m c 4 t (ix3 0 2 d)
    + iblk m c 5 t (ix3 0 0 d)

theorem taps_eq (r : Fin 1024) : taps m c t d r = gc (gz m c) (wA m c) (bA m c) (jb t) d (1024 * (t.val % 2) + r.val) := by
  have w (k : Fin 3) : iblk m c 4 t (ix3 0 k d) = wA m c (ix3 (jb t) k d) := by blk_ext [iblk, idx t]
  have b : iblk m c 5 t (ix3 0 0 d) = bA m c (ix3 (jb t) 0 d) := by blk_ext [iblk, idx t]
  unfold taps
  rw [w, w, w, b]
  have s (r' : Fin 1040) (o : ℕ) (h : o + (1024 * (t.val % 2) + r'.val) = 16 + (1024 * (t.val % 2) + r.val)) :
      k0_pay7 (grid0.coords t) (iblk m c 0 t) (iblk m c 1 t) (iblk m c 2 t) (ix2 r' d) = back (col (gz m c) (jb t) d) o (1024 * (t.val % 2) + r.val) :=
    (pay7_eq m c t d r').trans (back_add _ (by omega))
  pointwise [k0_pay8]
  rw [s _ 2 (by dsimp only; omega), s _ 1 (by dsimp only; omega), s _ 0 (by dsimp only; omega)]
  rfl

/-- What a point stores last. -/
theorem pay1_eq (r : Fin 1024) :
    k0_pay1 (k0_pay4 (iblk m c 0 t) (iblk m c 3 t)) (k0_pay7 (grid0.coords t) (iblk m c 0 t) (iblk m c 1 t) (iblk m c 2 t))
      (k0_pay8 (grid0.coords t) (iblk m c 0 t) (iblk m c 1 t) (iblk m c 2 t)) (iblk m c 4 t) (iblk m c 5 t) (ix3 0 r d)
    = act m c (jb t) ⟨1024 * (t.val % 2) + r.val, by omega⟩ d := by
  rw [act, ← taps_eq, ← pay4_eq]
  pointwise [k0_pay1]
  rfl

end Point

section Final

variable (c : Dev nD) (j : Fin 4) (t : Fin 2048) (d : Fin 704)

/-- The two halves of the projection. -/
theorem final6 : (dats m 0 c).arrAt 6 cfg0.N (ix3 j t d) = gz m c (ix3 j t d) := by
  refine congrFun ((dats m 0 c).arrAt_eq_of_covers 6 (gz m c) (by decide +kernel) fun t hf y => ?_) (ix3 j t d)
  idx_vars y
  obtain rfl : y0 = 0 := Subsingleton.elim _ _
  have ht := lt8 t
  blk_simp
  rw [after0_6, show (win0_6.blk t).view.emb (ix3 0 y1 y2) = ix3 (jb t) ⟨1024 * (t.val % 2) + y1.val, by omega⟩ y2 by blk_ext [idx t]]
  frame_out
  exact pay5_eq m c t y2 y1

theorem final7 : (dats m 0 c).arrAt 7 cfg0.N (ix3 j t d) = vz m c (ix3 j t d) := by
  refine congrFun ((dats m 0 c).arrAt_eq_of_covers 7 (vz m c) (by decide +kernel) fun t hf y => ?_) (ix3 j t d)
  idx_vars y
  obtain rfl : y0 = 0 := Subsingleton.elim _ _
  have ht := lt8 t
  blk_simp
  rw [after0_7, show (win0_7.blk t).view.emb (ix3 0 y1 y2) = ix3 (jb t) ⟨1024 * (t.val % 2) + y1.val, by omega⟩ y2 by blk_ext [idx t]]
  frame_out
  exact pay6_eq m c t y2 y1

/-- The gated half. -/
theorem final8 : (dats m 0 c).arrAt 8 cfg0.N (ix3 j t d) = act m c j t d := by
  refine congrFun ((dats m 0 c).arrAt_eq_of_covers 8 (fun i => act m c (i 0) (i 1) (i 2)) (by decide +kernel) fun t hf y => ?_) (ix3 j t d)
  idx_vars y
  obtain rfl : y0 = 0 := Subsingleton.elim _ _
  have ht := lt8 t
  blk_simp
  rw [after0_8, show (win0_8.blk t).view.emb (ix3 0 y1 y2) = ix3 (jb t) ⟨1024 * (t.val % 2) + y1.val, by omega⟩ y2 by blk_ext [idx t]]
  frame_out
  exact pay1_eq m c t y2 y1

end Final

end Cert.UpActIdeal.Val

end
-- ==== Proof.UpAct.Ref.lean ====
module

public import proofs.«01_k».proof.Proof.Gen.UpActRefIdeal.Read
public import proofs.«01_k».proof.Proof.Dact.Logistic

@[expose] public section

set_option maxRecDepth 16384

noncomputable section

/-! The reference's three results, entry by entry. -/

namespace Cert.UpActRefIdeal.Val

open Cert.UpActRefIdeal Cert.UpActRefIdeal.Read Cert.MixerSpec Cert.DactSpec Idealize.ShloMosaic Idealize.ShloMosaic.TcCoe Idealize.SL.Sem

/-- A channel: the block it lies in and its place there. -/
abbrev ch (j : Fin 4) (d : Fin 704) : Fin 2816 := ⟨j.val * 704 + d.val, by omega⟩

variable (x0 : FVec Ideal S2048x1024 .f32) (x1 : FVec Ideal S1024x5632 .f32) (x2 : FVec Ideal S3x2816 .f32) (x3 : FVec Ideal S2816 .f32)

/-- The two halves of the projection, the taps and the offsets in blocks of channels. -/
def g : G := fun i => val_main_v1 (F := Ideal) x0 x1 (ix2 (i 1) (ch (i 0) (i 2)))
def v : G := fun i => val_main_v2 (F := Ideal) x0 x1 (ix2 (i 1) (ch (i 0) (i 2)))
def w : WC := fun i => x2 (ix2 (i 1) (ch (i 0) (i 2)))
def b : BC := fun i => x3 (ix1 (ch (i 0) (i 2)))

variable (j : Fin 4) (t : Fin 2048) (d : Fin 704)

theorem v32_eq : val_main_v32 (F := Ideal) x0 x1 (ix3 j t d) = g x0 x1 (ix3 j t d) := by
  pointwise [val_main_v32, val_main_v31, val_main_v30, g]

theorem v35_eq : val_main_v35 (F := Ideal) x0 x1 (ix3 j t d) = v x0 x1 (ix3 j t d) := by
  pointwise [val_main_v35, val_main_v34, val_main_v33, v]

/-- The convolved half under two rows of zeros. -/
theorem v4_eq (n : Fin 2050) : val_main_v4 (F := Ideal) x0 x1 (ix2 n (ch j d)) = back (col (g x0 x1) j d) 2 n := by
  pointwise [val_main_v4, val_main_v3, val_main_cst]
  split
  · rw [back_lt _ (by omega)]
  · rw [back_ge _ (by omega) (by omega)]; rfl

/-- The convolution with its offset. -/
theorem v27_eq : val_main_v27 (F := Ideal) x0 x1 x2 x3 (ix2 t (ch j d)) = gc (g x0 x1) (w x2) (b x3) j d t := by
  have s (o : ℕ) (ho : o ≤ 2) : _ = _ := (v4_eq x0 x1 j d ⟨o + t.val, by omega⟩).trans (back_add (o' := 2 - o) (n' := t.val) _ (by dsimp only; omega))
  pointwise [val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8, val_main_v7,
    val_main_v6, val_main_v5]
  exact congrArg (· + _) (congrArg₂ (· + ·) (congrArg₂ (· + ·) (congrArg (· * _) (v4_eq x0 x1 j d ⟨t.val, by omega⟩)) (congrArg (· * _) (s 1 (by omega))))
    (congrArg (· * _) (s 2 (by omega))))

/-- One over one plus the exponential of the opposite is the logistic function. -/
theorem call_eq : val_main_call0_v5 (F := Ideal) x0 x1 x2 x3 (ix2 t (ch j d)) = sg (gc (g x0 x1) (w x2) (b x3) j d t) := by
  rw [sg_eq, ← v27_eq]
  pointwise [val_main_call0_v5, val_main_call0_v4, val_main_call0_cst_0, val_main_call0_v3, val_main_call0_v2, val_main_call0_cst, val_main_call0_v1, val_main_call0_v0]
  rfl

/-- The gated half. -/
theorem v38_eq : val_main_v38 (F := Ideal) x0 x1 x2 x3 (ix3 j t d)
    = (gc (g x0 x1) (w x2) (b x3) j d t * sg (gc (g x0 x1) (w x2) (b x3) j d t)) * v x0 x1 (ix3 j t d) := by
  rw [← call_eq, ← v27_eq]
  pointwise [val_main_v38, val_main_v37, val_main_v36, val_main_v29, val_main_v28]
  rfl

end Cert.UpActRefIdeal.Val

end
-- ==== Proof.UpAct.Claim.lean ====
module

public import proofs.«01_k».proof.Defs
public import proofs.«01_k».proof.Proof.Norm.Spec
public import proofs.«01_k».proof.Proof.Reals
public import proofs.«01_k».proof.Proof.UpAct.Kernel
public import proofs.«01_k».proof.Proof.UpAct.Ref

@[expose] public section

set_option maxRecDepth 16384

noncomputable section

/-! The feed-forward block's projection, convolution and gate: kernel and reference end with the same arrays. -/

namespace Cert.UpActClaim

open Idealize.ShloMosaic Idealize.ShloMosaic.TcCoe Idealize.SL.Sem
open Cert.Reals Cert.UpActIdeal Cert.UpActIdeal.Gen Cert.UpActRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x5632 .f32 := m ((c : Thread nD τ).loc main_arg1)
abbrev a2 : FVec Ideal S3x2816 .f32 := m ((c : Thread nD τ).loc main_arg2)
abbrev a3 : FVec Ideal S2816 .f32 := m ((c : Thread nD τ).loc main_arg3)

/-- What the host hands the launch: the rows as they are; the weights, the taps and the offsets in blocks. -/
theorem hA_eq : Val.hA m c = a0 m c := by
  unfold Val.hA
  entry_read
  rfl

theorem uA_at (p : Fin 8) (d : Fin 704) (k : Fin 1024) : Val.uA m c (ix4 0 p d k) = a1 m c (ix2 k ⟨p.val * 704 + d.val, by omega⟩) := by
  unfold Val.uA
  entry_read
  pointwise []

theorem wA_eq : Val.wA m c = Cert.UpActRefIdeal.Val.w (a2 m c) := by
  unfold Val.wA
  entry_read
  funext i
  idx_vars i
  pointwise [Cert.UpActRefIdeal.Val.w]

theorem bA_eq : Val.bA m c = Cert.UpActRefIdeal.Val.b (a3 m c) := by
  unfold Val.bA
  entry_read
  funext i
  idx_vars i
  pointwise [Cert.UpActRefIdeal.Val.b]

/-- The two halves of the projection. -/
theorem gz_eq : Val.gz m c = Cert.UpActRefIdeal.Val.g (a0 m c) (a1 m c) := by
  funext i
  idx_vars i
  change Val.z m c 0 i0 i1 i2 = _
  rw [Val.z, hA_eq]
  pointwise [Cert.UpActRefIdeal.Val.g, val_main_v1, val_main_v0]
  refine Finset.sum_congr rfl fun k _ => congrArg₂ (· * ·) rfl ((uA_at m c _ i2 k).trans (congrArg (fun n => a1 m c (ix2 k n)) (Fin.ext ?_)))
  simp

theorem vz_eq : Val.vz m c = Cert.UpActRefIdeal.Val.v (a0 m c) (a1 m c) := by
  funext i
  idx_vars i
  change Val.z m c 1 i0 i1 i2 = _
  rw [Val.z, hA_eq]
  pointwise [Cert.UpActRefIdeal.Val.v, val_main_v2, val_main_v0]
  refine Finset.sum_congr rfl fun k _ => congrArg₂ (· * ·) rfl ((uA_at m c _ i2 k).trans (congrArg (fun n => a1 m c (ix2 k n)) (Fin.ext ?_)))
  dsimp only
  omega

theorem out0 : (dats m 0 c).arrAt 6 cfg0.N = val_main_v32 (F := Ideal) (a0 m c) (a1 m c) := by
  funext i
  idx_vars i
  rw [Val.final6, gz_eq]
  exact (Cert.UpActRefIdeal.Val.v32_eq ..).symm

theorem out1 : (dats m 0 c).arrAt 7 cfg0.N = val_main_v35 (F := Ideal) (a0 m c) (a1 m c) := by
  funext i
  idx_vars i
  rw [Val.final7, vz_eq]
  exact (Cert.UpActRefIdeal.Val.v35_eq ..).symm

theorem out2 : (dats m 0 c).arrAt 8 cfg0.N = val_main_v38 (F := Ideal) (a0 m c) (a1 m c) (a2 m c) (a3 m c) := by
  funext i
  idx_vars i
  rw [Val.final8, Val.act, gz_eq, vz_eq, wA_eq, bA_eq]
  exact (Cert.UpActRefIdeal.Val.v38_eq ..).symm

/-- The reference's run, its results as the stages of its arguments. -/
theorem reference (m' : (ℓ : Loc Cert.UpActRefIdeal.nD Cert.UpActRefIdeal.τ Cert.UpActRefIdeal.sig) → Buf (Elt Ideal) ℓ) (g' : Dev Cert.UpActRefIdeal.nD → PrngReg) :
    θ_run (Cert.UpActRefIdeal.defs (F := Ideal)) (onTc (τ := Cert.UpActRefIdeal.τ) (Cert.UpActRefIdeal.main (F := Ideal))) ⟨m', fun _ => 0, g'⟩ fun r => ∀ c : Dev Cert.UpActRefIdeal.nD,
      let a (b : Ref Cert.UpActRefIdeal.sig .tc) := m' ((c.tc : Thread Cert.UpActRefIdeal.nD Cert.UpActRefIdeal.τ).loc b)
      let o (b : Ref Cert.UpActRefIdeal.sig .tc) := r.2.mem ((c.tc : Thread Cert.UpActRefIdeal.nD Cert.UpActRefIdeal.τ).loc b)
      (o Cert.UpActRefIdeal.main_v32 = val_main_v32 (F := Ideal) (a Cert.UpActRefIdeal.main_arg0) (a Cert.UpActRefIdeal.main_arg1)
      ∧ o Cert.UpActRefIdeal.main_v35 = val_main_v35 (F := Ideal) (a Cert.UpActRefIdeal.main_arg0) (a Cert.UpActRefIdeal.main_arg1)
      ∧ o Cert.UpActRefIdeal.main_v38 = val_main_v38 (F := Ideal) (a Cert.UpActRefIdeal.main_arg0) (a Cert.UpActRefIdeal.main_arg1) (a Cert.UpActRefIdeal.main_arg2) (a Cert.UpActRefIdeal.main_arg3))
      ∧ o Cert.UpActRefIdeal.main_arg0 = a Cert.UpActRefIdeal.main_arg0 ∧ o Cert.UpActRefIdeal.main_arg1 = a Cert.UpActRefIdeal.main_arg1 ∧ o Cert.UpActRefIdeal.main_arg2 = a Cert.UpActRefIdeal.main_arg2 ∧ o Cert.UpActRefIdeal.main_arg3 = a Cert.UpActRefIdeal.main_arg3 :=
  (θ_run Cert.UpActRefIdeal.defs _ _).mono (fun r h c => ⟨⟨(h c).1.trans (val_main_v32_eq _ _),
    (h c).2.1.trans (val_main_v35_eq _ _),
    (h c).2.2.1.trans (val_main_v38_eq m' c)⟩, (h c).2.2.2⟩) (Cert.UpActRefIdeal.Value.run m' g')

/-- Kernel and reference agree at the extended reals. -/
theorem algebraic : Cert.algebraic_UpActIdeal_UpActRefIdeal := by
  intro m g m' g' _ hagree
  refine ⟨_, _, _, Cert.UpActIdeal.Value.run_blocks m g, (θ_run Cert.UpActRefIdeal.defs _ _).mono (fun r h c => ?_) (reference m' g')⟩
  obtain ⟨e0, e1, e2, e3⟩ := hagree c
  obtain ⟨⟨h0, h1, h2⟩, kept⟩ := h c
  dsimp only at h0 h1 h2
  rw [e0, e1] at h0
  rw [e0, e1] at h1
  rw [e0, e1, e2, e3] at h2
  exact ⟨h0.trans (out0 m c).symm, h1.trans (out1 m c).symm, h2.trans (out2 m c).symm, kept⟩

end Cert.UpActClaim

end
-- ==== Proof.Norm.Forward.lean ====
module

public import proofs.«01_k».proof.Proof.Norm.Spec

@[expose] public section

noncomputable section

/-! The norm of one row. -/

namespace Cert.Norm

open Idealize.ShloMosaic

/-- The entry `d` of a row divided by its root mean square, times the gain. -/
def normed (x g : Fin 1024 → EReal) (d : Fin 1024) : EReal := x d * inv x * g d

/-- The same for a row of another length, `n` standing for the length. -/
def scaled {k : ℕ} (n : EReal) (x g : Fin k → EReal) (d : Fin k) : EReal :=
  x d * Ideal.rsqrt (Ideal.div (∑ j, x j * x j) n + eps) * g d

end Cert.Norm

end
-- ==== Proof.ONorm.Kernel.lean ====
module

public import proofs.«01_k».proof.Proof.Gen.ONormIdeal.Value
public import proofs.«01_k».proof.Proof.Norm.Forward

@[expose] public section

set_option maxRecDepth 16384

noncomputable section

/-! The kernel's two results, entry by entry. -/

namespace Cert.ONormIdeal.Val

open Cert.ONormIdeal Cert.ONormIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev oA (c : Dev nD) : Norm.A := V m c main_v0
abbrev wA (c : Dev nD) : (⟨2, ![1024, 1024]⟩ : Shape).Idx → EReal := V m c main_v1
abbrev hA (c : Dev nD) : Norm.A := V m c main_arg0
abbrev gA (c : Dev nD) : Norm.R := V m c main_v2

/-- Where each window's block lies. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem lt4 (t : Fin cfg0.N) : t.val < 4 := lt_of_lt_of_eq t.isLt N_0

/-- The gain, and the new hidden state. -/
def gn (c : Dev nD) (k : Fin 1024) : EReal := gA m c (ix2 0 k)
def hid (c : Dev nD) (t : Fin 2048) (d : Fin 1024) : EReal := (∑ k : Fin 1024, oA m c (ix2 t k) * wA m c (ix2 k d)) + hA m c (ix2 t d)

/-- What a point stores. -/
theorem pay1_eq (c : Dev nD) (t : Fin cfg0.N) (r : Fin 512) (d : Fin 1024) (h : 512 * t.val + r.val < 2048) :
    k0_pay1 (iblk m c 0 t) (iblk m c 1 t) (iblk m c 2 t) (ix2 r d) = hid m c ⟨512 * t.val + r.val, h⟩ d := by
  pointwise [k0_pay1, hid]
  refine congrArg₂ (· + ·) (Finset.sum_congr rfl fun k _ => congrArg₂ (· * ·) ?_ ?_) ?_ <;> blk_ext [iblk, idx t]

theorem pay2_eq (c : Dev nD) (t : Fin cfg0.N) (r : Fin 512) (d : Fin 1024) (h : 512 * t.val + r.val < 2048) :
    k0_pay2 (iblk m c 0 t) (iblk m c 1 t) (iblk m c 2 t) (iblk m c 3 t) (ix2 r d) = normed (hid m c ⟨512 * t.val + r.val, h⟩) (gn m c) d := by
  pointwise [k0_pay2]
  simp only [pay1_eq m c t r _ h]
  refine congrArg₂ (· * ·) rfl ?_
  rw [gn]
  blk_ext [iblk, idx t]

/-- The new hidden state and its norm. -/
theorem final4 (c : Dev nD) (t : Fin 2048) (d : Fin 1024) : (dats m 0 c).arrAt 4 cfg0.N (ix2 t d) = hid m c t d := by
  refine congrFun ((dats m 0 c).arrAt_eq_of_covers 4 (fun i => hid m c (i 0) (i 1)) (by decide +kernel) fun t hf y => ?_) (ix2 t d)
  idx_vars y
  have ht := lt4 t
  blk_simp
  rw [after0_4, show (win0_4.blk t).view.emb (ix2 y0 y1) = ix2 ⟨512 * t.val + y0.val, by omega⟩ y1 by blk_ext [idx t]]
  frame_out
  exact pay1_eq m c t y0 y1 (by omega)

theorem final5 (c : Dev nD) (t : Fin 2048) (d : Fin 1024) : (dats m 0 c).arrAt 5 cfg0.N (ix2 t d) = normed (hid m c t) (gn m c) d := by
  refine congrFun ((dats m 0 c).arrAt_eq_of_covers 5 (fun i => normed (hid m c (i 0)) (gn m c) (i 1)) (by decide +kernel) fun t hf y => ?_) (ix2 t d)
  idx_vars y
  have ht := lt4 t
  blk_simp
  rw [after0_5, show (win0_5.blk t).view.emb (ix2 y0 y1) = ix2 ⟨512 * t.val + y0.val, by omega⟩ y1 by blk_ext [idx t]]
  frame_out
  exact pay2_eq m c t y0 y1 (by omega)

end Cert.ONormIdeal.Val

end
-- ==== Proof.ONorm.Ref.lean ====
module

public import proofs.«01_k».proof.Proof.Gen.ONormRefIdeal.Read
public import proofs.«01_k».proof.Proof.Norm.Forward

@[expose] public section

set_option maxRecDepth 16384

noncomputable section

/-! The reference's two results, entry by entry. -/

namespace Cert.ONormRefIdeal.Val

open Cert.ONormRefIdeal Cert.ONormRefIdeal.Read Cert.Norm Idealize.ShloMosaic Idealize.ShloMosaic.TcCoe Idealize.SL.Sem

variable (x0 x1 : FVec Ideal S2048x1024 .f32) (x2 : FVec Ideal S1024x1024 .f32) (x3 : FVec Ideal S1024 .f32) (t : Fin 2048) (d : Fin 1024)

/-- The new hidden state. -/
def hid (t : Fin 2048) (d : Fin 1024) : EReal := (∑ k : Fin 1024, x1 (ix2 t k) * x2 (ix2 k d)) + x0 (ix2 t d)

theorem v1_eq : val_main_v1 (F := Ideal) x0 x1 x2 (ix2 t d) = hid x0 x1 x2 t d := by
  pointwise [val_main_v1, val_main_v0]
  exact add_comm _ _

/-- The inverse root of a row's mean square. -/
theorem v9_eq : val_main_v9 (F := Ideal) x0 x1 x2 (ix2 t 0) = inv (hid x0 x1 x2 t) := by
  pointwise [val_main_v9, val_main_v8, val_main_v7, val_main_cst_1, val_main_v6, val_main_v5, val_main_cst_0, val_main_v4, val_main_v3, val_main_cst, val_main_v2]
  simp only [v1_eq]
  rfl

/-- The norm of every row. -/
theorem v15_eq : val_main_v15 (F := Ideal) x0 x1 x2 x3 (ix2 t d) = normed (hid x0 x1 x2 t) (fun k => x3 (ix1 k)) d := by
  pointwise [val_main_v15, val_main_v14, val_main_v13, val_main_v12, val_main_v11, val_main_v10]
  rw [v9_eq, v1_eq]
  rfl

end Cert.ONormRefIdeal.Val

end
-- ==== Proof.ONorm.Claim.lean ====
module

public import proofs.«01_k».proof.Defs
public import proofs.«01_k».proof.Proof.Norm.Spec
public import proofs.«01_k».proof.Proof.Reals
public import proofs.«01_k».proof.Proof.ONorm.Kernel
public import proofs.«01_k».proof.Proof.ONorm.Ref

@[expose] public section

set_option maxRecDepth 16384

noncomputable section

/-! The attention's output projection and the norm after it: kernel and reference end with the same arrays. -/

namespace Cert.ONormClaim

open Idealize.ShloMosaic Idealize.ShloMosaic.TcCoe Idealize.SL.Sem
open Cert.Reals Cert.ONormIdeal Cert.ONormIdeal.Gen Cert.ONormRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S2048x1024 .f32 := m ((c : Thread nD τ).loc main_arg1)
abbrev a2 : FVec Ideal S1024x1024 .f32 := m ((c : Thread nD τ).loc main_arg2)
abbrev a3 : FVec Ideal S1024 .f32 := m ((c : Thread nD τ).loc main_arg3)

/-- What the host hands the launch: the arguments as they are. -/
theorem hid_eq : Val.hid m c = Cert.ONormRefIdeal.Val.hid (a0 m c) (a1 m c) (a2 m c) := by
  funext t d
  rw [Val.hid]
  unfold Val.oA Val.wA Val.hA
  entry_read
  rfl

theorem gn_eq : Val.gn m c = fun k => a3 m c (ix1 k) := by
  funext k
  rw [Val.gn]
  unfold Val.gA
  entry_read
  pointwise []

theorem out0 : (dats m 0 c).arrAt 4 cfg0.N = val_main_v1 (F := Ideal) (a0 m c) (a1 m c) (a2 m c) := by
  funext i
  idx_vars i
  rw [Val.final4, hid_eq]
  exact (Cert.ONormRefIdeal.Val.v1_eq ..).symm

theorem out1 : (dats m 0 c).arrAt 5 cfg0.N = val_main_v15 (F := Ideal) (a0 m c) (a1 m c) (a2 m c) (a3 m c) := by
  funext i
  idx_vars i
  rw [Val.final5, hid_eq, gn_eq]
  exact (Cert.ONormRefIdeal.Val.v15_eq ..).symm

/-- The reference's run, its results as the stages of its arguments. -/
theorem reference (m' : (ℓ : Loc Cert.ONormRefIdeal.nD Cert.ONormRefIdeal.τ Cert.ONormRefIdeal.sig) → Buf (Elt Ideal) ℓ) (g' : Dev Cert.ONormRefIdeal.nD → PrngReg) :
    θ_run (Cert.ONormRefIdeal.defs (F := Ideal)) (onTc (τ := Cert.ONormRefIdeal.τ) (Cert.ONormRefIdeal.main (F := Ideal))) ⟨m', fun _ => 0, g'⟩ fun r => ∀ c : Dev Cert.ONormRefIdeal.nD,
      let a (b : Ref Cert.ONormRefIdeal.sig .tc) := m' ((c.tc : Thread Cert.ONormRefIdeal.nD Cert.ONormRefIdeal.τ).loc b)
      let o (b : Ref Cert.ONormRefIdeal.sig .tc) := r.2.mem ((c.tc : Thread Cert.ONormRefIdeal.nD Cert.ONormRefIdeal.τ).loc b)
      (o Cert.ONormRefIdeal.main_v1 = val_main_v1 (F := Ideal) (a Cert.ONormRefIdeal.main_arg0) (a Cert.ONormRefIdeal.main_arg1) (a Cert.ONormRefIdeal.main_arg2)
      ∧ o Cert.ONormRefIdeal.main_v15 = val_main_v15 (F := Ideal) (a Cert.ONormRefIdeal.main_arg0) (a Cert.ONormRefIdeal.main_arg1) (a Cert.ONormRefIdeal.main_arg2) (a Cert.ONormRefIdeal.main_arg3))
      ∧ o Cert.ONormRefIdeal.main_arg0 = a Cert.ONormRefIdeal.main_arg0 ∧ o Cert.ONormRefIdeal.main_arg1 = a Cert.ONormRefIdeal.main_arg1 ∧ o Cert.ONormRefIdeal.main_arg2 = a Cert.ONormRefIdeal.main_arg2 ∧ o Cert.ONormRefIdeal.main_arg3 = a Cert.ONormRefIdeal.main_arg3 :=
  (θ_run Cert.ONormRefIdeal.defs _ _).mono (fun r h c => ⟨⟨(h c).1.trans (val_main_v1_eq _ _ _),
    (h c).2.1.trans (val_main_v15_eq _ _ _ _)⟩, (h c).2.2⟩) (Cert.ONormRefIdeal.Value.run m' g')

/-- Kernel and reference agree at the extended reals. -/
theorem algebraic : Cert.algebraic_ONormIdeal_ONormRefIdeal := by
  intro m g m' g' _ hagree
  refine ⟨_, _, Cert.ONormIdeal.Value.run_blocks m g, (θ_run Cert.ONormRefIdeal.defs _ _).mono (fun r h c => ?_) (reference m' g')⟩
  obtain ⟨e0, e1, e2, e3⟩ := hagree c
  obtain ⟨⟨h0, h1⟩, kept⟩ := h c
  dsimp only at h0 h1
  rw [e0, e1, e2] at h0
  rw [e0, e1, e2, e3] at h1
  exact ⟨h0.trans (out0 m c).symm, h1.trans (out1 m c).symm, kept⟩

end Cert.ONormClaim

end
-- ==== Proof.HNorm.Kernel.lean ====
module

public import proofs.«01_k».proof.Proof.Gen.HNormIdeal.Value
public import proofs.«01_k».proof.Proof.Norm.Forward

@[expose] public section

set_option maxRecDepth 16384

noncomputable section

/-! The kernel's result, entry by entry. -/

namespace Cert.HNormIdeal.Val

open Cert.HNormIdeal Cert.HNormIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev xA (c : Dev nD) : Norm.A := V m c main_arg0
abbrev gA (c : Dev nD) : Norm.R := V m c main_v0

/-- Where each window's block lies. -/
theorem idx : ∀ t : Fin cfg0.N, win0_0.index t = ![t.val, 0] ∧ win0_1.index t = ![0, 0] ∧ win0_2.index t = ![t.val, 0] :=
  (by decide +kernel : ∀ t : Fin grid0.N, _)

theorem lt2 (t : Fin cfg0.N) : t.val < 2 := lt_of_lt_of_eq t.isLt N_0

/-- The gain. -/
def gn (c : Dev nD) (k : Fin 1024) : EReal := gA m c (ix2 0 k)

theorem x_eq (c : Dev nD) (t : Fin cfg0.N) (r d : Fin 1024) (h : 1024 * t.val + r.val < 2048) :
    iblk m c 0 t (ix2 r d) = row (xA m c) ⟨1024 * t.val + r.val, h⟩ d := by
  rw [row]
  blk_ext [iblk, idx t]

/-- What a point stores. -/
theorem pay1_eq (c : Dev nD) (t : Fin cfg0.N) (r d : Fin 1024) (h : 1024 * t.val + r.val < 2048) :
    k0_pay1 (iblk m c 0 t) (iblk m c 1 t) (ix2 r d) = normed (row (xA m c) ⟨1024 * t.val + r.val, h⟩) (gn m c) d := by
  pointwise [k0_pay1]
  simp only [x_eq m c t r _ h]
  refine congrArg₂ (· * ·) rfl ?_
  rw [gn]
  blk_ext [iblk, idx t]

/-- The norm of every row. -/
theorem final2 (c : Dev nD) (t : Fin 2048) (d : Fin 1024) : (dats m 0 c).arrAt 2 cfg0.N (ix2 t d) = normed (row (xA m c) t) (gn m c) d := by
  refine congrFun ((dats m 0 c).arrAt_eq_of_covers 2 (fun i => normed (row (xA m c) (i 0)) (gn m c) (i 1)) (by decide +kernel) fun t hf y => ?_) (ix2 t d)
  idx_vars y
  have ht := lt2 t
  blk_simp
  rw [after0_2, show (win0_2.blk t).view.emb (ix2 y0 y1) = ix2 ⟨1024 * t.val + y0.val, by omega⟩ y1 by blk_ext [idx t]]
  frame_out
  exact pay1_eq m c t y0 y1 (by omega)

end Cert.HNormIdeal.Val

end
-- ==== Proof.HNorm.Ref.lean ====
module

public import proofs.«01_k».proof.Proof.Gen.HNormRefIdeal.Read
public import proofs.«01_k».proof.Proof.Norm.Forward

@[expose] public section

set_option maxRecDepth 16384

noncomputable section

/-! The reference's result, entry by entry. -/

namespace Cert.HNormRefIdeal.Val

open Cert.HNormRefIdeal Cert.HNormRefIdeal.Read Cert.Norm Idealize.ShloMosaic Idealize.ShloMosaic.TcCoe Idealize.SL.Sem

variable (x0 : FVec Ideal S2048x1024 .f32) (x1 : FVec Ideal S1024 .f32) (t : Fin 2048) (d : Fin 1024)

/-- The inverse root of a row's mean square. -/
theorem v7_eq : val_main_v7 (F := Ideal) x0 (ix2 t 0) = inv (row x0 t) := by
  pointwise [val_main_v7, val_main_v6, val_main_v5, val_main_cst_1, val_main_v4, val_main_v3, val_main_cst_0, val_main_v2, val_main_v1, val_main_cst, val_main_v0]
  rfl

/-- The norm of every row. -/
theorem v13_eq : val_main_v13 (F := Ideal) x0 x1 (ix2 t d) = normed (row x0 t) (fun k => x1 (ix1 k)) d := by
  pointwise [val_main_v13, val_main_v12, val_main_v11, val_main_v10, val_main_v9, val_main_v8]
  rw [v7_eq]
  rfl

end Cert.HNormRefIdeal.Val

end
-- ==== Proof.HNorm.Claim.lean ====
module

public import proofs.«01_k».proof.Defs
public import proofs.«01_k».proof.Proof.Norm.Spec
public import proofs.«01_k».proof.Proof.Reals
public import proofs.«01_k».proof.Proof.HNorm.Kernel
public import proofs.«01_k».proof.Proof.HNorm.Ref

@[expose] public section

set_option maxRecDepth 16384

noncomputable section

/-! The norm of the rows: kernel and reference end with the same arrays. -/

namespace Cert.HNormClaim

open Idealize.ShloMosaic Idealize.ShloMosaic.TcCoe Idealize.SL.Sem
open Cert.Reals Cert.HNormIdeal Cert.HNormIdeal.Gen Cert.HNormRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024 .f32 := m ((c : Thread nD τ).loc main_arg1)

/-- What the host hands the launch: the arguments as they are. -/
theorem xA_eq : Val.xA m c = a0 m c := by
  unfold Val.xA
  entry_read
  rfl

theorem gn_eq : Val.gn m c = fun k => a1 m c (ix1 k) := by
  funext k
  rw [Val.gn]
  unfold Val.gA
  entry_read
  pointwise []

theorem out0 : (dats m 0 c).arrAt 2 cfg0.N = val_main_v13 (F := Ideal) (a0 m c) (a1 m c) := by
  funext i
  idx_vars i
  rw [Val.final2, xA_eq, gn_eq]
  exact (Cert.HNormRefIdeal.Val.v13_eq ..).symm

/-- The reference's run, its results as the stages of its arguments. -/
theorem reference (m' : (ℓ : Loc Cert.HNormRefIdeal.nD Cert.HNormRefIdeal.τ Cert.HNormRefIdeal.sig) → Buf (Elt Ideal) ℓ) (g' : Dev Cert.HNormRefIdeal.nD → PrngReg) :
    θ_run (Cert.HNormRefIdeal.defs (F := Ideal)) (onTc (τ := Cert.HNormRefIdeal.τ) (Cert.HNormRefIdeal.main (F := Ideal))) ⟨m', fun _ => 0, g'⟩ fun r => ∀ c : Dev Cert.HNormRefIdeal.nD,
      let a (b : Ref Cert.HNormRefIdeal.sig .tc) := m' ((c.tc : Thread Cert.HNormRefIdeal.nD Cert.HNormRefIdeal.τ).loc b)
      let o (b : Ref Cert.HNormRefIdeal.sig .tc) := r.2.mem ((c.tc : Thread Cert.HNormRefIdeal.nD Cert.HNormRefIdeal.τ).loc b)
      o Cert.HNormRefIdeal.main_v13 = val_main_v13 (F := Ideal) (a Cert.HNormRefIdeal.main_arg0) (a Cert.HNormRefIdeal.main_arg1)
      ∧ o Cert.HNormRefIdeal.main_arg0 = a Cert.HNormRefIdeal.main_arg0 ∧ o Cert.HNormRefIdeal.main_arg1 = a Cert.HNormRefIdeal.main_arg1 :=
  (θ_run Cert.HNormRefIdeal.defs _ _).mono (fun r h c => ⟨(h c).1.trans (val_main_v13_eq _ _), (h c).2⟩) (Cert.HNormRefIdeal.Value.run m' g')

/-- Kernel and reference agree at the extended reals. -/
theorem algebraic : Cert.algebraic_HNormIdeal_HNormRefIdeal := by
  intro m g m' g' _ hagree
  refine ⟨_, Cert.HNormIdeal.Value.run_blocks m g, (θ_run Cert.HNormRefIdeal.defs _ _).mono (fun r h c => ?_) (reference m' g')⟩
  obtain ⟨e0, e1⟩ := hagree c
  obtain ⟨h0, kept⟩ := h c
  dsimp only at h0
  rw [e0, e1] at h0
  exact ⟨h0.trans (out0 m c).symm, kept⟩

end Cert.HNormClaim

end
-- ==== Proof.Pre.Spec.lean ====
module

public import proofs.«01_k».proof.Proof.Norm.Forward

@[expose] public section

noncomputable section

/-! The attention's projections, entry by entry, over plain functions. -/

namespace Cert.Pre

open Idealize.ShloMosaic Cert.Norm

/-- A row of 128 turned by a cosine and two sines, one for each half of its first 64 entries. -/
def turned (r C A B : Fin 128 → EReal) (l : Fin 128) : EReal :=
  r l * C l + (r ⟨(l.val + 128 - 96) % 128, Nat.mod_lt _ (by decide)⟩ * A l + r ⟨(l.val + 128 - 32) % 128, Nat.mod_lt _ (by decide)⟩ * B l)

/-- The scale of a query in powers of two. -/
abbrev scale : EReal := (((Real.sqrt 192)⁻¹ * (Real.log 2)⁻¹ : ℝ) : EReal)

/-- One head's query: 128 entries as projected, 128 turned, all scaled. -/
def query (u : Fin 256 → EReal) (C A B : Fin 128 → EReal) (e : Fin 256) : EReal :=
  (if h : e.val < 128 then u e else turned (fun l => u ⟨128 + l.val, by omega⟩) C A B ⟨e.val - 128, by omega⟩) * scale

/-- A row of 64 turned by the angles' cosines and sines, half against half. -/
def turn (r : Fin 64 → EReal) (co si : Fin 32 → EReal) (l : Fin 64) : EReal :=
  if h : l.val < 32 then r ⟨l.val, by omega⟩ * co ⟨l.val, h⟩ - r ⟨32 + l.val, by omega⟩ * si ⟨l.val, h⟩
  else r ⟨32 + (l.val - 32), by omega⟩ * co ⟨l.val - 32, by omega⟩ + r ⟨l.val - 32, by omega⟩ * si ⟨l.val - 32, by omega⟩

/-- With tables that are zero past their 64 lanes, `turned` turns the first 64 entries and leaves zeros after them. -/
theorem turned_eq {r C A B : Fin 128 → EReal} {ρ : Fin 64 → EReal} {co si : Fin 32 → EReal} (hr : ∀ l : Fin 64, r ⟨l.val, by omega⟩ = ρ l)
    (hC : ∀ l : Fin 128, C l = if l.val < 64 then co ⟨l.val % 32, Nat.mod_lt _ (by decide)⟩ else 0)
    (hA : ∀ l : Fin 128, A l = if h : l.val < 32 then -si ⟨l.val, h⟩ else 0)
    (hB : ∀ l : Fin 128, B l = if h : 32 ≤ l.val ∧ l.val < 64 then si ⟨l.val - 32, by omega⟩ else 0) (l : Fin 128) :
    turned r C A B l = if h : l.val < 64 then turn ρ co si ⟨l.val, h⟩ else 0 := by
  obtain ⟨l, hl⟩ := l
  unfold turned turn
  rw [hC, hA, hB]
  dsimp only
  by_cases h1 : l < 32
  · have e : (l + 128 - 96) % 128 = 32 + l := by omega
    have e' : l % 32 = l := by omega
    simp only [e, e', h1, show l < 64 by omega, show ¬ 32 ≤ l by omega, false_and, dif_pos, dif_neg, if_pos, not_false_eq_true, mul_zero, add_zero, mul_neg]
    rw [hr ⟨l, by omega⟩, hr ⟨32 + l, by omega⟩, sub_eq_add_neg]
  · by_cases h2 : l < 64
    · have e : (l + 128 - 32) % 128 = l - 32 := by omega
      have e' : l % 32 = l - 32 := by omega
      have e2 : 32 + (l - 32) = l := by omega
      simp only [e, e', e2, h1, h2, show 32 ≤ l by omega, and_self, dif_pos, dif_neg, if_pos, not_false_eq_true, mul_zero, zero_add]
      rw [hr ⟨l, h2⟩, hr ⟨l - 32, by omega⟩]
    · simp only [h1, h2, and_false, dif_neg, if_neg, not_false_eq_true, mul_zero, add_zero]

/-- One head's query of 256 lanes: 128 as projected, 64 turned, 64 zeros; all scaled. -/
def wide (u : Fin 192 → EReal) (co si : Fin 32 → EReal) (e : Fin 256) : EReal :=
  (if h : e.val < 128 then u ⟨e.val, by omega⟩
    else if h' : e.val < 192 then turn (fun l => u ⟨128 + l.val, by omega⟩) co si ⟨e.val - 128, by omega⟩ else 0) * scale

/-- So a query from such tables and padded weights is this one. -/
theorem query_eq {v : Fin 256 → EReal} {u : Fin 192 → EReal} {C A B : Fin 128 → EReal} {co si : Fin 32 → EReal}
    (hv : ∀ e : Fin 192, v ⟨e.val, by omega⟩ = u e)
    (hC : ∀ l : Fin 128, C l = if l.val < 64 then co ⟨l.val % 32, Nat.mod_lt _ (by decide)⟩ else 0)
    (hA : ∀ l : Fin 128, A l = if h : l.val < 32 then -si ⟨l.val, h⟩ else 0)
    (hB : ∀ l : Fin 128, B l = if h : 32 ≤ l.val ∧ l.val < 64 then si ⟨l.val - 32, by omega⟩ else 0) (e : Fin 256) :
    query v C A B e = wide u co si e := by
  unfold query wide
  refine congrArg (· * scale) ?_
  split_ifs with h h'
  · exact hv ⟨e.val, by omega⟩
  · rw [turned_eq (ρ := fun l => u ⟨128 + l.val, by omega⟩) (fun l => hv ⟨128 + l.val, by omega⟩) hC hA hB, dif_pos (by dsimp only; omega)]
  · rw [turned_eq (ρ := fun l => u ⟨128 + l.val, by omega⟩) (fun l => hv ⟨128 + l.val, by omega⟩) hC hA hB, dif_neg (by dsimp only; omega)]

end Cert.Pre

end
-- ==== Proof.Pre.Kernel.lean ====
module

public import proofs.«01_k».proof.Proof.Gen.PreIdeal.Value
public import proofs.«01_k».proof.Proof.Pre.Spec

@[expose] public section

set_option maxRecDepth 16384

noncomputable section

/-! The kernel's ten results, entry by entry. -/

namespace Cert.PreIdeal.Val

open Cert.PreIdeal Cert.PreIdeal.Gen Cert.Norm Cert.Pre Idealize.ShloMosaic Idealize.ShloMosaic.TcCoe Idealize.SL.Sem
open Idealize.ShloMosaic.Pipeline (Dat)

variable (m : (ℓ : Loc nD τ sig) → Buf (Elt Ideal) ℓ) (c : Dev nD)

/-- The arrays as the launch finds them. -/
abbrev M (a b : ℕ) := (⟨2, ![a, b]⟩ : Shape).Idx → EReal
abbrev hA : M 2048 1024 := V m c main_arg0
abbrev cosA : M 2048 128 := V m c main_v16
abbrev sinA : M 2048 128 := V m c main_v18
abbrev sinB : M 2048 128 := V m c main_v19
abbrev gkvA : M 1 1024 := V m c main_arg1
abbrev gqA : M 1 1024 := V m c main_arg2
abbrev gkvlA : M 1 256 := V m c main_arg3
abbrev gqlA : M 1 384 := V m c main_arg4
abbrev wdkvA : M 1024 256 := V m c main_arg5
abbrev wkrA : M 128 1024 := V m c main_v24
abbrev wukA : M 256 1024 := V m c main_arg7
abbrev wuvA : M 256 1024 := V m c main_arg8
abbrev wdqA : M 1024 384 := V m c main_arg9
abbrev wuqA : (⟨3, ![8, 256, 384]⟩ : Shape).Idx → EReal := V m c main_v22

/-- Where each window's block lies. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0]
    ∧ win0_23.index t = ![0, t.val, 0] :=
  (by decide +kernel : ∀ t : Fin grid0.N, _)

theorem lt4 (t : Fin cfg0.N) : t.val < 4 := lt_of_lt_of_eq t.isLt N_0

/-- The row of the whole array that a block's row is. -/
def at' (t : Fin cfg0.N) (r : Fin 512) : Fin 2048 := ⟨512 * t.val + r.val, by have := lt4 t; omega⟩

/-- The two normed hidden states, the latents and their norms. -/
def hk (t : Fin 2048) (d : Fin 1024) : EReal := normed (row (hA m c) t) (fun k => gkvA m c (ix2 0 k)) d
def hq (t : Fin 2048) (d : Fin 1024) : EReal := normed (row (hA m c) t) (fun k => gqA m c (ix2 0 k)) d
def kvRaw (t : Fin 2048) (e : Fin 256) : EReal := ∑ k : Fin 1024, hk m c t k * wdkvA m c (ix2 k e)
def kv (t : Fin 2048) (e : Fin 256) : EReal := scaled (Ideal.ofBits .f32 0x43800000#32) (kvRaw m c t) (fun k => gkvlA m c (ix2 0 k)) e
def qRaw (t : Fin 2048) (e : Fin 384) : EReal := ∑ k : Fin 1024, hq m c t k * wdqA m c (ix2 k e)
def ql (t : Fin 2048) (e : Fin 384) : EReal := scaled (Ideal.ofBits .f32 0x43C00000#32) (qRaw m c t) (fun k => gqlA m c (ix2 0 k)) e

/-- The turned key, the keys, the values, and a head's query. -/
def key (t : Fin 2048) (l : Fin 128) : EReal :=
  turned (fun l => ∑ k : Fin 1024, hk m c t k * wkrA m c (ix2 l k)) (fun l => cosA m c (ix2 t l)) (fun l => sinA m c (ix2 t l)) (fun l => sinB m c (ix2 t l)) l
def kn (t : Fin 2048) (e : Fin 1024) : EReal := ∑ k : Fin 256, kv m c t k * wukA m c (ix2 k e)
def vs (t : Fin 2048) (e : Fin 1024) : EReal := ∑ k : Fin 256, kv m c t k * wuvA m c (ix2 k e)
def qs (h : Fin 8) (t : Fin 2048) (e : Fin 256) : EReal :=
  query (fun e => ∑ k : Fin 384, ql m c t k * wuqA m c (ix3 h e k)) (fun l => cosA m c (ix2 t l)) (fun l => sinA m c (ix2 t l)) (fun l => sinB m c (ix2 t l)) e

variable (t : Fin cfg0.N)

/-- What a point computes on the way: the normed hidden states and the latents. -/
theorem pay3_eq : k0_pay3 (iblk m c 0 t) (iblk m c 4 t) = fun i => hk m c (at' t (i 0)) (i 1) := by
  funext i
  idx_vars i
  pointwise [k0_pay3, k0_pay2]
  refine congrArg₂ (· * ·) (congrArg₂ (· * ·) ?_ (congrArg Ideal.rsqrt (congrArg₂ (· + ·) (congrArg₂ Ideal.div (Finset.sum_congr rfl fun k _ => congrArg₂ (· * ·) ?_ ?_) rfl) rfl))) ?_ <;>
    blk_ext [iblk, idx t, at']

theorem pay4_eq : k0_pay4 (iblk m c 0 t) (iblk m c 5 t) = fun i => hq m c (at' t (i 0)) (i 1) := by
  funext i
  idx_vars i
  pointwise [k0_pay4, k0_pay2]
  refine congrArg₂ (· * ·) (congrArg₂ (· * ·) ?_ (congrArg Ideal.rsqrt (congrArg₂ (· + ·) (congrArg₂ Ideal.div (Finset.sum_congr rfl fun k _ => congrArg₂ (· * ·) ?_ ?_) rfl) rfl))) ?_ <;>
    blk_ext [iblk, idx t, at']

theorem pay8_eq : k0_pay8 (iblk m c 0 t) (iblk m c 4 t) (iblk m c 8 t) = fun i => kvRaw m c (at' t (i 0)) (i 1) := by
  funext i
  idx_vars i
  pointwise [k0_pay8]
  simp only [pay3_eq]
  refine Finset.sum_congr rfl fun k _ => congrArg₂ (· * ·) rfl ?_
  blk_ext [iblk, idx t, at']

theorem pay9_eq : k0_pay9 (fun i => kvRaw m c (at' t (i 0)) (i 1)) (iblk m c 6 t) = fun i => kv m c (at' t (i 0)) (i 1) := by
  funext i
  idx_vars i
  pointwise [k0_pay9]
  refine congrArg₂ (· * ·) rfl ?_
  blk_ext [iblk, idx t, at']

theorem pay13_eq : k0_pay13 (fun i => hq m c (at' t (i 0)) (i 1)) (iblk m c 12 t) = fun i => qRaw m c (at' t (i 0)) (i 1) := by
  funext i
  idx_vars i
  pointwise [k0_pay13]
  refine Finset.sum_congr rfl fun k _ => congrArg₂ (· * ·) rfl ?_
  blk_ext [iblk, idx t, at']

theorem pay14_eq : k0_pay14 (fun i => hq m c (at' t (i 0)) (i 1)) (iblk m c 12 t) (iblk m c 7 t) = fun i => ql m c (at' t (i 0)) (i 1) := by
  funext i
  idx_vars i
  pointwise [k0_pay14]
  simp only [pay13_eq]
  refine congrArg₂ (· * ·) rfl ?_
  blk_ext [iblk, idx t, at']

theorem pay5_eq : k0_pay5 (iblk m c 1 t) = fun i => cosA m c (ix2 (at' t (i 0)) (i 1)) := by
  funext i
  idx_vars i
  pointwise [k0_pay5]
  blk_ext [iblk, idx t, at']

theorem pay6_eq : k0_pay6 (iblk m c 2 t) = fun i => sinA m c (ix2 (at' t (i 0)) (i 1)) := by
  funext i
  idx_vars i
  pointwise [k0_pay6]
  blk_ext [iblk, idx t, at']

theorem pay7_eq : k0_pay7 (iblk m c 3 t) = fun i => sinB m c (ix2 (at' t (i 0)) (i 1)) := by
  funext i
  idx_vars i
  pointwise [k0_pay7]
  blk_ext [iblk, idx t, at']

theorem pay10_eq (r : Fin 512) (l : Fin 128) :
    k0_pay10 (fun i => hk m c (at' t (i 0)) (i 1)) (fun i => cosA m c (ix2 (at' t (i 0)) (i 1))) (fun i => sinA m c (ix2 (at' t (i 0)) (i 1)))
      (fun i => sinB m c (ix2 (at' t (i 0)) (i 1))) (iblk m c 9 t) (ix2 r l) = key m c (at' t r) l := by
  pointwise [k0_pay10]
  have e : ∀ (l : Fin 128) (k : Fin 1024), iblk m c 9 t (ix2 l k) = wkrA m c (ix2 l k) := fun l k => by blk_ext [iblk, idx t]
  simp only [e]
  rfl

theorem pay11_eq (r : Fin 512) (e : Fin 1024) :
    k0_pay11 (fun i => kvRaw m c (at' t (i 0)) (i 1)) (iblk m c 6 t) (iblk m c 10 t) (ix2 r e) = kn m c (at' t r) e := by
  pointwise [k0_pay11]
  simp only [pay9_eq]
  refine Finset.sum_congr rfl fun k _ => congrArg₂ (· * ·) rfl ?_
  blk_ext [iblk, idx t, at']

theorem pay12_eq (r : Fin 512) (e : Fin 1024) :
    k0_pay12 (fun i => kvRaw m c (at' t (i 0)) (i 1)) (iblk m c 6 t) (iblk m c 11 t) (ix2 r e) = vs m c (at' t r) e := by
  pointwise [k0_pay12]
  simp only [pay9_eq]
  refine Finset.sum_congr rfl fun k _ => congrArg₂ (· * ·) rfl ?_
  blk_ext [iblk, idx t, at']

/-- The head's block of the queries' matrix. -/
theorem head_eq (h : Fin 8) (e : Fin 256) (k : Fin 384) : iblk m c 13 t (ix3 h e k) = wuqA m c (ix3 h e k) := by blk_ext [iblk, idx t]

/-- A head's first 128 query entries, for the block the head's weights are read as. -/
theorem low_eq (h : Fin 8) (W : Vec Ideal S1x256x384 .bf16) (hW : ∀ e k, W (ix3 0 e k) = wuqA m c (ix3 h e k)) (r : Fin 512) (l : Fin 128) (y : Fin 256)
    (hy : y.val = l.val) : k0_pay37 (fun i => ql m c (at' t (i 0)) (i 1)) W (ix3 0 r l) = qs m c h (at' t r) y := by
  rw [show y = ⟨l.val, by omega⟩ from Fin.ext hy]
  pointwise [k0_pay37, k0_pay36]
  simp only [hW, qs, query, l.isLt, dif_pos]
  rfl

/-- Its other 128, the turned ones. -/
theorem high_eq (h : Fin 8) (W : Vec Ideal S1x256x384 .bf16) (hW : ∀ e k, W (ix3 0 e k) = wuqA m c (ix3 h e k)) (r : Fin 512) (l : Fin 128) (y : Fin 256)
    (hy : y.val = 128 + l.val) :
    k0_pay38 (fun i => cosA m c (ix2 (at' t (i 0)) (i 1))) (fun i => sinA m c (ix2 (at' t (i 0)) (i 1))) (fun i => sinB m c (ix2 (at' t (i 0)) (i 1)))
      (fun i => ql m c (at' t (i 0)) (i 1)) W (ix3 0 r l) = qs m c h (at' t r) y := by
  rw [show y = ⟨128 + l.val, by omega⟩ from Fin.ext hy]
  pointwise [k0_pay38, k0_pay36]
  simp only [hW, qs, query]
  rw [dif_neg (by simp)]
  simp only [Nat.add_sub_cancel_left]
  rfl

/-- A head's weights, as the block is read. -/
theorem ld_head (n : ℕ) (inb) (h : Fin 8) (hn : h.val = n) (e : Fin 256) (k : Fin 384) :
    View.ld (iblk m c 13 t) (Rect.unit (s := S8x256x384) ![n, 0, 0] S1x256x384.size inb) (ix3 0 e k) = wuqA m c (ix3 h e k) := by
  subst hn
  rw [← head_eq m c t h e k, View.ld_unit_apply_of _ _ _ _ _ (ix3 h e k)]
  intro d
  fin_cases d <;> simp

/-- The eight heads' stores are one function of the latents and the head's weights. -/
theorem lows (X : FVec Ideal S512x384 .bf16) (W : Vec Ideal S1x256x384 .bf16) :
    k0_pay22 X W = k0_pay37 X W ∧ k0_pay26 X W = k0_pay37 X W ∧ k0_pay30 (k0_pay29 X W) = k0_pay37 X W ∧ k0_pay33 X W = k0_pay37 X W
      ∧ k0_pay41 X (k0_pay39 W) (constant S512x256 .f32 0#32) = k0_pay37 X W ∧ k0_pay44 X W = k0_pay37 X W :=
  ⟨rfl, rfl, rfl, rfl, rfl, rfl⟩

theorem low_zero (h : FVec Ideal S512x1024 .bf16) (w : Vec Ideal S1024x384 .bf16) (g : Vec Ideal S1x384 .f32) (W : Vec Ideal S1x256x384 .bf16) :
    k0_pay16 h w g W = k0_pay37 (k0_pay14 h w g) W := rfl

theorem highs (C A B : FVec Ideal S512x128 .f32) (X : FVec Ideal S512x384 .bf16) (W : Vec Ideal S1x256x384 .bf16) :
    k0_pay24 (k0_pay23 C A B X W) = k0_pay38 C A B X W ∧ k0_pay27 C A B X W = k0_pay38 C A B X W ∧ k0_pay31 C A B (k0_pay28 X W) = k0_pay38 C A B X W
      ∧ k0_pay35 (k0_pay34 C A B X W) = k0_pay38 C A B X W
      ∧ k0_pay42 C A B X (k0_pay39 W) (constant S512x256 .f32 0#32) = k0_pay38 C A B X W
      ∧ k0_pay1 A B (k0_pay45 X W) (k0_pay46 C X W) (k0_pay47 X W) = k0_pay38 C A B X W :=
  ⟨rfl, rfl, rfl, rfl, rfl, rfl⟩

theorem high_zero (C A B : FVec Ideal S512x128 .f32) (h : FVec Ideal S512x1024 .bf16) (w : Vec Ideal S1024x384 .bf16) (g : Vec Ideal S1x384 .f32)
    (W : Vec Ideal S1x256x384 .bf16) :
    k0_pay20 B (k0_pay17 h w g W) (k0_pay18 h C w g W) (k0_pay19 h A w g W) = k0_pay38 C A B (k0_pay14 h w g) W := rfl

/-- So each of them holds a head's query entries. -/
theorem low_of {P : FVec Ideal S1x512x128 .bf16} {W : Vec Ideal S1x256x384 .bf16} (h : Fin 8) {r : Fin 512} {l : Fin 128} {y : Fin 256}
    (hP : P = k0_pay37 (fun i => ql m c (at' t (i 0)) (i 1)) W) (hW : ∀ e k, W (ix3 0 e k) = wuqA m c (ix3 h e k)) (hy : y.val = l.val) :
    P (ix3 0 r l) = qs m c h (at' t r) y := hP ▸ low_eq m c t h W hW r l y hy

theorem high_of {P : FVec Ideal S1x512x128 .bf16} {W : Vec Ideal S1x256x384 .bf16} (h : Fin 8) {r : Fin 512} {l : Fin 128} {y : Fin 256}
    (hP : P = k0_pay38 (fun i => cosA m c (ix2 (at' t (i 0)) (i 1))) (fun i => sinA m c (ix2 (at' t (i 0)) (i 1)))
      (fun i => sinB m c (ix2 (at' t (i 0)) (i 1))) (fun i => ql m c (at' t (i 0)) (i 1)) W)
    (hW : ∀ e k, W (ix3 0 e k) = wuqA m c (ix3 h e k)) (hy : y.val = 128 + l.val) :
    P (ix3 0 r l) = qs m c h (at' t r) y := hP ▸ high_eq m c t h W hW r l y hy

set_option maxHeartbeats 2000000 in
theorem final23 (h : Fin 8) (r : Fin 2048) (e : Fin 256) : (dats m 0 c).arrAt 23 cfg0.N (ix3 h r e) = qs m c h r e := by
  refine congrFun ((dats m 0 c).arrAt_eq_of_covers 23 (fun i => qs m c (i 0) (i 1) (i 2)) (by decide +kernel) fun t hf y => ?_) (ix3 h r e)
  idx_vars y
  blk_simp
  rw [after0_23, show (win0_23.blk t).view.emb (ix3 y0 y1 y2) = ix3 y0 (at' t y1) y2 by blk_ext [idx t, at']]
  change _ = qs m c y0 (at' t y1) y2
  unfold_out out0_23
  simp (disch := decide) only [View.ld_unit_lit', pay4_eq, pay5_eq, pay6_eq, pay7_eq, pay14_eq]
  canon_tiles x e
  rotate_left 4
  all_goals
    idx_vars x
    obtain rfl : y1 = x1 := Fin.ext e1
    obtain rfl : x0 = 0 := Subsingleton.elim _ _
  exacts [
    high_of m c t y0 rfl (ld_head m c t _ _ y0 e0) e2,
    low_of m c t y0 rfl (ld_head m c t _ _ y0 e0) e2,
    high_of m c t y0 (highs ..).2.2.2.1 (ld_head m c t _ _ y0 e0) e2,
    low_of m c t y0 (lows ..).2.2.2.1 (ld_head m c t _ _ y0 e0) e2,
    high_of m c t y0 (highs ..).2.2.1 (ld_head m c t _ _ y0 e0) e2,
    low_of m c t y0 (lows ..).2.2.1 (ld_head m c t _ _ y0 e0) e2,
    high_of m c t y0 (highs ..).2.1 (ld_head m c t _ _ y0 e0) e2,
    low_of m c t y0 (lows ..).2.1 (ld_head m c t _ _ y0 e0) e2,
    high_of m c t y0 (highs ..).1 (ld_head m c t _ _ y0 e0) e2,
    low_of m c t y0 (lows ..).1 (ld_head m c t _ _ y0 e0) e2,
    high_of m c t y0 ((high_zero ..).trans (congrArg (fun X => k0_pay38 _ _ _ X _) (pay14_eq m c t))) (ld_head m c t _ _ y0 e0) e2,
    low_of m c t y0 ((low_zero ..).trans (congrArg (fun X => k0_pay37 X _) (pay14_eq m c t))) (ld_head m c t _ _ y0 e0) e2,
    high_of m c t y0 (highs ..).2.2.2.2.2 (ld_head m c t _ _ y0 e0) e2,
    low_of m c t y0 (lows ..).2.2.2.2.2 (ld_head m c t _ _ y0 e0) e2,
    high_of m c t y0 (highs ..).2.2.2.2.1 (ld_head m c t _ _ y0 e0) e2,
    low_of m c t y0 (lows ..).2.2.2.2.1 (ld_head m c t _ _ y0 e0) e2]

/-! What the launch leaves in its other nine arrays. -/

theorem final14 (r : Fin 2048) (e : Fin 1024) : (dats m 0 c).arrAt 14 cfg0.N (ix2 r e) = hk m c r e := by
  refine congrFun ((dats m 0 c).arrAt_eq_of_covers 14 (fun i => hk m c (i 0) (i 1)) (by decide +kernel) fun t hf y => ?_) (ix2 r e)
  idx_vars y
  blk_simp
  rw [after0_14, show (win0_14.blk t).view.emb (ix2 y0 y1) = ix2 (at' t y0) y1 by blk_ext [idx t, at']]
  frame_out
  change k0_pay3 (iblk m c 0 t) (iblk m c 4 t) (ix2 y0 y1) = hk m c (at' t y0) y1
  rw [pay3_eq]
  rfl

theorem final15 (r : Fin 2048) (e : Fin 1024) : (dats m 0 c).arrAt 15 cfg0.N (ix2 r e) = hq m c r e := by
  refine congrFun ((dats m 0 c).arrAt_eq_of_covers 15 (fun i => hq m c (i 0) (i 1)) (by decide +kernel) fun t hf y => ?_) (ix2 r e)
  idx_vars y
  blk_simp
  rw [after0_15, show (win0_15.blk t).view.emb (ix2 y0 y1) = ix2 (at' t y0) y1 by blk_ext [idx t, at']]
  frame_out
  change k0_pay4 (iblk m c 0 t) (iblk m c 5 t) (ix2 y0 y1) = hq m c (at' t y0) y1
  rw [pay4_eq]
  rfl

theorem final16 (r : Fin 2048) (e : Fin 256) : (dats m 0 c).arrAt 16 cfg0.N (ix2 r e) = kvRaw m c r e := by
  refine congrFun ((dats m 0 c).arrAt_eq_of_covers 16 (fun i => kvRaw m c (i 0) (i 1)) (by decide +kernel) fun t hf y => ?_) (ix2 r e)
  idx_vars y
  blk_simp
  rw [after0_16, show (win0_16.blk t).view.emb (ix2 y0 y1) = ix2 (at' t y0) y1 by blk_ext [idx t, at']]
  frame_out
  change k0_pay8 (iblk m c 0 t) (iblk m c 4 t) (iblk m c 8 t) (ix2 y0 y1) = kvRaw m c (at' t y0) y1
  rw [pay8_eq]
  rfl

theorem final17 (r : Fin 2048) (e : Fin 256) : (dats m 0 c).arrAt 17 cfg0.N (ix2 r e) = kv m c r e := by
  refine congrFun ((dats m 0 c).arrAt_eq_of_covers 17 (fun i => kv m c (i 0) (i 1)) (by decide +kernel) fun t hf y => ?_) (ix2 r e)
  idx_vars y
  blk_simp
  rw [after0_17, show (win0_17.blk t).view.emb (ix2 y0 y1) = ix2 (at' t y0) y1 by blk_ext [idx t, at']]
  frame_out
  unfold k0_pay52
  simp (disch := decide) only [View.ld_unit_lit', pay8_eq, pay9_eq]
  rfl

theorem final18 (r : Fin 2048) (e : Fin 128) : (dats m 0 c).arrAt 18 cfg0.N (ix2 r e) = key m c r e := by
  refine congrFun ((dats m 0 c).arrAt_eq_of_covers 18 (fun i => key m c (i 0) (i 1)) (by decide +kernel) fun t hf y => ?_) (ix2 r e)
  idx_vars y
  blk_simp
  rw [after0_18, show (win0_18.blk t).view.emb (ix2 y0 y1) = ix2 (at' t y0) y1 by blk_ext [idx t, at']]
  frame_out
  unfold k0_pay49 k0_pay50 k0_pay51
  simp (disch := decide) only [View.ld_unit_lit', pay3_eq, pay5_eq, pay6_eq, pay7_eq]
  exact pay10_eq m c t y0 y1

theorem final19 (r : Fin 2048) (e : Fin 1024) : (dats m 0 c).arrAt 19 cfg0.N (ix2 r e) = kn m c r e := by
  refine congrFun ((dats m 0 c).arrAt_eq_of_covers 19 (fun i => kn m c (i 0) (i 1)) (by decide +kernel) fun t hf y => ?_) (ix2 r e)
  idx_vars y
  blk_simp
  rw [after0_19, show (win0_19.blk t).view.emb (ix2 y0 y1) = ix2 (at' t y0) y1 by blk_ext [idx t, at']]
  frame_out
  unfold k0_pay52
  simp (disch := decide) only [View.ld_unit_lit', pay8_eq]
  exact pay11_eq m c t y0 y1

theorem final20 (r : Fin 2048) (e : Fin 1024) : (dats m 0 c).arrAt 20 cfg0.N (ix2 r e) = vs m c r e := by
  refine congrFun ((dats m 0 c).arrAt_eq_of_covers 20 (fun i => vs m c (i 0) (i 1)) (by decide +kernel) fun t hf y => ?_) (ix2 r e)
  idx_vars y
  blk_simp
  rw [after0_20, show (win0_20.blk t).view.emb (ix2 y0 y1) = ix2 (at' t y0) y1 by blk_ext [idx t, at']]
  frame_out
  unfold k0_pay52
  simp (disch := decide) only [View.ld_unit_lit', pay8_eq]
  exact pay12_eq m c t y0 y1

theorem final21 (r : Fin 2048) (e : Fin 384) : (dats m 0 c).arrAt 21 cfg0.N (ix2 r e) = qRaw m c r e := by
  refine congrFun ((dats m 0 c).arrAt_eq_of_covers 21 (fun i => qRaw m c (i 0) (i 1)) (by decide +kernel) fun t hf y => ?_) (ix2 r e)
  idx_vars y
  blk_simp
  rw [after0_21, show (win0_21.blk t).view.emb (ix2 y0 y1) = ix2 (at' t y0) y1 by blk_ext [idx t, at']]
  frame_out
  unfold k0_pay48
  simp (disch := decide) only [View.ld_unit_lit', pay4_eq, pay13_eq]
  rfl

theorem final22 (r : Fin 2048) (e : Fin 384) : (dats m 0 c).arrAt 22 cfg0.N (ix2 r e) = ql m c r e := by
  refine congrFun ((dats m 0 c).arrAt_eq_of_covers 22 (fun i => ql m c (i 0) (i 1)) (by decide +kernel) fun t hf y => ?_) (ix2 r e)
  idx_vars y
  blk_simp
  rw [after0_22, show (win0_22.blk t).view.emb (ix2 y0 y1) = ix2 (at' t y0) y1 by blk_ext [idx t, at']]
  frame_out
  unfold k0_pay48
  simp (disch := decide) only [View.ld_unit_lit', pay4_eq, pay14_eq]
  rfl

end Cert.PreIdeal.Val

end
-- ==== Proof.Pre.Ref.lean ====
module

public import proofs.«01_k».proof.Proof.Gen.PreRefIdeal.Read
public import proofs.«01_k».proof.Proof.Pre.Spec

@[expose] public section

set_option maxRecDepth 16384

noncomputable section

/-! The reference's results, entry by entry. -/

namespace Cert.PreRefIdeal.Val

open Cert.PreRefIdeal Cert.PreRefIdeal.Read Cert.Norm Cert.Pre Idealize.ShloMosaic Idealize.ShloMosaic.TcCoe Idealize.SL.Sem

/-- Dividing by the root of 192 and the logarithm of two is the query's scale. -/
theorem over_eq (x : EReal) : Ideal.div x (Ideal.sqrt (Ideal.ofBits .f32 0x43400000#32) * Ideal.log (Ideal.ofBits .f32 0x40000000#32)) = x * scale := by
  have e : Ideal.ofBits .f32 0x43400000#32 = ((192 : ℝ) : EReal) := by simp [Ideal.ofBits, Ideal.ieee, -EReal.coe_mul]; norm_num
  have e' : Ideal.ofBits .f32 0x40000000#32 = ((2 : ℝ) : EReal) := by simp [Ideal.ofBits, Ideal.ieee, -EReal.coe_mul]; norm_num
  have h : Real.sqrt 192 * Real.log 2 ≠ 0 := mul_ne_zero (Real.sqrt_ne_zero'.mpr (by norm_num)) (Real.log_pos (by norm_num)).ne'
  rw [e, e', Ideal.sqrt_coe, Ideal.log_coe, if_neg (by norm_num), if_neg (by norm_num), ← EReal.coe_mul, Ideal.div_coe h, one_div, mul_inv]

variable (x0 : FVec Ideal S2048x1024 .f32) (x1 x2 : FVec Ideal S1x1024 .f32) (x3 : FVec Ideal S1x256 .f32) (x4 : FVec Ideal S1x384 .f32)
  (x5 : FVec Ideal S1024x256 .bf16) (x6 : FVec Ideal S1024x64 .bf16) (x7 x8 : FVec Ideal S256x1024 .bf16) (x9 : FVec Ideal S1024x384 .bf16)
  (x10 : FVec Ideal S384x1536 .bf16) (x11 : Vec Ideal S2048 .i32)

/-- The two normed hidden states, the latents and their norms. -/
def hk (t : Fin 2048) (d : Fin 1024) : EReal := normed (row x0 t) (fun k => x1 (ix2 0 k)) d
def kvRaw (t : Fin 2048) (e : Fin 256) : EReal := ∑ k : Fin 1024, hk x0 x1 t k * x5 (ix2 k e)
def kv (t : Fin 2048) (e : Fin 256) : EReal := scaled (Ideal.ofBits .f32 0x43800000#32) (kvRaw x0 x1 x5 t) (fun k => x3 (ix2 0 k)) e
def qRaw (t : Fin 2048) (e : Fin 384) : EReal := ∑ k : Fin 1024, hk x0 x2 t k * x9 (ix2 k e)
def ql (t : Fin 2048) (e : Fin 384) : EReal := scaled (Ideal.ofBits .f32 0x43C00000#32) (qRaw x0 x2 x9 t) (fun k => x4 (ix2 0 k)) e

/-- A head's projected query. -/
def up (t : Fin 2048) (h : Fin 8) (e : Fin 192) : EReal := ∑ k : Fin 384, ql x0 x2 x4 x9 t k * x10 (ix2 k ⟨h.val * 192 + e.val, by omega⟩)

/-- The cosine and the sine of a position's angle. -/
def angle (t : Fin 2048) (j : Fin 32) : EReal :=
  FloatOps.sitofp (F := Ideal) .f32 (x11 (ix1 t)) * Ideal.div 1 (Ideal.pow (Ideal.ofBits .f32 0x461C4000#32) (Ideal.div (FloatOps.sitofp (F := Ideal) .f32 (BitVec.ofNat 32 j.val)) (Ideal.ofBits .f32 0x42000000#32)))

variable (t : Fin 2048)

/-- The normed hidden states. -/
theorem v22_eq (d : Fin 1024) : val_main_v22 (F := Ideal) x0 x1 (ix2 t d) = hk x0 x1 t d := by
  pointwise [val_main_v22, val_main_v21, val_main_v20, val_main_v19, val_main_v18, val_main_v17, val_main_v16, val_main_v15, val_main_cst_1, val_main_v14, val_main_v13, val_main_cst_0, val_main_v12, val_main_v11, val_main_cst, val_main_v10, val_main_v0]
  rfl

theorem v35_eq (d : Fin 1024) : val_main_v35 (F := Ideal) x0 x2 (ix2 t d) = hk x0 x2 t d := by
  pointwise [val_main_v35, val_main_v34, val_main_v33, val_main_v32, val_main_v31, val_main_v30, val_main_v29, val_main_v28, val_main_cst_4, val_main_v27, val_main_v26, val_main_cst_3, val_main_v25, val_main_v24, val_main_cst_2, val_main_v23, val_main_v1]
  rfl

/-- The latents and their norms. -/
theorem v36_eq (e : Fin 256) : val_main_v36 (F := Ideal) x0 x1 x5 (ix2 t e) = kvRaw x0 x1 x5 t e := by
  pointwise [val_main_v36, val_main_v4]
  simp only [v22_eq]
  rfl

theorem v49_eq (e : Fin 256) : val_main_v49 (F := Ideal) x0 x1 x3 x5 (ix2 t e) = kv x0 x1 x3 x5 t e := by
  pointwise [val_main_v49, val_main_v48, val_main_v47, val_main_v46, val_main_v45, val_main_v44, val_main_v43, val_main_v42, val_main_cst_7, val_main_v41, val_main_v40, val_main_cst_6, val_main_v39, val_main_v38, val_main_cst_5, val_main_v37, val_main_v2]
  simp only [v36_eq]
  rfl

theorem v75_eq (e : Fin 384) : val_main_v75 (F := Ideal) x0 x2 x9 (ix2 t e) = qRaw x0 x2 x9 t e := by
  pointwise [val_main_v75, val_main_v8]
  simp only [v35_eq]
  rfl

theorem v88_eq (e : Fin 384) : val_main_v88 (F := Ideal) x0 x2 x4 x9 (ix2 t e) = ql x0 x2 x4 x9 t e := by
  pointwise [val_main_v88, val_main_v87, val_main_v86, val_main_v85, val_main_v84, val_main_v83, val_main_v82, val_main_v81, val_main_cst_13, val_main_v80, val_main_v79, val_main_cst_12, val_main_v78, val_main_v77, val_main_cst_11, val_main_v76, val_main_v3]
  simp only [v75_eq]
  rfl

/-- The keys and the values. -/
theorem v137_eq (e : Fin 1024) : val_main_v137 (F := Ideal) x0 x1 x3 x5 x7 (ix2 t e) = ∑ k : Fin 256, kv x0 x1 x3 x5 t k * x7 (ix2 k e) := by
  pointwise [val_main_v137, val_main_v6]
  simp only [v49_eq]

theorem v139_eq (e : Fin 1024) : val_main_v139 (F := Ideal) x0 x1 x3 x5 x8 (ix2 t e) = ∑ k : Fin 256, kv x0 x1 x3 x5 t k * x8 (ix2 k e) := by
  pointwise [val_main_v139, val_main_v7]
  simp only [v49_eq]

/-- The angles. -/
theorem v63_eq (j : Fin 32) : val_main_v63 (F := Ideal) x11 (ix2 t j) = angle x11 t j := by
  pointwise [val_main_v63, val_main_v62, val_main_v61, val_main_v60, val_main_v59, val_main_v58, val_main_v57, val_main_v56, val_main_cst_10, val_main_v55, val_main_v54, val_main_cst_9, val_main_v53, val_main_v52, val_main_cst_8, val_main_v51]
  rfl

theorem v105_eq (j : Fin 32) : val_main_v105 (F := Ideal) x11 (ix2 t j) = angle x11 t j := by
  pointwise [val_main_v105, val_main_v104, val_main_v103, val_main_v102, val_main_v101, val_main_v100, val_main_v99, val_main_v98, val_main_cst_16, val_main_v97, val_main_v96, val_main_cst_15, val_main_v95, val_main_v94, val_main_cst_14, val_main_v93]
  rfl

/-- The key before it is turned, and after. -/
theorem v50_eq (l : Fin 64) : val_main_v50 (F := Ideal) x0 x1 x6 (ix2 t l) = ∑ k : Fin 1024, hk x0 x1 t k * x6 (ix2 k l) := by
  pointwise [val_main_v50, val_main_v5]
  simp only [v22_eq]

theorem v74_eq (l : Fin 64) : val_main_v74 (F := Ideal) x0 x1 x6 x11 (ix2 t l) = turn (fun l => ∑ k : Fin 1024, hk x0 x1 t k * x6 (ix2 k l)) (fun j => Ideal.cos (angle x11 t j)) (fun j => Ideal.sin (angle x11 t j)) l := by
  pointwise [val_main_v74, val_main_v73, val_main_v72, val_main_v71, val_main_v70, val_main_v69, val_main_v68, val_main_v67, val_main_v66, val_main_v65, val_main_v64]
  simp only [v50_eq, v63_eq]
  rfl

/-- The queries. -/
theorem v89_eq (h : Fin 8) (e : Fin 192) : val_main_v89 (F := Ideal) x0 x2 x4 x9 x10 (ix2 t ⟨h.val * 192 + e.val, by omega⟩) = up x0 x2 x4 x9 x10 t h e := by
  pointwise [val_main_v89, val_main_v9]
  simp only [v88_eq]
  rfl

theorem v90_eq (h : Fin 8) (e : Fin 192) : val_main_v90 (F := Ideal) x0 x2 x4 x9 x10 (ix3 t h e) = up x0 x2 x4 x9 x10 t h e := by
  pointwise [val_main_v90]
  exact v89_eq ..

theorem v122_eq (h : Fin 8) (l : Fin 64) : val_main_v122 (F := Ideal) x0 x2 x4 x9 x10 x11 (ix3 t h l) = turn (fun l => up x0 x2 x4 x9 x10 t h ⟨128 + l.val, by omega⟩) (fun j => Ideal.cos (angle x11 t j)) (fun j => Ideal.sin (angle x11 t j)) l := by
  pointwise [val_main_v122, val_main_v121, val_main_v120, val_main_v119, val_main_v118, val_main_v117, val_main_v116, val_main_v115, val_main_v114, val_main_v113, val_main_v112, val_main_v111, val_main_v110, val_main_v109, val_main_v108, val_main_v107, val_main_v106, val_main_v92]
  simp only [v90_eq, v105_eq]
  rfl

theorem v131_eq (h : Fin 8) (e : Fin 256) : val_main_v131 (F := Ideal) x0 x2 x4 x9 x10 x11 (ix3 h t e) = wide (up x0 x2 x4 x9 x10 t h) (fun j => Ideal.cos (angle x11 t j)) (fun j => Ideal.sin (angle x11 t j)) e := by
  pointwise [val_main_v131, val_main_v130, val_main_v129, val_main_v128, val_main_v127, val_main_cst_19, val_main_v126, val_main_cst_18, val_main_v125, val_main_v124, val_main_v123, val_main_v91, val_main_cst_17]
  simp only [v90_eq, v122_eq]
  refine (over_eq _).trans (congrArg (· * scale) ?_)
  by_cases h1 : e.val < 128
  · exact (dif_pos h1).trans (by rw [dif_pos h1])
  · refine (dif_neg h1).trans ?_
    rw [dif_neg h1]
    by_cases h2 : e.val < 192
    · exact (dif_pos (show e.val - 128 < 64 by omega)).trans (by rw [dif_pos h2])
    · exact (dif_neg (show ¬ e.val - 128 < 64 by omega)).trans (by rw [dif_neg h2])

end Cert.PreRefIdeal.Val

end
-- ==== Proof.Pre.Claim.lean ====
module

public import proofs.«01_k».proof.Defs
public import proofs.«01_k».proof.Proof.Norm.Spec
public import proofs.«01_k».proof.Proof.Reals
public import proofs.«01_k».proof.Proof.Pre.Kernel
public import proofs.«01_k».proof.Proof.Pre.Ref
public import Idealize.ShloMosaic.Lib.StableHlo.ReadAt

@[expose] public section

set_option maxRecDepth 16384

noncomputable section

/-! The attention's projections: kernel and reference end with the same arrays. -/

namespace Cert.PreClaim

open Idealize.ShloMosaic Idealize.ShloMosaic.TcCoe Idealize.SL.Sem
open Cert.Reals Cert.PreIdeal Cert.PreIdeal.Gen Cert.PreRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1x1024 .f32 := m ((c : Thread nD τ).loc main_arg1)
abbrev a2 : FVec Ideal S1x1024 .f32 := m ((c : Thread nD τ).loc main_arg2)
abbrev a3 : FVec Ideal S1x256 .f32 := m ((c : Thread nD τ).loc main_arg3)
abbrev a4 : FVec Ideal S1x384 .f32 := m ((c : Thread nD τ).loc main_arg4)
abbrev a5 : FVec Ideal S1024x256 .bf16 := m ((c : Thread nD τ).loc main_arg5)
abbrev a6 : FVec Ideal S1024x64 .bf16 := m ((c : Thread nD τ).loc main_arg6)
abbrev a7 : FVec Ideal S256x1024 .bf16 := m ((c : Thread nD τ).loc main_arg7)
abbrev a8 : FVec Ideal S256x1024 .bf16 := m ((c : Thread nD τ).loc main_arg8)
abbrev a9 : FVec Ideal S1024x384 .bf16 := m ((c : Thread nD τ).loc main_arg9)
abbrev a10 : FVec Ideal S384x1536 .bf16 := m ((c : Thread nD τ).loc main_arg10)
abbrev a11 : Vec Ideal S2048 .i32 := m ((c : Thread nD τ).loc main_arg11)

/-- What the host hands the launch: these arguments as they are. -/
theorem hA_eq : Val.hA m c = a0 m c := by
  unfold Val.hA
  entry_read
  rfl

theorem gkvA_eq : Val.gkvA m c = a1 m c := by
  unfold Val.gkvA
  entry_read
  rfl

theorem gqA_eq : Val.gqA m c = a2 m c := by
  unfold Val.gqA
  entry_read
  rfl

theorem gkvlA_eq : Val.gkvlA m c = a3 m c := by
  unfold Val.gkvlA
  entry_read
  rfl

theorem gqlA_eq : Val.gqlA m c = a4 m c := by
  unfold Val.gqlA
  entry_read
  rfl

theorem wdkvA_eq : Val.wdkvA m c = a5 m c := by
  unfold Val.wdkvA
  entry_read
  rfl

theorem wukA_eq : Val.wukA m c = a7 m c := by
  unfold Val.wukA
  entry_read
  rfl

theorem wuvA_eq : Val.wuvA m c = a8 m c := by
  unfold Val.wuvA
  entry_read
  rfl

theorem wdqA_eq : Val.wdqA m c = a9 m c := by
  unfold Val.wdqA
  entry_read
  rfl

/-- The key's matrix and the queries', turned over and padded with zeros. -/
theorem wkrA_at (l : Fin 64) (k : Fin 1024) : Val.wkrA m c (ix2 ⟨l.val, by omega⟩ k) = a6 m c (ix2 k l) := by
  unfold Val.wkrA
  iterate 3
    try simp only [Matrix.cons_val_zero, Matrix.cons_val_one, Matrix.cons_val]
    try after_reads_at

theorem wuqA_at (h : Fin 8) (e : Fin 192) (k : Fin 384) :
    Val.wuqA m c (ix3 h ⟨e.val, by omega⟩ k) = a10 m c (ix2 k ⟨h.val * 192 + e.val, by omega⟩) := by
  unfold Val.wuqA
  iterate 3
    try simp only [Matrix.cons_val_zero, Matrix.cons_val_one, Matrix.cons_val]
    try after_reads_at

/-- The padding's zero. -/
theorem zero_pad : FloatOps.sitofp (F := Ideal) .f32 (0#32) = (0 : EReal) := by
  change ((((0#32).toInt : ℤ) : ℝ) : EReal) = 0
  simp

/-- The three tables of the angles. -/
theorem cosA_at (t : Fin 2048) (l : Fin 128) :
    Val.cosA m c (ix2 t l) = if l.val < 64 then Ideal.cos (Cert.PreRefIdeal.Val.angle (a11 m c) t ⟨l.val % 32, Nat.mod_lt _ (by decide)⟩) else 0 := by
  unfold Val.cosA
  iterate 3
    try simp only [Matrix.cons_val_zero, Matrix.cons_val_one, Matrix.cons_val]
    try after_reads_at
  split_ifs with h h1
  · simp only [show l.val % 32 = l.val by omega]
    rfl
  · simp only [show l.val % 32 = l.val - 32 by omega]
    rfl
  · exact zero_pad

theorem sinA_at (t : Fin 2048) (l : Fin 128) :
    Val.sinA m c (ix2 t l) = if h : l.val < 32 then -Ideal.sin (Cert.PreRefIdeal.Val.angle (a11 m c) t ⟨l.val, h⟩) else 0 := by
  unfold Val.sinA
  iterate 3
    try simp only [Matrix.cons_val_zero, Matrix.cons_val_one, Matrix.cons_val]
    try after_reads_at
  split_ifs with h
  · rfl
  · exact zero_pad

theorem sinB_at (t : Fin 2048) (l : Fin 128) :
    Val.sinB m c (ix2 t l) = if h : 32 ≤ l.val ∧ l.val < 64 then Ideal.sin (Cert.PreRefIdeal.Val.angle (a11 m c) t ⟨l.val - 32, by omega⟩) else 0 := by
  unfold Val.sinB
  iterate 3
    try simp only [Matrix.cons_val_zero, Matrix.cons_val_one, Matrix.cons_val]
    try after_reads_at
  by_cases h : 32 ≤ l.val ∧ l.val < 64
  · exact (dif_pos (show 32 ≤ l.val ∧ l.val - 32 < 32 by omega)).trans (by rw [dif_pos h]; rfl)
  · exact (dif_neg (show ¬ (32 ≤ l.val ∧ l.val - 32 < 32) by omega)).trans (by rw [dif_neg h]; exact zero_pad)

/-- The normed hidden states and the latents, of the arguments. -/
theorem hk_eq : Val.hk m c = Cert.PreRefIdeal.Val.hk (a0 m c) (a1 m c) := by
  funext t d
  rw [Val.hk, hA_eq, gkvA_eq]
  rfl

theorem hq_eq : Val.hq m c = Cert.PreRefIdeal.Val.hk (a0 m c) (a2 m c) := by
  funext t d
  rw [Val.hq, hA_eq, gqA_eq]
  rfl

theorem kvRaw_eq : Val.kvRaw m c = Cert.PreRefIdeal.Val.kvRaw (a0 m c) (a1 m c) (a5 m c) := by
  funext t d
  rw [Val.kvRaw, hk_eq, wdkvA_eq]
  rfl

theorem kv_eq : Val.kv m c = Cert.PreRefIdeal.Val.kv (a0 m c) (a1 m c) (a3 m c) (a5 m c) := by
  funext t d
  rw [Val.kv, kvRaw_eq, gkvlA_eq]
  rfl

theorem qRaw_eq : Val.qRaw m c = Cert.PreRefIdeal.Val.qRaw (a0 m c) (a2 m c) (a9 m c) := by
  funext t d
  rw [Val.qRaw, hq_eq, wdqA_eq]
  rfl

theorem ql_eq : Val.ql m c = Cert.PreRefIdeal.Val.ql (a0 m c) (a2 m c) (a4 m c) (a9 m c) := by
  funext t d
  rw [Val.ql, qRaw_eq, gqlA_eq]
  rfl

theorem out0 : (dats m 0 c).arrAt 14 cfg0.N = val_main_v132 (F := Ideal) (a0 m c) (a1 m c) := by
  funext i
  idx_vars i
  rw [Val.final14, hk_eq]
  exact (Cert.PreRefIdeal.Val.v22_eq ..).symm

theorem out1 : (dats m 0 c).arrAt 15 cfg0.N = val_main_v133 (F := Ideal) (a0 m c) (a2 m c) := by
  funext i
  idx_vars i
  rw [Val.final15, hq_eq]
  exact (Cert.PreRefIdeal.Val.v35_eq ..).symm

theorem out2 : (dats m 0 c).arrAt 16 cfg0.N = val_main_v36 (F := Ideal) (a0 m c) (a1 m c) (a5 m c) := by
  funext i
  idx_vars i
  rw [Val.final16, kvRaw_eq]
  exact (Cert.PreRefIdeal.Val.v36_eq ..).symm

theorem out3 : (dats m 0 c).arrAt 17 cfg0.N = val_main_v134 (F := Ideal) (a0 m c) (a1 m c) (a3 m c) (a5 m c) := by
  funext i
  idx_vars i
  rw [Val.final17, kv_eq]
  exact (Cert.PreRefIdeal.Val.v49_eq ..).symm

theorem out4 : (dats m 0 c).arrAt 18 cfg0.N = val_main_v136 (F := Ideal) (a0 m c) (a1 m c) (a6 m c) (a11 m c) := by
  funext i
  idx_vars i
  rw [Val.final18, Val.key]
  simp only [hk_eq]
  refine (Cert.Pre.turned_eq (ρ := fun l => ∑ k : Fin 1024, Cert.PreRefIdeal.Val.hk (a0 m c) (a1 m c) i0 k * a6 m c (ix2 k l))
    (co := fun j => Ideal.cos (Cert.PreRefIdeal.Val.angle (a11 m c) i0 j)) (si := fun j => Ideal.sin (Cert.PreRefIdeal.Val.angle (a11 m c) i0 j))
    (fun l => Finset.sum_congr rfl fun k _ => congrArg _ (wkrA_at m c l k)) (cosA_at m c i0) (sinA_at m c i0) (sinB_at m c i0) i1).trans ?_
  pointwise [val_main_v136, val_main_v135]
  simp only [Cert.PreRefIdeal.Val.v74_eq]
  split_ifs with h
  · rfl
  · exact zero_pad.symm

theorem out5 : (dats m 0 c).arrAt 19 cfg0.N = val_main_v138 (F := Ideal) (a0 m c) (a1 m c) (a3 m c) (a5 m c) (a7 m c) := by
  funext i
  idx_vars i
  rw [Val.final19, Val.kn, kv_eq, wukA_eq]
  exact (Cert.PreRefIdeal.Val.v137_eq ..).symm

theorem out6 : (dats m 0 c).arrAt 20 cfg0.N = val_main_v140 (F := Ideal) (a0 m c) (a1 m c) (a3 m c) (a5 m c) (a8 m c) := by
  funext i
  idx_vars i
  rw [Val.final20, Val.vs, kv_eq, wuvA_eq]
  exact (Cert.PreRefIdeal.Val.v139_eq ..).symm

theorem out7 : (dats m 0 c).arrAt 21 cfg0.N = val_main_v75 (F := Ideal) (a0 m c) (a2 m c) (a9 m c) := by
  funext i
  idx_vars i
  rw [Val.final21, qRaw_eq]
  exact (Cert.PreRefIdeal.Val.v75_eq ..).symm

theorem out8 : (dats m 0 c).arrAt 22 cfg0.N = val_main_v141 (F := Ideal) (a0 m c) (a2 m c) (a4 m c) (a9 m c) := by
  funext i
  idx_vars i
  rw [Val.final22, ql_eq]
  exact (Cert.PreRefIdeal.Val.v88_eq ..).symm

theorem out9 : (dats m 0 c).arrAt 23 cfg0.N = val_main_v142 (F := Ideal) (a0 m c) (a2 m c) (a4 m c) (a9 m c) (a10 m c) (a11 m c) := by
  funext i
  idx_vars i
  rw [Val.final23, Val.qs, ql_eq]
  refine (Cert.Pre.query_eq (u := Cert.PreRefIdeal.Val.up (a0 m c) (a2 m c) (a4 m c) (a9 m c) (a10 m c) i1 i0)
    (co := fun j => Ideal.cos (Cert.PreRefIdeal.Val.angle (a11 m c) i1 j)) (si := fun j => Ideal.sin (Cert.PreRefIdeal.Val.angle (a11 m c) i1 j))
    (fun e => Finset.sum_congr rfl fun k _ => congrArg _ (wuqA_at m c i0 e k)) (cosA_at m c i1) (sinA_at m c i1) (sinB_at m c i1) i2).trans ?_
  exact (Cert.PreRefIdeal.Val.v131_eq ..).symm

/-- The reference's run, its results as the stages of its arguments. -/
theorem reference (m' : (ℓ : Loc Cert.PreRefIdeal.nD Cert.PreRefIdeal.τ Cert.PreRefIdeal.sig) → Buf (Elt Ideal) ℓ) (g' : Dev Cert.PreRefIdeal.nD → PrngReg) :
    θ_run (Cert.PreRefIdeal.defs (F := Ideal)) (onTc (τ := Cert.PreRefIdeal.τ) (Cert.PreRefIdeal.main (F := Ideal))) ⟨m', fun _ => 0, g'⟩ fun r => ∀ c : Dev Cert.PreRefIdeal.nD,
      let a (b : Ref Cert.PreRefIdeal.sig .tc) := m' ((c.tc : Thread Cert.PreRefIdeal.nD Cert.PreRefIdeal.τ).loc b)
      let o (b : Ref Cert.PreRefIdeal.sig .tc) := r.2.mem ((c.tc : Thread Cert.PreRefIdeal.nD Cert.PreRefIdeal.τ).loc b)
      (o Cert.PreRefIdeal.main_v132 = val_main_v132 (F := Ideal) (a Cert.PreRefIdeal.main_arg0) (a Cert.PreRefIdeal.main_arg1)
      ∧ o Cert.PreRefIdeal.main_v133 = val_main_v133 (F := Ideal) (a Cert.PreRefIdeal.main_arg0) (a Cert.PreRefIdeal.main_arg2)
      ∧ o Cert.PreRefIdeal.main_v36 = val_main_v36 (F := Ideal) (a Cert.PreRefIdeal.main_arg0) (a Cert.PreRefIdeal.main_arg1) (a Cert.PreRefIdeal.main_arg5)
      ∧ o Cert.PreRefIdeal.main_v134 = val_main_v134 (F := Ideal) (a Cert.PreRefIdeal.main_arg0) (a Cert.PreRefIdeal.main_arg1) (a Cert.PreRefIdeal.main_arg3) (a Cert.PreRefIdeal.main_arg5)
      ∧ o Cert.PreRefIdeal.main_v136 = val_main_v136 (F := Ideal) (a Cert.PreRefIdeal.main_arg0) (a Cert.PreRefIdeal.main_arg1) (a Cert.PreRefIdeal.main_arg6) (a Cert.PreRefIdeal.main_arg11)
      ∧ o Cert.PreRefIdeal.main_v138 = val_main_v138 (F := Ideal) (a Cert.PreRefIdeal.main_arg0) (a Cert.PreRefIdeal.main_arg1) (a Cert.PreRefIdeal.main_arg3) (a Cert.PreRefIdeal.main_arg5) (a Cert.PreRefIdeal.main_arg7)
      ∧ o Cert.PreRefIdeal.main_v140 = val_main_v140 (F := Ideal) (a Cert.PreRefIdeal.main_arg0) (a Cert.PreRefIdeal.main_arg1) (a Cert.PreRefIdeal.main_arg3) (a Cert.PreRefIdeal.main_arg5) (a Cert.PreRefIdeal.main_arg8)
      ∧ o Cert.PreRefIdeal.main_v75 = val_main_v75 (F := Ideal) (a Cert.PreRefIdeal.main_arg0) (a Cert.PreRefIdeal.main_arg2) (a Cert.PreRefIdeal.main_arg9)
      ∧ o Cert.PreRefIdeal.main_v141 = val_main_v141 (F := Ideal) (a Cert.PreRefIdeal.main_arg0) (a Cert.PreRefIdeal.main_arg2) (a Cert.PreRefIdeal.main_arg4) (a Cert.PreRefIdeal.main_arg9)
      ∧ o Cert.PreRefIdeal.main_v142 = val_main_v142 (F := Ideal) (a Cert.PreRefIdeal.main_arg0) (a Cert.PreRefIdeal.main_arg2) (a Cert.PreRefIdeal.main_arg4) (a Cert.PreRefIdeal.main_arg9) (a Cert.PreRefIdeal.main_arg10) (a Cert.PreRefIdeal.main_arg11))
      ∧ o Cert.PreRefIdeal.main_arg0 = a Cert.PreRefIdeal.main_arg0 ∧ o Cert.PreRefIdeal.main_arg1 = a Cert.PreRefIdeal.main_arg1 ∧ o Cert.PreRefIdeal.main_arg2 = a Cert.PreRefIdeal.main_arg2 ∧ o Cert.PreRefIdeal.main_arg3 = a Cert.PreRefIdeal.main_arg3 ∧ o Cert.PreRefIdeal.main_arg4 = a Cert.PreRefIdeal.main_arg4 ∧ o Cert.PreRefIdeal.main_arg5 = a Cert.PreRefIdeal.main_arg5 ∧ o Cert.PreRefIdeal.main_arg6 = a Cert.PreRefIdeal.main_arg6 ∧ o Cert.PreRefIdeal.main_arg7 = a Cert.PreRefIdeal.main_arg7 ∧ o Cert.PreRefIdeal.main_arg8 = a Cert.PreRefIdeal.main_arg8 ∧ o Cert.PreRefIdeal.main_arg9 = a Cert.PreRefIdeal.main_arg9 ∧ o Cert.PreRefIdeal.main_arg10 = a Cert.PreRefIdeal.main_arg10 ∧ o Cert.PreRefIdeal.main_arg11 = a Cert.PreRefIdeal.main_arg11 :=
  (θ_run Cert.PreRefIdeal.defs _ _).mono (fun r h c => ⟨⟨(h c).1.trans (val_main_v132_eq _ _),
    (h c).2.1.trans (val_main_v133_eq _ _),
    (h c).2.2.1.trans (val_main_v36_eq _ _ _),
    (h c).2.2.2.1.trans (val_main_v134_eq _ _ _ _),
    (h c).2.2.2.2.1.trans (val_main_v136_eq m' c),
    (h c).2.2.2.2.2.1.trans (val_main_v138_eq _ _ _ _ _),
    (h c).2.2.2.2.2.2.1.trans (val_main_v140_eq _ _ _ _ _),
    (h c).2.2.2.2.2.2.2.1.trans (val_main_v75_eq _ _ _),
    (h c).2.2.2.2.2.2.2.2.1.trans (val_main_v141_eq _ _ _ _),
    (h c).2.2.2.2.2.2.2.2.2.1.trans (val_main_v142_eq m' c)⟩, (h c).2.2.2.2.2.2.2.2.2.2⟩) (Cert.PreRefIdeal.Value.run m' g')

/-- Kernel and reference agree at the extended reals. -/
theorem algebraic : Cert.algebraic_PreIdeal_PreRefIdeal := by
  intro m g m' g' _ hagree
  refine ⟨_, _, _, _, _, _, _, _, _, _, Cert.PreIdeal.Value.run_blocks m g, (θ_run Cert.PreRefIdeal.defs _ _).mono (fun r h c => ?_) (reference m' g')⟩
  obtain ⟨e0, e1, e2, e3, e4, e5, e6, e7, e8, e9, e10, e11⟩ := hagree c
  obtain ⟨⟨h0, h1, h2, h3, h4, h5, h6, h7, h8, h9⟩, kept⟩ := h c
  dsimp only at h0 h1 h2 h3 h4 h5 h6 h7 h8 h9
  rw [e0, e1] at h0
  rw [e0, e2] at h1
  rw [e0, e1, e5] at h2
  rw [e0, e1, e3, e5] at h3
  rw [e0, e1, e6, e11] at h4
  rw [e0, e1, e3, e5, e7] at h5
  rw [e0, e1, e3, e5, e8] at h6
  rw [e0, e2, e9] at h7
  rw [e0, e2, e4, e9] at h8
  rw [e0, e2, e4, e9, e10, e11] at h9
  exact ⟨h0.trans (out0 m c).symm, h1.trans (out1 m c).symm, h2.trans (out2 m c).symm, h3.trans (out3 m c).symm, h4.trans (out4 m c).symm, h5.trans (out5 m c).symm, h6.trans (out6 m c).symm, h7.trans (out7 m c).symm, h8.trans (out8 m c).symm, h9.trans (out9 m c).symm, kept⟩

end Cert.PreClaim

end
-- ==== Proof.Tables.Kernel.lean ====
module

public import proofs.«01_k».proof.Proof.Gen.TablesIdeal.Value
public import proofs.«01_k».proof.Proof.Norm.Spec

@[expose] public section

set_option maxRecDepth 16384

noncomputable section

/-! What the rotary tables' launch leaves in its three arrays, entry by entry. -/

namespace Cert.TablesIdeal.Val

open Cert.TablesIdeal Cert.TablesIdeal.Gen Cert.Norm Idealize.ShloMosaic Idealize.ShloMosaic.TcCoe Idealize.SL.Sem

variable (m : (ℓ : Loc nD τ sig) → Buf (Elt Ideal) ℓ) (c : Dev nD)

/-- The positions and the frequencies as the launch finds them. -/
abbrev pA : (⟨2, ![2048, 1]⟩ : Shape).Idx → BitVec 32 := V m c main_v10
abbrev fA : (⟨2, ![1, 128]⟩ : Shape).Idx → EReal := V m c main_v9

/-- The angle of a position and a lane. -/
def angle (t : Fin 2048) (l : Fin 128) : EReal := FloatOps.sitofp (F := Ideal) .f32 (pA m c (ix2 t 0)) * fA m c (ix2 0 l)

def cosT (t : Fin 2048) (l : Fin 128) : EReal := if l.val < 64 then Ideal.cos (angle m c t l) else 0
def negT (t : Fin 2048) (l : Fin 128) : EReal := if l.val < 32 then -Ideal.sin (angle m c t l) else 0
def sinT (t : Fin 2048) (l : Fin 128) : EReal := if 32 ≤ l.val ∧ l.val < 64 then Ideal.sin (angle m c t l) else 0

/-- Every window has one block, the whole array. -/
theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The comparisons of a lane's number. -/
theorem lane : ∀ l : Fin 128, IntOp.cmpi .slt (BitVec.ofNat 32 l.val) 64#32 = (if l.val < 64 then 1#1 else 0#1)
    ∧ IntOp.cmpi .slt (BitVec.ofNat 32 l.val) 32#32 = (if l.val < 32 then 1#1 else 0#1)
    ∧ IntOp.andi (IntOp.cmpi .sge (BitVec.ofNat 32 l.val) 32#32) (IntOp.cmpi .slt (BitVec.ofNat 32 l.val) 64#32) = (if 32 ≤ l.val ∧ l.val < 64 then 1#1 else 0#1) := by
  decide +kernel

theorem select_if (p : Prop) [Decidable p] (a b : EReal) : Scalar.select (if p then 1#1 else 0#1) a b = if p then a else b := by
  split_ifs <;> rfl

variable (t : Fin cfg0.N) (r : Fin 2048) (l : Fin 128)

theorem pos_eq : iblk m c 0 t (ix2 r 0) = pA m c (ix2 r 0) := by blk_ext [iblk, idx t]
theorem freq_eq : iblk m c 1 t (ix2 0 l) = fA m c (ix2 0 l) := by blk_ext [iblk, idx t]

theorem pay3_eq : k0_pay3 (iblk m c 0 t) (iblk m c 1 t) (ix2 r l) = cosT m c r l := by
  pointwise [k0_pay3, k0_pay1]
  simp only [pos_eq, freq_eq]
  rw [(lane l).1, select_if]
  rfl

theorem pay4_eq : k0_pay4 (iblk m c 0 t) (iblk m c 1 t) (ix2 r l) = negT m c r l := by
  pointwise [k0_pay4, k0_pay2, k0_pay1]
  simp only [pos_eq, freq_eq]
  rw [(lane l).2.1, select_if, zero_sub]
  rfl

theorem pay5_eq : k0_pay5 (iblk m c 0 t) (iblk m c 1 t) (ix2 r l) = sinT m c r l := by
  pointwise [k0_pay5, k0_pay2, k0_pay1]
  simp only [pos_eq, freq_eq]
  rw [(lane l).2.2, select_if]
  rfl

theorem final2 : (dats m 0 c).arrAt 2 cfg0.N (ix2 r l) = cosT m c r l := by
  refine congrFun ((dats m 0 c).arrAt_eq_of_covers 2 (fun i => cosT m c (i 0) (i 1)) (by decide +kernel) fun t hf y => ?_) (ix2 r l)
  idx_vars y
  blk_simp
  rw [after0_2, show (win0_2.blk t).view.emb (ix2 y0 y1) = ix2 y0 y1 by blk_ext [idx t]]
  frame_out
  exact pay3_eq m c t y0 y1

theorem final3 : (dats m 0 c).arrAt 3 cfg0.N (ix2 r l) = negT m c r l := by
  refine congrFun ((dats m 0 c).arrAt_eq_of_covers 3 (fun i => negT m c (i 0) (i 1)) (by decide +kernel) fun t hf y => ?_) (ix2 r l)
  idx_vars y
  blk_simp
  rw [after0_3, show (win0_3.blk t).view.emb (ix2 y0 y1) = ix2 y0 y1 by blk_ext [idx t]]
  frame_out
  exact pay4_eq m c t y0 y1

theorem final4 : (dats m 0 c).arrAt 4 cfg0.N (ix2 r l) = sinT m c r l := by
  refine congrFun ((dats m 0 c).arrAt_eq_of_covers 4 (fun i => sinT m c (i 0) (i 1)) (by decide +kernel) fun t hf y => ?_) (ix2 r l)
  idx_vars y
  blk_simp
  rw [after0_4, show (win0_4.blk t).view.emb (ix2 y0 y1) = ix2 y0 y1 by blk_ext [idx t]]
  frame_out
  exact pay5_eq m c t y0 y1

end Cert.TablesIdeal.Val

end
-- ==== Proof.Tables.Ref.lean ====
module

public import proofs.«01_k».proof.Proof.Gen.TablesRefIdeal.Read
public import proofs.«01_k».proof.Proof.Pre.Ref

@[expose] public section

set_option maxRecDepth 16384

noncomputable section

/-! The three tables the reference makes, entry by entry. -/

namespace Cert.TablesRefIdeal.Val

open Cert.TablesRefIdeal Cert.TablesRefIdeal.Read Idealize.ShloMosaic Idealize.ShloMosaic.TcCoe Idealize.SL.Sem
open Cert.PreRefIdeal.Val (angle)

variable (x0 : Vec Ideal S2048 .i32) (t : Fin 2048)

theorem v12_eq (j : Fin 32) : val_main_v12 (F := Ideal) x0 (ix2 t j) = angle x0 t j := by
  pointwise [val_main_v12, val_main_v11, val_main_v10, val_main_v9, val_main_v8, val_main_v7, val_main_v6, val_main_v5, val_main_cst_1, val_main_v4, val_main_v3, val_main_cst_0, val_main_v2, val_main_v1, val_main_cst, val_main_v0]
  rfl

/-- The cosines twice and zeros; the negated sines and zeros; the sines between zeros. -/
theorem v17_eq (l : Fin 128) : val_main_v17 (F := Ideal) x0 (ix2 t l) = if l.val < 64 then Ideal.cos (angle x0 t ⟨l.val % 32, Nat.mod_lt _ (by decide)⟩) else 0 := by
  pointwise [val_main_v17, val_main_v16, val_main_v13, val_main_cst_3]
  simp only [v12_eq]
  by_cases h1 : l.val < 32
  · simp only [h1, show l.val < 64 by omega, show l.val % 32 = l.val by omega, dif_pos, if_pos]
  · by_cases h2 : l.val < 64
    · simp only [h1, h2, show l.val - 32 < 32 by omega, show l.val % 32 = l.val - 32 by omega, dif_pos, dif_neg, if_pos, not_false_eq_true]
    · simp only [h1, h2, show ¬ l.val - 32 < 32 by omega, dif_neg, if_neg, not_false_eq_true]

theorem v19_eq (l : Fin 128) : val_main_v19 (F := Ideal) x0 (ix2 t l) = if h : l.val < 32 then -Ideal.sin (angle x0 t ⟨l.val, h⟩) else 0 := by
  pointwise [val_main_v19, val_main_v18, val_main_v16, val_main_v15, val_main_v14, val_main_cst_2, val_main_cst_3]
  simp only [v12_eq]
  by_cases h1 : l.val < 32
  · simp only [h1, dif_pos]
  · simp only [h1, dif_neg, not_false_eq_true, dite_eq_ite, ite_self]

theorem v20_eq (l : Fin 128) : val_main_v20 (F := Ideal) x0 (ix2 t l) = if h : 32 ≤ l.val ∧ l.val < 64 then Ideal.sin (angle x0 t ⟨l.val - 32, by omega⟩) else 0 := by
  pointwise [val_main_v20, val_main_v16, val_main_v15, val_main_v14, val_main_cst_2, val_main_cst_3]
  simp only [v12_eq]
  by_cases h1 : l.val < 32
  · simp only [h1, show ¬ 32 ≤ l.val by omega, false_and, dif_pos, dif_neg, not_false_eq_true]
  · by_cases h2 : l.val < 64
    · simp only [h1, h2, show l.val - 32 < 32 by omega, show 32 ≤ l.val by omega, and_self, dif_pos, dif_neg, not_false_eq_true]
    · simp only [h1, h2, show ¬ l.val - 32 < 32 by omega, and_false, dif_neg, not_false_eq_true]

end Cert.TablesRefIdeal.Val

end
-- ==== Proof.Tables.Claim.lean ====
module

public import proofs.«01_k».proof.Defs
public import proofs.«01_k».proof.Proof.Norm.Spec
public import proofs.«01_k».proof.Proof.Reals
public import proofs.«01_k».proof.Proof.Tables.Kernel
public import proofs.«01_k».proof.Proof.Tables.Ref
public import Idealize.ShloMosaic.Lib.StableHlo.ReadAt

@[expose] public section

set_option maxRecDepth 16384

noncomputable section

/-! The rotary tables: kernel and reference end with the same arrays. -/

namespace Cert.TablesClaim

open Idealize.ShloMosaic Idealize.ShloMosaic.TcCoe Idealize.SL.Sem
open Cert.Reals Cert.TablesIdeal Cert.TablesIdeal.Gen Cert.TablesRefIdeal.Read

variable (m : (ℓ : Loc nD τ sig) → Buf (Elt Ideal) ℓ) (c : Dev nD)

/-- The kernel's own arguments. -/
abbrev a0 : Vec Ideal S2048 .i32 := m ((c : Thread nD τ).loc main_arg0)

/-- The positions and the frequencies, of the arguments. -/
theorem pA_at (t : Fin 2048) : Val.pA m c (ix2 t 0) = a0 m c (ix1 t) := by
  unfold Val.pA
  iterate 3
    try simp only [Matrix.cons_val_zero, Matrix.cons_val_one, Matrix.cons_val]
    try after_reads_at

theorem angle_eq (t : Fin 2048) (l : Fin 128) (h : l.val < 64) : Val.angle m c t l = Cert.PreRefIdeal.Val.angle (a0 m c) t ⟨l.val % 32, Nat.mod_lt _ (by decide)⟩ := by
  rw [Val.angle, pA_at]
  refine congrArg (_ * ·) ?_
  unfold Val.fA
  iterate 3
    try simp only [Matrix.cons_val_zero, Matrix.cons_val_one, Matrix.cons_val]
    try after_reads_at
  by_cases h1 : l.val < 32
  · simp only [h1, dif_pos, show l.val % 32 = l.val by omega]
  · simp only [h1, dif_neg, dif_pos, not_false_eq_true, show l.val - 32 < 32 by omega, show l.val % 32 = l.val - 32 by omega]

theorem out0 : (dats m 0 c).arrAt 2 cfg0.N = val_main_v17 (F := Ideal) (a0 m c) := by
  funext i
  idx_vars i
  refine (Val.final2 ..).trans (Eq.trans ?_ (Cert.TablesRefIdeal.Val.v17_eq ..).symm)
  unfold Val.cosT
  split_ifs with h
  · rw [angle_eq m c i0 i1 h]
  · rfl

theorem out1 : (dats m 0 c).arrAt 3 cfg0.N = val_main_v19 (F := Ideal) (a0 m c) := by
  funext i
  idx_vars i
  refine (Val.final3 ..).trans (Eq.trans ?_ (Cert.TablesRefIdeal.Val.v19_eq ..).symm)
  unfold Val.negT
  split_ifs with h
  · rw [angle_eq m c i0 i1 (by omega)]
    simp only [show i1.val % 32 = i1.val by omega]
  · rfl

theorem out2 : (dats m 0 c).arrAt 4 cfg0.N = val_main_v20 (F := Ideal) (a0 m c) := by
  funext i
  idx_vars i
  refine (Val.final4 ..).trans (Eq.trans ?_ (Cert.TablesRefIdeal.Val.v20_eq ..).symm)
  unfold Val.sinT
  split_ifs with h
  · rw [angle_eq m c i0 i1 h.2]
    simp only [show i1.val % 32 = i1.val - 32 by omega]
  · rfl

/-- The reference's run, its results as the stages of its arguments. -/
theorem reference (m' : (ℓ : Loc Cert.TablesRefIdeal.nD Cert.TablesRefIdeal.τ Cert.TablesRefIdeal.sig) → Buf (Elt Ideal) ℓ) (g' : Dev Cert.TablesRefIdeal.nD → PrngReg) :
    θ_run (Cert.TablesRefIdeal.defs (F := Ideal)) (onTc (τ := Cert.TablesRefIdeal.τ) (Cert.TablesRefIdeal.main (F := Ideal))) ⟨m', fun _ => 0, g'⟩ fun r => ∀ c : Dev Cert.TablesRefIdeal.nD,
      let a (b : Ref Cert.TablesRefIdeal.sig .tc) := m' ((c.tc : Thread Cert.TablesRefIdeal.nD Cert.TablesRefIdeal.τ).loc b)
      let o (b : Ref Cert.TablesRefIdeal.sig .tc) := r.2.mem ((c.tc : Thread Cert.TablesRefIdeal.nD Cert.TablesRefIdeal.τ).loc b)
      (o Cert.TablesRefIdeal.main_v17 = val_main_v17 (F := Ideal) (a Cert.TablesRefIdeal.main_arg0)
      ∧ o Cert.TablesRefIdeal.main_v19 = val_main_v19 (F := Ideal) (a Cert.TablesRefIdeal.main_arg0)
      ∧ o Cert.TablesRefIdeal.main_v20 = val_main_v20 (F := Ideal) (a Cert.TablesRefIdeal.main_arg0))
      ∧ o Cert.TablesRefIdeal.main_arg0 = a Cert.TablesRefIdeal.main_arg0 :=
  (θ_run Cert.TablesRefIdeal.defs _ _).mono (fun r h c => ⟨⟨(h c).1.trans (val_main_v17_eq _),
    (h c).2.1.trans (val_main_v19_eq _),
    (h c).2.2.1.trans (val_main_v20_eq _)⟩, (h c).2.2.2⟩) (Cert.TablesRefIdeal.Value.run m' g')

/-- Kernel and reference agree at the extended reals. -/
theorem algebraic : Cert.algebraic_TablesIdeal_TablesRefIdeal := by
  intro m g m' g' _ hagree
  refine ⟨_, _, _, Cert.TablesIdeal.Value.run_blocks m g, (θ_run Cert.TablesRefIdeal.defs _ _).mono (fun r h c => ?_) (reference m' g')⟩
  have e0 := hagree c
  obtain ⟨⟨h0, h1, h2⟩, kept⟩ := h c
  dsimp only at h0 h1 h2
  rw [e0] at h0
  rw [e0] at h1
  rw [e0] at h2
  exact ⟨h0.trans (out0 m c).symm, h1.trans (out1 m c).symm, h2.trans (out2 m c).symm, kept⟩

end Cert.TablesClaim

end
-- ==== Proof.Rows.Kernel.lean ====
module

public import proofs.«01_k».proof.Proof.Gen.RowsIdeal.Value
public import proofs.«01_k».proof.Proof.Norm.Forward

@[expose] public section

set_option maxRecDepth 16384

noncomputable section

/-! The kernel's result, entry by entry. -/

namespace Cert.RowsIdeal.Val

open Cert.RowsIdeal Cert.RowsIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev yA (c : Dev nD) : Norm.A := V m c main_v0
abbrev wA (c : Dev nD) : (⟨2, ![1024, 1024]⟩ : Shape).Idx → EReal := V m c main_v1
abbrev xA (c : Dev nD) : Norm.A := V m c main_arg0

/-- Where each window's block lies: the columns' half outermost, the rows' half innermost. -/
theorem idx : ∀ t : Fin cfg0.N, win0_0.index t = ![t.val % 2, 0] ∧ win0_1.index t = ![0, t.val / 2]
    ∧ win0_2.index t = ![t.val % 2, t.val / 2] ∧ win0_3.index t = ![t.val % 2, t.val / 2] :=
  (by decide +kernel : ∀ t : Fin grid0.N, _)

theorem lt4 (t : Fin cfg0.N) : t.val < 4 := lt_of_lt_of_eq t.isLt N_0

/-- The row's product and what is added to it. -/
def hid (c : Dev nD) (t : Fin 2048) (d : Fin 1024) : EReal := (∑ k : Fin 1024, yA m c (ix2 t k) * wA m c (ix2 k d)) + xA m c (ix2 t d)

/-- What a point stores. -/
theorem pay1_eq (c : Dev nD) (t : Fin cfg0.N) (r : Fin 1024) (d : Fin 512) (h : 1024 * (t.val % 2) + r.val < 2048) (g : 512 * (t.val / 2) + d.val < 1024) :
    k0_pay1 (iblk m c 0 t) (iblk m c 1 t) (iblk m c 2 t) (ix2 r d) = hid m c ⟨1024 * (t.val % 2) + r.val, h⟩ ⟨512 * (t.val / 2) + d.val, g⟩ := by
  pointwise [k0_pay1, hid]
  refine congrArg₂ (· + ·) (Finset.sum_congr rfl fun k _ => congrArg₂ (· * ·) ?_ ?_) ?_ <;> blk_ext [iblk, idx t]

/-- The new hidden state. -/
theorem final3 (c : Dev nD) (t : Fin 2048) (d : Fin 1024) : (dats m 0 c).arrAt 3 cfg0.N (ix2 t d) = hid m c t d := by
  refine congrFun ((dats m 0 c).arrAt_eq_of_covers 3 (fun i => hid m c (i 0) (i 1)) (by decide +kernel) fun t hf y => ?_) (ix2 t d)
  idx_vars y
  have ht := lt4 t
  blk_simp
  rw [after0_3, show (win0_3.blk t).view.emb (ix2 y0 y1) = ix2 ⟨1024 * (t.val % 2) + y0.val, by omega⟩ ⟨512 * (t.val / 2) + y1.val, by omega⟩ by blk_ext [idx t]]
  frame_out
  exact pay1_eq m c t y0 y1 (by omega) (by omega)

end Cert.RowsIdeal.Val

end
-- ==== Proof.Rows.Ref.lean ====
module

public import proofs.«01_k».proof.Proof.Gen.RowsRefIdeal.Read
public import proofs.«01_k».proof.Proof.Norm.Forward

@[expose] public section

set_option maxRecDepth 16384

noncomputable section

/-! The reference's result, entry by entry. -/

namespace Cert.RowsRefIdeal.Val

open Cert.RowsRefIdeal Cert.RowsRefIdeal.Read Cert.Norm Idealize.ShloMosaic Idealize.ShloMosaic.TcCoe Idealize.SL.Sem

variable (x0 x1 : FVec Ideal S2048x1024 .f32) (x2 : FVec Ideal S1024x1024 .f32) (t : Fin 2048) (d : Fin 1024)

/-- The new hidden state. -/
theorem v1_eq : val_main_v1 (F := Ideal) x0 x1 x2 (ix2 t d) = (∑ k : Fin 1024, x1 (ix2 t k) * x2 (ix2 k d)) + x0 (ix2 t d) := by
  pointwise [val_main_v1, val_main_v0]
  exact add_comm _ _

end Cert.RowsRefIdeal.Val

end
-- ==== Proof.Rows.Claim.lean ====
module

public import proofs.«01_k».proof.Defs
public import proofs.«01_k».proof.Proof.Norm.Spec
public import proofs.«01_k».proof.Proof.Reals
public import proofs.«01_k».proof.Proof.Rows.Kernel
public import proofs.«01_k».proof.Proof.Rows.Ref

@[expose] public section

set_option maxRecDepth 16384

noncomputable section

/-! A row's product, added to the hidden state: kernel and reference end with the same arrays. -/

namespace Cert.RowsClaim

open Idealize.ShloMosaic Idealize.ShloMosaic.TcCoe Idealize.SL.Sem
open Cert.Reals Cert.RowsIdeal Cert.RowsIdeal.Gen Cert.RowsRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S2048x1024 .f32 := m ((c : Thread nD τ).loc main_arg1)
abbrev a2 : FVec Ideal S1024x1024 .f32 := m ((c : Thread nD τ).loc main_arg2)

/-- What the host hands the launch: the arguments as they are. -/
theorem xA_eq : Val.xA m c = a0 m c := by
  unfold Val.xA
  entry_read
  rfl

theorem yA_eq : Val.yA m c = a1 m c := by
  unfold Val.yA
  entry_read
  rfl

theorem wA_eq : Val.wA m c = a2 m c := by
  unfold Val.wA
  entry_read
  rfl

theorem out0 : (dats m 0 c).arrAt 3 cfg0.N = val_main_v1 (F := Ideal) (a0 m c) (a1 m c) (a2 m c) := by
  funext i
  idx_vars i
  rw [Val.final3, Val.hid, xA_eq, yA_eq, wA_eq]
  exact (Cert.RowsRefIdeal.Val.v1_eq ..).symm

/-- The reference's run, its results as the stages of its arguments. -/
theorem reference (m' : (ℓ : Loc Cert.RowsRefIdeal.nD Cert.RowsRefIdeal.τ Cert.RowsRefIdeal.sig) → Buf (Elt Ideal) ℓ) (g' : Dev Cert.RowsRefIdeal.nD → PrngReg) :
    θ_run (Cert.RowsRefIdeal.defs (F := Ideal)) (onTc (τ := Cert.RowsRefIdeal.τ) (Cert.RowsRefIdeal.main (F := Ideal))) ⟨m', fun _ => 0, g'⟩ fun r => ∀ c : Dev Cert.RowsRefIdeal.nD,
      let a (b : Ref Cert.RowsRefIdeal.sig .tc) := m' ((c.tc : Thread Cert.RowsRefIdeal.nD Cert.RowsRefIdeal.τ).loc b)
      let o (b : Ref Cert.RowsRefIdeal.sig .tc) := r.2.mem ((c.tc : Thread Cert.RowsRefIdeal.nD Cert.RowsRefIdeal.τ).loc b)
      o Cert.RowsRefIdeal.main_v1 = val_main_v1 (F := Ideal) (a Cert.RowsRefIdeal.main_arg0) (a Cert.RowsRefIdeal.main_arg1) (a Cert.RowsRefIdeal.main_arg2)
      ∧ o Cert.RowsRefIdeal.main_arg0 = a Cert.RowsRefIdeal.main_arg0 ∧ o Cert.RowsRefIdeal.main_arg1 = a Cert.RowsRefIdeal.main_arg1 ∧ o Cert.RowsRefIdeal.main_arg2 = a Cert.RowsRefIdeal.main_arg2 :=
  (θ_run Cert.RowsRefIdeal.defs _ _).mono (fun r h c => ⟨(h c).1.trans (val_main_v1_eq _ _ _), (h c).2⟩) (Cert.RowsRefIdeal.Value.run m' g')

/-- Kernel and reference agree at the extended reals. -/
theorem algebraic : Cert.algebraic_RowsIdeal_RowsRefIdeal := by
  intro m g m' g' _ hagree
  refine ⟨_, Cert.RowsIdeal.Value.run_blocks m g, (θ_run Cert.RowsRefIdeal.defs _ _).mono (fun r h c => ?_) (reference m' g')⟩
  obtain ⟨e0, e1, e2⟩ := hagree c
  obtain ⟨h0, kept⟩ := h c
  dsimp only at h0
  rw [e0, e1, e2] at h0
  exact ⟨h0.trans (out0 m c).symm, kept⟩

end Cert.RowsClaim

end
-- ==== Proof.WGrad.Kernel.lean ====
module

public import proofs.«01_k».proof.Proof.Gen.WGradIdeal.Value
public import proofs.«01_k».proof.Proof.Norm.Forward

@[expose] public section

set_option maxRecDepth 16384

noncomputable section

/-! The kernel's result, entry by entry. -/

namespace Cert.WGradIdeal.Val

open Cert.WGradIdeal Cert.WGradIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev yA (c : Dev nD) : Norm.A := V m c main_v0
abbrev cA (c : Dev nD) : (⟨2, ![2048, 3072]⟩ : Shape).Idx → EReal := V m c main_v1

/-- Where each window's block lies. -/
theorem idx : ∀ t : Fin cfg0.N, win0_0.index t = ![0, 0] ∧ win0_1.index t = ![0, t.val] ∧ win0_2.index t = ![0, t.val] :=
  (by decide +kernel : ∀ t : Fin grid0.N, _)

theorem lt6 (t : Fin cfg0.N) : t.val < 6 := lt_of_lt_of_eq t.isLt N_0

/-- The weights' gradient: a sum over the rows. -/
def dw (c : Dev nD) (k : Fin 1024) (d : Fin 3072) : EReal := ∑ t : Fin 2048, yA m c (ix2 t k) * cA m c (ix2 t d)

/-- What a point stores. -/
theorem pay1_eq (c : Dev nD) (t : Fin cfg0.N) (k : Fin 1024) (d : Fin 512) (g : 512 * t.val + d.val < 3072) :
    k0_pay1 (iblk m c 0 t) (iblk m c 1 t) (ix2 k d) = dw m c k ⟨512 * t.val + d.val, g⟩ := by
  pointwise [k0_pay1, dw]
  refine Finset.sum_congr rfl fun k _ => congrArg₂ (· * ·) ?_ ?_ <;> blk_ext [iblk, idx t]

/-- The gradient. -/
theorem final2 (c : Dev nD) (k : Fin 1024) (d : Fin 3072) : (dats m 0 c).arrAt 2 cfg0.N (ix2 k d) = dw m c k d := by
  refine congrFun ((dats m 0 c).arrAt_eq_of_covers 2 (fun i => dw m c (i 0) (i 1)) (by decide +kernel) fun t hf y => ?_) (ix2 k d)
  idx_vars y
  have ht := lt6 t
  blk_simp
  rw [after0_2, show (win0_2.blk t).view.emb (ix2 y0 y1) = ix2 y0 ⟨512 * t.val + y1.val, by omega⟩ by blk_ext [idx t]]
  frame_out
  exact pay1_eq m c t y0 y1 (by omega)

end Cert.WGradIdeal.Val

end
-- ==== Proof.WGrad.Ref.lean ====
module

public import proofs.«01_k».proof.Proof.Gen.WGradRefIdeal.Read
public import proofs.«01_k».proof.Proof.Norm.Forward

@[expose] public section

set_option maxRecDepth 16384

noncomputable section

/-! The reference's result, entry by entry. -/

namespace Cert.WGradRefIdeal.Val

open Cert.WGradRefIdeal Cert.WGradRefIdeal.Read Cert.Norm Idealize.ShloMosaic Idealize.ShloMosaic.TcCoe Idealize.SL.Sem

variable (x0 : FVec Ideal S2048x1024 .f32) (x2 : FVec Ideal S2048x3072 .f32) (k : Fin 1024) (d : Fin 3072)

/-- The weights' gradient: a sum over the rows. -/
theorem v3_eq : val_main_v3 (F := Ideal) x0 x2 (ix2 k d) = ∑ t : Fin 2048, x0 (ix2 t k) * x2 (ix2 t d) := by
  pointwise [val_main_v3, val_main_v2, val_main_v1]
  exact Finset.sum_congr rfl fun _ _ => mul_comm _ _

end Cert.WGradRefIdeal.Val

end
-- ==== Proof.WGrad.Claim.lean ====
module

public import proofs.«01_k».proof.Defs
public import proofs.«01_k».proof.Proof.Norm.Spec
public import proofs.«01_k».proof.Proof.Reals
public import proofs.«01_k».proof.Proof.WGrad.Kernel
public import proofs.«01_k».proof.Proof.WGrad.Ref

@[expose] public section

set_option maxRecDepth 16384

noncomputable section

/-! The gradient of the mixer's input weights: kernel and reference end with the same arrays. -/

namespace Cert.WGradClaim

open Idealize.ShloMosaic Idealize.ShloMosaic.TcCoe Idealize.SL.Sem
open Cert.Reals Cert.WGradIdeal Cert.WGradIdeal.Gen Cert.WGradRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x3072 .f32 := m ((c : Thread nD τ).loc main_arg1)
abbrev a2 : FVec Ideal S2048x3072 .f32 := m ((c : Thread nD τ).loc main_arg2)

/-- What the host hands the launch: the arguments as they are. -/
theorem yA_eq : Val.yA m c = a0 m c := by
  unfold Val.yA
  entry_read
  rfl

theorem cA_eq : Val.cA m c = a2 m c := by
  unfold Val.cA
  entry_read
  rfl

theorem out0 : (dats m 0 c).arrAt 2 cfg0.N = val_main_v3 (F := Ideal) (a0 m c) (a2 m c) := by
  funext i
  idx_vars i
  rw [Val.final2, Val.dw, yA_eq, cA_eq]
  exact (Cert.WGradRefIdeal.Val.v3_eq ..).symm

/-- The reference's run, its results as the stages of its arguments. -/
theorem reference (m' : (ℓ : Loc Cert.WGradRefIdeal.nD Cert.WGradRefIdeal.τ Cert.WGradRefIdeal.sig) → Buf (Elt Ideal) ℓ) (g' : Dev Cert.WGradRefIdeal.nD → PrngReg) :
    θ_run (Cert.WGradRefIdeal.defs (F := Ideal)) (onTc (τ := Cert.WGradRefIdeal.τ) (Cert.WGradRefIdeal.main (F := Ideal))) ⟨m', fun _ => 0, g'⟩ fun r => ∀ c : Dev Cert.WGradRefIdeal.nD,
      let a (b : Ref Cert.WGradRefIdeal.sig .tc) := m' ((c.tc : Thread Cert.WGradRefIdeal.nD Cert.WGradRefIdeal.τ).loc b)
      let o (b : Ref Cert.WGradRefIdeal.sig .tc) := r.2.mem ((c.tc : Thread Cert.WGradRefIdeal.nD Cert.WGradRefIdeal.τ).loc b)
      o Cert.WGradRefIdeal.main_v3 = val_main_v3 (F := Ideal) (a Cert.WGradRefIdeal.main_arg0) (a Cert.WGradRefIdeal.main_arg2)
      ∧ o Cert.WGradRefIdeal.main_arg0 = a Cert.WGradRefIdeal.main_arg0 ∧ o Cert.WGradRefIdeal.main_arg1 = a Cert.WGradRefIdeal.main_arg1 ∧ o Cert.WGradRefIdeal.main_arg2 = a Cert.WGradRefIdeal.main_arg2 :=
  (θ_run Cert.WGradRefIdeal.defs _ _).mono (fun r h c => ⟨(h c).1.trans (val_main_v3_eq _ _), (h c).2⟩) (Cert.WGradRefIdeal.Value.run m' g')

/-- Kernel and reference agree at the extended reals. -/
theorem algebraic : Cert.algebraic_WGradIdeal_WGradRefIdeal := by
  intro m g m' g' _ hagree
  refine ⟨_, Cert.WGradIdeal.Value.run_blocks m g, (θ_run Cert.WGradRefIdeal.defs _ _).mono (fun r h c => ?_) (reference m' g')⟩
  obtain ⟨e0, e1, e2⟩ := hagree c
  obtain ⟨h0, kept⟩ := h c
  dsimp only at h0
  rw [e0, e2] at h0
  exact ⟨h0.trans (out0 m c).symm, kept⟩

end Cert.WGradClaim

end
-- ==== Proof.Gup.Kernel.lean ====
module

public import proofs.«01_k».proof.Proof.Gen.GupIdeal.Value
public import proofs.«01_k».proof.Proof.Norm.Forward

@[expose] public section

set_option maxRecDepth 16384

noncomputable section

/-! The kernel's result, entry by entry. -/

namespace Cert.GupIdeal.Val

open Cert.GupIdeal Cert.GupIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev gA (c : Dev nD) : (⟨3, ![4, 2048, 704]⟩ : Shape).Idx → EReal := V m c main_v3
abbrev vA (c : Dev nD) : (⟨3, ![4, 2048, 704]⟩ : Shape).Idx → EReal := V m c main_v7
abbrev hA (c : Dev nD) : Norm.A := V m c main_v8

/-- Where each window's block lies: a window whose blocks are done, or not yet begun, stays at its nearest one. -/
theorem idx : ∀ t : Fin cfg0.N, win0_0.index t = ![min t.val 3, 0, 0] ∧ win0_1.index t = ![t.val - 4, 0, 0] ∧ win0_2.index t = ![0, 0] ∧ win0_3.index t = ![t.val, 0, 0] :=
  (by decide +kernel : ∀ t : Fin grid0.N, _)

theorem lt8 (t : Fin cfg0.N) : t.val < 8 := lt_of_lt_of_eq t.isLt N_0

/-- The eight blocks of the cotangent: the gate's four, then the linear half's. -/
def ct (c : Dev nD) (p : Fin 8) (t : Fin 2048) (d : Fin 704) : EReal :=
  if h : p.val < 4 then gA m c (ix3 ⟨p.val, h⟩ t d) else vA m c (ix3 ⟨p.val - 4, by omega⟩ t d)

/-- The weights' gradient: a sum over the rows. -/
def dw (c : Dev nD) (p : Fin 8) (d : Fin 704) (k : Fin 1024) : EReal := ∑ t : Fin 2048, ct m c p t d * hA m c (ix2 t k)

/-- What a point stores, of the gate's half and of the linear one. -/
theorem pay1_eq (c : Dev nD) (t : Fin cfg0.N) (d : Fin 704) (k : Fin 1024) (h : t.val < 4) :
    k0_pay1 (iblk m c 0 t) (iblk m c 2 t) (ix3 0 d k) = dw m c ⟨t.val, lt8 t⟩ d k := by
  pointwise [k0_pay1, dw]
  refine Finset.sum_congr rfl fun r _ => congrArg₂ (· * ·) ?_ ?_
  · refine Eq.trans ?_ (dif_pos h).symm
    blk_ext [iblk, idx t]
  · blk_ext [iblk, idx t]

theorem pay2_eq (c : Dev nD) (t : Fin cfg0.N) (d : Fin 704) (k : Fin 1024) (h : ¬t.val < 4) :
    k0_pay2 (iblk m c 1 t) (iblk m c 2 t) (ix3 0 d k) = dw m c ⟨t.val, lt8 t⟩ d k := by
  have ht := lt8 t
  pointwise [k0_pay2, dw]
  refine Finset.sum_congr rfl fun r _ => congrArg₂ (· * ·) ?_ ?_
  · refine Eq.trans ?_ (dif_neg h).symm
    blk_ext [iblk, idx t]
  · blk_ext [iblk, idx t]

/-- The gradient, in blocks. -/
theorem final3 (c : Dev nD) (p : Fin 8) (d : Fin 704) (k : Fin 1024) : (dats m 0 c).arrAt 3 cfg0.N (ix3 p d k) = dw m c p d k := by
  refine congrFun ((dats m 0 c).arrAt_eq_of_covers 3 (fun i => dw m c (i 0) (i 1) (i 2)) (by decide +kernel) fun t hf y => ?_) (ix3 p d k)
  idx_vars y
  obtain rfl : y0 = 0 := Subsingleton.elim _ _
  have ht := lt8 t
  blk_simp
  rw [after0_3, show (win0_3.blk t).view.emb (ix3 0 y1 y2) = ix3 ⟨t.val, ht⟩ y1 y2 by blk_ext [idx t]]
  by_cases h : t.val < 4
  · rw [outsAt0_A m c t h (by omega)]
    frame_out
    exact pay1_eq m c t y1 y2 h
  · rw [outsAt0_B m c t h (by omega)]
    frame_out
    exact pay2_eq m c t y1 y2 h

end Cert.GupIdeal.Val

end
-- ==== Proof.Gup.Ref.lean ====
module

public import proofs.«01_k».proof.Proof.Gen.GupRefIdeal.Read
public import proofs.«01_k».proof.Proof.Norm.Forward

@[expose] public section

set_option maxRecDepth 16384

noncomputable section

/-! The reference's result, entry by entry. -/

namespace Cert.GupRefIdeal.Val

open Cert.GupRefIdeal Cert.GupRefIdeal.Read Cert.Norm Idealize.ShloMosaic Idealize.ShloMosaic.TcCoe Idealize.SL.Sem

variable (x0 : FVec Ideal S2048x1024 .f32) (x2 : FVec Ideal S2048x5632 .f32) (p : Fin 8) (d : Fin 704) (k : Fin 1024)

/-- The weights' gradient, in blocks: a sum over the rows. -/
theorem v5_eq : val_main_v5 (F := Ideal) x0 x2 (ix3 p d k) = ∑ t : Fin 2048, x2 (ix2 t ⟨p.val * 704 + d.val, by omega⟩) * x0 (ix2 t k) := by
  pointwise [val_main_v5, val_main_v4, val_main_v3, val_main_v2, val_main_v1]

end Cert.GupRefIdeal.Val

end
-- ==== Proof.Gup.Claim.lean ====
module

public import proofs.«01_k».proof.Defs
public import proofs.«01_k».proof.Proof.Norm.Spec
public import proofs.«01_k».proof.Proof.Reals
public import proofs.«01_k».proof.Proof.Gup.Kernel
public import proofs.«01_k».proof.Proof.Gup.Ref

@[expose] public section

set_option maxRecDepth 16384

noncomputable section

/-! The gradient of the feed-forward block's input weights: kernel and reference end with the same arrays. -/

namespace Cert.GupClaim

open Idealize.ShloMosaic Idealize.ShloMosaic.TcCoe Idealize.SL.Sem
open Cert.Reals Cert.GupIdeal Cert.GupIdeal.Gen Cert.GupRefIdeal.Read

variable (m : (ℓ : Loc nD τ sig) → Buf (Elt Ideal) ℓ) (c : Dev nD)

/-- The kernel's own arguments. -/
abbrev a0 : FVec Ideal S2048x1024 .f32 := m ((c : Thread nD τ).loc main_arg0)
abbrev a1 : FVec Ideal S1024x5632 .f32 := m ((c : Thread nD τ).loc main_arg1)
abbrev a2 : FVec Ideal S2048x5632 .f32 := m ((c : Thread nD τ).loc main_arg2)

/-- What the host hands the launch: the rows as they are, the cotangent's two halves in blocks. -/
theorem hA_eq : Val.hA m c = a0 m c := by
  unfold Val.hA
  entry_read
  rfl

theorem ct_eq (p : Fin 8) (t : Fin 2048) (d : Fin 704) : Val.ct m c p t d = a2 m c (ix2 t ⟨p.val * 704 + d.val, by omega⟩) := by
  rw [Val.ct]
  split_ifs with h
  · unfold Val.gA
    entry_read
    pointwise []
  · unfold Val.vA
    entry_read
    pointwise []
    refine congrArg (fun n => a2 m c (ix2 t n)) (Fin.ext ?_)
    dsimp only
    omega

theorem out0 : (dats m 0 c).arrAt 3 cfg0.N = val_main_v5 (F := Ideal) (a0 m c) (a2 m c) := by
  funext i
  idx_vars i
  rw [Val.final3, Val.dw, hA_eq]
  simp only [ct_eq]
  exact (Cert.GupRefIdeal.Val.v5_eq ..).symm

/-- The reference's run, its results as the stages of its arguments. -/
theorem reference (m' : (ℓ : Loc Cert.GupRefIdeal.nD Cert.GupRefIdeal.τ Cert.GupRefIdeal.sig) → Buf (Elt Ideal) ℓ) (g' : Dev Cert.GupRefIdeal.nD → PrngReg) :
    θ_run (Cert.GupRefIdeal.defs (F := Ideal)) (onTc (τ := Cert.GupRefIdeal.τ) (Cert.GupRefIdeal.main (F := Ideal))) ⟨m', fun _ => 0, g'⟩ fun r => ∀ c : Dev Cert.GupRefIdeal.nD,
      let a (b : Ref Cert.GupRefIdeal.sig .tc) := m' ((c.tc : Thread Cert.GupRefIdeal.nD Cert.GupRefIdeal.τ).loc b)
      let o (b : Ref Cert.GupRefIdeal.sig .tc) := r.2.mem ((c.tc : Thread Cert.GupRefIdeal.nD Cert.GupRefIdeal.τ).loc b)
      o Cert.GupRefIdeal.main_v5 = val_main_v5 (F := Ideal) (a Cert.GupRefIdeal.main_arg0) (a Cert.GupRefIdeal.main_arg2)
      ∧ o Cert.GupRefIdeal.main_arg0 = a Cert.GupRefIdeal.main_arg0 ∧ o Cert.GupRefIdeal.main_arg1 = a Cert.GupRefIdeal.main_arg1 ∧ o Cert.GupRefIdeal.main_arg2 = a Cert.GupRefIdeal.main_arg2 :=
  (θ_run Cert.GupRefIdeal.defs _ _).mono (fun r h c => ⟨(h c).1.trans (val_main_v5_eq _ _), (h c).2⟩) (Cert.GupRefIdeal.Value.run m' g')

/-- Kernel and reference agree at the extended reals. -/
theorem algebraic : Cert.algebraic_GupIdeal_GupRefIdeal := by
  intro m g m' g' _ hagree
  refine ⟨_, Cert.GupIdeal.Value.run_blocks m g, (θ_run Cert.GupRefIdeal.defs _ _).mono (fun r h c => ?_) (reference m' g')⟩
  obtain ⟨e0, e1, e2⟩ := hagree c
  obtain ⟨h0, kept⟩ := h c
  dsimp only at h0
  rw [e0, e2] at h0
  exact ⟨h0.trans (out0 m c).symm, kept⟩

end Cert.GupClaim

end
-- ==== Proof.Gdown.Kernel.lean ====
module

public import proofs.«01_k».proof.Proof.Gen.GdownIdeal.Value
public import proofs.«01_k».proof.Proof.Norm.Forward

@[expose] public section

set_option maxRecDepth 16384

noncomputable section

/-! The kernel's result, entry by entry. -/

namespace Cert.GdownIdeal.Val

open Cert.GdownIdeal Cert.GdownIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev aA (c : Dev nD) : (⟨3, ![4, 2048, 704]⟩ : Shape).Idx → EReal := V m c main_v2
abbrev cA (c : Dev nD) : Norm.A := V m c main_v3

/-- Where each window's block lies. -/
theorem idx : ∀ t : Fin cfg0.N, win0_0.index t = ![t.val, 0, 0] ∧ win0_1.index t = ![0, 0] ∧ win0_2.index t = ![t.val, 0] :=
  (by decide +kernel : ∀ t : Fin grid0.N, _)

theorem lt4 (t : Fin cfg0.N) : t.val < 4 := lt_of_lt_of_eq t.isLt N_0

/-- The weights' gradient: a sum over the rows. -/
def dw (c : Dev nD) (n : Fin 2816) (k : Fin 1024) : EReal :=
  ∑ t : Fin 2048, aA m c (ix3 ⟨n.val / 704, by omega⟩ t ⟨n.val % 704, by omega⟩) * cA m c (ix2 t k)

/-- What a point stores. -/
theorem pay1_eq (c : Dev nD) (t : Fin cfg0.N) (d : Fin 704) (k : Fin 1024) (h : 704 * t.val + d.val < 2816) :
    k0_pay1 (iblk m c 0 t) (iblk m c 1 t) (ix2 d k) = dw m c ⟨704 * t.val + d.val, h⟩ k := by
  have ht := lt4 t
  pointwise [k0_pay1, dw]
  refine Finset.sum_congr rfl fun r _ => congrArg₂ (· * ·) ?_ ?_
  · simp only [show (704 * t.val + d.val) / 704 = t.val by omega, show (704 * t.val + d.val) % 704 = d.val by omega]
    blk_ext [iblk, idx t]
  · blk_ext [iblk, idx t]

/-- The gradient. -/
theorem final2 (c : Dev nD) (n : Fin 2816) (k : Fin 1024) : (dats m 0 c).arrAt 2 cfg0.N (ix2 n k) = dw m c n k := by
  refine congrFun ((dats m 0 c).arrAt_eq_of_covers 2 (fun i => dw m c (i 0) (i 1)) (by decide +kernel) fun t hf y => ?_) (ix2 n k)
  idx_vars y
  have ht := lt4 t
  blk_simp
  rw [after0_2, show (win0_2.blk t).view.emb (ix2 y0 y1) = ix2 ⟨704 * t.val + y0.val, by omega⟩ y1 by blk_ext [idx t]]
  frame_out
  exact pay1_eq m c t y0 y1 (by omega)

end Cert.GdownIdeal.Val

end
-- ==== Proof.Gdown.Ref.lean ====
module

public import proofs.«01_k».proof.Proof.Gen.GdownRefIdeal.Read
public import proofs.«01_k».proof.Proof.Norm.Forward

@[expose] public section

set_option maxRecDepth 16384

noncomputable section

/-! The reference's result, entry by entry. -/

namespace Cert.GdownRefIdeal.Val

open Cert.GdownRefIdeal Cert.GdownRefIdeal.Read Cert.Norm Idealize.ShloMosaic Idealize.ShloMosaic.TcCoe Idealize.SL.Sem

variable (x0 : FVec Ideal S2048x2816 .f32) (x2 : FVec Ideal S2048x1024 .f32) (n : Fin 2816) (k : Fin 1024)

/-- The weights' gradient: a sum over the rows. -/
theorem v3_eq : val_main_v3 (F := Ideal) x0 x2 (ix2 n k) = ∑ t : Fin 2048, x0 (ix2 t n) * x2 (ix2 t k) := by
  pointwise [val_main_v3, val_main_v2, val_main_v1]
  exact Finset.sum_congr rfl fun _ _ => mul_comm _ _

end Cert.GdownRefIdeal.Val

end
-- ==== Proof.Gdown.Claim.lean ====
module

public import proofs.«01_k».proof.Defs
public import proofs.«01_k».proof.Proof.Norm.Spec
public import proofs.«01_k».proof.Proof.Reals
public import proofs.«01_k».proof.Proof.Gdown.Kernel
public import proofs.«01_k».proof.Proof.Gdown.Ref

@[expose] public section

set_option maxRecDepth 16384

noncomputable section

/-! The gradient of the feed-forward block's output weights: kernel and reference end with the same arrays. -/

namespace Cert.GdownClaim

open Idealize.ShloMosaic Idealize.ShloMosaic.TcCoe Idealize.SL.Sem
open Cert.Reals Cert.GdownIdeal Cert.GdownIdeal.Gen Cert.GdownRefIdeal.Read

variable (m : (ℓ : Loc nD τ sig) → Buf (Elt Ideal) ℓ) (c : Dev nD)

/-- The kernel's own arguments. -/
abbrev a0 : FVec Ideal S2048x2816 .f32 := m ((c : Thread nD τ).loc main_arg0)
abbrev a1 : FVec Ideal S2816x1024 .f32 := m ((c : Thread nD τ).loc main_arg1)
abbrev a2 : FVec Ideal S2048x1024 .f32 := m ((c : Thread nD τ).loc main_arg2)

/-- What the host hands the launch: the cotangent as it is, the activations in blocks. -/
theorem cA_eq : Val.cA m c = a2 m c := by
  unfold Val.cA
  entry_read
  rfl

theorem aA_at (p : Fin 4) (t : Fin 2048) (d : Fin 704) : Val.aA m c (ix3 p t d) = a0 m c (ix2 t ⟨p.val * 704 + d.val, by omega⟩) := by
  unfold Val.aA
  entry_read
  pointwise []

theorem aA_row (n : Fin 2816) (t : Fin 2048) : Val.aA m c (ix3 ⟨n.val / 704, by omega⟩ t ⟨n.val % 704, by omega⟩) = a0 m c (ix2 t n) :=
  (aA_at ..).trans (congrArg (fun n => a0 m c (ix2 t n)) (Fin.ext (by dsimp only; omega)))

theorem dw_eq (n : Fin 2816) (k : Fin 1024) : Val.dw m c n k = ∑ t : Fin 2048, (show EReal from a0 m c (ix2 t n)) * (show EReal from a2 m c (ix2 t k)) := by
  rw [Val.dw, cA_eq]
  exact Finset.sum_congr rfl fun t _ => congrArg (· * _) (aA_row m c n t)

theorem out0 : (dats m 0 c).arrAt 2 cfg0.N = val_main_v3 (F := Ideal) (a0 m c) (a2 m c) := by
  funext i
  idx_vars i
  rw [Val.final2, dw_eq]
  exact (Cert.GdownRefIdeal.Val.v3_eq ..).symm

/-- The reference's run, its results as the stages of its arguments. -/
theorem reference (m' : (ℓ : Loc Cert.GdownRefIdeal.nD Cert.GdownRefIdeal.τ Cert.GdownRefIdeal.sig) → Buf (Elt Ideal) ℓ) (g' : Dev Cert.GdownRefIdeal.nD → PrngReg) :
    θ_run (Cert.GdownRefIdeal.defs (F := Ideal)) (onTc (τ := Cert.GdownRefIdeal.τ) (Cert.GdownRefIdeal.main (F := Ideal))) ⟨m', fun _ => 0, g'⟩ fun r => ∀ c : Dev Cert.GdownRefIdeal.nD,
      let a (b : Ref Cert.GdownRefIdeal.sig .tc) := m' ((c.tc : Thread Cert.GdownRefIdeal.nD Cert.GdownRefIdeal.τ).loc b)
      let o (b : Ref Cert.GdownRefIdeal.sig .tc) := r.2.mem ((c.tc : Thread Cert.GdownRefIdeal.nD Cert.GdownRefIdeal.τ).loc b)
      o Cert.GdownRefIdeal.main_v3 = val_main_v3 (F := Ideal) (a Cert.GdownRefIdeal.main_arg0) (a Cert.GdownRefIdeal.main_arg2)
      ∧ o Cert.GdownRefIdeal.main_arg0 = a Cert.GdownRefIdeal.main_arg0 ∧ o Cert.GdownRefIdeal.main_arg1 = a Cert.GdownRefIdeal.main_arg1 ∧ o Cert.GdownRefIdeal.main_arg2 = a Cert.GdownRefIdeal.main_arg2 :=
  (θ_run Cert.GdownRefIdeal.defs _ _).mono (fun r h c => ⟨(h c).1.trans (val_main_v3_eq _ _), (h c).2⟩) (Cert.GdownRefIdeal.Value.run m' g')

/-- Kernel and reference agree at the extended reals. -/
theorem algebraic : Cert.algebraic_GdownIdeal_GdownRefIdeal := by
  intro m g m' g' _ hagree
  refine ⟨_, Cert.GdownIdeal.Value.run_blocks m g, (θ_run Cert.GdownRefIdeal.defs _ _).mono (fun r h c => ?_) (reference m' g')⟩
  obtain ⟨e0, e1, e2⟩ := hagree c
  obtain ⟨h0, kept⟩ := h c
  dsimp only at h0
  rw [e0, e2] at h0
  exact ⟨h0.trans (out0 m c).symm, kept⟩

end Cert.GdownClaim

end
-- ==== Proof.QGrad.Kernel.lean ====
module

public import proofs.«01_k».proof.Proof.Gen.QGradIdeal.Value
public import proofs.«01_k».proof.Proof.Norm.Forward

@[expose] public section

set_option maxRecDepth 16384

noncomputable section

/-! The kernel's three results, entry by entry. -/

namespace Cert.QGradIdeal.Val

open Cert.QGradIdeal Cert.QGradIdeal.Gen Cert.Norm Idealize.ShloMosaic Idealize.ShloMosaic.TcCoe Idealize.SL.Sem
open Idealize.ShloMosaic.Pipeline (Dat)

variable (m : (ℓ : Loc nD τ sig) → Buf (Elt Ideal) ℓ)

/-- The arrays as the launch finds them. -/
abbrev qA (c : Dev nD) : (⟨3, ![8, 2048, 256]⟩ : Shape).Idx → EReal := V m c main_v2
abbrev lA (c : Dev nD) : (⟨2, ![2048, 384]⟩ : Shape).Idx → EReal := V m c main_v3
abbrev hA (c : Dev nD) : Norm.A := V m c main_v4
abbrev dA (c : Dev nD) : (⟨2, ![2048, 384]⟩ : Shape).Idx → EReal := V m c main_v5
abbrev oA (c : Dev nD) : Norm.A := V m c main_v6
abbrev cA (c : Dev nD) : Norm.A := V m c main_v7

/-- Every window has one block, the whole array. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![0, 0] ∧ win0_8.index t = ![0, 0] :=
  (by decide +kernel : ∀ t : Fin grid0.N, _)

/-- The three gradients: sums over the rows. -/
def duq (c : Dev nD) (h : Fin 8) (e : Fin 192) (k : Fin 384) : EReal := ∑ t : Fin 2048, qA m c (ix3 h t ⟨e.val, by omega⟩) * lA m c (ix2 t k)
def ddq (c : Dev nD) (d : Fin 1024) (k : Fin 384) : EReal := ∑ t : Fin 2048, hA m c (ix2 t d) * dA m c (ix2 t k)
def dwo (c : Dev nD) (e d : Fin 1024) : EReal := ∑ t : Fin 2048, oA m c (ix2 t e) * cA m c (ix2 t d)

variable (c : Dev nD) (t : Fin cfg0.N)

/-- A head's block, as it is read. -/
theorem head_eq (h : Fin 8) (r : Fin 2048) (e : Fin 256) : iblk m c 0 t (ix3 h r e) = qA m c (ix3 h r e) := by blk_ext [iblk, idx t]

theorem ld_head (n : ℕ) (inb) (h : Fin 8) (hn : h.val = n) (r : Fin 2048) (e : Fin 256) :
    View.ld (iblk m c 0 t) (Rect.unit (s := S8x2048x256) ![n, 0, 0] S1x2048x256.size inb) (ix3 0 r e) = qA m c (ix3 h r e) := by
  subst hn
  rw [← head_eq m c t h r e, View.ld_unit_apply_of _ _ _ _ _ (ix3 h r e)]
  intro d
  fin_cases d <;> simp

/-- The eight heads' stores are one function of the head's block. -/
theorem heads (W : Vec Ideal S1x2048x256 .bf16) (X : Vec Ideal S2048x384 .bf16) :
    k0_pay3 W X = k0_pay2 W X ∧ k0_pay4 W X = k0_pay2 W X ∧ k0_pay5 W X = k0_pay2 W X ∧ k0_pay6 W X = k0_pay2 W X
      ∧ k0_pay7 W X = k0_pay2 W X ∧ k0_pay8 W X = k0_pay2 W X ∧ k0_pay9 W X = k0_pay2 W X :=
  ⟨rfl, rfl, rfl, rfl, rfl, rfl, rfl⟩

theorem head_of {P : FVec Ideal S1x192x384 .bf16} {W : Vec Ideal S1x2048x256 .bf16} (h : Fin 8) {e y : Fin 192} {k z : Fin 384}
    (hP : P = k0_pay2 W (iblk m c 1 t)) (hW : ∀ r e, W (ix3 0 r e) = qA m c (ix3 h r e)) (hy : y.val = e.val) (hz : z.val = k.val) :
    P (ix3 0 e k) = duq m c h y z := by
  obtain rfl : y = e := Fin.ext hy
  obtain rfl : z = k := Fin.ext hz
  subst hP
  pointwise [k0_pay2]
  simp only [hW]
  refine Finset.sum_congr rfl fun r _ => congrArg₂ (· * ·) ?_ ?_
  · rfl
  · blk_ext [iblk, idx t]

theorem pay10_eq (d : Fin 1024) (k : Fin 384) : k0_pay10 (iblk m c 2 t) (iblk m c 3 t) (ix2 d k) = ddq m c d k := by
  pointwise [k0_pay10, ddq]
  refine Finset.sum_congr rfl fun r _ => congrArg₂ (· * ·) ?_ ?_ <;> blk_ext [iblk, idx t]

theorem pay1_eq (e d : Fin 1024) : k0_pay1 (k0_pay11 (iblk m c 4 t)) (iblk m c 5 t) (ix2 e d) = dwo m c e d := by
  pointwise [k0_pay1, k0_pay11, dwo]
  refine Finset.sum_congr rfl fun r _ => congrArg₂ (· * ·) ?_ ?_ <;> blk_ext [iblk, idx t]

/-- What the launch leaves. -/
theorem final6 (h : Fin 8) (e : Fin 192) (k : Fin 384) : (dats m 0 c).arrAt 6 cfg0.N (ix3 h e k) = duq m c h e k := by
  refine congrFun ((dats m 0 c).arrAt_eq_of_covers 6 (fun i => duq m c (i 0) (i 1) (i 2)) (by decide +kernel) fun t hf y => ?_) (ix3 h e k)
  idx_vars y
  blk_simp
  rw [after0_6, show (win0_6.blk t).view.emb (ix3 y0 y1 y2) = ix3 y0 y1 y2 by blk_ext [idx t]]
  change _ = duq m c y0 y1 y2
  unfold out0_6
  simp (disch := decide) only [View.ld_unit_lit']
  canon_tiles x e
  all_goals
    idx_vars x
    obtain rfl : x0 = 0 := Subsingleton.elim _ _
  exacts [
    head_of m c t y0 (heads ..).2.2.2.2.2.2 (ld_head m c t _ _ y0 e0) e1 e2,
    head_of m c t y0 (heads ..).2.2.2.2.2.1 (ld_head m c t _ _ y0 e0) e1 e2,
    head_of m c t y0 (heads ..).2.2.2.2.1 (ld_head m c t _ _ y0 e0) e1 e2,
    head_of m c t y0 (heads ..).2.2.2.1 (ld_head m c t _ _ y0 e0) e1 e2,
    head_of m c t y0 (heads ..).2.2.1 (ld_head m c t _ _ y0 e0) e1 e2,
    head_of m c t y0 (heads ..).2.1 (ld_head m c t _ _ y0 e0) e1 e2,
    head_of m c t y0 (heads ..).1 (ld_head m c t _ _ y0 e0) e1 e2,
    head_of m c t y0 rfl (ld_head m c t _ _ y0 e0) e1 e2]

theorem final7 (d : Fin 1024) (k : Fin 384) : (dats m 0 c).arrAt 7 cfg0.N (ix2 d k) = ddq m c d k := by
  refine congrFun ((dats m 0 c).arrAt_eq_of_covers 7 (fun i => ddq m c (i 0) (i 1)) (by decide +kernel) fun t hf y => ?_) (ix2 d k)
  idx_vars y
  blk_simp
  rw [after0_7, show (win0_7.blk t).view.emb (ix2 y0 y1) = ix2 y0 y1 by blk_ext [idx t]]
  frame_out
  exact pay10_eq m c t y0 y1

theorem final8 (e d : Fin 1024) : (dats m 0 c).arrAt 8 cfg0.N (ix2 e d) = dwo m c e d := by
  refine congrFun ((dats m 0 c).arrAt_eq_of_covers 8 (fun i => dwo m c (i 0) (i 1)) (by decide +kernel) fun t hf y => ?_) (ix2 e d)
  idx_vars y
  blk_simp
  rw [after0_8, show (win0_8.blk t).view.emb (ix2 y0 y1) = ix2 y0 y1 by blk_ext [idx t]]
  frame_out
  exact pay1_eq m c t y0 y1

end Cert.QGradIdeal.Val

end
-- ==== Proof.QGrad.Ref.lean ====
module

public import proofs.«01_k».proof.Proof.Gen.QGradRefIdeal.Read
public import proofs.«01_k».proof.Proof.Norm.Forward

@[expose] public section

set_option maxRecDepth 16384

noncomputable section

/-! The reference's three results, entry by entry. -/

namespace Cert.QGradRefIdeal.Val

open Cert.QGradRefIdeal Cert.QGradRefIdeal.Read Cert.Norm Idealize.ShloMosaic Idealize.ShloMosaic.TcCoe Idealize.SL.Sem

variable (x0 x5 : FVec Ideal S2048x384 .f32) (x2 : FVec Ideal S2048x8x192 .f32) (x3 x6 x8 : FVec Ideal S2048x1024 .f32)

/-- The three gradients: sums over the rows. -/
theorem v13_eq (h : Fin 8) (e : Fin 192) (k : Fin 384) : val_main_v13 (F := Ideal) x0 x2 (ix3 h e k) = ∑ t : Fin 2048, x2 (ix3 t h e) * x0 (ix2 t k) := by
  pointwise [val_main_v13, val_main_v12, val_main_v11, val_main_v4, val_main_v3, val_main_v2]

theorem v14_eq (d : Fin 1024) (k : Fin 384) : val_main_v14 (F := Ideal) x3 x5 (ix2 d k) = ∑ t : Fin 2048, x3 (ix2 t d) * x5 (ix2 t k) := by
  pointwise [val_main_v14, val_main_v7, val_main_v6]
  exact Finset.sum_congr rfl fun _ _ => mul_comm _ _

theorem v15_eq (e d : Fin 1024) : val_main_v15 (F := Ideal) x6 x8 (ix2 e d) = ∑ t : Fin 2048, x6 (ix2 t e) * x8 (ix2 t d) := by
  pointwise [val_main_v15, val_main_v10, val_main_v9]
  exact Finset.sum_congr rfl fun _ _ => mul_comm _ _

end Cert.QGradRefIdeal.Val

end
-- ==== Proof.QGrad.Claim.lean ====
module

public import proofs.«01_k».proof.Defs
public import proofs.«01_k».proof.Proof.Norm.Spec
public import proofs.«01_k».proof.Proof.Reals
public import proofs.«01_k».proof.Proof.QGrad.Kernel
public import proofs.«01_k».proof.Proof.QGrad.Ref
public import Idealize.ShloMosaic.Lib.StableHlo.ReadAt

@[expose] public section

set_option maxRecDepth 16384

noncomputable section

/-! The gradients of the queries' weights and of the attention's output weights: kernel and reference end with the same arrays. -/

namespace Cert.QGradClaim

open Idealize.ShloMosaic Idealize.ShloMosaic.TcCoe Idealize.SL.Sem
open Cert.Reals Cert.QGradIdeal Cert.QGradIdeal.Gen Cert.QGradRefIdeal.Read

variable (m : (ℓ : Loc nD τ sig) → Buf (Elt Ideal) ℓ) (c : Dev nD)

/-- The kernel's own arguments. -/
abbrev a0 : FVec Ideal S2048x384 .f32 := m ((c : Thread nD τ).loc main_arg0)
abbrev a1 : FVec Ideal S384x1536 .f32 := m ((c : Thread nD τ).loc main_arg1)
abbrev a2 : FVec Ideal S2048x8x192 .f32 := m ((c : Thread nD τ).loc main_arg2)
abbrev a3 : FVec Ideal S2048x1024 .f32 := m ((c : Thread nD τ).loc main_arg3)
abbrev a4 : FVec Ideal S1024x384 .f32 := m ((c : Thread nD τ).loc main_arg4)
abbrev a5 : FVec Ideal S2048x384 .f32 := m ((c : Thread nD τ).loc main_arg5)
abbrev a6 : FVec Ideal S2048x1024 .f32 := m ((c : Thread nD τ).loc main_arg6)
abbrev a7 : FVec Ideal S1024x1024 .f32 := m ((c : Thread nD τ).loc main_arg7)
abbrev a8 : FVec Ideal S2048x1024 .f32 := m ((c : Thread nD τ).loc main_arg8)

/-- What the host hands the launch: the queries' cotangent by heads, padded; the other arguments as they are. -/
theorem lA_eq : Val.lA m c = a0 m c := by
  unfold Val.lA
  entry_read
  rfl

theorem hA_eq : Val.hA m c = a3 m c := by
  unfold Val.hA
  entry_read
  rfl

theorem dA_eq : Val.dA m c = a5 m c := by
  unfold Val.dA
  entry_read
  rfl

theorem oA_eq : Val.oA m c = a6 m c := by
  unfold Val.oA
  entry_read
  rfl

theorem cA_eq : Val.cA m c = a8 m c := by
  unfold Val.cA
  entry_read
  rfl

theorem qA_at (h : Fin 8) (t : Fin 2048) (e : Fin 192) : Val.qA m c (ix3 h t ⟨e.val, by omega⟩) = a2 m c (ix3 t h e) := by
  unfold Val.qA
  iterate 3
    try simp only [Matrix.cons_val_zero, Matrix.cons_val_one, Matrix.cons_val]
    try after_reads_at

theorem duq_eq (h : Fin 8) (e : Fin 192) (k : Fin 384) :
    Val.duq m c h e k = ∑ t : Fin 2048, (show EReal from a2 m c (ix3 t h e)) * (show EReal from a0 m c (ix2 t k)) := by
  rw [Val.duq, lA_eq]
  exact Finset.sum_congr rfl fun t _ => congrArg (· * _) (qA_at m c h t e)

theorem out0 : (dats m 0 c).arrAt 6 cfg0.N = val_main_v13 (F := Ideal) (a0 m c) (a2 m c) := by
  funext i
  idx_vars i
  rw [Val.final6, duq_eq]
  exact (Cert.QGradRefIdeal.Val.v13_eq ..).symm

theorem out1 : (dats m 0 c).arrAt 7 cfg0.N = val_main_v14 (F := Ideal) (a3 m c) (a5 m c) := by
  funext i
  idx_vars i
  rw [Val.final7, Val.ddq, hA_eq, dA_eq]
  exact (Cert.QGradRefIdeal.Val.v14_eq ..).symm

theorem out2 : (dats m 0 c).arrAt 8 cfg0.N = val_main_v15 (F := Ideal) (a6 m c) (a8 m c) := by
  funext i
  idx_vars i
  rw [Val.final8, Val.dwo, oA_eq, cA_eq]
  exact (Cert.QGradRefIdeal.Val.v15_eq ..).symm

/-- The reference's run, its results as the stages of its arguments. -/
theorem reference (m' : (ℓ : Loc Cert.QGradRefIdeal.nD Cert.QGradRefIdeal.τ Cert.QGradRefIdeal.sig) → Buf (Elt Ideal) ℓ) (g' : Dev Cert.QGradRefIdeal.nD → PrngReg) :
    θ_run (Cert.QGradRefIdeal.defs (F := Ideal)) (onTc (τ := Cert.QGradRefIdeal.τ) (Cert.QGradRefIdeal.main (F := Ideal))) ⟨m', fun _ => 0, g'⟩ fun r => ∀ c : Dev Cert.QGradRefIdeal.nD,
      let a (b : Ref Cert.QGradRefIdeal.sig .tc) := m' ((c.tc : Thread Cert.QGradRefIdeal.nD Cert.QGradRefIdeal.τ).loc b)
      let o (b : Ref Cert.QGradRefIdeal.sig .tc) := r.2.mem ((c.tc : Thread Cert.QGradRefIdeal.nD Cert.QGradRefIdeal.τ).loc b)
      (o Cert.QGradRefIdeal.main_v13 = val_main_v13 (F := Ideal) (a Cert.QGradRefIdeal.main_arg0) (a Cert.QGradRefIdeal.main_arg2)
      ∧ o Cert.QGradRefIdeal.main_v14 = val_main_v14 (F := Ideal) (a Cert.QGradRefIdeal.main_arg3) (a Cert.QGradRefIdeal.main_arg5)
      ∧ o Cert.QGradRefIdeal.main_v15 = val_main_v15 (F := Ideal) (a Cert.QGradRefIdeal.main_arg6) (a Cert.QGradRefIdeal.main_arg8))
      ∧ o Cert.QGradRefIdeal.main_arg0 = a Cert.QGradRefIdeal.main_arg0 ∧ o Cert.QGradRefIdeal.main_arg1 = a Cert.QGradRefIdeal.main_arg1 ∧ o Cert.QGradRefIdeal.main_arg2 = a Cert.QGradRefIdeal.main_arg2 ∧ o Cert.QGradRefIdeal.main_arg3 = a Cert.QGradRefIdeal.main_arg3 ∧ o Cert.QGradRefIdeal.main_arg4 = a Cert.QGradRefIdeal.main_arg4 ∧ o Cert.QGradRefIdeal.main_arg5 = a Cert.QGradRefIdeal.main_arg5 ∧ o Cert.QGradRefIdeal.main_arg6 = a Cert.QGradRefIdeal.main_arg6 ∧ o Cert.QGradRefIdeal.main_arg7 = a Cert.QGradRefIdeal.main_arg7 ∧ o Cert.QGradRefIdeal.main_arg8 = a Cert.QGradRefIdeal.main_arg8 :=
  (θ_run Cert.QGradRefIdeal.defs _ _).mono (fun r h c => ⟨⟨(h c).1.trans (val_main_v13_eq _ _),
    (h c).2.1.trans (val_main_v14_eq _ _),
    (h c).2.2.1.trans (val_main_v15_eq _ _)⟩, (h c).2.2.2⟩) (Cert.QGradRefIdeal.Value.run m' g')

/-- Kernel and reference agree at the extended reals. -/
theorem algebraic : Cert.algebraic_QGradIdeal_QGradRefIdeal := by
  intro m g m' g' _ hagree
  refine ⟨_, _, _, Cert.QGradIdeal.Value.run_blocks m g, (θ_run Cert.QGradRefIdeal.defs _ _).mono (fun r h c => ?_) (reference m' g')⟩
  obtain ⟨e0, e1, e2, e3, e4, e5, e6, e7, e8⟩ := hagree c
  obtain ⟨⟨h0, h1, h2⟩, kept⟩ := h c
  dsimp only at h0 h1 h2
  rw [e0, e2] at h0
  rw [e3, e5] at h1
  rw [e6, e8] at h2
  exact ⟨h0.trans (out0 m c).symm, h1.trans (out1 m c).symm, h2.trans (out2 m c).symm, kept⟩

end Cert.QGradClaim

end
-- ==== Proof.lean ====
module

public import proofs.«01_k».proof.Defs
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerIdeal.Value
public import proofs.«01_k».proof.Proof.Gen.MixerRefIdeal.Run
public import proofs.«01_k».proof.Proof.Gen.MixerRefIdeal.Read
public import proofs.«01_k».proof.Proof.Mixer.Claim
public import proofs.«01_k».proof.Proof.Gen.Attn
public import proofs.«01_k».proof.Proof.Gen.AttnIdeal
public import proofs.«01_k».proof.Proof.Gen.AttnRefIdeal
public import proofs.«01_k».proof.Proof.Gen.Pre_attn_finite
public import proofs.«01_k».proof.Proof.Gen.AttnRefIdeal.Run
public import proofs.«01_k».proof.Proof.Gen.AttnRefIdeal.Read
public import proofs.«01_k».proof.Proof.Attn.Bits
public import proofs.«01_k».proof.Proof.Attn.Claim
public import proofs.«01_k».proof.Proof.Gen.Dact
public import proofs.«01_k».proof.Proof.Gen.DactIdeal
public import proofs.«01_k».proof.Proof.Gen.DactRefIdeal
public import proofs.«01_k».proof.Proof.Gen.Pre_dact_finite
public import proofs.«01_k».proof.Proof.Gen.DactRefIdeal.Run
public import proofs.«01_k».proof.Proof.Gen.DactRefIdeal.Read
public import proofs.«01_k».proof.Proof.Gen.Dact.Frame
public import proofs.«01_k».proof.Proof.Gen.DactIdeal.Frame
public import proofs.«01_k».proof.Proof.Dact.Claim
public import proofs.«01_k».proof.Proof.Gen.Din
public import proofs.«01_k».proof.Proof.Gen.DinIdeal
public import proofs.«01_k».proof.Proof.Gen.DinRefIdeal
public import proofs.«01_k».proof.Proof.Gen.DinRefIdeal.Run
public import proofs.«01_k».proof.Proof.Gen.DinRefIdeal.Read
public import proofs.«01_k».proof.Proof.Gen.Din.Frame
public import proofs.«01_k».proof.Proof.Gen.DinIdeal.Frame
public import proofs.«01_k».proof.Proof.Din.Claim
public import proofs.«01_k».proof.Proof.Gen.Dup
public import proofs.«01_k».proof.Proof.Gen.DupIdeal
public import proofs.«01_k».proof.Proof.Gen.DupRefIdeal
public import proofs.«01_k».proof.Proof.Gen.DupRefIdeal.Run
public import proofs.«01_k».proof.Proof.Gen.DupRefIdeal.Read
public import proofs.«01_k».proof.Proof.Gen.Dup.Frame
public import proofs.«01_k».proof.Proof.Gen.DupIdeal.Frame
public import proofs.«01_k».proof.Proof.Dup.Claim
public import proofs.«01_k».proof.Proof.Gen.Dout
public import proofs.«01_k».proof.Proof.Gen.DoutIdeal
public import proofs.«01_k».proof.Proof.Gen.DoutRefIdeal
public import proofs.«01_k».proof.Proof.Gen.DoutRefIdeal.Run
public import proofs.«01_k».proof.Proof.Gen.DoutRefIdeal.Read
public import proofs.«01_k».proof.Proof.Gen.Dout.Frame
public import proofs.«01_k».proof.Proof.Gen.DoutIdeal.Frame
public import proofs.«01_k».proof.Proof.Dout.Claim
public import proofs.«01_k».proof.Proof.Gen.Loss
public import proofs.«01_k».proof.Proof.Gen.LossIdeal
public import proofs.«01_k».proof.Proof.Gen.LossRefIdeal
public import proofs.«01_k».proof.Proof.Gen.LossRefIdeal.Run
public import proofs.«01_k».proof.Proof.Gen.LossRefIdeal.Read
public import proofs.«01_k».proof.Proof.Gen.Loss.Frame
public import proofs.«01_k».proof.Proof.Gen.LossIdeal.Frame
public import proofs.«01_k».proof.Proof.Loss.Claim
public import proofs.«01_k».proof.Proof.Gen.Attend
public import proofs.«01_k».proof.Proof.Gen.AttendIdeal
public import proofs.«01_k».proof.Proof.Gen.AttendRefIdeal
public import proofs.«01_k».proof.Proof.Gen.Pre_attend_finite
public import proofs.«01_k».proof.Proof.Gen.AttendRefIdeal.Run
public import proofs.«01_k».proof.Proof.Gen.AttendRefIdeal.Read
public import proofs.«01_k».proof.Proof.Gen.Attend.Frame
public import proofs.«01_k».proof.Proof.Gen.AttendIdeal.Frame
public import proofs.«01_k».proof.Proof.Attend.Claim
public import proofs.«01_k».proof.Proof.Gen.MixIn
public import proofs.«01_k».proof.Proof.Gen.MixInIdeal
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixIn.Frame
public import proofs.«01_k».proof.Proof.Gen.MixInIdeal.Frame
public import proofs.«01_k».proof.Proof.MixIn.Claim
public import proofs.«01_k».proof.Proof.Gen.UpAct
public import proofs.«01_k».proof.Proof.Gen.UpActIdeal
public import proofs.«01_k».proof.Proof.Gen.UpActRefIdeal
public import proofs.«01_k».proof.Proof.Gen.UpActRefIdeal.Run
public import proofs.«01_k».proof.Proof.Gen.UpActRefIdeal.Read
public import proofs.«01_k».proof.Proof.Gen.UpAct.Frame
public import proofs.«01_k».proof.Proof.Gen.UpActIdeal.Frame
public import proofs.«01_k».proof.Proof.UpAct.Claim
public import proofs.«01_k».proof.Proof.Gen.ONorm
public import proofs.«01_k».proof.Proof.Gen.ONormIdeal
public import proofs.«01_k».proof.Proof.Gen.ONormRefIdeal
public import proofs.«01_k».proof.Proof.Gen.ONormRefIdeal.Run
public import proofs.«01_k».proof.Proof.Gen.ONormRefIdeal.Read
public import proofs.«01_k».proof.Proof.Gen.ONorm.Frame
public import proofs.«01_k».proof.Proof.Gen.ONormIdeal.Frame
public import proofs.«01_k».proof.Proof.ONorm.Claim
public import proofs.«01_k».proof.Proof.Gen.HNorm
public import proofs.«01_k».proof.Proof.Gen.HNormIdeal
public import proofs.«01_k».proof.Proof.Gen.HNormRefIdeal
public import proofs.«01_k».proof.Proof.Gen.HNormRefIdeal.Run
public import proofs.«01_k».proof.Proof.Gen.HNormRefIdeal.Read
public import proofs.«01_k».proof.Proof.Gen.HNorm.Frame
public import proofs.«01_k».proof.Proof.Gen.HNormIdeal.Frame
public import proofs.«01_k».proof.Proof.HNorm.Claim
public import proofs.«01_k».proof.Proof.Gen.Pre
public import proofs.«01_k».proof.Proof.Gen.PreIdeal
public import proofs.«01_k».proof.Proof.Gen.PreRefIdeal
public import proofs.«01_k».proof.Proof.Gen.PreRefIdeal.Run
public import proofs.«01_k».proof.Proof.Gen.PreRefIdeal.Read
public import proofs.«01_k».proof.Proof.Gen.Pre.Frame
public import proofs.«01_k».proof.Proof.Gen.PreIdeal.Frame
public import proofs.«01_k».proof.Proof.Pre.Claim
public import proofs.«01_k».proof.Proof.Gen.Tables
public import proofs.«01_k».proof.Proof.Gen.TablesIdeal
public import proofs.«01_k».proof.Proof.Gen.TablesRefIdeal
public import proofs.«01_k».proof.Proof.Gen.TablesRefIdeal.Run
public import proofs.«01_k».proof.Proof.Gen.TablesRefIdeal.Read
public import proofs.«01_k».proof.Proof.Gen.Tables.Frame
public import proofs.«01_k».proof.Proof.Gen.TablesIdeal.Frame
public import proofs.«01_k».proof.Proof.Tables.Claim
public import proofs.«01_k».proof.Proof.Gen.Rows
public import proofs.«01_k».proof.Proof.Gen.RowsIdeal
public import proofs.«01_k».proof.Proof.Gen.RowsRefIdeal
public import proofs.«01_k».proof.Proof.Gen.RowsRefIdeal.Run
public import proofs.«01_k».proof.Proof.Gen.RowsRefIdeal.Read
public import proofs.«01_k».proof.Proof.Gen.Rows.Frame
public import proofs.«01_k».proof.Proof.Gen.RowsIdeal.Frame
public import proofs.«01_k».proof.Proof.Rows.Claim
public import proofs.«01_k».proof.Proof.Gen.WGrad
public import proofs.«01_k».proof.Proof.Gen.WGradIdeal
public import proofs.«01_k».proof.Proof.Gen.WGradRefIdeal
public import proofs.«01_k».proof.Proof.Gen.WGradRefIdeal.Run
public import proofs.«01_k».proof.Proof.Gen.WGradRefIdeal.Read
public import proofs.«01_k».proof.Proof.Gen.WGrad.Frame
public import proofs.«01_k».proof.Proof.Gen.WGradIdeal.Frame
public import proofs.«01_k».proof.Proof.WGrad.Claim
public import proofs.«01_k».proof.Proof.Gen.Gup
public import proofs.«01_k».proof.Proof.Gen.GupIdeal
public import proofs.«01_k».proof.Proof.Gen.GupRefIdeal
public import proofs.«01_k».proof.Proof.Gen.GupRefIdeal.Run
public import proofs.«01_k».proof.Proof.Gen.GupRefIdeal.Read
public import proofs.«01_k».proof.Proof.Gen.Gup.Frame
public import proofs.«01_k».proof.Proof.Gen.GupIdeal.Frame
public import proofs.«01_k».proof.Proof.Gup.Claim
public import proofs.«01_k».proof.Proof.Gen.Gdown
public import proofs.«01_k».proof.Proof.Gen.GdownIdeal
public import proofs.«01_k».proof.Proof.Gen.GdownRefIdeal
public import proofs.«01_k».proof.Proof.Gen.GdownRefIdeal.Run
public import proofs.«01_k».proof.Proof.Gen.GdownRefIdeal.Read
public import proofs.«01_k».proof.Proof.Gen.Gdown.Frame
public import proofs.«01_k».proof.Proof.Gen.GdownIdeal.Frame
public import proofs.«01_k».proof.Proof.Gdown.Claim
public import proofs.«01_k».proof.Proof.Gen.QGrad
public import proofs.«01_k».proof.Proof.Gen.QGradIdeal
public import proofs.«01_k».proof.Proof.Gen.QGradRefIdeal
public import proofs.«01_k».proof.Proof.Gen.QGradRefIdeal.Run
public import proofs.«01_k».proof.Proof.Gen.QGradRefIdeal.Read
public import proofs.«01_k».proof.Proof.Gen.QGrad.Frame
public import proofs.«01_k».proof.Proof.Gen.QGradIdeal.Frame
public import proofs.«01_k».proof.Proof.QGrad.Claim
public import Idealize.ShloMosaic.Adequacy
public import Idealize.ShloMosaic.Init

@[expose] public section

noncomputable section

namespace Cert.Proof

open Idealize.ShloMosaic Idealize.SL.Sem Cert.Mixer

/-- The reference runs and keeps its arguments. -/
theorem frame_mixerRef : Cert.quiescent_MixerRefIdeal := fun m ρ _ =>
  (θ_run Cert.MixerRefIdeal.defs _ _).mono (fun r h => ⟨fun c => (h c).2.2, Idealize.ShloMosaic.sem_eq_zero_of_no_sems (by decide) r.2⟩)
    (Cert.MixerRefIdeal.Value.run (F := Ideal) m ρ)

/-- The attention's reference runs and keeps its arguments. -/
theorem frame_attnRef : Cert.quiescent_AttnRefIdeal := fun m ρ _ =>
  (θ_run Cert.AttnRefIdeal.defs _ _).mono (fun r h => ⟨fun c => (h c).2.2.2.2, Idealize.ShloMosaic.sem_eq_zero_of_no_sems (by decide) r.2⟩)
    (Cert.AttnRefIdeal.Value.run (F := Ideal) m ρ)

/-- The two constants of the attention's kernel that stand for a value no float has. -/
theorem constants : Cert.preserves_Attn_AttnIdeal :=
  ⟨IdealRules.named_const.statement Cert.AttnIdeal.κ "mask" .f32 0xF149F2CA#32 ⊥ rfl,
   IdealRules.named_const.statement Cert.AttnIdeal.κ "ln2" .f32 0x3F317218#32 ((Real.log 2 : ℝ) : EReal) rfl⟩

/-- The reference of the feed-forward block's convolution and gate runs and keeps its arguments. -/
theorem frame_dactRef : Cert.quiescent_DactRefIdeal := fun m ρ _ =>
  (θ_run Cert.DactRefIdeal.defs _ _).mono (fun r h => ⟨fun c => (h c).2.2.2.2, Idealize.ShloMosaic.sem_eq_zero_of_no_sems (by decide) r.2⟩)
    (Cert.DactRefIdeal.Value.run (F := Ideal) m ρ)

/-- The reference of the mixer's input projection runs and keeps its arguments. -/
theorem frame_dinRef : Cert.quiescent_DinRefIdeal := fun m ρ _ =>
  (θ_run Cert.DinRefIdeal.defs _ _).mono (fun r h => ⟨fun c => (h c).2.2.2, Idealize.ShloMosaic.sem_eq_zero_of_no_sems (by decide) r.2⟩)
    (Cert.DinRefIdeal.Value.run (F := Ideal) m ρ)

/-- The reference of the first feed-forward block's input projection runs and keeps its arguments. -/
theorem frame_dupRef : Cert.quiescent_DupRefIdeal := fun m ρ _ =>
  (θ_run Cert.DupRefIdeal.defs _ _).mono (fun r h => ⟨fun c => (h c).2.2.2, Idealize.ShloMosaic.sem_eq_zero_of_no_sems (by decide) r.2⟩)
    (Cert.DupRefIdeal.Value.run (F := Ideal) m ρ)

/-- The reference of the second feed-forward block's input projection runs and keeps its arguments. -/
theorem frame_doutRef : Cert.quiescent_DoutRefIdeal := fun m ρ _ =>
  (θ_run Cert.DoutRefIdeal.defs _ _).mono (fun r h => ⟨fun c => (h c).2.2.2.2, Idealize.ShloMosaic.sem_eq_zero_of_no_sems (by decide) r.2⟩)
    (Cert.DoutRefIdeal.Value.run (F := Ideal) m ρ)

/-- The reference of the loss runs and keeps its arguments. -/
theorem frame_lossRef : Cert.quiescent_LossRefIdeal := fun m ρ _ =>
  (θ_run Cert.LossRefIdeal.defs _ _).mono (fun r h => ⟨fun c => (h c).2.2.2.2, Idealize.ShloMosaic.sem_eq_zero_of_no_sems (by decide) r.2⟩)
    (Cert.LossRefIdeal.Value.run (F := Ideal) m ρ)

/-- The attention's own reference runs and keeps its arguments. -/
theorem frame_attendRef : Cert.quiescent_AttendRefIdeal := fun m ρ _ =>
  (θ_run Cert.AttendRefIdeal.defs _ _).mono (fun r h => ⟨fun c => (h c).2.2, Idealize.ShloMosaic.sem_eq_zero_of_no_sems (by decide) r.2⟩)
    (Cert.AttendRefIdeal.Value.run (F := Ideal) m ρ)

/-- The forward reference of the mixer runs and keeps its arguments. -/
theorem frame_mixinRef : Cert.quiescent_MixInRefIdeal := fun m ρ _ =>
  (θ_run Cert.MixInRefIdeal.defs _ _).mono (fun r h => ⟨fun c => (h c).2.2.2.2, Idealize.ShloMosaic.sem_eq_zero_of_no_sems (by decide) r.2⟩)
    (Cert.MixInRefIdeal.Value.run (F := Ideal) m ρ)

/-- The forward reference of the feed-forward block runs and keeps its arguments. -/
theorem frame_upactRef : Cert.quiescent_UpActRefIdeal := fun m ρ _ =>
  (θ_run Cert.UpActRefIdeal.defs _ _).mono (fun r h => ⟨fun c => (h c).2.2.2, Idealize.ShloMosaic.sem_eq_zero_of_no_sems (by decide) r.2⟩)
    (Cert.UpActRefIdeal.Value.run (F := Ideal) m ρ)

/-- The reference of the attention's output projection and norm runs and keeps its arguments. -/
theorem frame_onormRef : Cert.quiescent_ONormRefIdeal := fun m ρ _ =>
  (θ_run Cert.ONormRefIdeal.defs _ _).mono (fun r h => ⟨fun c => (h c).2.2, Idealize.ShloMosaic.sem_eq_zero_of_no_sems (by decide) r.2⟩)
    (Cert.ONormRefIdeal.Value.run (F := Ideal) m ρ)

/-- The reference of the norm runs and keeps its arguments. -/
theorem frame_hnormRef : Cert.quiescent_HNormRefIdeal := fun m ρ _ =>
  (θ_run Cert.HNormRefIdeal.defs _ _).mono (fun r h => ⟨fun c => (h c).2, Idealize.ShloMosaic.sem_eq_zero_of_no_sems (by decide) r.2⟩)
    (Cert.HNormRefIdeal.Value.run (F := Ideal) m ρ)

/-- The reference of the attention's projections runs and keeps its arguments. -/
theorem frame_preRef : Cert.quiescent_PreRefIdeal := fun m ρ _ =>
  (θ_run Cert.PreRefIdeal.defs _ _).mono (fun r h => ⟨fun c => (h c).2.2.2.2.2.2.2.2.2.2, Idealize.ShloMosaic.sem_eq_zero_of_no_sems (by decide) r.2⟩)
    (Cert.PreRefIdeal.Value.run (F := Ideal) m ρ)

/-- The reference of the rotary tables runs and keeps its arguments. -/
theorem frame_tablesRef : Cert.quiescent_TablesRefIdeal := fun m ρ _ =>
  (θ_run Cert.TablesRefIdeal.defs _ _).mono (fun r h => ⟨fun c => (h c).2.2.2, Idealize.ShloMosaic.sem_eq_zero_of_no_sems (by decide) r.2⟩)
    (Cert.TablesRefIdeal.Value.run (F := Ideal) m ρ)

/-- The reference of the mixer's output projection runs and keeps its arguments. -/
theorem frame_rowsRef : Cert.quiescent_RowsRefIdeal := fun m ρ _ =>
  (θ_run Cert.RowsRefIdeal.defs _ _).mono (fun r h => ⟨fun c => (h c).2, Idealize.ShloMosaic.sem_eq_zero_of_no_sems (by decide) r.2⟩)
    (Cert.RowsRefIdeal.Value.run (F := Ideal) m ρ)

/-- The reference of the gradient of the mixer's input weights runs and keeps its arguments. -/
theorem frame_wgradRef : Cert.quiescent_WGradRefIdeal := fun m ρ _ =>
  (θ_run Cert.WGradRefIdeal.defs _ _).mono (fun r h => ⟨fun c => (h c).2, Idealize.ShloMosaic.sem_eq_zero_of_no_sems (by decide) r.2⟩)
    (Cert.WGradRefIdeal.Value.run (F := Ideal) m ρ)

/-- The reference of the gradient of the feed-forward block's input weights runs and keeps its arguments. -/
theorem frame_gupRef : Cert.quiescent_GupRefIdeal := fun m ρ _ =>
  (θ_run Cert.GupRefIdeal.defs _ _).mono (fun r h => ⟨fun c => (h c).2, Idealize.ShloMosaic.sem_eq_zero_of_no_sems (by decide) r.2⟩)
    (Cert.GupRefIdeal.Value.run (F := Ideal) m ρ)

/-- The reference of the gradient of the feed-forward block's output weights runs and keeps its arguments. -/
theorem frame_gdownRef : Cert.quiescent_GdownRefIdeal := fun m ρ _ =>
  (θ_run Cert.GdownRefIdeal.defs _ _).mono (fun r h => ⟨fun c => (h c).2, Idealize.ShloMosaic.sem_eq_zero_of_no_sems (by decide) r.2⟩)
    (Cert.GdownRefIdeal.Value.run (F := Ideal) m ρ)

/-- The reference of the gradients of the queries' weights runs and keeps its arguments. -/
theorem frame_qgradRef : Cert.quiescent_QGradRefIdeal := fun m ρ _ =>
  (θ_run Cert.QGradRefIdeal.defs _ _).mono (fun r h => ⟨fun c => (h c).2.2.2, Idealize.ShloMosaic.sem_eq_zero_of_no_sems (by decide) r.2⟩)
    (Cert.QGradRefIdeal.Value.run (F := Ideal) m ρ)

/-- The scale of the attention's queries. -/
theorem constants_pre : Cert.preserves_Pre_PreIdeal :=
  IdealRules.named_const.statement Cert.PreIdeal.κ "scale" .f32 0x3DD53B95#32 (((Real.sqrt 192)⁻¹ * (Real.log 2)⁻¹ : ℝ) : EReal) rfl

/-- The two constants of the attention's own kernel. -/
theorem constants_attend : Cert.preserves_Attend_AttendIdeal :=
  ⟨IdealRules.named_const.statement Cert.AttendIdeal.κ "mask" .f32 0xF149F2CA#32 ⊥ rfl,
   IdealRules.named_const.statement Cert.AttendIdeal.κ "log2e" .f32 0x3FB8AA3B#32 (((Real.log 2)⁻¹ : ℝ) : EReal) rfl⟩

theorem claim : Cert.Claim := ⟨Cert.Mixer.Gen.facts, Cert.MixerIdeal.Gen.facts, Cert.MixerRefIdeal.Gen.facts,
  Cert.Attn.Gen.facts, Cert.AttnIdeal.Gen.facts, Cert.AttnRefIdeal.Gen.facts,
  Cert.Dact.Gen.facts, Cert.DactIdeal.Gen.facts, Cert.DactRefIdeal.Gen.facts,
  Cert.Din.Gen.facts, Cert.DinIdeal.Gen.facts, Cert.DinRefIdeal.Gen.facts,
  Cert.Dup.Gen.facts, Cert.DupIdeal.Gen.facts, Cert.DupRefIdeal.Gen.facts,
  Cert.Dout.Gen.facts, Cert.DoutIdeal.Gen.facts, Cert.DoutRefIdeal.Gen.facts,
  Cert.Loss.Gen.facts, Cert.LossIdeal.Gen.facts, Cert.LossRefIdeal.Gen.facts,
  Cert.Attend.Gen.facts, Cert.AttendIdeal.Gen.facts, Cert.AttendRefIdeal.Gen.facts,
  Cert.MixIn.Gen.facts, Cert.MixInIdeal.Gen.facts, Cert.MixInRefIdeal.Gen.facts,
  Cert.UpAct.Gen.facts, Cert.UpActIdeal.Gen.facts, Cert.UpActRefIdeal.Gen.facts,
  Cert.ONorm.Gen.facts, Cert.ONormIdeal.Gen.facts, Cert.ONormRefIdeal.Gen.facts,
  Cert.HNorm.Gen.facts, Cert.HNormIdeal.Gen.facts, Cert.HNormRefIdeal.Gen.facts,
  Cert.Pre.Gen.facts, Cert.PreIdeal.Gen.facts, Cert.PreRefIdeal.Gen.facts,
  Cert.Tables.Gen.facts, Cert.TablesIdeal.Gen.facts, Cert.TablesRefIdeal.Gen.facts,
  Cert.Rows.Gen.facts, Cert.RowsIdeal.Gen.facts, Cert.RowsRefIdeal.Gen.facts,
  Cert.WGrad.Gen.facts, Cert.WGradIdeal.Gen.facts, Cert.WGradRefIdeal.Gen.facts,
  Cert.Gup.Gen.facts, Cert.GupIdeal.Gen.facts, Cert.GupRefIdeal.Gen.facts,
  Cert.Gdown.Gen.facts, Cert.GdownIdeal.Gen.facts, Cert.GdownRefIdeal.Gen.facts,
  Cert.QGrad.Gen.facts, Cert.QGradIdeal.Gen.facts, Cert.QGradRefIdeal.Gen.facts,
  Cert.Pre_attn_finite.Gen.facts,
  Cert.Pre_dact_finite.Gen.facts,
  Cert.Pre_attend_finite.Gen.facts,
  fun m ρ _ => Cert.Mixer.Gen.frame m ρ, fun m ρ _ => Cert.MixerIdeal.Gen.frame m ρ, frame_mixerRef,
  Cert.AttnIdeal.Own.compiled, fun m ρ _ => Cert.AttnIdeal.Own.frame m ρ, fun m ρ _ => Cert.AttnIdeal.Own.frame m ρ,
  frame_attnRef, fun m ρ _ => frame_attnRef m ρ trivial,
  fun m ρ _ => Cert.Dact.Gen.frame m ρ, fun m ρ _ => Cert.DactIdeal.Gen.frame m ρ, fun m ρ _ => Cert.DactIdeal.Gen.frame m ρ,
  frame_dactRef, fun m ρ _ => frame_dactRef m ρ trivial,
  fun m ρ _ => Cert.Din.Gen.frame m ρ, fun m ρ _ => Cert.DinIdeal.Gen.frame m ρ, frame_dinRef,
  fun m ρ _ => Cert.Dup.Gen.frame m ρ, fun m ρ _ => Cert.DupIdeal.Gen.frame m ρ, frame_dupRef,
  fun m ρ _ => Cert.Dout.Gen.frame m ρ, fun m ρ _ => Cert.DoutIdeal.Gen.frame m ρ, frame_doutRef,
  fun m ρ _ => Cert.Loss.Gen.frame m ρ, fun m ρ _ => Cert.LossIdeal.Gen.frame m ρ, frame_lossRef,
  fun m ρ _ => Cert.Attend.Gen.frame m ρ, fun m ρ _ => Cert.AttendIdeal.Gen.frame m ρ, fun m ρ _ => Cert.AttendIdeal.Gen.frame m ρ,
  frame_attendRef, fun m ρ _ => frame_attendRef m ρ trivial,
  fun m ρ _ => Cert.MixIn.Gen.frame m ρ, fun m ρ _ => Cert.MixInIdeal.Gen.frame m ρ, frame_mixinRef,
  fun m ρ _ => Cert.UpAct.Gen.frame m ρ, fun m ρ _ => Cert.UpActIdeal.Gen.frame m ρ, frame_upactRef,
  fun m ρ _ => Cert.ONorm.Gen.frame m ρ, fun m ρ _ => Cert.ONormIdeal.Gen.frame m ρ, frame_onormRef,
  fun m ρ _ => Cert.HNorm.Gen.frame m ρ, fun m ρ _ => Cert.HNormIdeal.Gen.frame m ρ, frame_hnormRef,
  fun m ρ _ => Cert.Pre.Gen.frame m ρ, fun m ρ _ => Cert.PreIdeal.Gen.frame m ρ, frame_preRef,
  fun m ρ _ => Cert.Tables.Gen.frame m ρ, fun m ρ _ => Cert.TablesIdeal.Gen.frame m ρ, frame_tablesRef,
  fun m ρ _ => Cert.Rows.Gen.frame m ρ, fun m ρ _ => Cert.RowsIdeal.Gen.frame m ρ, frame_rowsRef,
  fun m ρ _ => Cert.WGrad.Gen.frame m ρ, fun m ρ _ => Cert.WGradIdeal.Gen.frame m ρ, frame_wgradRef,
  fun m ρ _ => Cert.Gup.Gen.frame m ρ, fun m ρ _ => Cert.GupIdeal.Gen.frame m ρ, frame_gupRef,
  fun m ρ _ => Cert.Gdown.Gen.frame m ρ, fun m ρ _ => Cert.GdownIdeal.Gen.frame m ρ, frame_gdownRef,
  fun m ρ _ => Cert.QGrad.Gen.frame m ρ, fun m ρ _ => Cert.QGradIdeal.Gen.frame m ρ, frame_qgradRef,
  trivial, Cert.MixerClaim.algebraic, constants, Cert.AttnClaim.algebraic, trivial, Cert.DactClaim.algebraic, trivial, Cert.DinClaim.algebraic, trivial, Cert.DupClaim.algebraic, trivial, Cert.DoutClaim.algebraic, trivial, Cert.LossClaim.algebraic, constants_attend, Cert.AttendClaim.algebraic, trivial, Cert.MixInClaim.algebraic, trivial, Cert.UpActClaim.algebraic, trivial, Cert.ONormClaim.algebraic, trivial, Cert.HNormClaim.algebraic, constants_pre, Cert.PreClaim.algebraic, trivial, Cert.TablesClaim.algebraic, trivial, Cert.RowsClaim.algebraic, trivial, Cert.WGradClaim.algebraic, trivial, Cert.GupClaim.algebraic, trivial, Cert.GdownClaim.algebraic, trivial, Cert.QGradClaim.algebraic⟩

end Cert.Proof

end
